-- ==== Defs.lean ====
def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_finite_scores [hPre_finite_scores : Cert.Pre_finite_scores.Facts] (m : (ℓ : Loc Cert.MergeIdeal.nD Cert.MergeIdeal.τ Cert.MergeIdeal.sig) → Buf (Elt Ideal) ℓ) : Prop :=
  ∀ c : Dev Cert.MergeIdeal.nD,
    (Cert.Pre_finite_scores.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12))).1 = (fun _ => 1#1)
    ∧ (Cert.Pre_finite_scores.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12))).2.1 = (fun _ => 1#1)
    ∧ (Cert.Pre_finite_scores.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12))).2.2 = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_finite_scores [hPre_finite_scores : Cert.Pre_finite_scores.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_finite_scores.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) (m ((c.tc : Thread Cert.MergeRefIdeal.nD Cert.MergeRefIdeal.τ).loc Cert.MergeRefIdeal.main_arg11)) (m ((c.tc : Thread Cert.MergeRefIdeal.nD Cert.MergeRefIdeal.τ).loc Cert.MergeRefIdeal.main_arg12))).1 = (fun _ => 1#1)
    ∧ (Cert.Pre_finite_scores.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) (m ((c.tc : Thread Cert.MergeRefIdeal.nD Cert.MergeRefIdeal.τ).loc Cert.MergeRefIdeal.main_arg11)) (m ((c.tc : Thread Cert.MergeRefIdeal.nD Cert.MergeRefIdeal.τ).loc Cert.MergeRefIdeal.main_arg12))).2.1 = (fun _ => 1#1)
    ∧ (Cert.Pre_finite_scores.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) (m ((c.tc : Thread Cert.MergeRefIdeal.nD Cert.MergeRefIdeal.τ).loc Cert.MergeRefIdeal.main_arg11)) (m ((c.tc : Thread Cert.MergeRefIdeal.nD Cert.MergeRefIdeal.τ).loc Cert.MergeRefIdeal.main_arg12))).2.2 = (fun _ => 1#1)

def Pre_MemKV (m : (ℓ : Loc Cert.MemKV.nD Cert.MemKV.τ Cert.MemKV.sig) → Buf (Elt Bits) ℓ) : Prop :=
  True

def Pre_MemKVIdeal (m : (ℓ : Loc Cert.MemKVIdeal.nD Cert.MemKVIdeal.τ Cert.MemKVIdeal.sig) → Buf (Elt Ideal) ℓ) : Prop :=
  True

def Pre_MemKVRefIdeal (m : (ℓ : Loc Cert.MemKVRefIdeal.nD Cert.MemKVRefIdeal.τ Cert.MemKVRefIdeal.sig) → Buf (Elt Ideal) ℓ) : Prop :=
  True

def Pre_ProjRest (m : (ℓ : Loc Cert.ProjRest.nD Cert.ProjRest.τ Cert.ProjRest.sig) → Buf (Elt Bits) ℓ) : Prop :=
  True

def Pre_ProjRestIdeal (m : (ℓ : Loc Cert.ProjRestIdeal.nD Cert.ProjRestIdeal.τ Cert.ProjRestIdeal.sig) → Buf (Elt Ideal) ℓ) : Prop :=
  True

def Pre_ProjRestRefIdeal (m : (ℓ : Loc Cert.ProjRestRefIdeal.nD Cert.ProjRestRefIdeal.τ Cert.ProjRestRefIdeal.sig) → Buf (Elt Ideal) ℓ) : Prop :=
  True

def Pre_ProjA (m : (ℓ : Loc Cert.ProjA.nD Cert.ProjA.τ Cert.ProjA.sig) → Buf (Elt Bits) ℓ) : Prop :=
  True

def Pre_ProjAIdeal (m : (ℓ : Loc Cert.ProjAIdeal.nD Cert.ProjAIdeal.τ Cert.ProjAIdeal.sig) → Buf (Elt Ideal) ℓ) : Prop :=
  True

def Pre_ProjARefIdeal (m : (ℓ : Loc Cert.ProjARefIdeal.nD Cert.ProjARefIdeal.τ Cert.ProjARefIdeal.sig) → Buf (Elt Ideal) ℓ) : Prop :=
  True

def Pre_ProjS (m : (ℓ : Loc Cert.ProjS.nD Cert.ProjS.τ Cert.ProjS.sig) → Buf (Elt Bits) ℓ) : Prop :=
  True

def Pre_ProjSIdeal (m : (ℓ : Loc Cert.ProjSIdeal.nD Cert.ProjSIdeal.τ Cert.ProjSIdeal.sig) → Buf (Elt Ideal) ℓ) : Prop :=
  True

def Pre_ProjSRefIdeal (m : (ℓ : Loc Cert.ProjSRefIdeal.nD Cert.ProjSRefIdeal.τ Cert.ProjSRefIdeal.sig) → Buf (Elt Ideal) ℓ) : Prop :=
  True

def Pre_Dsa (m : (ℓ : Loc Cert.Dsa.nD Cert.Dsa.τ Cert.Dsa.sig) → Buf (Elt Bits) ℓ) : Prop :=
  True

def Pre_DsaIdeal (m : (ℓ : Loc Cert.DsaIdeal.nD Cert.DsaIdeal.τ Cert.DsaIdeal.sig) → Buf (Elt Ideal) ℓ) : Prop :=
  True

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ r.2.sem = fun _ => 0)

def quiescent_MergeIdeal_pre_finite_scores [hMergeIdeal : Cert.MergeIdeal.Facts] [hPre_finite_scores : Cert.Pre_finite_scores.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_finite_scores m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12))
      ∧ r.2.sem = fun _ => 0)

def quiescent_MergeRefIdeal_pre_finite_scores [hMergeRefIdeal : Cert.MergeRefIdeal.Facts] [hPre_finite_scores : Cert.Pre_finite_scores.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_finite_scores m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12))
      ∧ r.2.sem = fun _ => 0)

def quiescent_MemKV [hMemKV : Cert.MemKV.Facts] : Prop :=
  ∀ (m : (ℓ : Loc Cert.MemKV.nD Cert.MemKV.τ Cert.MemKV.sig) → Buf (Elt Bits) ℓ) (g : Dev Cert.MemKV.nD → PrngReg), Pre_MemKV m →
    θ_run (Cert.MemKV.defs (F := Bits)) (onTc (τ := Cert.MemKV.τ) (Cert.MemKV.main (F := Bits))) ⟨m, fun _ => 0, g⟩ (fun r => (∀ c : Dev Cert.MemKV.nD,
      r.2.mem ((c.tc : Thread Cert.MemKV.nD Cert.MemKV.τ).loc Cert.MemKV.main_arg0) = m ((c.tc : Thread Cert.MemKV.nD Cert.MemKV.τ).loc Cert.MemKV.main_arg0)
      ∧ r.2.mem ((c.tc : Thread Cert.MemKV.nD Cert.MemKV.τ).loc Cert.MemKV.main_arg1) = m ((c.tc : Thread Cert.MemKV.nD Cert.MemKV.τ).loc Cert.MemKV.main_arg1)
      ∧ r.2.mem ((c.tc : Thread Cert.MemKV.nD Cert.MemKV.τ).loc Cert.MemKV.main_arg2) = m ((c.tc : Thread Cert.MemKV.nD Cert.MemKV.τ).loc Cert.MemKV.main_arg2)
      ∧ r.2.mem ((c.tc : Thread Cert.MemKV.nD Cert.MemKV.τ).loc Cert.MemKV.main_arg3) = m ((c.tc : Thread Cert.MemKV.nD Cert.MemKV.τ).loc Cert.MemKV.main_arg3))
      ∧ r.2.sem = fun _ => 0)

def quiescent_MemKVIdeal [hMemKVIdeal : Cert.MemKVIdeal.Facts] : Prop :=
  ∀ (m : (ℓ : Loc Cert.MemKVIdeal.nD Cert.MemKVIdeal.τ Cert.MemKVIdeal.sig) → Buf (Elt Ideal) ℓ) (g : Dev Cert.MemKVIdeal.nD → PrngReg), Pre_MemKVIdeal m →
    θ_run (Cert.MemKVIdeal.defs (F := Ideal)) (onTc (τ := Cert.MemKVIdeal.τ) (Cert.MemKVIdeal.main (F := Ideal))) ⟨m, fun _ => 0, g⟩ (fun r => (∀ c : Dev Cert.MemKVIdeal.nD,
      r.2.mem ((c.tc : Thread Cert.MemKVIdeal.nD Cert.MemKVIdeal.τ).loc Cert.MemKVIdeal.main_arg0) = m ((c.tc : Thread Cert.MemKVIdeal.nD Cert.MemKVIdeal.τ).loc Cert.MemKVIdeal.main_arg0)
      ∧ r.2.mem ((c.tc : Thread Cert.MemKVIdeal.nD Cert.MemKVIdeal.τ).loc Cert.MemKVIdeal.main_arg1) = m ((c.tc : Thread Cert.MemKVIdeal.nD Cert.MemKVIdeal.τ).loc Cert.MemKVIdeal.main_arg1)
      ∧ r.2.mem ((c.tc : Thread Cert.MemKVIdeal.nD Cert.MemKVIdeal.τ).loc Cert.MemKVIdeal.main_arg2) = m ((c.tc : Thread Cert.MemKVIdeal.nD Cert.MemKVIdeal.τ).loc Cert.MemKVIdeal.main_arg2)
      ∧ r.2.mem ((c.tc : Thread Cert.MemKVIdeal.nD Cert.MemKVIdeal.τ).loc Cert.MemKVIdeal.main_arg3) = m ((c.tc : Thread Cert.MemKVIdeal.nD Cert.MemKVIdeal.τ).loc Cert.MemKVIdeal.main_arg3))
      ∧ r.2.sem = fun _ => 0)

def quiescent_MemKVRefIdeal [hMemKVRefIdeal : Cert.MemKVRefIdeal.Facts] : Prop :=
  ∀ (m : (ℓ : Loc Cert.MemKVRefIdeal.nD Cert.MemKVRefIdeal.τ Cert.MemKVRefIdeal.sig) → Buf (Elt Ideal) ℓ) (g : Dev Cert.MemKVRefIdeal.nD → PrngReg), Pre_MemKVRefIdeal m →
    θ_run (Cert.MemKVRefIdeal.defs (F := Ideal)) (onTc (τ := Cert.MemKVRefIdeal.τ) (Cert.MemKVRefIdeal.main (F := Ideal))) ⟨m, fun _ => 0, g⟩ (fun r => (∀ c : Dev Cert.MemKVRefIdeal.nD,
      r.2.mem ((c.tc : Thread Cert.MemKVRefIdeal.nD Cert.MemKVRefIdeal.τ).loc Cert.MemKVRefIdeal.main_arg0) = m ((c.tc : Thread Cert.MemKVRefIdeal.nD Cert.MemKVRefIdeal.τ).loc Cert.MemKVRefIdeal.main_arg0)
      ∧ r.2.mem ((c.tc : Thread Cert.MemKVRefIdeal.nD Cert.MemKVRefIdeal.τ).loc Cert.MemKVRefIdeal.main_arg1) = m ((c.tc : Thread Cert.MemKVRefIdeal.nD Cert.MemKVRefIdeal.τ).loc Cert.MemKVRefIdeal.main_arg1)
      ∧ r.2.mem ((c.tc : Thread Cert.MemKVRefIdeal.nD Cert.MemKVRefIdeal.τ).loc Cert.MemKVRefIdeal.main_arg2) = m ((c.tc : Thread Cert.MemKVRefIdeal.nD Cert.MemKVRefIdeal.τ).loc Cert.MemKVRefIdeal.main_arg2)
      ∧ r.2.mem ((c.tc : Thread Cert.MemKVRefIdeal.nD Cert.MemKVRefIdeal.τ).loc Cert.MemKVRefIdeal.main_arg3) = m ((c.tc : Thread Cert.MemKVRefIdeal.nD Cert.MemKVRefIdeal.τ).loc Cert.MemKVRefIdeal.main_arg3))
      ∧ r.2.sem = fun _ => 0)

def quiescent_ProjRest [hProjRest : Cert.ProjRest.Facts] : Prop :=
  ∀ (m : (ℓ : Loc Cert.ProjRest.nD Cert.ProjRest.τ Cert.ProjRest.sig) → Buf (Elt Bits) ℓ) (g : Dev Cert.ProjRest.nD → PrngReg), Pre_ProjRest m →
    θ_run (Cert.ProjRest.defs (F := Bits)) (onTc (τ := Cert.ProjRest.τ) (Cert.ProjRest.main (F := Bits))) ⟨m, fun _ => 0, g⟩ (fun r => (∀ c : Dev Cert.ProjRest.nD,
      r.2.mem ((c.tc : Thread Cert.ProjRest.nD Cert.ProjRest.τ).loc Cert.ProjRest.main_arg0) = m ((c.tc : Thread Cert.ProjRest.nD Cert.ProjRest.τ).loc Cert.ProjRest.main_arg0)
      ∧ r.2.mem ((c.tc : Thread Cert.ProjRest.nD Cert.ProjRest.τ).loc Cert.ProjRest.main_arg1) = m ((c.tc : Thread Cert.ProjRest.nD Cert.ProjRest.τ).loc Cert.ProjRest.main_arg1)
      ∧ r.2.mem ((c.tc : Thread Cert.ProjRest.nD Cert.ProjRest.τ).loc Cert.ProjRest.main_arg2) = m ((c.tc : Thread Cert.ProjRest.nD Cert.ProjRest.τ).loc Cert.ProjRest.main_arg2)
      ∧ r.2.mem ((c.tc : Thread Cert.ProjRest.nD Cert.ProjRest.τ).loc Cert.ProjRest.main_arg3) = m ((c.tc : Thread Cert.ProjRest.nD Cert.ProjRest.τ).loc Cert.ProjRest.main_arg3))
      ∧ r.2.sem = fun _ => 0)

def quiescent_ProjRestIdeal [hProjRestIdeal : Cert.ProjRestIdeal.Facts] : Prop :=
  ∀ (m : (ℓ : Loc Cert.ProjRestIdeal.nD Cert.ProjRestIdeal.τ Cert.ProjRestIdeal.sig) → Buf (Elt Ideal) ℓ) (g : Dev Cert.ProjRestIdeal.nD → PrngReg), Pre_ProjRestIdeal m →
    θ_run (Cert.ProjRestIdeal.defs (F := Ideal)) (onTc (τ := Cert.ProjRestIdeal.τ) (Cert.ProjRestIdeal.main (F := Ideal))) ⟨m, fun _ => 0, g⟩ (fun r => (∀ c : Dev Cert.ProjRestIdeal.nD,
      r.2.mem ((c.tc : Thread Cert.ProjRestIdeal.nD Cert.ProjRestIdeal.τ).loc Cert.ProjRestIdeal.main_arg0) = m ((c.tc : Thread Cert.ProjRestIdeal.nD Cert.ProjRestIdeal.τ).loc Cert.ProjRestIdeal.main_arg0)
      ∧ r.2.mem ((c.tc : Thread Cert.ProjRestIdeal.nD Cert.ProjRestIdeal.τ).loc Cert.ProjRestIdeal.main_arg1) = m ((c.tc : Thread Cert.ProjRestIdeal.nD Cert.ProjRestIdeal.τ).loc Cert.ProjRestIdeal.main_arg1)
      ∧ r.2.mem ((c.tc : Thread Cert.ProjRestIdeal.nD Cert.ProjRestIdeal.τ).loc Cert.ProjRestIdeal.main_arg2) = m ((c.tc : Thread Cert.ProjRestIdeal.nD Cert.ProjRestIdeal.τ).loc Cert.ProjRestIdeal.main_arg2)
      ∧ r.2.mem ((c.tc : Thread Cert.ProjRestIdeal.nD Cert.ProjRestIdeal.τ).loc Cert.ProjRestIdeal.main_arg3) = m ((c.tc : Thread Cert.ProjRestIdeal.nD Cert.ProjRestIdeal.τ).loc Cert.ProjRestIdeal.main_arg3))
      ∧ r.2.sem = fun _ => 0)

def quiescent_ProjRestRefIdeal [hProjRestRefIdeal : Cert.ProjRestRefIdeal.Facts] : Prop :=
  ∀ (m : (ℓ : Loc Cert.ProjRestRefIdeal.nD Cert.ProjRestRefIdeal.τ Cert.ProjRestRefIdeal.sig) → Buf (Elt Ideal) ℓ) (g : Dev Cert.ProjRestRefIdeal.nD → PrngReg), Pre_ProjRestRefIdeal m →
    θ_run (Cert.ProjRestRefIdeal.defs (F := Ideal)) (onTc (τ := Cert.ProjRestRefIdeal.τ) (Cert.ProjRestRefIdeal.main (F := Ideal))) ⟨m, fun _ => 0, g⟩ (fun r => (∀ c : Dev Cert.ProjRestRefIdeal.nD,
      r.2.mem ((c.tc : Thread Cert.ProjRestRefIdeal.nD Cert.ProjRestRefIdeal.τ).loc Cert.ProjRestRefIdeal.main_arg0) = m ((c.tc : Thread Cert.ProjRestRefIdeal.nD Cert.ProjRestRefIdeal.τ).loc Cert.ProjRestRefIdeal.main_arg0)
      ∧ r.2.mem ((c.tc : Thread Cert.ProjRestRefIdeal.nD Cert.ProjRestRefIdeal.τ).loc Cert.ProjRestRefIdeal.main_arg1) = m ((c.tc : Thread Cert.ProjRestRefIdeal.nD Cert.ProjRestRefIdeal.τ).loc Cert.ProjRestRefIdeal.main_arg1)
      ∧ r.2.mem ((c.tc : Thread Cert.ProjRestRefIdeal.nD Cert.ProjRestRefIdeal.τ).loc Cert.ProjRestRefIdeal.main_arg2) = m ((c.tc : Thread Cert.ProjRestRefIdeal.nD Cert.ProjRestRefIdeal.τ).loc Cert.ProjRestRefIdeal.main_arg2)
      ∧ r.2.mem ((c.tc : Thread Cert.ProjRestRefIdeal.nD Cert.ProjRestRefIdeal.τ).loc Cert.ProjRestRefIdeal.main_arg3) = m ((c.tc : Thread Cert.ProjRestRefIdeal.nD Cert.ProjRestRefIdeal.τ).loc Cert.ProjRestRefIdeal.main_arg3))
      ∧ r.2.sem = fun _ => 0)

def quiescent_ProjA [hProjA : Cert.ProjA.Facts] : Prop :=
  ∀ (m : (ℓ : Loc Cert.ProjA.nD Cert.ProjA.τ Cert.ProjA.sig) → Buf (Elt Bits) ℓ) (g : Dev Cert.ProjA.nD → PrngReg), Pre_ProjA m →
    θ_run (Cert.ProjA.defs (F := Bits)) (onTc (τ := Cert.ProjA.τ) (Cert.ProjA.main (F := Bits))) ⟨m, fun _ => 0, g⟩ (fun r => (∀ c : Dev Cert.ProjA.nD,
      r.2.mem ((c.tc : Thread Cert.ProjA.nD Cert.ProjA.τ).loc Cert.ProjA.main_arg0) = m ((c.tc : Thread Cert.ProjA.nD Cert.ProjA.τ).loc Cert.ProjA.main_arg0)
      ∧ r.2.mem ((c.tc : Thread Cert.ProjA.nD Cert.ProjA.τ).loc Cert.ProjA.main_arg1) = m ((c.tc : Thread Cert.ProjA.nD Cert.ProjA.τ).loc Cert.ProjA.main_arg1)
      ∧ r.2.mem ((c.tc : Thread Cert.ProjA.nD Cert.ProjA.τ).loc Cert.ProjA.main_arg2) = m ((c.tc : Thread Cert.ProjA.nD Cert.ProjA.τ).loc Cert.ProjA.main_arg2)
      ∧ r.2.mem ((c.tc : Thread Cert.ProjA.nD Cert.ProjA.τ).loc Cert.ProjA.main_arg3) = m ((c.tc : Thread Cert.ProjA.nD Cert.ProjA.τ).loc Cert.ProjA.main_arg3)
      ∧ r.2.mem ((c.tc : Thread Cert.ProjA.nD Cert.ProjA.τ).loc Cert.ProjA.main_arg4) = m ((c.tc : Thread Cert.ProjA.nD Cert.ProjA.τ).loc Cert.ProjA.main_arg4))
      ∧ r.2.sem = fun _ => 0)

def quiescent_ProjAIdeal [hProjAIdeal : Cert.ProjAIdeal.Facts] : Prop :=
  ∀ (m : (ℓ : Loc Cert.ProjAIdeal.nD Cert.ProjAIdeal.τ Cert.ProjAIdeal.sig) → Buf (Elt Ideal) ℓ) (g : Dev Cert.ProjAIdeal.nD → PrngReg), Pre_ProjAIdeal m →
    θ_run (Cert.ProjAIdeal.defs (F := Ideal)) (onTc (τ := Cert.ProjAIdeal.τ) (Cert.ProjAIdeal.main (F := Ideal))) ⟨m, fun _ => 0, g⟩ (fun r => (∀ c : Dev Cert.ProjAIdeal.nD,
      r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
      ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1)
      ∧ r.2.mem ((c.tc : Thread Cert.ProjAIdeal.nD Cert.ProjAIdeal.τ).loc Cert.ProjAIdeal.main_arg2) = m ((c.tc : Thread Cert.ProjAIdeal.nD Cert.ProjAIdeal.τ).loc Cert.ProjAIdeal.main_arg2)
      ∧ r.2.mem ((c.tc : Thread Cert.ProjAIdeal.nD Cert.ProjAIdeal.τ).loc Cert.ProjAIdeal.main_arg3) = m ((c.tc : Thread Cert.ProjAIdeal.nD Cert.ProjAIdeal.τ).loc Cert.ProjAIdeal.main_arg3)
      ∧ r.2.mem ((c.tc : Thread Cert.ProjAIdeal.nD Cert.ProjAIdeal.τ).loc Cert.ProjAIdeal.main_arg4) = m ((c.tc : Thread Cert.ProjAIdeal.nD Cert.ProjAIdeal.τ).loc Cert.ProjAIdeal.main_arg4))
      ∧ r.2.sem = fun _ => 0)

def quiescent_ProjARefIdeal [hProjARefIdeal : Cert.ProjARefIdeal.Facts] : Prop :=
  ∀ (m : (ℓ : Loc Cert.ProjARefIdeal.nD Cert.ProjARefIdeal.τ Cert.ProjARefIdeal.sig) → Buf (Elt Ideal) ℓ) (g : Dev Cert.ProjARefIdeal.nD → PrngReg), Pre_ProjARefIdeal m →
    θ_run (Cert.ProjARefIdeal.defs (F := Ideal)) (onTc (τ := Cert.ProjARefIdeal.τ) (Cert.ProjARefIdeal.main (F := Ideal))) ⟨m, fun _ => 0, g⟩ (fun r => (∀ c : Dev Cert.ProjARefIdeal.nD,
      r.2.mem ((c.tc : Thread Cert.ProjARefIdeal.nD Cert.ProjARefIdeal.τ).loc Cert.ProjARefIdeal.main_arg0) = m ((c.tc : Thread Cert.ProjARefIdeal.nD Cert.ProjARefIdeal.τ).loc Cert.ProjARefIdeal.main_arg0)
      ∧ r.2.mem ((c.tc : Thread Cert.ProjARefIdeal.nD Cert.ProjARefIdeal.τ).loc Cert.ProjARefIdeal.main_arg1) = m ((c.tc : Thread Cert.ProjARefIdeal.nD Cert.ProjARefIdeal.τ).loc Cert.ProjARefIdeal.main_arg1)
      ∧ r.2.mem ((c.tc : Thread Cert.ProjARefIdeal.nD Cert.ProjARefIdeal.τ).loc Cert.ProjARefIdeal.main_arg2) = m ((c.tc : Thread Cert.ProjARefIdeal.nD Cert.ProjARefIdeal.τ).loc Cert.ProjARefIdeal.main_arg2)
      ∧ r.2.mem ((c.tc : Thread Cert.ProjARefIdeal.nD Cert.ProjARefIdeal.τ).loc Cert.ProjARefIdeal.main_arg3) = m ((c.tc : Thread Cert.ProjARefIdeal.nD Cert.ProjARefIdeal.τ).loc Cert.ProjARefIdeal.main_arg3)
      ∧ r.2.mem ((c.tc : Thread Cert.ProjARefIdeal.nD Cert.ProjARefIdeal.τ).loc Cert.ProjARefIdeal.main_arg4) = m ((c.tc : Thread Cert.ProjARefIdeal.nD Cert.ProjARefIdeal.τ).loc Cert.ProjARefIdeal.main_arg4))
      ∧ r.2.sem = fun _ => 0)

def quiescent_ProjS [hProjS : Cert.ProjS.Facts] : Prop :=
  ∀ (m : (ℓ : Loc Cert.ProjS.nD Cert.ProjS.τ Cert.ProjS.sig) → Buf (Elt Bits) ℓ) (g : Dev Cert.ProjS.nD → PrngReg), Pre_ProjS m →
    θ_run (Cert.ProjS.defs (F := Bits)) (onTc (τ := Cert.ProjS.τ) (Cert.ProjS.main (F := Bits))) ⟨m, fun _ => 0, g⟩ (fun r => (∀ c : Dev Cert.ProjS.nD,
      r.2.mem ((c.tc : Thread Cert.ProjS.nD Cert.ProjS.τ).loc Cert.ProjS.main_arg0) = m ((c.tc : Thread Cert.ProjS.nD Cert.ProjS.τ).loc Cert.ProjS.main_arg0)
      ∧ r.2.mem ((c.tc : Thread Cert.ProjS.nD Cert.ProjS.τ).loc Cert.ProjS.main_arg1) = m ((c.tc : Thread Cert.ProjS.nD Cert.ProjS.τ).loc Cert.ProjS.main_arg1)
      ∧ r.2.mem ((c.tc : Thread Cert.ProjS.nD Cert.ProjS.τ).loc Cert.ProjS.main_arg2) = m ((c.tc : Thread Cert.ProjS.nD Cert.ProjS.τ).loc Cert.ProjS.main_arg2)
      ∧ r.2.mem ((c.tc : Thread Cert.ProjS.nD Cert.ProjS.τ).loc Cert.ProjS.main_arg3) = m ((c.tc : Thread Cert.ProjS.nD Cert.ProjS.τ).loc Cert.ProjS.main_arg3)
      ∧ r.2.mem ((c.tc : Thread Cert.ProjS.nD Cert.ProjS.τ).loc Cert.ProjS.main_arg4) = m ((c.tc : Thread Cert.ProjS.nD Cert.ProjS.τ).loc Cert.ProjS.main_arg4))
      ∧ r.2.sem = fun _ => 0)

def quiescent_ProjSIdeal [hProjSIdeal : Cert.ProjSIdeal.Facts] : Prop :=
  ∀ (m : (ℓ : Loc Cert.ProjSIdeal.nD Cert.ProjSIdeal.τ Cert.ProjSIdeal.sig) → Buf (Elt Ideal) ℓ) (g : Dev Cert.ProjSIdeal.nD → PrngReg), Pre_ProjSIdeal m →
    θ_run (Cert.ProjSIdeal.defs (F := Ideal)) (onTc (τ := Cert.ProjSIdeal.τ) (Cert.ProjSIdeal.main (F := Ideal))) ⟨m, fun _ => 0, g⟩ (fun r => (∀ c : Dev Cert.ProjSIdeal.nD,
      r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
      ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
      ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2)
      ∧ r.2.mem ((c.tc : Thread Cert.ProjSIdeal.nD Cert.ProjSIdeal.τ).loc Cert.ProjSIdeal.main_arg3) = m ((c.tc : Thread Cert.ProjSIdeal.nD Cert.ProjSIdeal.τ).loc Cert.ProjSIdeal.main_arg3)
      ∧ r.2.mem ((c.tc : Thread Cert.ProjSIdeal.nD Cert.ProjSIdeal.τ).loc Cert.ProjSIdeal.main_arg4) = m ((c.tc : Thread Cert.ProjSIdeal.nD Cert.ProjSIdeal.τ).loc Cert.ProjSIdeal.main_arg4))
      ∧ r.2.sem = fun _ => 0)

def quiescent_ProjSRefIdeal [hProjSRefIdeal : Cert.ProjSRefIdeal.Facts] : Prop :=
  ∀ (m : (ℓ : Loc Cert.ProjSRefIdeal.nD Cert.ProjSRefIdeal.τ Cert.ProjSRefIdeal.sig) → Buf (Elt Ideal) ℓ) (g : Dev Cert.ProjSRefIdeal.nD → PrngReg), Pre_ProjSRefIdeal m →
    θ_run (Cert.ProjSRefIdeal.defs (F := Ideal)) (onTc (τ := Cert.ProjSRefIdeal.τ) (Cert.ProjSRefIdeal.main (F := Ideal))) ⟨m, fun _ => 0, g⟩ (fun r => (∀ c : Dev Cert.ProjSRefIdeal.nD,
      r.2.mem ((c.tc : Thread Cert.ProjSRefIdeal.nD Cert.ProjSRefIdeal.τ).loc Cert.ProjSRefIdeal.main_arg0) = m ((c.tc : Thread Cert.ProjSRefIdeal.nD Cert.ProjSRefIdeal.τ).loc Cert.ProjSRefIdeal.main_arg0)
      ∧ r.2.mem ((c.tc : Thread Cert.ProjSRefIdeal.nD Cert.ProjSRefIdeal.τ).loc Cert.ProjSRefIdeal.main_arg1) = m ((c.tc : Thread Cert.ProjSRefIdeal.nD Cert.ProjSRefIdeal.τ).loc Cert.ProjSRefIdeal.main_arg1)
      ∧ r.2.mem ((c.tc : Thread Cert.ProjSRefIdeal.nD Cert.ProjSRefIdeal.τ).loc Cert.ProjSRefIdeal.main_arg2) = m ((c.tc : Thread Cert.ProjSRefIdeal.nD Cert.ProjSRefIdeal.τ).loc Cert.ProjSRefIdeal.main_arg2)
      ∧ r.2.mem ((c.tc : Thread Cert.ProjSRefIdeal.nD Cert.ProjSRefIdeal.τ).loc Cert.ProjSRefIdeal.main_arg3) = m ((c.tc : Thread Cert.ProjSRefIdeal.nD Cert.ProjSRefIdeal.τ).loc Cert.ProjSRefIdeal.main_arg3)
      ∧ r.2.mem ((c.tc : Thread Cert.ProjSRefIdeal.nD Cert.ProjSRefIdeal.τ).loc Cert.ProjSRefIdeal.main_arg4) = m ((c.tc : Thread Cert.ProjSRefIdeal.nD Cert.ProjSRefIdeal.τ).loc Cert.ProjSRefIdeal.main_arg4))
      ∧ r.2.sem = fun _ => 0)

def quiescent_Dsa [hDsa : Cert.Dsa.Facts] : Prop :=
  ∀ (m : (ℓ : Loc Cert.Dsa.nD Cert.Dsa.τ Cert.Dsa.sig) → Buf (Elt Bits) ℓ) (g : Dev Cert.Dsa.nD → PrngReg), Pre_Dsa m →
    θ_run (Cert.Dsa.defs (F := Bits)) (onTc (τ := Cert.Dsa.τ) (Cert.Dsa.main (F := Bits))) ⟨m, fun _ => 0, g⟩ (fun r => (∀ c : Dev Cert.Dsa.nD,
      r.2.mem ((c.tc : Thread Cert.Dsa.nD Cert.Dsa.τ).loc Cert.Dsa.main_arg0) = m ((c.tc : Thread Cert.Dsa.nD Cert.Dsa.τ).loc Cert.Dsa.main_arg0)
      ∧ r.2.mem ((c.tc : Thread Cert.Dsa.nD Cert.Dsa.τ).loc Cert.Dsa.main_arg1) = m ((c.tc : Thread Cert.Dsa.nD Cert.Dsa.τ).loc Cert.Dsa.main_arg1)
      ∧ r.2.mem ((c.tc : Thread Cert.Dsa.nD Cert.Dsa.τ).loc Cert.Dsa.main_arg2) = m ((c.tc : Thread Cert.Dsa.nD Cert.Dsa.τ).loc Cert.Dsa.main_arg2)
      ∧ r.2.mem ((c.tc : Thread Cert.Dsa.nD Cert.Dsa.τ).loc Cert.Dsa.main_arg3) = m ((c.tc : Thread Cert.Dsa.nD Cert.Dsa.τ).loc Cert.Dsa.main_arg3)
      ∧ r.2.mem ((c.tc : Thread Cert.Dsa.nD Cert.Dsa.τ).loc Cert.Dsa.main_arg4) = m ((c.tc : Thread Cert.Dsa.nD Cert.Dsa.τ).loc Cert.Dsa.main_arg4)
      ∧ r.2.mem ((c.tc : Thread Cert.Dsa.nD Cert.Dsa.τ).loc Cert.Dsa.main_arg5) = m ((c.tc : Thread Cert.Dsa.nD Cert.Dsa.τ).loc Cert.Dsa.main_arg5))
      ∧ r.2.sem = fun _ => 0)

def quiescent_DsaIdeal [hDsaIdeal : Cert.DsaIdeal.Facts] : Prop :=
  ∀ (m : (ℓ : Loc Cert.DsaIdeal.nD Cert.DsaIdeal.τ Cert.DsaIdeal.sig) → Buf (Elt Ideal) ℓ) (g : Dev Cert.DsaIdeal.nD → PrngReg), Pre_DsaIdeal m →
    θ_run (Cert.DsaIdeal.defs (F := Ideal)) (onTc (τ := Cert.DsaIdeal.τ) (Cert.DsaIdeal.main (F := Ideal))) ⟨m, fun _ => 0, g⟩ (fun r => (∀ c : Dev Cert.DsaIdeal.nD,
      r.2.mem ((c.tc : Thread Cert.DsaIdeal.nD Cert.DsaIdeal.τ).loc Cert.DsaIdeal.main_arg0) = m ((c.tc : Thread Cert.DsaIdeal.nD Cert.DsaIdeal.τ).loc Cert.DsaIdeal.main_arg0)
      ∧ r.2.mem ((c.tc : Thread Cert.DsaIdeal.nD Cert.DsaIdeal.τ).loc Cert.DsaIdeal.main_arg1) = m ((c.tc : Thread Cert.DsaIdeal.nD Cert.DsaIdeal.τ).loc Cert.DsaIdeal.main_arg1)
      ∧ r.2.mem ((c.tc : Thread Cert.DsaIdeal.nD Cert.DsaIdeal.τ).loc Cert.DsaIdeal.main_arg2) = m ((c.tc : Thread Cert.DsaIdeal.nD Cert.DsaIdeal.τ).loc Cert.DsaIdeal.main_arg2)
      ∧ r.2.mem ((c.tc : Thread Cert.DsaIdeal.nD Cert.DsaIdeal.τ).loc Cert.DsaIdeal.main_arg3) = m ((c.tc : Thread Cert.DsaIdeal.nD Cert.DsaIdeal.τ).loc Cert.DsaIdeal.main_arg3)
      ∧ r.2.mem ((c.tc : Thread Cert.DsaIdeal.nD Cert.DsaIdeal.τ).loc Cert.DsaIdeal.main_arg4) = m ((c.tc : Thread Cert.DsaIdeal.nD Cert.DsaIdeal.τ).loc Cert.DsaIdeal.main_arg4)
      ∧ r.2.mem ((c.tc : Thread Cert.DsaIdeal.nD Cert.DsaIdeal.τ).loc Cert.DsaIdeal.main_arg5) = m ((c.tc : Thread Cert.DsaIdeal.nD Cert.DsaIdeal.τ).loc Cert.DsaIdeal.main_arg5))
      ∧ r.2.sem = fun _ => 0)

def preserves_Merge_MergeIdeal : Prop :=
  True

def algebraic_MergeIdeal_MergeRefIdeal_pre_finite_scores [hMergeIdeal : Cert.MergeIdeal.Facts] [hMergeRefIdeal : Cert.MergeRefIdeal.Facts] [hPre_finite_scores : Cert.Pre_finite_scores.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_finite_scores m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)) →
    ∃ (v0 : (c : Dev Cert.MergeIdeal.nD) → Buf (Elt Ideal) ((c.tc : Thread Cert.MergeIdeal.nD Cert.MergeIdeal.τ).loc Cert.MergeIdeal.main_v16)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v16) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v100) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12))

def preserves_MemKV_MemKVIdeal : Prop :=
  True

def algebraic_MemKVIdeal_MemKVRefIdeal [hMemKVIdeal : Cert.MemKVIdeal.Facts] [hMemKVRefIdeal : Cert.MemKVRefIdeal.Facts] : Prop :=
  ∀ (m : (ℓ : Loc Cert.MemKVIdeal.nD Cert.MemKVIdeal.τ Cert.MemKVIdeal.sig) → Buf (Elt Ideal) ℓ) (g : Dev Cert.MemKVIdeal.nD → PrngReg)
    (m' : (ℓ : Loc Cert.MemKVRefIdeal.nD Cert.MemKVRefIdeal.τ Cert.MemKVRefIdeal.sig) → Buf (Elt Ideal) ℓ) (g' : Dev Cert.MemKVRefIdeal.nD → PrngReg), Pre_MemKVIdeal m →
    (∀ c : Dev Cert.MemKVIdeal.nD,
      m' ((c.tc : Thread Cert.MemKVRefIdeal.nD Cert.MemKVRefIdeal.τ).loc Cert.MemKVRefIdeal.main_arg0) = m ((c.tc : Thread Cert.MemKVIdeal.nD Cert.MemKVIdeal.τ).loc Cert.MemKVIdeal.main_arg0)
      ∧ m' ((c.tc : Thread Cert.MemKVRefIdeal.nD Cert.MemKVRefIdeal.τ).loc Cert.MemKVRefIdeal.main_arg1) = m ((c.tc : Thread Cert.MemKVIdeal.nD Cert.MemKVIdeal.τ).loc Cert.MemKVIdeal.main_arg1)
      ∧ m' ((c.tc : Thread Cert.MemKVRefIdeal.nD Cert.MemKVRefIdeal.τ).loc Cert.MemKVRefIdeal.main_arg2) = m ((c.tc : Thread Cert.MemKVIdeal.nD Cert.MemKVIdeal.τ).loc Cert.MemKVIdeal.main_arg2)
      ∧ m' ((c.tc : Thread Cert.MemKVRefIdeal.nD Cert.MemKVRefIdeal.τ).loc Cert.MemKVRefIdeal.main_arg3) = m ((c.tc : Thread Cert.MemKVIdeal.nD Cert.MemKVIdeal.τ).loc Cert.MemKVIdeal.main_arg3)) →
    ∃ (v0 : (c : Dev Cert.MemKVIdeal.nD) → Buf (Elt Ideal) ((c.tc : Thread Cert.MemKVIdeal.nD Cert.MemKVIdeal.τ).loc Cert.MemKVIdeal.main_v4_0)) (v1 : (c : Dev Cert.MemKVIdeal.nD) → Buf (Elt Ideal) ((c.tc : Thread Cert.MemKVIdeal.nD Cert.MemKVIdeal.τ).loc Cert.MemKVIdeal.main_v4_1)) (v2 : (c : Dev Cert.MemKVIdeal.nD) → Buf (Elt Ideal) ((c.tc : Thread Cert.MemKVIdeal.nD Cert.MemKVIdeal.τ).loc Cert.MemKVIdeal.main_v4_2)) (v3 : (c : Dev Cert.MemKVIdeal.nD) → Buf (Elt Ideal) ((c.tc : Thread Cert.MemKVIdeal.nD Cert.MemKVIdeal.τ).loc Cert.MemKVIdeal.main_v4_3)),
      θ_run (Cert.MemKVIdeal.defs (F := Ideal)) (onTc (τ := Cert.MemKVIdeal.τ) (Cert.MemKVIdeal.main (F := Ideal))) ⟨m, fun _ => 0, g⟩ (fun r => ∀ c : Dev Cert.MemKVIdeal.nD,
          r.2.mem ((c.tc : Thread Cert.MemKVIdeal.nD Cert.MemKVIdeal.τ).loc Cert.MemKVIdeal.main_v4_0) = v0 c
          ∧ r.2.mem ((c.tc : Thread Cert.MemKVIdeal.nD Cert.MemKVIdeal.τ).loc Cert.MemKVIdeal.main_v4_1) = v1 c
          ∧ r.2.mem ((c.tc : Thread Cert.MemKVIdeal.nD Cert.MemKVIdeal.τ).loc Cert.MemKVIdeal.main_v4_2) = v2 c
          ∧ r.2.mem ((c.tc : Thread Cert.MemKVIdeal.nD Cert.MemKVIdeal.τ).loc Cert.MemKVIdeal.main_v4_3) = v3 c
          ∧ r.2.mem ((c.tc : Thread Cert.MemKVIdeal.nD Cert.MemKVIdeal.τ).loc Cert.MemKVIdeal.main_arg0) = m ((c.tc : Thread Cert.MemKVIdeal.nD Cert.MemKVIdeal.τ).loc Cert.MemKVIdeal.main_arg0)
          ∧ r.2.mem ((c.tc : Thread Cert.MemKVIdeal.nD Cert.MemKVIdeal.τ).loc Cert.MemKVIdeal.main_arg1) = m ((c.tc : Thread Cert.MemKVIdeal.nD Cert.MemKVIdeal.τ).loc Cert.MemKVIdeal.main_arg1)
          ∧ r.2.mem ((c.tc : Thread Cert.MemKVIdeal.nD Cert.MemKVIdeal.τ).loc Cert.MemKVIdeal.main_arg2) = m ((c.tc : Thread Cert.MemKVIdeal.nD Cert.MemKVIdeal.τ).loc Cert.MemKVIdeal.main_arg2)
          ∧ r.2.mem ((c.tc : Thread Cert.MemKVIdeal.nD Cert.MemKVIdeal.τ).loc Cert.MemKVIdeal.main_arg3) = m ((c.tc : Thread Cert.MemKVIdeal.nD Cert.MemKVIdeal.τ).loc Cert.MemKVIdeal.main_arg3))
      ∧ θ_run (Cert.MemKVRefIdeal.defs (F := Ideal)) (onTc (τ := Cert.MemKVRefIdeal.τ) (Cert.MemKVRefIdeal.main (F := Ideal))) ⟨m', fun _ => 0, g'⟩ (fun r => ∀ c : Dev Cert.MemKVRefIdeal.nD,
          r.2.mem ((c.tc : Thread Cert.MemKVRefIdeal.nD Cert.MemKVRefIdeal.τ).loc Cert.MemKVRefIdeal.main_v30) = v0 c
          ∧ r.2.mem ((c.tc : Thread Cert.MemKVRefIdeal.nD Cert.MemKVRefIdeal.τ).loc Cert.MemKVRefIdeal.main_v31) = v1 c
          ∧ r.2.mem ((c.tc : Thread Cert.MemKVRefIdeal.nD Cert.MemKVRefIdeal.τ).loc Cert.MemKVRefIdeal.main_v32) = v2 c
          ∧ r.2.mem ((c.tc : Thread Cert.MemKVRefIdeal.nD Cert.MemKVRefIdeal.τ).loc Cert.MemKVRefIdeal.main_v33) = v3 c
          ∧ r.2.mem ((c.tc : Thread Cert.MemKVRefIdeal.nD Cert.MemKVRefIdeal.τ).loc Cert.MemKVRefIdeal.main_arg0) = m' ((c.tc : Thread Cert.MemKVRefIdeal.nD Cert.MemKVRefIdeal.τ).loc Cert.MemKVRefIdeal.main_arg0)
          ∧ r.2.mem ((c.tc : Thread Cert.MemKVRefIdeal.nD Cert.MemKVRefIdeal.τ).loc Cert.MemKVRefIdeal.main_arg1) = m' ((c.tc : Thread Cert.MemKVRefIdeal.nD Cert.MemKVRefIdeal.τ).loc Cert.MemKVRefIdeal.main_arg1)
          ∧ r.2.mem ((c.tc : Thread Cert.MemKVRefIdeal.nD Cert.MemKVRefIdeal.τ).loc Cert.MemKVRefIdeal.main_arg2) = m' ((c.tc : Thread Cert.MemKVRefIdeal.nD Cert.MemKVRefIdeal.τ).loc Cert.MemKVRefIdeal.main_arg2)
          ∧ r.2.mem ((c.tc : Thread Cert.MemKVRefIdeal.nD Cert.MemKVRefIdeal.τ).loc Cert.MemKVRefIdeal.main_arg3) = m' ((c.tc : Thread Cert.MemKVRefIdeal.nD Cert.MemKVRefIdeal.τ).loc Cert.MemKVRefIdeal.main_arg3))

def preserves_ProjRest_ProjRestIdeal : Prop :=
  True

def algebraic_ProjRestIdeal_ProjRestRefIdeal [hProjRestIdeal : Cert.ProjRestIdeal.Facts] [hProjRestRefIdeal : Cert.ProjRestRefIdeal.Facts] : Prop :=
  ∀ (m : (ℓ : Loc Cert.ProjRestIdeal.nD Cert.ProjRestIdeal.τ Cert.ProjRestIdeal.sig) → Buf (Elt Ideal) ℓ) (g : Dev Cert.ProjRestIdeal.nD → PrngReg)
    (m' : (ℓ : Loc Cert.ProjRestRefIdeal.nD Cert.ProjRestRefIdeal.τ Cert.ProjRestRefIdeal.sig) → Buf (Elt Ideal) ℓ) (g' : Dev Cert.ProjRestRefIdeal.nD → PrngReg), Pre_ProjRestIdeal m →
    (∀ c : Dev Cert.ProjRestIdeal.nD,
      m' ((c.tc : Thread Cert.ProjRestRefIdeal.nD Cert.ProjRestRefIdeal.τ).loc Cert.ProjRestRefIdeal.main_arg0) = m ((c.tc : Thread Cert.ProjRestIdeal.nD Cert.ProjRestIdeal.τ).loc Cert.ProjRestIdeal.main_arg0)
      ∧ m' ((c.tc : Thread Cert.ProjRestRefIdeal.nD Cert.ProjRestRefIdeal.τ).loc Cert.ProjRestRefIdeal.main_arg1) = m ((c.tc : Thread Cert.ProjRestIdeal.nD Cert.ProjRestIdeal.τ).loc Cert.ProjRestIdeal.main_arg1)
      ∧ m' ((c.tc : Thread Cert.ProjRestRefIdeal.nD Cert.ProjRestRefIdeal.τ).loc Cert.ProjRestRefIdeal.main_arg2) = m ((c.tc : Thread Cert.ProjRestIdeal.nD Cert.ProjRestIdeal.τ).loc Cert.ProjRestIdeal.main_arg2)
      ∧ m' ((c.tc : Thread Cert.ProjRestRefIdeal.nD Cert.ProjRestRefIdeal.τ).loc Cert.ProjRestRefIdeal.main_arg3) = m ((c.tc : Thread Cert.ProjRestIdeal.nD Cert.ProjRestIdeal.τ).loc Cert.ProjRestIdeal.main_arg3)) →
    ∃ (v0 : (c : Dev Cert.ProjRestIdeal.nD) → Buf (Elt Ideal) ((c.tc : Thread Cert.ProjRestIdeal.nD Cert.ProjRestIdeal.τ).loc Cert.ProjRestIdeal.main_v5_0)) (v1 : (c : Dev Cert.ProjRestIdeal.nD) → Buf (Elt Ideal) ((c.tc : Thread Cert.ProjRestIdeal.nD Cert.ProjRestIdeal.τ).loc Cert.ProjRestIdeal.main_v5_1)),
      θ_run (Cert.ProjRestIdeal.defs (F := Ideal)) (onTc (τ := Cert.ProjRestIdeal.τ) (Cert.ProjRestIdeal.main (F := Ideal))) ⟨m, fun _ => 0, g⟩ (fun r => ∀ c : Dev Cert.ProjRestIdeal.nD,
          r.2.mem ((c.tc : Thread Cert.ProjRestIdeal.nD Cert.ProjRestIdeal.τ).loc Cert.ProjRestIdeal.main_v5_0) = v0 c
          ∧ r.2.mem ((c.tc : Thread Cert.ProjRestIdeal.nD Cert.ProjRestIdeal.τ).loc Cert.ProjRestIdeal.main_v5_1) = v1 c
          ∧ r.2.mem ((c.tc : Thread Cert.ProjRestIdeal.nD Cert.ProjRestIdeal.τ).loc Cert.ProjRestIdeal.main_arg0) = m ((c.tc : Thread Cert.ProjRestIdeal.nD Cert.ProjRestIdeal.τ).loc Cert.ProjRestIdeal.main_arg0)
          ∧ r.2.mem ((c.tc : Thread Cert.ProjRestIdeal.nD Cert.ProjRestIdeal.τ).loc Cert.ProjRestIdeal.main_arg1) = m ((c.tc : Thread Cert.ProjRestIdeal.nD Cert.ProjRestIdeal.τ).loc Cert.ProjRestIdeal.main_arg1)
          ∧ r.2.mem ((c.tc : Thread Cert.ProjRestIdeal.nD Cert.ProjRestIdeal.τ).loc Cert.ProjRestIdeal.main_arg2) = m ((c.tc : Thread Cert.ProjRestIdeal.nD Cert.ProjRestIdeal.τ).loc Cert.ProjRestIdeal.main_arg2)
          ∧ r.2.mem ((c.tc : Thread Cert.ProjRestIdeal.nD Cert.ProjRestIdeal.τ).loc Cert.ProjRestIdeal.main_arg3) = m ((c.tc : Thread Cert.ProjRestIdeal.nD Cert.ProjRestIdeal.τ).loc Cert.ProjRestIdeal.main_arg3))
      ∧ θ_run (Cert.ProjRestRefIdeal.defs (F := Ideal)) (onTc (τ := Cert.ProjRestRefIdeal.τ) (Cert.ProjRestRefIdeal.main (F := Ideal))) ⟨m', fun _ => 0, g'⟩ (fun r => ∀ c : Dev Cert.ProjRestRefIdeal.nD,
          r.2.mem ((c.tc : Thread Cert.ProjRestRefIdeal.nD Cert.ProjRestRefIdeal.τ).loc Cert.ProjRestRefIdeal.main_v32) = v0 c
          ∧ r.2.mem ((c.tc : Thread Cert.ProjRestRefIdeal.nD Cert.ProjRestRefIdeal.τ).loc Cert.ProjRestRefIdeal.main_v34) = v1 c
          ∧ r.2.mem ((c.tc : Thread Cert.ProjRestRefIdeal.nD Cert.ProjRestRefIdeal.τ).loc Cert.ProjRestRefIdeal.main_arg0) = m' ((c.tc : Thread Cert.ProjRestRefIdeal.nD Cert.ProjRestRefIdeal.τ).loc Cert.ProjRestRefIdeal.main_arg0)
          ∧ r.2.mem ((c.tc : Thread Cert.ProjRestRefIdeal.nD Cert.ProjRestRefIdeal.τ).loc Cert.ProjRestRefIdeal.main_arg1) = m' ((c.tc : Thread Cert.ProjRestRefIdeal.nD Cert.ProjRestRefIdeal.τ).loc Cert.ProjRestRefIdeal.main_arg1)
          ∧ r.2.mem ((c.tc : Thread Cert.ProjRestRefIdeal.nD Cert.ProjRestRefIdeal.τ).loc Cert.ProjRestRefIdeal.main_arg2) = m' ((c.tc : Thread Cert.ProjRestRefIdeal.nD Cert.ProjRestRefIdeal.τ).loc Cert.ProjRestRefIdeal.main_arg2)
          ∧ r.2.mem ((c.tc : Thread Cert.ProjRestRefIdeal.nD Cert.ProjRestRefIdeal.τ).loc Cert.ProjRestRefIdeal.main_arg3) = m' ((c.tc : Thread Cert.ProjRestRefIdeal.nD Cert.ProjRestRefIdeal.τ).loc Cert.ProjRestRefIdeal.main_arg3))

def preserves_ProjA_ProjAIdeal : Prop :=
  True

def algebraic_ProjAIdeal_ProjARefIdeal [hProjAIdeal : Cert.ProjAIdeal.Facts] [hProjARefIdeal : Cert.ProjARefIdeal.Facts] : Prop :=
  ∀ (m : (ℓ : Loc Cert.ProjAIdeal.nD Cert.ProjAIdeal.τ Cert.ProjAIdeal.sig) → Buf (Elt Ideal) ℓ) (g : Dev Cert.ProjAIdeal.nD → PrngReg)
    (m' : (ℓ : Loc Cert.ProjARefIdeal.nD Cert.ProjARefIdeal.τ Cert.ProjARefIdeal.sig) → Buf (Elt Ideal) ℓ) (g' : Dev Cert.ProjARefIdeal.nD → PrngReg), Pre_ProjAIdeal m →
    (∀ c : Dev Cert.ProjAIdeal.nD,
      m' ((c.tc : Thread Cert.ProjARefIdeal.nD Cert.ProjARefIdeal.τ).loc Cert.ProjARefIdeal.main_arg0) = m ((c.tc : Thread Cert.ProjAIdeal.nD Cert.ProjAIdeal.τ).loc Cert.ProjAIdeal.main_arg0)
      ∧ m' ((c.tc : Thread Cert.ProjARefIdeal.nD Cert.ProjARefIdeal.τ).loc Cert.ProjARefIdeal.main_arg1) = m ((c.tc : Thread Cert.ProjAIdeal.nD Cert.ProjAIdeal.τ).loc Cert.ProjAIdeal.main_arg1)
      ∧ m' ((c.tc : Thread Cert.ProjARefIdeal.nD Cert.ProjARefIdeal.τ).loc Cert.ProjARefIdeal.main_arg2) = m ((c.tc : Thread Cert.ProjAIdeal.nD Cert.ProjAIdeal.τ).loc Cert.ProjAIdeal.main_arg2)
      ∧ m' ((c.tc : Thread Cert.ProjARefIdeal.nD Cert.ProjARefIdeal.τ).loc Cert.ProjARefIdeal.main_arg3) = m ((c.tc : Thread Cert.ProjAIdeal.nD Cert.ProjAIdeal.τ).loc Cert.ProjAIdeal.main_arg3)
      ∧ m' ((c.tc : Thread Cert.ProjARefIdeal.nD Cert.ProjARefIdeal.τ).loc Cert.ProjARefIdeal.main_arg4) = m ((c.tc : Thread Cert.ProjAIdeal.nD Cert.ProjAIdeal.τ).loc Cert.ProjAIdeal.main_arg4)) →
    ∃ (v0 : (c : Dev Cert.ProjAIdeal.nD) → Buf (Elt Ideal) ((c.tc : Thread Cert.ProjAIdeal.nD Cert.ProjAIdeal.τ).loc Cert.ProjAIdeal.main_v29_0)) (v1 : (c : Dev Cert.ProjAIdeal.nD) → Buf (Elt Ideal) ((c.tc : Thread Cert.ProjAIdeal.nD Cert.ProjAIdeal.τ).loc Cert.ProjAIdeal.main_v29_1)) (v2 : (c : Dev Cert.ProjAIdeal.nD) → Buf (Elt Ideal) ((c.tc : Thread Cert.ProjAIdeal.nD Cert.ProjAIdeal.τ).loc Cert.ProjAIdeal.main_v29_2)) (v3 : (c : Dev Cert.ProjAIdeal.nD) → Buf (Elt Ideal) ((c.tc : Thread Cert.ProjAIdeal.nD Cert.ProjAIdeal.τ).loc Cert.ProjAIdeal.main_v29_3)) (v4 : (c : Dev Cert.ProjAIdeal.nD) → Buf (Elt Ideal) ((c.tc : Thread Cert.ProjAIdeal.nD Cert.ProjAIdeal.τ).loc Cert.ProjAIdeal.main_v29_4)) (v5 : (c : Dev Cert.ProjAIdeal.nD) → Buf (Elt Ideal) ((c.tc : Thread Cert.ProjAIdeal.nD Cert.ProjAIdeal.τ).loc Cert.ProjAIdeal.main_v29_5)) (v6 : (c : Dev Cert.ProjAIdeal.nD) → Buf (Elt Ideal) ((c.tc : Thread Cert.ProjAIdeal.nD Cert.ProjAIdeal.τ).loc Cert.ProjAIdeal.main_v29_6)) (v7 : (c : Dev Cert.ProjAIdeal.nD) → Buf (Elt Ideal) ((c.tc : Thread Cert.ProjAIdeal.nD Cert.ProjAIdeal.τ).loc Cert.ProjAIdeal.main_v29_7)) (v8 : (c : Dev Cert.ProjAIdeal.nD) → Buf (Elt Ideal) ((c.tc : Thread Cert.ProjAIdeal.nD Cert.ProjAIdeal.τ).loc Cert.ProjAIdeal.main_v29_8)),
      θ_run (Cert.ProjAIdeal.defs (F := Ideal)) (onTc (τ := Cert.ProjAIdeal.τ) (Cert.ProjAIdeal.main (F := Ideal))) ⟨m, fun _ => 0, g⟩ (fun r => ∀ c : Dev Cert.ProjAIdeal.nD,
          r.2.mem ((c.tc : Thread Cert.ProjAIdeal.nD Cert.ProjAIdeal.τ).loc Cert.ProjAIdeal.main_v29_0) = v0 c
          ∧ r.2.mem ((c.tc : Thread Cert.ProjAIdeal.nD Cert.ProjAIdeal.τ).loc Cert.ProjAIdeal.main_v29_1) = v1 c
          ∧ r.2.mem ((c.tc : Thread Cert.ProjAIdeal.nD Cert.ProjAIdeal.τ).loc Cert.ProjAIdeal.main_v29_2) = v2 c
          ∧ r.2.mem ((c.tc : Thread Cert.ProjAIdeal.nD Cert.ProjAIdeal.τ).loc Cert.ProjAIdeal.main_v29_3) = v3 c
          ∧ r.2.mem ((c.tc : Thread Cert.ProjAIdeal.nD Cert.ProjAIdeal.τ).loc Cert.ProjAIdeal.main_v29_4) = v4 c
          ∧ r.2.mem ((c.tc : Thread Cert.ProjAIdeal.nD Cert.ProjAIdeal.τ).loc Cert.ProjAIdeal.main_v29_5) = v5 c
          ∧ r.2.mem ((c.tc : Thread Cert.ProjAIdeal.nD Cert.ProjAIdeal.τ).loc Cert.ProjAIdeal.main_v29_6) = v6 c
          ∧ r.2.mem ((c.tc : Thread Cert.ProjAIdeal.nD Cert.ProjAIdeal.τ).loc Cert.ProjAIdeal.main_v29_7) = v7 c
          ∧ r.2.mem ((c.tc : Thread Cert.ProjAIdeal.nD Cert.ProjAIdeal.τ).loc Cert.ProjAIdeal.main_v29_8) = v8 c
          ∧ r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
          ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1)
          ∧ r.2.mem ((c.tc : Thread Cert.ProjAIdeal.nD Cert.ProjAIdeal.τ).loc Cert.ProjAIdeal.main_arg2) = m ((c.tc : Thread Cert.ProjAIdeal.nD Cert.ProjAIdeal.τ).loc Cert.ProjAIdeal.main_arg2)
          ∧ r.2.mem ((c.tc : Thread Cert.ProjAIdeal.nD Cert.ProjAIdeal.τ).loc Cert.ProjAIdeal.main_arg3) = m ((c.tc : Thread Cert.ProjAIdeal.nD Cert.ProjAIdeal.τ).loc Cert.ProjAIdeal.main_arg3)
          ∧ r.2.mem ((c.tc : Thread Cert.ProjAIdeal.nD Cert.ProjAIdeal.τ).loc Cert.ProjAIdeal.main_arg4) = m ((c.tc : Thread Cert.ProjAIdeal.nD Cert.ProjAIdeal.τ).loc Cert.ProjAIdeal.main_arg4))
      ∧ θ_run (Cert.ProjARefIdeal.defs (F := Ideal)) (onTc (τ := Cert.ProjARefIdeal.τ) (Cert.ProjARefIdeal.main (F := Ideal))) ⟨m', fun _ => 0, g'⟩ (fun r => ∀ c : Dev Cert.ProjARefIdeal.nD,
          r.2.mem ((c.tc : Thread Cert.ProjARefIdeal.nD Cert.ProjARefIdeal.τ).loc Cert.ProjARefIdeal.main_v179) = v0 c
          ∧ r.2.mem ((c.tc : Thread Cert.ProjARefIdeal.nD Cert.ProjARefIdeal.τ).loc Cert.ProjARefIdeal.main_v175) = v1 c
          ∧ r.2.mem ((c.tc : Thread Cert.ProjARefIdeal.nD Cert.ProjARefIdeal.τ).loc Cert.ProjARefIdeal.main_v176) = v2 c
          ∧ r.2.mem ((c.tc : Thread Cert.ProjARefIdeal.nD Cert.ProjARefIdeal.τ).loc Cert.ProjARefIdeal.main_v181) = v3 c
          ∧ r.2.mem ((c.tc : Thread Cert.ProjARefIdeal.nD Cert.ProjARefIdeal.τ).loc Cert.ProjARefIdeal.main_v183) = v4 c
          ∧ r.2.mem ((c.tc : Thread Cert.ProjARefIdeal.nD Cert.ProjARefIdeal.τ).loc Cert.ProjARefIdeal.main_v185) = v5 c
          ∧ r.2.mem ((c.tc : Thread Cert.ProjARefIdeal.nD Cert.ProjARefIdeal.τ).loc Cert.ProjARefIdeal.main_v177) = v6 c
          ∧ r.2.mem ((c.tc : Thread Cert.ProjARefIdeal.nD Cert.ProjARefIdeal.τ).loc Cert.ProjARefIdeal.main_v186) = v7 c
          ∧ r.2.mem ((c.tc : Thread Cert.ProjARefIdeal.nD Cert.ProjARefIdeal.τ).loc Cert.ProjARefIdeal.main_v187) = v8 c
          ∧ r.2.mem ((c.tc : Thread Cert.ProjARefIdeal.nD Cert.ProjARefIdeal.τ).loc Cert.ProjARefIdeal.main_arg0) = m' ((c.tc : Thread Cert.ProjARefIdeal.nD Cert.ProjARefIdeal.τ).loc Cert.ProjARefIdeal.main_arg0)
          ∧ r.2.mem ((c.tc : Thread Cert.ProjARefIdeal.nD Cert.ProjARefIdeal.τ).loc Cert.ProjARefIdeal.main_arg1) = m' ((c.tc : Thread Cert.ProjARefIdeal.nD Cert.ProjARefIdeal.τ).loc Cert.ProjARefIdeal.main_arg1)
          ∧ r.2.mem ((c.tc : Thread Cert.ProjARefIdeal.nD Cert.ProjARefIdeal.τ).loc Cert.ProjARefIdeal.main_arg2) = m' ((c.tc : Thread Cert.ProjARefIdeal.nD Cert.ProjARefIdeal.τ).loc Cert.ProjARefIdeal.main_arg2)
          ∧ r.2.mem ((c.tc : Thread Cert.ProjARefIdeal.nD Cert.ProjARefIdeal.τ).loc Cert.ProjARefIdeal.main_arg3) = m' ((c.tc : Thread Cert.ProjARefIdeal.nD Cert.ProjARefIdeal.τ).loc Cert.ProjARefIdeal.main_arg3)
          ∧ r.2.mem ((c.tc : Thread Cert.ProjARefIdeal.nD Cert.ProjARefIdeal.τ).loc Cert.ProjARefIdeal.main_arg4) = m' ((c.tc : Thread Cert.ProjARefIdeal.nD Cert.ProjARefIdeal.τ).loc Cert.ProjARefIdeal.main_arg4))

def preserves_ProjS_ProjSIdeal : Prop :=
  True

def algebraic_ProjSIdeal_ProjSRefIdeal [hProjSIdeal : Cert.ProjSIdeal.Facts] [hProjSRefIdeal : Cert.ProjSRefIdeal.Facts] : Prop :=
  ∀ (m : (ℓ : Loc Cert.ProjSIdeal.nD Cert.ProjSIdeal.τ Cert.ProjSIdeal.sig) → Buf (Elt Ideal) ℓ) (g : Dev Cert.ProjSIdeal.nD → PrngReg)
    (m' : (ℓ : Loc Cert.ProjSRefIdeal.nD Cert.ProjSRefIdeal.τ Cert.ProjSRefIdeal.sig) → Buf (Elt Ideal) ℓ) (g' : Dev Cert.ProjSRefIdeal.nD → PrngReg), Pre_ProjSIdeal m →
    (∀ c : Dev Cert.ProjSIdeal.nD,
      m' ((c.tc : Thread Cert.ProjSRefIdeal.nD Cert.ProjSRefIdeal.τ).loc Cert.ProjSRefIdeal.main_arg0) = m ((c.tc : Thread Cert.ProjSIdeal.nD Cert.ProjSIdeal.τ).loc Cert.ProjSIdeal.main_arg0)
      ∧ m' ((c.tc : Thread Cert.ProjSRefIdeal.nD Cert.ProjSRefIdeal.τ).loc Cert.ProjSRefIdeal.main_arg1) = m ((c.tc : Thread Cert.ProjSIdeal.nD Cert.ProjSIdeal.τ).loc Cert.ProjSIdeal.main_arg1)
      ∧ m' ((c.tc : Thread Cert.ProjSRefIdeal.nD Cert.ProjSRefIdeal.τ).loc Cert.ProjSRefIdeal.main_arg2) = m ((c.tc : Thread Cert.ProjSIdeal.nD Cert.ProjSIdeal.τ).loc Cert.ProjSIdeal.main_arg2)
      ∧ m' ((c.tc : Thread Cert.ProjSRefIdeal.nD Cert.ProjSRefIdeal.τ).loc Cert.ProjSRefIdeal.main_arg3) = m ((c.tc : Thread Cert.ProjSIdeal.nD Cert.ProjSIdeal.τ).loc Cert.ProjSIdeal.main_arg3)
      ∧ m' ((c.tc : Thread Cert.ProjSRefIdeal.nD Cert.ProjSRefIdeal.τ).loc Cert.ProjSRefIdeal.main_arg4) = m ((c.tc : Thread Cert.ProjSIdeal.nD Cert.ProjSIdeal.τ).loc Cert.ProjSIdeal.main_arg4)) →
    ∃ (v0 : (c : Dev Cert.ProjSIdeal.nD) → Buf (Elt Ideal) ((c.tc : Thread Cert.ProjSIdeal.nD Cert.ProjSIdeal.τ).loc Cert.ProjSIdeal.main_v38_0)) (v1 : (c : Dev Cert.ProjSIdeal.nD) → Buf (Elt Ideal) ((c.tc : Thread Cert.ProjSIdeal.nD Cert.ProjSIdeal.τ).loc Cert.ProjSIdeal.main_v38_1)) (v2 : (c : Dev Cert.ProjSIdeal.nD) → Buf (Elt Ideal) ((c.tc : Thread Cert.ProjSIdeal.nD Cert.ProjSIdeal.τ).loc Cert.ProjSIdeal.main_v38_2)) (v3 : (c : Dev Cert.ProjSIdeal.nD) → Buf (Elt Ideal) ((c.tc : Thread Cert.ProjSIdeal.nD Cert.ProjSIdeal.τ).loc Cert.ProjSIdeal.main_v38_3)) (v4 : (c : Dev Cert.ProjSIdeal.nD) → Buf (Elt Ideal) ((c.tc : Thread Cert.ProjSIdeal.nD Cert.ProjSIdeal.τ).loc Cert.ProjSIdeal.main_v38_4)) (v5 : (c : Dev Cert.ProjSIdeal.nD) → Buf (Elt Ideal) ((c.tc : Thread Cert.ProjSIdeal.nD Cert.ProjSIdeal.τ).loc Cert.ProjSIdeal.main_v38_5)) (v6 : (c : Dev Cert.ProjSIdeal.nD) → Buf (Elt Ideal) ((c.tc : Thread Cert.ProjSIdeal.nD Cert.ProjSIdeal.τ).loc Cert.ProjSIdeal.main_v38_6)) (v7 : (c : Dev Cert.ProjSIdeal.nD) → Buf (Elt Ideal) ((c.tc : Thread Cert.ProjSIdeal.nD Cert.ProjSIdeal.τ).loc Cert.ProjSIdeal.main_v38_7)) (v8 : (c : Dev Cert.ProjSIdeal.nD) → Buf (Elt Ideal) ((c.tc : Thread Cert.ProjSIdeal.nD Cert.ProjSIdeal.τ).loc Cert.ProjSIdeal.main_v38_8)),
      θ_run (Cert.ProjSIdeal.defs (F := Ideal)) (onTc (τ := Cert.ProjSIdeal.τ) (Cert.ProjSIdeal.main (F := Ideal))) ⟨m, fun _ => 0, g⟩ (fun r => ∀ c : Dev Cert.ProjSIdeal.nD,
          r.2.mem ((c.tc : Thread Cert.ProjSIdeal.nD Cert.ProjSIdeal.τ).loc Cert.ProjSIdeal.main_v38_0) = v0 c
          ∧ r.2.mem ((c.tc : Thread Cert.ProjSIdeal.nD Cert.ProjSIdeal.τ).loc Cert.ProjSIdeal.main_v38_1) = v1 c
          ∧ r.2.mem ((c.tc : Thread Cert.ProjSIdeal.nD Cert.ProjSIdeal.τ).loc Cert.ProjSIdeal.main_v38_2) = v2 c
          ∧ r.2.mem ((c.tc : Thread Cert.ProjSIdeal.nD Cert.ProjSIdeal.τ).loc Cert.ProjSIdeal.main_v38_3) = v3 c
          ∧ r.2.mem ((c.tc : Thread Cert.ProjSIdeal.nD Cert.ProjSIdeal.τ).loc Cert.ProjSIdeal.main_v38_4) = v4 c
          ∧ r.2.mem ((c.tc : Thread Cert.ProjSIdeal.nD Cert.ProjSIdeal.τ).loc Cert.ProjSIdeal.main_v38_5) = v5 c
          ∧ r.2.mem ((c.tc : Thread Cert.ProjSIdeal.nD Cert.ProjSIdeal.τ).loc Cert.ProjSIdeal.main_v38_6) = v6 c
          ∧ r.2.mem ((c.tc : Thread Cert.ProjSIdeal.nD Cert.ProjSIdeal.τ).loc Cert.ProjSIdeal.main_v38_7) = v7 c
          ∧ r.2.mem ((c.tc : Thread Cert.ProjSIdeal.nD Cert.ProjSIdeal.τ).loc Cert.ProjSIdeal.main_v38_8) = v8 c
          ∧ r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
          ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
          ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2)
          ∧ r.2.mem ((c.tc : Thread Cert.ProjSIdeal.nD Cert.ProjSIdeal.τ).loc Cert.ProjSIdeal.main_arg3) = m ((c.tc : Thread Cert.ProjSIdeal.nD Cert.ProjSIdeal.τ).loc Cert.ProjSIdeal.main_arg3)
          ∧ r.2.mem ((c.tc : Thread Cert.ProjSIdeal.nD Cert.ProjSIdeal.τ).loc Cert.ProjSIdeal.main_arg4) = m ((c.tc : Thread Cert.ProjSIdeal.nD Cert.ProjSIdeal.τ).loc Cert.ProjSIdeal.main_arg4))
      ∧ θ_run (Cert.ProjSRefIdeal.defs (F := Ideal)) (onTc (τ := Cert.ProjSRefIdeal.τ) (Cert.ProjSRefIdeal.main (F := Ideal))) ⟨m', fun _ => 0, g'⟩ (fun r => ∀ c : Dev Cert.ProjSRefIdeal.nD,
          r.2.mem ((c.tc : Thread Cert.ProjSRefIdeal.nD Cert.ProjSRefIdeal.τ).loc Cert.ProjSRefIdeal.main_v182) = v0 c
          ∧ r.2.mem ((c.tc : Thread Cert.ProjSRefIdeal.nD Cert.ProjSRefIdeal.τ).loc Cert.ProjSRefIdeal.main_v178) = v1 c
          ∧ r.2.mem ((c.tc : Thread Cert.ProjSRefIdeal.nD Cert.ProjSRefIdeal.τ).loc Cert.ProjSRefIdeal.main_v179) = v2 c
          ∧ r.2.mem ((c.tc : Thread Cert.ProjSRefIdeal.nD Cert.ProjSRefIdeal.τ).loc Cert.ProjSRefIdeal.main_v184) = v3 c
          ∧ r.2.mem ((c.tc : Thread Cert.ProjSRefIdeal.nD Cert.ProjSRefIdeal.τ).loc Cert.ProjSRefIdeal.main_v186) = v4 c
          ∧ r.2.mem ((c.tc : Thread Cert.ProjSRefIdeal.nD Cert.ProjSRefIdeal.τ).loc Cert.ProjSRefIdeal.main_v188) = v5 c
          ∧ r.2.mem ((c.tc : Thread Cert.ProjSRefIdeal.nD Cert.ProjSRefIdeal.τ).loc Cert.ProjSRefIdeal.main_v180) = v6 c
          ∧ r.2.mem ((c.tc : Thread Cert.ProjSRefIdeal.nD Cert.ProjSRefIdeal.τ).loc Cert.ProjSRefIdeal.main_v189) = v7 c
          ∧ r.2.mem ((c.tc : Thread Cert.ProjSRefIdeal.nD Cert.ProjSRefIdeal.τ).loc Cert.ProjSRefIdeal.main_v190) = v8 c
          ∧ r.2.mem ((c.tc : Thread Cert.ProjSRefIdeal.nD Cert.ProjSRefIdeal.τ).loc Cert.ProjSRefIdeal.main_arg0) = m' ((c.tc : Thread Cert.ProjSRefIdeal.nD Cert.ProjSRefIdeal.τ).loc Cert.ProjSRefIdeal.main_arg0)
          ∧ r.2.mem ((c.tc : Thread Cert.ProjSRefIdeal.nD Cert.ProjSRefIdeal.τ).loc Cert.ProjSRefIdeal.main_arg1) = m' ((c.tc : Thread Cert.ProjSRefIdeal.nD Cert.ProjSRefIdeal.τ).loc Cert.ProjSRefIdeal.main_arg1)
          ∧ r.2.mem ((c.tc : Thread Cert.ProjSRefIdeal.nD Cert.ProjSRefIdeal.τ).loc Cert.ProjSRefIdeal.main_arg2) = m' ((c.tc : Thread Cert.ProjSRefIdeal.nD Cert.ProjSRefIdeal.τ).loc Cert.ProjSRefIdeal.main_arg2)
          ∧ r.2.mem ((c.tc : Thread Cert.ProjSRefIdeal.nD Cert.ProjSRefIdeal.τ).loc Cert.ProjSRefIdeal.main_arg3) = m' ((c.tc : Thread Cert.ProjSRefIdeal.nD Cert.ProjSRefIdeal.τ).loc Cert.ProjSRefIdeal.main_arg3)
          ∧ r.2.mem ((c.tc : Thread Cert.ProjSRefIdeal.nD Cert.ProjSRefIdeal.τ).loc Cert.ProjSRefIdeal.main_arg4) = m' ((c.tc : Thread Cert.ProjSRefIdeal.nD Cert.ProjSRefIdeal.τ).loc Cert.ProjSRefIdeal.main_arg4))

def preserves_Dsa_DsaIdeal : Prop :=
  True

def Claim : Prop :=
  ∃ (hMerge : Cert.Merge.Facts) (hMergeIdeal : Cert.MergeIdeal.Facts) (hMergeRefIdeal : Cert.MergeRefIdeal.Facts) (hMemKV : Cert.MemKV.Facts) (hMemKVIdeal : Cert.MemKVIdeal.Facts) (hMemKVRefIdeal : Cert.MemKVRefIdeal.Facts) (hProjRest : Cert.ProjRest.Facts) (hProjRestIdeal : Cert.ProjRestIdeal.Facts) (hProjRestRefIdeal : Cert.ProjRestRefIdeal.Facts) (hProjA : Cert.ProjA.Facts) (hProjAIdeal : Cert.ProjAIdeal.Facts) (hProjARefIdeal : Cert.ProjARefIdeal.Facts) (hProjS : Cert.ProjS.Facts) (hProjSIdeal : Cert.ProjSIdeal.Facts) (hProjSRefIdeal : Cert.ProjSRefIdeal.Facts) (hDsa : Cert.Dsa.Facts) (hDsaIdeal : Cert.DsaIdeal.Facts) (hPre_finite_scores : Cert.Pre_finite_scores.Facts),
    quiescent_Merge (hMerge := hMerge)
    ∧ quiescent_MergeIdeal (hMergeIdeal := hMergeIdeal)
    ∧ quiescent_MergeIdeal_pre_finite_scores (hMergeIdeal := hMergeIdeal) (hPre_finite_scores := hPre_finite_scores)
    ∧ quiescent_MergeRefIdeal (hMergeRefIdeal := hMergeRefIdeal)
    ∧ quiescent_MergeRefIdeal_pre_finite_scores (hMergeRefIdeal := hMergeRefIdeal) (hPre_finite_scores := hPre_finite_scores)
    ∧ quiescent_MemKV (hMemKV := hMemKV)
    ∧ quiescent_MemKVIdeal (hMemKVIdeal := hMemKVIdeal)
    ∧ quiescent_MemKVRefIdeal (hMemKVRefIdeal := hMemKVRefIdeal)
    ∧ quiescent_ProjRest (hProjRest := hProjRest)
    ∧ quiescent_ProjRestIdeal (hProjRestIdeal := hProjRestIdeal)
    ∧ quiescent_ProjRestRefIdeal (hProjRestRefIdeal := hProjRestRefIdeal)
    ∧ quiescent_ProjA (hProjA := hProjA)
    ∧ quiescent_ProjAIdeal (hProjAIdeal := hProjAIdeal)
    ∧ quiescent_ProjARefIdeal (hProjARefIdeal := hProjARefIdeal)
    ∧ quiescent_ProjS (hProjS := hProjS)
    ∧ quiescent_ProjSIdeal (hProjSIdeal := hProjSIdeal)
    ∧ quiescent_ProjSRefIdeal (hProjSRefIdeal := hProjSRefIdeal)
    ∧ quiescent_Dsa (hDsa := hDsa)
    ∧ quiescent_DsaIdeal (hDsaIdeal := hDsaIdeal)
    ∧ preserves_Merge_MergeIdeal
    ∧ algebraic_MergeIdeal_MergeRefIdeal_pre_finite_scores (hMergeIdeal := hMergeIdeal) (hMergeRefIdeal := hMergeRefIdeal) (hPre_finite_scores := hPre_finite_scores)
    ∧ preserves_MemKV_MemKVIdeal
    ∧ algebraic_MemKVIdeal_MemKVRefIdeal (hMemKVIdeal := hMemKVIdeal) (hMemKVRefIdeal := hMemKVRefIdeal)
    ∧ preserves_ProjRest_ProjRestIdeal
    ∧ algebraic_ProjRestIdeal_ProjRestRefIdeal (hProjRestIdeal := hProjRestIdeal) (hProjRestRefIdeal := hProjRestRefIdeal)
    ∧ preserves_ProjA_ProjAIdeal
    ∧ algebraic_ProjAIdeal_ProjARefIdeal (hProjAIdeal := hProjAIdeal) (hProjARefIdeal := hProjARefIdeal)
    ∧ preserves_ProjS_ProjSIdeal
    ∧ algebraic_ProjSIdeal_ProjSRefIdeal (hProjSIdeal := hProjSIdeal) (hProjSRefIdeal := hProjSRefIdeal)
    ∧ preserves_Dsa_DsaIdeal
-- ==== Pre_finite_scores.lean ====
abbrev S2x4096x2048 : Shape := ⟨3, ![2, 4096, 2048]⟩
abbrev S2x4096x1024 : Shape := ⟨3, ![2, 4096, 1024]⟩
abbrev S2x4096x12288 : Shape := ⟨3, ![2, 4096, 12288]⟩
abbrev S2x256x4x256 : Shape := ⟨4, ![2, 256, 4, 256]⟩
abbrev S8x128x128 : Shape := ⟨3, ![8, 128, 128]⟩
abbrev S8x128 : Shape := ⟨2, ![8, 128]⟩
abbrev S1024 : Shape := ⟨1, ![1024]⟩
abbrev S256 : Shape := ⟨1, ![256]⟩
abbrev S1024x2048 : Shape := ⟨2, ![1024, 2048]⟩
abbrev S2048x2048 : Shape := ⟨2, ![2048, 2048]⟩
abbrev S_ : Shape := ⟨0, ![]⟩

class Facts : Prop where
  slices_S2x4096x12288_S2x4096x1024_0_0_4096 : S2x4096x12288.Slices ![0, 0, 4096] S2x4096x1024
  bcast_S_S2x4096x1024 : S_.BroadcastsInDim S2x4096x1024 (![] : Fin 0 → Fin S2x4096x1024.rank)
  bcast_S_S2x256x4x256 : S_.BroadcastsInDim S2x256x4x256 (![] : Fin 0 → Fin S2x256x4x256.rank)
  bcast_S_S256 : S_.BroadcastsInDim S256 (![] : Fin 0 → Fin S256.rank)

variable [Facts]

def fn {F : FTy → Type} [FloatOps F] (main_arg0 : FVec F S2x4096x2048 .f32) (main_arg1 : FVec F S2x4096x1024 .f32) (main_arg2 : FVec F S2x4096x12288 .f32) (main_arg3 : FVec F S2x256x4x256 .f32) (main_arg4 : FVec F S2x256x4x256 .f32) (main_arg5 : FVec F S8x128x128 .f32) (main_arg6 : FVec F S8x128 .f32) (main_arg7 : FVec F S1024 .f32) (main_arg8 : FVec F S256 .f32) (main_arg9 : FVec F S1024x2048 .f32) (main_arg10 : FVec F S1024x2048 .f32) (main_arg11 : FVec F S1024x2048 .f32) (main_arg12 : FVec F S2048x2048 .f32) : IVec S2x4096x1024 1 × IVec S2x256x4x256 1 × IVec S256 1 :=
  let main_v0 : FVec F S2x4096x1024 .f32 := (extractStridedSlice S2x4096x1024 ![0, 0, 4096] · slices_S2x4096x12288_S2x4096x1024_0_0_4096) main_arg2
  let main_v1 : FVec F S2x4096x1024 .f32 := Host.absf main_v0
  let main_cst : FVec F S_ .f32 := constant S_ .f32 0x7F800000#32
  let main_v2 : FVec F S2x4096x1024 .f32 := broadcastInDim S2x4096x1024 ![] bcast_S_S2x4096x1024 main_cst
  let main_v3 : IVec S2x4096x1024 1 := cmpf .olt main_v1 main_v2
  let main_v4 : FVec F S2x256x4x256 .f32 := Host.absf main_arg3
  let main_cst_0 : FVec F S_ .f32 := constant S_ .f32 0x7F800000#32
  let main_v5 : FVec F S2x256x4x256 .f32 := broadcastInDim S2x256x4x256 ![] bcast_S_S2x256x4x256 main_cst_0
  let main_v6 : IVec S2x256x4x256 1 := cmpf .olt main_v4 main_v5
  let main_v7 : FVec F S256 .f32 := Host.absf main_arg8
  let main_cst_1 : FVec F S_ .f32 := constant S_ .f32 0x7F800000#32
  let main_v8 : FVec F S256 .f32 := broadcastInDim S256 ![] bcast_S_S256 main_cst_1
  let main_v9 : IVec S256 1 := cmpf .olt main_v7 main_v8
  (main_v3, main_v6, main_v9)
-- ==== Merge.lean ====
abbrev S2x4096x2048 : Shape := ⟨3, ![2, 4096, 2048]⟩
abbrev S2x4096x1024 : Shape := ⟨3, ![2, 4096, 1024]⟩
abbrev S2x4096x12288 : Shape := ⟨3, ![2, 4096, 12288]⟩
abbrev S2x256x4x256 : Shape := ⟨4, ![2, 256, 4, 256]⟩
abbrev S8x128x128 : Shape := ⟨3, ![8, 128, 128]⟩
abbrev S8x128 : Shape := ⟨2, ![8, 128]⟩
abbrev S1024 : Shape := ⟨1, ![1024]⟩
abbrev S256 : Shape := ⟨1, ![256]⟩
abbrev S1024x2048 : Shape := ⟨2, ![1024, 2048]⟩
abbrev S2048x2048 : Shape := ⟨2, ![2048, 2048]⟩
abbrev S8192x2048 : Shape := ⟨2, ![8192, 2048]⟩
abbrev S8192x1024 : Shape := ⟨2, ![8192, 1024]⟩
abbrev S8192x12288 : Shape := ⟨2, ![8192, 12288]⟩
abbrev S512x1024 : Shape := ⟨2, ![512, 1024]⟩
abbrev S128x8 : Shape := ⟨2, ![128, 8]⟩
abbrev S1x1024 : Shape := ⟨2, ![1, 1024]⟩
abbrev S1x256 : Shape := ⟨2, ![1, 256]⟩
abbrev S256x2048 : Shape := ⟨2, ![256, 2048]⟩
abbrev S256x1024 : Shape := ⟨2, ![256, 1024]⟩
abbrev S256x1 : Shape := ⟨2, ![256, 1]⟩
abbrev S128x128 : Shape := ⟨2, ![128, 128]⟩
abbrev S1x128x128 : Shape := ⟨3, ![1, 128, 128]⟩
abbrev S128x1 : Shape := ⟨2, ![128, 1]⟩
abbrev S256x128 : Shape := ⟨2, ![256, 128]⟩
abbrev S256x256 : Shape := ⟨2, ![256, 256]⟩

abbrev nBuf : Space → Nat
  | .hbm => 30
  | .vmem => 36
  | .smem => 0
  | _ => 0

abbrev bufTy : (tb : Table) → Fin (tcTables nBuf tb) → BufTy
  | .hbm, ⟨0, _⟩ => ⟨S2x4096x2048, .f32⟩
  | .hbm, ⟨1, _⟩ => ⟨S2x4096x1024, .f32⟩
  | .hbm, ⟨2, _⟩ => ⟨S2x4096x12288, .f32⟩
  | .hbm, ⟨3, _⟩ => ⟨S2x256x4x256, .f32⟩
  | .hbm, ⟨4, _⟩ => ⟨S2x256x4x256, .f32⟩
  | .hbm, ⟨5, _⟩ => ⟨S8x128x128, .f32⟩
  | .hbm, ⟨6, _⟩ => ⟨S8x128, .f32⟩
  | .hbm, ⟨7, _⟩ => ⟨S1024, .f32⟩
  | .hbm, ⟨8, _⟩ => ⟨S256, .f32⟩
  | .hbm, ⟨9, _⟩ => ⟨S1024x2048, .f32⟩
  | .hbm, ⟨10, _⟩ => ⟨S1024x2048, .f32⟩
  | .hbm, ⟨11, _⟩ => ⟨S1024x2048, .f32⟩
  | .hbm, ⟨12, _⟩ => ⟨S2048x2048, .f32⟩
  | .hbm, ⟨13, _⟩ => ⟨S8192x2048, .f32⟩
  | .hbm, ⟨14, _⟩ => ⟨S8192x1024, .f32⟩
  | .hbm, ⟨15, _⟩ => ⟨S8192x1024, .bf16⟩
  | .hbm, ⟨16, _⟩ => ⟨S8192x12288, .f32⟩
  | .hbm, ⟨17, _⟩ => ⟨S8192x12288, .bf16⟩
  | .hbm, ⟨18, _⟩ => ⟨S512x1024, .f32⟩
  | .hbm, ⟨19, _⟩ => ⟨S512x1024, .bf16⟩
  | .hbm, ⟨20, _⟩ => ⟨S512x1024, .f32⟩
  | .hbm, ⟨21, _⟩ => ⟨S512x1024, .bf16⟩
  | .hbm, ⟨22, _⟩ => ⟨S128x8, .f32⟩
  | .hbm, ⟨23, _⟩ => ⟨S1x1024, .f32⟩
  | .hbm, ⟨24, _⟩ => ⟨S1x256, .f32⟩
  | .hbm, ⟨25, _⟩ => ⟨S1024x2048, .bf16⟩
  | .hbm, ⟨26, _⟩ => ⟨S1024x2048, .bf16⟩
  | .hbm, ⟨27, _⟩ => ⟨S1024x2048, .bf16⟩
  | .hbm, ⟨28, _⟩ => ⟨S2048x2048, .bf16⟩
  | .hbm, ⟨29, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x2048, .bf16⟩
  | .local _ .vmem, ⟨17, _⟩ => ⟨S256x2048, .bf16⟩
  | .local _ .vmem, ⟨18, _⟩ => ⟨S256x2048, .bf16⟩
  | .local _ .vmem, ⟨19, _⟩ => ⟨S256x2048, .bf16⟩
  | .local _ .vmem, ⟨20, _⟩ => ⟨S256x2048, .bf16⟩
  | .local _ .vmem, ⟨21, _⟩ => ⟨S256x2048, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S8x128x128, .f32⟩
  | .local _ .vmem, ⟨27, _⟩ => ⟨S128x8, .f32⟩
  | .local _ .vmem, ⟨28, _⟩ => ⟨S1x1024, .f32⟩
  | .local _ .vmem, ⟨29, _⟩ => ⟨S1x256, .f32⟩
  | .local _ .vmem, ⟨30, _⟩ => ⟨S1024x2048, .bf16⟩
  | .local _ .vmem, ⟨31, _⟩ => ⟨S1024x2048, .bf16⟩
  | .local _ .vmem, ⟨32, _⟩ => ⟨S1024x2048, .bf16⟩
  | .local _ .vmem, ⟨33, _⟩ => ⟨S2048x2048, .bf16⟩
  | .local _ .vmem, ⟨34, _⟩ => ⟨S256x2048, .f32⟩
  | .local _ .vmem, ⟨35, _⟩ => ⟨S256x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg14_0 : Ref sig .tc := ⟨.vmem, 27, rfl⟩
abbrev cc0_stg15_0 : Ref sig .tc := ⟨.vmem, 28, rfl⟩
abbrev cc0_stg16_0 : Ref sig .tc := ⟨.vmem, 29, rfl⟩
abbrev cc0_stg17_0 : Ref sig .tc := ⟨.vmem, 30, rfl⟩
abbrev cc0_stg18_0 : Ref sig .tc := ⟨.vmem, 31, rfl⟩
abbrev cc0_stg19_0 : Ref sig .tc := ⟨.vmem, 32, rfl⟩
abbrev cc0_stg20_0 : Ref sig .tc := ⟨.vmem, 33, rfl⟩
abbrev cc0_stg21_0 : Ref sig .tc := ⟨.vmem, 34, rfl⟩
abbrev cc0_stg21_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem14_0 : DmaSem sig := 27
abbrev cc0_sem15_0 : DmaSem sig := 28
abbrev cc0_sem16_0 : DmaSem sig := 29
abbrev cc0_sem17_0 : DmaSem sig := 30
abbrev cc0_sem18_0 : DmaSem sig := 31
abbrev cc0_sem19_0 : DmaSem sig := 32
abbrev cc0_sem20_0 : DmaSem sig := 33
abbrev cc0_sem21_0 : DmaSem sig := 34
abbrev cc0_sem21_1 : DmaSem sig := 35

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_7 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_8 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_9 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_10 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_11 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_12 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x8 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x2048 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1024x2048 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1024x2048 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S2048x2048 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S256x2048 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== MergeRefIdeal.lean ====
abbrev S2x4096x2048 : Shape := ⟨3, ![2, 4096, 2048]⟩
abbrev S2x4096x1024 : Shape := ⟨3, ![2, 4096, 1024]⟩
abbrev S2x4096x12288 : Shape := ⟨3, ![2, 4096, 12288]⟩
abbrev S2x256x4x256 : Shape := ⟨4, ![2, 256, 4, 256]⟩
abbrev S8x128x128 : Shape := ⟨3, ![8, 128, 128]⟩
abbrev S8x128 : Shape := ⟨2, ![8, 128]⟩
abbrev S1024 : Shape := ⟨1, ![1024]⟩
abbrev S256 : Shape := ⟨1, ![256]⟩
abbrev S1024x2048 : Shape := ⟨2, ![1024, 2048]⟩
abbrev S2048x2048 : Shape := ⟨2, ![2048, 2048]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S2x32x128x8x128 : Shape := ⟨5, ![2, 32, 128, 8, 128]⟩
abbrev S128x128 : Shape := ⟨2, ![128, 128]⟩
abbrev S1x128x128 : Shape := ⟨3, ![1, 128, 128]⟩
abbrev S8x2x32x128x128 : Shape := ⟨5, ![8, 2, 32, 128, 128]⟩
abbrev S128x8 : Shape := ⟨2, ![128, 8]⟩
abbrev S1x1x128x8x1 : Shape := ⟨5, ![1, 1, 128, 8, 1]⟩
abbrev S2x4096x4x256 : Shape := ⟨4, ![2, 4096, 4, 256]⟩
abbrev S2x4096x4 : Shape := ⟨3, ![2, 4096, 4]⟩
abbrev S2x4096x4x1 : Shape := ⟨4, ![2, 4096, 4, 1]⟩
abbrev S1x1x1x256 : Shape := ⟨4, ![1, 1, 1, 256]⟩
abbrev S2x4x4096x256 : Shape := ⟨4, ![2, 4, 4096, 256]⟩
abbrev S2x4x4096 : Shape := ⟨3, ![2, 4, 4096]⟩
abbrev S2x4x4096x1 : Shape := ⟨4, ![2, 4, 4096, 1]⟩
abbrev S2x4x256x4096 : Shape := ⟨4, ![2, 4, 256, 4096]⟩
abbrev S8192x2048 : Shape := ⟨2, ![8192, 2048]⟩

abbrev nBuf : Space → Nat
  | .hbm => 167
  | .vmem => 0
  | .smem => 0
  | _ => 0

abbrev hbmTy0_0 (i : Nat) : BufTy := match i % 128 with
  | 0 => ⟨S2x4096x2048, .f32⟩
  | 1 => ⟨S2x4096x1024, .f32⟩
  | 2 => ⟨S2x4096x12288, .f32⟩
  | 3 => ⟨S2x256x4x256, .f32⟩
  | 4 => ⟨S2x256x4x256, .f32⟩
  | 5 => ⟨S8x128x128, .f32⟩
  | 6 => ⟨S8x128, .f32⟩
  | 7 => ⟨S1024, .f32⟩
  | 8 => ⟨S256, .f32⟩
  | 9 => ⟨S1024x2048, .f32⟩
  | 10 => ⟨S1024x2048, .f32⟩
  | 11 => ⟨S1024x2048, .f32⟩
  | 12 => ⟨S2048x2048, .f32⟩
  | 13 => ⟨S2x4096x1024, .f32⟩
  | 14 => ⟨S2x4096x1024, .f32⟩
  | 15 => ⟨S2x4096x1024, .f32⟩
  | 16 => ⟨S2x4096x1024, .f32⟩
  | 17 => ⟨S2x4096x1024, .f32⟩
  | 18 => ⟨S2x4096x1024, .f32⟩
  | 19 => ⟨S2x4096x2048, .f32⟩
  | 20 => ⟨S2x4096x2048, .f32⟩
  | 21 => ⟨S2x4096x2048, .f32⟩
  | 22 => ⟨S2x4096x1024, .f32⟩
  | 23 => ⟨S_, .f32⟩
  | 24 => ⟨S2x4096, .f32⟩
  | 25 => ⟨S2x4096x1, .f32⟩
  | 26 => ⟨S_, .f32⟩
  | 27 => ⟨S2x4096x1, .f32⟩
  | 28 => ⟨S2x4096x1, .f32⟩
  | 29 => ⟨S_, .f32⟩
  | 30 => ⟨S2x4096x1, .f32⟩
  | 31 => ⟨S2x4096x1, .f32⟩
  | 32 => ⟨S2x4096x1, .f32⟩
  | 33 => ⟨S2x4096x1024, .f32⟩
  | 34 => ⟨S2x4096x1024, .f32⟩
  | 35 => ⟨S1x1x1024, .f32⟩
  | 36 => ⟨S2x4096x1024, .f32⟩
  | 37 => ⟨S2x4096x1024, .f32⟩
  | 38 => ⟨S2x32x128x8x128, .f32⟩
  | 39 => ⟨S_, .i1⟩
  | 40 => ⟨S128x128, .i1⟩
  | 41 => ⟨S128x128, .i32⟩
  | 42 => ⟨S_, .i32⟩
  | 43 => ⟨S128x128, .i32⟩
  | 44 => ⟨S128x128, .i32⟩
  | 45 => ⟨S128x128, .i32⟩
  | 46 => ⟨S128x128, .i1⟩
  | 47 => ⟨S_, .i1⟩
  | 48 => ⟨S128x128, .i1⟩
  | 49 => ⟨S128x128, .i1⟩
  | 50 => ⟨S1x128x128, .i1⟩
  | 51 => ⟨S_, .i32⟩
  | 52 => ⟨S_, .f32⟩
  | 53 => ⟨S8x128x128, .i1⟩
  | 54 => ⟨S8x128x128, .f32⟩
  | 55 => ⟨S8x128x128, .f32⟩
  | 56 => ⟨S8x2x32x128x128, .f32⟩
  | 57 => ⟨S2x32x128x8x128, .f32⟩
  | 58 => ⟨S128x8, .f32⟩
  | 59 => ⟨S1x1x128x8x1, .f32⟩
  | 60 => ⟨S2x32x128x8x128, .f32⟩
  | 61 => ⟨S2x32x128x8x128, .f32⟩
  | 62 => ⟨S2x4096x1024, .f32⟩
  | 63 => ⟨S2x4096x1024, .f32⟩
  | 64 => ⟨S2x4096x4x256, .f32⟩
  | 65 => ⟨S2x4096x4x256, .f32⟩
  | 66 => ⟨S_, .f32⟩
  | 67 => ⟨S2x4096x4, .f32⟩
  | 68 => ⟨S2x4096x4x1, .f32⟩
  | 69 => ⟨S_, .f32⟩
  | 70 => ⟨S2x4096x4x1, .f32⟩
  | 71 => ⟨S2x4096x4x1, .f32⟩
  | 72 => ⟨S_, .f32⟩
  | 73 => ⟨S2x4096x4x1, .f32⟩
  | 74 => ⟨S2x4096x4x1, .f32⟩
  | 75 => ⟨S2x4096x4x1, .f32⟩
  | 76 => ⟨S2x4096x4x256, .f32⟩
  | 77 => ⟨S2x4096x4x256, .f32⟩
  | 78 => ⟨S1x1x1x256, .f32⟩
  | 79 => ⟨S2x4096x4x256, .f32⟩
  | 80 => ⟨S2x4096x4x256, .f32⟩
  | 81 => ⟨S2x4x4096x256, .f32⟩
  | 82 => ⟨S_, .f32⟩
  | 83 => ⟨S2x4x4096x256, .f32⟩
  | 84 => ⟨S2x4x4096x256, .f32⟩
  | 85 => ⟨S_, .f32⟩
  | 86 => ⟨S2x4x4096, .f32⟩
  | 87 => ⟨S_, .f32⟩
  | 88 => ⟨S2x4x4096, .f32⟩
  | 89 => ⟨S2x4x4096, .f32⟩
  | 90 => ⟨S2x4x4096x1, .f32⟩
  | 91 => ⟨S2x4x4096x256, .f32⟩
  | 92 => ⟨S2x4x4096x256, .f32⟩
  | 93 => ⟨S2x4x4096x256, .f32⟩
  | 94 => ⟨S_, .f32⟩
  | 95 => ⟨S2x4x4096, .f32⟩
  | 96 => ⟨S2x4x4096x1, .f32⟩
  | 97 => ⟨S2x4x4096x256, .f32⟩
  | 98 => ⟨S2x4x4096x256, .f32⟩
  | 99 => ⟨S2x4x256x4096, .f32⟩
  | 100 => ⟨S2x4096x4x256, .f32⟩
  | 101 => ⟨S2x4096x1024, .f32⟩
  | 102 => ⟨S2x4096x2048, .f32⟩
  | 103 => ⟨S2x4096x2048, .f32⟩
  | 104 => ⟨S_, .f32⟩
  | 105 => ⟨S2x4096x2048, .f32⟩
  | 106 => ⟨S2x4096x2048, .f32⟩
  | 107 => ⟨S_, .f32⟩
  | 108 => ⟨S2x4096x2048, .f32⟩
  | 109 => ⟨S2x4096x2048, .f32⟩
  | 110 => ⟨S2x4096x1024, .f32⟩
  | 111 => ⟨S2x4096x1024, .f32⟩
  | 112 => ⟨S_, .f32⟩
  | 113 => ⟨S2x4096x1024, .f32⟩
  | 114 => ⟨S2x4096x1024, .f32⟩
  | 115 => ⟨S_, .f32⟩
  | 116 => ⟨S2x4096x1024, .f32⟩
  | 117 => ⟨S2x4096x1024, .f32⟩
  | 118 => ⟨S2x4096x1024, .f32⟩
  | 119 => ⟨S2x4096x1024, .f32⟩
  | 120 => ⟨S2x4096x2048, .f32⟩
  | 121 => ⟨S2x4096x2048, .f32⟩
  | 122 => ⟨S2x4096x2048, .f32⟩
  | 123 => ⟨S2x4096x2048, .f32⟩
  | 124 => ⟨S_, .f32⟩
  | 125 => ⟨S2x4096x2048, .f32⟩
  | 126 => ⟨S2x4096x2048, .f32⟩
  | 127 => ⟨S_, .f32⟩
  | _ => ⟨S2x4096x2048, .f32⟩

abbrev hbmTy0_1 (i : Nat) : BufTy := match i % 128 with
  | 0 => ⟨S2x4096x2048, .f32⟩
  | 1 => ⟨S2x4096x2048, .f32⟩
  | 2 => ⟨S2x4096x1024, .f32⟩
  | 3 => ⟨S2x4096x1024, .f32⟩
  | 4 => ⟨S_, .f32⟩
  | 5 => ⟨S2x4096x1024, .f32⟩
  | 6 => ⟨S2x4096x1024, .f32⟩
  | 7 => ⟨S_, .f32⟩
  | 8 => ⟨S2x4096x1024, .f32⟩
  | 9 => ⟨S2x4096x1024, .f32⟩
  | 10 => ⟨S2x4096x1024, .f32⟩
  | 11 => ⟨S2x4096x1024, .f32⟩
  | 12 => ⟨S2x4096x2048, .f32⟩
  | 13 => ⟨S2x4096x2048, .f32⟩
  | 14 => ⟨S2x4096x2048, .f32⟩
  | 15 => ⟨S2x4096x2048, .f32⟩
  | 16 => ⟨S2x4096x2048, .f32⟩
  | 17 => ⟨S_, .f32⟩
  | 18 => ⟨S2x4096x2048, .f32⟩
  | 19 => ⟨S2x4096x2048, .f32⟩
  | 20 => ⟨S_, .f32⟩
  | 21 => ⟨S2x4096x2048, .f32⟩
  | 22 => ⟨S2x4096x2048, .f32⟩
  | 23 => ⟨S2x4096x1024, .f32⟩
  | 24 => ⟨S2x4096x1024, .f32⟩
  | 25 => ⟨S_, .f32⟩
  | 26 => ⟨S2x4096x1024, .f32⟩
  | 27 => ⟨S2x4096x1024, .f32⟩
  | 28 => ⟨S_, .f32⟩
  | 29 => ⟨S2x4096x1024, .f32⟩
  | 30 => ⟨S2x4096x1024, .f32⟩
  | 31 => ⟨S2x4096x1024, .f32⟩
  | 32 => ⟨S2x4096x1024, .f32⟩
  | 33 => ⟨S2x4096x2048, .f32⟩
  | 34 => ⟨S2x4096x2048, .f32⟩
  | 35 => ⟨S2x4096x2048, .f32⟩
  | 36 => ⟨S2x4096x2048, .f32⟩
  | 37 => ⟨S2x4096x2048, .f32⟩
  | 38 => ⟨S8192x2048, .f32⟩
  | _ => ⟨S2x4096x2048, .f32⟩

abbrev hbmTy (i : Nat) : BufTy := match i / 128 with
  | 0 => hbmTy0_0 i
  | 1 => hbmTy0_1 i
  | _ => ⟨S2x4096x2048, .f32⟩

abbrev bufTy : (tb : Table) → Fin (tcTables nBuf tb) → BufTy
  | .hbm, ⟨i, _⟩ => hbmTy i
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c : Ref sig .tc := ⟨.hbm, 39, rfl⟩
abbrev main_v23 : Ref sig .tc := ⟨.hbm, 40, rfl⟩
abbrev main_call0_v0 : Ref sig .tc := ⟨.hbm, 41, rfl⟩
abbrev main_call0_c : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_c_0 : Ref sig .tc := ⟨.hbm, 47, rfl⟩
abbrev main_call0_v5 : Ref sig .tc := ⟨.hbm, 48, rfl⟩
abbrev main_v24 : Ref sig .tc := ⟨.hbm, 49, rfl⟩
abbrev main_v25 : Ref sig .tc := ⟨.hbm, 50, rfl⟩
abbrev main_c_2 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_3 : Ref sig .tc := ⟨.hbm, 66, rfl⟩
abbrev main_v37 : Ref sig .tc := ⟨.hbm, 67, rfl⟩
abbrev main_v38 : Ref sig .tc := ⟨.hbm, 68, rfl⟩
abbrev main_cst_4 : Ref sig .tc := ⟨.hbm, 69, rfl⟩
abbrev main_v39 : Ref sig .tc := ⟨.hbm, 70, rfl⟩
abbrev main_v40 : Ref sig .tc := ⟨.hbm, 71, rfl⟩
abbrev main_cst_5 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_6 : Ref sig .tc := ⟨.hbm, 82, rfl⟩
abbrev main_v50 : Ref sig .tc := ⟨.hbm, 83, rfl⟩
abbrev main_v51 : Ref sig .tc := ⟨.hbm, 84, rfl⟩
abbrev main_cst_7 : Ref sig .tc := ⟨.hbm, 85, rfl⟩
abbrev main_v52 : Ref sig .tc := ⟨.hbm, 86, rfl⟩
abbrev main_cst_8 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_9 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_10 : Ref sig .tc := ⟨.hbm, 104, rfl⟩
abbrev main_v68 : Ref sig .tc := ⟨.hbm, 105, rfl⟩
abbrev main_v69 : Ref sig .tc := ⟨.hbm, 106, rfl⟩
abbrev main_cst_11 : Ref sig .tc := ⟨.hbm, 107, rfl⟩
abbrev main_v70 : Ref sig .tc := ⟨.hbm, 108, rfl⟩
abbrev main_v71 : Ref sig .tc := ⟨.hbm, 109, rfl⟩
abbrev main_call2_v0 : Ref sig .tc := ⟨.hbm, 110, rfl⟩
abbrev main_call2_v1 : Ref sig .tc := ⟨.hbm, 111, rfl⟩
abbrev main_call2_cst : Ref sig .tc := ⟨.hbm, 112, rfl⟩
abbrev main_call2_v2 : Ref sig .tc := ⟨.hbm, 113, rfl⟩
abbrev main_call2_v3 : Ref sig .tc := ⟨.hbm, 114, rfl⟩
abbrev main_call2_cst_0 : Ref sig .tc := ⟨.hbm, 115, rfl⟩
abbrev main_call2_v4 : Ref sig .tc := ⟨.hbm, 116, rfl⟩
abbrev main_call2_v5 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_cst_12 : Ref sig .tc := ⟨.hbm, 124, rfl⟩
abbrev main_v78 : Ref sig .tc := ⟨.hbm, 125, rfl⟩
abbrev main_v79 : Ref sig .tc := ⟨.hbm, 126, rfl⟩
abbrev main_cst_13 : Ref sig .tc := ⟨.hbm, 127, rfl⟩
abbrev main_v80 : Ref sig .tc := ⟨.hbm, 128, rfl⟩
abbrev main_v81 : Ref sig .tc := ⟨.hbm, 129, rfl⟩
abbrev main_call3_v0 : Ref sig .tc := ⟨.hbm, 130, rfl⟩
abbrev main_call3_v1 : Ref sig .tc := ⟨.hbm, 131, rfl⟩
abbrev main_call3_cst : Ref sig .tc := ⟨.hbm, 132, rfl⟩
abbrev main_call3_v2 : Ref sig .tc := ⟨.hbm, 133, rfl⟩
abbrev main_call3_v3 : Ref sig .tc := ⟨.hbm, 134, rfl⟩
abbrev main_call3_cst_0 : Ref sig .tc := ⟨.hbm, 135, rfl⟩
abbrev main_call3_v4 : Ref sig .tc := ⟨.hbm, 136, rfl⟩
abbrev main_call3_v5 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_cst_14 : Ref sig .tc := ⟨.hbm, 145, rfl⟩
abbrev main_v89 : Ref sig .tc := ⟨.hbm, 146, rfl⟩
abbrev main_v90 : Ref sig .tc := ⟨.hbm, 147, rfl⟩
abbrev main_cst_15 : Ref sig .tc := ⟨.hbm, 148, rfl⟩
abbrev main_v91 : Ref sig .tc := ⟨.hbm, 149, rfl⟩
abbrev main_v92 : Ref sig .tc := ⟨.hbm, 150, rfl⟩
abbrev main_call4_v0 : Ref sig .tc := ⟨.hbm, 151, rfl⟩
abbrev main_call4_v1 : Ref sig .tc := ⟨.hbm, 152, rfl⟩
abbrev main_call4_cst : Ref sig .tc := ⟨.hbm, 153, rfl⟩
abbrev main_call4_v2 : Ref sig .tc := ⟨.hbm, 154, rfl⟩
abbrev main_call4_v3 : Ref sig .tc := ⟨.hbm, 155, rfl⟩
abbrev main_call4_cst_0 : Ref sig .tc := ⟨.hbm, 156, rfl⟩
abbrev main_call4_v4 : Ref sig .tc := ⟨.hbm, 157, rfl⟩
abbrev main_call4_v5 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩

abbrev nD : Nat := 1
abbrev τ : Topo := Topo.v7x

variable {F : FTy → Type} [FloatOps F]
-- ==== MemKV.lean ====
abbrev S2x256x2048 : Shape := ⟨3, ![2, 256, 2048]⟩
abbrev S2048 : Shape := ⟨1, ![2048]⟩
abbrev S2048x2048 : Shape := ⟨2, ![2048, 2048]⟩
abbrev S256 : Shape := ⟨1, ![256]⟩
abbrev S512x2048 : Shape := ⟨2, ![512, 2048]⟩
abbrev S1x2048 : Shape := ⟨2, ![1, 2048]⟩
abbrev S1x256 : Shape := ⟨2, ![1, 256]⟩
abbrev S512x1024 : Shape := ⟨2, ![512, 1024]⟩
abbrev S256x2048 : Shape := ⟨2, ![256, 2048]⟩
abbrev S256x1024 : Shape := ⟨2, ![256, 1024]⟩
abbrev S256x1 : Shape := ⟨2, ![256, 1]⟩
abbrev S256x256 : Shape := ⟨2, ![256, 256]⟩

abbrev nBuf : Space → Nat
  | .hbm => 12
  | .vmem => 13
  | .smem => 0
  | _ => 0

abbrev bufTy : (tb : Table) → Fin (tcTables nBuf tb) → BufTy
  | .hbm, ⟨0, _⟩ => ⟨S2x256x2048, .f32⟩
  | .hbm, ⟨1, _⟩ => ⟨S2048, .f32⟩
  | .hbm, ⟨2, _⟩ => ⟨S2048x2048, .f32⟩
  | .hbm, ⟨3, _⟩ => ⟨S256, .f32⟩
  | .hbm, ⟨4, _⟩ => ⟨S512x2048, .f32⟩
  | .hbm, ⟨5, _⟩ => ⟨S1x2048, .f32⟩
  | .hbm, ⟨6, _⟩ => ⟨S2048x2048, .bf16⟩
  | .hbm, ⟨7, _⟩ => ⟨S1x256, .f32⟩
  | .hbm, ⟨8, _⟩ => ⟨S512x1024, .f32⟩
  | .hbm, ⟨9, _⟩ => ⟨S512x1024, .f32⟩
  | .hbm, ⟨10, _⟩ => ⟨S512x1024, .bf16⟩
  | .hbm, ⟨11, _⟩ => ⟨S512x1024, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x2048, .bf16⟩
  | .local _ .vmem, ⟨4, _⟩ => ⟨S1x256, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MemKVRefIdeal.lean ====
abbrev S2x256x2048 : Shape := ⟨3, ![2, 256, 2048]⟩
abbrev S2048 : Shape := ⟨1, ![2048]⟩
abbrev S2048x2048 : Shape := ⟨2, ![2048, 2048]⟩
abbrev S256 : Shape := ⟨1, ![256]⟩
abbrev S_ : Shape := ⟨0, ![]⟩
abbrev S2x256 : Shape := ⟨2, ![2, 256]⟩
abbrev S2x256x1 : Shape := ⟨3, ![2, 256, 1]⟩
abbrev S1x1x2048 : Shape := ⟨3, ![1, 1, 2048]⟩
abbrev S2x256x1024 : Shape := ⟨3, ![2, 256, 1024]⟩
abbrev S2x256x4x256 : Shape := ⟨4, ![2, 256, 4, 256]⟩
abbrev S2x256x4 : Shape := ⟨3, ![2, 256, 4]⟩
abbrev S2x256x4x1 : Shape := ⟨4, ![2, 256, 4, 1]⟩
abbrev S1x1x1x256 : Shape := ⟨4, ![1, 1, 1, 256]⟩
abbrev S512x1024 : Shape := ⟨2, ![512, 1024]⟩

abbrev nBuf : Space → Nat
  | .hbm => 44
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S2048, .f32⟩
  | .hbm, ⟨2, _⟩ => ⟨S2048x2048, .f32⟩
  | .hbm, ⟨3, _⟩ => ⟨S256, .f32⟩
  | .hbm, ⟨4, _⟩ => ⟨S2x256x2048, .f32⟩
  | .hbm, ⟨5, _⟩ => ⟨S_, .f32⟩
  | .hbm, ⟨6, _⟩ => ⟨S2x256, .f32⟩
  | .hbm, ⟨7, _⟩ => ⟨S2x256x1, .f32⟩
  | .hbm, ⟨8, _⟩ => ⟨S_, .f32⟩
  | .hbm, ⟨9, _⟩ => ⟨S2x256x1, .f32⟩
  | .hbm, ⟨10, _⟩ => ⟨S2x256x1, .f32⟩
  | .hbm, ⟨11, _⟩ => ⟨S_, .f32⟩
  | .hbm, ⟨12, _⟩ => ⟨S2x256x1, .f32⟩
  | .hbm, ⟨13, _⟩ => ⟨S2x256x1, .f32⟩
  | .hbm, ⟨14, _⟩ => ⟨S2x256x1, .f32⟩
  | .hbm, ⟨15, _⟩ => ⟨S2x256x2048, .f32⟩
  | .hbm, ⟨16, _⟩ => ⟨S2x256x2048, .f32⟩
  | .hbm, ⟨17, _⟩ => ⟨S1x1x2048, .f32⟩
  | .hbm, ⟨18, _⟩ => ⟨S2x256x2048, .f32⟩
  | .hbm, ⟨19, _⟩ => ⟨S2x256x2048, .f32⟩
  | .hbm, ⟨20, _⟩ => ⟨S2x256x2048, .f32⟩
  | .hbm, ⟨21, _⟩ => ⟨S2x256x1024, .f32⟩
  | .hbm, ⟨22, _⟩ => ⟨S2x256x1024, .f32⟩
  | .hbm, ⟨23, _⟩ => ⟨S2x256x4x256, .f32⟩
  | .hbm, ⟨24, _⟩ => ⟨S2x256x4x256, .f32⟩
  | .hbm, ⟨25, _⟩ => ⟨S_, .f32⟩
  | .hbm, ⟨26, _⟩ => ⟨S2x256x4, .f32⟩
  | .hbm, ⟨27, _⟩ => ⟨S2x256x4x1, .f32⟩
  | .hbm, ⟨28, _⟩ => ⟨S_, .f32⟩
  | .hbm, ⟨29, _⟩ => ⟨S2x256x4x1, .f32⟩
  | .hbm, ⟨30, _⟩ => ⟨S2x256x4x1, .f32⟩
  | .hbm, ⟨31, _⟩ => ⟨S_, .f32⟩
  | .hbm, ⟨32, _⟩ => ⟨S2x256x4x1, .f32⟩
  | .hbm, ⟨33, _⟩ => ⟨S2x256x4x1, .f32⟩
  | .hbm, ⟨34, _⟩ => ⟨S2x256x4x1, .f32⟩
  | .hbm, ⟨35, _⟩ => ⟨S2x256x4x256, .f32⟩
  | .hbm, ⟨36, _⟩ => ⟨S2x256x4x256, .f32⟩
  | .hbm, ⟨37, _⟩ => ⟨S1x1x1x256, .f32⟩
  | .hbm, ⟨38, _⟩ => ⟨S2x256x4x256, .f32⟩
  | .hbm, ⟨39, _⟩ => ⟨S2x256x4x256, .f32⟩
  | .hbm, ⟨40, _⟩ => ⟨S512x1024, .f32⟩
  | .hbm, ⟨41, _⟩ => ⟨S512x1024, .f32⟩
  | .hbm, ⟨42, _⟩ => ⟨S512x1024, .bf16⟩
  | .hbm, ⟨43, _⟩ => ⟨S512x1024, .bf16⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== ProjRest.lean ====
abbrev S2x4096x2048 : Shape := ⟨3, ![2, 4096, 2048]⟩
abbrev S8x4x2048 : Shape := ⟨3, ![8, 4, 2048]⟩
abbrev S2048 : Shape := ⟨1, ![2048]⟩
abbrev S2048x15440 : Shape := ⟨2, ![2048, 15440]⟩
abbrev S8192x2048 : Shape := ⟨2, ![8192, 2048]⟩
abbrev S_ : Shape := ⟨0, ![]⟩
abbrev S8x16x2048 : Shape := ⟨3, ![8, 16, 2048]⟩
abbrev S128x2048 : Shape := ⟨2, ![128, 2048]⟩
abbrev S1x2048 : Shape := ⟨2, ![1, 2048]⟩
abbrev S15440x2048 : Shape := ⟨2, ![15440, 2048]⟩
abbrev S8192x12288 : Shape := ⟨2, ![8192, 12288]⟩
abbrev S128x12288 : Shape := ⟨2, ![128, 12288]⟩
abbrev S1024x2048 : Shape := ⟨2, ![1024, 2048]⟩
abbrev S1024x1024 : Shape := ⟨2, ![1024, 1024]⟩
abbrev S128x1024 : Shape := ⟨2, ![128, 1024]⟩
abbrev S1024 : Shape := ⟨1, ![1024]⟩
abbrev S1024x1 : Shape := ⟨2, ![1024, 1]⟩
abbrev S128 : Shape := ⟨1, ![128]⟩
abbrev S128x1 : Shape := ⟨2, ![128, 1]⟩

abbrev nBuf : Space → Nat
  | .hbm => 13
  | .vmem => 12
  | .smem => 0
  | _ => 0

abbrev bufTy : (tb : Table) → Fin (tcTables nBuf tb) → BufTy
  | .hbm, ⟨0, _⟩ => ⟨S2x4096x2048, .f32⟩
  | .hbm, ⟨1, _⟩ => ⟨S8x4x2048, .f32⟩
  | .hbm, ⟨2, _⟩ => ⟨S2048, .f32⟩
  | .hbm, ⟨3, _⟩ => ⟨S2048x15440, .f32⟩
  | .hbm, ⟨4, _⟩ => ⟨S8192x2048, .f32⟩
  | .hbm, ⟨5, _⟩ => ⟨S_, .i32⟩
  | .hbm, ⟨6, _⟩ => ⟨S_, .f32⟩
  | .hbm, ⟨7, _⟩ => ⟨S8x16x2048, .f32⟩
  | .hbm, ⟨8, _⟩ => ⟨S128x2048, .f32⟩
  | .hbm, ⟨9, _⟩ => ⟨S1x2048, .f32⟩
  | .hbm, ⟨10, _⟩ => ⟨S15440x2048, .f32⟩
  | .hbm, ⟨11, _⟩ => ⟨S8192x12288, .bf16⟩
  | .hbm, ⟨12, _⟩ => ⟨S128x12288, .bf16⟩
  | .local _ .vmem, ⟨0, _⟩ => ⟨S1024x2048, .f32⟩
  | .local _ .vmem, ⟨1, _⟩ => ⟨S1024x2048, .f32⟩
  | .local _ .vmem, ⟨2, _⟩ => ⟨S128x2048, .f32⟩
  | .local _ .vmem, ⟨3, _⟩ => ⟨S1x2048, .f32⟩
  | .local _ .vmem, ⟨4, _⟩ => ⟨S1024x2048, .f32⟩
  | .local _ .vmem, ⟨5, _⟩ => ⟨S1024x2048, .f32⟩
  | .local _ .vmem, ⟨6, _⟩ => ⟨S1024x1024, .bf16⟩
  | .local _ .vmem, ⟨7, _⟩ => ⟨S1024x1024, .bf16⟩
  | .local _ .vmem, ⟨8, _⟩ => ⟨S128x1024, .bf16⟩
  | .local _ .vmem, ⟨9, _⟩ => ⟨S128x1024, .bf16⟩
  | .local _ .vmem, ⟨10, _⟩ => ⟨S1024x2048, .bf16⟩
  | .local _ .vmem, ⟨11, _⟩ => ⟨S128x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 12], ![false, false]⟩

def k0_mult1 (i : grid0.Coords) : BitVec 32 :=
  let c3152_i32 : BitVec 32 := 3152#32
  let arg1 : BitVec 32 := BitVec.ofNat 32 (i 1).val
  let c1024_i32 : BitVec 32 := 1024#32
  let v0 : BitVec 32 := Scalar.muli arg1 c1024_i32
  let v1 : BitVec 32 := Scalar.addi c3152_i32 v0
  v1
def k0_cond3 (i : grid0.Coords) : BitVec 1 :=
  let arg0 : BitVec 32 := BitVec.ofNat 32 (i 0).val
  let c0_i32_9 : BitVec 32 := 0#32
  let v15 : BitVec 1 := Scalar.cmpi .eq arg0 c0_i32_9
  let v16 : BitVec 32 := Scalar.extui v15
  let c0_i32_10 : BitVec 32 := 0#32
  let v17 : BitVec 1 := Scalar.cmpi .ne v16 c0_i32_10
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c3152_i32 : BitVec 32 := 3152#32
  let v1 : BitVec 32 := Scalar.addi c3152_i32 v0
  let v2 : BitVec 32 := v1
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c11_i32 : BitVec 32 := 11#32
  let v1 : BitVec 32 := Scalar.select v0 arg1 c11_i32
  let c0_i32_0 : BitVec 32 := 0#32
  let c0_i32_1 : BitVec 32 := 0#32
  ![c0_i32_0.toNat, v1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ProjRestRefIdeal.lean ====
abbrev S2x4096x2048 : Shape := ⟨3, ![2, 4096, 2048]⟩
abbrev S8x4x2048 : Shape := ⟨3, ![8, 4, 2048]⟩
abbrev S2048 : Shape := ⟨1, ![2048]⟩
abbrev S2048x15440 : Shape := ⟨2, ![2048, 15440]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x15440 : Shape := ⟨3, ![2, 4096, 15440]⟩
abbrev S2x4096x12288 : Shape := ⟨3, ![2, 4096, 12288]⟩
abbrev S8x16x2048 : Shape := ⟨3, ![8, 16, 2048]⟩
abbrev S8x16 : Shape := ⟨2, ![8, 16]⟩
abbrev S8x16x1 : Shape := ⟨3, ![8, 16, 1]⟩
abbrev S8x16x15440 : Shape := ⟨3, ![8, 16, 15440]⟩
abbrev S8x16x12288 : Shape := ⟨3, ![8, 16, 12288]⟩
abbrev S8192x12288 : Shape := ⟨2, ![8192, 12288]⟩
abbrev S128x12288 : Shape := ⟨2, ![128, 12288]⟩

abbrev nBuf : Space → Nat
  | .hbm => 47
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S8x4x2048, .f32⟩
  | .hbm, ⟨2, _⟩ => ⟨S2048, .f32⟩
  | .hbm, ⟨3, _⟩ => ⟨S2048x15440, .f32⟩
  | .hbm, ⟨4, _⟩ => ⟨S2x4096x2048, .f32⟩
  | .hbm, ⟨5, _⟩ => ⟨S_, .f32⟩
  | .hbm, ⟨6, _⟩ => ⟨S2x4096, .f32⟩
  | .hbm, ⟨7, _⟩ => ⟨S2x4096x1, .f32⟩
  | .hbm, ⟨8, _⟩ => ⟨S_, .f32⟩
  | .hbm, ⟨9, _⟩ => ⟨S2x4096x1, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S2x4096x1, .f32⟩
  | .hbm, ⟨15, _⟩ => ⟨S2x4096x2048, .f32⟩
  | .hbm, ⟨16, _⟩ => ⟨S2x4096x2048, .f32⟩
  | .hbm, ⟨17, _⟩ => ⟨S1x1x2048, .f32⟩
  | .hbm, ⟨18, _⟩ => ⟨S2x4096x2048, .f32⟩
  | .hbm, ⟨19, _⟩ => ⟨S2x4096x2048, .f32⟩
  | .hbm, ⟨20, _⟩ => ⟨S2x4096x15440, .f32⟩
  | .hbm, ⟨21, _⟩ => ⟨S2x4096x12288, .f32⟩
  | .hbm, ⟨22, _⟩ => ⟨S_, .i32⟩
  | .hbm, ⟨23, _⟩ => ⟨S_, .f32⟩
  | .hbm, ⟨24, _⟩ => ⟨S8x16x2048, .f32⟩
  | .hbm, ⟨25, _⟩ => ⟨S8x16x2048, .f32⟩
  | .hbm, ⟨26, _⟩ => ⟨S_, .f32⟩
  | .hbm, ⟨27, _⟩ => ⟨S8x16, .f32⟩
  | .hbm, ⟨28, _⟩ => ⟨S8x16x1, .f32⟩
  | .hbm, ⟨29, _⟩ => ⟨S_, .f32⟩
  | .hbm, ⟨30, _⟩ => ⟨S8x16x1, .f32⟩
  | .hbm, ⟨31, _⟩ => ⟨S8x16x1, .f32⟩
  | .hbm, ⟨32, _⟩ => ⟨S_, .f32⟩
  | .hbm, ⟨33, _⟩ => ⟨S8x16x1, .f32⟩
  | .hbm, ⟨34, _⟩ => ⟨S8x16x1, .f32⟩
  | .hbm, ⟨35, _⟩ => ⟨S8x16x1, .f32⟩
  | .hbm, ⟨36, _⟩ => ⟨S8x16x2048, .f32⟩
  | .hbm, ⟨37, _⟩ => ⟨S8x16x2048, .f32⟩
  | .hbm, ⟨38, _⟩ => ⟨S1x1x2048, .f32⟩
  | .hbm, ⟨39, _⟩ => ⟨S8x16x2048, .f32⟩
  | .hbm, ⟨40, _⟩ => ⟨S8x16x2048, .f32⟩
  | .hbm, ⟨41, _⟩ => ⟨S8x16x15440, .f32⟩
  | .hbm, ⟨42, _⟩ => ⟨S8x16x12288, .f32⟩
  | .hbm, ⟨43, _⟩ => ⟨S8192x12288, .f32⟩
  | .hbm, ⟨44, _⟩ => ⟨S8192x12288, .bf16⟩
  | .hbm, ⟨45, _⟩ => ⟨S128x12288, .f32⟩
  | .hbm, ⟨46, _⟩ => ⟨S128x12288, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_call0_v0 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== ProjA.lean ====
abbrev S2x4096x2048 : Shape := ⟨3, ![2, 4096, 2048]⟩
abbrev S2048 : Shape := ⟨1, ![2048]⟩
abbrev S2048x15440 : Shape := ⟨2, ![2048, 15440]⟩
abbrev S128 : Shape := ⟨1, ![128]⟩
abbrev S15440x2048 : Shape := ⟨2, ![15440, 2048]⟩
abbrev S3200x2048 : Shape := ⟨2, ![3200, 2048]⟩
abbrev S8192x2048 : Shape := ⟨2, ![8192, 2048]⟩
abbrev S4096 : Shape := ⟨1, ![4096]⟩
abbrev S32 : Shape := ⟨1, ![32]⟩
abbrev S_ : Shape := ⟨0, ![]⟩
abbrev S4096x1 : Shape := ⟨2, ![4096, 1]⟩
abbrev S64 : Shape := ⟨1, ![64]⟩
abbrev S1x128 : Shape := ⟨2, ![1, 128]⟩
abbrev S4096x128 : Shape := ⟨2, ![4096, 128]⟩
abbrev S1x2048 : Shape := ⟨2, ![1, 2048]⟩
abbrev S8192x1024 : Shape := ⟨2, ![8192, 1024]⟩
abbrev S32768x128 : Shape := ⟨2, ![32768, 128]⟩
abbrev S8192x512 : Shape := ⟨2, ![8192, 512]⟩
abbrev S8192x64 : Shape := ⟨2, ![8192, 64]⟩
abbrev S8192x16 : Shape := ⟨2, ![8192, 16]⟩
abbrev S512x2048 : Shape := ⟨2, ![512, 2048]⟩
abbrev S512x128 : Shape := ⟨2, ![512, 128]⟩
abbrev S512x1024 : Shape := ⟨2, ![512, 1024]⟩
abbrev S2048x128 : Shape := ⟨2, ![2048, 128]⟩
abbrev S512x512 : Shape := ⟨2, ![512, 512]⟩
abbrev S512x64 : Shape := ⟨2, ![512, 64]⟩
abbrev S512x16 : Shape := ⟨2, ![512, 16]⟩
abbrev S512 : Shape := ⟨1, ![512]⟩
abbrev S512x1 : Shape := ⟨2, ![512, 1]⟩
abbrev S512x3200 : Shape := ⟨2, ![512, 3200]⟩

abbrev nBuf : Space → Nat
  | .hbm => 47
  | .vmem => 28
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048x15440, .f32⟩
  | .hbm, ⟨3, _⟩ => ⟨S128, .f32⟩
  | .hbm, ⟨4, _⟩ => ⟨S128, .f32⟩
  | .hbm, ⟨5, _⟩ => ⟨S15440x2048, .f32⟩
  | .hbm, ⟨6, _⟩ => ⟨S3200x2048, .f32⟩
  | .hbm, ⟨7, _⟩ => ⟨S3200x2048, .bf16⟩
  | .hbm, ⟨8, _⟩ => ⟨S8192x2048, .f32⟩
  | .hbm, ⟨9, _⟩ => ⟨S4096, .i32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S4096, .f32⟩
  | .hbm, ⟨19, _⟩ => ⟨S4096x1, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S_, .f32⟩
  | .hbm, ⟨26, _⟩ => ⟨S64, .f32⟩
  | .hbm, ⟨27, _⟩ => ⟨S64, .f32⟩
  | .hbm, ⟨28, _⟩ => ⟨S128, .f32⟩
  | .hbm, ⟨29, _⟩ => ⟨S1x128, .f32⟩
  | .hbm, ⟨30, _⟩ => ⟨S4096x128, .f32⟩
  | .hbm, ⟨31, _⟩ => ⟨S4096x128, .f32⟩
  | .hbm, ⟨32, _⟩ => ⟨S4096x128, .f32⟩
  | .hbm, ⟨33, _⟩ => ⟨S4096x128, .f32⟩
  | .hbm, ⟨34, _⟩ => ⟨S4096x128, .f32⟩
  | .hbm, ⟨35, _⟩ => ⟨S1x2048, .f32⟩
  | .hbm, ⟨36, _⟩ => ⟨S1x128, .f32⟩
  | .hbm, ⟨37, _⟩ => ⟨S1x128, .f32⟩
  | .hbm, ⟨38, _⟩ => ⟨S8192x1024, .bf16⟩
  | .hbm, ⟨39, _⟩ => ⟨S32768x128, .f32⟩
  | .hbm, ⟨40, _⟩ => ⟨S32768x128, .f32⟩
  | .hbm, ⟨41, _⟩ => ⟨S8192x512, .bf16⟩
  | .hbm, ⟨42, _⟩ => ⟨S8192x512, .bf16⟩
  | .hbm, ⟨43, _⟩ => ⟨S8192x1024, .bf16⟩
  | .hbm, ⟨44, _⟩ => ⟨S8192x64, .f32⟩
  | .hbm, ⟨45, _⟩ => ⟨S8192x64, .bf16⟩
  | .hbm, ⟨46, _⟩ => ⟨S8192x16, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S3200x2048, .bf16⟩
  | .local _ .vmem, ⟨4, _⟩ => ⟨S1x128, .f32⟩
  | .local _ .vmem, ⟨5, _⟩ => ⟨S1x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x1024, .bf16⟩
  | .local _ .vmem, ⟨11, _⟩ => ⟨S512x1024, .bf16⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x1024, .bf16⟩
  | .local _ .vmem, ⟨21, _⟩ => ⟨S512x1024, .bf16⟩
  | .local _ .vmem, ⟨22, _⟩ => ⟨S512x64, .f32⟩
  | .local _ .vmem, ⟨23, _⟩ => ⟨S512x64, .f32⟩
  | .local _ .vmem, ⟨24, _⟩ => ⟨S512x64, .bf16⟩
  | .local _ .vmem, ⟨25, _⟩ => ⟨S512x64, .bf16⟩
  | .local _ .vmem, ⟨26, _⟩ => ⟨S512x16, .f32⟩
  | .local _ .vmem, ⟨27, _⟩ => ⟨S512x16, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29_0 : Ref sig .tc := ⟨.hbm, 38, rfl⟩
abbrev main_v29_1 : Ref sig .tc := ⟨.hbm, 39, rfl⟩
abbrev main_v29_2 : Ref sig .tc := ⟨.hbm, 40, rfl⟩
abbrev main_v29_3 : Ref sig .tc := ⟨.hbm, 41, rfl⟩
abbrev main_v29_4 : Ref sig .tc := ⟨.hbm, 42, rfl⟩
abbrev main_v29_5 : Ref sig .tc := ⟨.hbm, 43, rfl⟩
abbrev main_v29_6 : Ref sig .tc := ⟨.hbm, 44, rfl⟩
abbrev main_v29_7 : Ref sig .tc := ⟨.hbm, 45, rfl⟩
abbrev main_v29_8 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3200x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x64 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x16 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ProjARefIdeal.lean ====
abbrev S2x4096x2048 : Shape := ⟨3, ![2, 4096, 2048]⟩
abbrev S2048 : Shape := ⟨1, ![2048]⟩
abbrev S2048x15440 : Shape := ⟨2, ![2048, 15440]⟩
abbrev S128 : Shape := ⟨1, ![128]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x15440 : Shape := ⟨3, ![2, 4096, 15440]⟩
abbrev S2x4096x3152 : Shape := ⟨3, ![2, 4096, 3152]⟩
abbrev S2x4096x1024 : Shape := ⟨3, ![2, 4096, 1024]⟩
abbrev S2x4096x512 : Shape := ⟨3, ![2, 4096, 512]⟩
abbrev S2x4096x64 : Shape := ⟨3, ![2, 4096, 64]⟩
abbrev S2x4096x16 : Shape := ⟨3, ![2, 4096, 16]⟩
abbrev S4096 : Shape := ⟨1, ![4096]⟩
abbrev S2x4096x8x128 : Shape := ⟨4, ![2, 4096, 8, 128]⟩
abbrev S2x4096x8 : Shape := ⟨3, ![2, 4096, 8]⟩
abbrev S2x4096x8x1 : Shape := ⟨4, ![2, 4096, 8, 1]⟩
abbrev S1x1x1x128 : Shape := ⟨4, ![1, 1, 1, 128]⟩
abbrev S64 : Shape := ⟨1, ![64]⟩
abbrev S4096x1 : Shape := ⟨2, ![4096, 1]⟩
abbrev S1x64 : Shape := ⟨2, ![1, 64]⟩
abbrev S4096x64 : Shape := ⟨2, ![4096, 64]⟩
abbrev S1x4096x1x64 : Shape := ⟨4, ![1, 4096, 1, 64]⟩
abbrev S2x4096x8x64 : Shape := ⟨4, ![2, 4096, 8, 64]⟩
abbrev S2x4096x4x128 : Shape := ⟨4, ![2, 4096, 4, 128]⟩
abbrev S2x4096x4 : Shape := ⟨3, ![2, 4096, 4]⟩
abbrev S2x4096x4x1 : Shape := ⟨4, ![2, 4096, 4, 1]⟩
abbrev S2x4096x4x64 : Shape := ⟨4, ![2, 4096, 4, 64]⟩
abbrev S2x4096x16x64 : Shape := ⟨4, ![2, 4096, 16, 64]⟩
abbrev S32 : Shape := ⟨1, ![32]⟩
abbrev S1x32 : Shape := ⟨2, ![1, 32]⟩
abbrev S4096x32 : Shape := ⟨2, ![4096, 32]⟩
abbrev S1x4096x1x32 : Shape := ⟨4, ![1, 4096, 1, 32]⟩
abbrev S2x4096x16x32 : Shape := ⟨4, ![2, 4096, 16, 32]⟩
abbrev S2x4096x1x64 : Shape := ⟨4, ![2, 4096, 1, 64]⟩
abbrev S2x4096x1x32 : Shape := ⟨4, ![2, 4096, 1, 32]⟩
abbrev S32768x128 : Shape := ⟨2, ![32768, 128]⟩
abbrev S8192x64 : Shape := ⟨2, ![8192, 64]⟩
abbrev S8192x1024 : Shape := ⟨2, ![8192, 1024]⟩
abbrev S8192x512 : Shape := ⟨2, ![8192, 512]⟩
abbrev S8192x16 : Shape := ⟨2, ![8192, 16]⟩

abbrev nBuf : Space → Nat
  | .hbm => 213
  | .vmem => 0
  | .smem => 0
  | _ => 0

abbrev hbmTy0_0 (i : Nat) : BufTy := match i % 128 with
  | 0 => ⟨S2x4096x2048, .f32⟩
  | 1 => ⟨S2048, .f32⟩
  | 2 => ⟨S2048x15440, .f32⟩
  | 3 => ⟨S128, .f32⟩
  | 4 => ⟨S128, .f32⟩
  | 5 => ⟨S2x4096x2048, .f32⟩
  | 6 => ⟨S_, .f32⟩
  | 7 => ⟨S2x4096, .f32⟩
  | 8 => ⟨S2x4096x1, .f32⟩
  | 9 => ⟨S_, .f32⟩
  | 10 => ⟨S2x4096x1, .f32⟩
  | 11 => ⟨S2x4096x1, .f32⟩
  | 12 => ⟨S_, .f32⟩
  | 13 => ⟨S2x4096x1, .f32⟩
  | 14 => ⟨S2x4096x1, .f32⟩
  | 15 => ⟨S2x4096x1, .f32⟩
  | 16 => ⟨S2x4096x2048, .f32⟩
  | 17 => ⟨S2x4096x2048, .f32⟩
  | 18 => ⟨S1x1x2048, .f32⟩
  | 19 => ⟨S2x4096x2048, .f32⟩
  | 20 => ⟨S2x4096x2048, .f32⟩
  | 21 => ⟨S2x4096x15440, .f32⟩
  | 22 => ⟨S2x4096x3152, .f32⟩
  | 23 => ⟨S2x4096x1024, .f32⟩
  | 24 => ⟨S2x4096x512, .f32⟩
  | 25 => ⟨S2x4096x512, .f32⟩
  | 26 => ⟨S2x4096x1024, .f32⟩
  | 27 => ⟨S2x4096x64, .f32⟩
  | 28 => ⟨S2x4096x16, .f32⟩
  | 29 => ⟨S4096, .i32⟩
  | 30 => ⟨S2x4096x8x128, .f32⟩
  | 31 => ⟨S2x4096x8x128, .f32⟩
  | 32 => ⟨S_, .f32⟩
  | 33 => ⟨S2x4096x8, .f32⟩
  | 34 => ⟨S2x4096x8x1, .f32⟩
  | 35 => ⟨S_, .f32⟩
  | 36 => ⟨S2x4096x8x1, .f32⟩
  | 37 => ⟨S2x4096x8x1, .f32⟩
  | 38 => ⟨S_, .f32⟩
  | 39 => ⟨S2x4096x8x1, .f32⟩
  | 40 => ⟨S2x4096x8x1, .f32⟩
  | 41 => ⟨S2x4096x8x1, .f32⟩
  | 42 => ⟨S2x4096x8x128, .f32⟩
  | 43 => ⟨S2x4096x8x128, .f32⟩
  | 44 => ⟨S1x1x1x128, .f32⟩
  | 45 => ⟨S2x4096x8x128, .f32⟩
  | 46 => ⟨S2x4096x8x128, .f32⟩
  | 47 => ⟨S64, .f32⟩
  | 48 => ⟨S64, .f32⟩
  | 49 => ⟨S_, .f32⟩
  | 50 => ⟨S64, .f32⟩
  | 51 => ⟨S64, .f32⟩
  | 52 => ⟨S_, .f32⟩
  | 53 => ⟨S64, .f32⟩
  | 54 => ⟨S64, .f32⟩
  | 55 => ⟨S4096, .f32⟩
  | 56 => ⟨S4096x1, .f32⟩
  | 57 => ⟨S1x64, .f32⟩
  | 58 => ⟨S4096x64, .f32⟩
  | 59 => ⟨S4096x64, .f32⟩
  | 60 => ⟨S4096x64, .f32⟩
  | 61 => ⟨S4096x64, .f32⟩
  | 62 => ⟨S1x4096x1x64, .f32⟩
  | 63 => ⟨S4096x64, .f32⟩
  | 64 => ⟨S1x4096x1x64, .f32⟩
  | 65 => ⟨S2x4096x8x64, .f32⟩
  | 66 => ⟨S2x4096x8x64, .f32⟩
  | 67 => ⟨S2x4096x8x64, .f32⟩
  | 68 => ⟨S2x4096x8x64, .f32⟩
  | 69 => ⟨S2x4096x8x64, .f32⟩
  | 70 => ⟨S2x4096x8x64, .f32⟩
  | 71 => ⟨S2x4096x8x64, .f32⟩
  | 72 => ⟨S2x4096x8x64, .f32⟩
  | 73 => ⟨S2x4096x8x64, .f32⟩
  | 74 => ⟨S2x4096x8x64, .f32⟩
  | 75 => ⟨S2x4096x8x64, .f32⟩
  | 76 => ⟨S2x4096x8x64, .f32⟩
  | 77 => ⟨S2x4096x8x128, .f32⟩
  | 78 => ⟨S_, .f32⟩
  | 79 => ⟨S2x4096x8x128, .f32⟩
  | 80 => ⟨S2x4096x8x128, .f32⟩
  | 81 => ⟨S2x4096x4x128, .f32⟩
  | 82 => ⟨S2x4096x4x128, .f32⟩
  | 83 => ⟨S_, .f32⟩
  | 84 => ⟨S2x4096x4, .f32⟩
  | 85 => ⟨S2x4096x4x1, .f32⟩
  | 86 => ⟨S_, .f32⟩
  | 87 => ⟨S2x4096x4x1, .f32⟩
  | 88 => ⟨S2x4096x4x1, .f32⟩
  | 89 => ⟨S_, .f32⟩
  | 90 => ⟨S2x4096x4x1, .f32⟩
  | 91 => ⟨S2x4096x4x1, .f32⟩
  | 92 => ⟨S2x4096x4x1, .f32⟩
  | 93 => ⟨S2x4096x4x128, .f32⟩
  | 94 => ⟨S2x4096x4x128, .f32⟩
  | 95 => ⟨S1x1x1x128, .f32⟩
  | 96 => ⟨S2x4096x4x128, .f32⟩
  | 97 => ⟨S2x4096x4x128, .f32⟩
  | 98 => ⟨S64, .f32⟩
  | 99 => ⟨S64, .f32⟩
  | 100 => ⟨S_, .f32⟩
  | 101 => ⟨S64, .f32⟩
  | 102 => ⟨S64, .f32⟩
  | 103 => ⟨S_, .f32⟩
  | 104 => ⟨S64, .f32⟩
  | 105 => ⟨S64, .f32⟩
  | 106 => ⟨S4096, .f32⟩
  | 107 => ⟨S4096x1, .f32⟩
  | 108 => ⟨S1x64, .f32⟩
  | 109 => ⟨S4096x64, .f32⟩
  | 110 => ⟨S4096x64, .f32⟩
  | 111 => ⟨S4096x64, .f32⟩
  | 112 => ⟨S4096x64, .f32⟩
  | 113 => ⟨S1x4096x1x64, .f32⟩
  | 114 => ⟨S4096x64, .f32⟩
  | 115 => ⟨S1x4096x1x64, .f32⟩
  | 116 => ⟨S2x4096x4x64, .f32⟩
  | 117 => ⟨S2x4096x4x64, .f32⟩
  | 118 => ⟨S2x4096x4x64, .f32⟩
  | 119 => ⟨S2x4096x4x64, .f32⟩
  | 120 => ⟨S2x4096x4x64, .f32⟩
  | 121 => ⟨S2x4096x4x64, .f32⟩
  | 122 => ⟨S2x4096x4x64, .f32⟩
  | 123 => ⟨S2x4096x4x64, .f32⟩
  | 124 => ⟨S2x4096x4x64, .f32⟩
  | 125 => ⟨S2x4096x4x64, .f32⟩
  | 126 => ⟨S2x4096x4x64, .f32⟩
  | 127 => ⟨S2x4096x4x64, .f32⟩
  | _ => ⟨S2x4096x2048, .f32⟩

abbrev hbmTy0_1 (i : Nat) : BufTy := match i % 128 with
  | 0 => ⟨S2x4096x4x128, .f32⟩
  | 1 => ⟨S2x4096x16x64, .f32⟩
  | 2 => ⟨S32, .f32⟩
  | 3 => ⟨S32, .f32⟩
  | 4 => ⟨S_, .f32⟩
  | 5 => ⟨S32, .f32⟩
  | 6 => ⟨S32, .f32⟩
  | 7 => ⟨S_, .f32⟩
  | 8 => ⟨S32, .f32⟩
  | 9 => ⟨S32, .f32⟩
  | 10 => ⟨S4096, .f32⟩
  | 11 => ⟨S4096x1, .f32⟩
  | 12 => ⟨S1x32, .f32⟩
  | 13 => ⟨S4096x32, .f32⟩
  | 14 => ⟨S4096x32, .f32⟩
  | 15 => ⟨S4096x32, .f32⟩
  | 16 => ⟨S4096x32, .f32⟩
  | 17 => ⟨S1x4096x1x32, .f32⟩
  | 18 => ⟨S4096x32, .f32⟩
  | 19 => ⟨S1x4096x1x32, .f32⟩
  | 20 => ⟨S2x4096x16x32, .f32⟩
  | 21 => ⟨S2x4096x16x32, .f32⟩
  | 22 => ⟨S2x4096x16x32, .f32⟩
  | 23 => ⟨S2x4096x16x32, .f32⟩
  | 24 => ⟨S2x4096x16x32, .f32⟩
  | 25 => ⟨S2x4096x16x32, .f32⟩
  | 26 => ⟨S2x4096x16x32, .f32⟩
  | 27 => ⟨S2x4096x16x32, .f32⟩
  | 28 => ⟨S2x4096x16x32, .f32⟩
  | 29 => ⟨S2x4096x16x32, .f32⟩
  | 30 => ⟨S2x4096x16x32, .f32⟩
  | 31 => ⟨S2x4096x16x32, .f32⟩
  | 32 => ⟨S2x4096x16x64, .f32⟩
  | 33 => ⟨S2x4096x1x64, .f32⟩
  | 34 => ⟨S32, .f32⟩
  | 35 => ⟨S32, .f32⟩
  | 36 => ⟨S_, .f32⟩
  | 37 => ⟨S32, .f32⟩
  | 38 => ⟨S32, .f32⟩
  | 39 => ⟨S_, .f32⟩
  | 40 => ⟨S32, .f32⟩
  | 41 => ⟨S32, .f32⟩
  | 42 => ⟨S4096, .f32⟩
  | 43 => ⟨S4096x1, .f32⟩
  | 44 => ⟨S1x32, .f32⟩
  | 45 => ⟨S4096x32, .f32⟩
  | 46 => ⟨S4096x32, .f32⟩
  | 47 => ⟨S4096x32, .f32⟩
  | 48 => ⟨S4096x32, .f32⟩
  | 49 => ⟨S1x4096x1x32, .f32⟩
  | 50 => ⟨S4096x32, .f32⟩
  | 51 => ⟨S1x4096x1x32, .f32⟩
  | 52 => ⟨S2x4096x1x32, .f32⟩
  | 53 => ⟨S2x4096x1x32, .f32⟩
  | 54 => ⟨S2x4096x1x32, .f32⟩
  | 55 => ⟨S2x4096x1x32, .f32⟩
  | 56 => ⟨S2x4096x1x32, .f32⟩
  | 57 => ⟨S2x4096x1x32, .f32⟩
  | 58 => ⟨S2x4096x1x32, .f32⟩
  | 59 => ⟨S2x4096x1x32, .f32⟩
  | 60 => ⟨S2x4096x1x32, .f32⟩
  | 61 => ⟨S2x4096x1x32, .f32⟩
  | 62 => ⟨S2x4096x1x32, .f32⟩
  | 63 => ⟨S2x4096x1x32, .f32⟩
  | 64 => ⟨S2x4096x1x64, .f32⟩
  | 65 => ⟨S2x4096x64, .f32⟩
  | 66 => ⟨S_, .f32⟩
  | 67 => ⟨S2x4096x16, .f32⟩
  | 68 => ⟨S2x4096x16, .f32⟩
  | 69 => ⟨S_, .f32⟩
  | 70 => ⟨S2x4096x16, .f32⟩
  | 71 => ⟨S2x4096x16, .f32⟩
  | 72 => ⟨S32768x128, .f32⟩
  | 73 => ⟨S32768x128, .f32⟩
  | 74 => ⟨S8192x64, .f32⟩
  | 75 => ⟨S8192x1024, .f32⟩
  | 76 => ⟨S8192x1024, .bf16⟩
  | 77 => ⟨S8192x512, .f32⟩
  | 78 => ⟨S8192x512, .bf16⟩
  | 79 => ⟨S8192x512, .f32⟩
  | 80 => ⟨S8192x512, .bf16⟩
  | 81 => ⟨S8192x1024, .f32⟩
  | 82 => ⟨S8192x1024, .bf16⟩
  | 83 => ⟨S8192x64, .bf16⟩
  | 84 => ⟨S8192x16, .f32⟩
  | _ => ⟨S2x4096x2048, .f32⟩

abbrev hbmTy (i : Nat) : BufTy := match i / 128 with
  | 0 => hbmTy0_0 i
  | 1 => hbmTy0_1 i
  | _ => ⟨S2x4096x2048, .f32⟩

abbrev bufTy : (tb : Table) → Fin (tcTables nBuf tb) → BufTy
  | .hbm, ⟨i, _⟩ => hbmTy i
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_cst_7 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_cst_8 : Ref sig .tc := ⟨.hbm, 83, rfl⟩
abbrev main_v69 : Ref sig .tc := ⟨.hbm, 84, rfl⟩
abbrev main_v70 : Ref sig .tc := ⟨.hbm, 85, rfl⟩
abbrev main_cst_9 : Ref sig .tc := ⟨.hbm, 86, rfl⟩
abbrev main_v71 : Ref sig .tc := ⟨.hbm, 87, rfl⟩
abbrev main_v72 : Ref sig .tc := ⟨.hbm, 88, rfl⟩
abbrev main_cst_10 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_cst_11 : Ref sig .tc := ⟨.hbm, 100, rfl⟩
abbrev main_v83 : Ref sig .tc := ⟨.hbm, 101, rfl⟩
abbrev main_v84 : Ref sig .tc := ⟨.hbm, 102, rfl⟩
abbrev main_cst_12 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_cst_13 : Ref sig .tc := ⟨.hbm, 132, rfl⟩
abbrev main_v113 : Ref sig .tc := ⟨.hbm, 133, rfl⟩
abbrev main_v114 : Ref sig .tc := ⟨.hbm, 134, rfl⟩
abbrev main_cst_14 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_cst_15 : Ref sig .tc := ⟨.hbm, 164, rfl⟩
abbrev main_v143 : Ref sig .tc := ⟨.hbm, 165, rfl⟩
abbrev main_v144 : Ref sig .tc := ⟨.hbm, 166, rfl⟩
abbrev main_cst_16 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_v162 : Ref sig .tc := ⟨.hbm, 185, rfl⟩
abbrev main_v163 : Ref sig .tc := ⟨.hbm, 186, rfl⟩
abbrev main_v164 : Ref sig .tc := ⟨.hbm, 187, rfl⟩
abbrev main_v165 : Ref sig .tc := ⟨.hbm, 188, rfl⟩
abbrev main_v166 : Ref sig .tc := ⟨.hbm, 189, rfl⟩
abbrev main_v167 : Ref sig .tc := ⟨.hbm, 190, rfl⟩
abbrev main_v168 : Ref sig .tc := ⟨.hbm, 191, rfl⟩
abbrev main_v169 : Ref sig .tc := ⟨.hbm, 192, rfl⟩
abbrev main_v170 : Ref sig .tc := ⟨.hbm, 193, rfl⟩
abbrev main_cst_17 : Ref sig .tc := ⟨.hbm, 194, rfl⟩
abbrev main_v171 : Ref sig .tc := ⟨.hbm, 195, rfl⟩
abbrev main_v172 : Ref sig .tc := ⟨.hbm, 196, rfl⟩
abbrev main_cst_18 : Ref sig .tc := ⟨.hbm, 197, rfl⟩
abbrev main_v173 : Ref sig .tc := ⟨.hbm, 198, rfl⟩
abbrev main_v174 : Ref sig .tc := ⟨.hbm, 199, rfl⟩
abbrev main_v175 : Ref sig .tc := ⟨.hbm, 200, rfl⟩
abbrev main_v176 : Ref sig .tc := ⟨.hbm, 201, rfl⟩
abbrev main_v177 : Ref sig .tc := ⟨.hbm, 202, rfl⟩
abbrev main_v178 : Ref sig .tc := ⟨.hbm, 203, rfl⟩
abbrev main_v179 : Ref sig .tc := ⟨.hbm, 204, rfl⟩
abbrev main_v180 : Ref sig .tc := ⟨.hbm, 205, rfl⟩
abbrev main_v181 : Ref sig .tc := ⟨.hbm, 206, rfl⟩
abbrev main_v182 : Ref sig .tc := ⟨.hbm, 207, rfl⟩
abbrev main_v183 : Ref sig .tc := ⟨.hbm, 208, rfl⟩
abbrev main_v184 : Ref sig .tc := ⟨.hbm, 209, rfl⟩
abbrev main_v185 : Ref sig .tc := ⟨.hbm, 210, rfl⟩
abbrev main_v186 : Ref sig .tc := ⟨.hbm, 211, rfl⟩
abbrev main_v187 : Ref sig .tc := ⟨.hbm, 212, rfl⟩

abbrev nD : Nat := 1
abbrev τ : Topo := Topo.v7x

variable {F : FTy → Type} [FloatOps F]
-- ==== ProjS.lean ====
abbrev S8x4x2048 : Shape := ⟨3, ![8, 4, 2048]⟩
abbrev S2048 : Shape := ⟨1, ![2048]⟩
abbrev S2048x15440 : Shape := ⟨2, ![2048, 15440]⟩
abbrev S128 : Shape := ⟨1, ![128]⟩
abbrev S15440x2048 : Shape := ⟨2, ![15440, 2048]⟩
abbrev S3200x2048 : Shape := ⟨2, ![3200, 2048]⟩
abbrev S_ : Shape := ⟨0, ![]⟩
abbrev S8x16x2048 : Shape := ⟨3, ![8, 16, 2048]⟩
abbrev S128x2048 : Shape := ⟨2, ![128, 2048]⟩
abbrev S16 : Shape := ⟨1, ![16]⟩
abbrev S32 : Shape := ⟨1, ![32]⟩
abbrev S16x1 : Shape := ⟨2, ![16, 1]⟩
abbrev S64 : Shape := ⟨1, ![64]⟩
abbrev S1x128 : Shape := ⟨2, ![1, 128]⟩
abbrev S16x128 : Shape := ⟨2, ![16, 128]⟩
abbrev S1x16x1x128 : Shape := ⟨4, ![1, 16, 1, 128]⟩
abbrev S8x16x1x128 : Shape := ⟨4, ![8, 16, 1, 128]⟩
abbrev S128x128 : Shape := ⟨2, ![128, 128]⟩
abbrev S1x2048 : Shape := ⟨2, ![1, 2048]⟩
abbrev S128x1024 : Shape := ⟨2, ![128, 1024]⟩
abbrev S512x128 : Shape := ⟨2, ![512, 128]⟩
abbrev S128x512 : Shape := ⟨2, ![128, 512]⟩
abbrev S128x64 : Shape := ⟨2, ![128, 64]⟩
abbrev S128x16 : Shape := ⟨2, ![128, 16]⟩
abbrev S128x1 : Shape := ⟨2, ![128, 1]⟩
abbrev S128x3200 : Shape := ⟨2, ![128, 3200]⟩

abbrev nBuf : Space → Nat
  | .hbm => 59
  | .vmem => 16
  | .smem => 0
  | _ => 0

abbrev bufTy : (tb : Table) → Fin (tcTables nBuf tb) → BufTy
  | .hbm, ⟨0, _⟩ => ⟨S8x4x2048, .f32⟩
  | .hbm, ⟨1, _⟩ => ⟨S2048, .f32⟩
  | .hbm, ⟨2, _⟩ => ⟨S2048x15440, .f32⟩
  | .hbm, ⟨3, _⟩ => ⟨S128, .f32⟩
  | .hbm, ⟨4, _⟩ => ⟨S128, .f32⟩
  | .hbm, ⟨5, _⟩ => ⟨S15440x2048, .f32⟩
  | .hbm, ⟨6, _⟩ => ⟨S3200x2048, .f32⟩
  | .hbm, ⟨7, _⟩ => ⟨S3200x2048, .bf16⟩
  | .hbm, ⟨8, _⟩ => ⟨S_, .i32⟩
  | .hbm, ⟨9, _⟩ => ⟨S_, .f32⟩
  | .hbm, ⟨10, _⟩ => ⟨S8x16x2048, .f32⟩
  | .hbm, ⟨11, _⟩ => ⟨S128x2048, .f32⟩
  | .hbm, ⟨12, _⟩ => ⟨S16, .i32⟩
  | .hbm, ⟨13, _⟩ => ⟨S_, .i32⟩
  | .hbm, ⟨14, _⟩ => ⟨S16, .i32⟩
  | .hbm, ⟨15, _⟩ => ⟨S16, .i32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S16, .f32⟩
  | .hbm, ⟨25, _⟩ => ⟨S16x1, .f32⟩
  | .hbm, ⟨26, _⟩ => ⟨S64, .f32⟩
  | .hbm, ⟨27, _⟩ => ⟨S64, .f32⟩
  | .hbm, ⟨28, _⟩ => ⟨S_, .f32⟩
  | .hbm, ⟨29, _⟩ => ⟨S64, .f32⟩
  | .hbm, ⟨30, _⟩ => ⟨S64, .f32⟩
  | .hbm, ⟨31, _⟩ => ⟨S_, .f32⟩
  | .hbm, ⟨32, _⟩ => ⟨S64, .f32⟩
  | .hbm, ⟨33, _⟩ => ⟨S64, .f32⟩
  | .hbm, ⟨34, _⟩ => ⟨S128, .f32⟩
  | .hbm, ⟨35, _⟩ => ⟨S1x128, .f32⟩
  | .hbm, ⟨36, _⟩ => ⟨S16x128, .f32⟩
  | .hbm, ⟨37, _⟩ => ⟨S16x128, .f32⟩
  | .hbm, ⟨38, _⟩ => ⟨S16x128, .f32⟩
  | .hbm, ⟨39, _⟩ => ⟨S16x128, .f32⟩
  | .hbm, ⟨40, _⟩ => ⟨S16x128, .f32⟩
  | .hbm, ⟨41, _⟩ => ⟨S1x16x1x128, .f32⟩
  | .hbm, ⟨42, _⟩ => ⟨S8x16x1x128, .f32⟩
  | .hbm, ⟨43, _⟩ => ⟨S128x128, .f32⟩
  | .hbm, ⟨44, _⟩ => ⟨S1x16x1x128, .f32⟩
  | .hbm, ⟨45, _⟩ => ⟨S8x16x1x128, .f32⟩
  | .hbm, ⟨46, _⟩ => ⟨S128x128, .f32⟩
  | .hbm, ⟨47, _⟩ => ⟨S1x2048, .f32⟩
  | .hbm, ⟨48, _⟩ => ⟨S1x128, .f32⟩
  | .hbm, ⟨49, _⟩ => ⟨S1x128, .f32⟩
  | .hbm, ⟨50, _⟩ => ⟨S128x1024, .bf16⟩
  | .hbm, ⟨51, _⟩ => ⟨S512x128, .f32⟩
  | .hbm, ⟨52, _⟩ => ⟨S512x128, .f32⟩
  | .hbm, ⟨53, _⟩ => ⟨S128x512, .bf16⟩
  | .hbm, ⟨54, _⟩ => ⟨S128x512, .bf16⟩
  | .hbm, ⟨55, _⟩ => ⟨S128x1024, .bf16⟩
  | .hbm, ⟨56, _⟩ => ⟨S128x64, .f32⟩
  | .hbm, ⟨57, _⟩ => ⟨S128x64, .bf16⟩
  | .hbm, ⟨58, _⟩ => ⟨S128x16, .f32⟩
  | .local _ .vmem, ⟨0, _⟩ => ⟨S128x2048, .f32⟩
  | .local _ .vmem, ⟨1, _⟩ => ⟨S1x2048, .f32⟩
  | .local _ .vmem, ⟨2, _⟩ => ⟨S3200x2048, .bf16⟩
  | .local _ .vmem, ⟨3, _⟩ => ⟨S1x128, .f32⟩
  | .local _ .vmem, ⟨4, _⟩ => ⟨S1x128, .f32⟩
  | .local _ .vmem, ⟨5, _⟩ => ⟨S128x128, .f32⟩
  | .local _ .vmem, ⟨6, _⟩ => ⟨S128x128, .f32⟩
  | .local _ .vmem, ⟨7, _⟩ => ⟨S128x1024, .bf16⟩
  | .local _ .vmem, ⟨8, _⟩ => ⟨S512x128, .f32⟩
  | .local _ .vmem, ⟨9, _⟩ => ⟨S512x128, .f32⟩
  | .local _ .vmem, ⟨10, _⟩ => ⟨S128x512, .bf16⟩
  | .local _ .vmem, ⟨11, _⟩ => ⟨S128x512, .bf16⟩
  | .local _ .vmem, ⟨12, _⟩ => ⟨S128x1024, .bf16⟩
  | .local _ .vmem, ⟨13, _⟩ => ⟨S128x64, .f32⟩
  | .local _ .vmem, ⟨14, _⟩ => ⟨S128x64, .bf16⟩
  | .local _ .vmem, ⟨15, _⟩ => ⟨S128x16, .f32⟩
  | _, _ => ⟨S8x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38_0 : Ref sig .tc := ⟨.hbm, 50, rfl⟩
abbrev main_v38_1 : Ref sig .tc := ⟨.hbm, 51, rfl⟩
abbrev main_v38_2 : Ref sig .tc := ⟨.hbm, 52, rfl⟩
abbrev main_v38_3 : Ref sig .tc := ⟨.hbm, 53, rfl⟩
abbrev main_v38_4 : Ref sig .tc := ⟨.hbm, 54, rfl⟩
abbrev main_v38_5 : Ref sig .tc := ⟨.hbm, 55, rfl⟩
abbrev main_v38_6 : Ref sig .tc := ⟨.hbm, 56, rfl⟩
abbrev main_v38_7 : Ref sig .tc := ⟨.hbm, 57, rfl⟩
abbrev main_v38_8 : Ref sig .tc := ⟨.hbm, 58, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3200x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S512x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S128x64 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S128x16 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]
-- ==== ProjSRefIdeal.lean ====
abbrev S8x4x2048 : Shape := ⟨3, ![8, 4, 2048]⟩
abbrev S2048 : Shape := ⟨1, ![2048]⟩
abbrev S2048x15440 : Shape := ⟨2, ![2048, 15440]⟩
abbrev S128 : Shape := ⟨1, ![128]⟩
abbrev S_ : Shape := ⟨0, ![]⟩
abbrev S8x16x2048 : Shape := ⟨3, ![8, 16, 2048]⟩
abbrev S8x16 : Shape := ⟨2, ![8, 16]⟩
abbrev S8x16x1 : Shape := ⟨3, ![8, 16, 1]⟩
abbrev S1x1x2048 : Shape := ⟨3, ![1, 1, 2048]⟩
abbrev S8x16x15440 : Shape := ⟨3, ![8, 16, 15440]⟩
abbrev S8x16x3152 : Shape := ⟨3, ![8, 16, 3152]⟩
abbrev S8x16x1024 : Shape := ⟨3, ![8, 16, 1024]⟩
abbrev S8x16x512 : Shape := ⟨3, ![8, 16, 512]⟩
abbrev S8x16x64 : Shape := ⟨3, ![8, 16, 64]⟩
abbrev S8x16x16 : Shape := ⟨3, ![8, 16, 16]⟩
abbrev S16 : Shape := ⟨1, ![16]⟩
abbrev S8x16x8x128 : Shape := ⟨4, ![8, 16, 8, 128]⟩
abbrev S8x16x8 : Shape := ⟨3, ![8, 16, 8]⟩
abbrev S8x16x8x1 : Shape := ⟨4, ![8, 16, 8, 1]⟩
abbrev S1x1x1x128 : Shape := ⟨4, ![1, 1, 1, 128]⟩
abbrev S64 : Shape := ⟨1, ![64]⟩
abbrev S16x1 : Shape := ⟨2, ![16, 1]⟩
abbrev S1x64 : Shape := ⟨2, ![1, 64]⟩
abbrev S16x64 : Shape := ⟨2, ![16, 64]⟩
abbrev S1x16x1x64 : Shape := ⟨4, ![1, 16, 1, 64]⟩
abbrev S8x16x8x64 : Shape := ⟨4, ![8, 16, 8, 64]⟩
abbrev S8x16x4x128 : Shape := ⟨4, ![8, 16, 4, 128]⟩
abbrev S8x16x4 : Shape := ⟨3, ![8, 16, 4]⟩
abbrev S8x16x4x1 : Shape := ⟨4, ![8, 16, 4, 1]⟩
abbrev S8x16x4x64 : Shape := ⟨4, ![8, 16, 4, 64]⟩
abbrev S8x16x16x64 : Shape := ⟨4, ![8, 16, 16, 64]⟩
abbrev S32 : Shape := ⟨1, ![32]⟩
abbrev S1x32 : Shape := ⟨2, ![1, 32]⟩
abbrev S16x32 : Shape := ⟨2, ![16, 32]⟩
abbrev S1x16x1x32 : Shape := ⟨4, ![1, 16, 1, 32]⟩
abbrev S8x16x16x32 : Shape := ⟨4, ![8, 16, 16, 32]⟩
abbrev S8x16x1x64 : Shape := ⟨4, ![8, 16, 1, 64]⟩
abbrev S8x16x1x32 : Shape := ⟨4, ![8, 16, 1, 32]⟩
abbrev S512x128 : Shape := ⟨2, ![512, 128]⟩
abbrev S128x64 : Shape := ⟨2, ![128, 64]⟩
abbrev S128x1024 : Shape := ⟨2, ![128, 1024]⟩
abbrev S128x512 : Shape := ⟨2, ![128, 512]⟩
abbrev S128x16 : Shape := ⟨2, ![128, 16]⟩

abbrev nBuf : Space → Nat
  | .hbm => 219
  | .vmem => 0
  | .smem => 0
  | _ => 0

abbrev hbmTy0_0 (i : Nat) : BufTy := match i % 128 with
  | 0 => ⟨S8x4x2048, .f32⟩
  | 1 => ⟨S2048, .f32⟩
  | 2 => ⟨S2048x15440, .f32⟩
  | 3 => ⟨S128, .f32⟩
  | 4 => ⟨S128, .f32⟩
  | 5 => ⟨S_, .i32⟩
  | 6 => ⟨S_, .f32⟩
  | 7 => ⟨S8x16x2048, .f32⟩
  | 8 => ⟨S8x16x2048, .f32⟩
  | 9 => ⟨S_, .f32⟩
  | 10 => ⟨S8x16, .f32⟩
  | 11 => ⟨S8x16x1, .f32⟩
  | 12 => ⟨S_, .f32⟩
  | 13 => ⟨S8x16x1, .f32⟩
  | 14 => ⟨S8x16x1, .f32⟩
  | 15 => ⟨S_, .f32⟩
  | 16 => ⟨S8x16x1, .f32⟩
  | 17 => ⟨S8x16x1, .f32⟩
  | 18 => ⟨S8x16x1, .f32⟩
  | 19 => ⟨S8x16x2048, .f32⟩
  | 20 => ⟨S8x16x2048, .f32⟩
  | 21 => ⟨S1x1x2048, .f32⟩
  | 22 => ⟨S8x16x2048, .f32⟩
  | 23 => ⟨S8x16x2048, .f32⟩
  | 24 => ⟨S8x16x15440, .f32⟩
  | 25 => ⟨S8x16x3152, .f32⟩
  | 26 => ⟨S8x16x1024, .f32⟩
  | 27 => ⟨S8x16x512, .f32⟩
  | 28 => ⟨S8x16x512, .f32⟩
  | 29 => ⟨S8x16x1024, .f32⟩
  | 30 => ⟨S8x16x64, .f32⟩
  | 31 => ⟨S8x16x16, .f32⟩
  | 32 => ⟨S16, .i32⟩
  | 33 => ⟨S_, .i32⟩
  | 34 => ⟨S16, .i32⟩
  | 35 => ⟨S16, .i32⟩
  | 36 => ⟨S8x16x8x128, .f32⟩
  | 37 => ⟨S8x16x8x128, .f32⟩
  | 38 => ⟨S_, .f32⟩
  | 39 => ⟨S8x16x8, .f32⟩
  | 40 => ⟨S8x16x8x1, .f32⟩
  | 41 => ⟨S_, .f32⟩
  | 42 => ⟨S8x16x8x1, .f32⟩
  | 43 => ⟨S8x16x8x1, .f32⟩
  | 44 => ⟨S_, .f32⟩
  | 45 => ⟨S8x16x8x1, .f32⟩
  | 46 => ⟨S8x16x8x1, .f32⟩
  | 47 => ⟨S8x16x8x1, .f32⟩
  | 48 => ⟨S8x16x8x128, .f32⟩
  | 49 => ⟨S8x16x8x128, .f32⟩
  | 50 => ⟨S1x1x1x128, .f32⟩
  | 51 => ⟨S8x16x8x128, .f32⟩
  | 52 => ⟨S8x16x8x128, .f32⟩
  | 53 => ⟨S64, .f32⟩
  | 54 => ⟨S64, .f32⟩
  | 55 => ⟨S_, .f32⟩
  | 56 => ⟨S64, .f32⟩
  | 57 => ⟨S64, .f32⟩
  | 58 => ⟨S_, .f32⟩
  | 59 => ⟨S64, .f32⟩
  | 60 => ⟨S64, .f32⟩
  | 61 => ⟨S16, .f32⟩
  | 62 => ⟨S16x1, .f32⟩
  | 63 => ⟨S1x64, .f32⟩
  | 64 => ⟨S16x64, .f32⟩
  | 65 => ⟨S16x64, .f32⟩
  | 66 => ⟨S16x64, .f32⟩
  | 67 => ⟨S16x64, .f32⟩
  | 68 => ⟨S1x16x1x64, .f32⟩
  | 69 => ⟨S16x64, .f32⟩
  | 70 => ⟨S1x16x1x64, .f32⟩
  | 71 => ⟨S8x16x8x64, .f32⟩
  | 72 => ⟨S8x16x8x64, .f32⟩
  | 73 => ⟨S8x16x8x64, .f32⟩
  | 74 => ⟨S8x16x8x64, .f32⟩
  | 75 => ⟨S8x16x8x64, .f32⟩
  | 76 => ⟨S8x16x8x64, .f32⟩
  | 77 => ⟨S8x16x8x64, .f32⟩
  | 78 => ⟨S8x16x8x64, .f32⟩
  | 79 => ⟨S8x16x8x64, .f32⟩
  | 80 => ⟨S8x16x8x64, .f32⟩
  | 81 => ⟨S8x16x8x64, .f32⟩
  | 82 => ⟨S8x16x8x64, .f32⟩
  | 83 => ⟨S8x16x8x128, .f32⟩
  | 84 => ⟨S_, .f32⟩
  | 85 => ⟨S8x16x8x128, .f32⟩
  | 86 => ⟨S8x16x8x128, .f32⟩
  | 87 => ⟨S8x16x4x128, .f32⟩
  | 88 => ⟨S8x16x4x128, .f32⟩
  | 89 => ⟨S_, .f32⟩
  | 90 => ⟨S8x16x4, .f32⟩
  | 91 => ⟨S8x16x4x1, .f32⟩
  | 92 => ⟨S_, .f32⟩
  | 93 => ⟨S8x16x4x1, .f32⟩
  | 94 => ⟨S8x16x4x1, .f32⟩
  | 95 => ⟨S_, .f32⟩
  | 96 => ⟨S8x16x4x1, .f32⟩
  | 97 => ⟨S8x16x4x1, .f32⟩
  | 98 => ⟨S8x16x4x1, .f32⟩
  | 99 => ⟨S8x16x4x128, .f32⟩
  | 100 => ⟨S8x16x4x128, .f32⟩
  | 101 => ⟨S1x1x1x128, .f32⟩
  | 102 => ⟨S8x16x4x128, .f32⟩
  | 103 => ⟨S8x16x4x128, .f32⟩
  | 104 => ⟨S64, .f32⟩
  | 105 => ⟨S64, .f32⟩
  | 106 => ⟨S_, .f32⟩
  | 107 => ⟨S64, .f32⟩
  | 108 => ⟨S64, .f32⟩
  | 109 => ⟨S_, .f32⟩
  | 110 => ⟨S64, .f32⟩
  | 111 => ⟨S64, .f32⟩
  | 112 => ⟨S16, .f32⟩
  | 113 => ⟨S16x1, .f32⟩
  | 114 => ⟨S1x64, .f32⟩
  | 115 => ⟨S16x64, .f32⟩
  | 116 => ⟨S16x64, .f32⟩
  | 117 => ⟨S16x64, .f32⟩
  | 118 => ⟨S16x64, .f32⟩
  | 119 => ⟨S1x16x1x64, .f32⟩
  | 120 => ⟨S16x64, .f32⟩
  | 121 => ⟨S1x16x1x64, .f32⟩
  | 122 => ⟨S8x16x4x64, .f32⟩
  | 123 => ⟨S8x16x4x64, .f32⟩
  | 124 => ⟨S8x16x4x64, .f32⟩
  | 125 => ⟨S8x16x4x64, .f32⟩
  | 126 => ⟨S8x16x4x64, .f32⟩
  | 127 => ⟨S8x16x4x64, .f32⟩
  | _ => ⟨S8x4x2048, .f32⟩

abbrev hbmTy0_1 (i : Nat) : BufTy := match i % 128 with
  | 0 => ⟨S8x16x4x64, .f32⟩
  | 1 => ⟨S8x16x4x64, .f32⟩
  | 2 => ⟨S8x16x4x64, .f32⟩
  | 3 => ⟨S8x16x4x64, .f32⟩
  | 4 => ⟨S8x16x4x64, .f32⟩
  | 5 => ⟨S8x16x4x64, .f32⟩
  | 6 => ⟨S8x16x4x128, .f32⟩
  | 7 => ⟨S8x16x16x64, .f32⟩
  | 8 => ⟨S32, .f32⟩
  | 9 => ⟨S32, .f32⟩
  | 10 => ⟨S_, .f32⟩
  | 11 => ⟨S32, .f32⟩
  | 12 => ⟨S32, .f32⟩
  | 13 => ⟨S_, .f32⟩
  | 14 => ⟨S32, .f32⟩
  | 15 => ⟨S32, .f32⟩
  | 16 => ⟨S16, .f32⟩
  | 17 => ⟨S16x1, .f32⟩
  | 18 => ⟨S1x32, .f32⟩
  | 19 => ⟨S16x32, .f32⟩
  | 20 => ⟨S16x32, .f32⟩
  | 21 => ⟨S16x32, .f32⟩
  | 22 => ⟨S16x32, .f32⟩
  | 23 => ⟨S1x16x1x32, .f32⟩
  | 24 => ⟨S16x32, .f32⟩
  | 25 => ⟨S1x16x1x32, .f32⟩
  | 26 => ⟨S8x16x16x32, .f32⟩
  | 27 => ⟨S8x16x16x32, .f32⟩
  | 28 => ⟨S8x16x16x32, .f32⟩
  | 29 => ⟨S8x16x16x32, .f32⟩
  | 30 => ⟨S8x16x16x32, .f32⟩
  | 31 => ⟨S8x16x16x32, .f32⟩
  | 32 => ⟨S8x16x16x32, .f32⟩
  | 33 => ⟨S8x16x16x32, .f32⟩
  | 34 => ⟨S8x16x16x32, .f32⟩
  | 35 => ⟨S8x16x16x32, .f32⟩
  | 36 => ⟨S8x16x16x32, .f32⟩
  | 37 => ⟨S8x16x16x32, .f32⟩
  | 38 => ⟨S8x16x16x64, .f32⟩
  | 39 => ⟨S8x16x1x64, .f32⟩
  | 40 => ⟨S32, .f32⟩
  | 41 => ⟨S32, .f32⟩
  | 42 => ⟨S_, .f32⟩
  | 43 => ⟨S32, .f32⟩
  | 44 => ⟨S32, .f32⟩
  | 45 => ⟨S_, .f32⟩
  | 46 => ⟨S32, .f32⟩
  | 47 => ⟨S32, .f32⟩
  | 48 => ⟨S16, .f32⟩
  | 49 => ⟨S16x1, .f32⟩
  | 50 => ⟨S1x32, .f32⟩
  | 51 => ⟨S16x32, .f32⟩
  | 52 => ⟨S16x32, .f32⟩
  | 53 => ⟨S16x32, .f32⟩
  | 54 => ⟨S16x32, .f32⟩
  | 55 => ⟨S1x16x1x32, .f32⟩
  | 56 => ⟨S16x32, .f32⟩
  | 57 => ⟨S1x16x1x32, .f32⟩
  | 58 => ⟨S8x16x1x32, .f32⟩
  | 59 => ⟨S8x16x1x32, .f32⟩
  | 60 => ⟨S8x16x1x32, .f32⟩
  | 61 => ⟨S8x16x1x32, .f32⟩
  | 62 => ⟨S8x16x1x32, .f32⟩
  | 63 => ⟨S8x16x1x32, .f32⟩
  | 64 => ⟨S8x16x1x32, .f32⟩
  | 65 => ⟨S8x16x1x32, .f32⟩
  | 66 => ⟨S8x16x1x32, .f32⟩
  | 67 => ⟨S8x16x1x32, .f32⟩
  | 68 => ⟨S8x16x1x32, .f32⟩
  | 69 => ⟨S8x16x1x32, .f32⟩
  | 70 => ⟨S8x16x1x64, .f32⟩
  | 71 => ⟨S8x16x64, .f32⟩
  | 72 => ⟨S_, .f32⟩
  | 73 => ⟨S8x16x16, .f32⟩
  | 74 => ⟨S8x16x16, .f32⟩
  | 75 => ⟨S_, .f32⟩
  | 76 => ⟨S8x16x16, .f32⟩
  | 77 => ⟨S8x16x16, .f32⟩
  | 78 => ⟨S512x128, .f32⟩
  | 79 => ⟨S512x128, .f32⟩
  | 80 => ⟨S128x64, .f32⟩
  | 81 => ⟨S128x1024, .f32⟩
  | 82 => ⟨S128x1024, .bf16⟩
  | 83 => ⟨S128x512, .f32⟩
  | 84 => ⟨S128x512, .bf16⟩
  | 85 => ⟨S128x512, .f32⟩
  | 86 => ⟨S128x512, .bf16⟩
  | 87 => ⟨S128x1024, .f32⟩
  | 88 => ⟨S128x1024, .bf16⟩
  | 89 => ⟨S128x64, .bf16⟩
  | 90 => ⟨S128x16, .f32⟩
  | _ => ⟨S8x4x2048, .f32⟩

abbrev hbmTy (i : Nat) : BufTy := match i / 128 with
  | 0 => hbmTy0_0 i
  | 1 => hbmTy0_1 i
  | _ => ⟨S8x4x2048, .f32⟩

abbrev bufTy : (tb : Table) → Fin (tcTables nBuf tb) → BufTy
  | .hbm, ⟨i, _⟩ => hbmTy i
  | _, _ => ⟨S8x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_8 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_9 : Ref sig .tc := ⟨.hbm, 89, rfl⟩
abbrev main_v72 : Ref sig .tc := ⟨.hbm, 90, rfl⟩
abbrev main_v73 : Ref sig .tc := ⟨.hbm, 91, rfl⟩
abbrev main_cst_10 : Ref sig .tc := ⟨.hbm, 92, rfl⟩
abbrev main_v74 : Ref sig .tc := ⟨.hbm, 93, rfl⟩
abbrev main_v75 : Ref sig .tc := ⟨.hbm, 94, rfl⟩
abbrev main_cst_11 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_cst_12 : Ref sig .tc := ⟨.hbm, 106, rfl⟩
abbrev main_v86 : Ref sig .tc := ⟨.hbm, 107, rfl⟩
abbrev main_v87 : Ref sig .tc := ⟨.hbm, 108, rfl⟩
abbrev main_cst_13 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_cst_14 : Ref sig .tc := ⟨.hbm, 138, rfl⟩
abbrev main_v116 : Ref sig .tc := ⟨.hbm, 139, rfl⟩
abbrev main_v117 : Ref sig .tc := ⟨.hbm, 140, rfl⟩
abbrev main_cst_15 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_cst_16 : Ref sig .tc := ⟨.hbm, 170, rfl⟩
abbrev main_v146 : Ref sig .tc := ⟨.hbm, 171, rfl⟩
abbrev main_v147 : Ref sig .tc := ⟨.hbm, 172, rfl⟩
abbrev main_cst_17 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_v158 : Ref sig .tc := ⟨.hbm, 184, rfl⟩
abbrev main_v159 : Ref sig .tc := ⟨.hbm, 185, rfl⟩
abbrev main_v160 : Ref sig .tc := ⟨.hbm, 186, rfl⟩
abbrev main_v161 : Ref sig .tc := ⟨.hbm, 187, rfl⟩
abbrev main_v162 : Ref sig .tc := ⟨.hbm, 188, rfl⟩
abbrev main_v163 : Ref sig .tc := ⟨.hbm, 189, rfl⟩
abbrev main_v164 : Ref sig .tc := ⟨.hbm, 190, rfl⟩
abbrev main_v165 : Ref sig .tc := ⟨.hbm, 191, rfl⟩
abbrev main_v166 : Ref sig .tc := ⟨.hbm, 192, rfl⟩
abbrev main_v167 : Ref sig .tc := ⟨.hbm, 193, rfl⟩
abbrev main_v168 : Ref sig .tc := ⟨.hbm, 194, rfl⟩
abbrev main_v169 : Ref sig .tc := ⟨.hbm, 195, rfl⟩
abbrev main_v170 : Ref sig .tc := ⟨.hbm, 196, rfl⟩
abbrev main_v171 : Ref sig .tc := ⟨.hbm, 197, rfl⟩
abbrev main_v172 : Ref sig .tc := ⟨.hbm, 198, rfl⟩
abbrev main_v173 : Ref sig .tc := ⟨.hbm, 199, rfl⟩
abbrev main_cst_18 : Ref sig .tc := ⟨.hbm, 200, rfl⟩
abbrev main_v174 : Ref sig .tc := ⟨.hbm, 201, rfl⟩
abbrev main_v175 : Ref sig .tc := ⟨.hbm, 202, rfl⟩
abbrev main_cst_19 : Ref sig .tc := ⟨.hbm, 203, rfl⟩
abbrev main_v176 : Ref sig .tc := ⟨.hbm, 204, rfl⟩
abbrev main_v177 : Ref sig .tc := ⟨.hbm, 205, rfl⟩
abbrev main_v178 : Ref sig .tc := ⟨.hbm, 206, rfl⟩
abbrev main_v179 : Ref sig .tc := ⟨.hbm, 207, rfl⟩
abbrev main_v180 : Ref sig .tc := ⟨.hbm, 208, rfl⟩
abbrev main_v181 : Ref sig .tc := ⟨.hbm, 209, rfl⟩
abbrev main_v182 : Ref sig .tc := ⟨.hbm, 210, rfl⟩
abbrev main_v183 : Ref sig .tc := ⟨.hbm, 211, rfl⟩
abbrev main_v184 : Ref sig .tc := ⟨.hbm, 212, rfl⟩
abbrev main_v185 : Ref sig .tc := ⟨.hbm, 213, rfl⟩
abbrev main_v186 : Ref sig .tc := ⟨.hbm, 214, rfl⟩
abbrev main_v187 : Ref sig .tc := ⟨.hbm, 215, rfl⟩
abbrev main_v188 : Ref sig .tc := ⟨.hbm, 216, rfl⟩
abbrev main_v189 : Ref sig .tc := ⟨.hbm, 217, rfl⟩
abbrev main_v190 : Ref sig .tc := ⟨.hbm, 218, rfl⟩

abbrev nD : Nat := 1
abbrev τ : Topo := Topo.v7x

variable {F : FTy → Type} [FloatOps F]
-- ==== Dsa.lean ====
abbrev S2x4096x16x64 : Shape := ⟨4, ![2, 4096, 16, 64]⟩
abbrev S2x4096x16 : Shape := ⟨3, ![2, 4096, 16]⟩
abbrev S2x4096x8x128 : Shape := ⟨4, ![2, 4096, 8, 128]⟩
abbrev S2x4096x64 : Shape := ⟨3, ![2, 4096, 64]⟩
abbrev S2x4096x4x128 : Shape := ⟨4, ![2, 4096, 4, 128]⟩
abbrev S8192x1024 : Shape := ⟨2, ![8192, 1024]⟩
abbrev S_ : Shape := ⟨0, ![]⟩
abbrev S8192x16 : Shape := ⟨2, ![8192, 16]⟩
abbrev S16x8192 : Shape := ⟨2, ![16, 8192]⟩
abbrev S8192x64 : Shape := ⟨2, ![8192, 64]⟩
abbrev S8192x512 : Shape := ⟨2, ![8192, 512]⟩
abbrev S128x1024 : Shape := ⟨2, ![128, 1024]⟩
abbrev S16x128 : Shape := ⟨2, ![16, 128]⟩
abbrev S4096x64 : Shape := ⟨2, ![4096, 64]⟩
abbrev S4096x512 : Shape := ⟨2, ![4096, 512]⟩
abbrev S8x512x128 : Shape := ⟨3, ![8, 512, 128]⟩
abbrev S8x512x512 : Shape := ⟨3, ![8, 512, 512]⟩
abbrev S1x128 : Shape := ⟨2, ![1, 128]⟩
abbrev S8x4x512x256 : Shape := ⟨4, ![8, 4, 512, 256]⟩
abbrev S4x128x256 : Shape := ⟨3, ![4, 128, 256]⟩
abbrev S512x1 : Shape := ⟨2, ![512, 1]⟩
abbrev S512x128 : Shape := ⟨2, ![512, 128]⟩
abbrev S128x512 : Shape := ⟨2, ![128, 512]⟩
abbrev S1x128x512 : Shape := ⟨3, ![1, 128, 512]⟩
abbrev S128x64 : Shape := ⟨2, ![128, 64]⟩
abbrev S256x64 : Shape := ⟨2, ![256, 64]⟩
abbrev S64x128 : Shape := ⟨2, ![64, 128]⟩
abbrev S512x64 : Shape := ⟨2, ![512, 64]⟩
abbrev S512x256 : Shape := ⟨2, ![512, 256]⟩
abbrev S1x512x128 : Shape := ⟨3, ![1, 512, 128]⟩
abbrev S8x64x128 : Shape := ⟨3, ![8, 64, 128]⟩
abbrev S128 : Shape := ⟨1, ![128]⟩
abbrev S1x1x128 : Shape := ⟨3, ![1, 1, 128]⟩
abbrev S1 : Shape := ⟨1, ![1]⟩
abbrev S1x1x1 : Shape := ⟨3, ![1, 1, 1]⟩
abbrev S128x128 : Shape := ⟨2, ![128, 128]⟩
abbrev S256x128 : Shape := ⟨2, ![256, 128]⟩
abbrev S1x256 : Shape := ⟨2, ![1, 256]⟩
abbrev S1x1x512x256 : Shape := ⟨4, ![1, 1, 512, 256]⟩
abbrev S256 : Shape := ⟨1, ![256]⟩
abbrev S1x128x256 : Shape := ⟨3, ![1, 128, 256]⟩
abbrev S128x256 : Shape := ⟨2, ![128, 256]⟩

abbrev nBuf : Space → Nat
  | .hbm => 25
  | .vmem => 18
  | .smem => 0
  | _ => 0

abbrev bufTy : (tb : Table) → Fin (tcTables nBuf tb) → BufTy
  | .hbm, ⟨0, _⟩ => ⟨S2x4096x16x64, .f32⟩
  | .hbm, ⟨1, _⟩ => ⟨S2x4096x16, .f32⟩
  | .hbm, ⟨2, _⟩ => ⟨S2x4096x8x128, .f32⟩
  | .hbm, ⟨3, _⟩ => ⟨S2x4096x64, .f32⟩
  | .hbm, ⟨4, _⟩ => ⟨S2x4096x4x128, .f32⟩
  | .hbm, ⟨5, _⟩ => ⟨S2x4096x4x128, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x1024, .bf16⟩
  | .hbm, ⟨11, _⟩ => ⟨S8192x16, .f32⟩
  | .hbm, ⟨12, _⟩ => ⟨S_, .f32⟩
  | .hbm, ⟨13, _⟩ => ⟨S8192x16, .f32⟩
  | .hbm, ⟨14, _⟩ => ⟨S8192x16, .f32⟩
  | .hbm, ⟨15, _⟩ => ⟨S16x8192, .f32⟩
  | .hbm, ⟨16, _⟩ => ⟨S8192x1024, .f32⟩
  | .hbm, ⟨17, _⟩ => ⟨S8192x1024, .bf16⟩
  | .hbm, ⟨18, _⟩ => ⟨S8192x64, .f32⟩
  | .hbm, ⟨19, _⟩ => ⟨S8192x64, .bf16⟩
  | .hbm, ⟨20, _⟩ => ⟨S8192x512, .f32⟩
  | .hbm, ⟨21, _⟩ => ⟨S8192x512, .bf16⟩
  | .hbm, ⟨22, _⟩ => ⟨S8192x512, .f32⟩
  | .hbm, ⟨23, _⟩ => ⟨S8192x512, .bf16⟩
  | .hbm, ⟨24, _⟩ => ⟨S8192x1024, .bf16⟩
  | .local _ .vmem, ⟨0, _⟩ => ⟨S128x1024, .bf16⟩
  | .local _ .vmem, ⟨1, _⟩ => ⟨S128x1024, .bf16⟩
  | .local _ .vmem, ⟨2, _⟩ => ⟨S16x128, .f32⟩
  | .local _ .vmem, ⟨3, _⟩ => ⟨S16x128, .f32⟩
  | .local _ .vmem, ⟨4, _⟩ => ⟨S128x1024, .bf16⟩
  | .local _ .vmem, ⟨5, _⟩ => ⟨S128x1024, .bf16⟩
  | .local _ .vmem, ⟨6, _⟩ => ⟨S4096x64, .bf16⟩
  | .local _ .vmem, ⟨7, _⟩ => ⟨S4096x512, .bf16⟩
  | .local _ .vmem, ⟨8, _⟩ => ⟨S4096x512, .bf16⟩
  | .local _ .vmem, ⟨9, _⟩ => ⟨S128x1024, .bf16⟩
  | .local _ .vmem, ⟨10, _⟩ => ⟨S128x1024, .bf16⟩
  | .local _ .vmem, ⟨11, _⟩ => ⟨S8x512x128, .f32⟩
  | .local _ .vmem, ⟨12, _⟩ => ⟨S8x512x128, .f32⟩
  | .local _ .vmem, ⟨13, _⟩ => ⟨S8x512x512, .bf16⟩
  | .local _ .vmem, ⟨14, _⟩ => ⟨S1x128, .f32⟩
  | .local _ .vmem, ⟨15, _⟩ => ⟨S1x128, .i32⟩
  | .local _ .vmem, ⟨16, _⟩ => ⟨S8x4x512x256, .f32⟩
  | .local _ .vmem, ⟨17, _⟩ => ⟨S4x128x256, .f32⟩
  | _, _ => ⟨S2x4096x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_scratch6 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 32], ![false, false]⟩

@[reducible] def k0_t1_loop (i : grid0.Coords) : Scf.Loop 32 :=
  let c0_i32_19 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_13 : BitVec 32 := 0#32
  let v59 : BitVec 1 := Scalar.cmpi .sgt v20 c0_i32_13
  let v60 : BitVec 32 := Scalar.extui v59
  let c0_i32_14 : BitVec 32 := 0#32
  let v61 : BitVec 1 := Scalar.cmpi .slt v20 c0_i32_14
  let v62 : BitVec 32 := Scalar.extui v61
  let v63 : BitVec 32 := Scalar.subi v60 v62
  let c2_i32 : BitVec 32 := 2#32
  let c0_i32_15 : BitVec 32 := 0#32
  let v64 : BitVec 1 := Scalar.cmpi .sgt c2_i32 c0_i32_15
  let v65 : BitVec 32 := Scalar.extui v64
  let c0_i32_16 : BitVec 32 := 0#32
  let v66 : BitVec 1 := Scalar.cmpi .slt c2_i32 c0_i32_16
  let v67 : BitVec 32 := Scalar.extui v66
  let v68 : BitVec 32 := Scalar.subi v65 v67
  let v69 : BitVec 1 := Scalar.cmpi .ne v63 v68
  let v70 : BitVec 32 := Scalar.remsi v20 c2_i32
  let c0_i32_17 : BitVec 32 := 0#32
  let v71 : BitVec 1 := Scalar.cmpi .ne v70 c0_i32_17
  let v72 : BitVec 1 := Scalar.andi v69 v71
  let v58 : BitVec 32 := Scalar.divsi v20 c2_i32
  let c1_i32_18 : BitVec 32 := 1#32
  let v73 : BitVec 32 := Scalar.subi v58 c1_i32_18
  let v74 : BitVec 32 := Scalar.select v72 v73 v58
  let v75 : BitVec 32 := Scalar.subi v74 c0_i32_19
  let c1_i32_20 : BitVec 32 := 1#32
  let v77 : BitVec 32 := Scalar.divsi v75 c1_i32_20
  let v78 : BitVec 32 := Scalar.muli v77 c1_i32_20
  let v79 : BitVec 32 := Scalar.addi c0_i32_19 v78
  let c1_i32_21 : BitVec 32 := 1#32
  ⟨c0_i32_19, v79, c1_i32_21⟩
def k0_mult1 (i : grid0.Coords) (k0_t1 : Fin (k0_t1_loop i).trips) : BitVec 32 :=
  let c2_i32_137 : BitVec 32 := 2#32
  let c0_i32_19 : BitVec 32 := 0#32
  let c1_i32_21 : BitVec 32 := 1#32
  let arg16 : BitVec 32 := Scf.iv c0_i32_19 c1_i32_21 k0_t1
  let v289 : BitVec 32 := Scalar.muli c2_i32_137 arg16
  let c512_i32_138 : BitVec 32 := 512#32
  let v290 : BitVec 32 := Scalar.muli v289 c512_i32_138
  v290
def k0_off1 (i : grid0.Coords) (k0_t1 : Fin (k0_t1_loop i).trips) : Fin 2 → Nat :=
  let c2_i32_137 : BitVec 32 := 2#32
  let c0_i32_19 : BitVec 32 := 0#32
  let c1_i32_21 : BitVec 32 := 1#32
  let arg16 : BitVec 32 := Scf.iv c0_i32_19 c1_i32_21 k0_t1
  let v289 : BitVec 32 := Scalar.muli c2_i32_137 arg16
  let c512_i32_138 : BitVec 32 := 512#32
  let v290 : BitVec 32 := Scalar.muli v289 c512_i32_138
  let v291 : BitVec 32 := v290
  let v292 : Index := Scalar.indexCast v291
  let c0_139 : Index := 0#32
  ![v292.toNat, 0]
def k0_off2 (i : grid0.Coords) (k0_t1 : Fin (k0_t1_loop i).trips) : Fin 3 → Nat :=
  let c2_i32_137 : BitVec 32 := 2#32
  let c0_i32_19 : BitVec 32 := 0#32
  let c1_i32_21 : BitVec 32 := 1#32
  let arg16 : BitVec 32 := Scf.iv c0_i32_19 c1_i32_21 k0_t1
  let v289 : BitVec 32 := Scalar.muli c2_i32_137 arg16
  let v424 : Index := Scalar.indexCast v289
  let c0_167 : Index := 0#32
  let c0_168 : Index := 0#32
  ![v424.toNat, 0, 0]
def k0_mult2 (i : grid0.Coords) (k0_t1 : Fin (k0_t1_loop i).trips) : BitVec 32 :=
  let c2_i32_135 : BitVec 32 := 2#32
  let c0_i32_19 : BitVec 32 := 0#32
  let c1_i32_21 : BitVec 32 := 1#32
  let arg16 : BitVec 32 := Scf.iv c0_i32_19 c1_i32_21 k0_t1
  let v287 : BitVec 32 := Scalar.muli c2_i32_135 arg16
  let c1_i32_136 : BitVec 32 := 1#32
  let v288 : BitVec 32 := Scalar.addi v287 c1_i32_136
  let c512_i32_170 : BitVec 32 := 512#32
  let v432 : BitVec 32 := Scalar.muli v288 c512_i32_170
  v432
def k0_off3 (i : grid0.Coords) (k0_t1 : Fin (k0_t1_loop i).trips) : Fin 2 → Nat :=
  let c2_i32_135 : BitVec 32 := 2#32
  let c0_i32_19 : BitVec 32 := 0#32
  let c1_i32_21 : BitVec 32 := 1#32
  let arg16 : BitVec 32 := Scf.iv c0_i32_19 c1_i32_21 k0_t1
  let v287 : BitVec 32 := Scalar.muli c2_i32_135 arg16
  let c1_i32_136 : BitVec 32 := 1#32
  let v288 : BitVec 32 := Scalar.addi v287 c1_i32_136
  let c512_i32_170 : BitVec 32 := 512#32
  let v432 : BitVec 32 := Scalar.muli v288 c512_i32_170
  let v433 : BitVec 32 := v432
  let v434 : Index := Scalar.indexCast v433
  let c0_171 : Index := 0#32
  ![v434.toNat, 0]
def k0_off4 (i : grid0.Coords) (k0_t1 : Fin (k0_t1_loop i).trips) : Fin 3 → Nat :=
  let c2_i32_135 : BitVec 32 := 2#32
  let c0_i32_19 : BitVec 32 := 0#32
  let c1_i32_21 : BitVec 32 := 1#32
  let arg16 : BitVec 32 := Scf.iv c0_i32_19 c1_i32_21 k0_t1
  let v287 : BitVec 32 := Scalar.muli c2_i32_135 arg16
  let c1_i32_136 : BitVec 32 := 1#32
  let v288 : BitVec 32 := Scalar.addi v287 c1_i32_136
  let v566 : Index := Scalar.indexCast v288
  let c0_199 : Index := 0#32
  let c0_200 : Index := 0#32
  ![v566.toNat, 0, 0]
@[reducible] def k0_t2_loop (i : grid0.Coords) : Scf.Loop 32 :=
  let c0_i32_19 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_13 : BitVec 32 := 0#32
  let v59 : BitVec 1 := Scalar.cmpi .sgt v20 c0_i32_13
  let v60 : BitVec 32 := Scalar.extui v59
  let c0_i32_14 : BitVec 32 := 0#32
  let v61 : BitVec 1 := Scalar.cmpi .slt v20 c0_i32_14
  let v62 : BitVec 32 := Scalar.extui v61
  let v63 : BitVec 32 := Scalar.subi v60 v62
  let c2_i32 : BitVec 32 := 2#32
  let c0_i32_15 : BitVec 32 := 0#32
  let v64 : BitVec 1 := Scalar.cmpi .sgt c2_i32 c0_i32_15
  let v65 : BitVec 32 := Scalar.extui v64
  let c0_i32_16 : BitVec 32 := 0#32
  let v66 : BitVec 1 := Scalar.cmpi .slt c2_i32 c0_i32_16
  let v67 : BitVec 32 := Scalar.extui v66
  let v68 : BitVec 32 := Scalar.subi v65 v67
  let v69 : BitVec 1 := Scalar.cmpi .ne v63 v68
  let v70 : BitVec 32 := Scalar.remsi v20 c2_i32
  let c0_i32_17 : BitVec 32 := 0#32
  let v71 : BitVec 1 := Scalar.cmpi .ne v70 c0_i32_17
  let v72 : BitVec 1 := Scalar.andi v69 v71
  let v58 : BitVec 32 := Scalar.divsi v20 c2_i32
  let c1_i32_18 : BitVec 32 := 1#32
  let v73 : BitVec 32 := Scalar.subi v58 c1_i32_18
  let v74 : BitVec 32 := Scalar.select v72 v73 v58
  let v75 : BitVec 32 := Scalar.subi v74 c0_i32_19
  let c1_i32_20 : BitVec 32 := 1#32
  let v77 : BitVec 32 := Scalar.divsi v75 c1_i32_20
  let v78 : BitVec 32 := Scalar.muli v77 c1_i32_20
  let v79 : BitVec 32 := Scalar.addi c0_i32_19 v78
  let v76 : BitVec 32 := Scalar.addi c0_i32_19 v75
  let c1_i32_22 : BitVec 32 := 1#32
  ⟨v79, v76, c1_i32_22⟩
def k0_mult3 (i : grid0.Coords) (k0_t2 : Fin (k0_t2_loop i).trips) : BitVec 32 :=
  let c2_i32_137 : BitVec 32 := 2#32
  let c0_i32_19 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_13 : BitVec 32 := 0#32
  let v59 : BitVec 1 := Scalar.cmpi .sgt v20 c0_i32_13
  let v60 : BitVec 32 := Scalar.extui v59
  let c0_i32_14 : BitVec 32 := 0#32
  let v61 : BitVec 1 := Scalar.cmpi .slt v20 c0_i32_14
  let v62 : BitVec 32 := Scalar.extui v61
  let v63 : BitVec 32 := Scalar.subi v60 v62
  let c2_i32 : BitVec 32 := 2#32
  let c0_i32_15 : BitVec 32 := 0#32
  let v64 : BitVec 1 := Scalar.cmpi .sgt c2_i32 c0_i32_15
  let v65 : BitVec 32 := Scalar.extui v64
  let c0_i32_16 : BitVec 32 := 0#32
  let v66 : BitVec 1 := Scalar.cmpi .slt c2_i32 c0_i32_16
  let v67 : BitVec 32 := Scalar.extui v66
  let v68 : BitVec 32 := Scalar.subi v65 v67
  let v69 : BitVec 1 := Scalar.cmpi .ne v63 v68
  let v70 : BitVec 32 := Scalar.remsi v20 c2_i32
  let c0_i32_17 : BitVec 32 := 0#32
  let v71 : BitVec 1 := Scalar.cmpi .ne v70 c0_i32_17
  let v72 : BitVec 1 := Scalar.andi v69 v71
  let v58 : BitVec 32 := Scalar.divsi v20 c2_i32
  let c1_i32_18 : BitVec 32 := 1#32
  let v73 : BitVec 32 := Scalar.subi v58 c1_i32_18
  let v74 : BitVec 32 := Scalar.select v72 v73 v58
  let v75 : BitVec 32 := Scalar.subi v74 c0_i32_19
  let c1_i32_20 : BitVec 32 := 1#32
  let v77 : BitVec 32 := Scalar.divsi v75 c1_i32_20
  let v78 : BitVec 32 := Scalar.muli v77 c1_i32_20
  let v79 : BitVec 32 := Scalar.addi c0_i32_19 v78
  let c1_i32_22 : BitVec 32 := 1#32
  let arg16 : BitVec 32 := Scf.iv v79 c1_i32_22 k0_t2
  let v289 : BitVec 32 := Scalar.muli c2_i32_137 arg16
  let c512_i32_138 : BitVec 32 := 512#32
  let v290 : BitVec 32 := Scalar.muli v289 c512_i32_138
  v290
def k0_off5 (i : grid0.Coords) (k0_t2 : Fin (k0_t2_loop i).trips) : Fin 2 → Nat :=
  let c2_i32_137 : BitVec 32 := 2#32
  let c0_i32_19 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_13 : BitVec 32 := 0#32
  let v59 : BitVec 1 := Scalar.cmpi .sgt v20 c0_i32_13
  let v60 : BitVec 32 := Scalar.extui v59
  let c0_i32_14 : BitVec 32 := 0#32
  let v61 : BitVec 1 := Scalar.cmpi .slt v20 c0_i32_14
  let v62 : BitVec 32 := Scalar.extui v61
  let v63 : BitVec 32 := Scalar.subi v60 v62
  let c2_i32 : BitVec 32 := 2#32
  let c0_i32_15 : BitVec 32 := 0#32
  let v64 : BitVec 1 := Scalar.cmpi .sgt c2_i32 c0_i32_15
  let v65 : BitVec 32 := Scalar.extui v64
  let c0_i32_16 : BitVec 32 := 0#32
  let v66 : BitVec 1 := Scalar.cmpi .slt c2_i32 c0_i32_16
  let v67 : BitVec 32 := Scalar.extui v66
  let v68 : BitVec 32 := Scalar.subi v65 v67
  let v69 : BitVec 1 := Scalar.cmpi .ne v63 v68
  let v70 : BitVec 32 := Scalar.remsi v20 c2_i32
  let c0_i32_17 : BitVec 32 := 0#32
  let v71 : BitVec 1 := Scalar.cmpi .ne v70 c0_i32_17
  let v72 : BitVec 1 := Scalar.andi v69 v71
  let v58 : BitVec 32 := Scalar.divsi v20 c2_i32
  let c1_i32_18 : BitVec 32 := 1#32
  let v73 : BitVec 32 := Scalar.subi v58 c1_i32_18
  let v74 : BitVec 32 := Scalar.select v72 v73 v58
  let v75 : BitVec 32 := Scalar.subi v74 c0_i32_19
  let c1_i32_20 : BitVec 32 := 1#32
  let v77 : BitVec 32 := Scalar.divsi v75 c1_i32_20
  let v78 : BitVec 32 := Scalar.muli v77 c1_i32_20
  let v79 : BitVec 32 := Scalar.addi c0_i32_19 v78
  let c1_i32_22 : BitVec 32 := 1#32
  let arg16 : BitVec 32 := Scf.iv v79 c1_i32_22 k0_t2
  let v289 : BitVec 32 := Scalar.muli c2_i32_137 arg16
  let c512_i32_138 : BitVec 32 := 512#32
  let v290 : BitVec 32 := Scalar.muli v289 c512_i32_138
  let v291 : BitVec 32 := v290
  let v292 : Index := Scalar.indexCast v291
  let c0_139 : Index := 0#32
  ![v292.toNat, 0]
def k0_off6 (i : grid0.Coords) (k0_t2 : Fin (k0_t2_loop i).trips) : Fin 3 → Nat :=
  let c2_i32_137 : BitVec 32 := 2#32
  let c0_i32_19 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_13 : BitVec 32 := 0#32
  let v59 : BitVec 1 := Scalar.cmpi .sgt v20 c0_i32_13
  let v60 : BitVec 32 := Scalar.extui v59
  let c0_i32_14 : BitVec 32 := 0#32
  let v61 : BitVec 1 := Scalar.cmpi .slt v20 c0_i32_14
  let v62 : BitVec 32 := Scalar.extui v61
  let v63 : BitVec 32 := Scalar.subi v60 v62
  let c2_i32 : BitVec 32 := 2#32
  let c0_i32_15 : BitVec 32 := 0#32
  let v64 : BitVec 1 := Scalar.cmpi .sgt c2_i32 c0_i32_15
  let v65 : BitVec 32 := Scalar.extui v64
  let c0_i32_16 : BitVec 32 := 0#32
  let v66 : BitVec 1 := Scalar.cmpi .slt c2_i32 c0_i32_16
  let v67 : BitVec 32 := Scalar.extui v66
  let v68 : BitVec 32 := Scalar.subi v65 v67
  let v69 : BitVec 1 := Scalar.cmpi .ne v63 v68
  let v70 : BitVec 32 := Scalar.remsi v20 c2_i32
  let c0_i32_17 : BitVec 32 := 0#32
  let v71 : BitVec 1 := Scalar.cmpi .ne v70 c0_i32_17
  let v72 : BitVec 1 := Scalar.andi v69 v71
  let v58 : BitVec 32 := Scalar.divsi v20 c2_i32
  let c1_i32_18 : BitVec 32 := 1#32
  let v73 : BitVec 32 := Scalar.subi v58 c1_i32_18
  let v74 : BitVec 32 := Scalar.select v72 v73 v58
  let v75 : BitVec 32 := Scalar.subi v74 c0_i32_19
  let c1_i32_20 : BitVec 32 := 1#32
  let v77 : BitVec 32 := Scalar.divsi v75 c1_i32_20
  let v78 : BitVec 32 := Scalar.muli v77 c1_i32_20
  let v79 : BitVec 32 := Scalar.addi c0_i32_19 v78
  let c1_i32_22 : BitVec 32 := 1#32
  let arg16 : BitVec 32 := Scf.iv v79 c1_i32_22 k0_t2
  let v289 : BitVec 32 := Scalar.muli c2_i32_137 arg16
  let v424 : Index := Scalar.indexCast v289
  let c0_167 : Index := 0#32
  let c0_168 : Index := 0#32
  ![v424.toNat, 0, 0]
def k0_mult4 (i : grid0.Coords) (k0_t2 : Fin (k0_t2_loop i).trips) : BitVec 32 :=
  let c2_i32_135 : BitVec 32 := 2#32
  let c0_i32_19 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_13 : BitVec 32 := 0#32
  let v59 : BitVec 1 := Scalar.cmpi .sgt v20 c0_i32_13
  let v60 : BitVec 32 := Scalar.extui v59
  let c0_i32_14 : BitVec 32 := 0#32
  let v61 : BitVec 1 := Scalar.cmpi .slt v20 c0_i32_14
  let v62 : BitVec 32 := Scalar.extui v61
  let v63 : BitVec 32 := Scalar.subi v60 v62
  let c2_i32 : BitVec 32 := 2#32
  let c0_i32_15 : BitVec 32 := 0#32
  let v64 : BitVec 1 := Scalar.cmpi .sgt c2_i32 c0_i32_15
  let v65 : BitVec 32 := Scalar.extui v64
  let c0_i32_16 : BitVec 32 := 0#32
  let v66 : BitVec 1 := Scalar.cmpi .slt c2_i32 c0_i32_16
  let v67 : BitVec 32 := Scalar.extui v66
  let v68 : BitVec 32 := Scalar.subi v65 v67
  let v69 : BitVec 1 := Scalar.cmpi .ne v63 v68
  let v70 : BitVec 32 := Scalar.remsi v20 c2_i32
  let c0_i32_17 : BitVec 32 := 0#32
  let v71 : BitVec 1 := Scalar.cmpi .ne v70 c0_i32_17
  let v72 : BitVec 1 := Scalar.andi v69 v71
  let v58 : BitVec 32 := Scalar.divsi v20 c2_i32
  let c1_i32_18 : BitVec 32 := 1#32
  let v73 : BitVec 32 := Scalar.subi v58 c1_i32_18
  let v74 : BitVec 32 := Scalar.select v72 v73 v58
  let v75 : BitVec 32 := Scalar.subi v74 c0_i32_19
  let c1_i32_20 : BitVec 32 := 1#32
  let v77 : BitVec 32 := Scalar.divsi v75 c1_i32_20
  let v78 : BitVec 32 := Scalar.muli v77 c1_i32_20
  let v79 : BitVec 32 := Scalar.addi c0_i32_19 v78
  let c1_i32_22 : BitVec 32 := 1#32
  let arg16 : BitVec 32 := Scf.iv v79 c1_i32_22 k0_t2
  let v287 : BitVec 32 := Scalar.muli c2_i32_135 arg16
  let c1_i32_136 : BitVec 32 := 1#32
  let v288 : BitVec 32 := Scalar.addi v287 c1_i32_136
  let c512_i32_170 : BitVec 32 := 512#32
  let v432 : BitVec 32 := Scalar.muli v288 c512_i32_170
  v432
def k0_off7 (i : grid0.Coords) (k0_t2 : Fin (k0_t2_loop i).trips) : Fin 2 → Nat :=
  let c2_i32_135 : BitVec 32 := 2#32
  let c0_i32_19 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_13 : BitVec 32 := 0#32
  let v59 : BitVec 1 := Scalar.cmpi .sgt v20 c0_i32_13
  let v60 : BitVec 32 := Scalar.extui v59
  let c0_i32_14 : BitVec 32 := 0#32
  let v61 : BitVec 1 := Scalar.cmpi .slt v20 c0_i32_14
  let v62 : BitVec 32 := Scalar.extui v61
  let v63 : BitVec 32 := Scalar.subi v60 v62
  let c2_i32 : BitVec 32 := 2#32
  let c0_i32_15 : BitVec 32 := 0#32
  let v64 : BitVec 1 := Scalar.cmpi .sgt c2_i32 c0_i32_15
  let v65 : BitVec 32 := Scalar.extui v64
  let c0_i32_16 : BitVec 32 := 0#32
  let v66 : BitVec 1 := Scalar.cmpi .slt c2_i32 c0_i32_16
  let v67 : BitVec 32 := Scalar.extui v66
  let v68 : BitVec 32 := Scalar.subi v65 v67
  let v69 : BitVec 1 := Scalar.cmpi .ne v63 v68
  let v70 : BitVec 32 := Scalar.remsi v20 c2_i32
  let c0_i32_17 : BitVec 32 := 0#32
  let v71 : BitVec 1 := Scalar.cmpi .ne v70 c0_i32_17
  let v72 : BitVec 1 := Scalar.andi v69 v71
  let v58 : BitVec 32 := Scalar.divsi v20 c2_i32
  let c1_i32_18 : BitVec 32 := 1#32
  let v73 : BitVec 32 := Scalar.subi v58 c1_i32_18
  let v74 : BitVec 32 := Scalar.select v72 v73 v58
  let v75 : BitVec 32 := Scalar.subi v74 c0_i32_19
  let c1_i32_20 : BitVec 32 := 1#32
  let v77 : BitVec 32 := Scalar.divsi v75 c1_i32_20
  let v78 : BitVec 32 := Scalar.muli v77 c1_i32_20
  let v79 : BitVec 32 := Scalar.addi c0_i32_19 v78
  let c1_i32_22 : BitVec 32 := 1#32
  let arg16 : BitVec 32 := Scf.iv v79 c1_i32_22 k0_t2
  let v287 : BitVec 32 := Scalar.muli c2_i32_135 arg16
  let c1_i32_136 : BitVec 32 := 1#32
  let v288 : BitVec 32 := Scalar.addi v287 c1_i32_136
  let c512_i32_170 : BitVec 32 := 512#32
  let v432 : BitVec 32 := Scalar.muli v288 c512_i32_170
  let v433 : BitVec 32 := v432
  let v434 : Index := Scalar.indexCast v433
  let c0_171 : Index := 0#32
  ![v434.toNat, 0]
def k0_off8 (i : grid0.Coords) (k0_t2 : Fin (k0_t2_loop i).trips) : Fin 3 → Nat :=
  let c2_i32_135 : BitVec 32 := 2#32
  let c0_i32_19 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_13 : BitVec 32 := 0#32
  let v59 : BitVec 1 := Scalar.cmpi .sgt v20 c0_i32_13
  let v60 : BitVec 32 := Scalar.extui v59
  let c0_i32_14 : BitVec 32 := 0#32
  let v61 : BitVec 1 := Scalar.cmpi .slt v20 c0_i32_14
  let v62 : BitVec 32 := Scalar.extui v61
  let v63 : BitVec 32 := Scalar.subi v60 v62
  let c2_i32 : BitVec 32 := 2#32
  let c0_i32_15 : BitVec 32 := 0#32
  let v64 : BitVec 1 := Scalar.cmpi .sgt c2_i32 c0_i32_15
  let v65 : BitVec 32 := Scalar.extui v64
  let c0_i32_16 : BitVec 32 := 0#32
  let v66 : BitVec 1 := Scalar.cmpi .slt c2_i32 c0_i32_16
  let v67 : BitVec 32 := Scalar.extui v66
  let v68 : BitVec 32 := Scalar.subi v65 v67
  let v69 : BitVec 1 := Scalar.cmpi .ne v63 v68
  let v70 : BitVec 32 := Scalar.remsi v20 c2_i32
  let c0_i32_17 : BitVec 32 := 0#32
  let v71 : BitVec 1 := Scalar.cmpi .ne v70 c0_i32_17
  let v72 : BitVec 1 := Scalar.andi v69 v71
  let v58 : BitVec 32 := Scalar.divsi v20 c2_i32
  let c1_i32_18 : BitVec 32 := 1#32
  let v73 : BitVec 32 := Scalar.subi v58 c1_i32_18
  let v74 : BitVec 32 := Scalar.select v72 v73 v58
  let v75 : BitVec 32 := Scalar.subi v74 c0_i32_19
  let c1_i32_20 : BitVec 32 := 1#32
  let v77 : BitVec 32 := Scalar.divsi v75 c1_i32_20
  let v78 : BitVec 32 := Scalar.muli v77 c1_i32_20
  let v79 : BitVec 32 := Scalar.addi c0_i32_19 v78
  let c1_i32_22 : BitVec 32 := 1#32
  let arg16 : BitVec 32 := Scf.iv v79 c1_i32_22 k0_t2
  let v287 : BitVec 32 := Scalar.muli c2_i32_135 arg16
  let c1_i32_136 : BitVec 32 := 1#32
  let v288 : BitVec 32 := Scalar.addi v287 c1_i32_136
  let v566 : Index := Scalar.indexCast v288
  let c0_199 : Index := 0#32
  let c0_200 : Index := 0#32
  ![v566.toNat, 0, 0]
def k0_cond2 (i : grid0.Coords) : BitVec 1 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c2_i32_23 : BitVec 32 := 2#32
  let c0_i32_24 : BitVec 32 := 0#32
  let v82 : BitVec 1 := Scalar.cmpi .eq c2_i32_23 c0_i32_24
  let c1_i32_25 : BitVec 32 := 1#32
  let v83 : BitVec 32 := Scalar.select v82 c1_i32_25 c2_i32_23
  let v84 : BitVec 32 := Scalar.remsi v20 v83
  let c0_i32_27 : BitVec 32 := 0#32
  let v86 : BitVec 1 := Scalar.cmpi .slt v84 c0_i32_27
  let c0_i32_28 : BitVec 32 := 0#32
  let v87 : BitVec 1 := Scalar.cmpi .slt v83 c0_i32_28
  let v88 : BitVec 1 := Scalar.xori v86 v87
  let c0_i32_26 : BitVec 32 := 0#32
  let v85 : BitVec 1 := Scalar.cmpi .ne v84 c0_i32_26
  let v89 : BitVec 1 := Scalar.andi v88 v85
  let v90 : BitVec 32 := Scalar.addi v84 v83
  let v91 : BitVec 32 := Scalar.select v89 v90 v84
  let c1_i32_29 : BitVec 32 := 1#32
  let v92 : BitVec 1 := Scalar.cmpi .eq v91 c1_i32_29
  let v93 : BitVec 32 := Scalar.extui v92
  let c0_i32_30 : BitVec 32 := 0#32
  let v94 : BitVec 1 := Scalar.cmpi .ne v93 c0_i32_30
  v94

def k0_mult5 (i : grid0.Coords) : BitVec 32 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_135 : BitVec 32 := 1#32
  let v287 : BitVec 32 := Scalar.subi v20 c1_i32_135
  let c512_i32_136 : BitVec 32 := 512#32
  let v288 : BitVec 32 := Scalar.muli v287 c512_i32_136
  v288
def k0_off9 (i : grid0.Coords) : Fin 2 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_135 : BitVec 32 := 1#32
  let v287 : BitVec 32 := Scalar.subi v20 c1_i32_135
  let c512_i32_136 : BitVec 32 := 512#32
  let v288 : BitVec 32 := Scalar.muli v287 c512_i32_136
  let v289 : BitVec 32 := v288
  let v290 : Index := Scalar.indexCast v289
  let c0_137 : Index := 0#32
  ![v290.toNat, 0]
def k0_off10 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_135 : BitVec 32 := 1#32
  let v287 : BitVec 32 := Scalar.subi v20 c1_i32_135
  let v422 : Index := Scalar.indexCast v287
  let c0_165 : Index := 0#32
  let c0_166 : Index := 0#32
  ![v422.toNat, 0, 0]
@[reducible] def k0_t3_loop : Scf.Loop 32 :=
  let c0_i32_38 : BitVec 32 := 0#32
  let c24_i32 : BitVec 32 := 24#32
  let v111 : BitVec 32 := Scalar.addi c0_i32_38 c24_i32
  let c1_i32_39 : BitVec 32 := 1#32
  ⟨c0_i32_38, v111, c1_i32_39⟩
@[reducible] def k0_t4_loop (i : grid0.Coords) : Scf.Loop 32 :=
  let c0_i32_138 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v293 : BitVec 32 := Scalar.subi v20 c0_i32_138
  let c1_i32_139 : BitVec 32 := 1#32
  let v295 : BitVec 32 := Scalar.divsi v293 c1_i32_139
  let v296 : BitVec 32 := Scalar.muli v295 c1_i32_139
  let v297 : BitVec 32 := Scalar.addi c0_i32_138 v296
  let c1_i32_140 : BitVec 32 := 1#32
  ⟨c0_i32_138, v297, c1_i32_140⟩
def k0_off11 (i : grid0.Coords) (k0_t4 : Fin (k0_t4_loop i).trips) : Fin 3 → Nat :=
  let c0_i32_138 : BitVec 32 := 0#32
  let c1_i32_140 : BitVec 32 := 1#32
  let arg21 : BitVec 32 := Scf.iv c0_i32_138 c1_i32_140 k0_t4
  let v316 : Index := Scalar.indexCast arg21
  let c0_148 : Index := 0#32
  let c0_149 : Index := 0#32
  ![v316.toNat, 0, 0]
@[reducible] def k0_t5_loop (i : grid0.Coords) : Scf.Loop 32 :=
  let c0_i32_138 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v293 : BitVec 32 := Scalar.subi v20 c0_i32_138
  let c1_i32_139 : BitVec 32 := 1#32
  let v295 : BitVec 32 := Scalar.divsi v293 c1_i32_139
  let v296 : BitVec 32 := Scalar.muli v295 c1_i32_139
  let v297 : BitVec 32 := Scalar.addi c0_i32_138 v296
  let v294 : BitVec 32 := Scalar.addi c0_i32_138 v293
  let c1_i32_141 : BitVec 32 := 1#32
  ⟨v297, v294, c1_i32_141⟩
def k0_off12 (i : grid0.Coords) (k0_t5 : Fin (k0_t5_loop i).trips) : Fin 3 → Nat :=
  let c0_i32_138 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v293 : BitVec 32 := Scalar.subi v20 c0_i32_138
  let c1_i32_139 : BitVec 32 := 1#32
  let v295 : BitVec 32 := Scalar.divsi v293 c1_i32_139
  let v296 : BitVec 32 := Scalar.muli v295 c1_i32_139
  let v297 : BitVec 32 := Scalar.addi c0_i32_138 v296
  let c1_i32_141 : BitVec 32 := 1#32
  let arg21 : BitVec 32 := Scf.iv v297 c1_i32_141 k0_t5
  let v316 : Index := Scalar.indexCast arg21
  let c0_148 : Index := 0#32
  let c0_149 : Index := 0#32
  ![v316.toNat, 0, 0]
@[reducible] def k0_t6_loop (i : grid0.Coords) : Scf.Loop 32 :=
  let c0_i32_136 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v288 : BitVec 32 := Scalar.subi v20 c0_i32_136
  let c1_i32_137 : BitVec 32 := 1#32
  let v290 : BitVec 32 := Scalar.divsi v288 c1_i32_137
  let v291 : BitVec 32 := Scalar.muli v290 c1_i32_137
  let v292 : BitVec 32 := Scalar.addi c0_i32_136 v291
  let c1_i32_138 : BitVec 32 := 1#32
  ⟨c0_i32_136, v292, c1_i32_138⟩
def k0_off13 (i : grid0.Coords) (k0_t6 : Fin (k0_t6_loop i).trips) : Fin 3 → Nat :=
  let c0_i32_136 : BitVec 32 := 0#32
  let c1_i32_138 : BitVec 32 := 1#32
  let arg16 : BitVec 32 := Scf.iv c0_i32_136 c1_i32_138 k0_t6
  let v338 : Index := Scalar.indexCast arg16
  let c0_161 : Index := 0#32
  let c0_162 : Index := 0#32
  ![v338.toNat, 0, 0]
@[reducible] def k0_t7_loop (i : grid0.Coords) : Scf.Loop 32 :=
  let c0_i32_136 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v288 : BitVec 32 := Scalar.subi v20 c0_i32_136
  let c1_i32_137 : BitVec 32 := 1#32
  let v290 : BitVec 32 := Scalar.divsi v288 c1_i32_137
  let v291 : BitVec 32 := Scalar.muli v290 c1_i32_137
  let v292 : BitVec 32 := Scalar.addi c0_i32_136 v291
  let v289 : BitVec 32 := Scalar.addi c0_i32_136 v288
  let c1_i32_139 : BitVec 32 := 1#32
  ⟨v292, v289, c1_i32_139⟩
def k0_off14 (i : grid0.Coords) (k0_t7 : Fin (k0_t7_loop i).trips) : Fin 3 → Nat :=
  let c0_i32_136 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v288 : BitVec 32 := Scalar.subi v20 c0_i32_136
  let c1_i32_137 : BitVec 32 := 1#32
  let v290 : BitVec 32 := Scalar.divsi v288 c1_i32_137
  let v291 : BitVec 32 := Scalar.muli v290 c1_i32_137
  let v292 : BitVec 32 := Scalar.addi c0_i32_136 v291
  let c1_i32_139 : BitVec 32 := 1#32
  let arg16 : BitVec 32 := Scf.iv v292 c1_i32_139 k0_t7
  let v338 : Index := Scalar.indexCast arg16
  let c0_161 : Index := 0#32
  let c0_162 : Index := 0#32
  ![v338.toNat, 0, 0]
@[reducible] def k0_t8_loop : Scf.Loop 32 :=
  let c0_i32_143 : BitVec 32 := 0#32
  let c31_i32 : BitVec 32 := 31#32
  let v302 : BitVec 32 := Scalar.addi c0_i32_143 c31_i32
  let c1_i32_144 : BitVec 32 := 1#32
  ⟨c0_i32_143, v302, c1_i32_144⟩
@[reducible] def k0_t9_loop (i : grid0.Coords) : Scf.Loop 32 :=
  let c0_i32_165 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v349 : BitVec 32 := Scalar.subi v20 c0_i32_165
  let c1_i32_166 : BitVec 32 := 1#32
  let v351 : BitVec 32 := Scalar.divsi v349 c1_i32_166
  let v352 : BitVec 32 := Scalar.muli v351 c1_i32_166
  let v353 : BitVec 32 := Scalar.addi c0_i32_165 v352
  let c1_i32_167 : BitVec 32 := 1#32
  ⟨c0_i32_165, v353, c1_i32_167⟩
def k0_off15 (i : grid0.Coords) (k0_t9 : Fin (k0_t9_loop i).trips) : Fin 3 → Nat :=
  let c0_i32_165 : BitVec 32 := 0#32
  let c1_i32_167 : BitVec 32 := 1#32
  let arg18 : BitVec 32 := Scf.iv c0_i32_165 c1_i32_167 k0_t9
  let v361 : Index := Scalar.indexCast arg18
  let c0_171 : Index := 0#32
  let c0_172 : Index := 0#32
  ![v361.toNat, 0, 0]
@[reducible] def k0_t10_loop (i : grid0.Coords) : Scf.Loop 32 :=
  let c0_i32_165 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v349 : BitVec 32 := Scalar.subi v20 c0_i32_165
  let c1_i32_166 : BitVec 32 := 1#32
  let v351 : BitVec 32 := Scalar.divsi v349 c1_i32_166
  let v352 : BitVec 32 := Scalar.muli v351 c1_i32_166
  let v353 : BitVec 32 := Scalar.addi c0_i32_165 v352
  let v350 : BitVec 32 := Scalar.addi c0_i32_165 v349
  let c1_i32_168 : BitVec 32 := 1#32
  ⟨v353, v350, c1_i32_168⟩
def k0_off16 (i : grid0.Coords) (k0_t10 : Fin (k0_t10_loop i).trips) : Fin 3 → Nat :=
  let c0_i32_165 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v349 : BitVec 32 := Scalar.subi v20 c0_i32_165
  let c1_i32_166 : BitVec 32 := 1#32
  let v351 : BitVec 32 := Scalar.divsi v349 c1_i32_166
  let v352 : BitVec 32 := Scalar.muli v351 c1_i32_166
  let v353 : BitVec 32 := Scalar.addi c0_i32_165 v352
  let c1_i32_168 : BitVec 32 := 1#32
  let arg18 : BitVec 32 := Scf.iv v353 c1_i32_168 k0_t10
  let v361 : Index := Scalar.indexCast arg18
  let c0_171 : Index := 0#32
  let c0_172 : Index := 0#32
  ![v361.toNat, 0, 0]
@[reducible] def k0_t11_loop (i : grid0.Coords) : Scf.Loop 32 :=
  let c0_i32_151 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v316 : BitVec 32 := Scalar.subi v20 c0_i32_151
  let c1_i32_152 : BitVec 32 := 1#32
  let v318 : BitVec 32 := Scalar.divsi v316 c1_i32_152
  let v319 : BitVec 32 := Scalar.muli v318 c1_i32_152
  let v320 : BitVec 32 := Scalar.addi c0_i32_151 v319
  let c1_i32_153 : BitVec 32 := 1#32
  ⟨c0_i32_151, v320, c1_i32_153⟩
def k0_off17 (i : grid0.Coords) (k0_t11 : Fin (k0_t11_loop i).trips) : Fin 3 → Nat :=
  let c0_i32_151 : BitVec 32 := 0#32
  let c1_i32_153 : BitVec 32 := 1#32
  let arg16 : BitVec 32 := Scf.iv c0_i32_151 c1_i32_153 k0_t11
  let v338 : Index := Scalar.indexCast arg16
  let c0_161 : Index := 0#32
  let c0_162 : Index := 0#32
  ![v338.toNat, 0, 0]
@[reducible] def k0_t12_loop (i : grid0.Coords) : Scf.Loop 32 :=
  let c0_i32_151 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v316 : BitVec 32 := Scalar.subi v20 c0_i32_151
  let c1_i32_152 : BitVec 32 := 1#32
  let v318 : BitVec 32 := Scalar.divsi v316 c1_i32_152
  let v319 : BitVec 32 := Scalar.muli v318 c1_i32_152
  let v320 : BitVec 32 := Scalar.addi c0_i32_151 v319
  let v317 : BitVec 32 := Scalar.addi c0_i32_151 v316
  let c1_i32_154 : BitVec 32 := 1#32
  ⟨v320, v317, c1_i32_154⟩
def k0_off18 (i : grid0.Coords) (k0_t12 : Fin (k0_t12_loop i).trips) : Fin 3 → Nat :=
  let c0_i32_151 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v316 : BitVec 32 := Scalar.subi v20 c0_i32_151
  let c1_i32_152 : BitVec 32 := 1#32
  let v318 : BitVec 32 := Scalar.divsi v316 c1_i32_152
  let v319 : BitVec 32 := Scalar.muli v318 c1_i32_152
  let v320 : BitVec 32 := Scalar.addi c0_i32_151 v319
  let c1_i32_154 : BitVec 32 := 1#32
  let arg16 : BitVec 32 := Scf.iv v320 c1_i32_154 k0_t12
  let v338 : Index := Scalar.indexCast arg16
  let c0_161 : Index := 0#32
  let c0_162 : Index := 0#32
  ![v338.toNat, 0, 0]
@[reducible] def k0_t13_loop (i : grid0.Coords) : Scf.Loop 32 :=
  let c0_i32_162 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v339 : BitVec 32 := Scalar.subi v20 c0_i32_162
  let c1_i32_163 : BitVec 32 := 1#32
  let v341 : BitVec 32 := Scalar.divsi v339 c1_i32_163
  let v342 : BitVec 32 := Scalar.muli v341 c1_i32_163
  let v343 : BitVec 32 := Scalar.addi c0_i32_162 v342
  let c1_i32_164 : BitVec 32 := 1#32
  ⟨c0_i32_162, v343, c1_i32_164⟩
def k0_off19 (i : grid0.Coords) (k0_t13 : Fin (k0_t13_loop i).trips) : Fin 3 → Nat :=
  let c0_i32_162 : BitVec 32 := 0#32
  let c1_i32_164 : BitVec 32 := 1#32
  let arg16 : BitVec 32 := Scf.iv c0_i32_162 c1_i32_164 k0_t13
  let v356 : Index := Scalar.indexCast arg16
  let c0_174 : Index := 0#32
  let c0_175 : Index := 0#32
  ![v356.toNat, 0, 0]
@[reducible] def k0_t14_loop (i : grid0.Coords) : Scf.Loop 32 :=
  let c0_i32_162 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v339 : BitVec 32 := Scalar.subi v20 c0_i32_162
  let c1_i32_163 : BitVec 32 := 1#32
  let v341 : BitVec 32 := Scalar.divsi v339 c1_i32_163
  let v342 : BitVec 32 := Scalar.muli v341 c1_i32_163
  let v343 : BitVec 32 := Scalar.addi c0_i32_162 v342
  let v340 : BitVec 32 := Scalar.addi c0_i32_162 v339
  let c1_i32_165 : BitVec 32 := 1#32
  ⟨v343, v340, c1_i32_165⟩
def k0_off20 (i : grid0.Coords) (k0_t14 : Fin (k0_t14_loop i).trips) : Fin 3 → Nat :=
  let c0_i32_162 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v339 : BitVec 32 := Scalar.subi v20 c0_i32_162
  let c1_i32_163 : BitVec 32 := 1#32
  let v341 : BitVec 32 := Scalar.divsi v339 c1_i32_163
  let v342 : BitVec 32 := Scalar.muli v341 c1_i32_163
  let v343 : BitVec 32 := Scalar.addi c0_i32_162 v342
  let c1_i32_165 : BitVec 32 := 1#32
  let arg16 : BitVec 32 := Scf.iv v343 c1_i32_165 k0_t14
  let v356 : Index := Scalar.indexCast arg16
  let c0_174 : Index := 0#32
  let c0_175 : Index := 0#32
  ![v356.toNat, 0, 0]
@[reducible] def k0_t15_loop : Scf.Loop 32 :=
  let c0_i32_168 : BitVec 32 := 0#32
  let c12_i32 : BitVec 32 := 12#32
  let v349 : BitVec 32 := Scalar.addi c0_i32_168 c12_i32
  let c1_i32_169 : BitVec 32 := 1#32
  ⟨c0_i32_168, v349, c1_i32_169⟩
@[reducible] def k0_t16_loop (i : grid0.Coords) : Scf.Loop 32 :=
  let c0_i32_176 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v361 : BitVec 32 := Scalar.subi v20 c0_i32_176
  let c1_i32_177 : BitVec 32 := 1#32
  let v363 : BitVec 32 := Scalar.divsi v361 c1_i32_177
  let v364 : BitVec 32 := Scalar.muli v363 c1_i32_177
  let v365 : BitVec 32 := Scalar.addi c0_i32_176 v364
  let c1_i32_178 : BitVec 32 := 1#32
  ⟨c0_i32_176, v365, c1_i32_178⟩
def k0_off21 (i : grid0.Coords) (k0_t16 : Fin (k0_t16_loop i).trips) : Fin 3 → Nat :=
  let c0_i32_176 : BitVec 32 := 0#32
  let c1_i32_178 : BitVec 32 := 1#32
  let arg18 : BitVec 32 := Scf.iv c0_i32_176 c1_i32_178 k0_t16
  let v374 : Index := Scalar.indexCast arg18
  let c0_182 : Index := 0#32
  let c0_183 : Index := 0#32
  ![v374.toNat, 0, 0]
@[reducible] def k0_t17_loop (i : grid0.Coords) : Scf.Loop 32 :=
  let c0_i32_176 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v361 : BitVec 32 := Scalar.subi v20 c0_i32_176
  let c1_i32_177 : BitVec 32 := 1#32
  let v363 : BitVec 32 := Scalar.divsi v361 c1_i32_177
  let v364 : BitVec 32 := Scalar.muli v363 c1_i32_177
  let v365 : BitVec 32 := Scalar.addi c0_i32_176 v364
  let v362 : BitVec 32 := Scalar.addi c0_i32_176 v361
  let c1_i32_179 : BitVec 32 := 1#32
  ⟨v365, v362, c1_i32_179⟩
def k0_off22 (i : grid0.Coords) (k0_t17 : Fin (k0_t17_loop i).trips) : Fin 3 → Nat :=
  let c0_i32_176 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v361 : BitVec 32 := Scalar.subi v20 c0_i32_176
  let c1_i32_177 : BitVec 32 := 1#32
  let v363 : BitVec 32 := Scalar.divsi v361 c1_i32_177
  let v364 : BitVec 32 := Scalar.muli v363 c1_i32_177
  let v365 : BitVec 32 := Scalar.addi c0_i32_176 v364
  let c1_i32_179 : BitVec 32 := 1#32
  let arg18 : BitVec 32 := Scf.iv v365 c1_i32_179 k0_t17
  let v374 : Index := Scalar.indexCast arg18
  let c0_182 : Index := 0#32
  let c0_183 : Index := 0#32
  ![v374.toNat, 0, 0]
@[reducible] def k0_t18_loop (i : grid0.Coords) : Scf.Loop 32 :=
  let c0_i32_53 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v132 : BitVec 32 := Scalar.subi v20 c0_i32_53
  let c1_i32_54 : BitVec 32 := 1#32
  let v134 : BitVec 32 := Scalar.divsi v132 c1_i32_54
  let v135 : BitVec 32 := Scalar.muli v134 c1_i32_54
  let v136 : BitVec 32 := Scalar.addi c0_i32_53 v135
  let c1_i32_55 : BitVec 32 := 1#32
  ⟨c0_i32_53, v136, c1_i32_55⟩
def k0_off23 (i : grid0.Coords) (k0_t18 : Fin (k0_t18_loop i).trips) : Fin 3 → Nat :=
  let c0_i32_53 : BitVec 32 := 0#32
  let c1_i32_55 : BitVec 32 := 1#32
  let arg16 : BitVec 32 := Scf.iv c0_i32_53 c1_i32_55 k0_t18
  let v287 : Index := Scalar.indexCast arg16
  let c0_135 : Index := 0#32
  let c0_136 : Index := 0#32
  ![v287.toNat, 0, 0]
@[reducible] def k0_t19_loop (i : grid0.Coords) : Scf.Loop 32 :=
  let c0_i32_53 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v132 : BitVec 32 := Scalar.subi v20 c0_i32_53
  let c1_i32_54 : BitVec 32 := 1#32
  let v134 : BitVec 32 := Scalar.divsi v132 c1_i32_54
  let v135 : BitVec 32 := Scalar.muli v134 c1_i32_54
  let v136 : BitVec 32 := Scalar.addi c0_i32_53 v135
  let v133 : BitVec 32 := Scalar.addi c0_i32_53 v132
  let c1_i32_56 : BitVec 32 := 1#32
  ⟨v136, v133, c1_i32_56⟩
def k0_off24 (i : grid0.Coords) (k0_t19 : Fin (k0_t19_loop i).trips) : Fin 3 → Nat :=
  let c0_i32_53 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v132 : BitVec 32 := Scalar.subi v20 c0_i32_53
  let c1_i32_54 : BitVec 32 := 1#32
  let v134 : BitVec 32 := Scalar.divsi v132 c1_i32_54
  let v135 : BitVec 32 := Scalar.muli v134 c1_i32_54
  let v136 : BitVec 32 := Scalar.addi c0_i32_53 v135
  let c1_i32_56 : BitVec 32 := 1#32
  let arg16 : BitVec 32 := Scf.iv v136 c1_i32_56 k0_t19
  let v287 : Index := Scalar.indexCast arg16
  let c0_135 : Index := 0#32
  let c0_136 : Index := 0#32
  ![v287.toNat, 0, 0]
@[reducible] def k0_t20_loop (i : grid0.Coords) : Scf.Loop 32 :=
  let c0_i32_74 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_68 : BitVec 32 := 0#32
  let v159 : BitVec 1 := Scalar.cmpi .sgt v20 c0_i32_68
  let v160 : BitVec 32 := Scalar.extui v159
  let c0_i32_69 : BitVec 32 := 0#32
  let v161 : BitVec 1 := Scalar.cmpi .slt v20 c0_i32_69
  let v162 : BitVec 32 := Scalar.extui v161
  let v163 : BitVec 32 := Scalar.subi v160 v162
  let c2_i32_67 : BitVec 32 := 2#32
  let c0_i32_70 : BitVec 32 := 0#32
  let v164 : BitVec 1 := Scalar.cmpi .sgt c2_i32_67 c0_i32_70
  let v165 : BitVec 32 := Scalar.extui v164
  let c0_i32_71 : BitVec 32 := 0#32
  let v166 : BitVec 1 := Scalar.cmpi .slt c2_i32_67 c0_i32_71
  let v167 : BitVec 32 := Scalar.extui v166
  let v168 : BitVec 32 := Scalar.subi v165 v167
  let v169 : BitVec 1 := Scalar.cmpi .ne v163 v168
  let v170 : BitVec 32 := Scalar.remsi v20 c2_i32_67
  let c0_i32_72 : BitVec 32 := 0#32
  let v171 : BitVec 1 := Scalar.cmpi .ne v170 c0_i32_72
  let v172 : BitVec 1 := Scalar.andi v169 v171
  let v158 : BitVec 32 := Scalar.divsi v20 c2_i32_67
  let c1_i32_73 : BitVec 32 := 1#32
  let v173 : BitVec 32 := Scalar.subi v158 c1_i32_73
  let v174 : BitVec 32 := Scalar.select v172 v173 v158
  let v175 : BitVec 32 := Scalar.subi v174 c0_i32_74
  let c1_i32_75 : BitVec 32 := 1#32
  let v177 : BitVec 32 := Scalar.divsi v175 c1_i32_75
  let v178 : BitVec 32 := Scalar.muli v177 c1_i32_75
  let v179 : BitVec 32 := Scalar.addi c0_i32_74 v178
  let c1_i32_76 : BitVec 32 := 1#32
  ⟨c0_i32_74, v179, c1_i32_76⟩
def k0_off25 (i : grid0.Coords) (k0_t20 : Fin (k0_t20_loop i).trips) : Fin 3 → Nat :=
  let c2_i32_137 : BitVec 32 := 2#32
  let c0_i32_74 : BitVec 32 := 0#32
  let c1_i32_76 : BitVec 32 := 1#32
  let arg16 : BitVec 32 := Scf.iv c0_i32_74 c1_i32_76 k0_t20
  let v289 : BitVec 32 := Scalar.muli c2_i32_137 arg16
  let v290 : Index := Scalar.indexCast v289
  let c0_138 : Index := 0#32
  let c0_139 : Index := 0#32
  ![v290.toNat, 0, 0]
def k0_mult6 (i : grid0.Coords) (k0_t20 : Fin (k0_t20_loop i).trips) : BitVec 32 :=
  let c2_i32_137 : BitVec 32 := 2#32
  let c0_i32_74 : BitVec 32 := 0#32
  let c1_i32_76 : BitVec 32 := 1#32
  let arg16 : BitVec 32 := Scf.iv c0_i32_74 c1_i32_76 k0_t20
  let v289 : BitVec 32 := Scalar.muli c2_i32_137 arg16
  let c512_i32_140 : BitVec 32 := 512#32
  let v294 : BitVec 32 := Scalar.muli v289 c512_i32_140
  v294
def k0_off26 (i : grid0.Coords) (k0_t20 : Fin (k0_t20_loop i).trips) : Fin 2 → Nat :=
  let c2_i32_137 : BitVec 32 := 2#32
  let c0_i32_74 : BitVec 32 := 0#32
  let c1_i32_76 : BitVec 32 := 1#32
  let arg16 : BitVec 32 := Scf.iv c0_i32_74 c1_i32_76 k0_t20
  let v289 : BitVec 32 := Scalar.muli c2_i32_137 arg16
  let c512_i32_140 : BitVec 32 := 512#32
  let v294 : BitVec 32 := Scalar.muli v289 c512_i32_140
  let v295 : BitVec 32 := v294
  let v296 : Index := Scalar.indexCast v295
  let c0_141 : Index := 0#32
  ![v296.toNat, 0]
def k0_off27 (i : grid0.Coords) (k0_t20 : Fin (k0_t20_loop i).trips) : Fin 4 → Nat :=
  let c2_i32_137 : BitVec 32 := 2#32
  let c0_i32_74 : BitVec 32 := 0#32
  let c1_i32_76 : BitVec 32 := 1#32
  let arg16 : BitVec 32 := Scf.iv c0_i32_74 c1_i32_76 k0_t20
  let v289 : BitVec 32 := Scalar.muli c2_i32_137 arg16
  let v301 : Index := Scalar.indexCast v289
  let c0_143 : Index := 0#32
  let c0_144 : Index := 0#32
  let c0_145 : Index := 0#32
  ![v301.toNat, 0, 0, 0]
def k0_mult7 (i : grid0.Coords) (k0_t20 : Fin (k0_t20_loop i).trips) : BitVec 32 :=
  let c2_i32_137 : BitVec 32 := 2#32
  let c0_i32_74 : BitVec 32 := 0#32
  let c1_i32_76 : BitVec 32 := 1#32
  let arg16 : BitVec 32 := Scf.iv c0_i32_74 c1_i32_76 k0_t20
  let v289 : BitVec 32 := Scalar.muli c2_i32_137 arg16
  let c512_i32_147 : BitVec 32 := 512#32
  let v308 : BitVec 32 := Scalar.muli v289 c512_i32_147
  v308
def k0_off28 (i : grid0.Coords) (k0_t20 : Fin (k0_t20_loop i).trips) : Fin 2 → Nat :=
  let c2_i32_137 : BitVec 32 := 2#32
  let c0_i32_74 : BitVec 32 := 0#32
  let c1_i32_76 : BitVec 32 := 1#32
  let arg16 : BitVec 32 := Scf.iv c0_i32_74 c1_i32_76 k0_t20
  let v289 : BitVec 32 := Scalar.muli c2_i32_137 arg16
  let c512_i32_147 : BitVec 32 := 512#32
  let v308 : BitVec 32 := Scalar.muli v289 c512_i32_147
  let v309 : BitVec 32 := v308
  let v310 : Index := Scalar.indexCast v309
  let c128_148 : Index := 128#32
  ![v310.toNat, 128]
def k0_off29 (i : grid0.Coords) (k0_t20 : Fin (k0_t20_loop i).trips) : Fin 4 → Nat :=
  let c2_i32_137 : BitVec 32 := 2#32
  let c0_i32_74 : BitVec 32 := 0#32
  let c1_i32_76 : BitVec 32 := 1#32
  let arg16 : BitVec 32 := Scf.iv c0_i32_74 c1_i32_76 k0_t20
  let v289 : BitVec 32 := Scalar.muli c2_i32_137 arg16
  let v315 : Index := Scalar.indexCast v289
  let c1_150 : Index := 1#32
  let c0_151 : Index := 0#32
  let c0_152 : Index := 0#32
  ![v315.toNat, 1, 0, 0]
def k0_mult8 (i : grid0.Coords) (k0_t20 : Fin (k0_t20_loop i).trips) : BitVec 32 :=
  let c2_i32_137 : BitVec 32 := 2#32
  let c0_i32_74 : BitVec 32 := 0#32
  let c1_i32_76 : BitVec 32 := 1#32
  let arg16 : BitVec 32 := Scf.iv c0_i32_74 c1_i32_76 k0_t20
  let v289 : BitVec 32 := Scalar.muli c2_i32_137 arg16
  let c512_i32_154 : BitVec 32 := 512#32
  let v322 : BitVec 32 := Scalar.muli v289 c512_i32_154
  v322
def k0_off30 (i : grid0.Coords) (k0_t20 : Fin (k0_t20_loop i).trips) : Fin 2 → Nat :=
  let c2_i32_137 : BitVec 32 := 2#32
  let c0_i32_74 : BitVec 32 := 0#32
  let c1_i32_76 : BitVec 32 := 1#32
  let arg16 : BitVec 32 := Scf.iv c0_i32_74 c1_i32_76 k0_t20
  let v289 : BitVec 32 := Scalar.muli c2_i32_137 arg16
  let c512_i32_154 : BitVec 32 := 512#32
  let v322 : BitVec 32 := Scalar.muli v289 c512_i32_154
  let v323 : BitVec 32 := v322
  let v324 : Index := Scalar.indexCast v323
  let c256_155 : Index := 256#32
  ![v324.toNat, 256]
def k0_off31 (i : grid0.Coords) (k0_t20 : Fin (k0_t20_loop i).trips) : Fin 4 → Nat :=
  let c2_i32_137 : BitVec 32 := 2#32
  let c0_i32_74 : BitVec 32 := 0#32
  let c1_i32_76 : BitVec 32 := 1#32
  let arg16 : BitVec 32 := Scf.iv c0_i32_74 c1_i32_76 k0_t20
  let v289 : BitVec 32 := Scalar.muli c2_i32_137 arg16
  let v329 : Index := Scalar.indexCast v289
  let c2_157 : Index := 2#32
  let c0_158 : Index := 0#32
  let c0_159 : Index := 0#32
  ![v329.toNat, 2, 0, 0]
def k0_mult9 (i : grid0.Coords) (k0_t20 : Fin (k0_t20_loop i).trips) : BitVec 32 :=
  let c2_i32_137 : BitVec 32 := 2#32
  let c0_i32_74 : BitVec 32 := 0#32
  let c1_i32_76 : BitVec 32 := 1#32
  let arg16 : BitVec 32 := Scf.iv c0_i32_74 c1_i32_76 k0_t20
  let v289 : BitVec 32 := Scalar.muli c2_i32_137 arg16
  let c512_i32_161 : BitVec 32 := 512#32
  let v336 : BitVec 32 := Scalar.muli v289 c512_i32_161
  v336
def k0_off32 (i : grid0.Coords) (k0_t20 : Fin (k0_t20_loop i).trips) : Fin 2 → Nat :=
  let c2_i32_137 : BitVec 32 := 2#32
  let c0_i32_74 : BitVec 32 := 0#32
  let c1_i32_76 : BitVec 32 := 1#32
  let arg16 : BitVec 32 := Scf.iv c0_i32_74 c1_i32_76 k0_t20
  let v289 : BitVec 32 := Scalar.muli c2_i32_137 arg16
  let c512_i32_161 : BitVec 32 := 512#32
  let v336 : BitVec 32 := Scalar.muli v289 c512_i32_161
  let v337 : BitVec 32 := v336
  let v338 : Index := Scalar.indexCast v337
  let c384_162 : Index := 384#32
  ![v338.toNat, 384]
def k0_off33 (i : grid0.Coords) (k0_t20 : Fin (k0_t20_loop i).trips) : Fin 4 → Nat :=
  let c2_i32_137 : BitVec 32 := 2#32
  let c0_i32_74 : BitVec 32 := 0#32
  let c1_i32_76 : BitVec 32 := 1#32
  let arg16 : BitVec 32 := Scf.iv c0_i32_74 c1_i32_76 k0_t20
  let v289 : BitVec 32 := Scalar.muli c2_i32_137 arg16
  let v343 : Index := Scalar.indexCast v289
  let c3_164 : Index := 3#32
  let c0_165 : Index := 0#32
  let c0_166 : Index := 0#32
  ![v343.toNat, 3, 0, 0]
def k0_off34 (i : grid0.Coords) (k0_t20 : Fin (k0_t20_loop i).trips) : Fin 3 → Nat :=
  let c2_i32_135 : BitVec 32 := 2#32
  let c0_i32_74 : BitVec 32 := 0#32
  let c1_i32_76 : BitVec 32 := 1#32
  let arg16 : BitVec 32 := Scf.iv c0_i32_74 c1_i32_76 k0_t20
  let v287 : BitVec 32 := Scalar.muli c2_i32_135 arg16
  let c1_i32_136 : BitVec 32 := 1#32
  let v288 : BitVec 32 := Scalar.addi v287 c1_i32_136
  let v350 : Index := Scalar.indexCast v288
  let c0_168 : Index := 0#32
  let c0_169 : Index := 0#32
  ![v350.toNat, 0, 0]
def k0_mult10 (i : grid0.Coords) (k0_t20 : Fin (k0_t20_loop i).trips) : BitVec 32 :=
  let c2_i32_135 : BitVec 32 := 2#32
  let c0_i32_74 : BitVec 32 := 0#32
  let c1_i32_76 : BitVec 32 := 1#32
  let arg16 : BitVec 32 := Scf.iv c0_i32_74 c1_i32_76 k0_t20
  let v287 : BitVec 32 := Scalar.muli c2_i32_135 arg16
  let c1_i32_136 : BitVec 32 := 1#32
  let v288 : BitVec 32 := Scalar.addi v287 c1_i32_136
  let c512_i32_170 : BitVec 32 := 512#32
  let v354 : BitVec 32 := Scalar.muli v288 c512_i32_170
  v354
def k0_off35 (i : grid0.Coords) (k0_t20 : Fin (k0_t20_loop i).trips) : Fin 2 → Nat :=
  let c2_i32_135 : BitVec 32 := 2#32
  let c0_i32_74 : BitVec 32 := 0#32
  let c1_i32_76 : BitVec 32 := 1#32
  let arg16 : BitVec 32 := Scf.iv c0_i32_74 c1_i32_76 k0_t20
  let v287 : BitVec 32 := Scalar.muli c2_i32_135 arg16
  let c1_i32_136 : BitVec 32 := 1#32
  let v288 : BitVec 32 := Scalar.addi v287 c1_i32_136
  let c512_i32_170 : BitVec 32 := 512#32
  let v354 : BitVec 32 := Scalar.muli v288 c512_i32_170
  let v355 : BitVec 32 := v354
  let v356 : Index := Scalar.indexCast v355
  let c0_171 : Index := 0#32
  ![v356.toNat, 0]
def k0_off36 (i : grid0.Coords) (k0_t20 : Fin (k0_t20_loop i).trips) : Fin 4 → Nat :=
  let c2_i32_135 : BitVec 32 := 2#32
  let c0_i32_74 : BitVec 32 := 0#32
  let c1_i32_76 : BitVec 32 := 1#32
  let arg16 : BitVec 32 := Scf.iv c0_i32_74 c1_i32_76 k0_t20
  let v287 : BitVec 32 := Scalar.muli c2_i32_135 arg16
  let c1_i32_136 : BitVec 32 := 1#32
  let v288 : BitVec 32 := Scalar.addi v287 c1_i32_136
  let v361 : Index := Scalar.indexCast v288
  let c0_173 : Index := 0#32
  let c0_174 : Index := 0#32
  let c0_175 : Index := 0#32
  ![v361.toNat, 0, 0, 0]
def k0_mult11 (i : grid0.Coords) (k0_t20 : Fin (k0_t20_loop i).trips) : BitVec 32 :=
  let c2_i32_135 : BitVec 32 := 2#32
  let c0_i32_74 : BitVec 32 := 0#32
  let c1_i32_76 : BitVec 32 := 1#32
  let arg16 : BitVec 32 := Scf.iv c0_i32_74 c1_i32_76 k0_t20
  let v287 : BitVec 32 := Scalar.muli c2_i32_135 arg16
  let c1_i32_136 : BitVec 32 := 1#32
  let v288 : BitVec 32 := Scalar.addi v287 c1_i32_136
  let c512_i32_177 : BitVec 32 := 512#32
  let v368 : BitVec 32 := Scalar.muli v288 c512_i32_177
  v368
def k0_off37 (i : grid0.Coords) (k0_t20 : Fin (k0_t20_loop i).trips) : Fin 2 → Nat :=
  let c2_i32_135 : BitVec 32 := 2#32
  let c0_i32_74 : BitVec 32 := 0#32
  let c1_i32_76 : BitVec 32 := 1#32
  let arg16 : BitVec 32 := Scf.iv c0_i32_74 c1_i32_76 k0_t20
  let v287 : BitVec 32 := Scalar.muli c2_i32_135 arg16
  let c1_i32_136 : BitVec 32 := 1#32
  let v288 : BitVec 32 := Scalar.addi v287 c1_i32_136
  let c512_i32_177 : BitVec 32 := 512#32
  let v368 : BitVec 32 := Scalar.muli v288 c512_i32_177
  let v369 : BitVec 32 := v368
  let v370 : Index := Scalar.indexCast v369
  let c128_178 : Index := 128#32
  ![v370.toNat, 128]
def k0_off38 (i : grid0.Coords) (k0_t20 : Fin (k0_t20_loop i).trips) : Fin 4 → Nat :=
  let c2_i32_135 : BitVec 32 := 2#32
  let c0_i32_74 : BitVec 32 := 0#32
  let c1_i32_76 : BitVec 32 := 1#32
  let arg16 : BitVec 32 := Scf.iv c0_i32_74 c1_i32_76 k0_t20
  let v287 : BitVec 32 := Scalar.muli c2_i32_135 arg16
  let c1_i32_136 : BitVec 32 := 1#32
  let v288 : BitVec 32 := Scalar.addi v287 c1_i32_136
  let v375 : Index := Scalar.indexCast v288
  let c1_180 : Index := 1#32
  let c0_181 : Index := 0#32
  let c0_182 : Index := 0#32
  ![v375.toNat, 1, 0, 0]
def k0_mult12 (i : grid0.Coords) (k0_t20 : Fin (k0_t20_loop i).trips) : BitVec 32 :=
  let c2_i32_135 : BitVec 32 := 2#32
  let c0_i32_74 : BitVec 32 := 0#32
  let c1_i32_76 : BitVec 32 := 1#32
  let arg16 : BitVec 32 := Scf.iv c0_i32_74 c1_i32_76 k0_t20
  let v287 : BitVec 32 := Scalar.muli c2_i32_135 arg16
  let c1_i32_136 : BitVec 32 := 1#32
  let v288 : BitVec 32 := Scalar.addi v287 c1_i32_136
  let c512_i32_184 : BitVec 32 := 512#32
  let v382 : BitVec 32 := Scalar.muli v288 c512_i32_184
  v382
def k0_off39 (i : grid0.Coords) (k0_t20 : Fin (k0_t20_loop i).trips) : Fin 2 → Nat :=
  let c2_i32_135 : BitVec 32 := 2#32
  let c0_i32_74 : BitVec 32 := 0#32
  let c1_i32_76 : BitVec 32 := 1#32
  let arg16 : BitVec 32 := Scf.iv c0_i32_74 c1_i32_76 k0_t20
  let v287 : BitVec 32 := Scalar.muli c2_i32_135 arg16
  let c1_i32_136 : BitVec 32 := 1#32
  let v288 : BitVec 32 := Scalar.addi v287 c1_i32_136
  let c512_i32_184 : BitVec 32 := 512#32
  let v382 : BitVec 32 := Scalar.muli v288 c512_i32_184
  let v383 : BitVec 32 := v382
  let v384 : Index := Scalar.indexCast v383
  let c256_185 : Index := 256#32
  ![v384.toNat, 256]
def k0_off40 (i : grid0.Coords) (k0_t20 : Fin (k0_t20_loop i).trips) : Fin 4 → Nat :=
  let c2_i32_135 : BitVec 32 := 2#32
  let c0_i32_74 : BitVec 32 := 0#32
  let c1_i32_76 : BitVec 32 := 1#32
  let arg16 : BitVec 32 := Scf.iv c0_i32_74 c1_i32_76 k0_t20
  let v287 : BitVec 32 := Scalar.muli c2_i32_135 arg16
  let c1_i32_136 : BitVec 32 := 1#32
  let v288 : BitVec 32 := Scalar.addi v287 c1_i32_136
  let v389 : Index := Scalar.indexCast v288
  let c2_187 : Index := 2#32
  let c0_188 : Index := 0#32
  let c0_189 : Index := 0#32
  ![v389.toNat, 2, 0, 0]
def k0_mult13 (i : grid0.Coords) (k0_t20 : Fin (k0_t20_loop i).trips) : BitVec 32 :=
  let c2_i32_135 : BitVec 32 := 2#32
  let c0_i32_74 : BitVec 32 := 0#32
  let c1_i32_76 : BitVec 32 := 1#32
  let arg16 : BitVec 32 := Scf.iv c0_i32_74 c1_i32_76 k0_t20
  let v287 : BitVec 32 := Scalar.muli c2_i32_135 arg16
  let c1_i32_136 : BitVec 32 := 1#32
  let v288 : BitVec 32 := Scalar.addi v287 c1_i32_136
  let c512_i32_191 : BitVec 32 := 512#32
  let v396 : BitVec 32 := Scalar.muli v288 c512_i32_191
  v396
def k0_off41 (i : grid0.Coords) (k0_t20 : Fin (k0_t20_loop i).trips) : Fin 2 → Nat :=
  let c2_i32_135 : BitVec 32 := 2#32
  let c0_i32_74 : BitVec 32 := 0#32
  let c1_i32_76 : BitVec 32 := 1#32
  let arg16 : BitVec 32 := Scf.iv c0_i32_74 c1_i32_76 k0_t20
  let v287 : BitVec 32 := Scalar.muli c2_i32_135 arg16
  let c1_i32_136 : BitVec 32 := 1#32
  let v288 : BitVec 32 := Scalar.addi v287 c1_i32_136
  let c512_i32_191 : BitVec 32 := 512#32
  let v396 : BitVec 32 := Scalar.muli v288 c512_i32_191
  let v397 : BitVec 32 := v396
  let v398 : Index := Scalar.indexCast v397
  let c384_192 : Index := 384#32
  ![v398.toNat, 384]
def k0_off42 (i : grid0.Coords) (k0_t20 : Fin (k0_t20_loop i).trips) : Fin 4 → Nat :=
  let c2_i32_135 : BitVec 32 := 2#32
  let c0_i32_74 : BitVec 32 := 0#32
  let c1_i32_76 : BitVec 32 := 1#32
  let arg16 : BitVec 32 := Scf.iv c0_i32_74 c1_i32_76 k0_t20
  let v287 : BitVec 32 := Scalar.muli c2_i32_135 arg16
  let c1_i32_136 : BitVec 32 := 1#32
  let v288 : BitVec 32 := Scalar.addi v287 c1_i32_136
  let v403 : Index := Scalar.indexCast v288
  let c3_194 : Index := 3#32
  let c0_195 : Index := 0#32
  let c0_196 : Index := 0#32
  ![v403.toNat, 3, 0, 0]
@[reducible] def k0_t21_loop (i : grid0.Coords) : Scf.Loop 32 :=
  let c0_i32_74 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_68 : BitVec 32 := 0#32
  let v159 : BitVec 1 := Scalar.cmpi .sgt v20 c0_i32_68
  let v160 : BitVec 32 := Scalar.extui v159
  let c0_i32_69 : BitVec 32 := 0#32
  let v161 : BitVec 1 := Scalar.cmpi .slt v20 c0_i32_69
  let v162 : BitVec 32 := Scalar.extui v161
  let v163 : BitVec 32 := Scalar.subi v160 v162
  let c2_i32_67 : BitVec 32 := 2#32
  let c0_i32_70 : BitVec 32 := 0#32
  let v164 : BitVec 1 := Scalar.cmpi .sgt c2_i32_67 c0_i32_70
  let v165 : BitVec 32 := Scalar.extui v164
  let c0_i32_71 : BitVec 32 := 0#32
  let v166 : BitVec 1 := Scalar.cmpi .slt c2_i32_67 c0_i32_71
  let v167 : BitVec 32 := Scalar.extui v166
  let v168 : BitVec 32 := Scalar.subi v165 v167
  let v169 : BitVec 1 := Scalar.cmpi .ne v163 v168
  let v170 : BitVec 32 := Scalar.remsi v20 c2_i32_67
  let c0_i32_72 : BitVec 32 := 0#32
  let v171 : BitVec 1 := Scalar.cmpi .ne v170 c0_i32_72
  let v172 : BitVec 1 := Scalar.andi v169 v171
  let v158 : BitVec 32 := Scalar.divsi v20 c2_i32_67
  let c1_i32_73 : BitVec 32 := 1#32
  let v173 : BitVec 32 := Scalar.subi v158 c1_i32_73
  let v174 : BitVec 32 := Scalar.select v172 v173 v158
  let v175 : BitVec 32 := Scalar.subi v174 c0_i32_74
  let c1_i32_75 : BitVec 32 := 1#32
  let v177 : BitVec 32 := Scalar.divsi v175 c1_i32_75
  let v178 : BitVec 32 := Scalar.muli v177 c1_i32_75
  let v179 : BitVec 32 := Scalar.addi c0_i32_74 v178
  let v176 : BitVec 32 := Scalar.addi c0_i32_74 v175
  let c1_i32_77 : BitVec 32 := 1#32
  ⟨v179, v176, c1_i32_77⟩
def k0_off43 (i : grid0.Coords) (k0_t21 : Fin (k0_t21_loop i).trips) : Fin 3 → Nat :=
  let c2_i32_137 : BitVec 32 := 2#32
  let c0_i32_74 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_68 : BitVec 32 := 0#32
  let v159 : BitVec 1 := Scalar.cmpi .sgt v20 c0_i32_68
  let v160 : BitVec 32 := Scalar.extui v159
  let c0_i32_69 : BitVec 32 := 0#32
  let v161 : BitVec 1 := Scalar.cmpi .slt v20 c0_i32_69
  let v162 : BitVec 32 := Scalar.extui v161
  let v163 : BitVec 32 := Scalar.subi v160 v162
  let c2_i32_67 : BitVec 32 := 2#32
  let c0_i32_70 : BitVec 32 := 0#32
  let v164 : BitVec 1 := Scalar.cmpi .sgt c2_i32_67 c0_i32_70
  let v165 : BitVec 32 := Scalar.extui v164
  let c0_i32_71 : BitVec 32 := 0#32
  let v166 : BitVec 1 := Scalar.cmpi .slt c2_i32_67 c0_i32_71
  let v167 : BitVec 32 := Scalar.extui v166
  let v168 : BitVec 32 := Scalar.subi v165 v167
  let v169 : BitVec 1 := Scalar.cmpi .ne v163 v168
  let v170 : BitVec 32 := Scalar.remsi v20 c2_i32_67
  let c0_i32_72 : BitVec 32 := 0#32
  let v171 : BitVec 1 := Scalar.cmpi .ne v170 c0_i32_72
  let v172 : BitVec 1 := Scalar.andi v169 v171
  let v158 : BitVec 32 := Scalar.divsi v20 c2_i32_67
  let c1_i32_73 : BitVec 32 := 1#32
  let v173 : BitVec 32 := Scalar.subi v158 c1_i32_73
  let v174 : BitVec 32 := Scalar.select v172 v173 v158
  let v175 : BitVec 32 := Scalar.subi v174 c0_i32_74
  let c1_i32_75 : BitVec 32 := 1#32
  let v177 : BitVec 32 := Scalar.divsi v175 c1_i32_75
  let v178 : BitVec 32 := Scalar.muli v177 c1_i32_75
  let v179 : BitVec 32 := Scalar.addi c0_i32_74 v178
  let c1_i32_77 : BitVec 32 := 1#32
  let arg16 : BitVec 32 := Scf.iv v179 c1_i32_77 k0_t21
  let v289 : BitVec 32 := Scalar.muli c2_i32_137 arg16
  let v290 : Index := Scalar.indexCast v289
  let c0_138 : Index := 0#32
  let c0_139 : Index := 0#32
  ![v290.toNat, 0, 0]
def k0_mult14 (i : grid0.Coords) (k0_t21 : Fin (k0_t21_loop i).trips) : BitVec 32 :=
  let c2_i32_137 : BitVec 32 := 2#32
  let c0_i32_74 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_68 : BitVec 32 := 0#32
  let v159 : BitVec 1 := Scalar.cmpi .sgt v20 c0_i32_68
  let v160 : BitVec 32 := Scalar.extui v159
  let c0_i32_69 : BitVec 32 := 0#32
  let v161 : BitVec 1 := Scalar.cmpi .slt v20 c0_i32_69
  let v162 : BitVec 32 := Scalar.extui v161
  let v163 : BitVec 32 := Scalar.subi v160 v162
  let c2_i32_67 : BitVec 32 := 2#32
  let c0_i32_70 : BitVec 32 := 0#32
  let v164 : BitVec 1 := Scalar.cmpi .sgt c2_i32_67 c0_i32_70
  let v165 : BitVec 32 := Scalar.extui v164
  let c0_i32_71 : BitVec 32 := 0#32
  let v166 : BitVec 1 := Scalar.cmpi .slt c2_i32_67 c0_i32_71
  let v167 : BitVec 32 := Scalar.extui v166
  let v168 : BitVec 32 := Scalar.subi v165 v167
  let v169 : BitVec 1 := Scalar.cmpi .ne v163 v168
  let v170 : BitVec 32 := Scalar.remsi v20 c2_i32_67
  let c0_i32_72 : BitVec 32 := 0#32
  let v171 : BitVec 1 := Scalar.cmpi .ne v170 c0_i32_72
  let v172 : BitVec 1 := Scalar.andi v169 v171
  let v158 : BitVec 32 := Scalar.divsi v20 c2_i32_67
  let c1_i32_73 : BitVec 32 := 1#32
  let v173 : BitVec 32 := Scalar.subi v158 c1_i32_73
  let v174 : BitVec 32 := Scalar.select v172 v173 v158
  let v175 : BitVec 32 := Scalar.subi v174 c0_i32_74
  let c1_i32_75 : BitVec 32 := 1#32
  let v177 : BitVec 32 := Scalar.divsi v175 c1_i32_75
  let v178 : BitVec 32 := Scalar.muli v177 c1_i32_75
  let v179 : BitVec 32 := Scalar.addi c0_i32_74 v178
  let c1_i32_77 : BitVec 32 := 1#32
  let arg16 : BitVec 32 := Scf.iv v179 c1_i32_77 k0_t21
  let v289 : BitVec 32 := Scalar.muli c2_i32_137 arg16
  let c512_i32_140 : BitVec 32 := 512#32
  let v294 : BitVec 32 := Scalar.muli v289 c512_i32_140
  v294
def k0_off44 (i : grid0.Coords) (k0_t21 : Fin (k0_t21_loop i).trips) : Fin 2 → Nat :=
  let c2_i32_137 : BitVec 32 := 2#32
  let c0_i32_74 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_68 : BitVec 32 := 0#32
  let v159 : BitVec 1 := Scalar.cmpi .sgt v20 c0_i32_68
  let v160 : BitVec 32 := Scalar.extui v159
  let c0_i32_69 : BitVec 32 := 0#32
  let v161 : BitVec 1 := Scalar.cmpi .slt v20 c0_i32_69
  let v162 : BitVec 32 := Scalar.extui v161
  let v163 : BitVec 32 := Scalar.subi v160 v162
  let c2_i32_67 : BitVec 32 := 2#32
  let c0_i32_70 : BitVec 32 := 0#32
  let v164 : BitVec 1 := Scalar.cmpi .sgt c2_i32_67 c0_i32_70
  let v165 : BitVec 32 := Scalar.extui v164
  let c0_i32_71 : BitVec 32 := 0#32
  let v166 : BitVec 1 := Scalar.cmpi .slt c2_i32_67 c0_i32_71
  let v167 : BitVec 32 := Scalar.extui v166
  let v168 : BitVec 32 := Scalar.subi v165 v167
  let v169 : BitVec 1 := Scalar.cmpi .ne v163 v168
  let v170 : BitVec 32 := Scalar.remsi v20 c2_i32_67
  let c0_i32_72 : BitVec 32 := 0#32
  let v171 : BitVec 1 := Scalar.cmpi .ne v170 c0_i32_72
  let v172 : BitVec 1 := Scalar.andi v169 v171
  let v158 : BitVec 32 := Scalar.divsi v20 c2_i32_67
  let c1_i32_73 : BitVec 32 := 1#32
  let v173 : BitVec 32 := Scalar.subi v158 c1_i32_73
  let v174 : BitVec 32 := Scalar.select v172 v173 v158
  let v175 : BitVec 32 := Scalar.subi v174 c0_i32_74
  let c1_i32_75 : BitVec 32 := 1#32
  let v177 : BitVec 32 := Scalar.divsi v175 c1_i32_75
  let v178 : BitVec 32 := Scalar.muli v177 c1_i32_75
  let v179 : BitVec 32 := Scalar.addi c0_i32_74 v178
  let c1_i32_77 : BitVec 32 := 1#32
  let arg16 : BitVec 32 := Scf.iv v179 c1_i32_77 k0_t21
  let v289 : BitVec 32 := Scalar.muli c2_i32_137 arg16
  let c512_i32_140 : BitVec 32 := 512#32
  let v294 : BitVec 32 := Scalar.muli v289 c512_i32_140
  let v295 : BitVec 32 := v294
  let v296 : Index := Scalar.indexCast v295
  let c0_141 : Index := 0#32
  ![v296.toNat, 0]
def k0_off45 (i : grid0.Coords) (k0_t21 : Fin (k0_t21_loop i).trips) : Fin 4 → Nat :=
  let c2_i32_137 : BitVec 32 := 2#32
  let c0_i32_74 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_68 : BitVec 32 := 0#32
  let v159 : BitVec 1 := Scalar.cmpi .sgt v20 c0_i32_68
  let v160 : BitVec 32 := Scalar.extui v159
  let c0_i32_69 : BitVec 32 := 0#32
  let v161 : BitVec 1 := Scalar.cmpi .slt v20 c0_i32_69
  let v162 : BitVec 32 := Scalar.extui v161
  let v163 : BitVec 32 := Scalar.subi v160 v162
  let c2_i32_67 : BitVec 32 := 2#32
  let c0_i32_70 : BitVec 32 := 0#32
  let v164 : BitVec 1 := Scalar.cmpi .sgt c2_i32_67 c0_i32_70
  let v165 : BitVec 32 := Scalar.extui v164
  let c0_i32_71 : BitVec 32 := 0#32
  let v166 : BitVec 1 := Scalar.cmpi .slt c2_i32_67 c0_i32_71
  let v167 : BitVec 32 := Scalar.extui v166
  let v168 : BitVec 32 := Scalar.subi v165 v167
  let v169 : BitVec 1 := Scalar.cmpi .ne v163 v168
  let v170 : BitVec 32 := Scalar.remsi v20 c2_i32_67
  let c0_i32_72 : BitVec 32 := 0#32
  let v171 : BitVec 1 := Scalar.cmpi .ne v170 c0_i32_72
  let v172 : BitVec 1 := Scalar.andi v169 v171
  let v158 : BitVec 32 := Scalar.divsi v20 c2_i32_67
  let c1_i32_73 : BitVec 32 := 1#32
  let v173 : BitVec 32 := Scalar.subi v158 c1_i32_73
  let v174 : BitVec 32 := Scalar.select v172 v173 v158
  let v175 : BitVec 32 := Scalar.subi v174 c0_i32_74
  let c1_i32_75 : BitVec 32 := 1#32
  let v177 : BitVec 32 := Scalar.divsi v175 c1_i32_75
  let v178 : BitVec 32 := Scalar.muli v177 c1_i32_75
  let v179 : BitVec 32 := Scalar.addi c0_i32_74 v178
  let c1_i32_77 : BitVec 32 := 1#32
  let arg16 : BitVec 32 := Scf.iv v179 c1_i32_77 k0_t21
  let v289 : BitVec 32 := Scalar.muli c2_i32_137 arg16
  let v301 : Index := Scalar.indexCast v289
  let c0_143 : Index := 0#32
  let c0_144 : Index := 0#32
  let c0_145 : Index := 0#32
  ![v301.toNat, 0, 0, 0]
def k0_mult15 (i : grid0.Coords) (k0_t21 : Fin (k0_t21_loop i).trips) : BitVec 32 :=
  let c2_i32_137 : BitVec 32 := 2#32
  let c0_i32_74 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_68 : BitVec 32 := 0#32
  let v159 : BitVec 1 := Scalar.cmpi .sgt v20 c0_i32_68
  let v160 : BitVec 32 := Scalar.extui v159
  let c0_i32_69 : BitVec 32 := 0#32
  let v161 : BitVec 1 := Scalar.cmpi .slt v20 c0_i32_69
  let v162 : BitVec 32 := Scalar.extui v161
  let v163 : BitVec 32 := Scalar.subi v160 v162
  let c2_i32_67 : BitVec 32 := 2#32
  let c0_i32_70 : BitVec 32 := 0#32
  let v164 : BitVec 1 := Scalar.cmpi .sgt c2_i32_67 c0_i32_70
  let v165 : BitVec 32 := Scalar.extui v164
  let c0_i32_71 : BitVec 32 := 0#32
  let v166 : BitVec 1 := Scalar.cmpi .slt c2_i32_67 c0_i32_71
  let v167 : BitVec 32 := Scalar.extui v166
  let v168 : BitVec 32 := Scalar.subi v165 v167
  let v169 : BitVec 1 := Scalar.cmpi .ne v163 v168
  let v170 : BitVec 32 := Scalar.remsi v20 c2_i32_67
  let c0_i32_72 : BitVec 32 := 0#32
  let v171 : BitVec 1 := Scalar.cmpi .ne v170 c0_i32_72
  let v172 : BitVec 1 := Scalar.andi v169 v171
  let v158 : BitVec 32 := Scalar.divsi v20 c2_i32_67
  let c1_i32_73 : BitVec 32 := 1#32
  let v173 : BitVec 32 := Scalar.subi v158 c1_i32_73
  let v174 : BitVec 32 := Scalar.select v172 v173 v158
  let v175 : BitVec 32 := Scalar.subi v174 c0_i32_74
  let c1_i32_75 : BitVec 32 := 1#32
  let v177 : BitVec 32 := Scalar.divsi v175 c1_i32_75
  let v178 : BitVec 32 := Scalar.muli v177 c1_i32_75
  let v179 : BitVec 32 := Scalar.addi c0_i32_74 v178
  let c1_i32_77 : BitVec 32 := 1#32
  let arg16 : BitVec 32 := Scf.iv v179 c1_i32_77 k0_t21
  let v289 : BitVec 32 := Scalar.muli c2_i32_137 arg16
  let c512_i32_147 : BitVec 32 := 512#32
  let v308 : BitVec 32 := Scalar.muli v289 c512_i32_147
  v308
def k0_off46 (i : grid0.Coords) (k0_t21 : Fin (k0_t21_loop i).trips) : Fin 2 → Nat :=
  let c2_i32_137 : BitVec 32 := 2#32
  let c0_i32_74 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_68 : BitVec 32 := 0#32
  let v159 : BitVec 1 := Scalar.cmpi .sgt v20 c0_i32_68
  let v160 : BitVec 32 := Scalar.extui v159
  let c0_i32_69 : BitVec 32 := 0#32
  let v161 : BitVec 1 := Scalar.cmpi .slt v20 c0_i32_69
  let v162 : BitVec 32 := Scalar.extui v161
  let v163 : BitVec 32 := Scalar.subi v160 v162
  let c2_i32_67 : BitVec 32 := 2#32
  let c0_i32_70 : BitVec 32 := 0#32
  let v164 : BitVec 1 := Scalar.cmpi .sgt c2_i32_67 c0_i32_70
  let v165 : BitVec 32 := Scalar.extui v164
  let c0_i32_71 : BitVec 32 := 0#32
  let v166 : BitVec 1 := Scalar.cmpi .slt c2_i32_67 c0_i32_71
  let v167 : BitVec 32 := Scalar.extui v166
  let v168 : BitVec 32 := Scalar.subi v165 v167
  let v169 : BitVec 1 := Scalar.cmpi .ne v163 v168
  let v170 : BitVec 32 := Scalar.remsi v20 c2_i32_67
  let c0_i32_72 : BitVec 32 := 0#32
  let v171 : BitVec 1 := Scalar.cmpi .ne v170 c0_i32_72
  let v172 : BitVec 1 := Scalar.andi v169 v171
  let v158 : BitVec 32 := Scalar.divsi v20 c2_i32_67
  let c1_i32_73 : BitVec 32 := 1#32
  let v173 : BitVec 32 := Scalar.subi v158 c1_i32_73
  let v174 : BitVec 32 := Scalar.select v172 v173 v158
  let v175 : BitVec 32 := Scalar.subi v174 c0_i32_74
  let c1_i32_75 : BitVec 32 := 1#32
  let v177 : BitVec 32 := Scalar.divsi v175 c1_i32_75
  let v178 : BitVec 32 := Scalar.muli v177 c1_i32_75
  let v179 : BitVec 32 := Scalar.addi c0_i32_74 v178
  let c1_i32_77 : BitVec 32 := 1#32
  let arg16 : BitVec 32 := Scf.iv v179 c1_i32_77 k0_t21
  let v289 : BitVec 32 := Scalar.muli c2_i32_137 arg16
  let c512_i32_147 : BitVec 32 := 512#32
  let v308 : BitVec 32 := Scalar.muli v289 c512_i32_147
  let v309 : BitVec 32 := v308
  let v310 : Index := Scalar.indexCast v309
  let c128_148 : Index := 128#32
  ![v310.toNat, 128]
def k0_off47 (i : grid0.Coords) (k0_t21 : Fin (k0_t21_loop i).trips) : Fin 4 → Nat :=
  let c2_i32_137 : BitVec 32 := 2#32
  let c0_i32_74 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_68 : BitVec 32 := 0#32
  let v159 : BitVec 1 := Scalar.cmpi .sgt v20 c0_i32_68
  let v160 : BitVec 32 := Scalar.extui v159
  let c0_i32_69 : BitVec 32 := 0#32
  let v161 : BitVec 1 := Scalar.cmpi .slt v20 c0_i32_69
  let v162 : BitVec 32 := Scalar.extui v161
  let v163 : BitVec 32 := Scalar.subi v160 v162
  let c2_i32_67 : BitVec 32 := 2#32
  let c0_i32_70 : BitVec 32 := 0#32
  let v164 : BitVec 1 := Scalar.cmpi .sgt c2_i32_67 c0_i32_70
  let v165 : BitVec 32 := Scalar.extui v164
  let c0_i32_71 : BitVec 32 := 0#32
  let v166 : BitVec 1 := Scalar.cmpi .slt c2_i32_67 c0_i32_71
  let v167 : BitVec 32 := Scalar.extui v166
  let v168 : BitVec 32 := Scalar.subi v165 v167
  let v169 : BitVec 1 := Scalar.cmpi .ne v163 v168
  let v170 : BitVec 32 := Scalar.remsi v20 c2_i32_67
  let c0_i32_72 : BitVec 32 := 0#32
  let v171 : BitVec 1 := Scalar.cmpi .ne v170 c0_i32_72
  let v172 : BitVec 1 := Scalar.andi v169 v171
  let v158 : BitVec 32 := Scalar.divsi v20 c2_i32_67
  let c1_i32_73 : BitVec 32 := 1#32
  let v173 : BitVec 32 := Scalar.subi v158 c1_i32_73
  let v174 : BitVec 32 := Scalar.select v172 v173 v158
  let v175 : BitVec 32 := Scalar.subi v174 c0_i32_74
  let c1_i32_75 : BitVec 32 := 1#32
  let v177 : BitVec 32 := Scalar.divsi v175 c1_i32_75
  let v178 : BitVec 32 := Scalar.muli v177 c1_i32_75
  let v179 : BitVec 32 := Scalar.addi c0_i32_74 v178
  let c1_i32_77 : BitVec 32 := 1#32
  let arg16 : BitVec 32 := Scf.iv v179 c1_i32_77 k0_t21
  let v289 : BitVec 32 := Scalar.muli c2_i32_137 arg16
  let v315 : Index := Scalar.indexCast v289
  let c1_150 : Index := 1#32
  let c0_151 : Index := 0#32
  let c0_152 : Index := 0#32
  ![v315.toNat, 1, 0, 0]
def k0_mult16 (i : grid0.Coords) (k0_t21 : Fin (k0_t21_loop i).trips) : BitVec 32 :=
  let c2_i32_137 : BitVec 32 := 2#32
  let c0_i32_74 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_68 : BitVec 32 := 0#32
  let v159 : BitVec 1 := Scalar.cmpi .sgt v20 c0_i32_68
  let v160 : BitVec 32 := Scalar.extui v159
  let c0_i32_69 : BitVec 32 := 0#32
  let v161 : BitVec 1 := Scalar.cmpi .slt v20 c0_i32_69
  let v162 : BitVec 32 := Scalar.extui v161
  let v163 : BitVec 32 := Scalar.subi v160 v162
  let c2_i32_67 : BitVec 32 := 2#32
  let c0_i32_70 : BitVec 32 := 0#32
  let v164 : BitVec 1 := Scalar.cmpi .sgt c2_i32_67 c0_i32_70
  let v165 : BitVec 32 := Scalar.extui v164
  let c0_i32_71 : BitVec 32 := 0#32
  let v166 : BitVec 1 := Scalar.cmpi .slt c2_i32_67 c0_i32_71
  let v167 : BitVec 32 := Scalar.extui v166
  let v168 : BitVec 32 := Scalar.subi v165 v167
  let v169 : BitVec 1 := Scalar.cmpi .ne v163 v168
  let v170 : BitVec 32 := Scalar.remsi v20 c2_i32_67
  let c0_i32_72 : BitVec 32 := 0#32
  let v171 : BitVec 1 := Scalar.cmpi .ne v170 c0_i32_72
  let v172 : BitVec 1 := Scalar.andi v169 v171
  let v158 : BitVec 32 := Scalar.divsi v20 c2_i32_67
  let c1_i32_73 : BitVec 32 := 1#32
  let v173 : BitVec 32 := Scalar.subi v158 c1_i32_73
  let v174 : BitVec 32 := Scalar.select v172 v173 v158
  let v175 : BitVec 32 := Scalar.subi v174 c0_i32_74
  let c1_i32_75 : BitVec 32 := 1#32
  let v177 : BitVec 32 := Scalar.divsi v175 c1_i32_75
  let v178 : BitVec 32 := Scalar.muli v177 c1_i32_75
  let v179 : BitVec 32 := Scalar.addi c0_i32_74 v178
  let c1_i32_77 : BitVec 32 := 1#32
  let arg16 : BitVec 32 := Scf.iv v179 c1_i32_77 k0_t21
  let v289 : BitVec 32 := Scalar.muli c2_i32_137 arg16
  let c512_i32_154 : BitVec 32 := 512#32
  let v322 : BitVec 32 := Scalar.muli v289 c512_i32_154
  v322
def k0_off48 (i : grid0.Coords) (k0_t21 : Fin (k0_t21_loop i).trips) : Fin 2 → Nat :=
  let c2_i32_137 : BitVec 32 := 2#32
  let c0_i32_74 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_68 : BitVec 32 := 0#32
  let v159 : BitVec 1 := Scalar.cmpi .sgt v20 c0_i32_68
  let v160 : BitVec 32 := Scalar.extui v159
  let c0_i32_69 : BitVec 32 := 0#32
  let v161 : BitVec 1 := Scalar.cmpi .slt v20 c0_i32_69
  let v162 : BitVec 32 := Scalar.extui v161
  let v163 : BitVec 32 := Scalar.subi v160 v162
  let c2_i32_67 : BitVec 32 := 2#32
  let c0_i32_70 : BitVec 32 := 0#32
  let v164 : BitVec 1 := Scalar.cmpi .sgt c2_i32_67 c0_i32_70
  let v165 : BitVec 32 := Scalar.extui v164
  let c0_i32_71 : BitVec 32 := 0#32
  let v166 : BitVec 1 := Scalar.cmpi .slt c2_i32_67 c0_i32_71
  let v167 : BitVec 32 := Scalar.extui v166
  let v168 : BitVec 32 := Scalar.subi v165 v167
  let v169 : BitVec 1 := Scalar.cmpi .ne v163 v168
  let v170 : BitVec 32 := Scalar.remsi v20 c2_i32_67
  let c0_i32_72 : BitVec 32 := 0#32
  let v171 : BitVec 1 := Scalar.cmpi .ne v170 c0_i32_72
  let v172 : BitVec 1 := Scalar.andi v169 v171
  let v158 : BitVec 32 := Scalar.divsi v20 c2_i32_67
  let c1_i32_73 : BitVec 32 := 1#32
  let v173 : BitVec 32 := Scalar.subi v158 c1_i32_73
  let v174 : BitVec 32 := Scalar.select v172 v173 v158
  let v175 : BitVec 32 := Scalar.subi v174 c0_i32_74
  let c1_i32_75 : BitVec 32 := 1#32
  let v177 : BitVec 32 := Scalar.divsi v175 c1_i32_75
  let v178 : BitVec 32 := Scalar.muli v177 c1_i32_75
  let v179 : BitVec 32 := Scalar.addi c0_i32_74 v178
  let c1_i32_77 : BitVec 32 := 1#32
  let arg16 : BitVec 32 := Scf.iv v179 c1_i32_77 k0_t21
  let v289 : BitVec 32 := Scalar.muli c2_i32_137 arg16
  let c512_i32_154 : BitVec 32 := 512#32
  let v322 : BitVec 32 := Scalar.muli v289 c512_i32_154
  let v323 : BitVec 32 := v322
  let v324 : Index := Scalar.indexCast v323
  let c256_155 : Index := 256#32
  ![v324.toNat, 256]
def k0_off49 (i : grid0.Coords) (k0_t21 : Fin (k0_t21_loop i).trips) : Fin 4 → Nat :=
  let c2_i32_137 : BitVec 32 := 2#32
  let c0_i32_74 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_68 : BitVec 32 := 0#32
  let v159 : BitVec 1 := Scalar.cmpi .sgt v20 c0_i32_68
  let v160 : BitVec 32 := Scalar.extui v159
  let c0_i32_69 : BitVec 32 := 0#32
  let v161 : BitVec 1 := Scalar.cmpi .slt v20 c0_i32_69
  let v162 : BitVec 32 := Scalar.extui v161
  let v163 : BitVec 32 := Scalar.subi v160 v162
  let c2_i32_67 : BitVec 32 := 2#32
  let c0_i32_70 : BitVec 32 := 0#32
  let v164 : BitVec 1 := Scalar.cmpi .sgt c2_i32_67 c0_i32_70
  let v165 : BitVec 32 := Scalar.extui v164
  let c0_i32_71 : BitVec 32 := 0#32
  let v166 : BitVec 1 := Scalar.cmpi .slt c2_i32_67 c0_i32_71
  let v167 : BitVec 32 := Scalar.extui v166
  let v168 : BitVec 32 := Scalar.subi v165 v167
  let v169 : BitVec 1 := Scalar.cmpi .ne v163 v168
  let v170 : BitVec 32 := Scalar.remsi v20 c2_i32_67
  let c0_i32_72 : BitVec 32 := 0#32
  let v171 : BitVec 1 := Scalar.cmpi .ne v170 c0_i32_72
  let v172 : BitVec 1 := Scalar.andi v169 v171
  let v158 : BitVec 32 := Scalar.divsi v20 c2_i32_67
  let c1_i32_73 : BitVec 32 := 1#32
  let v173 : BitVec 32 := Scalar.subi v158 c1_i32_73
  let v174 : BitVec 32 := Scalar.select v172 v173 v158
  let v175 : BitVec 32 := Scalar.subi v174 c0_i32_74
  let c1_i32_75 : BitVec 32 := 1#32
  let v177 : BitVec 32 := Scalar.divsi v175 c1_i32_75
  let v178 : BitVec 32 := Scalar.muli v177 c1_i32_75
  let v179 : BitVec 32 := Scalar.addi c0_i32_74 v178
  let c1_i32_77 : BitVec 32 := 1#32
  let arg16 : BitVec 32 := Scf.iv v179 c1_i32_77 k0_t21
  let v289 : BitVec 32 := Scalar.muli c2_i32_137 arg16
  let v329 : Index := Scalar.indexCast v289
  let c2_157 : Index := 2#32
  let c0_158 : Index := 0#32
  let c0_159 : Index := 0#32
  ![v329.toNat, 2, 0, 0]
def k0_mult17 (i : grid0.Coords) (k0_t21 : Fin (k0_t21_loop i).trips) : BitVec 32 :=
  let c2_i32_137 : BitVec 32 := 2#32
  let c0_i32_74 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_68 : BitVec 32 := 0#32
  let v159 : BitVec 1 := Scalar.cmpi .sgt v20 c0_i32_68
  let v160 : BitVec 32 := Scalar.extui v159
  let c0_i32_69 : BitVec 32 := 0#32
  let v161 : BitVec 1 := Scalar.cmpi .slt v20 c0_i32_69
  let v162 : BitVec 32 := Scalar.extui v161
  let v163 : BitVec 32 := Scalar.subi v160 v162
  let c2_i32_67 : BitVec 32 := 2#32
  let c0_i32_70 : BitVec 32 := 0#32
  let v164 : BitVec 1 := Scalar.cmpi .sgt c2_i32_67 c0_i32_70
  let v165 : BitVec 32 := Scalar.extui v164
  let c0_i32_71 : BitVec 32 := 0#32
  let v166 : BitVec 1 := Scalar.cmpi .slt c2_i32_67 c0_i32_71
  let v167 : BitVec 32 := Scalar.extui v166
  let v168 : BitVec 32 := Scalar.subi v165 v167
  let v169 : BitVec 1 := Scalar.cmpi .ne v163 v168
  let v170 : BitVec 32 := Scalar.remsi v20 c2_i32_67
  let c0_i32_72 : BitVec 32 := 0#32
  let v171 : BitVec 1 := Scalar.cmpi .ne v170 c0_i32_72
  let v172 : BitVec 1 := Scalar.andi v169 v171
  let v158 : BitVec 32 := Scalar.divsi v20 c2_i32_67
  let c1_i32_73 : BitVec 32 := 1#32
  let v173 : BitVec 32 := Scalar.subi v158 c1_i32_73
  let v174 : BitVec 32 := Scalar.select v172 v173 v158
  let v175 : BitVec 32 := Scalar.subi v174 c0_i32_74
  let c1_i32_75 : BitVec 32 := 1#32
  let v177 : BitVec 32 := Scalar.divsi v175 c1_i32_75
  let v178 : BitVec 32 := Scalar.muli v177 c1_i32_75
  let v179 : BitVec 32 := Scalar.addi c0_i32_74 v178
  let c1_i32_77 : BitVec 32 := 1#32
  let arg16 : BitVec 32 := Scf.iv v179 c1_i32_77 k0_t21
  let v289 : BitVec 32 := Scalar.muli c2_i32_137 arg16
  let c512_i32_161 : BitVec 32 := 512#32
  let v336 : BitVec 32 := Scalar.muli v289 c512_i32_161
  v336
def k0_off50 (i : grid0.Coords) (k0_t21 : Fin (k0_t21_loop i).trips) : Fin 2 → Nat :=
  let c2_i32_137 : BitVec 32 := 2#32
  let c0_i32_74 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_68 : BitVec 32 := 0#32
  let v159 : BitVec 1 := Scalar.cmpi .sgt v20 c0_i32_68
  let v160 : BitVec 32 := Scalar.extui v159
  let c0_i32_69 : BitVec 32 := 0#32
  let v161 : BitVec 1 := Scalar.cmpi .slt v20 c0_i32_69
  let v162 : BitVec 32 := Scalar.extui v161
  let v163 : BitVec 32 := Scalar.subi v160 v162
  let c2_i32_67 : BitVec 32 := 2#32
  let c0_i32_70 : BitVec 32 := 0#32
  let v164 : BitVec 1 := Scalar.cmpi .sgt c2_i32_67 c0_i32_70
  let v165 : BitVec 32 := Scalar.extui v164
  let c0_i32_71 : BitVec 32 := 0#32
  let v166 : BitVec 1 := Scalar.cmpi .slt c2_i32_67 c0_i32_71
  let v167 : BitVec 32 := Scalar.extui v166
  let v168 : BitVec 32 := Scalar.subi v165 v167
  let v169 : BitVec 1 := Scalar.cmpi .ne v163 v168
  let v170 : BitVec 32 := Scalar.remsi v20 c2_i32_67
  let c0_i32_72 : BitVec 32 := 0#32
  let v171 : BitVec 1 := Scalar.cmpi .ne v170 c0_i32_72
  let v172 : BitVec 1 := Scalar.andi v169 v171
  let v158 : BitVec 32 := Scalar.divsi v20 c2_i32_67
  let c1_i32_73 : BitVec 32 := 1#32
  let v173 : BitVec 32 := Scalar.subi v158 c1_i32_73
  let v174 : BitVec 32 := Scalar.select v172 v173 v158
  let v175 : BitVec 32 := Scalar.subi v174 c0_i32_74
  let c1_i32_75 : BitVec 32 := 1#32
  let v177 : BitVec 32 := Scalar.divsi v175 c1_i32_75
  let v178 : BitVec 32 := Scalar.muli v177 c1_i32_75
  let v179 : BitVec 32 := Scalar.addi c0_i32_74 v178
  let c1_i32_77 : BitVec 32 := 1#32
  let arg16 : BitVec 32 := Scf.iv v179 c1_i32_77 k0_t21
  let v289 : BitVec 32 := Scalar.muli c2_i32_137 arg16
  let c512_i32_161 : BitVec 32 := 512#32
  let v336 : BitVec 32 := Scalar.muli v289 c512_i32_161
  let v337 : BitVec 32 := v336
  let v338 : Index := Scalar.indexCast v337
  let c384_162 : Index := 384#32
  ![v338.toNat, 384]
def k0_off51 (i : grid0.Coords) (k0_t21 : Fin (k0_t21_loop i).trips) : Fin 4 → Nat :=
  let c2_i32_137 : BitVec 32 := 2#32
  let c0_i32_74 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_68 : BitVec 32 := 0#32
  let v159 : BitVec 1 := Scalar.cmpi .sgt v20 c0_i32_68
  let v160 : BitVec 32 := Scalar.extui v159
  let c0_i32_69 : BitVec 32 := 0#32
  let v161 : BitVec 1 := Scalar.cmpi .slt v20 c0_i32_69
  let v162 : BitVec 32 := Scalar.extui v161
  let v163 : BitVec 32 := Scalar.subi v160 v162
  let c2_i32_67 : BitVec 32 := 2#32
  let c0_i32_70 : BitVec 32 := 0#32
  let v164 : BitVec 1 := Scalar.cmpi .sgt c2_i32_67 c0_i32_70
  let v165 : BitVec 32 := Scalar.extui v164
  let c0_i32_71 : BitVec 32 := 0#32
  let v166 : BitVec 1 := Scalar.cmpi .slt c2_i32_67 c0_i32_71
  let v167 : BitVec 32 := Scalar.extui v166
  let v168 : BitVec 32 := Scalar.subi v165 v167
  let v169 : BitVec 1 := Scalar.cmpi .ne v163 v168
  let v170 : BitVec 32 := Scalar.remsi v20 c2_i32_67
  let c0_i32_72 : BitVec 32 := 0#32
  let v171 : BitVec 1 := Scalar.cmpi .ne v170 c0_i32_72
  let v172 : BitVec 1 := Scalar.andi v169 v171
  let v158 : BitVec 32 := Scalar.divsi v20 c2_i32_67
  let c1_i32_73 : BitVec 32 := 1#32
  let v173 : BitVec 32 := Scalar.subi v158 c1_i32_73
  let v174 : BitVec 32 := Scalar.select v172 v173 v158
  let v175 : BitVec 32 := Scalar.subi v174 c0_i32_74
  let c1_i32_75 : BitVec 32 := 1#32
  let v177 : BitVec 32 := Scalar.divsi v175 c1_i32_75
  let v178 : BitVec 32 := Scalar.muli v177 c1_i32_75
  let v179 : BitVec 32 := Scalar.addi c0_i32_74 v178
  let c1_i32_77 : BitVec 32 := 1#32
  let arg16 : BitVec 32 := Scf.iv v179 c1_i32_77 k0_t21
  let v289 : BitVec 32 := Scalar.muli c2_i32_137 arg16
  let v343 : Index := Scalar.indexCast v289
  let c3_164 : Index := 3#32
  let c0_165 : Index := 0#32
  let c0_166 : Index := 0#32
  ![v343.toNat, 3, 0, 0]
def k0_off52 (i : grid0.Coords) (k0_t21 : Fin (k0_t21_loop i).trips) : Fin 3 → Nat :=
  let c2_i32_135 : BitVec 32 := 2#32
  let c0_i32_74 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_68 : BitVec 32 := 0#32
  let v159 : BitVec 1 := Scalar.cmpi .sgt v20 c0_i32_68
  let v160 : BitVec 32 := Scalar.extui v159
  let c0_i32_69 : BitVec 32 := 0#32
  let v161 : BitVec 1 := Scalar.cmpi .slt v20 c0_i32_69
  let v162 : BitVec 32 := Scalar.extui v161
  let v163 : BitVec 32 := Scalar.subi v160 v162
  let c2_i32_67 : BitVec 32 := 2#32
  let c0_i32_70 : BitVec 32 := 0#32
  let v164 : BitVec 1 := Scalar.cmpi .sgt c2_i32_67 c0_i32_70
  let v165 : BitVec 32 := Scalar.extui v164
  let c0_i32_71 : BitVec 32 := 0#32
  let v166 : BitVec 1 := Scalar.cmpi .slt c2_i32_67 c0_i32_71
  let v167 : BitVec 32 := Scalar.extui v166
  let v168 : BitVec 32 := Scalar.subi v165 v167
  let v169 : BitVec 1 := Scalar.cmpi .ne v163 v168
  let v170 : BitVec 32 := Scalar.remsi v20 c2_i32_67
  let c0_i32_72 : BitVec 32 := 0#32
  let v171 : BitVec 1 := Scalar.cmpi .ne v170 c0_i32_72
  let v172 : BitVec 1 := Scalar.andi v169 v171
  let v158 : BitVec 32 := Scalar.divsi v20 c2_i32_67
  let c1_i32_73 : BitVec 32 := 1#32
  let v173 : BitVec 32 := Scalar.subi v158 c1_i32_73
  let v174 : BitVec 32 := Scalar.select v172 v173 v158
  let v175 : BitVec 32 := Scalar.subi v174 c0_i32_74
  let c1_i32_75 : BitVec 32 := 1#32
  let v177 : BitVec 32 := Scalar.divsi v175 c1_i32_75
  let v178 : BitVec 32 := Scalar.muli v177 c1_i32_75
  let v179 : BitVec 32 := Scalar.addi c0_i32_74 v178
  let c1_i32_77 : BitVec 32 := 1#32
  let arg16 : BitVec 32 := Scf.iv v179 c1_i32_77 k0_t21
  let v287 : BitVec 32 := Scalar.muli c2_i32_135 arg16
  let c1_i32_136 : BitVec 32 := 1#32
  let v288 : BitVec 32 := Scalar.addi v287 c1_i32_136
  let v350 : Index := Scalar.indexCast v288
  let c0_168 : Index := 0#32
  let c0_169 : Index := 0#32
  ![v350.toNat, 0, 0]
def k0_mult18 (i : grid0.Coords) (k0_t21 : Fin (k0_t21_loop i).trips) : BitVec 32 :=
  let c2_i32_135 : BitVec 32 := 2#32
  let c0_i32_74 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_68 : BitVec 32 := 0#32
  let v159 : BitVec 1 := Scalar.cmpi .sgt v20 c0_i32_68
  let v160 : BitVec 32 := Scalar.extui v159
  let c0_i32_69 : BitVec 32 := 0#32
  let v161 : BitVec 1 := Scalar.cmpi .slt v20 c0_i32_69
  let v162 : BitVec 32 := Scalar.extui v161
  let v163 : BitVec 32 := Scalar.subi v160 v162
  let c2_i32_67 : BitVec 32 := 2#32
  let c0_i32_70 : BitVec 32 := 0#32
  let v164 : BitVec 1 := Scalar.cmpi .sgt c2_i32_67 c0_i32_70
  let v165 : BitVec 32 := Scalar.extui v164
  let c0_i32_71 : BitVec 32 := 0#32
  let v166 : BitVec 1 := Scalar.cmpi .slt c2_i32_67 c0_i32_71
  let v167 : BitVec 32 := Scalar.extui v166
  let v168 : BitVec 32 := Scalar.subi v165 v167
  let v169 : BitVec 1 := Scalar.cmpi .ne v163 v168
  let v170 : BitVec 32 := Scalar.remsi v20 c2_i32_67
  let c0_i32_72 : BitVec 32 := 0#32
  let v171 : BitVec 1 := Scalar.cmpi .ne v170 c0_i32_72
  let v172 : BitVec 1 := Scalar.andi v169 v171
  let v158 : BitVec 32 := Scalar.divsi v20 c2_i32_67
  let c1_i32_73 : BitVec 32 := 1#32
  let v173 : BitVec 32 := Scalar.subi v158 c1_i32_73
  let v174 : BitVec 32 := Scalar.select v172 v173 v158
  let v175 : BitVec 32 := Scalar.subi v174 c0_i32_74
  let c1_i32_75 : BitVec 32 := 1#32
  let v177 : BitVec 32 := Scalar.divsi v175 c1_i32_75
  let v178 : BitVec 32 := Scalar.muli v177 c1_i32_75
  let v179 : BitVec 32 := Scalar.addi c0_i32_74 v178
  let c1_i32_77 : BitVec 32 := 1#32
  let arg16 : BitVec 32 := Scf.iv v179 c1_i32_77 k0_t21
  let v287 : BitVec 32 := Scalar.muli c2_i32_135 arg16
  let c1_i32_136 : BitVec 32 := 1#32
  let v288 : BitVec 32 := Scalar.addi v287 c1_i32_136
  let c512_i32_170 : BitVec 32 := 512#32
  let v354 : BitVec 32 := Scalar.muli v288 c512_i32_170
  v354
def k0_off53 (i : grid0.Coords) (k0_t21 : Fin (k0_t21_loop i).trips) : Fin 2 → Nat :=
  let c2_i32_135 : BitVec 32 := 2#32
  let c0_i32_74 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_68 : BitVec 32 := 0#32
  let v159 : BitVec 1 := Scalar.cmpi .sgt v20 c0_i32_68
  let v160 : BitVec 32 := Scalar.extui v159
  let c0_i32_69 : BitVec 32 := 0#32
  let v161 : BitVec 1 := Scalar.cmpi .slt v20 c0_i32_69
  let v162 : BitVec 32 := Scalar.extui v161
  let v163 : BitVec 32 := Scalar.subi v160 v162
  let c2_i32_67 : BitVec 32 := 2#32
  let c0_i32_70 : BitVec 32 := 0#32
  let v164 : BitVec 1 := Scalar.cmpi .sgt c2_i32_67 c0_i32_70
  let v165 : BitVec 32 := Scalar.extui v164
  let c0_i32_71 : BitVec 32 := 0#32
  let v166 : BitVec 1 := Scalar.cmpi .slt c2_i32_67 c0_i32_71
  let v167 : BitVec 32 := Scalar.extui v166
  let v168 : BitVec 32 := Scalar.subi v165 v167
  let v169 : BitVec 1 := Scalar.cmpi .ne v163 v168
  let v170 : BitVec 32 := Scalar.remsi v20 c2_i32_67
  let c0_i32_72 : BitVec 32 := 0#32
  let v171 : BitVec 1 := Scalar.cmpi .ne v170 c0_i32_72
  let v172 : BitVec 1 := Scalar.andi v169 v171
  let v158 : BitVec 32 := Scalar.divsi v20 c2_i32_67
  let c1_i32_73 : BitVec 32 := 1#32
  let v173 : BitVec 32 := Scalar.subi v158 c1_i32_73
  let v174 : BitVec 32 := Scalar.select v172 v173 v158
  let v175 : BitVec 32 := Scalar.subi v174 c0_i32_74
  let c1_i32_75 : BitVec 32 := 1#32
  let v177 : BitVec 32 := Scalar.divsi v175 c1_i32_75
  let v178 : BitVec 32 := Scalar.muli v177 c1_i32_75
  let v179 : BitVec 32 := Scalar.addi c0_i32_74 v178
  let c1_i32_77 : BitVec 32 := 1#32
  let arg16 : BitVec 32 := Scf.iv v179 c1_i32_77 k0_t21
  let v287 : BitVec 32 := Scalar.muli c2_i32_135 arg16
  let c1_i32_136 : BitVec 32 := 1#32
  let v288 : BitVec 32 := Scalar.addi v287 c1_i32_136
  let c512_i32_170 : BitVec 32 := 512#32
  let v354 : BitVec 32 := Scalar.muli v288 c512_i32_170
  let v355 : BitVec 32 := v354
  let v356 : Index := Scalar.indexCast v355
  let c0_171 : Index := 0#32
  ![v356.toNat, 0]
def k0_off54 (i : grid0.Coords) (k0_t21 : Fin (k0_t21_loop i).trips) : Fin 4 → Nat :=
  let c2_i32_135 : BitVec 32 := 2#32
  let c0_i32_74 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_68 : BitVec 32 := 0#32
  let v159 : BitVec 1 := Scalar.cmpi .sgt v20 c0_i32_68
  let v160 : BitVec 32 := Scalar.extui v159
  let c0_i32_69 : BitVec 32 := 0#32
  let v161 : BitVec 1 := Scalar.cmpi .slt v20 c0_i32_69
  let v162 : BitVec 32 := Scalar.extui v161
  let v163 : BitVec 32 := Scalar.subi v160 v162
  let c2_i32_67 : BitVec 32 := 2#32
  let c0_i32_70 : BitVec 32 := 0#32
  let v164 : BitVec 1 := Scalar.cmpi .sgt c2_i32_67 c0_i32_70
  let v165 : BitVec 32 := Scalar.extui v164
  let c0_i32_71 : BitVec 32 := 0#32
  let v166 : BitVec 1 := Scalar.cmpi .slt c2_i32_67 c0_i32_71
  let v167 : BitVec 32 := Scalar.extui v166
  let v168 : BitVec 32 := Scalar.subi v165 v167
  let v169 : BitVec 1 := Scalar.cmpi .ne v163 v168
  let v170 : BitVec 32 := Scalar.remsi v20 c2_i32_67
  let c0_i32_72 : BitVec 32 := 0#32
  let v171 : BitVec 1 := Scalar.cmpi .ne v170 c0_i32_72
  let v172 : BitVec 1 := Scalar.andi v169 v171
  let v158 : BitVec 32 := Scalar.divsi v20 c2_i32_67
  let c1_i32_73 : BitVec 32 := 1#32
  let v173 : BitVec 32 := Scalar.subi v158 c1_i32_73
  let v174 : BitVec 32 := Scalar.select v172 v173 v158
  let v175 : BitVec 32 := Scalar.subi v174 c0_i32_74
  let c1_i32_75 : BitVec 32 := 1#32
  let v177 : BitVec 32 := Scalar.divsi v175 c1_i32_75
  let v178 : BitVec 32 := Scalar.muli v177 c1_i32_75
  let v179 : BitVec 32 := Scalar.addi c0_i32_74 v178
  let c1_i32_77 : BitVec 32 := 1#32
  let arg16 : BitVec 32 := Scf.iv v179 c1_i32_77 k0_t21
  let v287 : BitVec 32 := Scalar.muli c2_i32_135 arg16
  let c1_i32_136 : BitVec 32 := 1#32
  let v288 : BitVec 32 := Scalar.addi v287 c1_i32_136
  let v361 : Index := Scalar.indexCast v288
  let c0_173 : Index := 0#32
  let c0_174 : Index := 0#32
  let c0_175 : Index := 0#32
  ![v361.toNat, 0, 0, 0]
def k0_mult19 (i : grid0.Coords) (k0_t21 : Fin (k0_t21_loop i).trips) : BitVec 32 :=
  let c2_i32_135 : BitVec 32 := 2#32
  let c0_i32_74 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_68 : BitVec 32 := 0#32
  let v159 : BitVec 1 := Scalar.cmpi .sgt v20 c0_i32_68
  let v160 : BitVec 32 := Scalar.extui v159
  let c0_i32_69 : BitVec 32 := 0#32
  let v161 : BitVec 1 := Scalar.cmpi .slt v20 c0_i32_69
  let v162 : BitVec 32 := Scalar.extui v161
  let v163 : BitVec 32 := Scalar.subi v160 v162
  let c2_i32_67 : BitVec 32 := 2#32
  let c0_i32_70 : BitVec 32 := 0#32
  let v164 : BitVec 1 := Scalar.cmpi .sgt c2_i32_67 c0_i32_70
  let v165 : BitVec 32 := Scalar.extui v164
  let c0_i32_71 : BitVec 32 := 0#32
  let v166 : BitVec 1 := Scalar.cmpi .slt c2_i32_67 c0_i32_71
  let v167 : BitVec 32 := Scalar.extui v166
  let v168 : BitVec 32 := Scalar.subi v165 v167
  let v169 : BitVec 1 := Scalar.cmpi .ne v163 v168
  let v170 : BitVec 32 := Scalar.remsi v20 c2_i32_67
  let c0_i32_72 : BitVec 32 := 0#32
  let v171 : BitVec 1 := Scalar.cmpi .ne v170 c0_i32_72
  let v172 : BitVec 1 := Scalar.andi v169 v171
  let v158 : BitVec 32 := Scalar.divsi v20 c2_i32_67
  let c1_i32_73 : BitVec 32 := 1#32
  let v173 : BitVec 32 := Scalar.subi v158 c1_i32_73
  let v174 : BitVec 32 := Scalar.select v172 v173 v158
  let v175 : BitVec 32 := Scalar.subi v174 c0_i32_74
  let c1_i32_75 : BitVec 32 := 1#32
  let v177 : BitVec 32 := Scalar.divsi v175 c1_i32_75
  let v178 : BitVec 32 := Scalar.muli v177 c1_i32_75
  let v179 : BitVec 32 := Scalar.addi c0_i32_74 v178
  let c1_i32_77 : BitVec 32 := 1#32
  let arg16 : BitVec 32 := Scf.iv v179 c1_i32_77 k0_t21
  let v287 : BitVec 32 := Scalar.muli c2_i32_135 arg16
  let c1_i32_136 : BitVec 32 := 1#32
  let v288 : BitVec 32 := Scalar.addi v287 c1_i32_136
  let c512_i32_177 : BitVec 32 := 512#32
  let v368 : BitVec 32 := Scalar.muli v288 c512_i32_177
  v368
def k0_off55 (i : grid0.Coords) (k0_t21 : Fin (k0_t21_loop i).trips) : Fin 2 → Nat :=
  let c2_i32_135 : BitVec 32 := 2#32
  let c0_i32_74 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_68 : BitVec 32 := 0#32
  let v159 : BitVec 1 := Scalar.cmpi .sgt v20 c0_i32_68
  let v160 : BitVec 32 := Scalar.extui v159
  let c0_i32_69 : BitVec 32 := 0#32
  let v161 : BitVec 1 := Scalar.cmpi .slt v20 c0_i32_69
  let v162 : BitVec 32 := Scalar.extui v161
  let v163 : BitVec 32 := Scalar.subi v160 v162
  let c2_i32_67 : BitVec 32 := 2#32
  let c0_i32_70 : BitVec 32 := 0#32
  let v164 : BitVec 1 := Scalar.cmpi .sgt c2_i32_67 c0_i32_70
  let v165 : BitVec 32 := Scalar.extui v164
  let c0_i32_71 : BitVec 32 := 0#32
  let v166 : BitVec 1 := Scalar.cmpi .slt c2_i32_67 c0_i32_71
  let v167 : BitVec 32 := Scalar.extui v166
  let v168 : BitVec 32 := Scalar.subi v165 v167
  let v169 : BitVec 1 := Scalar.cmpi .ne v163 v168
  let v170 : BitVec 32 := Scalar.remsi v20 c2_i32_67
  let c0_i32_72 : BitVec 32 := 0#32
  let v171 : BitVec 1 := Scalar.cmpi .ne v170 c0_i32_72
  let v172 : BitVec 1 := Scalar.andi v169 v171
  let v158 : BitVec 32 := Scalar.divsi v20 c2_i32_67
  let c1_i32_73 : BitVec 32 := 1#32
  let v173 : BitVec 32 := Scalar.subi v158 c1_i32_73
  let v174 : BitVec 32 := Scalar.select v172 v173 v158
  let v175 : BitVec 32 := Scalar.subi v174 c0_i32_74
  let c1_i32_75 : BitVec 32 := 1#32
  let v177 : BitVec 32 := Scalar.divsi v175 c1_i32_75
  let v178 : BitVec 32 := Scalar.muli v177 c1_i32_75
  let v179 : BitVec 32 := Scalar.addi c0_i32_74 v178
  let c1_i32_77 : BitVec 32 := 1#32
  let arg16 : BitVec 32 := Scf.iv v179 c1_i32_77 k0_t21
  let v287 : BitVec 32 := Scalar.muli c2_i32_135 arg16
  let c1_i32_136 : BitVec 32 := 1#32
  let v288 : BitVec 32 := Scalar.addi v287 c1_i32_136
  let c512_i32_177 : BitVec 32 := 512#32
  let v368 : BitVec 32 := Scalar.muli v288 c512_i32_177
  let v369 : BitVec 32 := v368
  let v370 : Index := Scalar.indexCast v369
  let c128_178 : Index := 128#32
  ![v370.toNat, 128]
def k0_off56 (i : grid0.Coords) (k0_t21 : Fin (k0_t21_loop i).trips) : Fin 4 → Nat :=
  let c2_i32_135 : BitVec 32 := 2#32
  let c0_i32_74 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_68 : BitVec 32 := 0#32
  let v159 : BitVec 1 := Scalar.cmpi .sgt v20 c0_i32_68
  let v160 : BitVec 32 := Scalar.extui v159
  let c0_i32_69 : BitVec 32 := 0#32
  let v161 : BitVec 1 := Scalar.cmpi .slt v20 c0_i32_69
  let v162 : BitVec 32 := Scalar.extui v161
  let v163 : BitVec 32 := Scalar.subi v160 v162
  let c2_i32_67 : BitVec 32 := 2#32
  let c0_i32_70 : BitVec 32 := 0#32
  let v164 : BitVec 1 := Scalar.cmpi .sgt c2_i32_67 c0_i32_70
  let v165 : BitVec 32 := Scalar.extui v164
  let c0_i32_71 : BitVec 32 := 0#32
  let v166 : BitVec 1 := Scalar.cmpi .slt c2_i32_67 c0_i32_71
  let v167 : BitVec 32 := Scalar.extui v166
  let v168 : BitVec 32 := Scalar.subi v165 v167
  let v169 : BitVec 1 := Scalar.cmpi .ne v163 v168
  let v170 : BitVec 32 := Scalar.remsi v20 c2_i32_67
  let c0_i32_72 : BitVec 32 := 0#32
  let v171 : BitVec 1 := Scalar.cmpi .ne v170 c0_i32_72
  let v172 : BitVec 1 := Scalar.andi v169 v171
  let v158 : BitVec 32 := Scalar.divsi v20 c2_i32_67
  let c1_i32_73 : BitVec 32 := 1#32
  let v173 : BitVec 32 := Scalar.subi v158 c1_i32_73
  let v174 : BitVec 32 := Scalar.select v172 v173 v158
  let v175 : BitVec 32 := Scalar.subi v174 c0_i32_74
  let c1_i32_75 : BitVec 32 := 1#32
  let v177 : BitVec 32 := Scalar.divsi v175 c1_i32_75
  let v178 : BitVec 32 := Scalar.muli v177 c1_i32_75
  let v179 : BitVec 32 := Scalar.addi c0_i32_74 v178
  let c1_i32_77 : BitVec 32 := 1#32
  let arg16 : BitVec 32 := Scf.iv v179 c1_i32_77 k0_t21
  let v287 : BitVec 32 := Scalar.muli c2_i32_135 arg16
  let c1_i32_136 : BitVec 32 := 1#32
  let v288 : BitVec 32 := Scalar.addi v287 c1_i32_136
  let v375 : Index := Scalar.indexCast v288
  let c1_180 : Index := 1#32
  let c0_181 : Index := 0#32
  let c0_182 : Index := 0#32
  ![v375.toNat, 1, 0, 0]
def k0_mult20 (i : grid0.Coords) (k0_t21 : Fin (k0_t21_loop i).trips) : BitVec 32 :=
  let c2_i32_135 : BitVec 32 := 2#32
  let c0_i32_74 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_68 : BitVec 32 := 0#32
  let v159 : BitVec 1 := Scalar.cmpi .sgt v20 c0_i32_68
  let v160 : BitVec 32 := Scalar.extui v159
  let c0_i32_69 : BitVec 32 := 0#32
  let v161 : BitVec 1 := Scalar.cmpi .slt v20 c0_i32_69
  let v162 : BitVec 32 := Scalar.extui v161
  let v163 : BitVec 32 := Scalar.subi v160 v162
  let c2_i32_67 : BitVec 32 := 2#32
  let c0_i32_70 : BitVec 32 := 0#32
  let v164 : BitVec 1 := Scalar.cmpi .sgt c2_i32_67 c0_i32_70
  let v165 : BitVec 32 := Scalar.extui v164
  let c0_i32_71 : BitVec 32 := 0#32
  let v166 : BitVec 1 := Scalar.cmpi .slt c2_i32_67 c0_i32_71
  let v167 : BitVec 32 := Scalar.extui v166
  let v168 : BitVec 32 := Scalar.subi v165 v167
  let v169 : BitVec 1 := Scalar.cmpi .ne v163 v168
  let v170 : BitVec 32 := Scalar.remsi v20 c2_i32_67
  let c0_i32_72 : BitVec 32 := 0#32
  let v171 : BitVec 1 := Scalar.cmpi .ne v170 c0_i32_72
  let v172 : BitVec 1 := Scalar.andi v169 v171
  let v158 : BitVec 32 := Scalar.divsi v20 c2_i32_67
  let c1_i32_73 : BitVec 32 := 1#32
  let v173 : BitVec 32 := Scalar.subi v158 c1_i32_73
  let v174 : BitVec 32 := Scalar.select v172 v173 v158
  let v175 : BitVec 32 := Scalar.subi v174 c0_i32_74
  let c1_i32_75 : BitVec 32 := 1#32
  let v177 : BitVec 32 := Scalar.divsi v175 c1_i32_75
  let v178 : BitVec 32 := Scalar.muli v177 c1_i32_75
  let v179 : BitVec 32 := Scalar.addi c0_i32_74 v178
  let c1_i32_77 : BitVec 32 := 1#32
  let arg16 : BitVec 32 := Scf.iv v179 c1_i32_77 k0_t21
  let v287 : BitVec 32 := Scalar.muli c2_i32_135 arg16
  let c1_i32_136 : BitVec 32 := 1#32
  let v288 : BitVec 32 := Scalar.addi v287 c1_i32_136
  let c512_i32_184 : BitVec 32 := 512#32
  let v382 : BitVec 32 := Scalar.muli v288 c512_i32_184
  v382
def k0_off57 (i : grid0.Coords) (k0_t21 : Fin (k0_t21_loop i).trips) : Fin 2 → Nat :=
  let c2_i32_135 : BitVec 32 := 2#32
  let c0_i32_74 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_68 : BitVec 32 := 0#32
  let v159 : BitVec 1 := Scalar.cmpi .sgt v20 c0_i32_68
  let v160 : BitVec 32 := Scalar.extui v159
  let c0_i32_69 : BitVec 32 := 0#32
  let v161 : BitVec 1 := Scalar.cmpi .slt v20 c0_i32_69
  let v162 : BitVec 32 := Scalar.extui v161
  let v163 : BitVec 32 := Scalar.subi v160 v162
  let c2_i32_67 : BitVec 32 := 2#32
  let c0_i32_70 : BitVec 32 := 0#32
  let v164 : BitVec 1 := Scalar.cmpi .sgt c2_i32_67 c0_i32_70
  let v165 : BitVec 32 := Scalar.extui v164
  let c0_i32_71 : BitVec 32 := 0#32
  let v166 : BitVec 1 := Scalar.cmpi .slt c2_i32_67 c0_i32_71
  let v167 : BitVec 32 := Scalar.extui v166
  let v168 : BitVec 32 := Scalar.subi v165 v167
  let v169 : BitVec 1 := Scalar.cmpi .ne v163 v168
  let v170 : BitVec 32 := Scalar.remsi v20 c2_i32_67
  let c0_i32_72 : BitVec 32 := 0#32
  let v171 : BitVec 1 := Scalar.cmpi .ne v170 c0_i32_72
  let v172 : BitVec 1 := Scalar.andi v169 v171
  let v158 : BitVec 32 := Scalar.divsi v20 c2_i32_67
  let c1_i32_73 : BitVec 32 := 1#32
  let v173 : BitVec 32 := Scalar.subi v158 c1_i32_73
  let v174 : BitVec 32 := Scalar.select v172 v173 v158
  let v175 : BitVec 32 := Scalar.subi v174 c0_i32_74
  let c1_i32_75 : BitVec 32 := 1#32
  let v177 : BitVec 32 := Scalar.divsi v175 c1_i32_75
  let v178 : BitVec 32 := Scalar.muli v177 c1_i32_75
  let v179 : BitVec 32 := Scalar.addi c0_i32_74 v178
  let c1_i32_77 : BitVec 32 := 1#32
  let arg16 : BitVec 32 := Scf.iv v179 c1_i32_77 k0_t21
  let v287 : BitVec 32 := Scalar.muli c2_i32_135 arg16
  let c1_i32_136 : BitVec 32 := 1#32
  let v288 : BitVec 32 := Scalar.addi v287 c1_i32_136
  let c512_i32_184 : BitVec 32 := 512#32
  let v382 : BitVec 32 := Scalar.muli v288 c512_i32_184
  let v383 : BitVec 32 := v382
  let v384 : Index := Scalar.indexCast v383
  let c256_185 : Index := 256#32
  ![v384.toNat, 256]
def k0_off58 (i : grid0.Coords) (k0_t21 : Fin (k0_t21_loop i).trips) : Fin 4 → Nat :=
  let c2_i32_135 : BitVec 32 := 2#32
  let c0_i32_74 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_68 : BitVec 32 := 0#32
  let v159 : BitVec 1 := Scalar.cmpi .sgt v20 c0_i32_68
  let v160 : BitVec 32 := Scalar.extui v159
  let c0_i32_69 : BitVec 32 := 0#32
  let v161 : BitVec 1 := Scalar.cmpi .slt v20 c0_i32_69
  let v162 : BitVec 32 := Scalar.extui v161
  let v163 : BitVec 32 := Scalar.subi v160 v162
  let c2_i32_67 : BitVec 32 := 2#32
  let c0_i32_70 : BitVec 32 := 0#32
  let v164 : BitVec 1 := Scalar.cmpi .sgt c2_i32_67 c0_i32_70
  let v165 : BitVec 32 := Scalar.extui v164
  let c0_i32_71 : BitVec 32 := 0#32
  let v166 : BitVec 1 := Scalar.cmpi .slt c2_i32_67 c0_i32_71
  let v167 : BitVec 32 := Scalar.extui v166
  let v168 : BitVec 32 := Scalar.subi v165 v167
  let v169 : BitVec 1 := Scalar.cmpi .ne v163 v168
  let v170 : BitVec 32 := Scalar.remsi v20 c2_i32_67
  let c0_i32_72 : BitVec 32 := 0#32
  let v171 : BitVec 1 := Scalar.cmpi .ne v170 c0_i32_72
  let v172 : BitVec 1 := Scalar.andi v169 v171
  let v158 : BitVec 32 := Scalar.divsi v20 c2_i32_67
  let c1_i32_73 : BitVec 32 := 1#32
  let v173 : BitVec 32 := Scalar.subi v158 c1_i32_73
  let v174 : BitVec 32 := Scalar.select v172 v173 v158
  let v175 : BitVec 32 := Scalar.subi v174 c0_i32_74
  let c1_i32_75 : BitVec 32 := 1#32
  let v177 : BitVec 32 := Scalar.divsi v175 c1_i32_75
  let v178 : BitVec 32 := Scalar.muli v177 c1_i32_75
  let v179 : BitVec 32 := Scalar.addi c0_i32_74 v178
  let c1_i32_77 : BitVec 32 := 1#32
  let arg16 : BitVec 32 := Scf.iv v179 c1_i32_77 k0_t21
  let v287 : BitVec 32 := Scalar.muli c2_i32_135 arg16
  let c1_i32_136 : BitVec 32 := 1#32
  let v288 : BitVec 32 := Scalar.addi v287 c1_i32_136
  let v389 : Index := Scalar.indexCast v288
  let c2_187 : Index := 2#32
  let c0_188 : Index := 0#32
  let c0_189 : Index := 0#32
  ![v389.toNat, 2, 0, 0]
def k0_mult21 (i : grid0.Coords) (k0_t21 : Fin (k0_t21_loop i).trips) : BitVec 32 :=
  let c2_i32_135 : BitVec 32 := 2#32
  let c0_i32_74 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_68 : BitVec 32 := 0#32
  let v159 : BitVec 1 := Scalar.cmpi .sgt v20 c0_i32_68
  let v160 : BitVec 32 := Scalar.extui v159
  let c0_i32_69 : BitVec 32 := 0#32
  let v161 : BitVec 1 := Scalar.cmpi .slt v20 c0_i32_69
  let v162 : BitVec 32 := Scalar.extui v161
  let v163 : BitVec 32 := Scalar.subi v160 v162
  let c2_i32_67 : BitVec 32 := 2#32
  let c0_i32_70 : BitVec 32 := 0#32
  let v164 : BitVec 1 := Scalar.cmpi .sgt c2_i32_67 c0_i32_70
  let v165 : BitVec 32 := Scalar.extui v164
  let c0_i32_71 : BitVec 32 := 0#32
  let v166 : BitVec 1 := Scalar.cmpi .slt c2_i32_67 c0_i32_71
  let v167 : BitVec 32 := Scalar.extui v166
  let v168 : BitVec 32 := Scalar.subi v165 v167
  let v169 : BitVec 1 := Scalar.cmpi .ne v163 v168
  let v170 : BitVec 32 := Scalar.remsi v20 c2_i32_67
  let c0_i32_72 : BitVec 32 := 0#32
  let v171 : BitVec 1 := Scalar.cmpi .ne v170 c0_i32_72
  let v172 : BitVec 1 := Scalar.andi v169 v171
  let v158 : BitVec 32 := Scalar.divsi v20 c2_i32_67
  let c1_i32_73 : BitVec 32 := 1#32
  let v173 : BitVec 32 := Scalar.subi v158 c1_i32_73
  let v174 : BitVec 32 := Scalar.select v172 v173 v158
  let v175 : BitVec 32 := Scalar.subi v174 c0_i32_74
  let c1_i32_75 : BitVec 32 := 1#32
  let v177 : BitVec 32 := Scalar.divsi v175 c1_i32_75
  let v178 : BitVec 32 := Scalar.muli v177 c1_i32_75
  let v179 : BitVec 32 := Scalar.addi c0_i32_74 v178
  let c1_i32_77 : BitVec 32 := 1#32
  let arg16 : BitVec 32 := Scf.iv v179 c1_i32_77 k0_t21
  let v287 : BitVec 32 := Scalar.muli c2_i32_135 arg16
  let c1_i32_136 : BitVec 32 := 1#32
  let v288 : BitVec 32 := Scalar.addi v287 c1_i32_136
  let c512_i32_191 : BitVec 32 := 512#32
  let v396 : BitVec 32 := Scalar.muli v288 c512_i32_191
  v396
def k0_off59 (i : grid0.Coords) (k0_t21 : Fin (k0_t21_loop i).trips) : Fin 2 → Nat :=
  let c2_i32_135 : BitVec 32 := 2#32
  let c0_i32_74 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_68 : BitVec 32 := 0#32
  let v159 : BitVec 1 := Scalar.cmpi .sgt v20 c0_i32_68
  let v160 : BitVec 32 := Scalar.extui v159
  let c0_i32_69 : BitVec 32 := 0#32
  let v161 : BitVec 1 := Scalar.cmpi .slt v20 c0_i32_69
  let v162 : BitVec 32 := Scalar.extui v161
  let v163 : BitVec 32 := Scalar.subi v160 v162
  let c2_i32_67 : BitVec 32 := 2#32
  let c0_i32_70 : BitVec 32 := 0#32
  let v164 : BitVec 1 := Scalar.cmpi .sgt c2_i32_67 c0_i32_70
  let v165 : BitVec 32 := Scalar.extui v164
  let c0_i32_71 : BitVec 32 := 0#32
  let v166 : BitVec 1 := Scalar.cmpi .slt c2_i32_67 c0_i32_71
  let v167 : BitVec 32 := Scalar.extui v166
  let v168 : BitVec 32 := Scalar.subi v165 v167
  let v169 : BitVec 1 := Scalar.cmpi .ne v163 v168
  let v170 : BitVec 32 := Scalar.remsi v20 c2_i32_67
  let c0_i32_72 : BitVec 32 := 0#32
  let v171 : BitVec 1 := Scalar.cmpi .ne v170 c0_i32_72
  let v172 : BitVec 1 := Scalar.andi v169 v171
  let v158 : BitVec 32 := Scalar.divsi v20 c2_i32_67
  let c1_i32_73 : BitVec 32 := 1#32
  let v173 : BitVec 32 := Scalar.subi v158 c1_i32_73
  let v174 : BitVec 32 := Scalar.select v172 v173 v158
  let v175 : BitVec 32 := Scalar.subi v174 c0_i32_74
  let c1_i32_75 : BitVec 32 := 1#32
  let v177 : BitVec 32 := Scalar.divsi v175 c1_i32_75
  let v178 : BitVec 32 := Scalar.muli v177 c1_i32_75
  let v179 : BitVec 32 := Scalar.addi c0_i32_74 v178
  let c1_i32_77 : BitVec 32 := 1#32
  let arg16 : BitVec 32 := Scf.iv v179 c1_i32_77 k0_t21
  let v287 : BitVec 32 := Scalar.muli c2_i32_135 arg16
  let c1_i32_136 : BitVec 32 := 1#32
  let v288 : BitVec 32 := Scalar.addi v287 c1_i32_136
  let c512_i32_191 : BitVec 32 := 512#32
  let v396 : BitVec 32 := Scalar.muli v288 c512_i32_191
  let v397 : BitVec 32 := v396
  let v398 : Index := Scalar.indexCast v397
  let c384_192 : Index := 384#32
  ![v398.toNat, 384]
def k0_off60 (i : grid0.Coords) (k0_t21 : Fin (k0_t21_loop i).trips) : Fin 4 → Nat :=
  let c2_i32_135 : BitVec 32 := 2#32
  let c0_i32_74 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_68 : BitVec 32 := 0#32
  let v159 : BitVec 1 := Scalar.cmpi .sgt v20 c0_i32_68
  let v160 : BitVec 32 := Scalar.extui v159
  let c0_i32_69 : BitVec 32 := 0#32
  let v161 : BitVec 1 := Scalar.cmpi .slt v20 c0_i32_69
  let v162 : BitVec 32 := Scalar.extui v161
  let v163 : BitVec 32 := Scalar.subi v160 v162
  let c2_i32_67 : BitVec 32 := 2#32
  let c0_i32_70 : BitVec 32 := 0#32
  let v164 : BitVec 1 := Scalar.cmpi .sgt c2_i32_67 c0_i32_70
  let v165 : BitVec 32 := Scalar.extui v164
  let c0_i32_71 : BitVec 32 := 0#32
  let v166 : BitVec 1 := Scalar.cmpi .slt c2_i32_67 c0_i32_71
  let v167 : BitVec 32 := Scalar.extui v166
  let v168 : BitVec 32 := Scalar.subi v165 v167
  let v169 : BitVec 1 := Scalar.cmpi .ne v163 v168
  let v170 : BitVec 32 := Scalar.remsi v20 c2_i32_67
  let c0_i32_72 : BitVec 32 := 0#32
  let v171 : BitVec 1 := Scalar.cmpi .ne v170 c0_i32_72
  let v172 : BitVec 1 := Scalar.andi v169 v171
  let v158 : BitVec 32 := Scalar.divsi v20 c2_i32_67
  let c1_i32_73 : BitVec 32 := 1#32
  let v173 : BitVec 32 := Scalar.subi v158 c1_i32_73
  let v174 : BitVec 32 := Scalar.select v172 v173 v158
  let v175 : BitVec 32 := Scalar.subi v174 c0_i32_74
  let c1_i32_75 : BitVec 32 := 1#32
  let v177 : BitVec 32 := Scalar.divsi v175 c1_i32_75
  let v178 : BitVec 32 := Scalar.muli v177 c1_i32_75
  let v179 : BitVec 32 := Scalar.addi c0_i32_74 v178
  let c1_i32_77 : BitVec 32 := 1#32
  let arg16 : BitVec 32 := Scf.iv v179 c1_i32_77 k0_t21
  let v287 : BitVec 32 := Scalar.muli c2_i32_135 arg16
  let c1_i32_136 : BitVec 32 := 1#32
  let v288 : BitVec 32 := Scalar.addi v287 c1_i32_136
  let v403 : Index := Scalar.indexCast v288
  let c3_194 : Index := 3#32
  let c0_195 : Index := 0#32
  let c0_196 : Index := 0#32
  ![v403.toNat, 3, 0, 0]
def k0_cond5 (i : grid0.Coords) : BitVec 1 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c2_i32_78 : BitVec 32 := 2#32
  let c0_i32_79 : BitVec 32 := 0#32
  let v182 : BitVec 1 := Scalar.cmpi .eq c2_i32_78 c0_i32_79
  let c1_i32_80 : BitVec 32 := 1#32
  let v183 : BitVec 32 := Scalar.select v182 c1_i32_80 c2_i32_78
  let v184 : BitVec 32 := Scalar.remsi v20 v183
  let c0_i32_82 : BitVec 32 := 0#32
  let v186 : BitVec 1 := Scalar.cmpi .slt v184 c0_i32_82
  let c0_i32_83 : BitVec 32 := 0#32
  let v187 : BitVec 1 := Scalar.cmpi .slt v183 c0_i32_83
  let v188 : BitVec 1 := Scalar.xori v186 v187
  let c0_i32_81 : BitVec 32 := 0#32
  let v185 : BitVec 1 := Scalar.cmpi .ne v184 c0_i32_81
  let v189 : BitVec 1 := Scalar.andi v188 v185
  let v190 : BitVec 32 := Scalar.addi v184 v183
  let v191 : BitVec 32 := Scalar.select v189 v190 v184
  let c1_i32_84 : BitVec 32 := 1#32
  let v192 : BitVec 1 := Scalar.cmpi .eq v191 c1_i32_84
  let v193 : BitVec 32 := Scalar.extui v192
  let c0_i32_85 : BitVec 32 := 0#32
  let v194 : BitVec 1 := Scalar.cmpi .ne v193 c0_i32_85
  v194

def k0_off61 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_135 : BitVec 32 := 1#32
  let v287 : BitVec 32 := Scalar.subi v20 c1_i32_135
  let v288 : Index := Scalar.indexCast v287
  let c0_136 : Index := 0#32
  let c0_137 : Index := 0#32
  ![v288.toNat, 0, 0]
def k0_mult22 (i : grid0.Coords) : BitVec 32 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_135 : BitVec 32 := 1#32
  let v287 : BitVec 32 := Scalar.subi v20 c1_i32_135
  let c512_i32_138 : BitVec 32 := 512#32
  let v292 : BitVec 32 := Scalar.muli v287 c512_i32_138
  v292
def k0_off62 (i : grid0.Coords) : Fin 2 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_135 : BitVec 32 := 1#32
  let v287 : BitVec 32 := Scalar.subi v20 c1_i32_135
  let c512_i32_138 : BitVec 32 := 512#32
  let v292 : BitVec 32 := Scalar.muli v287 c512_i32_138
  let v293 : BitVec 32 := v292
  let v294 : Index := Scalar.indexCast v293
  let c0_139 : Index := 0#32
  ![v294.toNat, 0]
def k0_off63 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_135 : BitVec 32 := 1#32
  let v287 : BitVec 32 := Scalar.subi v20 c1_i32_135
  let v299 : Index := Scalar.indexCast v287
  let c0_141 : Index := 0#32
  let c0_142 : Index := 0#32
  let c0_143 : Index := 0#32
  ![v299.toNat, 0, 0, 0]
def k0_mult23 (i : grid0.Coords) : BitVec 32 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_135 : BitVec 32 := 1#32
  let v287 : BitVec 32 := Scalar.subi v20 c1_i32_135
  let c512_i32_145 : BitVec 32 := 512#32
  let v306 : BitVec 32 := Scalar.muli v287 c512_i32_145
  v306
def k0_off64 (i : grid0.Coords) : Fin 2 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_135 : BitVec 32 := 1#32
  let v287 : BitVec 32 := Scalar.subi v20 c1_i32_135
  let c512_i32_145 : BitVec 32 := 512#32
  let v306 : BitVec 32 := Scalar.muli v287 c512_i32_145
  let v307 : BitVec 32 := v306
  let v308 : Index := Scalar.indexCast v307
  let c128_146 : Index := 128#32
  ![v308.toNat, 128]
def k0_off65 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_135 : BitVec 32 := 1#32
  let v287 : BitVec 32 := Scalar.subi v20 c1_i32_135
  let v313 : Index := Scalar.indexCast v287
  let c1_148 : Index := 1#32
  let c0_149 : Index := 0#32
  let c0_150 : Index := 0#32
  ![v313.toNat, 1, 0, 0]
def k0_mult24 (i : grid0.Coords) : BitVec 32 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_135 : BitVec 32 := 1#32
  let v287 : BitVec 32 := Scalar.subi v20 c1_i32_135
  let c512_i32_152 : BitVec 32 := 512#32
  let v320 : BitVec 32 := Scalar.muli v287 c512_i32_152
  v320
def k0_off66 (i : grid0.Coords) : Fin 2 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_135 : BitVec 32 := 1#32
  let v287 : BitVec 32 := Scalar.subi v20 c1_i32_135
  let c512_i32_152 : BitVec 32 := 512#32
  let v320 : BitVec 32 := Scalar.muli v287 c512_i32_152
  let v321 : BitVec 32 := v320
  let v322 : Index := Scalar.indexCast v321
  let c256_153 : Index := 256#32
  ![v322.toNat, 256]
def k0_off67 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_135 : BitVec 32 := 1#32
  let v287 : BitVec 32 := Scalar.subi v20 c1_i32_135
  let v327 : Index := Scalar.indexCast v287
  let c2_155 : Index := 2#32
  let c0_156 : Index := 0#32
  let c0_157 : Index := 0#32
  ![v327.toNat, 2, 0, 0]
def k0_mult25 (i : grid0.Coords) : BitVec 32 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_135 : BitVec 32 := 1#32
  let v287 : BitVec 32 := Scalar.subi v20 c1_i32_135
  let c512_i32_159 : BitVec 32 := 512#32
  let v334 : BitVec 32 := Scalar.muli v287 c512_i32_159
  v334
def k0_off68 (i : grid0.Coords) : Fin 2 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_135 : BitVec 32 := 1#32
  let v287 : BitVec 32 := Scalar.subi v20 c1_i32_135
  let c512_i32_159 : BitVec 32 := 512#32
  let v334 : BitVec 32 := Scalar.muli v287 c512_i32_159
  let v335 : BitVec 32 := v334
  let v336 : Index := Scalar.indexCast v335
  let c384_160 : Index := 384#32
  ![v336.toNat, 384]
def k0_off69 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_135 : BitVec 32 := 1#32
  let v287 : BitVec 32 := Scalar.subi v20 c1_i32_135
  let v341 : Index := Scalar.indexCast v287
  let c3_162 : Index := 3#32
  let c0_163 : Index := 0#32
  let c0_164 : Index := 0#32
  ![v341.toNat, 3, 0, 0]
@[reducible] def k0_t22_loop (i : grid0.Coords) : Scf.Loop 32 :=
  let c0_i32_98 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_92 : BitVec 32 := 0#32
  let v202 : BitVec 1 := Scalar.cmpi .sgt v20 c0_i32_92
  let v203 : BitVec 32 := Scalar.extui v202
  let c0_i32_93 : BitVec 32 := 0#32
  let v204 : BitVec 1 := Scalar.cmpi .slt v20 c0_i32_93
  let v205 : BitVec 32 := Scalar.extui v204
  let v206 : BitVec 32 := Scalar.subi v203 v205
  let c2_i32_91 : BitVec 32 := 2#32
  let c0_i32_94 : BitVec 32 := 0#32
  let v207 : BitVec 1 := Scalar.cmpi .sgt c2_i32_91 c0_i32_94
  let v208 : BitVec 32 := Scalar.extui v207
  let c0_i32_95 : BitVec 32 := 0#32
  let v209 : BitVec 1 := Scalar.cmpi .slt c2_i32_91 c0_i32_95
  let v210 : BitVec 32 := Scalar.extui v209
  let v211 : BitVec 32 := Scalar.subi v208 v210
  let v212 : BitVec 1 := Scalar.cmpi .ne v206 v211
  let v213 : BitVec 32 := Scalar.remsi v20 c2_i32_91
  let c0_i32_96 : BitVec 32 := 0#32
  let v214 : BitVec 1 := Scalar.cmpi .ne v213 c0_i32_96
  let v215 : BitVec 1 := Scalar.andi v212 v214
  let v201 : BitVec 32 := Scalar.divsi v20 c2_i32_91
  let c1_i32_97 : BitVec 32 := 1#32
  let v216 : BitVec 32 := Scalar.subi v201 c1_i32_97
  let v217 : BitVec 32 := Scalar.select v215 v216 v201
  let v218 : BitVec 32 := Scalar.subi v217 c0_i32_98
  let c1_i32_99 : BitVec 32 := 1#32
  let v220 : BitVec 32 := Scalar.divsi v218 c1_i32_99
  let v221 : BitVec 32 := Scalar.muli v220 c1_i32_99
  let v222 : BitVec 32 := Scalar.addi c0_i32_98 v221
  let c1_i32_100 : BitVec 32 := 1#32
  ⟨c0_i32_98, v222, c1_i32_100⟩
def k0_off70 (i : grid0.Coords) (k0_t22 : Fin (k0_t22_loop i).trips) : Fin 4 → Nat :=
  let c2_i32_137 : BitVec 32 := 2#32
  let c0_i32_98 : BitVec 32 := 0#32
  let c1_i32_100 : BitVec 32 := 1#32
  let arg16 : BitVec 32 := Scf.iv c0_i32_98 c1_i32_100 k0_t22
  let v289 : BitVec 32 := Scalar.muli c2_i32_137 arg16
  let v290 : Index := Scalar.indexCast v289
  let c0_138 : Index := 0#32
  let c0_139 : Index := 0#32
  let c0_140 : Index := 0#32
  ![v290.toNat, 0, 0, 0]
def k0_off71 (i : grid0.Coords) (k0_t22 : Fin (k0_t22_loop i).trips) : Fin 3 → Nat :=
  let c2_i32_137 : BitVec 32 := 2#32
  let c0_i32_98 : BitVec 32 := 0#32
  let c1_i32_100 : BitVec 32 := 1#32
  let arg16 : BitVec 32 := Scf.iv c0_i32_98 c1_i32_100 k0_t22
  let v289 : BitVec 32 := Scalar.muli c2_i32_137 arg16
  let v301 : Index := Scalar.indexCast v289
  let c0_145 : Index := 0#32
  let c0_146 : Index := 0#32
  ![v301.toNat, 0, 0]
def k0_off72 (i : grid0.Coords) (k0_t22 : Fin (k0_t22_loop i).trips) : Fin 4 → Nat :=
  let c2_i32_137 : BitVec 32 := 2#32
  let c0_i32_98 : BitVec 32 := 0#32
  let c1_i32_100 : BitVec 32 := 1#32
  let arg16 : BitVec 32 := Scf.iv c0_i32_98 c1_i32_100 k0_t22
  let v289 : BitVec 32 := Scalar.muli c2_i32_137 arg16
  let v310 : Index := Scalar.indexCast v289
  let c1_151 : Index := 1#32
  let c0_152 : Index := 0#32
  let c0_153 : Index := 0#32
  ![v310.toNat, 1, 0, 0]
def k0_off73 (i : grid0.Coords) (k0_t22 : Fin (k0_t22_loop i).trips) : Fin 3 → Nat :=
  let c2_i32_137 : BitVec 32 := 2#32
  let c0_i32_98 : BitVec 32 := 0#32
  let c1_i32_100 : BitVec 32 := 1#32
  let arg16 : BitVec 32 := Scf.iv c0_i32_98 c1_i32_100 k0_t22
  let v289 : BitVec 32 := Scalar.muli c2_i32_137 arg16
  let v321 : Index := Scalar.indexCast v289
  let c128_158 : Index := 128#32
  let c0_159 : Index := 0#32
  ![v321.toNat, 128, 0]
def k0_off74 (i : grid0.Coords) (k0_t22 : Fin (k0_t22_loop i).trips) : Fin 4 → Nat :=
  let c2_i32_137 : BitVec 32 := 2#32
  let c0_i32_98 : BitVec 32 := 0#32
  let c1_i32_100 : BitVec 32 := 1#32
  let arg16 : BitVec 32 := Scf.iv c0_i32_98 c1_i32_100 k0_t22
  let v289 : BitVec 32 := Scalar.muli c2_i32_137 arg16
  let v330 : Index := Scalar.indexCast v289
  let c2_164 : Index := 2#32
  let c0_165 : Index := 0#32
  let c0_166 : Index := 0#32
  ![v330.toNat, 2, 0, 0]
def k0_off75 (i : grid0.Coords) (k0_t22 : Fin (k0_t22_loop i).trips) : Fin 3 → Nat :=
  let c2_i32_137 : BitVec 32 := 2#32
  let c0_i32_98 : BitVec 32 := 0#32
  let c1_i32_100 : BitVec 32 := 1#32
  let arg16 : BitVec 32 := Scf.iv c0_i32_98 c1_i32_100 k0_t22
  let v289 : BitVec 32 := Scalar.muli c2_i32_137 arg16
  let v341 : Index := Scalar.indexCast v289
  let c256_171 : Index := 256#32
  let c0_172 : Index := 0#32
  ![v341.toNat, 256, 0]
def k0_off76 (i : grid0.Coords) (k0_t22 : Fin (k0_t22_loop i).trips) : Fin 4 → Nat :=
  let c2_i32_137 : BitVec 32 := 2#32
  let c0_i32_98 : BitVec 32 := 0#32
  let c1_i32_100 : BitVec 32 := 1#32
  let arg16 : BitVec 32 := Scf.iv c0_i32_98 c1_i32_100 k0_t22
  let v289 : BitVec 32 := Scalar.muli c2_i32_137 arg16
  let v350 : Index := Scalar.indexCast v289
  let c3_177 : Index := 3#32
  let c0_178 : Index := 0#32
  let c0_179 : Index := 0#32
  ![v350.toNat, 3, 0, 0]
def k0_off77 (i : grid0.Coords) (k0_t22 : Fin (k0_t22_loop i).trips) : Fin 3 → Nat :=
  let c2_i32_137 : BitVec 32 := 2#32
  let c0_i32_98 : BitVec 32 := 0#32
  let c1_i32_100 : BitVec 32 := 1#32
  let arg16 : BitVec 32 := Scf.iv c0_i32_98 c1_i32_100 k0_t22
  let v289 : BitVec 32 := Scalar.muli c2_i32_137 arg16
  let v361 : Index := Scalar.indexCast v289
  let c384_184 : Index := 384#32
  let c0_185 : Index := 0#32
  ![v361.toNat, 384, 0]
def k0_off78 (i : grid0.Coords) (k0_t22 : Fin (k0_t22_loop i).trips) : Fin 4 → Nat :=
  let c2_i32_135 : BitVec 32 := 2#32
  let c0_i32_98 : BitVec 32 := 0#32
  let c1_i32_100 : BitVec 32 := 1#32
  let arg16 : BitVec 32 := Scf.iv c0_i32_98 c1_i32_100 k0_t22
  let v287 : BitVec 32 := Scalar.muli c2_i32_135 arg16
  let c1_i32_136 : BitVec 32 := 1#32
  let v288 : BitVec 32 := Scalar.addi v287 c1_i32_136
  let v370 : Index := Scalar.indexCast v288
  let c0_190 : Index := 0#32
  let c0_191 : Index := 0#32
  let c0_192 : Index := 0#32
  ![v370.toNat, 0, 0, 0]
def k0_off79 (i : grid0.Coords) (k0_t22 : Fin (k0_t22_loop i).trips) : Fin 3 → Nat :=
  let c2_i32_135 : BitVec 32 := 2#32
  let c0_i32_98 : BitVec 32 := 0#32
  let c1_i32_100 : BitVec 32 := 1#32
  let arg16 : BitVec 32 := Scf.iv c0_i32_98 c1_i32_100 k0_t22
  let v287 : BitVec 32 := Scalar.muli c2_i32_135 arg16
  let c1_i32_136 : BitVec 32 := 1#32
  let v288 : BitVec 32 := Scalar.addi v287 c1_i32_136
  let v381 : Index := Scalar.indexCast v288
  let c0_197 : Index := 0#32
  let c0_198 : Index := 0#32
  ![v381.toNat, 0, 0]
def k0_off80 (i : grid0.Coords) (k0_t22 : Fin (k0_t22_loop i).trips) : Fin 4 → Nat :=
  let c2_i32_135 : BitVec 32 := 2#32
  let c0_i32_98 : BitVec 32 := 0#32
  let c1_i32_100 : BitVec 32 := 1#32
  let arg16 : BitVec 32 := Scf.iv c0_i32_98 c1_i32_100 k0_t22
  let v287 : BitVec 32 := Scalar.muli c2_i32_135 arg16
  let c1_i32_136 : BitVec 32 := 1#32
  let v288 : BitVec 32 := Scalar.addi v287 c1_i32_136
  let v390 : Index := Scalar.indexCast v288
  let c1_203 : Index := 1#32
  let c0_204 : Index := 0#32
  let c0_205 : Index := 0#32
  ![v390.toNat, 1, 0, 0]
def k0_off81 (i : grid0.Coords) (k0_t22 : Fin (k0_t22_loop i).trips) : Fin 3 → Nat :=
  let c2_i32_135 : BitVec 32 := 2#32
  let c0_i32_98 : BitVec 32 := 0#32
  let c1_i32_100 : BitVec 32 := 1#32
  let arg16 : BitVec 32 := Scf.iv c0_i32_98 c1_i32_100 k0_t22
  let v287 : BitVec 32 := Scalar.muli c2_i32_135 arg16
  let c1_i32_136 : BitVec 32 := 1#32
  let v288 : BitVec 32 := Scalar.addi v287 c1_i32_136
  let v401 : Index := Scalar.indexCast v288
  let c128_210 : Index := 128#32
  let c0_211 : Index := 0#32
  ![v401.toNat, 128, 0]
def k0_off82 (i : grid0.Coords) (k0_t22 : Fin (k0_t22_loop i).trips) : Fin 4 → Nat :=
  let c2_i32_135 : BitVec 32 := 2#32
  let c0_i32_98 : BitVec 32 := 0#32
  let c1_i32_100 : BitVec 32 := 1#32
  let arg16 : BitVec 32 := Scf.iv c0_i32_98 c1_i32_100 k0_t22
  let v287 : BitVec 32 := Scalar.muli c2_i32_135 arg16
  let c1_i32_136 : BitVec 32 := 1#32
  let v288 : BitVec 32 := Scalar.addi v287 c1_i32_136
  let v410 : Index := Scalar.indexCast v288
  let c2_216 : Index := 2#32
  let c0_217 : Index := 0#32
  let c0_218 : Index := 0#32
  ![v410.toNat, 2, 0, 0]
def k0_off83 (i : grid0.Coords) (k0_t22 : Fin (k0_t22_loop i).trips) : Fin 3 → Nat :=
  let c2_i32_135 : BitVec 32 := 2#32
  let c0_i32_98 : BitVec 32 := 0#32
  let c1_i32_100 : BitVec 32 := 1#32
  let arg16 : BitVec 32 := Scf.iv c0_i32_98 c1_i32_100 k0_t22
  let v287 : BitVec 32 := Scalar.muli c2_i32_135 arg16
  let c1_i32_136 : BitVec 32 := 1#32
  let v288 : BitVec 32 := Scalar.addi v287 c1_i32_136
  let v421 : Index := Scalar.indexCast v288
  let c256_223 : Index := 256#32
  let c0_224 : Index := 0#32
  ![v421.toNat, 256, 0]
def k0_off84 (i : grid0.Coords) (k0_t22 : Fin (k0_t22_loop i).trips) : Fin 4 → Nat :=
  let c2_i32_135 : BitVec 32 := 2#32
  let c0_i32_98 : BitVec 32 := 0#32
  let c1_i32_100 : BitVec 32 := 1#32
  let arg16 : BitVec 32 := Scf.iv c0_i32_98 c1_i32_100 k0_t22
  let v287 : BitVec 32 := Scalar.muli c2_i32_135 arg16
  let c1_i32_136 : BitVec 32 := 1#32
  let v288 : BitVec 32 := Scalar.addi v287 c1_i32_136
  let v430 : Index := Scalar.indexCast v288
  let c3_229 : Index := 3#32
  let c0_230 : Index := 0#32
  let c0_231 : Index := 0#32
  ![v430.toNat, 3, 0, 0]
def k0_off85 (i : grid0.Coords) (k0_t22 : Fin (k0_t22_loop i).trips) : Fin 3 → Nat :=
  let c2_i32_135 : BitVec 32 := 2#32
  let c0_i32_98 : BitVec 32 := 0#32
  let c1_i32_100 : BitVec 32 := 1#32
  let arg16 : BitVec 32 := Scf.iv c0_i32_98 c1_i32_100 k0_t22
  let v287 : BitVec 32 := Scalar.muli c2_i32_135 arg16
  let c1_i32_136 : BitVec 32 := 1#32
  let v288 : BitVec 32 := Scalar.addi v287 c1_i32_136
  let v441 : Index := Scalar.indexCast v288
  let c384_236 : Index := 384#32
  let c0_237 : Index := 0#32
  ![v441.toNat, 384, 0]
@[reducible] def k0_t23_loop (i : grid0.Coords) : Scf.Loop 32 :=
  let c0_i32_98 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_92 : BitVec 32 := 0#32
  let v202 : BitVec 1 := Scalar.cmpi .sgt v20 c0_i32_92
  let v203 : BitVec 32 := Scalar.extui v202
  let c0_i32_93 : BitVec 32 := 0#32
  let v204 : BitVec 1 := Scalar.cmpi .slt v20 c0_i32_93
  let v205 : BitVec 32 := Scalar.extui v204
  let v206 : BitVec 32 := Scalar.subi v203 v205
  let c2_i32_91 : BitVec 32 := 2#32
  let c0_i32_94 : BitVec 32 := 0#32
  let v207 : BitVec 1 := Scalar.cmpi .sgt c2_i32_91 c0_i32_94
  let v208 : BitVec 32 := Scalar.extui v207
  let c0_i32_95 : BitVec 32 := 0#32
  let v209 : BitVec 1 := Scalar.cmpi .slt c2_i32_91 c0_i32_95
  let v210 : BitVec 32 := Scalar.extui v209
  let v211 : BitVec 32 := Scalar.subi v208 v210
  let v212 : BitVec 1 := Scalar.cmpi .ne v206 v211
  let v213 : BitVec 32 := Scalar.remsi v20 c2_i32_91
  let c0_i32_96 : BitVec 32 := 0#32
  let v214 : BitVec 1 := Scalar.cmpi .ne v213 c0_i32_96
  let v215 : BitVec 1 := Scalar.andi v212 v214
  let v201 : BitVec 32 := Scalar.divsi v20 c2_i32_91
  let c1_i32_97 : BitVec 32 := 1#32
  let v216 : BitVec 32 := Scalar.subi v201 c1_i32_97
  let v217 : BitVec 32 := Scalar.select v215 v216 v201
  let v218 : BitVec 32 := Scalar.subi v217 c0_i32_98
  let c1_i32_99 : BitVec 32 := 1#32
  let v220 : BitVec 32 := Scalar.divsi v218 c1_i32_99
  let v221 : BitVec 32 := Scalar.muli v220 c1_i32_99
  let v222 : BitVec 32 := Scalar.addi c0_i32_98 v221
  let v219 : BitVec 32 := Scalar.addi c0_i32_98 v218
  let c1_i32_101 : BitVec 32 := 1#32
  ⟨v222, v219, c1_i32_101⟩
def k0_off86 (i : grid0.Coords) (k0_t23 : Fin (k0_t23_loop i).trips) : Fin 4 → Nat :=
  let c2_i32_137 : BitVec 32 := 2#32
  let c0_i32_98 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_92 : BitVec 32 := 0#32
  let v202 : BitVec 1 := Scalar.cmpi .sgt v20 c0_i32_92
  let v203 : BitVec 32 := Scalar.extui v202
  let c0_i32_93 : BitVec 32 := 0#32
  let v204 : BitVec 1 := Scalar.cmpi .slt v20 c0_i32_93
  let v205 : BitVec 32 := Scalar.extui v204
  let v206 : BitVec 32 := Scalar.subi v203 v205
  let c2_i32_91 : BitVec 32 := 2#32
  let c0_i32_94 : BitVec 32 := 0#32
  let v207 : BitVec 1 := Scalar.cmpi .sgt c2_i32_91 c0_i32_94
  let v208 : BitVec 32 := Scalar.extui v207
  let c0_i32_95 : BitVec 32 := 0#32
  let v209 : BitVec 1 := Scalar.cmpi .slt c2_i32_91 c0_i32_95
  let v210 : BitVec 32 := Scalar.extui v209
  let v211 : BitVec 32 := Scalar.subi v208 v210
  let v212 : BitVec 1 := Scalar.cmpi .ne v206 v211
  let v213 : BitVec 32 := Scalar.remsi v20 c2_i32_91
  let c0_i32_96 : BitVec 32 := 0#32
  let v214 : BitVec 1 := Scalar.cmpi .ne v213 c0_i32_96
  let v215 : BitVec 1 := Scalar.andi v212 v214
  let v201 : BitVec 32 := Scalar.divsi v20 c2_i32_91
  let c1_i32_97 : BitVec 32 := 1#32
  let v216 : BitVec 32 := Scalar.subi v201 c1_i32_97
  let v217 : BitVec 32 := Scalar.select v215 v216 v201
  let v218 : BitVec 32 := Scalar.subi v217 c0_i32_98
  let c1_i32_99 : BitVec 32 := 1#32
  let v220 : BitVec 32 := Scalar.divsi v218 c1_i32_99
  let v221 : BitVec 32 := Scalar.muli v220 c1_i32_99
  let v222 : BitVec 32 := Scalar.addi c0_i32_98 v221
  let c1_i32_101 : BitVec 32 := 1#32
  let arg16 : BitVec 32 := Scf.iv v222 c1_i32_101 k0_t23
  let v289 : BitVec 32 := Scalar.muli c2_i32_137 arg16
  let v290 : Index := Scalar.indexCast v289
  let c0_138 : Index := 0#32
  let c0_139 : Index := 0#32
  let c0_140 : Index := 0#32
  ![v290.toNat, 0, 0, 0]
def k0_off87 (i : grid0.Coords) (k0_t23 : Fin (k0_t23_loop i).trips) : Fin 3 → Nat :=
  let c2_i32_137 : BitVec 32 := 2#32
  let c0_i32_98 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_92 : BitVec 32 := 0#32
  let v202 : BitVec 1 := Scalar.cmpi .sgt v20 c0_i32_92
  let v203 : BitVec 32 := Scalar.extui v202
  let c0_i32_93 : BitVec 32 := 0#32
  let v204 : BitVec 1 := Scalar.cmpi .slt v20 c0_i32_93
  let v205 : BitVec 32 := Scalar.extui v204
  let v206 : BitVec 32 := Scalar.subi v203 v205
  let c2_i32_91 : BitVec 32 := 2#32
  let c0_i32_94 : BitVec 32 := 0#32
  let v207 : BitVec 1 := Scalar.cmpi .sgt c2_i32_91 c0_i32_94
  let v208 : BitVec 32 := Scalar.extui v207
  let c0_i32_95 : BitVec 32 := 0#32
  let v209 : BitVec 1 := Scalar.cmpi .slt c2_i32_91 c0_i32_95
  let v210 : BitVec 32 := Scalar.extui v209
  let v211 : BitVec 32 := Scalar.subi v208 v210
  let v212 : BitVec 1 := Scalar.cmpi .ne v206 v211
  let v213 : BitVec 32 := Scalar.remsi v20 c2_i32_91
  let c0_i32_96 : BitVec 32 := 0#32
  let v214 : BitVec 1 := Scalar.cmpi .ne v213 c0_i32_96
  let v215 : BitVec 1 := Scalar.andi v212 v214
  let v201 : BitVec 32 := Scalar.divsi v20 c2_i32_91
  let c1_i32_97 : BitVec 32 := 1#32
  let v216 : BitVec 32 := Scalar.subi v201 c1_i32_97
  let v217 : BitVec 32 := Scalar.select v215 v216 v201
  let v218 : BitVec 32 := Scalar.subi v217 c0_i32_98
  let c1_i32_99 : BitVec 32 := 1#32
  let v220 : BitVec 32 := Scalar.divsi v218 c1_i32_99
  let v221 : BitVec 32 := Scalar.muli v220 c1_i32_99
  let v222 : BitVec 32 := Scalar.addi c0_i32_98 v221
  let c1_i32_101 : BitVec 32 := 1#32
  let arg16 : BitVec 32 := Scf.iv v222 c1_i32_101 k0_t23
  let v289 : BitVec 32 := Scalar.muli c2_i32_137 arg16
  let v301 : Index := Scalar.indexCast v289
  let c0_145 : Index := 0#32
  let c0_146 : Index := 0#32
  ![v301.toNat, 0, 0]
def k0_off88 (i : grid0.Coords) (k0_t23 : Fin (k0_t23_loop i).trips) : Fin 4 → Nat :=
  let c2_i32_137 : BitVec 32 := 2#32
  let c0_i32_98 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_92 : BitVec 32 := 0#32
  let v202 : BitVec 1 := Scalar.cmpi .sgt v20 c0_i32_92
  let v203 : BitVec 32 := Scalar.extui v202
  let c0_i32_93 : BitVec 32 := 0#32
  let v204 : BitVec 1 := Scalar.cmpi .slt v20 c0_i32_93
  let v205 : BitVec 32 := Scalar.extui v204
  let v206 : BitVec 32 := Scalar.subi v203 v205
  let c2_i32_91 : BitVec 32 := 2#32
  let c0_i32_94 : BitVec 32 := 0#32
  let v207 : BitVec 1 := Scalar.cmpi .sgt c2_i32_91 c0_i32_94
  let v208 : BitVec 32 := Scalar.extui v207
  let c0_i32_95 : BitVec 32 := 0#32
  let v209 : BitVec 1 := Scalar.cmpi .slt c2_i32_91 c0_i32_95
  let v210 : BitVec 32 := Scalar.extui v209
  let v211 : BitVec 32 := Scalar.subi v208 v210
  let v212 : BitVec 1 := Scalar.cmpi .ne v206 v211
  let v213 : BitVec 32 := Scalar.remsi v20 c2_i32_91
  let c0_i32_96 : BitVec 32 := 0#32
  let v214 : BitVec 1 := Scalar.cmpi .ne v213 c0_i32_96
  let v215 : BitVec 1 := Scalar.andi v212 v214
  let v201 : BitVec 32 := Scalar.divsi v20 c2_i32_91
  let c1_i32_97 : BitVec 32 := 1#32
  let v216 : BitVec 32 := Scalar.subi v201 c1_i32_97
  let v217 : BitVec 32 := Scalar.select v215 v216 v201
  let v218 : BitVec 32 := Scalar.subi v217 c0_i32_98
  let c1_i32_99 : BitVec 32 := 1#32
  let v220 : BitVec 32 := Scalar.divsi v218 c1_i32_99
  let v221 : BitVec 32 := Scalar.muli v220 c1_i32_99
  let v222 : BitVec 32 := Scalar.addi c0_i32_98 v221
  let c1_i32_101 : BitVec 32 := 1#32
  let arg16 : BitVec 32 := Scf.iv v222 c1_i32_101 k0_t23
  let v289 : BitVec 32 := Scalar.muli c2_i32_137 arg16
  let v310 : Index := Scalar.indexCast v289
  let c1_151 : Index := 1#32
  let c0_152 : Index := 0#32
  let c0_153 : Index := 0#32
  ![v310.toNat, 1, 0, 0]
def k0_off89 (i : grid0.Coords) (k0_t23 : Fin (k0_t23_loop i).trips) : Fin 3 → Nat :=
  let c2_i32_137 : BitVec 32 := 2#32
  let c0_i32_98 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_92 : BitVec 32 := 0#32
  let v202 : BitVec 1 := Scalar.cmpi .sgt v20 c0_i32_92
  let v203 : BitVec 32 := Scalar.extui v202
  let c0_i32_93 : BitVec 32 := 0#32
  let v204 : BitVec 1 := Scalar.cmpi .slt v20 c0_i32_93
  let v205 : BitVec 32 := Scalar.extui v204
  let v206 : BitVec 32 := Scalar.subi v203 v205
  let c2_i32_91 : BitVec 32 := 2#32
  let c0_i32_94 : BitVec 32 := 0#32
  let v207 : BitVec 1 := Scalar.cmpi .sgt c2_i32_91 c0_i32_94
  let v208 : BitVec 32 := Scalar.extui v207
  let c0_i32_95 : BitVec 32 := 0#32
  let v209 : BitVec 1 := Scalar.cmpi .slt c2_i32_91 c0_i32_95
  let v210 : BitVec 32 := Scalar.extui v209
  let v211 : BitVec 32 := Scalar.subi v208 v210
  let v212 : BitVec 1 := Scalar.cmpi .ne v206 v211
  let v213 : BitVec 32 := Scalar.remsi v20 c2_i32_91
  let c0_i32_96 : BitVec 32 := 0#32
  let v214 : BitVec 1 := Scalar.cmpi .ne v213 c0_i32_96
  let v215 : BitVec 1 := Scalar.andi v212 v214
  let v201 : BitVec 32 := Scalar.divsi v20 c2_i32_91
  let c1_i32_97 : BitVec 32 := 1#32
  let v216 : BitVec 32 := Scalar.subi v201 c1_i32_97
  let v217 : BitVec 32 := Scalar.select v215 v216 v201
  let v218 : BitVec 32 := Scalar.subi v217 c0_i32_98
  let c1_i32_99 : BitVec 32 := 1#32
  let v220 : BitVec 32 := Scalar.divsi v218 c1_i32_99
  let v221 : BitVec 32 := Scalar.muli v220 c1_i32_99
  let v222 : BitVec 32 := Scalar.addi c0_i32_98 v221
  let c1_i32_101 : BitVec 32 := 1#32
  let arg16 : BitVec 32 := Scf.iv v222 c1_i32_101 k0_t23
  let v289 : BitVec 32 := Scalar.muli c2_i32_137 arg16
  let v321 : Index := Scalar.indexCast v289
  let c128_158 : Index := 128#32
  let c0_159 : Index := 0#32
  ![v321.toNat, 128, 0]
def k0_off90 (i : grid0.Coords) (k0_t23 : Fin (k0_t23_loop i).trips) : Fin 4 → Nat :=
  let c2_i32_137 : BitVec 32 := 2#32
  let c0_i32_98 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_92 : BitVec 32 := 0#32
  let v202 : BitVec 1 := Scalar.cmpi .sgt v20 c0_i32_92
  let v203 : BitVec 32 := Scalar.extui v202
  let c0_i32_93 : BitVec 32 := 0#32
  let v204 : BitVec 1 := Scalar.cmpi .slt v20 c0_i32_93
  let v205 : BitVec 32 := Scalar.extui v204
  let v206 : BitVec 32 := Scalar.subi v203 v205
  let c2_i32_91 : BitVec 32 := 2#32
  let c0_i32_94 : BitVec 32 := 0#32
  let v207 : BitVec 1 := Scalar.cmpi .sgt c2_i32_91 c0_i32_94
  let v208 : BitVec 32 := Scalar.extui v207
  let c0_i32_95 : BitVec 32 := 0#32
  let v209 : BitVec 1 := Scalar.cmpi .slt c2_i32_91 c0_i32_95
  let v210 : BitVec 32 := Scalar.extui v209
  let v211 : BitVec 32 := Scalar.subi v208 v210
  let v212 : BitVec 1 := Scalar.cmpi .ne v206 v211
  let v213 : BitVec 32 := Scalar.remsi v20 c2_i32_91
  let c0_i32_96 : BitVec 32 := 0#32
  let v214 : BitVec 1 := Scalar.cmpi .ne v213 c0_i32_96
  let v215 : BitVec 1 := Scalar.andi v212 v214
  let v201 : BitVec 32 := Scalar.divsi v20 c2_i32_91
  let c1_i32_97 : BitVec 32 := 1#32
  let v216 : BitVec 32 := Scalar.subi v201 c1_i32_97
  let v217 : BitVec 32 := Scalar.select v215 v216 v201
  let v218 : BitVec 32 := Scalar.subi v217 c0_i32_98
  let c1_i32_99 : BitVec 32 := 1#32
  let v220 : BitVec 32 := Scalar.divsi v218 c1_i32_99
  let v221 : BitVec 32 := Scalar.muli v220 c1_i32_99
  let v222 : BitVec 32 := Scalar.addi c0_i32_98 v221
  let c1_i32_101 : BitVec 32 := 1#32
  let arg16 : BitVec 32 := Scf.iv v222 c1_i32_101 k0_t23
  let v289 : BitVec 32 := Scalar.muli c2_i32_137 arg16
  let v330 : Index := Scalar.indexCast v289
  let c2_164 : Index := 2#32
  let c0_165 : Index := 0#32
  let c0_166 : Index := 0#32
  ![v330.toNat, 2, 0, 0]
def k0_off91 (i : grid0.Coords) (k0_t23 : Fin (k0_t23_loop i).trips) : Fin 3 → Nat :=
  let c2_i32_137 : BitVec 32 := 2#32
  let c0_i32_98 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_92 : BitVec 32 := 0#32
  let v202 : BitVec 1 := Scalar.cmpi .sgt v20 c0_i32_92
  let v203 : BitVec 32 := Scalar.extui v202
  let c0_i32_93 : BitVec 32 := 0#32
  let v204 : BitVec 1 := Scalar.cmpi .slt v20 c0_i32_93
  let v205 : BitVec 32 := Scalar.extui v204
  let v206 : BitVec 32 := Scalar.subi v203 v205
  let c2_i32_91 : BitVec 32 := 2#32
  let c0_i32_94 : BitVec 32 := 0#32
  let v207 : BitVec 1 := Scalar.cmpi .sgt c2_i32_91 c0_i32_94
  let v208 : BitVec 32 := Scalar.extui v207
  let c0_i32_95 : BitVec 32 := 0#32
  let v209 : BitVec 1 := Scalar.cmpi .slt c2_i32_91 c0_i32_95
  let v210 : BitVec 32 := Scalar.extui v209
  let v211 : BitVec 32 := Scalar.subi v208 v210
  let v212 : BitVec 1 := Scalar.cmpi .ne v206 v211
  let v213 : BitVec 32 := Scalar.remsi v20 c2_i32_91
  let c0_i32_96 : BitVec 32 := 0#32
  let v214 : BitVec 1 := Scalar.cmpi .ne v213 c0_i32_96
  let v215 : BitVec 1 := Scalar.andi v212 v214
  let v201 : BitVec 32 := Scalar.divsi v20 c2_i32_91
  let c1_i32_97 : BitVec 32 := 1#32
  let v216 : BitVec 32 := Scalar.subi v201 c1_i32_97
  let v217 : BitVec 32 := Scalar.select v215 v216 v201
  let v218 : BitVec 32 := Scalar.subi v217 c0_i32_98
  let c1_i32_99 : BitVec 32 := 1#32
  let v220 : BitVec 32 := Scalar.divsi v218 c1_i32_99
  let v221 : BitVec 32 := Scalar.muli v220 c1_i32_99
  let v222 : BitVec 32 := Scalar.addi c0_i32_98 v221
  let c1_i32_101 : BitVec 32 := 1#32
  let arg16 : BitVec 32 := Scf.iv v222 c1_i32_101 k0_t23
  let v289 : BitVec 32 := Scalar.muli c2_i32_137 arg16
  let v341 : Index := Scalar.indexCast v289
  let c256_171 : Index := 256#32
  let c0_172 : Index := 0#32
  ![v341.toNat, 256, 0]
def k0_off92 (i : grid0.Coords) (k0_t23 : Fin (k0_t23_loop i).trips) : Fin 4 → Nat :=
  let c2_i32_137 : BitVec 32 := 2#32
  let c0_i32_98 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_92 : BitVec 32 := 0#32
  let v202 : BitVec 1 := Scalar.cmpi .sgt v20 c0_i32_92
  let v203 : BitVec 32 := Scalar.extui v202
  let c0_i32_93 : BitVec 32 := 0#32
  let v204 : BitVec 1 := Scalar.cmpi .slt v20 c0_i32_93
  let v205 : BitVec 32 := Scalar.extui v204
  let v206 : BitVec 32 := Scalar.subi v203 v205
  let c2_i32_91 : BitVec 32 := 2#32
  let c0_i32_94 : BitVec 32 := 0#32
  let v207 : BitVec 1 := Scalar.cmpi .sgt c2_i32_91 c0_i32_94
  let v208 : BitVec 32 := Scalar.extui v207
  let c0_i32_95 : BitVec 32 := 0#32
  let v209 : BitVec 1 := Scalar.cmpi .slt c2_i32_91 c0_i32_95
  let v210 : BitVec 32 := Scalar.extui v209
  let v211 : BitVec 32 := Scalar.subi v208 v210
  let v212 : BitVec 1 := Scalar.cmpi .ne v206 v211
  let v213 : BitVec 32 := Scalar.remsi v20 c2_i32_91
  let c0_i32_96 : BitVec 32 := 0#32
  let v214 : BitVec 1 := Scalar.cmpi .ne v213 c0_i32_96
  let v215 : BitVec 1 := Scalar.andi v212 v214
  let v201 : BitVec 32 := Scalar.divsi v20 c2_i32_91
  let c1_i32_97 : BitVec 32 := 1#32
  let v216 : BitVec 32 := Scalar.subi v201 c1_i32_97
  let v217 : BitVec 32 := Scalar.select v215 v216 v201
  let v218 : BitVec 32 := Scalar.subi v217 c0_i32_98
  let c1_i32_99 : BitVec 32 := 1#32
  let v220 : BitVec 32 := Scalar.divsi v218 c1_i32_99
  let v221 : BitVec 32 := Scalar.muli v220 c1_i32_99
  let v222 : BitVec 32 := Scalar.addi c0_i32_98 v221
  let c1_i32_101 : BitVec 32 := 1#32
  let arg16 : BitVec 32 := Scf.iv v222 c1_i32_101 k0_t23
  let v289 : BitVec 32 := Scalar.muli c2_i32_137 arg16
  let v350 : Index := Scalar.indexCast v289
  let c3_177 : Index := 3#32
  let c0_178 : Index := 0#32
  let c0_179 : Index := 0#32
  ![v350.toNat, 3, 0, 0]
def k0_off93 (i : grid0.Coords) (k0_t23 : Fin (k0_t23_loop i).trips) : Fin 3 → Nat :=
  let c2_i32_137 : BitVec 32 := 2#32
  let c0_i32_98 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_92 : BitVec 32 := 0#32
  let v202 : BitVec 1 := Scalar.cmpi .sgt v20 c0_i32_92
  let v203 : BitVec 32 := Scalar.extui v202
  let c0_i32_93 : BitVec 32 := 0#32
  let v204 : BitVec 1 := Scalar.cmpi .slt v20 c0_i32_93
  let v205 : BitVec 32 := Scalar.extui v204
  let v206 : BitVec 32 := Scalar.subi v203 v205
  let c2_i32_91 : BitVec 32 := 2#32
  let c0_i32_94 : BitVec 32 := 0#32
  let v207 : BitVec 1 := Scalar.cmpi .sgt c2_i32_91 c0_i32_94
  let v208 : BitVec 32 := Scalar.extui v207
  let c0_i32_95 : BitVec 32 := 0#32
  let v209 : BitVec 1 := Scalar.cmpi .slt c2_i32_91 c0_i32_95
  let v210 : BitVec 32 := Scalar.extui v209
  let v211 : BitVec 32 := Scalar.subi v208 v210
  let v212 : BitVec 1 := Scalar.cmpi .ne v206 v211
  let v213 : BitVec 32 := Scalar.remsi v20 c2_i32_91
  let c0_i32_96 : BitVec 32 := 0#32
  let v214 : BitVec 1 := Scalar.cmpi .ne v213 c0_i32_96
  let v215 : BitVec 1 := Scalar.andi v212 v214
  let v201 : BitVec 32 := Scalar.divsi v20 c2_i32_91
  let c1_i32_97 : BitVec 32 := 1#32
  let v216 : BitVec 32 := Scalar.subi v201 c1_i32_97
  let v217 : BitVec 32 := Scalar.select v215 v216 v201
  let v218 : BitVec 32 := Scalar.subi v217 c0_i32_98
  let c1_i32_99 : BitVec 32 := 1#32
  let v220 : BitVec 32 := Scalar.divsi v218 c1_i32_99
  let v221 : BitVec 32 := Scalar.muli v220 c1_i32_99
  let v222 : BitVec 32 := Scalar.addi c0_i32_98 v221
  let c1_i32_101 : BitVec 32 := 1#32
  let arg16 : BitVec 32 := Scf.iv v222 c1_i32_101 k0_t23
  let v289 : BitVec 32 := Scalar.muli c2_i32_137 arg16
  let v361 : Index := Scalar.indexCast v289
  let c384_184 : Index := 384#32
  let c0_185 : Index := 0#32
  ![v361.toNat, 384, 0]
def k0_off94 (i : grid0.Coords) (k0_t23 : Fin (k0_t23_loop i).trips) : Fin 4 → Nat :=
  let c2_i32_135 : BitVec 32 := 2#32
  let c0_i32_98 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_92 : BitVec 32 := 0#32
  let v202 : BitVec 1 := Scalar.cmpi .sgt v20 c0_i32_92
  let v203 : BitVec 32 := Scalar.extui v202
  let c0_i32_93 : BitVec 32 := 0#32
  let v204 : BitVec 1 := Scalar.cmpi .slt v20 c0_i32_93
  let v205 : BitVec 32 := Scalar.extui v204
  let v206 : BitVec 32 := Scalar.subi v203 v205
  let c2_i32_91 : BitVec 32 := 2#32
  let c0_i32_94 : BitVec 32 := 0#32
  let v207 : BitVec 1 := Scalar.cmpi .sgt c2_i32_91 c0_i32_94
  let v208 : BitVec 32 := Scalar.extui v207
  let c0_i32_95 : BitVec 32 := 0#32
  let v209 : BitVec 1 := Scalar.cmpi .slt c2_i32_91 c0_i32_95
  let v210 : BitVec 32 := Scalar.extui v209
  let v211 : BitVec 32 := Scalar.subi v208 v210
  let v212 : BitVec 1 := Scalar.cmpi .ne v206 v211
  let v213 : BitVec 32 := Scalar.remsi v20 c2_i32_91
  let c0_i32_96 : BitVec 32 := 0#32
  let v214 : BitVec 1 := Scalar.cmpi .ne v213 c0_i32_96
  let v215 : BitVec 1 := Scalar.andi v212 v214
  let v201 : BitVec 32 := Scalar.divsi v20 c2_i32_91
  let c1_i32_97 : BitVec 32 := 1#32
  let v216 : BitVec 32 := Scalar.subi v201 c1_i32_97
  let v217 : BitVec 32 := Scalar.select v215 v216 v201
  let v218 : BitVec 32 := Scalar.subi v217 c0_i32_98
  let c1_i32_99 : BitVec 32 := 1#32
  let v220 : BitVec 32 := Scalar.divsi v218 c1_i32_99
  let v221 : BitVec 32 := Scalar.muli v220 c1_i32_99
  let v222 : BitVec 32 := Scalar.addi c0_i32_98 v221
  let c1_i32_101 : BitVec 32 := 1#32
  let arg16 : BitVec 32 := Scf.iv v222 c1_i32_101 k0_t23
  let v287 : BitVec 32 := Scalar.muli c2_i32_135 arg16
  let c1_i32_136 : BitVec 32 := 1#32
  let v288 : BitVec 32 := Scalar.addi v287 c1_i32_136
  let v370 : Index := Scalar.indexCast v288
  let c0_190 : Index := 0#32
  let c0_191 : Index := 0#32
  let c0_192 : Index := 0#32
  ![v370.toNat, 0, 0, 0]
def k0_off95 (i : grid0.Coords) (k0_t23 : Fin (k0_t23_loop i).trips) : Fin 3 → Nat :=
  let c2_i32_135 : BitVec 32 := 2#32
  let c0_i32_98 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_92 : BitVec 32 := 0#32
  let v202 : BitVec 1 := Scalar.cmpi .sgt v20 c0_i32_92
  let v203 : BitVec 32 := Scalar.extui v202
  let c0_i32_93 : BitVec 32 := 0#32
  let v204 : BitVec 1 := Scalar.cmpi .slt v20 c0_i32_93
  let v205 : BitVec 32 := Scalar.extui v204
  let v206 : BitVec 32 := Scalar.subi v203 v205
  let c2_i32_91 : BitVec 32 := 2#32
  let c0_i32_94 : BitVec 32 := 0#32
  let v207 : BitVec 1 := Scalar.cmpi .sgt c2_i32_91 c0_i32_94
  let v208 : BitVec 32 := Scalar.extui v207
  let c0_i32_95 : BitVec 32 := 0#32
  let v209 : BitVec 1 := Scalar.cmpi .slt c2_i32_91 c0_i32_95
  let v210 : BitVec 32 := Scalar.extui v209
  let v211 : BitVec 32 := Scalar.subi v208 v210
  let v212 : BitVec 1 := Scalar.cmpi .ne v206 v211
  let v213 : BitVec 32 := Scalar.remsi v20 c2_i32_91
  let c0_i32_96 : BitVec 32 := 0#32
  let v214 : BitVec 1 := Scalar.cmpi .ne v213 c0_i32_96
  let v215 : BitVec 1 := Scalar.andi v212 v214
  let v201 : BitVec 32 := Scalar.divsi v20 c2_i32_91
  let c1_i32_97 : BitVec 32 := 1#32
  let v216 : BitVec 32 := Scalar.subi v201 c1_i32_97
  let v217 : BitVec 32 := Scalar.select v215 v216 v201
  let v218 : BitVec 32 := Scalar.subi v217 c0_i32_98
  let c1_i32_99 : BitVec 32 := 1#32
  let v220 : BitVec 32 := Scalar.divsi v218 c1_i32_99
  let v221 : BitVec 32 := Scalar.muli v220 c1_i32_99
  let v222 : BitVec 32 := Scalar.addi c0_i32_98 v221
  let c1_i32_101 : BitVec 32 := 1#32
  let arg16 : BitVec 32 := Scf.iv v222 c1_i32_101 k0_t23
  let v287 : BitVec 32 := Scalar.muli c2_i32_135 arg16
  let c1_i32_136 : BitVec 32 := 1#32
  let v288 : BitVec 32 := Scalar.addi v287 c1_i32_136
  let v381 : Index := Scalar.indexCast v288
  let c0_197 : Index := 0#32
  let c0_198 : Index := 0#32
  ![v381.toNat, 0, 0]
def k0_off96 (i : grid0.Coords) (k0_t23 : Fin (k0_t23_loop i).trips) : Fin 4 → Nat :=
  let c2_i32_135 : BitVec 32 := 2#32
  let c0_i32_98 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_92 : BitVec 32 := 0#32
  let v202 : BitVec 1 := Scalar.cmpi .sgt v20 c0_i32_92
  let v203 : BitVec 32 := Scalar.extui v202
  let c0_i32_93 : BitVec 32 := 0#32
  let v204 : BitVec 1 := Scalar.cmpi .slt v20 c0_i32_93
  let v205 : BitVec 32 := Scalar.extui v204
  let v206 : BitVec 32 := Scalar.subi v203 v205
  let c2_i32_91 : BitVec 32 := 2#32
  let c0_i32_94 : BitVec 32 := 0#32
  let v207 : BitVec 1 := Scalar.cmpi .sgt c2_i32_91 c0_i32_94
  let v208 : BitVec 32 := Scalar.extui v207
  let c0_i32_95 : BitVec 32 := 0#32
  let v209 : BitVec 1 := Scalar.cmpi .slt c2_i32_91 c0_i32_95
  let v210 : BitVec 32 := Scalar.extui v209
  let v211 : BitVec 32 := Scalar.subi v208 v210
  let v212 : BitVec 1 := Scalar.cmpi .ne v206 v211
  let v213 : BitVec 32 := Scalar.remsi v20 c2_i32_91
  let c0_i32_96 : BitVec 32 := 0#32
  let v214 : BitVec 1 := Scalar.cmpi .ne v213 c0_i32_96
  let v215 : BitVec 1 := Scalar.andi v212 v214
  let v201 : BitVec 32 := Scalar.divsi v20 c2_i32_91
  let c1_i32_97 : BitVec 32 := 1#32
  let v216 : BitVec 32 := Scalar.subi v201 c1_i32_97
  let v217 : BitVec 32 := Scalar.select v215 v216 v201
  let v218 : BitVec 32 := Scalar.subi v217 c0_i32_98
  let c1_i32_99 : BitVec 32 := 1#32
  let v220 : BitVec 32 := Scalar.divsi v218 c1_i32_99
  let v221 : BitVec 32 := Scalar.muli v220 c1_i32_99
  let v222 : BitVec 32 := Scalar.addi c0_i32_98 v221
  let c1_i32_101 : BitVec 32 := 1#32
  let arg16 : BitVec 32 := Scf.iv v222 c1_i32_101 k0_t23
  let v287 : BitVec 32 := Scalar.muli c2_i32_135 arg16
  let c1_i32_136 : BitVec 32 := 1#32
  let v288 : BitVec 32 := Scalar.addi v287 c1_i32_136
  let v390 : Index := Scalar.indexCast v288
  let c1_203 : Index := 1#32
  let c0_204 : Index := 0#32
  let c0_205 : Index := 0#32
  ![v390.toNat, 1, 0, 0]
def k0_off97 (i : grid0.Coords) (k0_t23 : Fin (k0_t23_loop i).trips) : Fin 3 → Nat :=
  let c2_i32_135 : BitVec 32 := 2#32
  let c0_i32_98 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_92 : BitVec 32 := 0#32
  let v202 : BitVec 1 := Scalar.cmpi .sgt v20 c0_i32_92
  let v203 : BitVec 32 := Scalar.extui v202
  let c0_i32_93 : BitVec 32 := 0#32
  let v204 : BitVec 1 := Scalar.cmpi .slt v20 c0_i32_93
  let v205 : BitVec 32 := Scalar.extui v204
  let v206 : BitVec 32 := Scalar.subi v203 v205
  let c2_i32_91 : BitVec 32 := 2#32
  let c0_i32_94 : BitVec 32 := 0#32
  let v207 : BitVec 1 := Scalar.cmpi .sgt c2_i32_91 c0_i32_94
  let v208 : BitVec 32 := Scalar.extui v207
  let c0_i32_95 : BitVec 32 := 0#32
  let v209 : BitVec 1 := Scalar.cmpi .slt c2_i32_91 c0_i32_95
  let v210 : BitVec 32 := Scalar.extui v209
  let v211 : BitVec 32 := Scalar.subi v208 v210
  let v212 : BitVec 1 := Scalar.cmpi .ne v206 v211
  let v213 : BitVec 32 := Scalar.remsi v20 c2_i32_91
  let c0_i32_96 : BitVec 32 := 0#32
  let v214 : BitVec 1 := Scalar.cmpi .ne v213 c0_i32_96
  let v215 : BitVec 1 := Scalar.andi v212 v214
  let v201 : BitVec 32 := Scalar.divsi v20 c2_i32_91
  let c1_i32_97 : BitVec 32 := 1#32
  let v216 : BitVec 32 := Scalar.subi v201 c1_i32_97
  let v217 : BitVec 32 := Scalar.select v215 v216 v201
  let v218 : BitVec 32 := Scalar.subi v217 c0_i32_98
  let c1_i32_99 : BitVec 32 := 1#32
  let v220 : BitVec 32 := Scalar.divsi v218 c1_i32_99
  let v221 : BitVec 32 := Scalar.muli v220 c1_i32_99
  let v222 : BitVec 32 := Scalar.addi c0_i32_98 v221
  let c1_i32_101 : BitVec 32 := 1#32
  let arg16 : BitVec 32 := Scf.iv v222 c1_i32_101 k0_t23
  let v287 : BitVec 32 := Scalar.muli c2_i32_135 arg16
  let c1_i32_136 : BitVec 32 := 1#32
  let v288 : BitVec 32 := Scalar.addi v287 c1_i32_136
  let v401 : Index := Scalar.indexCast v288
  let c128_210 : Index := 128#32
  let c0_211 : Index := 0#32
  ![v401.toNat, 128, 0]
def k0_off98 (i : grid0.Coords) (k0_t23 : Fin (k0_t23_loop i).trips) : Fin 4 → Nat :=
  let c2_i32_135 : BitVec 32 := 2#32
  let c0_i32_98 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_92 : BitVec 32 := 0#32
  let v202 : BitVec 1 := Scalar.cmpi .sgt v20 c0_i32_92
  let v203 : BitVec 32 := Scalar.extui v202
  let c0_i32_93 : BitVec 32 := 0#32
  let v204 : BitVec 1 := Scalar.cmpi .slt v20 c0_i32_93
  let v205 : BitVec 32 := Scalar.extui v204
  let v206 : BitVec 32 := Scalar.subi v203 v205
  let c2_i32_91 : BitVec 32 := 2#32
  let c0_i32_94 : BitVec 32 := 0#32
  let v207 : BitVec 1 := Scalar.cmpi .sgt c2_i32_91 c0_i32_94
  let v208 : BitVec 32 := Scalar.extui v207
  let c0_i32_95 : BitVec 32 := 0#32
  let v209 : BitVec 1 := Scalar.cmpi .slt c2_i32_91 c0_i32_95
  let v210 : BitVec 32 := Scalar.extui v209
  let v211 : BitVec 32 := Scalar.subi v208 v210
  let v212 : BitVec 1 := Scalar.cmpi .ne v206 v211
  let v213 : BitVec 32 := Scalar.remsi v20 c2_i32_91
  let c0_i32_96 : BitVec 32 := 0#32
  let v214 : BitVec 1 := Scalar.cmpi .ne v213 c0_i32_96
  let v215 : BitVec 1 := Scalar.andi v212 v214
  let v201 : BitVec 32 := Scalar.divsi v20 c2_i32_91
  let c1_i32_97 : BitVec 32 := 1#32
  let v216 : BitVec 32 := Scalar.subi v201 c1_i32_97
  let v217 : BitVec 32 := Scalar.select v215 v216 v201
  let v218 : BitVec 32 := Scalar.subi v217 c0_i32_98
  let c1_i32_99 : BitVec 32 := 1#32
  let v220 : BitVec 32 := Scalar.divsi v218 c1_i32_99
  let v221 : BitVec 32 := Scalar.muli v220 c1_i32_99
  let v222 : BitVec 32 := Scalar.addi c0_i32_98 v221
  let c1_i32_101 : BitVec 32 := 1#32
  let arg16 : BitVec 32 := Scf.iv v222 c1_i32_101 k0_t23
  let v287 : BitVec 32 := Scalar.muli c2_i32_135 arg16
  let c1_i32_136 : BitVec 32 := 1#32
  let v288 : BitVec 32 := Scalar.addi v287 c1_i32_136
  let v410 : Index := Scalar.indexCast v288
  let c2_216 : Index := 2#32
  let c0_217 : Index := 0#32
  let c0_218 : Index := 0#32
  ![v410.toNat, 2, 0, 0]
def k0_off99 (i : grid0.Coords) (k0_t23 : Fin (k0_t23_loop i).trips) : Fin 3 → Nat :=
  let c2_i32_135 : BitVec 32 := 2#32
  let c0_i32_98 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_92 : BitVec 32 := 0#32
  let v202 : BitVec 1 := Scalar.cmpi .sgt v20 c0_i32_92
  let v203 : BitVec 32 := Scalar.extui v202
  let c0_i32_93 : BitVec 32 := 0#32
  let v204 : BitVec 1 := Scalar.cmpi .slt v20 c0_i32_93
  let v205 : BitVec 32 := Scalar.extui v204
  let v206 : BitVec 32 := Scalar.subi v203 v205
  let c2_i32_91 : BitVec 32 := 2#32
  let c0_i32_94 : BitVec 32 := 0#32
  let v207 : BitVec 1 := Scalar.cmpi .sgt c2_i32_91 c0_i32_94
  let v208 : BitVec 32 := Scalar.extui v207
  let c0_i32_95 : BitVec 32 := 0#32
  let v209 : BitVec 1 := Scalar.cmpi .slt c2_i32_91 c0_i32_95
  let v210 : BitVec 32 := Scalar.extui v209
  let v211 : BitVec 32 := Scalar.subi v208 v210
  let v212 : BitVec 1 := Scalar.cmpi .ne v206 v211
  let v213 : BitVec 32 := Scalar.remsi v20 c2_i32_91
  let c0_i32_96 : BitVec 32 := 0#32
  let v214 : BitVec 1 := Scalar.cmpi .ne v213 c0_i32_96
  let v215 : BitVec 1 := Scalar.andi v212 v214
  let v201 : BitVec 32 := Scalar.divsi v20 c2_i32_91
  let c1_i32_97 : BitVec 32 := 1#32
  let v216 : BitVec 32 := Scalar.subi v201 c1_i32_97
  let v217 : BitVec 32 := Scalar.select v215 v216 v201
  let v218 : BitVec 32 := Scalar.subi v217 c0_i32_98
  let c1_i32_99 : BitVec 32 := 1#32
  let v220 : BitVec 32 := Scalar.divsi v218 c1_i32_99
  let v221 : BitVec 32 := Scalar.muli v220 c1_i32_99
  let v222 : BitVec 32 := Scalar.addi c0_i32_98 v221
  let c1_i32_101 : BitVec 32 := 1#32
  let arg16 : BitVec 32 := Scf.iv v222 c1_i32_101 k0_t23
  let v287 : BitVec 32 := Scalar.muli c2_i32_135 arg16
  let c1_i32_136 : BitVec 32 := 1#32
  let v288 : BitVec 32 := Scalar.addi v287 c1_i32_136
  let v421 : Index := Scalar.indexCast v288
  let c256_223 : Index := 256#32
  let c0_224 : Index := 0#32
  ![v421.toNat, 256, 0]
def k0_off100 (i : grid0.Coords) (k0_t23 : Fin (k0_t23_loop i).trips) : Fin 4 → Nat :=
  let c2_i32_135 : BitVec 32 := 2#32
  let c0_i32_98 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_92 : BitVec 32 := 0#32
  let v202 : BitVec 1 := Scalar.cmpi .sgt v20 c0_i32_92
  let v203 : BitVec 32 := Scalar.extui v202
  let c0_i32_93 : BitVec 32 := 0#32
  let v204 : BitVec 1 := Scalar.cmpi .slt v20 c0_i32_93
  let v205 : BitVec 32 := Scalar.extui v204
  let v206 : BitVec 32 := Scalar.subi v203 v205
  let c2_i32_91 : BitVec 32 := 2#32
  let c0_i32_94 : BitVec 32 := 0#32
  let v207 : BitVec 1 := Scalar.cmpi .sgt c2_i32_91 c0_i32_94
  let v208 : BitVec 32 := Scalar.extui v207
  let c0_i32_95 : BitVec 32 := 0#32
  let v209 : BitVec 1 := Scalar.cmpi .slt c2_i32_91 c0_i32_95
  let v210 : BitVec 32 := Scalar.extui v209
  let v211 : BitVec 32 := Scalar.subi v208 v210
  let v212 : BitVec 1 := Scalar.cmpi .ne v206 v211
  let v213 : BitVec 32 := Scalar.remsi v20 c2_i32_91
  let c0_i32_96 : BitVec 32 := 0#32
  let v214 : BitVec 1 := Scalar.cmpi .ne v213 c0_i32_96
  let v215 : BitVec 1 := Scalar.andi v212 v214
  let v201 : BitVec 32 := Scalar.divsi v20 c2_i32_91
  let c1_i32_97 : BitVec 32 := 1#32
  let v216 : BitVec 32 := Scalar.subi v201 c1_i32_97
  let v217 : BitVec 32 := Scalar.select v215 v216 v201
  let v218 : BitVec 32 := Scalar.subi v217 c0_i32_98
  let c1_i32_99 : BitVec 32 := 1#32
  let v220 : BitVec 32 := Scalar.divsi v218 c1_i32_99
  let v221 : BitVec 32 := Scalar.muli v220 c1_i32_99
  let v222 : BitVec 32 := Scalar.addi c0_i32_98 v221
  let c1_i32_101 : BitVec 32 := 1#32
  let arg16 : BitVec 32 := Scf.iv v222 c1_i32_101 k0_t23
  let v287 : BitVec 32 := Scalar.muli c2_i32_135 arg16
  let c1_i32_136 : BitVec 32 := 1#32
  let v288 : BitVec 32 := Scalar.addi v287 c1_i32_136
  let v430 : Index := Scalar.indexCast v288
  let c3_229 : Index := 3#32
  let c0_230 : Index := 0#32
  let c0_231 : Index := 0#32
  ![v430.toNat, 3, 0, 0]
def k0_off101 (i : grid0.Coords) (k0_t23 : Fin (k0_t23_loop i).trips) : Fin 3 → Nat :=
  let c2_i32_135 : BitVec 32 := 2#32
  let c0_i32_98 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_92 : BitVec 32 := 0#32
  let v202 : BitVec 1 := Scalar.cmpi .sgt v20 c0_i32_92
  let v203 : BitVec 32 := Scalar.extui v202
  let c0_i32_93 : BitVec 32 := 0#32
  let v204 : BitVec 1 := Scalar.cmpi .slt v20 c0_i32_93
  let v205 : BitVec 32 := Scalar.extui v204
  let v206 : BitVec 32 := Scalar.subi v203 v205
  let c2_i32_91 : BitVec 32 := 2#32
  let c0_i32_94 : BitVec 32 := 0#32
  let v207 : BitVec 1 := Scalar.cmpi .sgt c2_i32_91 c0_i32_94
  let v208 : BitVec 32 := Scalar.extui v207
  let c0_i32_95 : BitVec 32 := 0#32
  let v209 : BitVec 1 := Scalar.cmpi .slt c2_i32_91 c0_i32_95
  let v210 : BitVec 32 := Scalar.extui v209
  let v211 : BitVec 32 := Scalar.subi v208 v210
  let v212 : BitVec 1 := Scalar.cmpi .ne v206 v211
  let v213 : BitVec 32 := Scalar.remsi v20 c2_i32_91
  let c0_i32_96 : BitVec 32 := 0#32
  let v214 : BitVec 1 := Scalar.cmpi .ne v213 c0_i32_96
  let v215 : BitVec 1 := Scalar.andi v212 v214
  let v201 : BitVec 32 := Scalar.divsi v20 c2_i32_91
  let c1_i32_97 : BitVec 32 := 1#32
  let v216 : BitVec 32 := Scalar.subi v201 c1_i32_97
  let v217 : BitVec 32 := Scalar.select v215 v216 v201
  let v218 : BitVec 32 := Scalar.subi v217 c0_i32_98
  let c1_i32_99 : BitVec 32 := 1#32
  let v220 : BitVec 32 := Scalar.divsi v218 c1_i32_99
  let v221 : BitVec 32 := Scalar.muli v220 c1_i32_99
  let v222 : BitVec 32 := Scalar.addi c0_i32_98 v221
  let c1_i32_101 : BitVec 32 := 1#32
  let arg16 : BitVec 32 := Scf.iv v222 c1_i32_101 k0_t23
  let v287 : BitVec 32 := Scalar.muli c2_i32_135 arg16
  let c1_i32_136 : BitVec 32 := 1#32
  let v288 : BitVec 32 := Scalar.addi v287 c1_i32_136
  let v441 : Index := Scalar.indexCast v288
  let c384_236 : Index := 384#32
  let c0_237 : Index := 0#32
  ![v441.toNat, 384, 0]
def k0_cond6 (i : grid0.Coords) : BitVec 1 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c2_i32_102 : BitVec 32 := 2#32
  let c0_i32_103 : BitVec 32 := 0#32
  let v225 : BitVec 1 := Scalar.cmpi .eq c2_i32_102 c0_i32_103
  let c1_i32_104 : BitVec 32 := 1#32
  let v226 : BitVec 32 := Scalar.select v225 c1_i32_104 c2_i32_102
  let v227 : BitVec 32 := Scalar.remsi v20 v226
  let c0_i32_106 : BitVec 32 := 0#32
  let v229 : BitVec 1 := Scalar.cmpi .slt v227 c0_i32_106
  let c0_i32_107 : BitVec 32 := 0#32
  let v230 : BitVec 1 := Scalar.cmpi .slt v226 c0_i32_107
  let v231 : BitVec 1 := Scalar.xori v229 v230
  let c0_i32_105 : BitVec 32 := 0#32
  let v228 : BitVec 1 := Scalar.cmpi .ne v227 c0_i32_105
  let v232 : BitVec 1 := Scalar.andi v231 v228
  let v233 : BitVec 32 := Scalar.addi v227 v226
  let v234 : BitVec 32 := Scalar.select v232 v233 v227
  let c1_i32_108 : BitVec 32 := 1#32
  let v235 : BitVec 1 := Scalar.cmpi .eq v234 c1_i32_108
  let v236 : BitVec 32 := Scalar.extui v235
  let c0_i32_109 : BitVec 32 := 0#32
  let v237 : BitVec 1 := Scalar.cmpi .ne v236 c0_i32_109
  v237

def k0_off102 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_135 : BitVec 32 := 1#32
  let v287 : BitVec 32 := Scalar.subi v20 c1_i32_135
  let v288 : Index := Scalar.indexCast v287
  let c0_136 : Index := 0#32
  let c0_137 : Index := 0#32
  let c0_138 : Index := 0#32
  ![v288.toNat, 0, 0, 0]
def k0_off103 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_135 : BitVec 32 := 1#32
  let v287 : BitVec 32 := Scalar.subi v20 c1_i32_135
  let v299 : Index := Scalar.indexCast v287
  let c0_143 : Index := 0#32
  let c0_144 : Index := 0#32
  ![v299.toNat, 0, 0]
def k0_off104 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_135 : BitVec 32 := 1#32
  let v287 : BitVec 32 := Scalar.subi v20 c1_i32_135
  let v308 : Index := Scalar.indexCast v287
  let c1_149 : Index := 1#32
  let c0_150 : Index := 0#32
  let c0_151 : Index := 0#32
  ![v308.toNat, 1, 0, 0]
def k0_off105 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_135 : BitVec 32 := 1#32
  let v287 : BitVec 32 := Scalar.subi v20 c1_i32_135
  let v319 : Index := Scalar.indexCast v287
  let c128_156 : Index := 128#32
  let c0_157 : Index := 0#32
  ![v319.toNat, 128, 0]
def k0_off106 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_135 : BitVec 32 := 1#32
  let v287 : BitVec 32 := Scalar.subi v20 c1_i32_135
  let v328 : Index := Scalar.indexCast v287
  let c2_162 : Index := 2#32
  let c0_163 : Index := 0#32
  let c0_164 : Index := 0#32
  ![v328.toNat, 2, 0, 0]
def k0_off107 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_135 : BitVec 32 := 1#32
  let v287 : BitVec 32 := Scalar.subi v20 c1_i32_135
  let v339 : Index := Scalar.indexCast v287
  let c256_169 : Index := 256#32
  let c0_170 : Index := 0#32
  ![v339.toNat, 256, 0]
def k0_off108 (i : grid0.Coords) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_135 : BitVec 32 := 1#32
  let v287 : BitVec 32 := Scalar.subi v20 c1_i32_135
  let v348 : Index := Scalar.indexCast v287
  let c3_175 : Index := 3#32
  let c0_176 : Index := 0#32
  let c0_177 : Index := 0#32
  ![v348.toNat, 3, 0, 0]
def k0_off109 (i : grid0.Coords) : Fin 3 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_135 : BitVec 32 := 1#32
  let v287 : BitVec 32 := Scalar.subi v20 c1_i32_135
  let v359 : Index := Scalar.indexCast v287
  let c384_182 : Index := 384#32
  let c0_183 : Index := 0#32
  ![v359.toNat, 384, 0]
def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4096x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S4096x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S4096x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Proof.Spec.lean ====
/- The arithmetic the layer's projections are made of, over the extended reals and free of any program's shapes: the
   inverse root mean square of a row, and a normalised row times a column. -/
module

public import Idealize.ShloMosaic.Lib.Pointwise

@[expose] public section

noncomputable section

namespace Cert.Spec

open Idealize.ShloMosaic

/-- The inverse root mean square of a row `x`: `1 / √((∑ x²) / d + ε)`, where `d` is the row's length as a number and `ε`
    the layer's 1e-6. -/
def invRms {n : ℕ} (d : EReal) (x : Fin n → EReal) : EReal :=
  Ideal.rsqrt (Ideal.div (∑ k, x k * x k) d + Ideal.ofBits .f32 0x358637BD#32)

/-- A row `x` divided by its root mean square and scaled by `g`, at position `k`. -/
def rms {n : ℕ} (d : EReal) (x g : Fin n → EReal) (k : Fin n) : EReal := x k * invRms d x * g k

/-- A normalised row times a column `w`. -/
def rmsDot {n : ℕ} (d : EReal) (x g w : Fin n → EReal) : EReal := ∑ k, rms d x g k * w k

/-- `x / (1 + e^(-x))`. -/
def silu (x : EReal) : EReal := x * Ideal.logistic x

/-- The spatial mix at position `p` of a chunk of 128: the values at `p` and before it, weighted, and the bias. -/
def mix (p : Fin 128) (w v : Fin 128 → EReal) (β : EReal) : EReal := (∑ q : Fin 128, (if q ≤ p then w q else 0) * v q) + β

/-- The score of a query `x`, normalised over its 256 numbers under the gain `g`, against the key `k`. -/
def score (x g k : Fin 256 → EReal) : EReal :=
  ∑ d, rms (Ideal.ofBits .f32 0x43800000#32) x g d * Ideal.ofBits .f32 0x3D800000#32 * k d

/-- A branch's output `o` under its gate, times a column of the branch's weights. -/
def branch (o gate w : Fin 1024 → EReal) : EReal := ∑ j, o j * silu (gate j) * w j

/-- The three branches joined under their gates. -/
def join (ra rb rc a b c : EReal) : EReal :=
  Ideal.logistic ra * a + Ideal.logistic rb * b + Ideal.logistic rc * c

end Cert.Spec

end
-- ==== Proof.MemPure.lean ====
/- The projection of the memory tokens to keys and values: what the kernel's body stores and what the reference computes,
   each read at an index as the arithmetic of Spec.lean. -/
module

public import proofs.«01_k».proof.Proof.Spec
public import proofs.«01_k».proof.Proof.Gen.MemKVIdeal.Skeleton
public import proofs.«01_k».proof.Proof.Gen.MemKVRefIdeal.Read

@[expose] public section

set_option maxRecDepth 16384

noncomputable section

namespace Cert.MemKVIdeal.Pure

open Cert.MemKVIdeal Cert.MemKVIdeal.Gen Cert.Spec Idealize.ShloMosaic Idealize.ShloMosaic.TcCoe Idealize.SL.Sem

/-- The body's projection: row `r` of the block, normalised, times column `c` of the weights. -/
theorem proj_apply (x : Vec Ideal S256x2048 .f32) (g : Vec Ideal S1x2048 .f32) (w : Vec Ideal S2048x2048 .bf16)
    (r : Fin 256) (c : Fin 2048) :
    k0_pay5 (F := Ideal) x g w (ix2 r c : S256x2048.Idx)
      = rmsDot (Ideal.ofBits .f32 0x45000000#32) (fun k : Fin 2048 => x (ix2 r k)) (fun k => g (ix2 0 k)) (fun k => w (ix2 k c)) := by
  pointwise [k0_pay5]
  rfl

/-- A head of the keys, normalised again: the last head's store, from the head's values. -/
theorem head_apply (z : Vec Ideal S256x256 .f32) (gk : Vec Ideal S1x256 .f32) (r e : Fin 256) :
    k0_pay1 (F := Ideal) z gk (ix2 r e : S256x256.Idx)
      = rms (Ideal.ofBits .f32 0x43800000#32) (fun k : Fin 256 => z (ix2 r k)) (fun k => gk (ix2 0 k)) e := by
  pointwise [k0_pay1]
  rfl

end Cert.MemKVIdeal.Pure

namespace Cert.MemKVRefIdeal.Pure

open Cert.MemKVRefIdeal Cert.MemKVRefIdeal.Gen Cert.MemKVRefIdeal.Read Cert.Spec Idealize.ShloMosaic Idealize.ShloMosaic.TcCoe Idealize.SL.Sem

/-- The reference's projection of token `r` of sequence `b`. -/
theorem proj_apply (x : FVec Ideal S2x256x2048 .f32) (g : FVec Ideal S2048 .f32) (w : FVec Ideal S2048x2048 .f32)
    (b : Fin 2) (r : Fin 256) (c : Fin 2048) :
    val_main_v13 (F := Ideal) x g w (ix3 b r c : S2x256x2048.Idx)
      = rmsDot (Ideal.ofBits .f32 0x45000000#32) (fun k : Fin 2048 => x (ix3 b r k)) (fun k => g (ix1 k)) (fun k => w (ix2 k c)) := by
  unfold val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise
  rfl

/-- The reference's keys: token `p` of the two sequences laid one after the other, column `q` of the four heads laid side
    by side, as the projection of that token normalised over its head. -/
theorem keys_apply (x : FVec Ideal S2x256x2048 .f32) (g : FVec Ideal S2048 .f32) (w : FVec Ideal S2048x2048 .f32) (gk : FVec Ideal S256 .f32)
    (p : Fin 512) (q : Fin 1024) :
    val_main_v30 (F := Ideal) x g w gk (ix2 p q : S512x1024.Idx)
      = rms (Ideal.ofBits .f32 0x43800000#32)
          (fun e : Fin 256 => val_main_v13 (F := Ideal) x g w (ix3 ⟨p.val / 256, by omega⟩ ⟨p.val % 256, by omega⟩ ⟨q.val / 256 * 256 + e.val, by omega⟩ : S2x256x2048.Idx))
          (fun e => gk (ix1 e)) ⟨q.val % 256, by omega⟩ := by
  unfold val_main_v30 val_main_v29 val_main_v28 val_main_v27 val_main_v26 val_main_v25 val_main_v24 val_main_v23 val_main_v22 val_main_v21 val_main_v20 val_main_v19 val_main_v18 val_main_v17 val_main_v16 val_main_v14 val_main_cst_2 val_main_cst_3 val_main_cst_4
  generalize val_main_v13 (F := Ideal) x g w = z
  pointwise
  simp only [rms, invRms, Nat.div_add_mod']

/-- The reference's values: the other half of the projection. -/
theorem values_apply (x : FVec Ideal S2x256x2048 .f32) (g : FVec Ideal S2048 .f32) (w : FVec Ideal S2048x2048 .f32)
    (p : Fin 512) (q : Fin 1024) :
    val_main_v31 (F := Ideal) x g w (ix2 p q : S512x1024.Idx)
      = val_main_v13 (F := Ideal) x g w (ix3 ⟨p.val / 256, by omega⟩ ⟨p.val % 256, by omega⟩ ⟨1024 + q.val, by omega⟩ : S2x256x2048.Idx) := by
  unfold val_main_v31 val_main_v15
  generalize val_main_v13 (F := Ideal) x g w = z
  pointwise

end Cert.MemKVRefIdeal.Pure

end
-- ==== Proof.MemValue.lean ====
/- The arrays of keys and values the kernel leaves: every one of them is the reference's, index by index. -/
module

public import proofs.«01_k».proof.Proof.MemPure
public import proofs.«01_k».proof.Proof.Gen.MemKVIdeal.Value
public import Idealize.ShloMosaic.Lib.Pipeline.ValueKit

@[expose] public section

set_option maxRecDepth 16384

noncomputable section

namespace Cert.MemKVIdeal.Arrays

open Cert.MemKVIdeal Cert.MemKVIdeal.Gen Cert.MemKVIdeal.Pure Cert.Spec Idealize.ShloMosaic Idealize.ShloMosaic.TcCoe Idealize.SL.Sem
open Idealize.ShloMosaic.Pipeline (Dat)

variable (m : (ℓ : Loc nD τ sig) → Buf (Elt Ideal) ℓ)

/-- Grid point `t` works on row block `t` of the tokens and of the four outputs; the other operands are whole. -/
theorem idx : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![t.val, 0] ∧ win0_6.index t = ![t.val, 0] ∧ win0_7.index t = ![t.val, 0] ∧ t.val < 2 :=
  (by decide +kernel : ∀ t : Fin grid0.N, _)

/-- Block `t` of the tokens, at row `r`: token `r` of sequence `t`. -/
theorem tokens_block (c : Dev nD) (t : Fin cfg0.N) (ht : t.val < 2) (r : Fin 256) (k : Fin 2048) :
    iblk m c 0 t (ix2 r k : S256x2048.Idx) = m ((c : Thread nD τ).loc main_arg0) (ix3 ⟨t.val, ht⟩ r k : S2x256x2048.Idx) := by
  blk_simp [iblk]
  entry_read
  pointwise
  blk_ext [idx t]

/-- The weights of the token norm. -/
theorem norm_block (c : Dev nD) (t : Fin cfg0.N) (k : Fin 2048) :
    iblk m c 1 t (ix2 0 k : S1x2048.Idx) = m ((c : Thread nD τ).loc main_arg1) (ix1 k : S2048.Idx) := by
  blk_simp [iblk]
  entry_read
  pointwise
  blk_ext [idx t]

/-- The projection's weights. -/
theorem weights_block (c : Dev nD) (t : Fin cfg0.N) (k q : Fin 2048) :
    iblk m c 2 t (ix2 k q : S2048x2048.Idx) = m ((c : Thread nD τ).loc main_arg2) (ix2 k q : S2048x2048.Idx) := by
  blk_simp [iblk]
  entry_read
  pointwise
  blk_ext [idx t]

/-- The weights of the head norm. -/
theorem headnorm_block (c : Dev nD) (t : Fin cfg0.N) (k : Fin 256) :
    iblk m c 3 t (ix2 0 k : S1x256.Idx) = m ((c : Thread nD τ).loc main_arg3) (ix1 k : S256.Idx) := by
  blk_simp [iblk]
  entry_read
  pointwise
  blk_ext [idx t]

/-- The block's projection as a 256 × 2048 table: the reference's projection of the tokens the block holds. -/
theorem proj_block (c : Dev nD) (t : Fin cfg0.N) (ht : t.val < 2) (r : Fin 256) (q : Fin 2048) :
    k0_pay5 (F := Ideal) (iblk m c 0 t) (iblk m c 1 t) (iblk m c 2 t) (ix2 r q : S256x2048.Idx)
      = Cert.MemKVRefIdeal.Read.val_main_v13 (F := Ideal) (m ((c : Thread nD τ).loc main_arg0)) (m ((c : Thread nD τ).loc main_arg1))
          (m ((c : Thread nD τ).loc main_arg2)) (ix3 ⟨t.val, ht⟩ r q : Cert.MemKVRefIdeal.S2x256x2048.Idx) := by
  rw [proj_apply]
  refine Eq.trans ?_ (Cert.MemKVRefIdeal.Pure.proj_apply _ _ _ ⟨t.val, ht⟩ r q).symm
  refine congr (congr (congrArg (rmsDot _) (funext fun k => ?_)) (funext fun k => ?_)) (funext fun k => ?_)
  · exact tokens_block m c t ht r k
  · exact norm_block m c t k
  · exact weights_block m c t k q

private theorem zero2 : (![0, 0] : Fin 2 → ℕ) = fun _ => 0 := by decide

/-- A head's store at row `i`, column `e` of the head, where the head is columns `o, …, o + 255` of the projection `z`. -/
theorem head_at (zs : FVec Ideal S256x256 .f32) (z : FVec Ideal S256x2048 .f32) (gk : Vec Ideal S1x256 .f32) (o : ℕ) (ho : o + 256 ≤ 2048)
    (hz : ∀ i e : Fin 256, zs (ix2 i e : S256x256.Idx) = z (ix2 i ⟨o + e.val, by omega⟩ : S256x2048.Idx))
    (j : S256x256.Idx) (r : Fin 256) (q : Fin 1024) (hr : (j 0).val = r.val) (hq : q.val = o + (j 1).val) (hd : q.val / 256 * 256 = o) :
    k0_pay1 (F := Ideal) zs gk j
      = rms (Ideal.ofBits .f32 0x43800000#32)
          (fun e : Fin 256 => z (ix2 r ⟨q.val / 256 * 256 + e.val, by omega⟩ : S256x2048.Idx))
          (fun e => gk (ix2 0 e)) ⟨q.val % 256, by omega⟩ := by
  idx_vars j
  obtain rfl : j0 = r := Fin.ext hr
  have hj1 : j1 = ⟨q.val % 256, by omega⟩ := Fin.ext (show j1.val = q.val % 256 by have : q.val = o + j1.val := hq; omega)
  rw [head_apply, ← hj1]
  refine congrArg (fun f => rms _ f _ j1) (funext fun e => ?_)
  rw [hz]
  exact congrArg z (congrArg (ix2 j0) (Fin.ext (show o + e.val = q.val / 256 * 256 + e.val by omega)))

/-- The stores of the first three heads, which differ from the last one's only in the columns they take. -/
theorem head0_eq (x : Vec Ideal S256x2048 .f32) (g : Vec Ideal S1x2048 .f32) (w : Vec Ideal S2048x2048 .bf16) (gk : Vec Ideal S1x256 .f32) :
    k0_pay6 (F := Ideal) x g w gk = k0_pay1 (F := Ideal) (extractStridedSlice S256x256 ![0, 0] (k0_pay5 (F := Ideal) x g w) slices_S256x2048_o0_0_S256x256) gk := rfl

theorem head1_eq (z : FVec Ideal S256x2048 .f32) (gk : Vec Ideal S1x256 .f32) :
    k0_pay8 (F := Ideal) z gk = k0_pay1 (F := Ideal) (extractStridedSlice S256x256 ![0, 256] z slices_S256x2048_o0_256_S256x256) gk := rfl

theorem head2_eq (z : FVec Ideal S256x2048 .f32) (gk : Vec Ideal S1x256 .f32) :
    k0_pay10 (F := Ideal) z gk = k0_pay1 (F := Ideal) (extractStridedSlice S256x256 ![0, 512] z slices_S256x2048_o0_512_S256x256) gk := rfl

/-- What the body leaves of the keys at row `r`, column `q`: the block's projection normalised over the head of `q`. -/
theorem keys_block (x : Vec Ideal S256x2048 .f32) (g : Vec Ideal S1x2048 .f32) (w : Vec Ideal S2048x2048 .bf16) (gk : Vec Ideal S1x256 .f32)
    (j : S256x1024.Idx) (r : Fin 256) (q : Fin 1024) (hr : (j 0).val = r.val) (hq : (j 1).val = q.val) :
    out0_4 (F := Ideal) x g w gk j
      = rms (Ideal.ofBits .f32 0x43800000#32)
          (fun e : Fin 256 => k0_pay5 (F := Ideal) x g w (ix2 r ⟨q.val / 256 * 256 + e.val, by omega⟩ : S256x2048.Idx))
          (fun e => gk (ix2 0 e)) ⟨q.val % 256, by omega⟩ := by
  unfold_out out0_4
  rw [View.ld_unit_zero zero2, View.ld_unit_zero zero2, View.ld_unit_zero zero2, View.ld_unit_zero zero2]
  rw [head0_eq, head1_eq, head2_eq]
  canon_tiles y h
  · exact head_at _ _ gk 768 (by omega) (fun i e => by pointwise [k0_pay12]) y r q (by omega) (by omega) (by omega)
  · exact head_at _ _ gk 512 (by omega) (fun i e => by pointwise) y r q (by omega) (by omega) (by omega)
  · exact head_at _ _ gk 256 (by omega) (fun i e => by pointwise) y r q (by omega) (by omega) (by omega)
  · exact head_at _ _ gk 0 (by omega) (fun i e => by pointwise) y r q (by omega) (by omega) (by omega)

/-- The rounded copy of the keys holds the same numbers. -/
theorem keys_copy_block (x : Vec Ideal S256x2048 .f32) (g : Vec Ideal S1x2048 .f32) (w : Vec Ideal S2048x2048 .bf16) (gk : Vec Ideal S1x256 .f32) :
    out0_6 (F := Ideal) x g w gk = out0_4 (F := Ideal) x g w gk := rfl

/-- What the body leaves of the values: the second half of the block's projection. -/
theorem values_block (x : Vec Ideal S256x2048 .f32) (g : Vec Ideal S1x2048 .f32) (w : Vec Ideal S2048x2048 .bf16) (gk : Vec Ideal S1x256 .f32)
    (j : S256x1024.Idx) (r : Fin 256) (q : Fin 1024) (hr : (j 0).val = r.val) (hq : (j 1).val = q.val) :
    out0_5 (F := Ideal) x g w gk j = k0_pay5 (F := Ideal) x g w (ix2 r ⟨1024 + q.val, by omega⟩ : S256x2048.Idx) := by
  unfold_out out0_5
  rw [View.ld_unit_zero zero2, View.ld_unit_zero zero2, View.ld_unit_zero zero2]
  rw [View.canon_unit_zero zero2]
  idx_vars j
  obtain rfl : j0 = r := Fin.ext hr
  obtain rfl : j1 = q := Fin.ext hq
  generalize k0_pay5 (F := Ideal) x g w = z
  pointwise [k0_pay3]

theorem values_copy_block (x : Vec Ideal S256x2048 .f32) (g : Vec Ideal S1x2048 .f32) (w : Vec Ideal S2048x2048 .bf16) (gk : Vec Ideal S1x256 .f32) :
    out0_7 (F := Ideal) x g w gk = out0_5 (F := Ideal) x g w gk := rfl

/-- The reference's keys, as a function of the kernel's arguments. -/
abbrev refKeys (c : Dev nD) : FVec Ideal S512x1024 .f32 :=
  Cert.MemKVRefIdeal.Read.val_main_v30 (F := Ideal) (m ((c : Thread nD τ).loc main_arg0)) (m ((c : Thread nD τ).loc main_arg1))
    (m ((c : Thread nD τ).loc main_arg2)) (m ((c : Thread nD τ).loc main_arg3))

/-- The reference's values, as a function of the kernel's arguments. -/
abbrev refValues (c : Dev nD) : FVec Ideal S512x1024 .f32 :=
  Cert.MemKVRefIdeal.Read.val_main_v31 (F := Ideal) (m ((c : Thread nD τ).loc main_arg0)) (m ((c : Thread nD τ).loc main_arg1))
    (m ((c : Thread nD τ).loc main_arg2))

/-- Point `t` writes the reference's keys at row `256 t + y 0`. -/
theorem keys_point (c : Dev nD) (t : Fin cfg0.N) (y : S256x1024.Idx) (j : S512x1024.Idx) (h0 : (j 0).val = t.val * 256 + (y 0).val) (h1 : (j 1).val = (y 1).val) :
    out0_4 (F := Ideal) (iblk m c 0 t) (iblk m c 1 t) (iblk m c 2 t) (iblk m c 3 t) y = refKeys m c j := by
  have ht : t.val < 2 := (idx t).2.2.2.2.2.2.2.2
  idx_vars j
  have hy0 : (y 0).val < 256 := (y 0).isLt
  have h0' : j0.val = t.val * 256 + (y 0).val := h0
  rw [keys_block _ _ _ _ y ⟨(y 0).val, hy0⟩ j1 rfl h1.symm]
  refine Eq.trans ?_ (Cert.MemKVRefIdeal.Pure.keys_apply _ _ _ _ j0 j1).symm
  have e0 : (⟨j0.val / 256, by omega⟩ : Fin 2) = ⟨t.val, ht⟩ := Fin.ext (show j0.val / 256 = t.val by omega)
  have e1 : (⟨j0.val % 256, by omega⟩ : Fin 256) = ⟨(y 0).val, hy0⟩ := Fin.ext (show j0.val % 256 = (y 0).val by omega)
  rw [e0, e1]
  refine congrFun (congr (congrArg (rms _) (funext fun e => ?_)) (funext fun e => ?_)) _
  · exact proj_block m c t ht _ _
  · exact headnorm_block m c t e

/-- Point `t` writes the reference's values at row `256 t + y 0`. -/
theorem values_point (c : Dev nD) (t : Fin cfg0.N) (y : S256x1024.Idx) (j : S512x1024.Idx) (h0 : (j 0).val = t.val * 256 + (y 0).val) (h1 : (j 1).val = (y 1).val) :
    out0_5 (F := Ideal) (iblk m c 0 t) (iblk m c 1 t) (iblk m c 2 t) (iblk m c 3 t) y = refValues m c j := by
  have ht : t.val < 2 := (idx t).2.2.2.2.2.2.2.2
  idx_vars j
  have hy0 : (y 0).val < 256 := (y 0).isLt
  have h0' : j0.val = t.val * 256 + (y 0).val := h0
  rw [values_block _ _ _ _ y ⟨(y 0).val, hy0⟩ j1 rfl h1.symm]
  refine Eq.trans ?_ (Cert.MemKVRefIdeal.Pure.values_apply _ _ _ j0 j1).symm
  have e0 : (⟨j0.val / 256, by omega⟩ : Fin 2) = ⟨t.val, ht⟩ := Fin.ext (show j0.val / 256 = t.val by omega)
  have e1 : (⟨j0.val % 256, by omega⟩ : Fin 256) = ⟨(y 0).val, hy0⟩ := Fin.ext (show j0.val % 256 = (y 0).val by omega)
  rw [e0, e1]
  exact proj_block m c t ht _ _

/-- The array of keys after the run. -/
theorem keys_final (c : Dev nD) : (dats m 0 c).arrAt 4 cfg0.N = refKeys m c := by
  refine (dats m 0 c).arrAt_eq_of_covers 4 _ (by decide +kernel) fun t _ y => ?_
  blk_simp
  rw [after0_4]
  refine keys_point m c t y _ ?_ ?_ <;> (blk_simp [idx t] <;> try omega)

/-- The array of values after the run. -/
theorem values_final (c : Dev nD) : (dats m 0 c).arrAt 5 cfg0.N = refValues m c := by
  refine (dats m 0 c).arrAt_eq_of_covers 5 _ (by decide +kernel) fun t _ y => ?_
  blk_simp
  rw [after0_5]
  refine values_point m c t y _ ?_ ?_ <;> (blk_simp [idx t] <;> try omega)

/-- The rounded copies: over the extended reals a change of format is the identity. -/
theorem keys_copy_final (c : Dev nD) : (dats m 0 c).arrAt 6 cfg0.N = refKeys m c := by
  refine (dats m 0 c).arrAt_eq_of_covers 6 _ (by decide +kernel) fun t _ y => ?_
  blk_simp
  rw [after0_6, keys_copy_block]
  refine keys_point m c t y _ ?_ ?_ <;> (blk_simp [idx t] <;> try omega)

theorem values_copy_final (c : Dev nD) : (dats m 0 c).arrAt 7 cfg0.N = refValues m c := by
  refine (dats m 0 c).arrAt_eq_of_covers 7 _ (by decide +kernel) fun t _ y => ?_
  blk_simp
  rw [after0_7, values_copy_block]
  refine values_point m c t y _ ?_ ?_ <;> (blk_simp [idx t] <;> try omega)

end Cert.MemKVIdeal.Arrays

end
-- ==== Proof.Softmax.lean ====
/- Attention over finite scores, over the extended reals: dividing the weighted sum by the sum of the weights is weighting by
   the divided weights.  And the finiteness of scores computed from finite numbers. -/
module

public import proofs.«01_k».proof.Proof.Spec
public import Idealize.ShloMosaic.Lib.IdealHost

@[expose] public section

noncomputable section

namespace Cert.Spec

open Idealize.ShloMosaic

/-- A real number among the extended reals. -/
def IsReal (x : EReal) : Prop := ∃ r : ℝ, x = (r : EReal)

theorem IsReal.mul {x y : EReal} : IsReal x → IsReal y → IsReal (x * y) := by
  rintro ⟨a, rfl⟩ ⟨b, rfl⟩; exact ⟨a * b, rfl⟩

theorem IsReal.add {x y : EReal} : IsReal x → IsReal y → IsReal (x + y) := by
  rintro ⟨a, rfl⟩ ⟨b, rfl⟩; exact ⟨a + b, rfl⟩

theorem IsReal.sum {ι : Type} (t : Finset ι) {f : ι → EReal} (h : ∀ k ∈ t, IsReal (f k)) : IsReal (∑ k ∈ t, f k) := by
  classical
  induction t using Finset.induction_on with
  | empty => exact ⟨0, rfl⟩
  | insert a t ha ih =>
    rw [Finset.sum_insert ha]
    exact (h a (Finset.mem_insert_self a t)).add (ih fun k hk => h k (Finset.mem_insert_of_mem hk))

theorem IsReal.of_abs_lt {x : EReal} (h : x ≠ ⊤) (h' : x ≠ ⊥) : IsReal x := ⟨x.toReal, (EReal.coe_toReal h h').symm⟩

theorem IsReal.ne_top {x : EReal} : IsReal x → x ≠ ⊤ := by rintro ⟨r, rfl⟩; exact EReal.coe_ne_top r

theorem IsReal.ne_bot {x : EReal} : IsReal x → x ≠ ⊥ := by rintro ⟨r, rfl⟩; exact EReal.coe_ne_bot r

/-- The words of the layer's constants: 256, a sixteenth, the norm's 1e-6 and minus infinity. -/
theorem real_256 : Ideal.ofBits .f32 0x43800000#32 = ((256 : ℝ) : EReal) := by
  simp [Ideal.ofBits, Ideal.ieee, -EReal.coe_mul]; norm_num

theorem real_sixteenth : Ideal.ofBits .f32 0x3D800000#32 = ((1 / 16 : ℝ) : EReal) := by
  simp [Ideal.ofBits, Ideal.ieee, -EReal.coe_mul]; norm_num

theorem real_eps : ∃ e : ℝ, 0 < e ∧ Ideal.ofBits .f32 0x358637BD#32 = (e : EReal) := by
  refine ⟨8796093 / 8796093022208, by norm_num, ?_⟩
  simp [Ideal.ofBits, Ideal.ieee, -EReal.coe_mul]
  norm_num

theorem neg_infinity : Ideal.ofBits .f32 0xFF800000#32 = ⊥ := by
  simp [Ideal.ofBits, Ideal.ieee]

theorem nonneg_exp (x : EReal) : 0 ≤ Ideal.exp x := by
  induction x with
  | bot => exact le_rfl
  | top => exact le_top
  | coe r => exact EReal.coe_nonneg.mpr (Real.exp_pos r).le

/-- The largest of the scores, from minus infinity on. -/
def rowMax {n : ℕ} (s : Fin n → EReal) : EReal := Finset.fold max (Ideal.ofBits .f32 0xFF800000#32) s Finset.univ

theorem max_rowMax {n : ℕ} (s : Fin n → EReal) : max (Ideal.ofBits .f32 0xFF800000#32) (rowMax s) = rowMax s :=
  max_eq_right (Finset.le_fold_max _ |>.mpr (Or.inl le_rfl))

/-- The weight of position `k` before it is divided: the exponential of its score less the largest. -/
def weight {n : ℕ} (s : Fin n → EReal) (k : Fin n) : EReal := Ideal.exp (s k - rowMax s)

/-- The attention of scores `s` over values `v`: the weighted sum divided by the weights' sum. -/
def attend {n : ℕ} (s v : Fin n → EReal) : EReal := Ideal.div (∑ k, weight s k * v k) (∑ k, weight s k)

/-- Of finitely many finite scores one is the largest, so its weight is one. -/
theorem sum_weight_ne_zero {n : ℕ} (hn : 0 < n) (s : Fin n → EReal) (hs : ∀ k, IsReal (s k)) : (∑ k, weight s k) ≠ 0 := by
  obtain ⟨k, hk⟩ : ∃ k, rowMax s ≤ s k := by
    rcases (Finset.le_fold_max (rowMax s)).mp (le_refl (rowMax s)) with h | ⟨k, -, h⟩
    · exact ⟨⟨0, hn⟩, h.trans (neg_infinity ▸ bot_le)⟩
    · exact ⟨k, h⟩
  have hge : s k ≤ rowMax s := (Finset.le_fold_max _).mpr (Or.inr ⟨k, Finset.mem_univ k, le_rfl⟩)
  have hw : weight s k = 1 := by
    unfold weight
    rw [le_antisymm hk hge, EReal.sub_self (hs k).ne_top (hs k).ne_bot]
    show ((Real.exp 0 : ℝ) : EReal) = 1
    rw [Real.exp_zero]; rfl
  have h1 : (1 : EReal) ≤ ∑ k, weight s k := hw ▸ Finset.single_le_sum (f := weight s) (fun i _ => nonneg_exp _) (Finset.mem_univ k)
  intro h0
  rw [h0] at h1
  exact absurd h1 (by norm_num)

theorem sum_mul_of_nonneg {ι : Type} (t : Finset ι) (f : ι → EReal) {y : EReal} (h0 : 0 ≤ y) (h1 : y ≠ ⊤) :
    (∑ k ∈ t, f k) * y = ∑ k ∈ t, f k * y := by
  classical
  induction t using Finset.induction_on with
  | empty => simp
  | insert a t ha ih => rw [Finset.sum_insert ha, Finset.sum_insert ha, EReal.right_distrib_of_nonneg_of_ne_top h0 h1, ih]

/-- Over finite scores, summing the values under the divided weights is the attention. -/
theorem attend_eq {n : ℕ} (hn : 0 < n) (s v : Fin n → EReal) (hs : ∀ k, IsReal (s k)) :
    (∑ k, v k * Ideal.div (weight s k) (∑ k, weight s k)) = attend s v := by
  have hL := sum_weight_ne_zero hn s hs
  have h0 : 0 ≤ ∑ k, weight s k := Finset.sum_nonneg fun i _ => nonneg_exp _
  unfold attend Ideal.div
  simp only [if_neg hL]
  rw [sum_mul_of_nonneg _ _ (EReal.inv_nonneg_of_nonneg h0) (EReal.inv_lt_top _).ne]
  exact Finset.sum_congr rfl fun k _ => by rw [← mul_assoc, mul_comm (v k)]

/-- Scaling a score's factors by a sixteenth is scaling the score. -/
theorem sum_mul_sixteenth {ι : Type} (t : Finset ι) (f : ι → EReal) :
    (∑ k ∈ t, f k) * Ideal.ofBits .f32 0x3D800000#32 = ∑ k ∈ t, f k * Ideal.ofBits .f32 0x3D800000#32 :=
  sum_mul_of_nonneg t f (by rw [real_sixteenth]; exact EReal.coe_nonneg.mpr (by norm_num)) (by rw [real_sixteenth]; exact EReal.coe_ne_top _)

/-- A normalised row of 256 finite numbers, under a finite gain, is finite. -/
theorem real_rms (x g : Fin 256 → EReal) (hx : ∀ k, IsReal (x k)) (hg : ∀ k, IsReal (g k)) (k : Fin 256) :
    IsReal (rms (Ideal.ofBits .f32 0x43800000#32) x g k) := by
  refine ((hx k).mul ?_).mul (hg k)
  choose r hr using hx
  obtain ⟨e, he, hE⟩ := real_eps
  have hs : ∃ q : ℝ, 0 ≤ q ∧ (∑ k, x k * x k) = (q : EReal) := by
    obtain ⟨q, hq⟩ := IsReal.sum Finset.univ (f := fun k => x k * x k) fun k _ => IsReal.mul ⟨r k, hr k⟩ ⟨r k, hr k⟩
    refine ⟨q, ?_, hq⟩
    have : (0 : EReal) ≤ ∑ k, x k * x k := Finset.sum_nonneg fun k _ => by
      rw [hr k, ← EReal.coe_mul]; exact EReal.coe_nonneg.mpr (mul_self_nonneg _)
    rw [hq] at this
    exact EReal.coe_nonneg.mp this
  obtain ⟨q, hq0, hq⟩ := hs
  have hd : Ideal.div (q : EReal) ((256 : ℝ) : EReal) = ((q * (256 : ℝ)⁻¹ : ℝ) : EReal) := by
    unfold Ideal.div
    rw [if_neg (by norm_num), ← EReal.coe_inv, ← EReal.coe_mul]
  have hpos : 0 < q * (256 : ℝ)⁻¹ + e := by positivity
  unfold invRms
  rw [hq, real_256, hd, hE, ← EReal.coe_add]
  show IsReal (if q * (256 : ℝ)⁻¹ + e < 0 then ⊥ else if q * (256 : ℝ)⁻¹ + e = 0 then ⊤ else (((Real.sqrt (q * (256 : ℝ)⁻¹ + e))⁻¹ : ℝ) : EReal))
  rw [if_neg (not_lt.mpr hpos.le), if_neg hpos.ne']
  exact ⟨_, rfl⟩

end Cert.Spec

end
-- ==== Proof.MergePure.lean ====
/- The joined branches as the kernel's body computes them on one block of 256 rows: each vector of the body read at an
   index as the arithmetic of Spec.lean and Softmax.lean. The eight groups of the spatial mix and the four heads of the
   attention are the same text at other columns, so each is read once. -/
module

public import proofs.«01_k».proof.Proof.Softmax
public import proofs.«01_k».proof.Proof.Gen.MergeIdeal.Skeleton

@[expose] public section

set_option maxRecDepth 16384

noncomputable section

namespace Cert.MergeIdeal.Pure

open Cert.MergeIdeal Cert.MergeIdeal.Gen Cert.Spec Idealize.ShloMosaic Idealize.ShloMosaic.TcCoe Idealize.SL.Sem

/-- Branch B's values, normalised over their row. -/
theorem values_apply (x : Vec Ideal S256x1024 .bf16) (g : Vec Ideal S1x1024 .f32) (r : Fin 256) (c : Fin 1024) :
    k0_pay2 (F := Ideal) x g (ix2 r c : S256x1024.Idx)
      = rms (Ideal.ofBits .f32 0x44800000#32) (fun k : Fin 1024 => x (ix2 r k)) (fun k => g (ix2 0 k)) c := by
  pointwise [k0_pay2]
  rfl

/-- A group's weights with the later positions masked. -/
theorem mask_apply (w : Vec Ideal S1x128x128 .f32) (p q : Fin 128) :
    k0_pay17 (F := Ideal) k0_pay4 w (ix2 p q : S128x128.Idx) = if q ≤ p then (w (ix3 0 p q) : EReal) else 0 := by
  pointwise [k0_pay17, k0_pay4]
  have h : IntOp.cmpi CmpIPredicate.sle (BitVec.ofNat 32 q.val) (BitVec.ofNat 32 p.val) = if q ≤ p then 1#1 else 0#1 := by
    revert p q; decide +kernel
  rw [h]
  by_cases hq : q ≤ p
  · rw [if_pos hq, if_pos hq]; rfl
  · rw [if_neg hq, if_neg hq]; rfl

/-! ## The spatial mix -/

/-- One chunk of one group: the masked weights times the chunk's values, and the bias. -/
def chunkOut (u v : FVec Ideal S128x128 .bf16) (b : Vec Ideal S128x1 .f32) : FVec Ideal S128x128 .f32 :=
  addf (matmul dot_S128x128_S128x128_S128x128_1_0_0_1_n_n none u v (constant S128x128 .f32 0x00000000#32)) (k0_pay8 (F := Ideal) b)

theorem chunkOut_apply (u v : FVec Ideal S128x128 .bf16) (b : Vec Ideal S128x1 .f32) (p e : Fin 128) :
    chunkOut u v b (ix2 p e : S128x128.Idx) = (∑ q : Fin 128, u (ix2 p q) * v (ix2 q e)) + b (ix2 p 0) := by
  pointwise [chunkOut, k0_pay8]

/-- One group: its two chunks, one below the other. -/
def groupOut (u v0 v1 : FVec Ideal S128x128 .bf16) (b : Vec Ideal S128x1 .f32) : FVec Ideal S256x128 .f32 :=
  concatenate S256x128 0 [⟨S128x128, chunkOut u v0 b⟩, ⟨S128x128, chunkOut u v1 b⟩] concatenates_S128x128_S128x128_S256x128_d0

/-- A group whose two chunks are columns of one table `v`: row `r` mixes the rows of its own chunk. -/
theorem groupOut_apply (w : Vec Ideal S1x128x128 .f32) (v0 v1 : FVec Ideal S128x128 .bf16) (b : Vec Ideal S128x1 .f32) (v : Fin 256 → Fin 128 → EReal)
    (h0 : ∀ q e : Fin 128, v0 (ix2 q e : S128x128.Idx) = v ⟨q.val, by omega⟩ e) (h1 : ∀ q e : Fin 128, v1 (ix2 q e : S128x128.Idx) = v ⟨128 + q.val, by omega⟩ e)
    (r : Fin 256) (e : Fin 128) :
    groupOut (k0_pay17 (F := Ideal) k0_pay4 w) v0 v1 b (ix2 r e : S256x128.Idx)
      = mix ⟨r.val % 128, by omega⟩ (fun q => w (ix3 0 ⟨r.val % 128, by omega⟩ q)) (fun q => v ⟨r.val / 128 * 128 + q.val, by omega⟩ e)
          (b (ix2 ⟨r.val % 128, by omega⟩ 0)) := by
  have hu := mask_apply w
  generalize k0_pay17 (F := Ideal) k0_pay4 w = u at hu ⊢
  have hc0 := chunkOut_apply u v0 b
  have hc1 := chunkOut_apply u v1 b
  unfold groupOut
  generalize chunkOut u v0 b = y0 at hc0 ⊢
  generalize chunkOut u v1 b = y1 at hc1 ⊢
  pointwise
  by_cases hr : r.val < 128
  · rw [dif_pos hr, hc0]
    have ep : (⟨r.val, hr⟩ : Fin 128) = ⟨r.val % 128, by omega⟩ := Fin.ext (show r.val = r.val % 128 by omega)
    rw [ep]
    refine congrArg₂ (· + ·) (Finset.sum_congr rfl fun q _ => congrArg₂ (· * ·) (hu _ _) ?_) rfl
    exact (h0 q e).trans (congrArg (v · e) (Fin.ext (show q.val = r.val / 128 * 128 + q.val by omega)))
  · rw [dif_neg hr, hc1]
    have ep : (⟨r.val - 128, by omega⟩ : Fin 128) = ⟨r.val % 128, by omega⟩ := Fin.ext (show r.val - 128 = r.val % 128 by omega)
    rw [ep]
    refine congrArg₂ (· + ·) (Finset.sum_congr rfl fun q _ => congrArg₂ (· * ·) (hu _ _) ?_) rfl
    exact (h1 q e).trans (congrArg (v · e) (Fin.ext (show 128 + q.val = r.val / 128 * 128 + q.val by omega)))

/-- The eight groups side by side. -/
def groups (a0 a1 a2 a3 a4 a5 a6 a7 : FVec Ideal S256x128 .f32) : FVec Ideal S256x1024 .f32 :=
  concatenate S256x1024 1 [⟨S256x128, a0⟩, ⟨S256x128, a1⟩, ⟨S256x128, a2⟩, ⟨S256x128, a3⟩, ⟨S256x128, a4⟩, ⟨S256x128, a5⟩, ⟨S256x128, a6⟩, ⟨S256x128, a7⟩] concatenates_S256x128_S256x128_S256x128_S256x128_S256x128_S256x128_S256x128_S256x128_S256x1024_d1

theorem groups_apply (a0 a1 a2 a3 a4 a5 a6 a7 : FVec Ideal S256x128 .f32) (f : Fin 8 → Fin 256 → Fin 128 → EReal)
    (h0 : ∀ r e, a0 (ix2 r e : S256x128.Idx) = f 0 r e) (h1 : ∀ r e, a1 (ix2 r e : S256x128.Idx) = f 1 r e)
    (h2 : ∀ r e, a2 (ix2 r e : S256x128.Idx) = f 2 r e) (h3 : ∀ r e, a3 (ix2 r e : S256x128.Idx) = f 3 r e)
    (h4 : ∀ r e, a4 (ix2 r e : S256x128.Idx) = f 4 r e) (h5 : ∀ r e, a5 (ix2 r e : S256x128.Idx) = f 5 r e)
    (h6 : ∀ r e, a6 (ix2 r e : S256x128.Idx) = f 6 r e) (h7 : ∀ r e, a7 (ix2 r e : S256x128.Idx) = f 7 r e)
    (r : Fin 256) (c : Fin 1024) :
    groups a0 a1 a2 a3 a4 a5 a6 a7 (ix2 r c : S256x1024.Idx) = f ⟨c.val / 128, by omega⟩ r ⟨c.val % 128, by omega⟩ := by
  have key : ∀ (i : Fin 8) (e : Fin 128), c.val = i.val * 128 + e.val → f i r e = f ⟨c.val / 128, by omega⟩ r ⟨c.val % 128, by omega⟩ := fun i e h => by
    have e1 : i = ⟨c.val / 128, by omega⟩ := Fin.ext (show i.val = c.val / 128 by omega)
    have e2 : e = ⟨c.val % 128, by omega⟩ := Fin.ext (show e.val = c.val % 128 by omega)
    exact congrArg₂ (fun i e => f i r e) e1 e2
  pointwise [groups]
  by_cases c0 : c.val < 128
  · rw [dif_pos c0]
    refine (h0 _ _).trans (key 0 _ ?_)
    show c.val = 0 * 128 + (c.val)
    omega
  rw [dif_neg c0]
  by_cases c1 : c.val - 128 < 128
  · rw [dif_pos c1]
    refine (h1 _ _).trans (key 1 _ ?_)
    show c.val = 1 * 128 + (c.val - 128)
    omega
  rw [dif_neg c1]
  by_cases c2 : c.val - 128 - 128 < 128
  · rw [dif_pos c2]
    refine (h2 _ _).trans (key 2 _ ?_)
    show c.val = 2 * 128 + (c.val - 128 - 128)
    omega
  rw [dif_neg c2]
  by_cases c3 : c.val - 128 - 128 - 128 < 128
  · rw [dif_pos c3]
    refine (h3 _ _).trans (key 3 _ ?_)
    show c.val = 3 * 128 + (c.val - 128 - 128 - 128)
    omega
  rw [dif_neg c3]
  by_cases c4 : c.val - 128 - 128 - 128 - 128 < 128
  · rw [dif_pos c4]
    refine (h4 _ _).trans (key 4 _ ?_)
    show c.val = 4 * 128 + (c.val - 128 - 128 - 128 - 128)
    omega
  rw [dif_neg c4]
  by_cases c5 : c.val - 128 - 128 - 128 - 128 - 128 < 128
  · rw [dif_pos c5]
    refine (h5 _ _).trans (key 5 _ ?_)
    show c.val = 5 * 128 + (c.val - 128 - 128 - 128 - 128 - 128)
    omega
  rw [dif_neg c5]
  by_cases c6 : c.val - 128 - 128 - 128 - 128 - 128 - 128 < 128
  · rw [dif_pos c6]
    refine (h6 _ _).trans (key 6 _ ?_)
    show c.val = 6 * 128 + (c.val - 128 - 128 - 128 - 128 - 128 - 128)
    omega
  rw [dif_neg c6]
  refine (h7 _ _).trans (key 7 _ ?_)
  show c.val = 7 * 128 + (c.val - 128 - 128 - 128 - 128 - 128 - 128 - 128)
  omega

/-- The body's groups are one text at other columns. -/
theorem group0_eq (x : Vec Ideal S256x1024 .bf16) (g : Vec Ideal S1x1024 .f32) (w : Vec Ideal S1x128x128 .f32) (b : Vec Ideal S128x1 .f32) :
    k0_pay9 (F := Ideal) (k0_pay6 (F := Ideal) x g w b) (k0_pay7 (F := Ideal) x g w) (k0_pay8 (F := Ideal) b)
      = groupOut (k0_pay17 (F := Ideal) k0_pay4 w) (extractStridedSlice S128x128 ![0, 0] (k0_pay2 (F := Ideal) x g) slices_S256x1024_o0_0_S128x128)
          (extractStridedSlice S128x128 ![128, 0] (k0_pay2 (F := Ideal) x g) slices_S256x1024_o128_0_S128x128) b := rfl
theorem group1_eq (v : FVec Ideal S256x1024 .bf16) (w : Vec Ideal S1x128x128 .f32) (b : Vec Ideal S128x1 .f32) :
    k0_pay10 (F := Ideal) v k0_pay4 w b b = groupOut (k0_pay17 (F := Ideal) k0_pay4 w) (extractStridedSlice S128x128 ![0, 128] v slices_S256x1024_o0_128_S128x128)
      (extractStridedSlice S128x128 ![128, 128] v slices_S256x1024_o128_128_S128x128) b := rfl
theorem group2_eq (v : FVec Ideal S256x1024 .bf16) (w : Vec Ideal S1x128x128 .f32) (b : Vec Ideal S128x1 .f32) :
    k0_pay11 (F := Ideal) v k0_pay4 w b b = groupOut (k0_pay17 (F := Ideal) k0_pay4 w) (extractStridedSlice S128x128 ![0, 256] v slices_S256x1024_o0_256_S128x128)
      (extractStridedSlice S128x128 ![128, 256] v slices_S256x1024_o128_256_S128x128) b := rfl
theorem group3_eq (v : FVec Ideal S256x1024 .bf16) (w : Vec Ideal S1x128x128 .f32) (b : Vec Ideal S128x1 .f32) :
    k0_pay12 (F := Ideal) v k0_pay4 w b b = groupOut (k0_pay17 (F := Ideal) k0_pay4 w) (extractStridedSlice S128x128 ![0, 384] v slices_S256x1024_o0_384_S128x128)
      (extractStridedSlice S128x128 ![128, 384] v slices_S256x1024_o128_384_S128x128) b := rfl
theorem group4_eq (v : FVec Ideal S256x1024 .bf16) (w : Vec Ideal S1x128x128 .f32) (b : Vec Ideal S128x1 .f32) :
    k0_pay13 (F := Ideal) v k0_pay4 w b b = groupOut (k0_pay17 (F := Ideal) k0_pay4 w) (extractStridedSlice S128x128 ![0, 512] v slices_S256x1024_o0_512_S128x128)
      (extractStridedSlice S128x128 ![128, 512] v slices_S256x1024_o128_512_S128x128) b := rfl
theorem group5_eq (v : FVec Ideal S256x1024 .bf16) (w : Vec Ideal S1x128x128 .f32) (b : Vec Ideal S128x1 .f32) :
    k0_pay15 (F := Ideal) v k0_pay4 (k0_pay14 (F := Ideal) w) (Scalar.ofBits .f32 0x00000000#32) b b
      = groupOut (k0_pay17 (F := Ideal) k0_pay4 w) (extractStridedSlice S128x128 ![0, 640] v slices_S256x1024_o0_640_S128x128)
          (extractStridedSlice S128x128 ![128, 640] v slices_S256x1024_o128_640_S128x128) b := rfl
theorem group6_eq (v : FVec Ideal S256x1024 .bf16) (w : Vec Ideal S1x128x128 .f32) (b : Vec Ideal S128x1 .f32) :
    k0_pay16 (F := Ideal) v k0_pay4 w b b = groupOut (k0_pay17 (F := Ideal) k0_pay4 w) (extractStridedSlice S128x128 ![0, 768] v slices_S256x1024_o0_768_S128x128)
      (extractStridedSlice S128x128 ![128, 768] v slices_S256x1024_o128_768_S128x128) b := rfl

/-- A gated branch `o` times its weights. -/
def gatedDot (o : FVec Ideal S256x1024 .f32) (gate : Vec Ideal S256x1024 .bf16) (w : Vec Ideal S1024x2048 .bf16) : FVec Ideal S256x2048 .f32 :=
  matmul dot_S256x1024_S1024x2048_S256x2048_1_0_0_1_n_n none (truncf .bf16 (mulf o (k0_pay29 (F := Ideal) gate)) bitsLt_bf16_f32)
    (shapeCast S1024x2048 w shapeCasts_S1024x2048_S1024x2048 : FVec Ideal S1024x2048 .bf16) (constant S256x2048 .f32 0x00000000#32)

theorem gatedDot_apply (o : FVec Ideal S256x1024 .f32) (gate : Vec Ideal S256x1024 .bf16) (w : Vec Ideal S1024x2048 .bf16) (r : Fin 256) (c : Fin 2048) :
    gatedDot o gate w (ix2 r c : S256x2048.Idx) = branch (fun j => o (ix2 r j)) (fun j => gate (ix2 r j)) (fun j => w (ix2 j c)) := by
  pointwise [gatedDot, k0_pay29]
  rfl

/-- Branch B's product, from the groups before the last and what the last one is made of. -/
theorem branchB_eq (v : FVec Ideal S256x1024 .bf16) (u : FVec Ideal S256x1024 .f32) (a0 a1 a2 a3 a4 a5 a6 : FVec Ideal S256x128 .f32)
    (w : Vec Ideal S1x128x128 .f32) (b : Vec Ideal S128x1 .f32) (gate : Vec Ideal S256x1024 .bf16) (wb : Vec Ideal S1024x2048 .bf16) :
    k0_pay19 (F := Ideal) v u a0 a1 a2 a3 a4 a5 a6 (k0_pay17 (F := Ideal) k0_pay4 w) (k0_pay18 (F := Ideal) v) b b gate wb
      = gatedDot (mulf u (groups a0 a1 a2 a3 a4 a5 a6 (groupOut (k0_pay17 (F := Ideal) k0_pay4 w) (k0_pay18 (F := Ideal) v)
          (extractStridedSlice S128x128 ![128, 896] v slices_S256x1024_o128_896_S128x128) b))) gate wb := rfl

/-! ## The attention over the memory -/

/-- The scores of one head: its queries, normalised and scaled, against its keys. -/
def scoresOf (x : FVec Ideal S256x256 .f32) (g : Vec Ideal S1x256 .f32) (k : Vec Ideal S256x256 .bf16) : FVec Ideal S256x256 .f32 :=
  matmul dot_S256x256_S256x256_S256x256_1_1_0_0_n_n none
    (truncf .bf16
      (mulf
        (mulf
          (mulf x
            (broadcastTo S256x256
              (rsqrt (addf (divf (shapeCast S256x1 (multiReduction .add [1] S256 (mulf x x) 0x00000000#32 reduces_S256x256_S256 (.inl rfl) rfl) shapeCasts_S256_S256x1)
                (broadcast S256x1 (Scalar.ofBits .f32 0x43800000#32 : Ideal .f32))) (broadcast S256x1 (Scalar.ofBits .f32 0x358637BD#32 : Ideal .f32))))
              broadcasts_S256x1_S256x256))
          (broadcastTo S256x256 (shapeCast S1x256 g shapeCasts_S1x256_S1x256 : FVec Ideal S1x256 .f32) broadcasts_S1x256_S256x256))
        (broadcast S256x256 (Scalar.ofBits .f32 0x3D800000#32 : Ideal .f32)))
      bitsLt_bf16_f32)
    (shapeCast S256x256 k shapeCasts_S256x256_S256x256 : FVec Ideal S256x256 .bf16) (constant S256x256 .f32 0x00000000#32)

theorem scoresOf_apply (x : FVec Ideal S256x256 .f32) (g : Vec Ideal S1x256 .f32) (k : Vec Ideal S256x256 .bf16) (r c : Fin 256) :
    scoresOf x g k (ix2 r c : S256x256.Idx) = score (fun d => x (ix2 r d)) (fun d => g (ix2 0 d)) (fun d => k (ix2 c d)) := by
  pointwise [scoresOf]
  rfl

/-- The softmax of scores `s` over values `v`. -/
def attendOf (s : FVec Ideal S256x256 .f32) (v : Vec Ideal S256x256 .bf16) : FVec Ideal S256x256 .f32 :=
  k0_pay25 (F := Ideal) s (multiReduction .maximumf [1] S256 s 0xFF800000#32 reduces_S256x256_S256 (.inl rfl) rfl) v

theorem attendOf_apply (s : FVec Ideal S256x256 .f32) (v : Vec Ideal S256x256 .bf16) (r e : Fin 256) :
    attendOf s v (ix2 r e : S256x256.Idx) = attend (fun k => s (ix2 r k)) (fun k => v (ix2 k e)) := by
  pointwise [attendOf, k0_pay25]
  rfl

theorem head0_eq (x : Vec Ideal S256x1024 .bf16) (g : Vec Ideal S1x256 .f32) (k v : Vec Ideal S256x256 .bf16) :
    k0_pay22 (F := Ideal) (k0_pay21 (F := Ideal) x g) k v
      = attendOf (scoresOf (extractStridedSlice S256x256 ![0, 0] (k0_pay20 (F := Ideal) x) slices_S256x1024_o0_0_S256x256) g k) v := rfl

theorem head1_eq (q : FVec Ideal S256x1024 .f32) (g : Vec Ideal S1x256 .f32) (k v : Vec Ideal S256x256 .bf16) :
    k0_pay25 (F := Ideal) (k0_pay23 (F := Ideal) q g k) (k0_pay24 (F := Ideal) q g k) v
      = attendOf (scoresOf (extractStridedSlice S256x256 ![0, 256] q slices_S256x1024_o0_256_S256x256) g k) v := rfl

/-- The four heads side by side. -/
def heads (a0 a1 a2 a3 : FVec Ideal S256x256 .f32) : FVec Ideal S256x1024 .f32 :=
  concatenate S256x1024 1 [⟨S256x256, a0⟩, ⟨S256x256, a1⟩, ⟨S256x256, a2⟩, ⟨S256x256, a3⟩] concatenates_S256x256_S256x256_S256x256_S256x256_S256x1024_d1

theorem heads_eq (q : FVec Ideal S256x1024 .f32) (a0 a1 : FVec Ideal S256x256 .f32) (g : Vec Ideal S1x256 .f32) (k2 v2 k3 v3 : Vec Ideal S256x256 .bf16) :
    k0_pay28 (F := Ideal) q a0 a1 (k0_pay26 (F := Ideal) q g k2) (k0_pay27 (F := Ideal) q g k2 v2) g k3 v3
      = heads a0 a1 (attendOf (scoresOf (extractStridedSlice S256x256 ![0, 512] q slices_S256x1024_o0_512_S256x256) g k2) v2)
          (attendOf (scoresOf (extractStridedSlice S256x256 ![0, 768] q slices_S256x1024_o0_768_S256x256) g k3) v3) := rfl

theorem heads_apply (a0 a1 a2 a3 : FVec Ideal S256x256 .f32) (f : Fin 4 → Fin 256 → Fin 256 → EReal)
    (h0 : ∀ r e, a0 (ix2 r e : S256x256.Idx) = f 0 r e) (h1 : ∀ r e, a1 (ix2 r e : S256x256.Idx) = f 1 r e)
    (h2 : ∀ r e, a2 (ix2 r e : S256x256.Idx) = f 2 r e) (h3 : ∀ r e, a3 (ix2 r e : S256x256.Idx) = f 3 r e)
    (r : Fin 256) (c : Fin 1024) :
    heads a0 a1 a2 a3 (ix2 r c : S256x1024.Idx) = f ⟨c.val / 256, by omega⟩ r ⟨c.val % 256, by omega⟩ := by
  have key : ∀ (i : Fin 4) (e : Fin 256), c.val = i.val * 256 + e.val → f i r e = f ⟨c.val / 256, by omega⟩ r ⟨c.val % 256, by omega⟩ := fun i e h => by
    have e1 : i = ⟨c.val / 256, by omega⟩ := Fin.ext (show i.val = c.val / 256 by omega)
    have e2 : e = ⟨c.val % 256, by omega⟩ := Fin.ext (show e.val = c.val % 256 by omega)
    exact congrArg₂ (fun i e => f i r e) e1 e2
  pointwise [heads]
  by_cases c0 : c.val < 256
  · rw [dif_pos c0]
    refine (h0 _ _).trans (key 0 _ ?_)
    show c.val = 0 * 256 + (c.val)
    omega
  rw [dif_neg c0]
  by_cases c1 : c.val - 256 < 256
  · rw [dif_pos c1]
    refine (h1 _ _).trans (key 1 _ ?_)
    show c.val = 1 * 256 + (c.val - 256)
    omega
  rw [dif_neg c1]
  by_cases c2 : c.val - 256 - 256 < 256
  · rw [dif_pos c2]
    refine (h2 _ _).trans (key 2 _ ?_)
    show c.val = 2 * 256 + (c.val - 256 - 256)
    omega
  rw [dif_neg c2]
  refine (h3 _ _).trans (key 3 _ ?_)
  show c.val = 3 * 256 + (c.val - 256 - 256 - 256)
  omega

/-! ## The branches joined -/

/-- The three branches joined, from branch B's product and branch C's output. -/
theorem join_apply (pb : FVec Ideal S256x2048 .f32) (oc : FVec Ideal S256x1024 .f32) (cg : Vec Ideal S256x1024 .bf16) (wc : Vec Ideal S1024x2048 .bf16)
    (oa ag : Vec Ideal S256x1024 .bf16) (wa : Vec Ideal S1024x2048 .bf16) (ra rb rc : Vec Ideal S256x2048 .bf16) (r : Fin 256) (c : Fin 2048) :
    k0_pay31 (F := Ideal) pb oc (k0_pay29 (F := Ideal) cg) wc oa ag wa ra rb rc (ix2 r c : S256x2048.Idx)
      = join (ra (ix2 r c)) (rb (ix2 r c)) (rc (ix2 r c))
          (branch (fun j => oa (ix2 r j)) (fun j => ag (ix2 r j)) (fun j => wa (ix2 j c))) (pb (ix2 r c))
          (branch (fun j => oc (ix2 r j)) (fun j => cg (ix2 r j)) (fun j => wc (ix2 j c))) := by
  pointwise [k0_pay31, k0_pay29]
  rfl

/-- The block's result. -/
theorem result_apply (x : Vec Ideal S256x2048 .f32) (m : FVec Ideal S256x2048 .bf16) (w : Vec Ideal S2048x2048 .bf16) (r : Fin 256) (c : Fin 2048) :
    k0_pay1 (F := Ideal) (k0_pay30 (F := Ideal) x) m (k0_pay32 (F := Ideal) w) (ix2 r c : S256x2048.Idx)
      = (x (ix2 r c) : EReal) + ∑ j : Fin 2048, m (ix2 r j) * w (ix2 j c) := by
  pointwise [k0_pay1, k0_pay30, k0_pay32]

end Cert.MergeIdeal.Pure

end
-- ==== Proof.MergeRefPure.lean ====
/- The joined branches as the reference computes them, each array read at an index as the arithmetic of Spec.lean and
   Softmax.lean. -/
module

public import proofs.«01_k».proof.Proof.Softmax
public import proofs.«01_k».proof.Proof.Gen.MergeRefIdeal.Read

@[expose] public section

set_option maxRecDepth 16384

noncomputable section

namespace Cert.MergeRefIdeal.Pure

open Cert.MergeRefIdeal Cert.MergeRefIdeal.Gen Cert.MergeRefIdeal.Read Cert.Spec Idealize.ShloMosaic Idealize.ShloMosaic.TcCoe Idealize.SL.Sem

/-- Branch B's values, normalised. -/
theorem values_apply (z : FVec Ideal S2x4096x12288 .f32) (g : FVec Ideal S1024 .f32) (b : Fin 2) (t : Fin 4096) (c : Fin 1024) :
    val_main_v21 (F := Ideal) z g (ix3 b t c : S2x4096x1024.Idx)
      = rms (Ideal.ofBits .f32 0x44800000#32) (fun k : Fin 1024 => z (ix3 b t ⟨2048 + k.val, by omega⟩)) (fun k => g (ix1 k)) c := by
  unfold val_main_v21 val_main_v20 val_main_v19 val_main_v18 val_main_v17 val_main_v16 val_main_v15 val_main_v14 val_main_v13 val_main_v12 val_main_v11 val_main_v10 val_main_v9 val_main_v2 val_main_cst val_main_cst_0 val_main_cst_1
  pointwise
  rfl

/-- The weights of the spatial mix with the later positions masked. -/
theorem mask_apply (w : FVec Ideal S8x128x128 .f32) (g : Fin 8) (p q : Fin 128) :
    val_main_v26 (F := Ideal) w (ix3 g p q : S8x128x128.Idx) = if q ≤ p then w (ix3 g p q) else 0 := by
  unfold val_main_v26 val_main_call1_v1 val_main_call1_v2 val_main_call1_v0 val_main_c_2 val_main_v25 val_main_v24 val_main_call0_v5 val_main_call0_c_0 val_main_call0_v4 val_main_call0_v3 val_main_call0_v2 val_main_call0_v1 val_main_call0_v0 val_main_call0_c val_main_v23 val_main_c
  pointwise
  have hz : (FloatOps.sitofp FTy.f32 (0#32) : Ideal .f32) = (0 : EReal) := by
    show (((0#32).toInt : ℝ) : EReal) = 0
    norm_num
  have h : IntOp.cmpi CmpIPredicate.sge (IntOp.addi (BitVec.ofNat 32 p.val) 0#32) (BitVec.ofNat 32 q.val) = if q ≤ p then 1#1 else 0#1 := by
    revert p q; decide +kernel
  rw [hz, h]
  by_cases hq : q ≤ p
  · rw [if_pos hq, if_pos hq]; rfl
  · rw [if_neg hq, if_neg hq]; rfl

/-- Branch B before its gate: token `t`, column `c`. -/
theorem branchB_apply (z : FVec Ideal S2x4096x12288 .f32) (g : FVec Ideal S1024 .f32) (w : FVec Ideal S8x128x128 .f32) (bs : FVec Ideal S8x128 .f32)
    (b : Fin 2) (t : Fin 4096) (c : Fin 1024) :
    val_main_v34 (F := Ideal) z w bs g (ix3 b t c : S2x4096x1024.Idx)
      = z (ix3 b t ⟨1024 + c.val, by omega⟩)
        * mix ⟨t.val % 128, by omega⟩ (fun q => w (ix3 ⟨c.val / 128, by omega⟩ ⟨t.val % 128, by omega⟩ q))
            (fun q => rms (Ideal.ofBits .f32 0x44800000#32) (fun k : Fin 1024 => z (ix3 b ⟨t.val / 128 * 128 + q.val, by omega⟩ ⟨2048 + k.val, by omega⟩)) (fun k => g (ix1 k)) c)
            (bs (ix2 ⟨c.val / 128, by omega⟩ ⟨t.val % 128, by omega⟩)) := by
  have hv := values_apply z g b
  have hw := mask_apply w
  unfold val_main_v34 val_main_v33 val_main_v32 val_main_v31 val_main_v30 val_main_v29 val_main_v28 val_main_v27 val_main_v22 val_main_v1
  generalize val_main_v21 (F := Ideal) z g = y at hv ⊢
  generalize val_main_v26 (F := Ideal) w = u at hw ⊢
  pointwise
  simp only [hv, hw, mix]
  refine congrArg _ (congrArg (· + _) (Finset.sum_congr rfl fun q _ => mul_comm _ _))

/-- The queries of branch C, normalised per head. -/
theorem query_apply (z : FVec Ideal S2x4096x12288 .f32) (g : FVec Ideal S256 .f32) (b : Fin 2) (t : Fin 4096) (h : Fin 4) (c : Fin 256) :
    val_main_v48 (F := Ideal) z g (ix4 b t h c : S2x4096x4x256.Idx)
      = rms (Ideal.ofBits .f32 0x43800000#32) (fun k : Fin 256 => z (ix3 b t ⟨4096 + (h.val * 256 + k.val), by omega⟩)) (fun k => g (ix1 k)) c := by
  unfold val_main_v48 val_main_v47 val_main_v46 val_main_v45 val_main_v44 val_main_v43 val_main_v42 val_main_v41 val_main_v40 val_main_v39 val_main_v38 val_main_v37 val_main_v36 val_main_v35 val_main_v4 val_main_cst_3 val_main_cst_4 val_main_cst_5
  pointwise
  rfl

/-- The scores of branch C. -/
theorem score_apply (z : FVec Ideal S2x4096x12288 .f32) (k : FVec Ideal S2x256x4x256 .f32) (g : FVec Ideal S256 .f32)
    (b : Fin 2) (t : Fin 4096) (h : Fin 4) (c : Fin 256) :
    val_main_v51 (F := Ideal) z k g (ix4 b h t c : S2x4x4096x256.Idx)
      = score (fun d : Fin 256 => z (ix3 b t ⟨4096 + (h.val * 256 + d.val), by omega⟩)) (fun d => g (ix1 d)) (fun d => k (ix4 b c h d)) := by
  have hq := query_apply z g b t h
  unfold val_main_v51 val_main_v50 val_main_cst_6 val_main_v49
  generalize val_main_v48 (F := Ideal) z g = q at hq ⊢
  pointwise
  rw [sum_mul_sixteenth]
  simp only [hq, score]
  exact Finset.sum_congr rfl fun d _ => by rw [mul_assoc, mul_assoc]; exact congrArg _ (mul_comm _ _)

/-- A maximum over the last axis of the scores. -/
theorem reduce_apply (s : FVec Ideal S2x4x4096x256 .f32) (i : FVec Ideal S_ .f32) (h : S2x4x4096x256.ReducesTo [3] S2x4x4096) (hu : 0 < S_.numel)
    (j : S2x4x4096.Idx) :
    Host.reduce FloatOps.maximumf s i h hu j
      = Finset.univ.fold max (i (Shape.Idx.first hu)) fun k : Fin 256 => s (ix4 (j 0) (j 1) (j 2) k) := by
  simp only [pointwise]

/-- The largest score of a query. -/
theorem max_apply (z : FVec Ideal S2x4096x12288 .f32) (k : FVec Ideal S2x256x4x256 .f32) (g : FVec Ideal S256 .f32)
    (b : Fin 2) (t : Fin 4096) (h : Fin 4) :
    val_main_v54 (F := Ideal) z k g (ix3 b h t : S2x4x4096.Idx)
      = rowMax fun c : Fin 256 => val_main_v51 (F := Ideal) z k g (ix4 b h t c : S2x4x4096x256.Idx) := by
  have hr : val_main_v52 (F := Ideal) z k g (ix3 b h t : S2x4x4096.Idx)
      = rowMax fun c : Fin 256 => val_main_v51 (F := Ideal) z k g (ix4 b h t c : S2x4x4096x256.Idx) := by
    unfold val_main_v52
    generalize val_main_v51 (F := Ideal) z k g = y
    exact reduce_apply y _ _ _ _
  rw [val_main_v54_apply, val_main_v53_apply, val_main_cst_8_apply, hr]
  exact max_rowMax _

/-- The weight of a key before it is divided. -/
theorem weight_apply (z : FVec Ideal S2x4096x12288 .f32) (k : FVec Ideal S2x256x4x256 .f32) (g : FVec Ideal S256 .f32)
    (b : Fin 2) (t : Fin 4096) (h : Fin 4) (c : Fin 256) :
    val_main_v58 (F := Ideal) z k g (ix4 b h t c : S2x4x4096x256.Idx)
      = weight (fun c : Fin 256 => val_main_v51 (F := Ideal) z k g (ix4 b h t c : S2x4x4096x256.Idx)) c := by
  have hm := max_apply z k g b t h
  unfold val_main_v58 val_main_v57 val_main_v56 val_main_v55
  generalize val_main_v54 (F := Ideal) z k g = M at hm ⊢
  generalize val_main_v51 (F := Ideal) z k g = s at hm ⊢
  pointwise
  rw [hm]
  rfl

/-- The divided weights. -/
theorem softmax_apply (z : FVec Ideal S2x4096x12288 .f32) (k : FVec Ideal S2x256x4x256 .f32) (g : FVec Ideal S256 .f32)
    (b : Fin 2) (t : Fin 4096) (h : Fin 4) (c : Fin 256) :
    val_main_v62 (F := Ideal) z k g (ix4 b h t c : S2x4x4096x256.Idx)
      = Ideal.div (weight (fun c : Fin 256 => val_main_v51 (F := Ideal) z k g (ix4 b h t c : S2x4x4096x256.Idx)) c)
          (∑ c, weight (fun c : Fin 256 => val_main_v51 (F := Ideal) z k g (ix4 b h t c : S2x4x4096x256.Idx)) c) := by
  have hw := weight_apply z k g b t h
  unfold val_main_v62 val_main_v61 val_main_v60 val_main_v59 val_main_cst_9
  generalize val_main_v58 (F := Ideal) z k g = e at hw ⊢
  generalize val_main_v51 (F := Ideal) z k g = s at hw ⊢
  pointwise
  simp only [hw]

/-- Branch C before its gate, where the scores are finite. -/
theorem branchC_apply (z : FVec Ideal S2x4096x12288 .f32) (k v : FVec Ideal S2x256x4x256 .f32) (g : FVec Ideal S256 .f32)
    (b : Fin 2) (t : Fin 4096) (c : Fin 1024)
    (hs : ∀ e : Fin 256, IsReal (val_main_v51 (F := Ideal) z k g (ix4 b ⟨c.val / 256, by omega⟩ t e : S2x4x4096x256.Idx))) :
    val_main_v65 (F := Ideal) z k v g (ix3 b t c : S2x4096x1024.Idx)
      = attend (fun e : Fin 256 => val_main_v51 (F := Ideal) z k g (ix4 b ⟨c.val / 256, by omega⟩ t e : S2x4x4096x256.Idx))
          (fun e => v (ix4 b e ⟨c.val / 256, by omega⟩ ⟨c.val % 256, by omega⟩)) := by
  have hp := softmax_apply z k g b t ⟨c.val / 256, by omega⟩
  rw [← attend_eq (by norm_num) _ _ hs]
  unfold val_main_v65 val_main_v64 val_main_v63
  generalize val_main_v62 (F := Ideal) z k g = p at hp ⊢
  generalize val_main_v51 (F := Ideal) z k g = s at hp ⊢
  pointwise
  simp only [hp]

/-- The three branches' products with their weights. -/
theorem productA_apply (o : FVec Ideal S2x4096x1024 .f32) (z : FVec Ideal S2x4096x12288 .f32) (w : FVec Ideal S1024x2048 .f32)
    (b : Fin 2) (t : Fin 4096) (c : Fin 2048) :
    val_main_v74 (F := Ideal) o z w (ix3 b t c : S2x4096x2048.Idx)
      = branch (fun j : Fin 1024 => o (ix3 b t j)) (fun j => z (ix3 b t ⟨j.val, by omega⟩)) (fun j => w (ix2 j c)) := by
  unfold val_main_v74 val_main_v73 val_main_v72 val_main_call2_v5 val_main_call2_v4 val_main_call2_v3 val_main_call2_v2 val_main_call2_v1 val_main_call2_v0 val_main_call2_cst_0 val_main_call2_cst val_main_v0
  pointwise
  rfl

theorem productB_apply (z : FVec Ideal S2x4096x12288 .f32) (w : FVec Ideal S8x128x128 .f32) (bs : FVec Ideal S8x128 .f32) (g : FVec Ideal S1024 .f32)
    (wb : FVec Ideal S1024x2048 .f32) (b : Fin 2) (t : Fin 4096) (c : Fin 2048) :
    val_main_v84 (F := Ideal) z w bs g wb (ix3 b t c : S2x4096x2048.Idx)
      = branch (fun j : Fin 1024 => val_main_v34 (F := Ideal) z w bs g (ix3 b t j)) (fun j => z (ix3 b t ⟨3072 + j.val, by omega⟩)) (fun j => wb (ix2 j c)) := by
  unfold val_main_v84 val_main_v83 val_main_v82 val_main_call3_v5 val_main_call3_v4 val_main_call3_v3 val_main_call3_v2 val_main_call3_v1 val_main_call3_v0 val_main_call3_cst_0 val_main_call3_cst val_main_v3
  generalize val_main_v34 (F := Ideal) z w bs g = o
  pointwise
  rfl

theorem productC_apply (z : FVec Ideal S2x4096x12288 .f32) (k v : FVec Ideal S2x256x4x256 .f32) (g : FVec Ideal S256 .f32)
    (wc : FVec Ideal S1024x2048 .f32) (b : Fin 2) (t : Fin 4096) (c : Fin 2048) :
    val_main_v95 (F := Ideal) z k v g wc (ix3 b t c : S2x4096x2048.Idx)
      = branch (fun j : Fin 1024 => val_main_v65 (F := Ideal) z k v g (ix3 b t j)) (fun j => z (ix3 b t ⟨5120 + j.val, by omega⟩)) (fun j => wc (ix2 j c)) := by
  unfold val_main_v95 val_main_v94 val_main_v93 val_main_call4_v5 val_main_call4_v4 val_main_call4_v3 val_main_call4_v2 val_main_call4_v1 val_main_call4_v0 val_main_call4_cst_0 val_main_call4_cst val_main_v5
  generalize val_main_v65 (F := Ideal) z k v g = o
  pointwise
  rfl

/-- The joined branches. -/
theorem join_apply (oa : FVec Ideal S2x4096x1024 .f32) (z : FVec Ideal S2x4096x12288 .f32) (k v : FVec Ideal S2x256x4x256 .f32)
    (w : FVec Ideal S8x128x128 .f32) (bs : FVec Ideal S8x128 .f32) (g : FVec Ideal S1024 .f32) (gq : FVec Ideal S256 .f32)
    (wa wb wc : FVec Ideal S1024x2048 .f32) (b : Fin 2) (t : Fin 4096) (c : Fin 2048) :
    val_main_v97 (F := Ideal) oa z k v w bs g gq wa wb wc (ix3 b t c : S2x4096x2048.Idx)
      = join (z (ix3 b t ⟨6144 + c.val, by omega⟩)) (z (ix3 b t ⟨8192 + c.val, by omega⟩)) (z (ix3 b t ⟨10240 + c.val, by omega⟩))
          (val_main_v74 (F := Ideal) oa z wa (ix3 b t c)) (val_main_v84 (F := Ideal) z w bs g wb (ix3 b t c)) (val_main_v95 (F := Ideal) z k v gq wc (ix3 b t c)) := by
  unfold val_main_v97 val_main_v96 val_main_v92 val_main_v91 val_main_v90 val_main_v89 val_main_v88 val_main_v87 val_main_cst_15 val_main_cst_14 val_main_v86 val_main_v85 val_main_v81 val_main_v80 val_main_v79 val_main_v78 val_main_v77 val_main_v76 val_main_cst_13 val_main_cst_12 val_main_v75 val_main_v71 val_main_v70 val_main_v69 val_main_v68 val_main_v67 val_main_v66 val_main_cst_11 val_main_cst_10 val_main_v6 val_main_v7 val_main_v8
  generalize val_main_v74 (F := Ideal) oa z wa = pa
  generalize val_main_v84 (F := Ideal) z w bs g wb = pb
  generalize val_main_v95 (F := Ideal) z k v gq wc = pc
  pointwise
  rfl

/-- The result: token `p` of the two sequences laid one after the other. -/
theorem result_apply (x : FVec Ideal S2x4096x2048 .f32) (oa : FVec Ideal S2x4096x1024 .f32) (z : FVec Ideal S2x4096x12288 .f32) (k v : FVec Ideal S2x256x4x256 .f32)
    (w : FVec Ideal S8x128x128 .f32) (bs : FVec Ideal S8x128 .f32) (g : FVec Ideal S1024 .f32) (gq : FVec Ideal S256 .f32)
    (wa wb wc : FVec Ideal S1024x2048 .f32) (wo : FVec Ideal S2048x2048 .f32) (p : Fin 8192) (c : Fin 2048) :
    val_main_v100 (F := Ideal) x oa z k v w bs g gq wa wb wc wo (ix2 p c : S8192x2048.Idx)
      = x (ix3 ⟨p.val / 4096, by omega⟩ ⟨p.val % 4096, by omega⟩ c)
        + ∑ j : Fin 2048, val_main_v97 (F := Ideal) oa z k v w bs g gq wa wb wc (ix3 ⟨p.val / 4096, by omega⟩ ⟨p.val % 4096, by omega⟩ j) * wo (ix2 j c) := by
  unfold val_main_v100 val_main_v99 val_main_v98
  generalize val_main_v97 (F := Ideal) oa z k v w bs g gq wa wb wc = m
  pointwise

end Cert.MergeRefIdeal.Pure
-- ==== Proof.MergeValue.lean ====
/- The array the merge kernel leaves: the reference's, index by index. -/
module

public import proofs.«01_k».proof.Proof.MergePure
public import proofs.«01_k».proof.Proof.MergeRefPure
public import proofs.«01_k».proof.Proof.Gen.MergeIdeal.Value
public import Idealize.ShloMosaic.Lib.Pipeline.ValueKit

@[expose] public section

set_option maxRecDepth 16384

noncomputable section

namespace Cert.MergeIdeal.Arrays

open Cert.MergeIdeal Cert.MergeIdeal.Gen Cert.MergeIdeal.Pure Cert.Spec Idealize.ShloMosaic Idealize.ShloMosaic.TcCoe Idealize.SL.Sem
open Idealize.ShloMosaic.Pipeline (Dat)

private theorem zero2 : (![0, 0] : Fin 2 → ℕ) = fun _ => 0 := by decide

/-- Branch B before its gate, on one block: row `r`, column `c`. -/
def mixRow (bu bv : Fin 256 → Fin 1024 → EReal) (gs : Fin 1024 → EReal) (ws : Fin 8 → Fin 128 → Fin 128 → EReal) (bs : Fin 8 → Fin 128 → EReal)
    (r : Fin 256) (c : Fin 1024) : EReal :=
  bu r c * mix ⟨r.val % 128, by omega⟩ (ws ⟨c.val / 128, by omega⟩ ⟨r.val % 128, by omega⟩)
    (fun q => rms (Ideal.ofBits .f32 0x44800000#32) (bv ⟨r.val / 128 * 128 + q.val, by omega⟩) gs c)
    (bs ⟨c.val / 128, by omega⟩ ⟨r.val % 128, by omega⟩)

/-- Branch C before its gate, on one block: row `r`, column `c` of the four heads laid side by side. -/
def attendRow (cq : Fin 256 → Fin 1024 → EReal) (gq : Fin 256 → EReal) (mk mv : Fin 256 → Fin 1024 → EReal) (r : Fin 256) (c : Fin 1024) : EReal :=
  attend (fun k => score (fun d => cq r ⟨c.val / 256 * 256 + d.val, by omega⟩) gq (fun d => mk k ⟨c.val / 256 * 256 + d.val, by omega⟩))
    (fun k => mv k c)

/-- One group of the block: columns `o, …, o + 127` of the normalised values `vn`. -/
theorem group_at (vn : FVec Ideal S256x1024 .bf16) (w : Vec Ideal S1x128x128 .f32) (v0 v1 : FVec Ideal S128x128 .bf16) (b : Vec Ideal S128x1 .f32)
    (bv : Fin 256 → Fin 1024 → EReal) (gs : Fin 1024 → EReal) (ws : Fin 8 → Fin 128 → Fin 128 → EReal) (bs : Fin 8 → Fin 128 → EReal) (g : Fin 8) (o : ℕ)
    (ho : o = g.val * 128)
    (hn : ∀ (r : Fin 256) (c : Fin 1024), vn (ix2 r c : S256x1024.Idx) = rms (Ideal.ofBits .f32 0x44800000#32) (bv r) gs c)
    (h0 : ∀ (q e : Fin 128) (k : Fin 1024), k.val = o + e.val → v0 (ix2 q e : S128x128.Idx) = vn (ix2 ⟨q.val, by omega⟩ k : S256x1024.Idx))
    (h1 : ∀ (q e : Fin 128) (k : Fin 1024), k.val = o + e.val → v1 (ix2 q e : S128x128.Idx) = vn (ix2 ⟨128 + q.val, by omega⟩ k : S256x1024.Idx))
    (hw : ∀ p q : Fin 128, w (ix3 0 p q : S1x128x128.Idx) = ws g p q) (hb : ∀ p : Fin 128, b (ix2 p 0 : S128x1.Idx) = bs g p)
    (r : Fin 256) (e : Fin 128) :
    groupOut (k0_pay17 (F := Ideal) k0_pay4 w) v0 v1 b (ix2 r e : S256x128.Idx)
      = mix ⟨r.val % 128, by omega⟩ (ws g ⟨r.val % 128, by omega⟩)
          (fun q => rms (Ideal.ofBits .f32 0x44800000#32) (bv ⟨r.val / 128 * 128 + q.val, by omega⟩) gs ⟨g.val * 128 + e.val, by omega⟩)
          (bs g ⟨r.val % 128, by omega⟩) := by
  refine (groupOut_apply w v0 v1 b (fun r e => rms (Ideal.ofBits .f32 0x44800000#32) (bv r) gs ⟨g.val * 128 + e.val, by omega⟩)
    (fun q e => (h0 q e ⟨g.val * 128 + e.val, by omega⟩ (by dsimp only; omega)).trans (hn _ _))
    (fun q e => (h1 q e ⟨g.val * 128 + e.val, by omega⟩ (by dsimp only; omega)).trans (hn _ _)) r e).trans ?_
  refine congr (congrFun (congrArg (mix _) (funext fun q => ?_)) _) (hb _)
  exact hw _ q

/-- One head of the block: columns `o, …, o + 255`. -/
theorem head_at (x : FVec Ideal S256x256 .f32) (g : Vec Ideal S1x256 .f32) (k v : Vec Ideal S256x256 .bf16) (cq : Fin 256 → Fin 1024 → EReal)
    (mk mv : Fin 256 → Fin 1024 → EReal) (i : Fin 4) (o : ℕ) (ho : o = i.val * 256)
    (hx : ∀ (r d : Fin 256) (c : Fin 1024), c.val = o + d.val → x (ix2 r d : S256x256.Idx) = cq r c)
    (hk : ∀ (r d : Fin 256) (c : Fin 1024), c.val = o + d.val → k (ix2 r d : S256x256.Idx) = mk r c)
    (hv : ∀ (r d : Fin 256) (c : Fin 1024), c.val = o + d.val → v (ix2 r d : S256x256.Idx) = mv r c) (r e : Fin 256) :
    attendOf (scoresOf x g k) v (ix2 r e : S256x256.Idx)
      = attend (fun k => score (fun d => cq r ⟨i.val * 256 + d.val, by omega⟩) (fun d => g (ix2 0 d)) (fun d => mk k ⟨i.val * 256 + d.val, by omega⟩))
          (fun k => mv k ⟨i.val * 256 + e.val, by omega⟩) := by
  rw [attendOf_apply]
  refine congr (congrArg attend (funext fun c => ?_)) (funext fun c => hv c e _ (by dsimp only; omega))
  rw [scoresOf_apply]
  exact congr (congrFun (congrArg score (funext fun d => hx r d _ (by dsimp only; omega))) _) (funext fun d => hk c d _ (by dsimp only; omega))

set_option maxHeartbeats 1600000 in
/-- What the body leaves of one block, at row `r` and column `c`. -/
theorem block_apply (x0 : Vec Ideal S256x2048 .f32) (x1 x2 x3 x4 x5 x6 x7 : Vec Ideal S256x1024 .bf16) (x8 x9 x10 : Vec Ideal S256x2048 .bf16)
    (x11 x12 : Vec Ideal S256x1024 .bf16) (x13 : Vec Ideal S8x128x128 .f32) (x14 : Vec Ideal S128x8 .f32) (x15 : Vec Ideal S1x1024 .f32)
    (x16 : Vec Ideal S1x256 .f32) (x17 x18 x19 : Vec Ideal S1024x2048 .bf16) (x20 : Vec Ideal S2048x2048 .bf16) (r : Fin 256) (c : Fin 2048) :
    out0_21 (F := Ideal) x0 x1 x2 x3 x4 x5 x6 x7 x8 x9 x10 x11 x12 x13 x14 x15 x16 x17 x18 x19 x20 (ix2 r c : S256x2048.Idx)
      = (x0 (ix2 r c) : EReal) + ∑ j : Fin 2048,
          join (x8 (ix2 r j)) (x9 (ix2 r j)) (x10 (ix2 r j))
            (branch (fun i => x1 (ix2 r i)) (fun i => x2 (ix2 r i)) (fun i => x17 (ix2 i j)))
            (branch (mixRow (fun r i => x3 (ix2 r i)) (fun r i => x4 (ix2 r i)) (fun i => x15 (ix2 0 i)) (fun g p q => x13 (ix3 g p q)) (fun g p => x14 (ix2 p g)) r)
              (fun i => x5 (ix2 r i)) (fun i => x18 (ix2 i j)))
            (branch (attendRow (fun r i => x6 (ix2 r i)) (fun d => x16 (ix2 0 d)) (fun r i => x11 (ix2 r i)) (fun r i => x12 (ix2 r i)) r)
              (fun i => x7 (ix2 r i)) (fun i => x19 (ix2 i j)))
          * x20 (ix2 j c) := by
  unfold_out out0_21
  rw [View.canon_unit_zero zero2]
  repeat rw [View.ld_unit_zero zero2]
  rw [group0_eq, group1_eq, group2_eq, group3_eq, group4_eq, group5_eq, group6_eq, branchB_eq, head0_eq, head1_eq, heads_eq]
  rw [result_apply]
  refine congrArg (_ + ·) (Finset.sum_congr rfl fun j _ => congrArg (· * _) ?_)
  rw [join_apply, gatedDot_apply]
  refine congrArg₂ (join _ _ _ _) ?_ ?_
  · refine congrFun (congrFun (congrArg branch (funext fun i => ?_)) _) _
    rw [show ∀ (a b : FVec Ideal S256x1024 .f32) (i : S256x1024.Idx), mulf a b i = a i * b i from fun _ _ _ => rfl]
    refine congrArg₂ (· * ·) (by pointwise [k0_pay3]) ?_
    have hn := values_apply x4 x15
    generalize k0_pay2 (F := Ideal) x4 x15 = vn at hn ⊢
    refine (groups_apply _ _ _ _ _ _ _ _ (fun g r e => mix ⟨r.val % 128, by omega⟩ (fun q => x13 (ix3 g ⟨r.val % 128, by omega⟩ q))
        (fun q => rms (Ideal.ofBits .f32 0x44800000#32) (fun k : Fin 1024 => x4 (ix2 ⟨r.val / 128 * 128 + q.val, by omega⟩ k)) (fun k => x15 (ix2 0 k)) ⟨g.val * 128 + e.val, by omega⟩)
        (x14 (ix2 ⟨r.val % 128, by omega⟩ g))) ?_ ?_ ?_ ?_ ?_ ?_ ?_ ?_ r i).trans ?_
    · exact group_at vn _ _ _ _ (fun r k => x4 (ix2 r k)) (fun k => x15 (ix2 0 k)) (fun g p q => x13 (ix3 g p q)) (fun g p => x14 (ix2 p g)) 0 0 rfl hn
        (fun q e k hk => by pointwise; exact congrArg (fun k => vn (ix2 _ k)) (Fin.ext (by dsimp only; omega)))
        (fun q e k hk => by pointwise; exact congrArg (fun k => vn (ix2 _ k)) (Fin.ext (by dsimp only; omega))) (fun p q => by pointwise) (fun p => by pointwise)
    · exact group_at vn _ _ _ _ (fun r k => x4 (ix2 r k)) (fun k => x15 (ix2 0 k)) (fun g p q => x13 (ix3 g p q)) (fun g p => x14 (ix2 p g)) 1 128 rfl hn
        (fun q e k hk => by pointwise; exact congrArg (fun k => vn (ix2 _ k)) (Fin.ext (by dsimp only; omega)))
        (fun q e k hk => by pointwise; exact congrArg (fun k => vn (ix2 _ k)) (Fin.ext (by dsimp only; omega))) (fun p q => by pointwise) (fun p => by pointwise)
    · exact group_at vn _ _ _ _ (fun r k => x4 (ix2 r k)) (fun k => x15 (ix2 0 k)) (fun g p q => x13 (ix3 g p q)) (fun g p => x14 (ix2 p g)) 2 256 rfl hn
        (fun q e k hk => by pointwise; exact congrArg (fun k => vn (ix2 _ k)) (Fin.ext (by dsimp only; omega)))
        (fun q e k hk => by pointwise; exact congrArg (fun k => vn (ix2 _ k)) (Fin.ext (by dsimp only; omega))) (fun p q => by pointwise) (fun p => by pointwise)
    · exact group_at vn _ _ _ _ (fun r k => x4 (ix2 r k)) (fun k => x15 (ix2 0 k)) (fun g p q => x13 (ix3 g p q)) (fun g p => x14 (ix2 p g)) 3 384 rfl hn
        (fun q e k hk => by pointwise; exact congrArg (fun k => vn (ix2 _ k)) (Fin.ext (by dsimp only; omega)))
        (fun q e k hk => by pointwise; exact congrArg (fun k => vn (ix2 _ k)) (Fin.ext (by dsimp only; omega))) (fun p q => by pointwise) (fun p => by pointwise)
    · exact group_at vn _ _ _ _ (fun r k => x4 (ix2 r k)) (fun k => x15 (ix2 0 k)) (fun g p q => x13 (ix3 g p q)) (fun g p => x14 (ix2 p g)) 4 512 rfl hn
        (fun q e k hk => by pointwise; exact congrArg (fun k => vn (ix2 _ k)) (Fin.ext (by dsimp only; omega)))
        (fun q e k hk => by pointwise; exact congrArg (fun k => vn (ix2 _ k)) (Fin.ext (by dsimp only; omega))) (fun p q => by pointwise) (fun p => by pointwise)
    · exact group_at vn _ _ _ _ (fun r k => x4 (ix2 r k)) (fun k => x15 (ix2 0 k)) (fun g p q => x13 (ix3 g p q)) (fun g p => x14 (ix2 p g)) 5 640 rfl hn
        (fun q e k hk => by pointwise; exact congrArg (fun k => vn (ix2 _ k)) (Fin.ext (by dsimp only; omega)))
        (fun q e k hk => by pointwise; exact congrArg (fun k => vn (ix2 _ k)) (Fin.ext (by dsimp only; omega))) (fun p q => by pointwise) (fun p => by pointwise)
    · exact group_at vn _ _ _ _ (fun r k => x4 (ix2 r k)) (fun k => x15 (ix2 0 k)) (fun g p q => x13 (ix3 g p q)) (fun g p => x14 (ix2 p g)) 6 768 rfl hn
        (fun q e k hk => by pointwise; exact congrArg (fun k => vn (ix2 _ k)) (Fin.ext (by dsimp only; omega)))
        (fun q e k hk => by pointwise; exact congrArg (fun k => vn (ix2 _ k)) (Fin.ext (by dsimp only; omega))) (fun p q => by pointwise) (fun p => by pointwise)
    · exact group_at vn _ _ _ _ (fun r k => x4 (ix2 r k)) (fun k => x15 (ix2 0 k)) (fun g p q => x13 (ix3 g p q)) (fun g p => x14 (ix2 p g)) 7 896 rfl hn
        (fun q e k hk => by pointwise [k0_pay18]; exact congrArg (fun k => vn (ix2 _ k)) (Fin.ext (by dsimp only; omega)))
        (fun q e k hk => by pointwise; exact congrArg (fun k => vn (ix2 _ k)) (Fin.ext (by dsimp only; omega))) (fun p q => by pointwise) (fun p => by pointwise)
    · simp only [Nat.div_add_mod']
  · refine congrFun (congrFun (congrArg branch (funext fun i => ?_)) _) _
    have hq : ∀ (r : Fin 256) (i : Fin 1024), k0_pay20 (F := Ideal) x6 (ix2 r i : S256x1024.Idx) = x6 (ix2 r i) := fun r i => by pointwise [k0_pay20]
    generalize k0_pay20 (F := Ideal) x6 = cq at hq ⊢
    refine (heads_apply _ _ _ _ (fun h r e => attend (fun k => score (fun d => x6 (ix2 r ⟨h.val * 256 + d.val, by omega⟩)) (fun d => x16 (ix2 0 d))
        (fun d => x11 (ix2 k ⟨h.val * 256 + d.val, by omega⟩))) (fun k => x12 (ix2 k ⟨h.val * 256 + e.val, by omega⟩))) ?_ ?_ ?_ ?_ r i).trans ?_
    · exact head_at _ _ _ _ (fun r i => x6 (ix2 r i)) (fun r i => x11 (ix2 r i)) (fun r i => x12 (ix2 r i)) 0 0 rfl
        (fun r d c hc => by pointwise; exact (hq _ _).trans (congrArg (fun c => x6 (ix2 r c)) (Fin.ext (by dsimp only; omega))))
        (fun r d c hc => by pointwise; exact congrArg (fun c => x11 (ix2 r c)) (Fin.ext (by dsimp only; omega)))
        (fun r d c hc => by pointwise; exact congrArg (fun c => x12 (ix2 r c)) (Fin.ext (by dsimp only; omega)))
    · exact head_at _ _ _ _ (fun r i => x6 (ix2 r i)) (fun r i => x11 (ix2 r i)) (fun r i => x12 (ix2 r i)) 1 256 rfl
        (fun r d c hc => by pointwise; exact (hq _ _).trans (congrArg (fun c => x6 (ix2 r c)) (Fin.ext (by dsimp only; omega))))
        (fun r d c hc => by pointwise; exact congrArg (fun c => x11 (ix2 r c)) (Fin.ext (by dsimp only; omega)))
        (fun r d c hc => by pointwise; exact congrArg (fun c => x12 (ix2 r c)) (Fin.ext (by dsimp only; omega)))
    · exact head_at _ _ _ _ (fun r i => x6 (ix2 r i)) (fun r i => x11 (ix2 r i)) (fun r i => x12 (ix2 r i)) 2 512 rfl
        (fun r d c hc => by pointwise; exact (hq _ _).trans (congrArg (fun c => x6 (ix2 r c)) (Fin.ext (by dsimp only; omega))))
        (fun r d c hc => by pointwise; exact congrArg (fun c => x11 (ix2 r c)) (Fin.ext (by dsimp only; omega)))
        (fun r d c hc => by pointwise; exact congrArg (fun c => x12 (ix2 r c)) (Fin.ext (by dsimp only; omega)))
    · exact head_at _ _ _ _ (fun r i => x6 (ix2 r i)) (fun r i => x11 (ix2 r i)) (fun r i => x12 (ix2 r i)) 3 768 rfl
        (fun r d c hc => by pointwise; exact (hq _ _).trans (congrArg (fun c => x6 (ix2 r c)) (Fin.ext (by dsimp only; omega))))
        (fun r d c hc => by pointwise; exact congrArg (fun c => x11 (ix2 r c)) (Fin.ext (by dsimp only; omega)))
        (fun r d c hc => by pointwise; exact congrArg (fun c => x12 (ix2 r c)) (Fin.ext (by dsimp only; omega)))
    · simp only [attendRow, Nat.div_add_mod']

variable (m : (ℓ : Loc nD τ sig) → Buf (Elt Ideal) ℓ)

/-- Grid point `t` works on row block `t` of the tokens' arrays, on the memory of sequence `t / 16` and on the weights whole. -/
theorem idx : ∀ t : Fin cfg0.N, win0_0.index t = ![t.val, 0] ∧ win0_1.index t = ![t.val, 0] ∧ win0_2.index t = ![t.val, 0] ∧ win0_3.index t = ![t.val, 1]
    ∧ win0_4.index t = ![t.val, 2] ∧ win0_5.index t = ![t.val, 3] ∧ win0_6.index t = ![t.val, 4] ∧ win0_7.index t = ![t.val, 5]
    ∧ win0_8.index t = ![t.val, 3] ∧ win0_9.index t = ![t.val, 4] ∧ win0_10.index t = ![t.val, 5] ∧ win0_11.index t = ![t.val / 16, 0]
    ∧ win0_12.index t = ![t.val / 16, 0] ∧ win0_13.index t = ![0, 0, 0] ∧ win0_14.index t = ![0, 0] ∧ win0_15.index t = ![0, 0] ∧ win0_16.index t = ![0, 0]
    ∧ win0_17.index t = ![0, 0] ∧ win0_18.index t = ![0, 0] ∧ win0_19.index t = ![0, 0] ∧ win0_20.index t = ![0, 0] ∧ win0_21.index t = ![t.val, 0] :=
  (by decide +kernel : ∀ t : Fin grid0.N, _)

theorem point_lt : ∀ t : Fin cfg0.N, t.val < 32 := (by decide +kernel : ∀ t : Fin grid0.N, _)

/-- Block `t` of the tokens, at row `r`: row `256 t + r` of the two sequences. -/
theorem x_block (c : Dev nD) (t : Fin cfg0.N) (ht : t.val < 32) (r : Fin 256) (k : Fin 2048) :
    iblk m c 0 t (ix2 r k : S256x2048.Idx) = m ((c : Thread nD τ).loc main_arg0) (ix3 ⟨(256 * t.val + r.val) / 4096, by omega⟩ ⟨(256 * t.val + r.val) % 4096, by omega⟩ k : S2x4096x2048.Idx) := by
  blk_simp [iblk]
  entry_read
  pointwise
  blk_ext [idx t]

/-- Branch A's output. -/
theorem oa_block (c : Dev nD) (t : Fin cfg0.N) (ht : t.val < 32) (r : Fin 256) (k : Fin 1024) :
    iblk m c 1 t (ix2 r k : S256x1024.Idx) = m ((c : Thread nD τ).loc main_arg1) (ix3 ⟨(256 * t.val + r.val) / 4096, by omega⟩ ⟨(256 * t.val + r.val) % 4096, by omega⟩ k : S2x4096x1024.Idx) := by
  blk_simp [iblk]
  entry_read
  pointwise
  blk_ext [idx t]

/-- Columns 0 to 1023 of the rest of the projection. -/
theorem ag_block (c : Dev nD) (t : Fin cfg0.N) (ht : t.val < 32) (r : Fin 256) (k : Fin 1024) :
    iblk m c 2 t (ix2 r k : S256x1024.Idx) = m ((c : Thread nD τ).loc main_arg2) (ix3 ⟨(256 * t.val + r.val) / 4096, by omega⟩ ⟨(256 * t.val + r.val) % 4096, by omega⟩ ⟨k.val, by omega⟩ : S2x4096x12288.Idx) := by
  blk_simp [iblk]
  entry_read
  pointwise
  blk_ext [idx t]

/-- Columns 1024 to 2047 of the rest of the projection. -/
theorem bu_block (c : Dev nD) (t : Fin cfg0.N) (ht : t.val < 32) (r : Fin 256) (k : Fin 1024) :
    iblk m c 3 t (ix2 r k : S256x1024.Idx) = m ((c : Thread nD τ).loc main_arg2) (ix3 ⟨(256 * t.val + r.val) / 4096, by omega⟩ ⟨(256 * t.val + r.val) % 4096, by omega⟩ ⟨1024 + k.val, by omega⟩ : S2x4096x12288.Idx) := by
  blk_simp [iblk]
  entry_read
  pointwise
  blk_ext [idx t]

/-- Columns 2048 to 3071 of the rest of the projection. -/
theorem bv_block (c : Dev nD) (t : Fin cfg0.N) (ht : t.val < 32) (r : Fin 256) (k : Fin 1024) :
    iblk m c 4 t (ix2 r k : S256x1024.Idx) = m ((c : Thread nD τ).loc main_arg2) (ix3 ⟨(256 * t.val + r.val) / 4096, by omega⟩ ⟨(256 * t.val + r.val) % 4096, by omega⟩ ⟨2048 + k.val, by omega⟩ : S2x4096x12288.Idx) := by
  blk_simp [iblk]
  entry_read
  pointwise
  blk_ext [idx t]

/-- Columns 3072 to 4095 of the rest of the projection. -/
theorem bg_block (c : Dev nD) (t : Fin cfg0.N) (ht : t.val < 32) (r : Fin 256) (k : Fin 1024) :
    iblk m c 5 t (ix2 r k : S256x1024.Idx) = m ((c : Thread nD τ).loc main_arg2) (ix3 ⟨(256 * t.val + r.val) / 4096, by omega⟩ ⟨(256 * t.val + r.val) % 4096, by omega⟩ ⟨3072 + k.val, by omega⟩ : S2x4096x12288.Idx) := by
  blk_simp [iblk]
  entry_read
  pointwise
  blk_ext [idx t]

/-- Columns 4096 to 5119 of the rest of the projection. -/
theorem cq_block (c : Dev nD) (t : Fin cfg0.N) (ht : t.val < 32) (r : Fin 256) (k : Fin 1024) :
    iblk m c 6 t (ix2 r k : S256x1024.Idx) = m ((c : Thread nD τ).loc main_arg2) (ix3 ⟨(256 * t.val + r.val) / 4096, by omega⟩ ⟨(256 * t.val + r.val) % 4096, by omega⟩ ⟨4096 + k.val, by omega⟩ : S2x4096x12288.Idx) := by
  blk_simp [iblk]
  entry_read
  pointwise
  blk_ext [idx t]

/-- Columns 5120 to 6143 of the rest of the projection. -/
theorem cg_block (c : Dev nD) (t : Fin cfg0.N) (ht : t.val < 32) (r : Fin 256) (k : Fin 1024) :
    iblk m c 7 t (ix2 r k : S256x1024.Idx) = m ((c : Thread nD τ).loc main_arg2) (ix3 ⟨(256 * t.val + r.val) / 4096, by omega⟩ ⟨(256 * t.val + r.val) % 4096, by omega⟩ ⟨5120 + k.val, by omega⟩ : S2x4096x12288.Idx) := by
  blk_simp [iblk]
  entry_read
  pointwise
  blk_ext [idx t]

/-- Columns 6144 to 8191 of the rest of the projection. -/
theorem ra_block (c : Dev nD) (t : Fin cfg0.N) (ht : t.val < 32) (r : Fin 256) (k : Fin 2048) :
    iblk m c 8 t (ix2 r k : S256x2048.Idx) = m ((c : Thread nD τ).loc main_arg2) (ix3 ⟨(256 * t.val + r.val) / 4096, by omega⟩ ⟨(256 * t.val + r.val) % 4096, by omega⟩ ⟨6144 + k.val, by omega⟩ : S2x4096x12288.Idx) := by
  blk_simp [iblk]
  entry_read
  pointwise
  blk_ext [idx t]

/-- Columns 8192 to 10239 of the rest of the projection. -/
theorem rb_block (c : Dev nD) (t : Fin cfg0.N) (ht : t.val < 32) (r : Fin 256) (k : Fin 2048) :
    iblk m c 9 t (ix2 r k : S256x2048.Idx) = m ((c : Thread nD τ).loc main_arg2) (ix3 ⟨(256 * t.val + r.val) / 4096, by omega⟩ ⟨(256 * t.val + r.val) % 4096, by omega⟩ ⟨8192 + k.val, by omega⟩ : S2x4096x12288.Idx) := by
  blk_simp [iblk]
  entry_read
  pointwise
  blk_ext [idx t]

/-- Columns 10240 to 12287 of the rest of the projection. -/
theorem rc_block (c : Dev nD) (t : Fin cfg0.N) (ht : t.val < 32) (r : Fin 256) (k : Fin 2048) :
    iblk m c 10 t (ix2 r k : S256x2048.Idx) = m ((c : Thread nD τ).loc main_arg2) (ix3 ⟨(256 * t.val + r.val) / 4096, by omega⟩ ⟨(256 * t.val + r.val) % 4096, by omega⟩ ⟨10240 + k.val, by omega⟩ : S2x4096x12288.Idx) := by
  blk_simp [iblk]
  entry_read
  pointwise
  blk_ext [idx t]

/-- The memory's keys: head `k / 256` of the sequence the block lies in. -/
theorem mk_block (c : Dev nD) (t : Fin cfg0.N) (ht : t.val < 32) (r : Fin 256) (k : Fin 1024) :
    iblk m c 11 t (ix2 r k : S256x1024.Idx) = m ((c : Thread nD τ).loc main_arg3) (ix4 ⟨t.val / 16, by omega⟩ r ⟨k.val / 256, by omega⟩ ⟨k.val % 256, by omega⟩ : S2x256x4x256.Idx) := by
  blk_simp [iblk]
  entry_read
  pointwise
  blk_ext [idx t]

/-- The memory's values: head `k / 256` of the sequence the block lies in. -/
theorem mv_block (c : Dev nD) (t : Fin cfg0.N) (ht : t.val < 32) (r : Fin 256) (k : Fin 1024) :
    iblk m c 12 t (ix2 r k : S256x1024.Idx) = m ((c : Thread nD τ).loc main_arg4) (ix4 ⟨t.val / 16, by omega⟩ r ⟨k.val / 256, by omega⟩ ⟨k.val % 256, by omega⟩ : S2x256x4x256.Idx) := by
  blk_simp [iblk]
  entry_read
  pointwise
  blk_ext [idx t]

/-- The spatial weights. -/
theorem ws_block (c : Dev nD) (t : Fin cfg0.N) (ht : t.val < 32) (g : Fin 8) (p q : Fin 128) :
    iblk m c 13 t (ix3 g p q : S8x128x128.Idx) = m ((c : Thread nD τ).loc main_arg5) (ix3 g p q : S8x128x128.Idx) := by
  blk_simp [iblk]
  entry_read
  pointwise
  blk_ext [idx t]

/-- The spatial biases, which the kernel has transposed. -/
theorem bs_block (c : Dev nD) (t : Fin cfg0.N) (ht : t.val < 32) (p : Fin 128) (g : Fin 8) :
    iblk m c 14 t (ix2 p g : S128x8.Idx) = m ((c : Thread nD τ).loc main_arg6) (ix2 g p : S8x128.Idx) := by
  blk_simp [iblk]
  entry_read
  pointwise
  blk_ext [idx t]

/-- The gain of branch B's norm. -/
theorem gs_block (c : Dev nD) (t : Fin cfg0.N) (ht : t.val < 32) (k : Fin 1024) :
    iblk m c 15 t (ix2 0 k : S1x1024.Idx) = m ((c : Thread nD τ).loc main_arg7) (ix1 k : S1024.Idx) := by
  blk_simp [iblk]
  entry_read
  pointwise
  blk_ext [idx t]

/-- The gain of branch C's norm. -/
theorem gq_block (c : Dev nD) (t : Fin cfg0.N) (ht : t.val < 32) (k : Fin 256) :
    iblk m c 16 t (ix2 0 k : S1x256.Idx) = m ((c : Thread nD τ).loc main_arg8) (ix1 k : S256.Idx) := by
  blk_simp [iblk]
  entry_read
  pointwise
  blk_ext [idx t]

/-- Branch A's weights. -/
theorem wa_block (c : Dev nD) (t : Fin cfg0.N) (ht : t.val < 32) (k : Fin 1024) (q : Fin 2048) :
    iblk m c 17 t (ix2 k q : S1024x2048.Idx) = m ((c : Thread nD τ).loc main_arg9) (ix2 k q : S1024x2048.Idx) := by
  blk_simp [iblk]
  entry_read
  pointwise
  blk_ext [idx t]

/-- Branch B's weights. -/
theorem wb_block (c : Dev nD) (t : Fin cfg0.N) (ht : t.val < 32) (k : Fin 1024) (q : Fin 2048) :
    iblk m c 18 t (ix2 k q : S1024x2048.Idx) = m ((c : Thread nD τ).loc main_arg10) (ix2 k q : S1024x2048.Idx) := by
  blk_simp [iblk]
  entry_read
  pointwise
  blk_ext [idx t]

/-- Branch C's weights. -/
theorem wc_block (c : Dev nD) (t : Fin cfg0.N) (ht : t.val < 32) (k : Fin 1024) (q : Fin 2048) :
    iblk m c 19 t (ix2 k q : S1024x2048.Idx) = m ((c : Thread nD τ).loc main_arg11) (ix2 k q : S1024x2048.Idx) := by
  blk_simp [iblk]
  entry_read
  pointwise
  blk_ext [idx t]

/-- The output's weights. -/
theorem wo_block (c : Dev nD) (t : Fin cfg0.N) (ht : t.val < 32) (k q : Fin 2048) :
    iblk m c 20 t (ix2 k q : S2048x2048.Idx) = m ((c : Thread nD τ).loc main_arg12) (ix2 k q : S2048x2048.Idx) := by
  blk_simp [iblk]
  entry_read
  pointwise
  blk_ext [idx t]

end Cert.MergeIdeal.Arrays

end
-- ==== Proof.MergeFinal.lean ====
/- The merge kernel's result against the reference's: the precondition read, one grid point, the whole array. -/
module

public import proofs.«01_k».proof.Defs
public import proofs.«01_k».proof.Proof.MergeValue
public import Idealize.ShloMosaic.Lib.Pipeline.ValueKit

@[expose] public section

set_option maxRecDepth 16384

noncomputable section

namespace Cert.MergeIdeal.Arrays

open Cert.MergeIdeal Cert.MergeIdeal.Gen Cert.MergeIdeal.Pure Cert.Spec Idealize.ShloMosaic Idealize.ShloMosaic.TcCoe Idealize.SL.Sem
open Idealize.ShloMosaic.Pipeline (Dat)

/-- A number whose magnitude is below infinity is a real one. -/
theorem real_of_abs_lt {x : EReal} (h : BitVec.ofBool (decide (max x (-x) < Ideal.ofBits .f32 0x7F800000#32)) = 1#1) : IsReal x := by
  have ht : Ideal.ofBits .f32 0x7F800000#32 = ⊤ := by simp [Ideal.ofBits, Ideal.ieee]
  rw [ht] at h
  have hx : max x (-x) < ⊤ := by
    by_contra hn
    rw [decide_eq_false hn] at h
    exact absurd h (by decide)
  refine IsReal.of_abs_lt ?_ ?_
  · rintro rfl; exact absurd hx (by simp)
  · rintro rfl; exact absurd hx (by simp)

section Precondition

variable (m : (ℓ : Loc nD τ sig) → Buf (Elt Ideal) ℓ) [Cert.Pre_finite_scores.Facts]

/-- The queries' columns are real numbers under the precondition. -/
theorem real_queries (hpre : Cert.Pre_MergeIdeal_finite_scores m) (c : Dev nD) (b : Fin 2) (t : Fin 4096) (k : Fin 1024) :
    IsReal (m ((c : Thread nD τ).loc main_arg2) (ix3 b t ⟨4096 + k.val, by omega⟩ : S2x4096x12288.Idx)) := by
  have h := congrFun (hpre c).1 (ix3 b t k : S2x4096x1024.Idx)
  unfold Cert.Pre_finite_scores.fn at h
  pointwise at h
  exact real_of_abs_lt h

/-- The memory's keys are real numbers under the precondition. -/
theorem real_keys (hpre : Cert.Pre_MergeIdeal_finite_scores m) (c : Dev nD) (b : Fin 2) (t : Fin 256) (h : Fin 4) (k : Fin 256) :
    IsReal (m ((c : Thread nD τ).loc main_arg3) (ix4 b t h k : S2x256x4x256.Idx)) := by
  have h := congrFun (hpre c).2.1 (ix4 b t h k : S2x256x4x256.Idx)
  unfold Cert.Pre_finite_scores.fn at h
  pointwise at h
  exact real_of_abs_lt h

/-- The queries' gain is made of real numbers under the precondition. -/
theorem real_gain (hpre : Cert.Pre_MergeIdeal_finite_scores m) (c : Dev nD) (k : Fin 256) :
    IsReal (m ((c : Thread nD τ).loc main_arg8) (ix1 k : S256.Idx)) := by
  have h := congrFun (hpre c).2.2 (ix1 k : S256.Idx)
  unfold Cert.Pre_finite_scores.fn at h
  pointwise at h
  exact real_of_abs_lt h

/-- So every score is a real number. -/
theorem real_score (hpre : Cert.Pre_MergeIdeal_finite_scores m) (c : Dev nD) (b : Fin 2) (t : Fin 4096) (h : Fin 4) (e : Fin 256) :
    IsReal (Cert.MergeRefIdeal.Read.val_main_v51 (F := Ideal) (m ((c : Thread nD τ).loc main_arg2)) (m ((c : Thread nD τ).loc main_arg3)) (m ((c : Thread nD τ).loc main_arg8)) (ix4 b h t e : Cert.MergeRefIdeal.S2x4x4096x256.Idx)) := by
  rw [Cert.MergeRefIdeal.Pure.score_apply]
  refine IsReal.sum _ fun d _ => ((real_rms _ _ (fun k => ?_) (fun k => ?_) d).mul ⟨_, real_sixteenth⟩).mul ?_
  · exact real_queries m hpre c b t ⟨h.val * 256 + k.val, by omega⟩
  · exact real_gain m hpre c k
  · exact real_keys m hpre c b e h d

end Precondition

variable (m : (ℓ : Loc nD τ sig) → Buf (Elt Ideal) ℓ)

/-- The reference's result, as a function of the kernel's arguments. -/
abbrev refOut (c : Dev nD) : FVec Ideal S8192x2048 .f32 :=
  Cert.MergeRefIdeal.Read.val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

/-- The sequence and the token that row `r` of block `t` stands for. -/
abbrev seqOf (t : ℕ) (ht : t < 32) (r : Fin 256) : Fin 2 := ⟨(256 * t + r.val) / 4096, by omega⟩
abbrev tokOf (t : ℕ) (r : Fin 256) : Fin 4096 := ⟨(256 * t + r.val) % 4096, by omega⟩

/-- Branch B of a block is the reference's. -/
theorem mix_block (c : Dev nD) (t : Fin cfg0.N) (ht : t.val < 32) (r : Fin 256) (i : Fin 1024) :
    mixRow (fun r i => iblk m c 3 t (ix2 r i : S256x1024.Idx)) (fun r i => iblk m c 4 t (ix2 r i : S256x1024.Idx)) (fun i => iblk m c 15 t (ix2 0 i : S1x1024.Idx))
        (fun g p q => iblk m c 13 t (ix3 g p q : S8x128x128.Idx)) (fun g p => iblk m c 14 t (ix2 p g : S128x8.Idx)) r i
      = Cert.MergeRefIdeal.Read.val_main_v34 (F := Ideal) (m ((c : Thread nD τ).loc main_arg2)) (m ((c : Thread nD τ).loc main_arg5)) (m ((c : Thread nD τ).loc main_arg6)) (m ((c : Thread nD τ).loc main_arg7)) (ix3 (seqOf t.val ht r) (tokOf t.val r) i : Cert.MergeRefIdeal.S2x4096x1024.Idx) := by
  refine Eq.trans ?_ (Cert.MergeRefIdeal.Pure.branchB_apply _ _ _ _ _ _ _).symm
  have ep : (⟨(tokOf t.val r).val % 128, by omega⟩ : Fin 128) = ⟨r.val % 128, by omega⟩ := Fin.ext (show (256 * t.val + r.val) % 4096 % 128 = r.val % 128 by omega)
  rw [ep]
  unfold mixRow
  refine congrArg₂ (· * ·) (bu_block m c t ht r i) ?_
  refine congr (congr (congrArg (mix _) (funext fun q => ws_block m c t ht _ _ q)) (funext fun q => ?_)) (bs_block m c t ht _ _)
  refine congrFun (congr (congrArg (rms _) (funext fun k => (bv_block m c t ht _ k).trans ?_)) (funext fun k => gs_block m c t ht k)) i
  refine congrArg₂ (fun b s => (m ((c : Thread nD τ).loc main_arg2)) (ix3 b s ⟨2048 + k.val, by omega⟩ : S2x4096x12288.Idx)) (Fin.ext ?_) (Fin.ext ?_)
  · show (256 * t.val + (r.val / 128 * 128 + q.val)) / 4096 = (256 * t.val + r.val) / 4096
    omega
  · show (256 * t.val + (r.val / 128 * 128 + q.val)) % 4096 = (256 * t.val + r.val) % 4096 / 128 * 128 + q.val
    omega

/-- Branch C of a block is the reference's, where the scores are finite. -/
theorem attend_block [Cert.Pre_finite_scores.Facts] (hpre : Cert.Pre_MergeIdeal_finite_scores m) (c : Dev nD) (t : Fin cfg0.N) (ht : t.val < 32) (r : Fin 256) (i : Fin 1024) :
    attendRow (fun r i => iblk m c 6 t (ix2 r i : S256x1024.Idx)) (fun d => iblk m c 16 t (ix2 0 d : S1x256.Idx))
        (fun r i => iblk m c 11 t (ix2 r i : S256x1024.Idx)) (fun r i => iblk m c 12 t (ix2 r i : S256x1024.Idx)) r i
      = Cert.MergeRefIdeal.Read.val_main_v65 (F := Ideal) (m ((c : Thread nD τ).loc main_arg2)) (m ((c : Thread nD τ).loc main_arg3)) (m ((c : Thread nD τ).loc main_arg4)) (m ((c : Thread nD τ).loc main_arg8)) (ix3 (seqOf t.val ht r) (tokOf t.val r) i : Cert.MergeRefIdeal.S2x4096x1024.Idx) := by
  refine Eq.trans ?_ (Cert.MergeRefIdeal.Pure.branchC_apply _ _ _ _ _ _ _ (fun e => real_score m hpre c _ _ _ e)).symm
  have es : (⟨t.val / 16, by omega⟩ : Fin 2) = seqOf t.val ht r := Fin.ext (show t.val / 16 = (256 * t.val + r.val) / 4096 by omega)
  unfold attendRow
  refine congr (congrArg attend (funext fun e => ?_)) (funext fun e => ?_)
  · refine Eq.trans ?_ (Cert.MergeRefIdeal.Pure.score_apply _ _ _ _ _ _ _).symm
    refine congr (congr (congrArg score (funext fun d => cq_block m c t ht r _)) (funext fun d => gq_block m c t ht d)) (funext fun d => (mk_block m c t ht e _).trans ?_)
    rw [es]
    refine congrArg₂ (fun h d => (m ((c : Thread nD τ).loc main_arg3)) (ix4 (seqOf t.val ht r) e h d : S2x256x4x256.Idx)) (Fin.ext ?_) (Fin.ext ?_)
    · show (i.val / 256 * 256 + d.val) / 256 = i.val / 256
      omega
    · show (i.val / 256 * 256 + d.val) % 256 = d.val
      omega
  · refine (mv_block m c t ht e i).trans ?_
    rw [es]

/-- Point `t` writes the reference's result at row `256 t + y 0`. -/
theorem out_point [Cert.Pre_finite_scores.Facts] (hpre : Cert.Pre_MergeIdeal_finite_scores m) (c : Dev nD) (t : Fin cfg0.N) (y : S256x2048.Idx) (j : S8192x2048.Idx)
    (h0 : (j 0).val = t.val * 256 + (y 0).val) (h1 : (j 1).val = (y 1).val) :
    out0_21 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) y = refOut m c j := by
  have ht : t.val < 32 := point_lt t
  idx_vars j
  idx_vars y
  have hy0 : y0.val < 256 := y0.isLt
  have hb : 256 * t.val + y0.val < 8192 := by omega
  obtain rfl : j0 = ⟨256 * t.val + y0.val, hb⟩ := Fin.ext (show j0.val = 256 * t.val + y0.val by have : j0.val = t.val * 256 + y0.val := h0; omega)
  obtain rfl : j1 = y1 := Fin.ext h1
  rw [block_apply]
  refine Eq.trans ?_ (Cert.MergeRefIdeal.Pure.result_apply _ _ _ _ _ _ _ _ _ _ _ _ _ _ _).symm
  refine congrArg₂ (· + ·) (x_block m c t ht y0 j1) (Finset.sum_congr rfl fun q _ => congrArg₂ (· * ·) ?_ (wo_block m c t ht q j1))
  refine Eq.trans ?_ (Cert.MergeRefIdeal.Pure.join_apply _ _ _ _ _ _ _ _ _ _ _ _ _ _).symm
  refine congr (congr (congr (congr (congr (congrArg join (ra_block m c t ht y0 q)) (rb_block m c t ht y0 q)) (rc_block m c t ht y0 q)) ?_) ?_) ?_
  · refine Eq.trans ?_ (Cert.MergeRefIdeal.Pure.productA_apply _ _ _ _ _ _).symm
    exact congr (congr (congrArg branch (funext fun i => oa_block m c t ht y0 i)) (funext fun i => ag_block m c t ht y0 i)) (funext fun i => wa_block m c t ht i q)
  · refine Eq.trans ?_ (Cert.MergeRefIdeal.Pure.productB_apply _ _ _ _ _ _ _ _).symm
    exact congr (congr (congrArg branch (funext fun i => mix_block m c t ht y0 i)) (funext fun i => bg_block m c t ht y0 i)) (funext fun i => wb_block m c t ht i q)
  · refine Eq.trans ?_ (Cert.MergeRefIdeal.Pure.productC_apply _ _ _ _ _ _ _ _).symm
    exact congr (congr (congrArg branch (funext fun i => attend_block m hpre c t ht y0 i)) (funext fun i => cg_block m c t ht y0 i)) (funext fun i => wc_block m c t ht i q)

/-- The array the run leaves. -/
theorem out_final [Cert.Pre_finite_scores.Facts] (hpre : Cert.Pre_MergeIdeal_finite_scores m) (c : Dev nD) : (dats m 0 c).arrAt 21 cfg0.N = refOut m c := by
  refine (dats m 0 c).arrAt_eq_of_covers 21 _ (by decide +kernel) fun t _ y => ?_
  blk_simp
  rw [after0_21]
  refine out_point m hpre c t y _ ?_ ?_ <;> (blk_simp [idx t] <;> try omega)

end Cert.MergeIdeal.Arrays

end
-- ==== Proof.RestPure.lean ====
/- The projection of the remaining columns: what the kernel's body computes and what the reference computes, each read at an
   index as the arithmetic of Spec.lean. -/
module

public import proofs.«01_k».proof.Proof.Spec
public import proofs.«01_k».proof.Proof.Gen.ProjRestIdeal.Skeleton
public import proofs.«01_k».proof.Proof.Gen.ProjRestRefIdeal.Read

@[expose] public section

set_option maxRecDepth 16384

noncomputable section

namespace Cert.ProjRestIdeal.Pure

open Cert.ProjRestIdeal Cert.ProjRestIdeal.Gen Cert.Spec Idealize.ShloMosaic Idealize.ShloMosaic.TcCoe Idealize.SL.Sem

/-- The prompt rows the body keeps, normalised. -/
theorem rows_apply (x : Vec Ideal S1024x2048 .f32) (g : Vec Ideal S1x2048 .f32) (r : Fin 1024) (k : Fin 2048) :
    k0_pay1 (F := Ideal) x g (ix2 r k : S1024x2048.Idx)
      = rms (Ideal.ofBits .f32 0x45000000#32) (fun k : Fin 2048 => x (ix2 r k)) (fun k => g (ix2 0 k)) k := by
  pointwise [k0_pay1]
  rfl

/-- The sample rows the body keeps, normalised. -/
theorem srows_apply (x : Vec Ideal S128x2048 .f32) (g : Vec Ideal S1x2048 .f32) (r : Fin 128) (k : Fin 2048) :
    k0_pay2 (F := Ideal) x g (ix2 r k : S128x2048.Idx)
      = rms (Ideal.ofBits .f32 0x45000000#32) (fun k : Fin 2048 => x (ix2 r k)) (fun k => g (ix2 0 k)) k := by
  pointwise [k0_pay2]
  rfl

/-- The product of the kept prompt rows with a block of the transposed weights. -/
theorem prod_apply (w : Vec Ideal S1024x2048 .f32) (h : Vec Ideal S1024x2048 .bf16) (r q : Fin 1024) :
    k0_pay4 (F := Ideal) w h (ix2 r q : S1024x1024.Idx) = ∑ k : Fin 2048, h (ix2 r k) * w (ix2 q k) := by
  pointwise [k0_pay4, k0_pay3]

/-- The product of the kept sample rows with a block of the transposed weights. -/
theorem sprod_apply (w : Vec Ideal S1024x2048 .f32) (h : Vec Ideal S128x2048 .bf16) (r : Fin 128) (q : Fin 1024) :
    k0_pay5 (F := Ideal) w h (ix2 r q : S128x1024.Idx) = ∑ k : Fin 2048, h (ix2 r k) * w (ix2 q k) := by
  pointwise [k0_pay5, k0_pay3]

end Cert.ProjRestIdeal.Pure

namespace Cert.ProjRestRefIdeal.Pure

open Cert.ProjRestRefIdeal Cert.ProjRestRefIdeal.Gen Cert.ProjRestRefIdeal.Read Cert.Spec Idealize.ShloMosaic Idealize.ShloMosaic.TcCoe Idealize.SL.Sem

/-- The reference's projection of token `r` of prompt `b`. -/
theorem proj_apply (x : FVec Ideal S2x4096x2048 .f32) (g : FVec Ideal S2048 .f32) (w : FVec Ideal S2048x15440 .f32)
    (b : Fin 2) (r : Fin 4096) (c : Fin 15440) :
    val_main_v13 (F := Ideal) x g w (ix3 b r c : S2x4096x15440.Idx)
      = rmsDot (Ideal.ofBits .f32 0x45000000#32) (fun k : Fin 2048 => x (ix3 b r k)) (fun k => g (ix1 k)) (fun k => w (ix2 k c)) := by
  unfold val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise
  rfl

/-- The reference's projection of token `r` of the padded sample `b`. -/
theorem sproj_apply (x : FVec Ideal S8x4x2048 .f32) (g : FVec Ideal S2048 .f32) (w : FVec Ideal S2048x15440 .f32)
    (b : Fin 8) (r : Fin 16) (c : Fin 15440) :
    val_main_v29 (F := Ideal) x g w (ix3 b r c : S8x16x15440.Idx)
      = rmsDot (Ideal.ofBits .f32 0x45000000#32) (fun k : Fin 2048 => val_main_v15 (F := Ideal) x (ix3 b r k : S8x16x2048.Idx)) (fun k => g (ix1 k)) (fun k => w (ix2 k c)) := by
  unfold val_main_v29 val_main_v28 val_main_v27 val_main_v26 val_main_v25 val_main_v24 val_main_v23 val_main_v22 val_main_v21 val_main_v20 val_main_v19 val_main_v18 val_main_v17 val_main_v16 val_main_cst_2 val_main_cst_3 val_main_cst_4
  generalize val_main_v15 (F := Ideal) x = z
  pointwise
  rfl

/-- The reference's first result: row `p` of the prompts laid one after the other, column `q` of the remaining columns. -/
theorem prompt_apply (x : FVec Ideal S2x4096x2048 .f32) (g : FVec Ideal S2048 .f32) (w : FVec Ideal S2048x15440 .f32)
    (p : Fin 8192) (q : Fin 12288) :
    val_main_v32 (F := Ideal) x g w (ix2 p q : S8192x12288.Idx)
      = val_main_v13 (F := Ideal) x g w (ix3 ⟨p.val / 4096, by omega⟩ ⟨p.val % 4096, by omega⟩ ⟨3152 + q.val, by omega⟩ : S2x4096x15440.Idx) := by
  unfold val_main_v32 val_main_v31 val_main_v14
  generalize val_main_v13 (F := Ideal) x g w = z
  pointwise

/-- The reference's second result: row `p` of the padded samples laid one after the other. -/
theorem sample_apply (x : FVec Ideal S8x4x2048 .f32) (g : FVec Ideal S2048 .f32) (w : FVec Ideal S2048x15440 .f32)
    (p : Fin 128) (q : Fin 12288) :
    val_main_v34 (F := Ideal) x g w (ix2 p q : S128x12288.Idx)
      = val_main_v29 (F := Ideal) x g w (ix3 ⟨p.val / 16, by omega⟩ ⟨p.val % 16, by omega⟩ ⟨3152 + q.val, by omega⟩ : S8x16x15440.Idx) := by
  unfold val_main_v34 val_main_v33 val_main_v30
  generalize val_main_v29 (F := Ideal) x g w = z
  pointwise

end Cert.ProjRestRefIdeal.Pure

end
-- ==== Proof.Whole.lean ====
/- Loads and stores of whole memrefs: a load through the rectangle of a memref's own sizes at zero offsets reads what the
   memref holds, and a store through it leaves what is stored. -/
module

public import Idealize.ShloMosaic.Lib.Tactic
public import Idealize.ShloMosaic.Lib.Pipeline.FrameBody
public import Idealize.ShloMosaic.Lib.Pipeline.ValueKit

@[expose] public section

noncomputable section

namespace Cert.Whole

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U] {Lvl : Type} [Preorder Lvl] {Λ : Labels}

local notation "𝕄" => MT nD τ sig Ix Val Name U Lvl

variable {defs : Defs nD τ sig Val Λ} {𝒱 : Variants} {c : Dev nD} {bd : Option 𝒱.V} {E : Set Name}

theorem load_whole {cs : CoreSpace} {sh : Shape} {e : EltTy} (m : Memref sig .tc cs sh e) {off : Fin sh.rank → ℕ}
    {inb : ∀ a, off a + sh.size a ≤ sh.size a} {hl : m.view.LoadsAt (Rect.unit off sh.size inb).toLoadRect}
    (h0 : off = fun _ => 0) {X : sh.Idx → Val e} {Q : (sh.Idx → Val e) → sProp 𝕄} :
    owns (c : Thread nD τ) m fullShare X
      ⊢ iprop((owns (c : Thread nD τ) m fullShare X -∗ Q X)
        -∗ wp frame (wpE (Ix := Ix) (Name := Name) (U := U) (Lvl := Lvl) defs 𝒱 (c : Thread nD τ) bd) E
          (Prog.lift (.load m (Rect.unit off sh.size inb).toLoadRect hl)) Q) := by
  unfold owns
  iintro ⟨%f, %hf, Hf⟩ Hk
  have hX : m.view.readAt Val (Rect.unit off sh.size inb).toLoadRect f = X := by
    rw [View.readAt_eq_ld, hf, View.ld_unit_zero h0]
  iapply (wp_load (c := (c : Thread nD τ)) (m := m) (hl := hl) 𝒱 bd E (View.setOn_subset_set _ _)) $$ Hf
  iintro Hf
  rw [wp_ret, hX]
  imodintro
  iapply Hk
  iexists f
  isplitr
  · ipureintro; exact hf
  · iexact Hf

theorem store_whole [∀ e, Nonempty (Val e)] {cs : CoreSpace} {sh : Shape} {e : EltTy} (m : Memref sig .tc cs sh e) {off : Fin sh.rank → ℕ}
    {inb : ∀ a, off a + sh.size a ≤ sh.size a} {w : sh.Idx → Val e}
    {hx : (m.access (Rect.unit off sh.size inb)).Stores Finset.univ}
    {hm : (Finset.univ : Finset (Rect.unit off sh.size inb).shape.Idx) = Finset.univ ∨ ∀ a, (Rect.unit off sh.size inb).stride a = 1}
    (h0 : off = fun _ => 0) {X : sh.Idx → Val e} {Q : PUnit → sProp 𝕄} :
    owns (c : Thread nD τ) m fullShare X
      ⊢ iprop((owns (c : Thread nD τ) m fullShare w -∗ Q ⟨⟩)
        -∗ wp frame (wpE (Ix := Ix) (Name := Name) (U := U) (Lvl := Lvl) defs 𝒱 (c : Thread nD τ) bd) E
          (Prog.lift (.store m (Rect.unit off sh.size inb) w Finset.univ hx hm)) Q) := by
  unfold owns
  iintro ⟨%f, %hf, Hf⟩ Hk
  iapply (wp_store (c := (c : Thread nD τ)) (m := m) (hx := hx) (hm := hm) 𝒱 bd E ((View.setOn_subset_set _ _).trans (View.set_slice_subset _ _))) $$ Hf
  iintro Hf
  rw [wp_ret]
  imodintro
  iapply Hk
  iexists _
  isplitr
  rotate_left
  · iexact Hf
  · ipureintro
    have h := View.read_writes_eq_canon m.view f [(⟨Rect.unit off sh.size inb, w⟩ : View.Piece Val sh e)]
      fun y => ⟨_, List.mem_singleton_self _, View.mem_set_unit_zero h0 inb y⟩
    rw [View.canon_unit_zero h0] at h
    exact h

end Cert.Whole
-- ==== Proof.RestRun.lean ====
/- The run of the projection: what every step of it leaves, the launch, and the frame, for any floating-point values. -/
module

public import proofs.«01_k».proof.Proof.Whole
public import proofs.«01_k».proof.Proof.Gen.ProjRestIdeal.Launch
public import proofs.«01_k».proof.Proof.Gen.ProjRestIdeal.Points
public import proofs.«01_k».proof.Proof.Gen.ProjRestIdeal.Skeleton
public import proofs.«01_k».proof.Proof.Gen.ProjRestIdeal.Frame
public import Idealize.ShloMosaic.Lib.Claim
public import Idealize.ShloMosaic.Lib.WordCmp

@[expose] public section

noncomputable section

namespace Cert.ProjRestIdeal.Run

open Cert.Whole Cert.ProjRestIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

private theorem zero2 : (![0, 0] : Fin 2 → ℕ) = fun _ => 0 := by decide

/-! ## When the body takes its branches -/

/-- The first column block of a row block: the prompt rows are normalised. -/
abbrev starts (i : grid0.Coords) : Prop := (Scalar.cmpi .ne (Scalar.extui (Scalar.cmpi .eq (BitVec.ofNat 32 (i 1).val) 0#32)) 0#32) = 1#1

/-- The first step of all: the sample rows are normalised. -/
abbrev begins (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- The first row block: the sample's projection is stored too. -/
abbrev samples (i : grid0.Coords) : Prop := k0_cond3 i = 1#1

theorem lt96 (t : Fin cfg0.N) : t.val < 96 := Nat.lt_of_lt_of_eq t.isLt N_0

theorem starts_iff (t : Fin cfg0.N) : starts (grid0.coords t) ↔ t.val % 12 = 0 := by
  have ht := lt96 t
  have e0 : (grid0.coords t 0).val = t.val / 12 % 8 := Pipeline.Grid.coords_val t 0 (by decide) rfl
  have e1 : (grid0.coords t 1).val = t.val / 1 % 12 := Pipeline.Grid.coords_val t 1 (by decide) rfl
  simp only [starts, e0, e1]
  word_cmp

theorem begins_iff (t : Fin cfg0.N) : begins (grid0.coords t) ↔ t.val = 0 := by
  have ht := lt96 t
  have e0 : (grid0.coords t 0).val = t.val / 12 % 8 := Pipeline.Grid.coords_val t 0 (by decide) rfl
  have e1 : (grid0.coords t 1).val = t.val / 1 % 12 := Pipeline.Grid.coords_val t 1 (by decide) rfl
  have h : begins (grid0.coords t) ↔ t.val % 96 = 0 := by
    simp only [begins, e0, e1]
    word_cmp
  rw [h]; omega

theorem samples_iff (t : Fin cfg0.N) : samples (grid0.coords t) ↔ t.val < 12 := by
  have ht := lt96 t
  have e0 : (grid0.coords t 0).val = t.val / 12 % 8 := Pipeline.Grid.coords_val t 0 (by decide) rfl
  have e1 : (grid0.coords t 1).val = t.val / 1 % 12 := Pipeline.Grid.coords_val t 1 (by decide) rfl
  simp only [samples, k0_cond3, e0, e1]
  word_cmp

/-! ## The body on any memrefs -/

open Classical in
set_option maxHeartbeats 4000000 in
/-- The body's step: from the blocks `x0 … x3`, the outputs `d4`, `d5` and the kept rows `h`, `s`, it leaves the blocks as they
    were, the kept rows renewed where its branches say so, and the two products. -/
theorem sound_body_any (c : Dev nD) (i : grid0.Coords) (arg2 : Memref sig .tc .vmem S1024x2048 .f32) (harg2 : arg2.IsWhole) (arg3 : Memref sig .tc .vmem S128x2048 .f32) (harg3 : arg3.IsWhole)
    (arg4 : Memref sig .tc .vmem S1x2048 .f32) (harg4 : arg4.IsWhole) (arg5 : Memref sig .tc .vmem S1024x2048 .f32) (harg5 : arg5.IsWhole)
    (arg6 : Memref sig .tc .vmem S1024x1024 .bf16) (harg6 : arg6.IsWhole) (arg7 : Memref sig .tc .vmem S128x1024 .bf16) (harg7 : arg7.IsWhole)
    (arg8 : Memref sig .tc .vmem S1024x2048 .bf16) (harg8 : arg8.IsWhole) (arg9 : Memref sig .tc .vmem S128x2048 .bf16) (harg9 : arg9.IsWhole)
    (x0 : Vec F S1024x2048 .f32) (x1 : Vec F S128x2048 .f32) (x2 : Vec F S1x2048 .f32) (x3 : Vec F S1024x2048 .f32)
    (d4 : Vec F S1024x1024 .bf16) (d5 : Vec F S128x1024 .bf16) (h : Vec F S1024x2048 .bf16) (s : Vec F S128x2048 .bf16) :
    (iprop(owns (c : Thread nD τ) arg2 fullShare x0 ∗ owns (c : Thread nD τ) arg3 fullShare x1 ∗ owns (c : Thread nD τ) arg4 fullShare x2
      ∗ owns (c : Thread nD τ) arg5 fullShare x3 ∗ owns (c : Thread nD τ) arg6 fullShare d4 ∗ owns (c : Thread nD τ) arg7 fullShare d5
      ∗ owns (c : Thread nD τ) arg8 fullShare h ∗ owns (c : Thread nD τ) arg9 fullShare s) : sProp 𝕄)
    ⊢ wp frame (wpE (defs₀ (F := F)) Variants.none c none) Set.univ
        (cc0_proj_rest i arg2 harg2 arg3 harg3 arg4 harg4 arg5 harg5 arg6 harg6 arg7 harg7 arg8 harg8 arg9 harg9)
        (fun _ => iprop(owns (c : Thread nD τ) arg2 fullShare x0 ∗ owns (c : Thread nD τ) arg3 fullShare x1 ∗ owns (c : Thread nD τ) arg4 fullShare x2
          ∗ owns (c : Thread nD τ) arg5 fullShare x3
          ∗ owns (c : Thread nD τ) arg6 fullShare (k0_pay4 x3 (if starts i then k0_pay1 x0 x2 else h))
          ∗ owns (c : Thread nD τ) arg7 fullShare (if samples i then k0_pay5 x3 (if begins i then k0_pay2 x1 x2 else s) else d5)
          ∗ owns (c : Thread nD τ) arg8 fullShare (if starts i then k0_pay1 x0 x2 else h)
          ∗ owns (c : Thread nD τ) arg9 fullShare (if begins i then k0_pay2 x1 x2 else s))) := by
  rw [cc0_proj_rest_eq_skeleton]
  unfold cc0_proj_rest_skel
  by_cases h0 : starts i <;> by_cases h1 : begins i <;> by_cases h2 : samples i <;>
    iintro ⟨H2, H3, H4, H5, H6, H7, H8, H9⟩ <;>
    (first
     | simp only [dif_neg h0, if_neg h0]
     | (simp only [dif_pos h0, if_pos h0]
        rw [wp_bind]; iapply (load_whole arg2 zero2) $$ H2; iintro H2
        rw [wp_bind]; iapply (load_whole arg4 zero2) $$ H4; iintro H4
        rw [wp_bind]; iapply (load_whole arg8 zero2) $$ H8; iintro H8
        rw [wp_bind]; iapply (store_whole arg8 zero2) $$ H8; iintro H8)) <;>
    (first
     | simp only [dif_neg h1, if_neg h1]
     | (simp only [dif_pos h1, if_pos h1]
        rw [wp_bind]; iapply (load_whole arg3 zero2) $$ H3; iintro H3
        rw [wp_bind]; iapply (load_whole arg4 zero2) $$ H4; iintro H4
        rw [wp_bind]; iapply (load_whole arg9 zero2) $$ H9; iintro H9
        rw [wp_bind]; iapply (store_whole arg9 zero2) $$ H9; iintro H9)) <;>
    (rw [wp_bind]; iapply (load_whole arg5 zero2) $$ H5; iintro H5
     rw [wp_bind]; iapply (load_whole arg8 zero2) $$ H8; iintro H8
     rw [wp_bind]; iapply (load_whole arg6 zero2) $$ H6; iintro H6
     rw [wp_bind]; iapply (store_whole arg6 zero2) $$ H6; iintro H6) <;>
    (first
     | simp only [dif_neg h2, if_neg h2]
     | (simp only [dif_pos h2, if_pos h2]
        rw [wp_bind]; iapply (load_whole arg9 zero2) $$ H9; iintro H9
        rw [wp_bind]; iapply (load_whole arg7 zero2) $$ H7; iintro H7
        rw [wp_bind]; iapply (store_whole arg7 zero2) $$ H7; iintro H7)) <;>
    (rw [wp_pure]
     imodintro
     isplitl [H2]; · iexact H2
     isplitl [H3]; · iexact H3
     isplitl [H4]; · iexact H4
     isplitl [H5]; · iexact H5
     isplitl [H6]; · iexact H6
     isplitl [H7]; · iexact H7
     isplitl [H8]; · iexact H8
     iexact H9)

/-! ## The data of the pipeline -/

variable (m : (ℓ : Loc nD τ sig) → Buf (Elt F) ℓ) (ρ : Dev nD → PrngReg)

/-- The first step of the row block of step `t`. -/
def row (t : Fin cfg0.N) : Fin cfg0.N := ⟨t.val / 12 * 12, by have := t.isLt; omega⟩

/-- The step whose column block the sample's output holds after step `t`: the last one below 12. -/
def col (t : Fin cfg0.N) : Fin cfg0.N := ⟨min t.val 11, by have := t.isLt; omega⟩

/-- The first step. -/
def first : Fin cfg0.N := ⟨0, by rw [show cfg0.N = 96 from N_0]; decide⟩

/-- The normalised prompt rows of the row block of step `t`. -/
def rows (c : Dev nD) (t : Fin cfg0.N) : FVec F S1024x2048 .bf16 := k0_pay1 (iblk m c 0 (row t)) (iblk m c 2 (row t))

/-- The normalised sample rows. -/
def srows (c : Dev nD) : FVec F S128x2048 .bf16 := k0_pay2 (iblk m c 1 first) (iblk m c 2 first)

/-- Between steps the first scratch buffer holds the normalised rows of the step before, the second the sample's; before the
    first step they hold anything. -/
def inv (c : Dev nD) (n : ℕ) : sProp 𝕄 :=
  iprop(∃ h s, ⌜∀ hn : n - 1 < cfg0.N, n ≠ 0 → h = rows m c ⟨n - 1, hn⟩ ∧ s = srows m c⌝
    ∗ owns (c : Thread nD τ) (Memref.whole cc0_scratch0) fullShare h ∗ owns (c : Thread nD τ) (Memref.whole cc0_scratch1) fullShare s
    ∗ (∃ r, prngReg c r))

/-- The pipeline's data: the arrays as the launch finds them; an input's buffer holds its block after every step, the outputs'
    the products. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay4 (iblk m c 3 t) (rows m c t)
    | ⟨5, _⟩ => k0_pay5 (iblk m c 3 (col t)) (srows m c)
  Φ s := inv m c s.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = k0_pay4 (iblk m c 3 t) (rows m c t) := by dsimp only [dats]
theorem after_5 (c : Dev nD) (t : Fin cfg0.N) : (dats m 0 c).after 5 t = k0_pay5 (iblk m c 3 (col t)) (srows m c) := by dsimp only [dats]

/-- The sample's output isn't written back between the steps 11 and 94. -/
theorem unflushed : ∀ t : Fin cfg0.N, 11 ≤ t.val → t.val < 95 → (cfg0.win 5).flush t = false :=
  (by decide +kernel : ∀ t : Fin grid0.N, 11 ≤ t.val → t.val < 95 → win0_5.flush t = false)

/-- The sample's output is left alone from step 12 on. -/
theorem idle_iff (t : Fin cfg0.N) : cfg0.idle 5 (grid0.coords t) = true ↔ 12 ≤ t.val := by
  have h := samples_iff t
  rw [show cfg0.idle 5 (grid0.coords t) = !(k0_cond3 (grid0.coords t) == 1#1) from rfl, Bool.not_eq_true', beq_eq_false_iff_ne, ne_eq, not_congr h]
  omega

/-- From step 12 on the sample's output buffer holds the last column block. -/
theorem before_5 (c : Dev nD) (d) : ∀ (n : ℕ) (t : Fin cfg0.N), t.val = 12 + n →
    (dats m 0 c).before 5 t d = k0_pay5 (iblk m c 3 (col t)) (srows m c)
  | n, t, ht => by
    have := lt96 t
    have hn : t.val - 1 < cfg0.N := by have := t.isLt; omega
    have hc : col ⟨t.val - 1, hn⟩ = col t := Fin.ext (show min (t.val - 1) 11 = min t.val 11 by omega)
    rw [(dats m 0 c).before_of_pos 5 t (by omega) ((cfg0.win 5).fetch_out rfl t), unflushed _ (by dsimp only; omega) (by dsimp only; omega),
      if_neg Bool.false_ne_true]
    unfold Dat.left
    match n with
    | 0 =>
      have hi : cfg0.idle 5 (cfg0.grid.coords ⟨t.val - 1, hn⟩) = false :=
        Bool.eq_false_iff.mpr fun e => by have := (idle_iff ⟨t.val - 1, hn⟩).mp e; dsimp only at this; omega
      rw [hi]
      dsimp only
      unfold Dat.kept
      rw [Pipeline.fill_of_clip_none 5 _ (fun _ => rfl) d ((dats m 0 c).after 5 ⟨t.val - 1, hn⟩), Window.fill_cut, after_5, hc]
    | n + 1 =>
      have hi : cfg0.idle 5 (cfg0.grid.coords ⟨t.val - 1, hn⟩) = true := (idle_iff ⟨t.val - 1, hn⟩).mpr (by dsimp only; omega)
      rw [hi]
      dsimp only
      rw [before_5 c d n ⟨t.val - 1, hn⟩ (by dsimp only; omega), hc]

/-- What the body leaves in the sample's output buffer is what the pipeline asks for, whether it stored there or not. -/
theorem leaves_5 (c : Dev nD) (t : Fin cfg0.N) : (owns (c : Thread nD τ) (st0_5 t) fullShare (k0_pay5 (iblk m c 3 (col t)) (srows m c)) : sProp 𝕄)
    ⊢ (dats m 0 c).leavesExact 5 t := by
  unfold Dat.leavesExact
  cases hi : cfg0.idle 5 (cfg0.grid.coords t) with
  | false => dsimp only; rw [after_5]
  | true =>
    cases hf : (cfg0.win 5).flush t with
    | true => dsimp only; rw [after_5]
    | false =>
      dsimp only
      have ht := (idle_iff t).mp hi
      iintro H
      iexists (fun _ => Classical.ofNonempty)
      rw [before_5 m c _ (t.val - 12) t (by omega)]
      iexact H

/-- What the body is called with at a step. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it gives back. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

/-- A block whose window stands still is the same at the first step of the row block. -/
theorem row_of_start (t : Fin cfg0.N) (h : t.val % 12 = 0) : row t = t := Fin.ext (show t.val / 12 * 12 = t.val by omega)

theorem row_of_not_start (t : Fin cfg0.N) (h : t.val % 12 ≠ 0) (hn : t.val - 1 < cfg0.N) : row ⟨t.val - 1, hn⟩ = row t :=
  Fin.ext (show (t.val - 1) / 12 * 12 = t.val / 12 * 12 by omega)

theorem live (c : Dev nD) (t : Fin cfg0.N) (w : Fin cfg0.W) (h : cfg0.idle w (grid0.coords t) = false) : (dats m 0 c).leavesExact w t
    = owns (c : Thread nD τ) ((cfg0.win w).stage (cfg0.slots t w)) fullShare ((dats m 0 c).after w t) := by
  unfold Dat.leavesExact; rw [h]

open Classical in
/-- The body at any step. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0_of m (dats m 0 c) (A_eq m c 0) (after_0 m c), before0_1_of m (dats m 0 c) (A_eq m c 1) (after_1 m c),
    before0_2_of m (dats m 0 c) (A_eq m c 2) (after_2 m c), before0_3_of m (dats m 0 c) (A_eq m c 3) (after_3 m c)]
  rw [show (dats m 0 c).Φ t.castSucc = inv m c t.val from rfl, show (dats m 0 c).Φ t.succ = inv m c (t.val + 1) from rfl,
    show (dats m 0 c).owesAt () t.succ = (dats m 0 c).owesAt () t.castSucc from rfl,
    live m c t 0 rfl, live m c t 1 rfl, live m c t 2 rfl, live m c t 3 rfl, live m c t 4 rfl,
    after_0, after_1, after_2, after_3, after_4]
  unfold inv
  iintro ⟨⟨%h, %s, %hs, H8, H9, Hr⟩, Ho, ⟨%d0, H0⟩, ⟨%d1, H1⟩, ⟨%d2, H2⟩, ⟨%d3, H3⟩, ⟨%d4, H4⟩, ⟨%d5, H5⟩⟩
  have hlt := lt96 t
  have hn : t.val - 1 < cfg0.N := by have := t.isLt; omega
  -- the rows kept by the first scratch buffer after the step
  have e8 : (if starts (grid0.coords t) then k0_pay1 (iblk m c 0 t) (iblk m c 2 t) else h) = rows m c t := by
    by_cases h0 : t.val % 12 = 0
    · rw [if_pos ((starts_iff t).mpr h0)]; unfold rows; rw [row_of_start t h0]
    · rw [if_neg fun e => h0 ((starts_iff t).mp e), (hs hn (by omega)).1]; unfold rows; rw [row_of_not_start t h0 hn]
  have e9 : (if begins (grid0.coords t) then k0_pay2 (iblk m c 1 t) (iblk m c 2 t) else s) = srows m c := by
    by_cases h0 : t.val = 0
    · rw [if_pos ((begins_iff t).mpr h0)]; unfold srows; rw [show first = t from Fin.ext h0.symm]
    · rw [if_neg fun e => h0 ((begins_iff t).mp e), (hs hn h0).2]
  have e5 : (if samples (grid0.coords t) then k0_pay5 (iblk m c 3 t) (srows m c) else (dats m 0 c).before 5 t d5)
      = k0_pay5 (iblk m c 3 (col t)) (srows m c) := by
    by_cases h0 : t.val < 12
    · rw [if_pos ((samples_iff t).mpr h0), show col t = t from Fin.ext (show min t.val 11 = t.val by omega)]
    · rw [if_neg fun e => h0 ((samples_iff t).mp e), before_5 m c _ (t.val - 12) t (by omega)]
  ihave HW := sound_body_any c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (st0_5 t) (hstage0_5 ((cfg0.slots t 5).cast nbuf0_5))
    (Memref.whole cc0_scratch0) (Memref.isWhole_whole _) (Memref.whole cc0_scratch1) (Memref.isWhole_whole _)
    (iblk m c 0 t) (iblk m c 1 t) (iblk m c 2 t) (iblk m c 3 t) ((dats m 0 c).before 4 t d4) ((dats m 0 c).before 5 t d5) h s $$ [H0 H1 H2 H3 H4 H5 H8 H9]
  · isplitl [H0]; · iexact H0
    isplitl [H1]; · iexact H1
    isplitl [H2]; · iexact H2
    isplitl [H3]; · iexact H3
    isplitl [H4]; · iexact H4
    isplitl [H5]; · iexact H5
    isplitl [H8]; · iexact H8
    iexact H9
  rw [e9, e8, e5]
  iapply wp_wand $$ HW
  iintro %_ ⟨H0, H1, H2, H3, H4, H5, H8, H9⟩
  isplitl [H8 H9 Hr]
  · iexists (rows m c t); iexists (srows m c)
    isplitr
    · ipureintro
      intro _ _
      exact ⟨rfl, rfl⟩
    isplitl [H8]; · iexact H8
    isplitl [H9]; · iexact H9
    iexact Hr
  isplitl [Ho]; · iexact Ho
  isplitl [H0]; · iexact H0
  isplitl [H1]; · iexact H1
  isplitl [H2]; · iexact H2
  isplitl [H3]; · iexact H3
  isplitl [H4]; · iexact H4
  iapply leaves_5 m c t
  iexact H5

theorem body_row (t : Fin cfg0.N) :
    defs₀ (F := F) .tc cfg0.body (cfg0.bodyArgs t (cfg0.slots t)) = bodyAt0 t := by
  unfold defs₀; rw [Defs.onTc_tc]

/-- The library's body obligation. -/
theorem body_obligation (c : Dev nD) :
    BodyObligation (dats (F := F) m 0 c) (defs₀ (F := F)) Variants.none () Set.univ := fun t => by
  rw [bigSep_W0, bigSep_W0, body_row]
  exact triple_restated (sound_body m c t) rfl .rfl fun _ => .rfl

/-- The class invariant: each scratch buffer at some contents, and the generator's register. -/
theorem any_eq (c : Dev nD) :
    (Pipeline.ΦA spec0 c : sProp 𝕄)
      = iprop(iprop((∃ d, owns (c : Thread nD τ) (Memref.whole cc0_scratch0) fullShare d)
        ∗ (∃ d, owns (c : Thread nD τ) (Memref.whole cc0_scratch1) fullShare d)) ∗ (∃ r, prngReg c r)) := by
  unfold Pipeline.ΦA; rw [scopedRest0_eq]; simp only [owns_whole]; try rfl

theorem inv_in (c : Dev nD) : (Pipeline.ΦA spec0 c : sProp 𝕄) ⊢ (dats m 0 c).Φ 0 := by
  rw [any_eq, show (dats m 0 c).Φ 0 = inv m c 0 from rfl]
  unfold inv
  iintro ⟨⟨⟨%h, H8⟩, ⟨%s, H9⟩⟩, Hr⟩
  iexists h; iexists s
  isplitr
  · ipureintro
    intro _ h0
    exact absurd rfl h0
  isplitl [H8]; · iexact H8
  isplitl [H9]; · iexact H9
  iexact Hr

theorem inv_out (c : Dev nD) : (dats m 0 c).Φ (Fin.last cfg0.N) ⊢ (Pipeline.ΦA spec0 c : sProp 𝕄) := by
  rw [any_eq, show (dats m 0 c).Φ (Fin.last cfg0.N) = inv m c cfg0.N from rfl]
  unfold inv
  iintro ⟨%h, %s, -, H8, H9, Hr⟩
  isplitl [H8 H9]
  · isplitl [H8]
    · iexists h; iexact H8
    · iexists s; iexact H9
  · iexact Hr

-- the launch theorem's implicit arguments are found by unfolding plain definitions
set_option backward.isDefEq.respectTransparency.types false in
set_option maxHeartbeats 800000 in
/-- The launch: every array of the pipeline is what its data say, every other buffer as it was found, every counter zero. -/
theorem run_main : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_in m) (hout := inv_out m)

/-- The frame, for any floating-point values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩)
    (run_main m ρ)

end Cert.ProjRestIdeal.Run
-- ==== Proof.RestValue.lean ====
/- The two arrays of the projection the kernel leaves: each is the reference's, index by index. -/
module

public import proofs.«01_k».proof.Proof.RestPure
public import proofs.«01_k».proof.Proof.RestRun
public import Idealize.ShloMosaic.Lib.Pipeline.ValueKit

@[expose] public section

set_option maxRecDepth 16384

noncomputable section

namespace Cert.ProjRestIdeal.Arrays

open Cert.ProjRestIdeal Cert.ProjRestIdeal.Gen Cert.ProjRestIdeal.Pure Cert.ProjRestIdeal.Run Cert.Spec
open Idealize.ShloMosaic Idealize.ShloMosaic.TcCoe Idealize.SL.Sem
open Idealize.ShloMosaic.Pipeline (Dat)

variable (m : (ℓ : Loc nD τ sig) → Buf (Elt Ideal) ℓ)

/-- Step `t` works on row block `t / 12` of the prompts and column block `t % 12` of the columns from 3152 on. -/
theorem idx : ∀ t : Fin cfg0.N, win0_0.index t = ![t.val / 12, 0] ∧ win0_1.index t = ![0, 0] ∧ win0_2.index t = ![0, 0]
    ∧ win0_3.index t = ![3152 + t.val % 12 * 1024, 0] ∧ win0_4.index t = ![t.val / 12, t.val % 12] ∧ win0_5.index t = ![0, min t.val 11] ∧ t.val < 96 :=
  (by decide +kernel : ∀ t : Fin grid0.N, _)

/-! ## The kernel's operands, as the host operations leave them -/

theorem entry_v0 (c : Dev nD) : V m c main_v0 = shapeCast S8192x2048 (m ((c : Thread nD τ).loc main_arg0)) shapeCasts_S2x4096x2048_S8192x2048 := rfl

theorem entry_v2 (c : Dev nD) : V m c main_v2 = shapeCast S128x2048 (Cert.ProjRestRefIdeal.Read.val_main_v15 (F := Ideal) (m ((c : Thread nD τ).loc main_arg1)))
    shapeCasts_S8x16x2048_S128x2048 := rfl

theorem entry_v3 (c : Dev nD) : V m c main_v3 = shapeCast S1x2048 (m ((c : Thread nD τ).loc main_arg2)) shapeCasts_S2048_S1x2048 := rfl

theorem entry_v4 (c : Dev nD) : V m c main_v4 = transpose S15440x2048 [1, 0] (m ((c : Thread nD τ).loc main_arg3)) transposes_S2048x15440_S15440x2048_1_0 := rfl

/-- The two prompts laid one after the other, read at a row. -/
theorem stacked (x : FVec Ideal S2x4096x2048 .f32) (h : S2x4096x2048.ShapeCasts S8192x2048) (p : Fin 8192) (k : Fin 2048) :
    shapeCast S8192x2048 x h (ix2 p k : S8192x2048.Idx) = x (ix3 ⟨p.val / 4096, by omega⟩ ⟨p.val % 4096, by omega⟩ k : S2x4096x2048.Idx) := by
  pointwise

/-- Block `t` of the prompts, at row `r`. -/
theorem prompt_block (c : Dev nD) (t : Fin cfg0.N) (r : Fin 1024) (k : Fin 2048) (p : Fin 8192) (hp : p.val = t.val / 12 * 1024 + r.val) :
    iblk m c 0 t (ix2 r k : S1024x2048.Idx)
      = m ((c : Thread nD τ).loc main_arg0) (ix3 ⟨p.val / 4096, by omega⟩ ⟨p.val % 4096, by omega⟩ k : S2x4096x2048.Idx) := by
  blk_simp [iblk]
  rw [entry_v0]
  have e : (win0_0.blk t).view.emb (ix2 r k : S1024x2048.Idx) = (ix2 p k : S8192x2048.Idx) := by blk_ext [idx t]
  rw [e]
  exact stacked _ _ p k

/-- The padded samples, at row `r`. -/
theorem sample_block (c : Dev nD) (t : Fin cfg0.N) (r : Fin 128) (k : Fin 2048) :
    iblk m c 1 t (ix2 r k : S128x2048.Idx)
      = Cert.ProjRestRefIdeal.Read.val_main_v15 (F := Ideal) (m ((c : Thread nD τ).loc main_arg1))
          (ix3 ⟨r.val / 16, by omega⟩ ⟨r.val % 16, by omega⟩ k : S8x16x2048.Idx) := by
  blk_simp [iblk]
  rw [entry_v2]
  pointwise
  blk_ext [idx t]

/-- The weights of the norm. -/
theorem norm_block (c : Dev nD) (t : Fin cfg0.N) (k : Fin 2048) :
    iblk m c 2 t (ix2 0 k : S1x2048.Idx) = m ((c : Thread nD τ).loc main_arg2) (ix1 k : S2048.Idx) := by
  blk_simp [iblk]
  rw [entry_v3]
  pointwise
  blk_ext [idx t]

/-- The third window's blocks begin at the element its index map names. -/
theorem emb_weights (t : Fin cfg0.N) (y : S1024x2048.Idx) (a : Fin 2) :
    (((View.whole main_v4).slice (win0_3.rect t)).emb y a).val = win0_3.index t a + (y a).val := by
  rw [show (((View.whole main_v4).slice (win0_3.rect t)).emb y a).val = ((win0_3.rect t).emb y a).val from rfl, Rect.emb_apply]
  show win0_3.index t a + 1 * (y a).val = _
  omega

/-- Column block `t` of the weights, transposed. -/
theorem weights_block (c : Dev nD) (t : Fin cfg0.N) (q : Fin 1024) (k : Fin 2048) (p : Fin 15440) (hp : p.val = 3152 + t.val % 12 * 1024 + q.val) :
    iblk m c 3 t (ix2 q k : S1024x2048.Idx) = m ((c : Thread nD τ).loc main_arg3) (ix2 k p : S2048x15440.Idx) := by
  blk_simp [iblk]
  rw [entry_v4]
  pointwise
  blk_ext [idx t]
  · exact (emb_weights t _ 1).trans (by rw [(idx t).2.2.2.1]; exact Nat.zero_add _)
  · exact (emb_weights t _ 0).trans (by rw [(idx t).2.2.2.1, hp]; rfl)

/-! ## What a step stores, and the arrays after the run -/

/-- The reference's first result, as a function of the kernel's arguments. -/
abbrev refPrompt (c : Dev nD) : FVec Ideal S8192x12288 .bf16 :=
  Cert.ProjRestRefIdeal.Read.val_main_v32 (F := Ideal) (m ((c : Thread nD τ).loc main_arg0)) (m ((c : Thread nD τ).loc main_arg2))
    (m ((c : Thread nD τ).loc main_arg3))

/-- The reference's second result. -/
abbrev refSample (c : Dev nD) : FVec Ideal S128x12288 .bf16 :=
  Cert.ProjRestRefIdeal.Read.val_main_v34 (F := Ideal) (m ((c : Thread nD τ).loc main_arg1)) (m ((c : Thread nD τ).loc main_arg2))
    (m ((c : Thread nD τ).loc main_arg3))

/-- Step `t` stores the reference's first result at row `1024 (t / 12) + y 0`, column `1024 (t % 12) + y 1`. -/
theorem prompt_point (c : Dev nD) (t : Fin cfg0.N) (y : S1024x1024.Idx) (j : S8192x12288.Idx)
    (h0 : (j 0).val = t.val / 12 * 1024 + (y 0).val) (h1 : (j 1).val = t.val % 12 * 1024 + (y 1).val) :
    k0_pay4 (F := Ideal) (iblk m c 3 t) (rows m c t) y = refPrompt m c j := by
  have ht := (idx t).2.2.2.2.2.2
  idx_vars j
  idx_vars y
  have h0' : j0.val = t.val / 12 * 1024 + y0.val := h0
  have h1' : j1.val = t.val % 12 * 1024 + y1.val := h1
  have hrow : (row t).val / 12 = t.val / 12 := show t.val / 12 * 12 / 12 = t.val / 12 by omega
  rw [prod_apply]
  refine Eq.trans ?_ (Cert.ProjRestRefIdeal.Pure.prompt_apply _ _ _ j0 j1).symm
  refine Eq.trans ?_ (Cert.ProjRestRefIdeal.Pure.proj_apply _ _ _ _ _ _).symm
  refine Finset.sum_congr rfl fun k _ => ?_
  unfold rows
  rw [rows_apply]
  refine congr (congrArg HMul.hMul ?_) (weights_block m c t y1 k _ (show 3152 + j1.val = _ by omega))
  refine congrFun (congr (congrArg (rms _) (funext fun k => ?_)) (funext fun k => ?_)) k
  · exact prompt_block m c (row t) y0 k j0 (by rw [hrow]; exact h0')
  · exact norm_block m c (row t) k

/-- Step `t` stores the reference's second result at row `y 0`, column `1024 min (t, 11) + y 1`. -/
theorem sample_point (c : Dev nD) (t : Fin cfg0.N) (y : S128x1024.Idx) (j : S128x12288.Idx)
    (h0 : (j 0).val = (y 0).val) (h1 : (j 1).val = min t.val 11 * 1024 + (y 1).val) :
    k0_pay5 (F := Ideal) (iblk m c 3 (col t)) (srows m c) y = refSample m c j := by
  idx_vars j
  idx_vars y
  have h1' : j1.val = min t.val 11 * 1024 + y1.val := h1
  have hcol : (col t).val % 12 = min t.val 11 := show min t.val 11 % 12 = min t.val 11 by omega
  obtain rfl : j0 = y0 := Fin.ext h0
  rw [sprod_apply]
  refine Eq.trans ?_ (Cert.ProjRestRefIdeal.Pure.sample_apply _ _ _ j0 j1).symm
  refine Eq.trans ?_ (Cert.ProjRestRefIdeal.Pure.sproj_apply _ _ _ _ _ _).symm
  refine Finset.sum_congr rfl fun k _ => ?_
  unfold srows
  rw [srows_apply]
  refine congr (congrArg HMul.hMul ?_) (weights_block m c (col t) y1 k _ (show 3152 + j1.val = _ by omega))
  refine congrFun (congr (congrArg (rms _) (funext fun k => ?_)) (funext fun k => ?_)) k
  · exact sample_block m c first j0 k
  · exact norm_block m c first k

/-- The prompts' array after the run. -/
theorem prompt_final (c : Dev nD) : (dats m 0 c).arrAt 4 cfg0.N = refPrompt m c := by
  refine (dats m 0 c).arrAt_eq_of_covers 4 _ (by decide +kernel) fun t _ y => ?_
  blk_simp
  rw [after_4]
  refine prompt_point m c t y _ ?_ ?_ <;> (blk_simp [idx t] <;> try omega)

/-- The samples' array after the run. -/
theorem sample_final (c : Dev nD) : (dats m 0 c).arrAt 5 cfg0.N = refSample m c := by
  refine (dats m 0 c).arrAt_eq_of_covers 5 _ (by decide +kernel) fun t _ y => ?_
  blk_simp
  rw [after_5]
  refine sample_point m c t y _ ?_ ?_ <;> (blk_simp [idx t] <;> try omega)

/-- The run, with each result named and the arguments unchanged. -/
theorem run_arrays (ρ : Dev nD → PrngReg) : θ_run defs (onTc (τ := τ) (main (F := Ideal))) ⟨m, fun _ => 0, ρ⟩ fun r => ∀ c : Dev nD,
      r.2.mem ((c : Thread nD τ).loc main_v5_0) = refPrompt m c
      ∧ r.2.mem ((c : Thread nD τ).loc main_v5_1) = refSample m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h.1 c).1 4).trans (prompt_final m c), ((h.1 c).1 5).trans (sample_final m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩)
    (run_main m ρ)

end Cert.ProjRestIdeal.Arrays

end
-- ==== Proof.Pieces.lean ====
/- Buffers filled piece by piece: what a list of stores has put into a memref, and the steps that add to the list. -/
module

public import proofs.«01_k».proof.Proof.Whole

@[expose] public section

noncomputable section

namespace Cert.Pieces

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U] {Lvl : Type} [Preorder Lvl] {Λ : Labels}

local notation "𝕄" => MT nD τ sig Ix Val Name U Lvl

variable {defs : Defs nD τ sig Val Λ} {𝒱 : Variants} {c : Dev nD} {bd : Option 𝒱.V} {E : Set Name}

/-- The memref `m` holds the stores `L`, last first: where one of them covers an index, what the last such stored there. -/
def held [∀ e, Nonempty (Val e)] {cs : CoreSpace} {sh : Shape} {e : EltTy} (c : Dev nD) (m : Memref sig .tc cs sh e) (L : List (View.Piece Val sh e)) : sProp 𝕄 :=
  iprop(∃ X, ⌜∀ y, (∃ p ∈ L, y ∈ p.1.set) → X y = View.canon L y⌝ ∗ owns (c : Thread nD τ) m fullShare X)

/-- Before any store. -/
theorem held_nil [∀ e, Nonempty (Val e)] {cs : CoreSpace} {sh : Shape} {e : EltTy} (m : Memref sig .tc cs sh e) {X : sh.Idx → Val e} :
    (owns (c : Thread nD τ) m fullShare X : sProp 𝕄) ⊢ held c m [] := by
  unfold held
  iintro H
  iexists X
  isplitr
  · ipureintro
    rintro y ⟨_, h, _⟩
    exact absurd h List.not_mem_nil
  · iexact H

/-- When the stores cover the memref, it holds their canon. -/
theorem held_all [∀ e, Nonempty (Val e)] {cs : CoreSpace} {sh : Shape} {e : EltTy} (m : Memref sig .tc cs sh e) {L : List (View.Piece Val sh e)}
    (h : ∀ y, ∃ p ∈ L, y ∈ p.1.set) : (held c m L : sProp 𝕄) ⊢ owns (c : Thread nD τ) m fullShare (View.canon L) := by
  unfold held
  iintro ⟨%X, %hX, H⟩
  rw [show X = View.canon L from funext fun y => hX y (h y)]
  iexact H

theorem overlay_agrees [∀ e, Nonempty (Val e)] {sh : Shape} {e : EltTy} (r : Rect sh) (w : r.shape.Idx → Val e) (L : List (View.Piece Val sh e)) (X : sh.Idx → Val e)
    (hX : ∀ y, (∃ p ∈ L, y ∈ p.1.set) → X y = View.canon L y) (y : sh.Idx) (hy : ∃ p ∈ (⟨r, w⟩ : View.Piece Val sh e) :: L, y ∈ p.1.set) :
    r.overlay X w y = View.canon (⟨r, w⟩ :: L) y := by
  by_cases h : y ∈ r.set
  · obtain ⟨x, rfl⟩ := r.exists_idx_of_mem h
    exact (r.overlay_emb _ _ x).trans (View.canon_cons_emb r w L x).symm
  · rw [View.canon_cons_of_not_mem ⟨r, w⟩ L h, r.overlay_of_not_mem _ _ h]
    obtain ⟨p, hp, hy⟩ := hy
    rcases List.mem_cons.mp hp with rfl | hp
    · exact absurd hy h
    · exact hX y ⟨p, hp, hy⟩

/-- A load whose result nobody uses, followed by a store, adds the store to what the memref holds. -/
theorem put [∀ e, Nonempty (Val e)] {cs : CoreSpace} {sh : Shape} {e : EltTy} (m : Memref sig .tc cs sh e) {L : List (View.Piece Val sh e)}
    {l : LoadRect sh} {hl : m.view.LoadsAt l} {r : Rect sh} {w : r.shape.Idx → Val e} {hx : (m.access r).Stores Finset.univ}
    {hm : (Finset.univ : Finset r.shape.Idx) = Finset.univ ∨ ∀ a, r.stride a = 1}
    {β : Type} {k : PUnit → Prog (TpuEff nD τ sig Val Λ .tc) β} {Q : β → sProp 𝕄} :
    (held c m L : sProp 𝕄)
      ⊢ iprop((held c m (⟨r, w⟩ :: L) -∗ wp frame (wpE (Ix := Ix) (Name := Name) (U := U) (Lvl := Lvl) defs 𝒱 (c : Thread nD τ) bd) E (k ⟨⟩) Q)
        -∗ wp frame (wpE (Ix := Ix) (Name := Name) (U := U) (Lvl := Lvl) defs 𝒱 (c : Thread nD τ) bd) E
          (Prog.lift (.load m l hl) >>= fun _ => Prog.lift (.store m r w Finset.univ hx hm) >>= k) Q) := by
  unfold held owns
  iintro ⟨%X, %hX, %f, %hf, Hf⟩ Hk
  rw [wp_bind]
  iapply (wp_load (c := (c : Thread nD τ)) (m := m) (hl := hl) 𝒱 bd E (View.setOn_subset_set _ _)) $$ Hf
  iintro Hf
  rw [wp_ret]
  imodintro
  rw [wp_bind]
  iapply (wp_store (c := (c : Thread nD τ)) (m := m) (hx := hx) (hm := hm) 𝒱 bd E ((View.setOn_subset_set _ _).trans (View.set_slice_subset _ _))) $$ Hf
  iintro Hf
  rw [wp_ret]
  imodintro
  iapply Hk
  iexists (r.overlay X w)
  isplitr
  · ipureintro
    exact overlay_agrees r w L X hX
  iexists _
  isplitr
  rotate_left
  · iexact Hf
  · ipureintro
    subst hf
    funext y
    have h1 := View.writes_cons m.view f (⟨r, w⟩ : View.Piece Val sh e) []
    by_cases h : y ∈ r.set
    · obtain ⟨x, rfl⟩ := r.exists_idx_of_mem h
      exact (View.read_writes_cons_emb m.view f r w [] x).trans (r.overlay_emb _ _ x).symm
    · refine Eq.trans ?_ (r.overlay_of_not_mem _ _ h).symm
      have hy' : y ∉ Finset.univ.map r.emb := by rwa [Rect.map_emb_univ]
      exact View.read_slice_write_of_not_mem r _ _ _ hy'

end Cert.Pieces
-- ==== Proof.ProjRun.lean ====
/- The run of the first projection: what every step of it leaves, the launch, and the frame, for any floating-point values. -/
module

public import proofs.«01_k».proof.Proof.Pieces
public import proofs.«01_k».proof.Proof.Gen.ProjAIdeal.Launch
public import proofs.«01_k».proof.Proof.Gen.ProjAIdeal.Points
public import proofs.«01_k».proof.Proof.Gen.ProjAIdeal.Skeleton
public import proofs.«01_k».proof.Proof.Gen.ProjAIdeal.Frame
public import Idealize.ShloMosaic.Lib.Claim

@[expose] public section

noncomputable section

namespace Cert.ProjAIdeal.Run

open Cert.Whole Cert.Pieces Cert.ProjAIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

private theorem zero2 : (![0, 0] : Fin 2 → ℕ) = fun _ => 0 := by decide

/-! ## What the body stores -/

/-- The columns of a query block, 128 at a time, last first. -/
def columns8 (e : EltTy) (w : Fin 8 → S512x128.Idx → Elt F e) : List (View.Piece (Elt F) S512x1024 e) :=
  [⟨Rect.unit (s := S512x1024) ![0, 896] S512x128.size inb_S512x1024_S512x128_0_896, w 7⟩, ⟨Rect.unit (s := S512x1024) ![0, 768] S512x128.size inb_S512x1024_S512x128_0_768, w 6⟩, ⟨Rect.unit (s := S512x1024) ![0, 640] S512x128.size inb_S512x1024_S512x128_0_640, w 5⟩, ⟨Rect.unit (s := S512x1024) ![0, 512] S512x128.size inb_S512x1024_S512x128_0_512, w 4⟩, ⟨Rect.unit (s := S512x1024) ![0, 384] S512x128.size inb_S512x1024_S512x128_0_384, w 3⟩, ⟨Rect.unit (s := S512x1024) ![0, 256] S512x128.size inb_S512x1024_S512x128_0_256, w 2⟩, ⟨Rect.unit (s := S512x1024) ![0, 128] S512x128.size inb_S512x1024_S512x128_0_128, w 1⟩, ⟨Rect.unit (s := S512x1024) ![0, 0] S512x128.size inb_S512x1024_S512x128_0_0, w 0⟩]

/-- The columns of a key block, 128 at a time, last first. -/
def columns4 (e : EltTy) (w : Fin 4 → S512x128.Idx → Elt F e) : List (View.Piece (Elt F) S512x512 e) :=
  [⟨Rect.unit (s := S512x512) ![0, 384] S512x128.size inb_S512x512_S512x128_0_384, w 3⟩, ⟨Rect.unit (s := S512x512) ![0, 256] S512x128.size inb_S512x512_S512x128_0_256, w 2⟩, ⟨Rect.unit (s := S512x512) ![0, 128] S512x128.size inb_S512x512_S512x128_0_128, w 1⟩, ⟨Rect.unit (s := S512x512) ![0, 0] S512x128.size inb_S512x512_S512x128_0_0, w 0⟩]

/-- Every fourth row of a block, last first. -/
def rows4 (e : EltTy) (w : Fin 4 → S512x128.Idx → Elt F e) : List (View.Piece (Elt F) S2048x128 e) :=
  [⟨⟨(⟨![3, 0], S512x128.size, ![4, 1], inb_S2048x128_S512x128_3_0_s_4_1⟩ : LoadRect S2048x128), spos_4_1⟩, w 3⟩, ⟨⟨(⟨![2, 0], S512x128.size, ![4, 1], inb_S2048x128_S512x128_2_0_s_4_1⟩ : LoadRect S2048x128), spos_4_1⟩, w 2⟩, ⟨⟨(⟨![1, 0], S512x128.size, ![4, 1], inb_S2048x128_S512x128_1_0_s_4_1⟩ : LoadRect S2048x128), spos_4_1⟩, w 1⟩, ⟨⟨(⟨![0, 0], S512x128.size, ![4, 1], inb_S2048x128_S512x128_0_0_s_4_1⟩ : LoadRect S2048x128), spos_4_1⟩, w 0⟩]

theorem columns8_cover (e : EltTy) (w : Fin 8 → S512x128.Idx → Elt F e) (y : S512x1024.Idx) : ∃ p ∈ columns8 e w, y ∈ p.1.set :=
  View.cover_of_tiled (columns8 e w) S512x128.size (by rfl) y

theorem columns4_cover (e : EltTy) (w : Fin 4 → S512x128.Idx → Elt F e) (y : S512x512.Idx) : ∃ p ∈ columns4 e w, y ∈ p.1.set :=
  View.cover_of_tiled (columns4 e w) S512x128.size (by rfl) y

/-- A row whose number is `k` modulo four lies in the rows stored from `k` on. -/
theorem row_mem {k : ℕ} {inb : ∀ a, S512x128.size a = 0 ∨ (![k, 0] : Fin 2 → ℕ) a + (![4, 1] : Fin 2 → ℕ) a * (S512x128.size a - 1) < S2048x128.size a}
    {pos : ∀ a : Fin 2, 0 < (![4, 1] : Fin 2 → ℕ) a} (y : S2048x128.Idx) (hk : (y 0).val % 4 = k) :
    y ∈ (⟨⟨![k, 0], S512x128.size, ![4, 1], inb⟩, pos⟩ : Rect S2048x128).set := by
  have h0 : (y 0).val < 2048 := (y 0).isLt
  refine (LoadRect.mem_set _).mpr (Fin.forall_fin_two.mpr ⟨⟨(y 0).val / 4, ?_, ?_⟩, ⟨(y 1).val, (y 1).isLt, ?_⟩⟩)
  · show (y 0).val / 4 < 512; omega
  · show (y 0).val = k + 4 * ((y 0).val / 4); omega
  · show (y 1).val = 0 + 1 * (y 1).val; omega

theorem rows4_cover (e : EltTy) (w : Fin 4 → S512x128.Idx → Elt F e) (y : S2048x128.Idx) : ∃ p ∈ rows4 e w, y ∈ p.1.set := by
  have hk : (y 0).val % 4 = 3 ∨ (y 0).val % 4 = 2 ∨ (y 0).val % 4 = 1 ∨ (y 0).val % 4 = 0 := by omega
  unfold rows4
  rcases hk with hk | hk | hk | hk
  · exact ⟨_, List.mem_cons_self, row_mem y hk⟩
  · exact ⟨_, List.mem_cons_of_mem _ List.mem_cons_self, row_mem y hk⟩
  · exact ⟨_, List.mem_cons_of_mem _ (List.mem_cons_of_mem _ List.mem_cons_self), row_mem y hk⟩
  · exact ⟨_, List.mem_cons_of_mem _ (List.mem_cons_of_mem _ (List.mem_cons_of_mem _ List.mem_cons_self)), row_mem y hk⟩

variable (z : FVec F S512x3200 .f32) (cq sq ci sa sb : FVec F S512x128 .f32) (g : Vec F S1x128 .f32)

/-- The heads of a query block. -/
def qParts : Fin 8 → S512x128.Idx → Elt F .bf16 :=
  ![k0_pay20 cq sq (k0_pay19 z g), k0_pay21 z cq sq g, k0_pay26 cq sq (k0_pay22 z) (k0_pay23 g) (k0_pay24 z) k0_pay25, k0_pay27 z cq sq g,
    k0_pay31 cq sq (k0_pay28 z) (k0_pay29 g) (k0_pay30 z), k0_pay32 z cq sq g, k0_pay34 cq sq (k0_pay33 z) g, k0_pay35 z cq sq g]

/-- The heads of a key block. -/
def kParts : Fin 4 → S512x128.Idx → Elt F .f32 :=
  ![k0_pay36 z cq sq g, k0_pay43 cq sq (k0_pay40 z) (k0_pay41 g) (k0_pay42 z), k0_pay47 z cq sq g, k0_pay51 z cq sq g]

/-- The heads of a value block. -/
def vParts : Fin 4 → S512x128.Idx → Elt F .f32 := ![k0_pay37 z, k0_pay44 z, k0_pay48 z, k0_pay52 z]

/-- The rounded heads of a key block. -/
def kbParts : Fin 4 → S512x128.Idx → Elt F .bf16 :=
  ![k0_pay38 z cq sq g, k0_pay45 cq sq (k0_pay40 z) (k0_pay41 g) (k0_pay42 z), k0_pay49 (k0_pay47 z cq sq g), k0_pay53 z cq sq g]

/-- The rounded heads of a value block. -/
def vbParts : Fin 4 → S512x128.Idx → Elt F .bf16 := ![k0_pay39 z, k0_pay46 z, k0_pay50 (k0_pay48 z), k0_pay54 z]

/-- The indexer's heads, two by two. -/
def qiParts : Fin 8 → S512x128.Idx → Elt F .bf16 :=
  ![k0_pay55 z ci sa sb, k0_pay56 z ci sa sb, k0_pay57 z ci sa sb, k0_pay58 z ci sa sb, k0_pay59 z ci sa sb, k0_pay60 z ci sa sb,
    k0_pay61 z ci sa sb, k0_pay62 z ci sa sb]

/-- The lane tables of the second indexer term and of the third. -/
abbrev sinA (s : Vec F S512x128 .f32) : FVec F S512x128 .f32 := k0_pay17 (k0_pay7 s) (k0_pay9 s) (iota .tc S1x128 32 [1] iota_S1x128_d1_w32) k0_pay14
abbrev sinB (s : Vec F S512x128 .f32) : FVec F S512x128 .f32 := k0_pay18 (k0_pay7 s) (k0_pay9 s) (iota .tc S1x128 32 [1] iota_S1x128_d1_w32) k0_pay14

/-- What a step leaves in output 0. -/
def out8 (x1 : Vec F S512x2048 .f32) (x2 : Vec F S1x2048 .f32) (x3 : Vec F S3200x2048 .bf16) (x4 : Vec F S1x128 .f32) (x5 : Vec F S1x128 .f32) (x6 : Vec F S512x128 .f32) (x7 : Vec F S512x128 .f32) : Vec F S512x1024 .bf16 :=
  (View.canon (columns8 .bf16 (qParts (k0_pay5 x1 x2 x3) (k0_pay11 x6) (k0_pay12 x7) x4)))

/-- What a step leaves in output 1. -/
def out9 (x1 : Vec F S512x2048 .f32) (x2 : Vec F S1x2048 .f32) (x3 : Vec F S3200x2048 .bf16) (x4 : Vec F S1x128 .f32) (x5 : Vec F S1x128 .f32) (x6 : Vec F S512x128 .f32) (x7 : Vec F S512x128 .f32) : Vec F S2048x128 .f32 :=
  (View.canon (rows4 .f32 (kParts (k0_pay5 x1 x2 x3) (k0_pay11 x6) (k0_pay12 x7) x5)))

/-- What a step leaves in output 2. -/
def out10 (x1 : Vec F S512x2048 .f32) (x2 : Vec F S1x2048 .f32) (x3 : Vec F S3200x2048 .bf16) (x4 : Vec F S1x128 .f32) (x5 : Vec F S1x128 .f32) (x6 : Vec F S512x128 .f32) (x7 : Vec F S512x128 .f32) : Vec F S2048x128 .f32 :=
  (View.canon (rows4 .f32 (vParts (k0_pay5 x1 x2 x3))))

/-- What a step leaves in output 3. -/
def out11 (x1 : Vec F S512x2048 .f32) (x2 : Vec F S1x2048 .f32) (x3 : Vec F S3200x2048 .bf16) (x4 : Vec F S1x128 .f32) (x5 : Vec F S1x128 .f32) (x6 : Vec F S512x128 .f32) (x7 : Vec F S512x128 .f32) : Vec F S512x512 .bf16 :=
  (View.canon (columns4 .bf16 (kbParts (k0_pay5 x1 x2 x3) (k0_pay11 x6) (k0_pay12 x7) x5)))

/-- What a step leaves in output 4. -/
def out12 (x1 : Vec F S512x2048 .f32) (x2 : Vec F S1x2048 .f32) (x3 : Vec F S3200x2048 .bf16) (x4 : Vec F S1x128 .f32) (x5 : Vec F S1x128 .f32) (x6 : Vec F S512x128 .f32) (x7 : Vec F S512x128 .f32) : Vec F S512x512 .bf16 :=
  (View.canon (columns4 .bf16 (vbParts (k0_pay5 x1 x2 x3))))

/-- What a step leaves in output 5. -/
def out13 (x1 : Vec F S512x2048 .f32) (x2 : Vec F S1x2048 .f32) (x3 : Vec F S3200x2048 .bf16) (x4 : Vec F S1x128 .f32) (x5 : Vec F S1x128 .f32) (x6 : Vec F S512x128 .f32) (x7 : Vec F S512x128 .f32) : Vec F S512x1024 .bf16 :=
  (View.canon (columns8 .bf16 (qiParts (k0_pay5 x1 x2 x3) (k0_pay13 x6) (sinA x7) (sinB x7))))

/-- What a step leaves in output 6. -/
def out14 (x1 : Vec F S512x2048 .f32) (x2 : Vec F S1x2048 .f32) (x3 : Vec F S3200x2048 .bf16) (x4 : Vec F S1x128 .f32) (x5 : Vec F S1x128 .f32) (x6 : Vec F S512x128 .f32) (x7 : Vec F S512x128 .f32) : Vec F S512x64 .f32 :=
  (k0_pay2 (k0_pay5 x1 x2 x3) (k0_pay13 x6) (sinA x7) (sinB x7))

/-- What a step leaves in output 7. -/
def out15 (x1 : Vec F S512x2048 .f32) (x2 : Vec F S1x2048 .f32) (x3 : Vec F S3200x2048 .bf16) (x4 : Vec F S1x128 .f32) (x5 : Vec F S1x128 .f32) (x6 : Vec F S512x128 .f32) (x7 : Vec F S512x128 .f32) : Vec F S512x64 .bf16 :=
  (k0_pay3 (k0_pay5 x1 x2 x3) (k0_pay13 x6) (sinA x7) (sinB x7))

/-- What a step leaves in output 8. -/
def out16 (x1 : Vec F S512x2048 .f32) (x2 : Vec F S1x2048 .f32) (x3 : Vec F S3200x2048 .bf16) (x4 : Vec F S1x128 .f32) (x5 : Vec F S1x128 .f32) (x6 : Vec F S512x128 .f32) (x7 : Vec F S512x128 .f32) : Vec F S512x16 .f32 :=
  (k0_pay4 (k0_pay5 x1 x2 x3))

/-! ## The body on any memrefs -/

open Classical in
set_option maxHeartbeats 4000000 in
/-- The body's step: from the blocks `x1 … x7` and any outputs it leaves the blocks as they were and the nine outputs filled. -/
theorem sound_body_any (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S3200x2048 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1024 .bf16) (harg8 : arg8.IsWhole) (arg9 : Memref sig .tc .vmem S2048x128 .f32) (harg9 : arg9.IsWhole) (arg10 : Memref sig .tc .vmem S2048x128 .f32) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x1024 .bf16) (harg13 : arg13.IsWhole) (arg14 : Memref sig .tc .vmem S512x64 .f32) (harg14 : arg14.IsWhole) (arg15 : Memref sig .tc .vmem S512x64 .bf16) (harg15 : arg15.IsWhole) (arg16 : Memref sig .tc .vmem S512x16 .f32) (harg16 : arg16.IsWhole)
    (x1 : Vec F S512x2048 .f32) (x2 : Vec F S1x2048 .f32) (x3 : Vec F S3200x2048 .bf16) (x4 : Vec F S1x128 .f32) (x5 : Vec F S1x128 .f32) (x6 : Vec F S512x128 .f32) (x7 : Vec F S512x128 .f32)
    (d8 : Vec F S512x1024 .bf16) (d9 : Vec F S2048x128 .f32) (d10 : Vec F S2048x128 .f32) (d11 : Vec F S512x512 .bf16) (d12 : Vec F S512x512 .bf16) (d13 : Vec F S512x1024 .bf16) (d14 : Vec F S512x64 .f32) (d15 : Vec F S512x64 .bf16) (d16 : Vec F S512x16 .f32) :
    (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16) : sProp 𝕄)
    ⊢ wp frame (wpE (defs₀ (F := F)) Variants.none c none) Set.univ
        (cc0_proj_a i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
        (fun _ => iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (out8 x1 x2 x3 x4 x5 x6 x7) ∗ owns (c : Thread nD τ) arg9 fullShare (out9 x1 x2 x3 x4 x5 x6 x7) ∗ owns (c : Thread nD τ) arg10 fullShare (out10 x1 x2 x3 x4 x5 x6 x7) ∗ owns (c : Thread nD τ) arg11 fullShare (out11 x1 x2 x3 x4 x5 x6 x7) ∗ owns (c : Thread nD τ) arg12 fullShare (out12 x1 x2 x3 x4 x5 x6 x7) ∗ owns (c : Thread nD τ) arg13 fullShare (out13 x1 x2 x3 x4 x5 x6 x7) ∗ owns (c : Thread nD τ) arg14 fullShare (out14 x1 x2 x3 x4 x5 x6 x7) ∗ owns (c : Thread nD τ) arg15 fullShare (out15 x1 x2 x3 x4 x5 x6 x7) ∗ owns (c : Thread nD τ) arg16 fullShare (out16 x1 x2 x3 x4 x5 x6 x7))) := by
  rw [cc0_proj_a_eq_skeleton]
  unfold cc0_proj_a_skel
  iintro ⟨H1, H2, H3, H4, H5, H6, H7, H8, H9, H10, H11, H12, H13, H14, H15, H16⟩
  ihave H8 := held_nil arg8 $$ H8
  ihave H9 := held_nil arg9 $$ H9
  ihave H10 := held_nil arg10 $$ H10
  ihave H11 := held_nil arg11 $$ H11
  ihave H12 := held_nil arg12 $$ H12
  ihave H13 := held_nil arg13 $$ H13
  rw [wp_bind, k0_part1_eq_skeleton]; unfold k0_part1_skel
  rw [wp_bind]; iapply (load_whole arg1 zero2) $$ H1; iintro H1
  rw [wp_bind]; iapply (load_whole arg2 zero2) $$ H2; iintro H2
  rw [wp_bind]; iapply (load_whole arg3 zero2) $$ H3; iintro H3
  rw [wp_bind]; iapply (load_whole arg6 zero2) $$ H6; iintro H6
  rw [wp_bind]; iapply (load_whole arg7 zero2) $$ H7; iintro H7
  rw [wp_pure]; imodintro; dsimp only
  rw [wp_bind, k0_part2_eq_skeleton]; unfold k0_part2_skel
  rw [wp_bind]; iapply (load_whole arg4 zero2) $$ H4; iintro H4
  rw [wp_pure]; imodintro; dsimp only
  rw [wp_bind, k0_part3_eq_skeleton]; unfold k0_part3_skel
  iapply (put arg8) $$ H8; iintro H8
  rw [wp_bind]; iapply (load_whole arg4 zero2) $$ H4; iintro H4
  iapply (put arg8) $$ H8; iintro H8
  rw [wp_bind]; iapply (load_whole arg4 zero2) $$ H4; iintro H4
  rw [wp_pure]; imodintro; dsimp only
  rw [wp_bind, k0_part4_eq_skeleton]; unfold k0_part4_skel
  iapply (put arg8) $$ H8; iintro H8
  rw [wp_bind]; iapply (load_whole arg4 zero2) $$ H4; iintro H4
  iapply (put arg8) $$ H8; iintro H8
  rw [wp_bind]; iapply (load_whole arg4 zero2) $$ H4; iintro H4
  rw [wp_pure]; imodintro; dsimp only
  rw [wp_bind, k0_part5_eq_skeleton]; unfold k0_part5_skel
  iapply (put arg8) $$ H8; iintro H8
  rw [wp_bind]; iapply (load_whole arg4 zero2) $$ H4; iintro H4
  iapply (put arg8) $$ H8; iintro H8
  rw [wp_pure]; imodintro; dsimp only
  rw [wp_bind, k0_part6_eq_skeleton]; unfold k0_part6_skel
  rw [wp_bind]; iapply (load_whole arg4 zero2) $$ H4; iintro H4
  iapply (put arg8) $$ H8; iintro H8
  rw [wp_bind]; iapply (load_whole arg4 zero2) $$ H4; iintro H4
  rw [wp_pure]; imodintro; dsimp only
  rw [wp_bind, k0_part7_eq_skeleton]; unfold k0_part7_skel
  iapply (put arg8) $$ H8; iintro H8
  rw [wp_bind]; iapply (load_whole arg5 zero2) $$ H5; iintro H5
  iapply (put arg9) $$ H9; iintro H9
  iapply (put arg10) $$ H10; iintro H10
  iapply (put arg11) $$ H11; iintro H11
  iapply (put arg12) $$ H12; iintro H12
  rw [wp_bind]; iapply (load_whole arg5 zero2) $$ H5; iintro H5
  rw [wp_pure]; imodintro; dsimp only
  rw [wp_bind, k0_part8_eq_skeleton]; unfold k0_part8_skel
  iapply (put arg9) $$ H9; iintro H9
  iapply (put arg10) $$ H10; iintro H10
  iapply (put arg11) $$ H11; iintro H11
  iapply (put arg12) $$ H12; iintro H12
  rw [wp_bind]; iapply (load_whole arg5 zero2) $$ H5; iintro H5
  rw [wp_pure]; imodintro; dsimp only
  rw [wp_bind, k0_part9_eq_skeleton]; unfold k0_part9_skel
  iapply (put arg9) $$ H9; iintro H9
  iapply (put arg10) $$ H10; iintro H10
  iapply (put arg11) $$ H11; iintro H11
  iapply (put arg12) $$ H12; iintro H12
  rw [wp_bind]; iapply (load_whole arg5 zero2) $$ H5; iintro H5
  iapply (put arg9) $$ H9; iintro H9
  iapply (put arg10) $$ H10; iintro H10
  iapply (put arg11) $$ H11; iintro H11
  iapply (put arg12) $$ H12; iintro H12
  rw [wp_pure]; imodintro; dsimp only
  rw [wp_bind, k0_part10_eq_skeleton]; unfold k0_part10_skel
  iapply (put arg13) $$ H13; iintro H13
  iapply (put arg13) $$ H13; iintro H13
  iapply (put arg13) $$ H13; iintro H13
  iapply (put arg13) $$ H13; iintro H13
  rw [wp_pure]; imodintro; dsimp only
  rw [wp_bind, k0_part11_eq_skeleton]; unfold k0_part11_skel
  iapply (put arg13) $$ H13; iintro H13
  iapply (put arg13) $$ H13; iintro H13
  iapply (put arg13) $$ H13; iintro H13
  iapply (put arg13) $$ H13; iintro H13
  rw [wp_pure]; imodintro; dsimp only
  rw [wp_bind]; iapply (load_whole arg14 zero2) $$ H14; iintro H14
  rw [wp_bind]; iapply (store_whole arg14 zero2) $$ H14; iintro H14
  rw [wp_bind]; iapply (load_whole arg15 zero2) $$ H15; iintro H15
  rw [wp_bind]; iapply (store_whole arg15 zero2) $$ H15; iintro H15
  rw [wp_bind]; iapply (load_whole arg16 zero2) $$ H16; iintro H16
  rw [wp_bind]; iapply (store_whole arg16 zero2) $$ H16; iintro H16
  rw [wp_pure]
  imodintro
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iapply (held_all arg8 (columns8_cover _ _)); iexact H8
  isplitl [H9]
  · iapply (held_all arg9 (rows4_cover _ _)); iexact H9
  isplitl [H10]
  · iapply (held_all arg10 (rows4_cover _ _)); iexact H10
  isplitl [H11]
  · iapply (held_all arg11 (columns4_cover _ _)); iexact H11
  isplitl [H12]
  · iapply (held_all arg12 (columns4_cover _ _)); iexact H12
  isplitl [H13]
  · iapply (held_all arg13 (columns8_cover _ _)); iexact H13
  isplitl [H14]; · iexact H14
  isplitl [H15]; · iexact H15
  iexact H16

/-! ## The data of the pipeline -/

variable (m : (ℓ : Loc nD τ sig) → Buf (Elt F) ℓ) (ρ : Dev nD → PrngReg)

/-- The pipeline's data: the arrays as the launch finds them; after a step an input's buffer holds its block, an output's what the
    step leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out8 (iblk m c 0 t) (iblk m c 1 t) (iblk m c 2 t) (iblk m c 3 t) (iblk m c 4 t) (iblk m c 5 t) (iblk m c 6 t)
    | ⟨8, _⟩ => out9 (iblk m c 0 t) (iblk m c 1 t) (iblk m c 2 t) (iblk m c 3 t) (iblk m c 4 t) (iblk m c 5 t) (iblk m c 6 t)
    | ⟨9, _⟩ => out10 (iblk m c 0 t) (iblk m c 1 t) (iblk m c 2 t) (iblk m c 3 t) (iblk m c 4 t) (iblk m c 5 t) (iblk m c 6 t)
    | ⟨10, _⟩ => out11 (iblk m c 0 t) (iblk m c 1 t) (iblk m c 2 t) (iblk m c 3 t) (iblk m c 4 t) (iblk m c 5 t) (iblk m c 6 t)
    | ⟨11, _⟩ => out12 (iblk m c 0 t) (iblk m c 1 t) (iblk m c 2 t) (iblk m c 3 t) (iblk m c 4 t) (iblk m c 5 t) (iblk m c 6 t)
    | ⟨12, _⟩ => out13 (iblk m c 0 t) (iblk m c 1 t) (iblk m c 2 t) (iblk m c 3 t) (iblk m c 4 t) (iblk m c 5 t) (iblk m c 6 t)
    | ⟨13, _⟩ => out14 (iblk m c 0 t) (iblk m c 1 t) (iblk m c 2 t) (iblk m c 3 t) (iblk m c 4 t) (iblk m c 5 t) (iblk m c 6 t)
    | ⟨14, _⟩ => out15 (iblk m c 0 t) (iblk m c 1 t) (iblk m c 2 t) (iblk m c 3 t) (iblk m c 4 t) (iblk m c 5 t) (iblk m c 6 t)
    | ⟨15, _⟩ => out16 (iblk m c 0 t) (iblk m c 1 t) (iblk m c 2 t) (iblk m c 3 t) (iblk m c 4 t) (iblk m c 5 t) (iblk m c 6 t)
    | ⟨n + 16, h⟩ => absurd h (Nat.not_lt.2 (Nat.le_add_left 16 n))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = out8 (iblk m c 0 t) (iblk m c 1 t) (iblk m c 2 t) (iblk m c 3 t) (iblk m c 4 t) (iblk m c 5 t) (iblk m c 6 t) := by dsimp only [dats]
theorem after_8 (c : Dev nD) (t : Fin cfg0.N) : (dats m 0 c).after 8 t = out9 (iblk m c 0 t) (iblk m c 1 t) (iblk m c 2 t) (iblk m c 3 t) (iblk m c 4 t) (iblk m c 5 t) (iblk m c 6 t) := by dsimp only [dats]
theorem after_9 (c : Dev nD) (t : Fin cfg0.N) : (dats m 0 c).after 9 t = out10 (iblk m c 0 t) (iblk m c 1 t) (iblk m c 2 t) (iblk m c 3 t) (iblk m c 4 t) (iblk m c 5 t) (iblk m c 6 t) := by dsimp only [dats]
theorem after_10 (c : Dev nD) (t : Fin cfg0.N) : (dats m 0 c).after 10 t = out11 (iblk m c 0 t) (iblk m c 1 t) (iblk m c 2 t) (iblk m c 3 t) (iblk m c 4 t) (iblk m c 5 t) (iblk m c 6 t) := by dsimp only [dats]
theorem after_11 (c : Dev nD) (t : Fin cfg0.N) : (dats m 0 c).after 11 t = out12 (iblk m c 0 t) (iblk m c 1 t) (iblk m c 2 t) (iblk m c 3 t) (iblk m c 4 t) (iblk m c 5 t) (iblk m c 6 t) := by dsimp only [dats]
theorem after_12 (c : Dev nD) (t : Fin cfg0.N) : (dats m 0 c).after 12 t = out13 (iblk m c 0 t) (iblk m c 1 t) (iblk m c 2 t) (iblk m c 3 t) (iblk m c 4 t) (iblk m c 5 t) (iblk m c 6 t) := by dsimp only [dats]
theorem after_13 (c : Dev nD) (t : Fin cfg0.N) : (dats m 0 c).after 13 t = out14 (iblk m c 0 t) (iblk m c 1 t) (iblk m c 2 t) (iblk m c 3 t) (iblk m c 4 t) (iblk m c 5 t) (iblk m c 6 t) := by dsimp only [dats]
theorem after_14 (c : Dev nD) (t : Fin cfg0.N) : (dats m 0 c).after 14 t = out15 (iblk m c 0 t) (iblk m c 1 t) (iblk m c 2 t) (iblk m c 3 t) (iblk m c 4 t) (iblk m c 5 t) (iblk m c 6 t) := by dsimp only [dats]
theorem after_15 (c : Dev nD) (t : Fin cfg0.N) : (dats m 0 c).after 15 t = out16 (iblk m c 0 t) (iblk m c 1 t) (iblk m c 2 t) (iblk m c 3 t) (iblk m c 4 t) (iblk m c 5 t) (iblk m c 6 t) := by dsimp only [dats]

/-- What the body is called with at a step. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- What it gives back. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t ∗ (dats m 0 c).leavesExact 13 t ∗ (dats m 0 c).leavesExact 14 t ∗ (dats m 0 c).leavesExact 15 t)

theorem live (c : Dev nD) (t : Fin cfg0.N) (w : Fin cfg0.W) (h : cfg0.idle w (grid0.coords t) = false) : (dats m 0 c).leavesExact w t
    = owns (c : Thread nD τ) ((cfg0.win w).stage (cfg0.slots t w)) fullShare ((dats m 0 c).after w t) := by
  unfold Dat.leavesExact; rw [h]

/-- The body at any step. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0_of m (dats m 0 c) (A_eq m c 0) (after_0 m c), before0_1_of m (dats m 0 c) (A_eq m c 1) (after_1 m c), before0_2_of m (dats m 0 c) (A_eq m c 2) (after_2 m c), before0_3_of m (dats m 0 c) (A_eq m c 3) (after_3 m c), before0_4_of m (dats m 0 c) (A_eq m c 4) (after_4 m c), before0_5_of m (dats m 0 c) (A_eq m c 5) (after_5 m c), before0_6_of m (dats m 0 c) (A_eq m c 6) (after_6 m c)]
  rw [show (dats m 0 c).Φ t.succ = (dats m 0 c).Φ t.castSucc from rfl,
    show (dats m 0 c).owesAt () t.succ = (dats m 0 c).owesAt () t.castSucc from rfl,
    live m c t 0 rfl, live m c t 1 rfl, live m c t 2 rfl, live m c t 3 rfl, live m c t 4 rfl, live m c t 5 rfl, live m c t 6 rfl, live m c t 7 rfl, live m c t 8 rfl, live m c t 9 rfl, live m c t 10 rfl, live m c t 11 rfl, live m c t 12 rfl, live m c t 13 rfl, live m c t 14 rfl, live m c t 15 rfl,
    after_0, after_1, after_2, after_3, after_4, after_5, after_6, after_7, after_8, after_9, after_10, after_11, after_12, after_13, after_14, after_15]
  iintro ⟨Hr, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  ihave HW := sound_body_any c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15))
    (iblk m c 0 t) (iblk m c 1 t) (iblk m c 2 t) (iblk m c 3 t) (iblk m c 4 t) (iblk m c 5 t) (iblk m c 6 t) ((dats m 0 c).before 7 t d7) ((dats m 0 c).before 8 t d8) ((dats m 0 c).before 9 t d9) ((dats m 0 c).before 10 t d10) ((dats m 0 c).before 11 t d11) ((dats m 0 c).before 12 t d12) ((dats m 0 c).before 13 t d13) ((dats m 0 c).before 14 t d14) ((dats m 0 c).before 15 t d15) $$ [H0 H1 H2 H3 H4 H5 H6 H7 H8 H9 H10 H11 H12 H13 H14 H15]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  iapply wp_wand $$ HW
  iintro %_ ⟨H0, H1, H2, H3, H4, H5, H6, H7, H8, H9, H10, H11, H12, H13, H14, H15⟩
  isplitl [Hr]; · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem body_row (t : Fin cfg0.N) :
    defs₀ (F := F) .tc cfg0.body (cfg0.bodyArgs t (cfg0.slots t)) = bodyAt0 t := by
  unfold defs₀; rw [Defs.onTc_tc]

/-- The library's body obligation. -/
theorem body_obligation (c : Dev nD) :
    BodyObligation (dats (F := F) m 0 c) (defs₀ (F := F)) Variants.none () Set.univ := fun t => by
  rw [bigSep_W0, bigSep_W0, body_row]
  exact triple_restated (sound_body m c t) rfl .rfl fun _ => .rfl

-- the launch theorem's implicit arguments are found by unfolding plain definitions
set_option backward.isDefEq.respectTransparency.types false in
set_option maxHeartbeats 800000 in
/-- The launch: every array of the pipeline is what its data say, every other buffer as it was found, every counter zero. -/
theorem run_main : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- The frame, for any floating-point values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩)
    (run_main m ρ)

end Cert.ProjAIdeal.Run
-- ==== Proof.ProjPure.lean ====
/- The first projection: what the kernel's body computes and what the reference computes, each read at an index as the arithmetic
   of a row, a head's rotation by its position, and the tables of angles. -/
module

public import proofs.«01_k».proof.Proof.Spec
public import proofs.«01_k».proof.Proof.ProjRun
public import proofs.«01_k».proof.Proof.Gen.ProjARefIdeal.Read

@[expose] public section

set_option maxRecDepth 16384

noncomputable section

namespace Cert.Spec

open Idealize.ShloMosaic

/-- The angle of position `p` at frequency `i` of `len` of them: `p · 10000^(-i / len)`. -/
def angle (len : EReal) (p i : ℕ) : EReal :=
  FloatOps.sitofp (F := Ideal) .f32 (BitVec.ofNat 32 p)
    * Ideal.pow (Ideal.ofBits .f32 0x461C4000#32) (Ideal.div (-FloatOps.sitofp (F := Ideal) .f32 (BitVec.ofNat 32 i)) len)

/-- A head `n` of `2 h` numbers turned by the cosines `c` and the sines `s`: the first half with the second as real and imaginary parts. -/
def rope {w h : ℕ} (hw : w = 2 * h) (n : Fin w → EReal) (c s : Fin h → EReal) (d : Fin w) : EReal :=
  if hd : d.val < h then n d * c ⟨d.val, hd⟩ - n ⟨h + d.val, by omega⟩ * s ⟨d.val, hd⟩
  else n d * c ⟨d.val - h, by omega⟩ + n ⟨d.val - h, by omega⟩ * s ⟨d.val - h, by omega⟩

/-- The same turn over 128 lanes: each lane times its cosine, and the lane half a head away times its signed sine. -/
def turn (n c s : Fin 128 → EReal) (d : Fin 128) : EReal := n d * c d + n ⟨(d.val + 128 - 64) % 128, by omega⟩ * s d

/-- Two heads of 64 turned at once over 128 lanes. -/
def turns (n c sa sb : Fin 128 → EReal) (d : Fin 128) : EReal :=
  n d * c d + n ⟨(d.val + 128 - 96) % 128, by omega⟩ * sa d + n ⟨(d.val + 128 - 32) % 128, by omega⟩ * sb d

/-- Over 128 lanes the turn is a head's. -/
theorem turn_eq_rope (n c s C S : Fin 128 → EReal) (hc : ∀ d : Fin 128, c d = C ⟨d.val % 64, by omega⟩)
    (hs : ∀ d : Fin 128, s d = if d.val < 64 then -S ⟨d.val % 64, by omega⟩ else S ⟨d.val % 64, by omega⟩) (d : Fin 128) :
    turn n c s d = rope (w := 128) (h := 64) rfl n (fun i => C ⟨i.val, by omega⟩) (fun i => S ⟨i.val, by omega⟩) d := by
  unfold turn rope
  rw [hc, hs]
  by_cases hd : d.val < 64
  · rw [if_pos hd, dif_pos hd, mul_neg, ← sub_eq_add_neg]
    simp only [Nat.mod_eq_of_lt hd]
    congr 3
    exact Fin.ext (show (d.val + 128 - 64) % 128 = 64 + d.val by omega)
  · rw [if_neg hd, dif_neg hd]
    have e : d.val % 64 = d.val - 64 := by omega
    simp only [e]
    congr 3
    exact Fin.ext (show (d.val + 128 - 64) % 128 = d.val - 64 by omega)

/-- Over 128 lanes the two turns are the two heads'. -/
theorem turns_eq_rope (n c sa sb C S : Fin 128 → EReal) (hc : ∀ d : Fin 128, c d = C ⟨64 + d.val % 64, by omega⟩)
    (ha : ∀ d : Fin 128, sa d = if d.val % 64 < 32 then -S ⟨64 + d.val % 64, by omega⟩ else 0)
    (hb : ∀ d : Fin 128, sb d = if d.val % 64 < 32 then 0 else S ⟨64 + d.val % 64, by omega⟩)
    (C' S' : Fin 32 → EReal) (hC : ∀ i : Fin 64, C ⟨64 + i.val, by omega⟩ = C' ⟨i.val % 32, by omega⟩)
    (hS : ∀ i : Fin 64, S ⟨64 + i.val, by omega⟩ = S' ⟨i.val % 32, by omega⟩) (d : Fin 128) :
    turns n c sa sb d = rope (w := 64) (h := 32) rfl (fun e => n ⟨64 * (d.val / 64) + e.val, by omega⟩) C' S' ⟨d.val % 64, by omega⟩ := by
  unfold turns rope
  rw [hc, ha, hb, hC ⟨d.val % 64, by omega⟩, hS ⟨d.val % 64, by omega⟩]
  have e0 : n d = n ⟨64 * (d.val / 64) + d.val % 64, by omega⟩ := congrArg n (Fin.ext (show d.val = 64 * (d.val / 64) + d.val % 64 by omega))
  by_cases hd : d.val % 64 < 32
  · rw [if_pos hd, if_pos hd, dif_pos hd, mul_zero, add_zero, mul_neg, ← sub_eq_add_neg, e0]
    have e1 : d.val % 64 % 32 = d.val % 64 := by omega
    simp only [e1]
    congr 3
    exact Fin.ext (show (d.val + 128 - 96) % 128 = 64 * (d.val / 64) + (32 + d.val % 64) by omega)
  · rw [if_neg hd, if_neg hd, dif_neg hd, mul_zero, add_zero, e0]
    have e1 : d.val % 64 % 32 = d.val % 64 - 32 := by omega
    simp only [e1]
    congr 3
    exact Fin.ext (show (d.val + 128 - 32) % 128 = 64 * (d.val / 64) + (d.val % 64 - 32) by omega)

end Cert.Spec

namespace Cert.ProjAIdeal.Pure

open Cert.ProjAIdeal Cert.ProjAIdeal.Gen Cert.ProjAIdeal.Run Cert.Spec Idealize.ShloMosaic Idealize.ShloMosaic.TcCoe Idealize.SL.Sem

/-- The first 64 lanes are told from the others. -/
theorem low_lane : ∀ d : Fin 128, IntOp.cmpi CmpIPredicate.slt (BitVec.ofNat 32 d.val) 64#32 = if d.val < 64 then 1#1 else 0#1 := by decide +kernel

/-- A block of the projection: the normalised row times a row of the transposed weights. -/
theorem proj_apply (x : Vec Ideal S512x2048 .f32) (g : Vec Ideal S1x2048 .f32) (w : Vec Ideal S3200x2048 .bf16) (r : Fin 512) (c : Fin 3200) :
    k0_pay5 (F := Ideal) x g w (ix2 r c : S512x3200.Idx)
      = rmsDot (Ideal.ofBits .f32 0x45000000#32) (fun k : Fin 2048 => x (ix2 r k)) (fun k => g (ix2 0 k)) (fun k => w (ix2 c k)) := by
  pointwise [k0_pay5]
  rfl

/-- The cosines of a head of 128. -/
theorem cq_apply (x : Vec Ideal S512x128 .f32) (r : Fin 512) (d : Fin 128) :
    k0_pay11 (F := Ideal) x (ix2 r d : S512x128.Idx) = x (ix2 r ⟨d.val % 64, by omega⟩) := by
  pointwise [k0_pay11, k0_pay10, k0_pay6, k0_pay8]
  rw [low_lane]
  by_cases hd : d.val < 64
  · rw [if_pos hd]; exact congrArg x (congrArg (ix2 r) (Fin.ext (show d.val = d.val % 64 by omega)))
  · rw [if_neg hd]; exact congrArg x (congrArg (ix2 r) (Fin.ext (show (d.val + 128 - 64) % 128 = d.val % 64 by omega)))

/-- The signed sines of a head of 128. -/
theorem sq_apply (x : Vec Ideal S512x128 .f32) (r : Fin 512) (d : Fin 128) :
    k0_pay12 (F := Ideal) x (ix2 r d : S512x128.Idx)
      = if d.val < 64 then -x (ix2 r ⟨d.val % 64, by omega⟩) else x (ix2 r ⟨d.val % 64, by omega⟩) := by
  pointwise [k0_pay12, k0_pay10, k0_pay7, k0_pay9]
  rw [low_lane]
  by_cases hd : d.val < 64
  · rw [if_pos hd, if_pos hd]; refine Eq.trans (zero_sub _) (congrArg Neg.neg (congrArg x (congrArg (ix2 r) (Fin.ext (show d.val = d.val % 64 by omega)))))
  · rw [if_neg hd, if_neg hd]; exact congrArg x (congrArg (ix2 r) (Fin.ext (show (d.val + 128 - 64) % 128 = d.val % 64 by omega)))

/-- The cosines of the indexer's heads. -/
theorem ci_apply (x : Vec Ideal S512x128 .f32) (r : Fin 512) (d : Fin 128) :
    k0_pay13 (F := Ideal) x (ix2 r d : S512x128.Idx) = x (ix2 r ⟨64 + d.val % 64, by omega⟩) := by
  pointwise [k0_pay13, k0_pay10, k0_pay6, k0_pay8]
  rw [low_lane]
  by_cases hd : d.val < 64
  · rw [if_pos hd]; exact congrArg x (congrArg (ix2 r) (Fin.ext (show (d.val + 128 - 64) % 128 = 64 + d.val % 64 by omega)))
  · rw [if_neg hd]; exact congrArg x (congrArg (ix2 r) (Fin.ext (show d.val = 64 + d.val % 64 by omega)))

/-- The sines of the indexer's heads. -/
theorem si_apply (x : Vec Ideal S512x128 .f32) (r : Fin 512) (d : Fin 128) :
    k0_pay15 (F := Ideal) (k0_pay7 x) (k0_pay9 x) k0_pay14 (ix2 r d : S512x128.Idx) = x (ix2 r ⟨64 + d.val % 64, by omega⟩) := by
  pointwise [k0_pay15, k0_pay14, k0_pay10, k0_pay7, k0_pay9]
  rw [low_lane]
  by_cases hd : d.val < 64
  · rw [if_pos hd]; exact congrArg x (congrArg (ix2 r) (Fin.ext (show (d.val + 128 - 64) % 128 = 64 + d.val % 64 by omega)))
  · rw [if_neg hd]; exact congrArg x (congrArg (ix2 r) (Fin.ext (show d.val = 64 + d.val % 64 by omega)))

/-- The first half of a head of 64 is told from the second. -/
theorem half_lane (d : Fin 128) : k0_pay16 (iota .tc S1x128 32 [1] iota_S1x128_d1_w32) (ix2 0 d : S1x128.Idx) = if d.val % 64 < 32 then 1#1 else 0#1 := by
  pointwise [k0_pay16]
  revert d
  decide +kernel

theorem sa_apply (x : Vec Ideal S512x128 .f32) (r : Fin 512) (d : Fin 128) :
    sinA (F := Ideal) x (ix2 r d : S512x128.Idx) = if d.val % 64 < 32 then -x (ix2 r ⟨64 + d.val % 64, by omega⟩) else 0 := by
  unfold sinA k0_pay17
  have h := half_lane d
  have hs := si_apply x r d
  generalize k0_pay16 (iota .tc S1x128 32 [1] iota_S1x128_d1_w32) = b at h ⊢
  generalize k0_pay15 (F := Ideal) (k0_pay7 x) (k0_pay9 x) k0_pay14 = s at hs ⊢
  pointwise
  rw [h, hs]
  by_cases hd : d.val % 64 < 32
  · rw [if_pos hd, if_pos hd]; exact zero_sub _
  · rw [if_neg hd, if_neg hd]; rfl

theorem sb_apply (x : Vec Ideal S512x128 .f32) (r : Fin 512) (d : Fin 128) :
    sinB (F := Ideal) x (ix2 r d : S512x128.Idx) = if d.val % 64 < 32 then 0 else x (ix2 r ⟨64 + d.val % 64, by omega⟩) := by
  unfold sinB k0_pay18
  have h := half_lane d
  have hs := si_apply x r d
  generalize k0_pay16 (iota .tc S1x128 32 [1] iota_S1x128_d1_w32) = b at h ⊢
  generalize k0_pay15 (F := Ideal) (k0_pay7 x) (k0_pay9 x) k0_pay14 = s at hs ⊢
  pointwise
  rw [h, hs]
  by_cases hd : d.val % 64 < 32
  · rw [if_pos hd, if_pos hd]; rfl
  · rw [if_neg hd, if_neg hd]; rfl

variable (z : FVec Ideal S512x3200 .f32) (cq sq ci sa sb : FVec Ideal S512x128 .f32) (g : Vec Ideal S1x128 .f32) (r : Fin 512) (d : Fin 128)

/-- Head `h` of a query block. -/
theorem q_apply (h : Fin 8) : qParts z cq sq g h (ix2 r d : S512x128.Idx)
    = turn (rms (Ideal.ofBits .f32 0x43000000#32) (fun d : Fin 128 => z (ix2 r ⟨128 * h.val + d.val, by omega⟩)) (fun d => g (ix2 0 d)))
        (fun d => cq (ix2 r d)) (fun d => sq (ix2 r d)) d * Ideal.ofBits .f32 0x3E0293EE#32 := by
  fin_cases h
  all_goals dsimp only [qParts, Fin.zero_eta, Fin.mk_one, Matrix.cons_val, Fin.reduceFinMk]
  all_goals pointwise [k0_pay19, k0_pay20, k0_pay21, k0_pay22, k0_pay23, k0_pay24, k0_pay25, k0_pay26, k0_pay27, k0_pay28, k0_pay29, k0_pay30, k0_pay31, k0_pay32, k0_pay33,
      k0_pay34, k0_pay35]
  all_goals rfl

/-- Head `h` of a key block. -/
theorem k_apply (h : Fin 4) : kParts z cq sq g h (ix2 r d : S512x128.Idx)
    = turn (rms (Ideal.ofBits .f32 0x43000000#32) (fun d : Fin 128 => z (ix2 r ⟨1024 + 128 * h.val + d.val, by omega⟩)) (fun d => g (ix2 0 d)))
        (fun d => cq (ix2 r d)) (fun d => sq (ix2 r d)) d := by
  fin_cases h
  all_goals dsimp only [kParts, Fin.zero_eta, Fin.mk_one, Matrix.cons_val, Fin.reduceFinMk]
  all_goals pointwise [k0_pay36, k0_pay40, k0_pay41, k0_pay42, k0_pay43, k0_pay47, k0_pay51]
  all_goals rfl

/-- The rounded heads of a key block are its heads. -/
theorem kb_apply (h : Fin 4) : kbParts z cq sq g h (ix2 r d : S512x128.Idx) = kParts z cq sq g h (ix2 r d : S512x128.Idx) := by
  fin_cases h <;> rfl

/-- Head `h` of a value block. -/
theorem v_apply (h : Fin 4) : vParts z h (ix2 r d : S512x128.Idx) = z (ix2 r ⟨1536 + 128 * h.val + d.val, by omega⟩) := by
  fin_cases h
  all_goals dsimp only [vParts, Fin.zero_eta, Fin.mk_one, Matrix.cons_val, Fin.reduceFinMk]
  all_goals pointwise [k0_pay37, k0_pay44, k0_pay48, k0_pay52]
  all_goals rfl

/-- The rounded heads of a value block are its heads. -/
theorem vb_apply (h : Fin 4) : vbParts z h (ix2 r d : S512x128.Idx) = vParts z h (ix2 r d : S512x128.Idx) := by
  fin_cases h <;> rfl

/-- Heads `2 h` and `2 h + 1` of an indexer block. -/
theorem qi_apply (h : Fin 8) : qiParts z ci sa sb h (ix2 r d : S512x128.Idx)
    = turns (fun d : Fin 128 => z (ix2 r ⟨2048 + 128 * h.val + d.val, by omega⟩))
        (fun d => ci (ix2 r d)) (fun d => sa (ix2 r d)) (fun d => sb (ix2 r d)) d := by
  fin_cases h
  all_goals dsimp only [qiParts, Fin.zero_eta, Fin.mk_one, Matrix.cons_val, Fin.reduceFinMk]
  all_goals pointwise [k0_pay55, k0_pay56, k0_pay57, k0_pay58, k0_pay59, k0_pay60, k0_pay61, k0_pay62]
  all_goals rfl

/-- The indexer's keys. -/
theorem ki_apply (e : Fin 64) : k0_pay2 (F := Ideal) z ci sa sb (ix2 r e : S512x64.Idx)
    = turns (fun d : Fin 128 => z (ix2 r ⟨3072 + d.val, by omega⟩)) (fun d => ci (ix2 r d)) (fun d => sa (ix2 r d)) (fun d => sb (ix2 r d)) ⟨e.val, by omega⟩ := by
  pointwise [k0_pay2, k0_pay1]
  rfl

/-- The indexer's weights of its heads. -/
theorem wi_apply (e : Fin 16) : k0_pay4 (F := Ideal) z (ix2 r e : S512x16.Idx)
    = z (ix2 r ⟨3136 + e.val, by omega⟩) * Ideal.ofBits .f32 0x3D000000#32 := by
  pointwise [k0_pay4, k0_pay1]
  exact congrArg (· * _) (congrArg z (congrArg (ix2 r) (Fin.ext (show 3072 + (64 + e.val) = 3136 + e.val by omega))))

end Cert.ProjAIdeal.Pure

namespace Cert.ProjARefIdeal.Pure

open Cert.ProjARefIdeal Cert.ProjARefIdeal.Gen Cert.ProjARefIdeal.Read Cert.Spec Idealize.ShloMosaic Idealize.ShloMosaic.TcCoe Idealize.SL.Sem

variable (x : FVec Ideal S2x4096x2048 .f32) (g : FVec Ideal S2048 .f32) (w : FVec Ideal S2048x15440 .f32) (gq gk : FVec Ideal S128 .f32)

/-- Row `p` of the reference's projection of the two prompts laid one after the other, at column `c`. -/
def row (p : Fin 8192) (c : Fin 15440) : EReal :=
  rmsDot (Ideal.ofBits .f32 0x45000000#32) (fun k : Fin 2048 => x (ix3 ⟨p.val / 4096, by omega⟩ ⟨p.val % 4096, by omega⟩ k)) (fun k => g (ix1 k))
    (fun k => w (ix2 k c))

/-- The cosines and the sines of position `p` modulo 4096 for heads of 128 and of 64. -/
def cosQ (p : Fin 8192) (i : Fin 64) : EReal := Ideal.cos (angle (Ideal.ofBits .f32 0x42800000#32) (p.val % 4096) i.val)
def sinQ (p : Fin 8192) (i : Fin 64) : EReal := Ideal.sin (angle (Ideal.ofBits .f32 0x42800000#32) (p.val % 4096) i.val)
def cosI (p : Fin 8192) (i : Fin 32) : EReal := Ideal.cos (angle (Ideal.ofBits .f32 0x42000000#32) (p.val % 4096) i.val)
def sinI (p : Fin 8192) (i : Fin 32) : EReal := Ideal.sin (angle (Ideal.ofBits .f32 0x42000000#32) (p.val % 4096) i.val)

/-- The reference's projection. -/
theorem proj_apply (p : Fin 8192) (c : Fin 15440) :
    val_main_v13 (F := Ideal) x g w (ix3 ⟨p.val / 4096, by omega⟩ ⟨p.val % 4096, by omega⟩ c : S2x4096x15440.Idx) = row x g w p c := by
  unfold val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise
  rfl

theorem cosQ_apply (p : Fin 8192) (i : Fin 64) : val_main_v48 (F := Ideal) (ix2 ⟨p.val % 4096, by omega⟩ i : S4096x64.Idx) = cosQ p i := by
  unfold val_main_v48 val_main_v47 val_main_v46 val_main_v45 val_main_v44 val_main_v43 val_main_v42 val_main_v41 val_main_v40 val_main_v39 val_main_v38 val_main_v37 val_main_v36 val_main_cst_5 val_main_cst_6 val_main_v21
  pointwise
  rfl

theorem sinQ_apply (p : Fin 8192) (i : Fin 64) : val_main_v50 (F := Ideal) (ix2 ⟨p.val % 4096, by omega⟩ i : S4096x64.Idx) = sinQ p i := by
  unfold val_main_v50 val_main_v47 val_main_v46 val_main_v45 val_main_v44 val_main_v43 val_main_v42 val_main_v41 val_main_v40 val_main_v39 val_main_v38 val_main_v37 val_main_v36 val_main_cst_5 val_main_cst_6 val_main_v21
  pointwise
  rfl

/-- Each head's tables are the same. -/
theorem cosK_eq : val_main_v93 (F := Ideal) = val_main_v48 := rfl
theorem sinK_eq : val_main_v95 (F := Ideal) = val_main_v50 := rfl
theorem cosI_eq : val_main_v153 (F := Ideal) = val_main_v123 := rfl
theorem sinI_eq : val_main_v155 (F := Ideal) = val_main_v125 := rfl

theorem cosI_apply (p : Fin 8192) (i : Fin 32) : val_main_v123 (F := Ideal) (ix2 ⟨p.val % 4096, by omega⟩ i : S4096x32.Idx) = cosI p i := by
  unfold val_main_v123 val_main_v122 val_main_v121 val_main_v120 val_main_v119 val_main_v118 val_main_v117 val_main_v116 val_main_v115 val_main_v114 val_main_v113 val_main_v112 val_main_v111 val_main_cst_13 val_main_cst_14 val_main_v21
  pointwise
  rfl

theorem sinI_apply (p : Fin 8192) (i : Fin 32) : val_main_v125 (F := Ideal) (ix2 ⟨p.val % 4096, by omega⟩ i : S4096x32.Idx) = sinI p i := by
  unfold val_main_v125 val_main_v122 val_main_v121 val_main_v120 val_main_v119 val_main_v118 val_main_v117 val_main_v116 val_main_v115 val_main_v114 val_main_v113 val_main_v112 val_main_v111 val_main_cst_13 val_main_cst_14 val_main_v21
  pointwise
  rfl

/-- A head turned half by half, as the reference writes it, is `rope`. -/
theorem halves {w h : ℕ} (hw : w = 2 * h) (n : Fin w → EReal) (c s : Fin h → EReal) (d : Fin w) :
    (if hd : d.val < h then n ⟨d.val, d.isLt⟩ * c ⟨d.val, hd⟩ - n ⟨h + d.val, by omega⟩ * s ⟨d.val, hd⟩
      else n ⟨h + (d.val - h), by omega⟩ * c ⟨d.val - h, by omega⟩ + n ⟨d.val - h, by omega⟩ * s ⟨d.val - h, by omega⟩) = rope hw n c s d := by
  unfold rope
  by_cases hd : d.val < h
  · rw [dif_pos hd, dif_pos hd]
  · rw [dif_neg hd, dif_neg hd]
    have e : (⟨h + (d.val - h), by omega⟩ : Fin w) = d := Fin.ext (show h + (d.val - h) = d.val by omega)
    rw [e]

/-- Head `h` of the queries, normalised. -/
theorem qnorm_apply (b : Fin 2) (r : Fin 4096) (h : Fin 8) (d : Fin 128) :
    val_main_v35 (F := Ideal) x g w gq (ix4 b r h d : S2x4096x8x128.Idx)
      = rms (Ideal.ofBits .f32 0x43000000#32) (fun d : Fin 128 => val_main_v13 (F := Ideal) x g w (ix3 b r ⟨h.val * 128 + d.val, by omega⟩ : S2x4096x15440.Idx))
        (fun d => gq (ix1 d)) d := by
  unfold val_main_v35 val_main_v34 val_main_v33 val_main_v32 val_main_v31 val_main_v30 val_main_v29 val_main_v28 val_main_v27 val_main_v26 val_main_v25 val_main_v24 val_main_v23 val_main_v22 val_main_cst_2 val_main_cst_3 val_main_cst_4 val_main_v15 val_main_v14
  generalize val_main_v13 (F := Ideal) x g w = z
  pointwise
  rfl

/-- Head `h` of the keys, normalised. -/
theorem knorm_apply (b : Fin 2) (r : Fin 4096) (h : Fin 4) (d : Fin 128) :
    val_main_v80 (F := Ideal) x g w gk (ix4 b r h d : S2x4096x4x128.Idx)
      = rms (Ideal.ofBits .f32 0x43000000#32) (fun d : Fin 128 => val_main_v13 (F := Ideal) x g w (ix3 b r ⟨1024 + (h.val * 128 + d.val), by omega⟩ : S2x4096x15440.Idx))
        (fun d => gk (ix1 d)) d := by
  unfold val_main_v80 val_main_v79 val_main_v78 val_main_v77 val_main_v76 val_main_v75 val_main_v74 val_main_v73 val_main_v72 val_main_v71 val_main_v70 val_main_v69 val_main_v68 val_main_v67 val_main_cst_8 val_main_cst_9 val_main_cst_10 val_main_v16 val_main_v14
  generalize val_main_v13 (F := Ideal) x g w = z
  pointwise
  rfl

/-- Head `h` of the queries, turned and scaled. -/
theorem qrope_apply (b : Fin 2) (r : Fin 4096) (h : Fin 8) (d : Fin 128) :
    val_main_v66 (F := Ideal) x g w gq (ix4 b r h d : S2x4096x8x128.Idx)
      = rope (h := 64) rfl (fun d : Fin 128 => val_main_v35 (F := Ideal) x g w gq (ix4 b r h d : S2x4096x8x128.Idx))
        (fun i => val_main_v48 (F := Ideal) (ix2 r i : S4096x64.Idx)) (fun i => val_main_v50 (F := Ideal) (ix2 r i : S4096x64.Idx)) d * Ideal.ofBits .f32 0x3E0293EE#32 := by
  unfold val_main_v66 val_main_v65 val_main_v64 val_main_v63 val_main_v62 val_main_v61 val_main_v60 val_main_v59 val_main_v58 val_main_v57 val_main_v56 val_main_v55 val_main_v54 val_main_v53 val_main_v52 val_main_v51 val_main_v49 val_main_cst_7
  generalize val_main_v35 (F := Ideal) x g w gq = z
  generalize val_main_v48 (F := Ideal) = cc
  generalize val_main_v50 (F := Ideal) = ss
  rw [← halves]
  pointwise

/-- Head `h` of the keys, turned. -/
theorem krope_apply (b : Fin 2) (r : Fin 4096) (h : Fin 4) (d : Fin 128) :
    val_main_v109 (F := Ideal) x g w gk (ix4 b r h d : S2x4096x4x128.Idx)
      = rope (h := 64) rfl (fun d : Fin 128 => val_main_v80 (F := Ideal) x g w gk (ix4 b r h d : S2x4096x4x128.Idx))
        (fun i => val_main_v93 (F := Ideal) (ix2 r i : S4096x64.Idx)) (fun i => val_main_v95 (F := Ideal) (ix2 r i : S4096x64.Idx)) d := by
  unfold val_main_v109 val_main_v108 val_main_v107 val_main_v106 val_main_v105 val_main_v104 val_main_v103 val_main_v102 val_main_v101 val_main_v100 val_main_v99 val_main_v98 val_main_v97 val_main_v96 val_main_v94
  generalize val_main_v80 (F := Ideal) x g w gk = z
  generalize val_main_v93 (F := Ideal) = cc
  generalize val_main_v95 (F := Ideal) = ss
  rw [← halves]
  pointwise

/-- Head `h` of the indexer, turned. -/
theorem irope_apply (b : Fin 2) (r : Fin 4096) (h : Fin 16) (d : Fin 64) :
    val_main_v139 (F := Ideal) x g w (ix4 b r h d : S2x4096x16x64.Idx)
      = rope (h := 32) rfl (fun d : Fin 64 => val_main_v13 (F := Ideal) x g w (ix3 b r ⟨2048 + (h.val * 64 + d.val), by omega⟩ : S2x4096x15440.Idx))
        (fun i => val_main_v123 (F := Ideal) (ix2 r i : S4096x32.Idx)) (fun i => val_main_v125 (F := Ideal) (ix2 r i : S4096x32.Idx)) d := by
  unfold val_main_v139 val_main_v138 val_main_v137 val_main_v136 val_main_v135 val_main_v134 val_main_v133 val_main_v132 val_main_v131 val_main_v130 val_main_v129 val_main_v128 val_main_v127 val_main_v126 val_main_v124 val_main_v110 val_main_v18 val_main_v14
  generalize val_main_v13 (F := Ideal) x g w = z
  generalize val_main_v123 (F := Ideal) = cc
  generalize val_main_v125 (F := Ideal) = ss
  rw [← halves]
  pointwise

/-! ## The nine results, at row `p` of the prompts laid one after the other -/

/-- The queries: column `j` is lane `j % 128` of head `j / 128`. -/
theorem q_apply (p : Fin 8192) (j : Fin 1024) : val_main_v179 (F := Ideal) x g w gq (ix2 p j : S8192x1024.Idx)
    = rope (h := 64) rfl (rms (Ideal.ofBits .f32 0x43000000#32) (fun d : Fin 128 => row x g w p ⟨j.val / 128 * 128 + d.val, by omega⟩) (fun d => gq (ix1 d)))
        (cosQ p) (sinQ p) ⟨j.val % 128, by omega⟩ * Ideal.ofBits .f32 0x3E0293EE#32 := by
  have e : val_main_v179 (F := Ideal) x g w gq (ix2 p j : S8192x1024.Idx)
      = val_main_v66 (F := Ideal) x g w gq (ix4 ⟨p.val / 4096, by omega⟩ ⟨p.val % 4096, by omega⟩ ⟨j.val / 128, by omega⟩ ⟨j.val % 128, by omega⟩ : S2x4096x8x128.Idx) := by
    unfold val_main_v179 val_main_v178
    generalize val_main_v66 (F := Ideal) x g w gq = z
    pointwise
  rw [e, qrope_apply]
  simp only [qnorm_apply, proj_apply, cosQ_apply, sinQ_apply]

/-- The keys: row `p` is head `p % 4` of token `p / 4`. -/
theorem k_apply (p : Fin 32768) (d : Fin 128) : val_main_v175 (F := Ideal) x g w gk (ix2 p d : S32768x128.Idx)
    = rope (h := 64) rfl (rms (Ideal.ofBits .f32 0x43000000#32) (fun d : Fin 128 => row x g w ⟨p.val / 4, by omega⟩ ⟨1024 + (p.val % 4 * 128 + d.val), by omega⟩)
        (fun d => gk (ix1 d))) (cosQ ⟨p.val / 4, by omega⟩) (sinQ ⟨p.val / 4, by omega⟩) d := by
  have e : val_main_v175 (F := Ideal) x g w gk (ix2 p d : S32768x128.Idx)
      = val_main_v109 (F := Ideal) x g w gk (ix4 ⟨p.val / 4 / 4096, by omega⟩ ⟨p.val / 4 % 4096, by omega⟩ ⟨p.val % 4, by omega⟩ d : S2x4096x4x128.Idx) := by
    have e1 : p.val / 16384 = p.val / 4 / 4096 := by omega
    unfold val_main_v175
    generalize val_main_v109 (F := Ideal) x g w gk = z
    pointwise
    simp only [e1]
  rw [e, krope_apply]
  have hp := proj_apply x g w ⟨p.val / 4, by omega⟩
  have hc := cosQ_apply ⟨p.val / 4, by omega⟩
  have hs := sinQ_apply ⟨p.val / 4, by omega⟩
  dsimp only at hp hc hs
  simp only [knorm_apply, cosK_eq, sinK_eq, hp, hc, hs]

/-- The values. -/
theorem v_apply (p : Fin 32768) (d : Fin 128) : val_main_v176 (F := Ideal) x g w (ix2 p d : S32768x128.Idx)
    = row x g w ⟨p.val / 4, by omega⟩ ⟨1536 + (p.val % 4 * 128 + d.val), by omega⟩ := by
  have hp := proj_apply x g w ⟨p.val / 4, by omega⟩
  have e1 : p.val / 16384 = p.val / 4 / 4096 := by omega
  dsimp only at hp
  rw [← hp]
  unfold val_main_v176 val_main_v17 val_main_v14
  generalize val_main_v13 (F := Ideal) x g w = z
  pointwise
  simp only [e1]

/-- The rounded keys and values are the keys and values, four rows side by side. -/
theorem kb_apply (p : Fin 8192) (j : Fin 512) : val_main_v181 (F := Ideal) x g w gk (ix2 p j : S8192x512.Idx)
    = val_main_v175 (F := Ideal) x g w gk (ix2 ⟨p.val * 4 + j.val / 128, by omega⟩ ⟨j.val % 128, by omega⟩ : S32768x128.Idx) := by
  unfold val_main_v181 val_main_v180
  generalize val_main_v175 (F := Ideal) x g w gk = z
  pointwise

theorem vb_apply (p : Fin 8192) (j : Fin 512) : val_main_v183 (F := Ideal) x g w (ix2 p j : S8192x512.Idx)
    = val_main_v176 (F := Ideal) x g w (ix2 ⟨p.val * 4 + j.val / 128, by omega⟩ ⟨j.val % 128, by omega⟩ : S32768x128.Idx) := by
  unfold val_main_v183 val_main_v182
  generalize val_main_v176 (F := Ideal) x g w = z
  pointwise

/-- The indexer's queries: column `j` is lane `j % 64` of head `j / 64`. -/
theorem qi_apply (p : Fin 8192) (j : Fin 1024) : val_main_v185 (F := Ideal) x g w (ix2 p j : S8192x1024.Idx)
    = rope (h := 32) rfl (fun d : Fin 64 => row x g w p ⟨2048 + (j.val / 64 * 64 + d.val), by omega⟩) (cosI p) (sinI p) ⟨j.val % 64, by omega⟩ := by
  have e : val_main_v185 (F := Ideal) x g w (ix2 p j : S8192x1024.Idx)
      = val_main_v139 (F := Ideal) x g w (ix4 ⟨p.val / 4096, by omega⟩ ⟨p.val % 4096, by omega⟩ ⟨j.val / 64, by omega⟩ ⟨j.val % 64, by omega⟩ : S2x4096x16x64.Idx) := by
    unfold val_main_v185 val_main_v184
    generalize val_main_v139 (F := Ideal) x g w = z
    pointwise
  rw [e, irope_apply]
  simp only [proj_apply, cosI_apply, sinI_apply]

/-- The indexer's keys. -/
theorem ki_apply (p : Fin 8192) (d : Fin 64) : val_main_v177 (F := Ideal) x g w (ix2 p d : S8192x64.Idx)
    = rope (h := 32) rfl (fun d : Fin 64 => row x g w p ⟨3072 + d.val, by omega⟩) (cosI p) (sinI p) d := by
  have e : val_main_v177 (F := Ideal) x g w (ix2 p d : S8192x64.Idx)
      = rope (h := 32) rfl (fun d : Fin 64 => val_main_v13 (F := Ideal) x g w (ix3 ⟨p.val / 4096, by omega⟩ ⟨p.val % 4096, by omega⟩ ⟨3072 + d.val, by omega⟩ : S2x4096x15440.Idx))
        (fun i => val_main_v153 (F := Ideal) (ix2 ⟨p.val % 4096, by omega⟩ i : S4096x32.Idx)) (fun i => val_main_v155 (F := Ideal) (ix2 ⟨p.val % 4096, by omega⟩ i : S4096x32.Idx)) d := by
    unfold val_main_v177 val_main_v170 val_main_v169 val_main_v168 val_main_v167 val_main_v166 val_main_v165 val_main_v164 val_main_v163 val_main_v162 val_main_v161 val_main_v160 val_main_v159 val_main_v158 val_main_v157 val_main_v156 val_main_v154 val_main_v140 val_main_v19 val_main_v14
    generalize val_main_v13 (F := Ideal) x g w = z
    generalize val_main_v153 (F := Ideal) = cc
    generalize val_main_v155 (F := Ideal) = ss
    rw [← halves]
    pointwise
  rw [e]
  simp only [proj_apply, cosI_eq, sinI_eq, cosI_apply, sinI_apply]

/-- The rounded keys of the indexer are its keys. -/
theorem kib_apply (i : S8192x64.Idx) : val_main_v186 (F := Ideal) x g w i = val_main_v177 (F := Ideal) x g w i := rfl

/-- One thirty-second is a quarter of an eighth. -/
theorem quarter_eighth : Ideal.ofBits .f32 0x3E800000#32 * Ideal.ofBits .f32 0x3E000000#32 = Ideal.ofBits .f32 0x3D000000#32 := by
  have h4 : Ideal.ofBits .f32 0x3E800000#32 = (((1 : ℝ) / 4 : ℝ) : EReal) := by
    simp [Ideal.ofBits, Ideal.ieee, -EReal.coe_mul]; norm_num
  have h8 : Ideal.ofBits .f32 0x3E000000#32 = (((1 : ℝ) / 8 : ℝ) : EReal) := by
    simp [Ideal.ofBits, Ideal.ieee, -EReal.coe_mul]; norm_num
  have h32 : Ideal.ofBits .f32 0x3D000000#32 = (((1 : ℝ) / 32 : ℝ) : EReal) := by
    simp [Ideal.ofBits, Ideal.ieee, -EReal.coe_mul]; norm_num
  rw [h4, h8, h32, ← EReal.coe_mul]
  norm_num

/-- The indexer's weights of its heads. -/
theorem wi_apply (p : Fin 8192) (e : Fin 16) : val_main_v187 (F := Ideal) x g w (ix2 p e : S8192x16.Idx)
    = row x g w p ⟨3136 + e.val, by omega⟩ * Ideal.ofBits .f32 0x3D000000#32 := by
  rw [← proj_apply, ← quarter_eighth, ← mul_assoc]
  unfold val_main_v187 val_main_v174 val_main_v173 val_main_v172 val_main_v171 val_main_v20 val_main_v14 val_main_cst_17 val_main_cst_18
  generalize val_main_v13 (F := Ideal) x g w = z
  pointwise

end Cert.ProjARefIdeal.Pure

end
-- ==== Proof.ProjValue.lean ====
/- The nine arrays of the first projection the kernel leaves: each is the reference's, index by index. -/
module

public import proofs.«01_k».proof.Proof.ProjPure
public import Idealize.ShloMosaic.Lib.Pipeline.ValueKit

@[expose] public section

set_option maxRecDepth 16384

noncomputable section

namespace Cert.ProjAIdeal.Arrays

open Cert.ProjAIdeal Cert.ProjAIdeal.Gen Cert.ProjAIdeal.Pure Cert.ProjAIdeal.Run Cert.Spec
open Cert.ProjARefIdeal.Pure (row cosQ sinQ cosI sinI)
open Idealize.ShloMosaic Idealize.ShloMosaic.TcCoe Idealize.SL.Sem
open Idealize.ShloMosaic.Pipeline (Dat)

variable (m : (ℓ : Loc nD τ sig) → Buf (Elt Ideal) ℓ)

/-- Step `t` works on row block `t` of the prompts, at the positions of block `t % 8`. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![t.val % 8, 0] ∧ win0_6.index t = ![t.val % 8, 0] ∧ t.val < 16 :=
  (by decide +kernel : ∀ t : Fin grid0.N, _)

theorem idx_out : ∀ t : Fin cfg0.N, win0_7.index t = ![t.val, 0] ∧ win0_8.index t = ![t.val, 0] ∧ win0_9.index t = ![t.val, 0] ∧ win0_10.index t = ![t.val, 0]
    ∧ win0_11.index t = ![t.val, 0] ∧ win0_12.index t = ![t.val, 0] ∧ win0_13.index t = ![t.val, 0] ∧ win0_14.index t = ![t.val, 0] ∧ win0_15.index t = ![t.val, 0] :=
  (by decide +kernel : ∀ t : Fin grid0.N, _)

/-! ## The kernel's operands, as the host operations leave them -/

theorem entry_v3 (c : Dev nD) : V m c main_v3 = shapeCast S8192x2048 (m ((c : Thread nD τ).loc main_arg0)) shapeCasts_S2x4096x2048_S8192x2048 := rfl
theorem entry_v26 (c : Dev nD) : V m c main_v26 = shapeCast S1x2048 (m ((c : Thread nD τ).loc main_arg1)) shapeCasts_S2048_S1x2048 := rfl
theorem entry_v27 (c : Dev nD) : V m c main_v27 = shapeCast S1x128 (m ((c : Thread nD τ).loc main_arg3)) shapeCasts_S128_S1x128 := rfl
theorem entry_v28 (c : Dev nD) : V m c main_v28 = shapeCast S1x128 (m ((c : Thread nD τ).loc main_arg4)) shapeCasts_S128_S1x128 := rfl

/-- The two prompts laid one after the other, read at a row. -/
theorem stacked (x : FVec Ideal S2x4096x2048 .f32) (h : S2x4096x2048.ShapeCasts S8192x2048) (p : Fin 8192) (k : Fin 2048) :
    shapeCast S8192x2048 x h (ix2 p k : S8192x2048.Idx) = x (ix3 ⟨p.val / 4096, by omega⟩ ⟨p.val % 4096, by omega⟩ k : S2x4096x2048.Idx) := by
  pointwise

/-- Row `r` of step `t`, among the rows of the two prompts. -/
abbrev at_ (t : Fin cfg0.N) (r : Fin 512) : Fin 8192 := ⟨t.val * 512 + r.val, by have := (idx t).2.2.2.2.2.2.2; omega⟩

theorem prompt_block (c : Dev nD) (t : Fin cfg0.N) (r : Fin 512) (k : Fin 2048) :
    iblk m c 0 t (ix2 r k : S512x2048.Idx)
      = m ((c : Thread nD τ).loc main_arg0) (ix3 ⟨(at_ t r).val / 4096, by omega⟩ ⟨(at_ t r).val % 4096, by omega⟩ k : S2x4096x2048.Idx) := by
  blk_simp [iblk]
  rw [entry_v3]
  have e : (win0_0.blk t).view.emb (ix2 r k : S512x2048.Idx) = (ix2 (at_ t r) k : S8192x2048.Idx) := by blk_ext [idx t]
  rw [e]
  exact stacked _ _ (at_ t r) k

theorem norm_block (c : Dev nD) (t : Fin cfg0.N) (k : Fin 2048) :
    iblk m c 1 t (ix2 0 k : S1x2048.Idx) = m ((c : Thread nD τ).loc main_arg1) (ix1 k : S2048.Idx) := by
  blk_simp [iblk]
  rw [entry_v26]
  pointwise
  blk_ext [idx t]

theorem qgain_block (c : Dev nD) (t : Fin cfg0.N) (k : Fin 128) :
    iblk m c 3 t (ix2 0 k : S1x128.Idx) = m ((c : Thread nD τ).loc main_arg3) (ix1 k : S128.Idx) := by
  blk_simp [iblk]
  rw [entry_v27]
  pointwise
  blk_ext [idx t]

theorem kgain_block (c : Dev nD) (t : Fin cfg0.N) (k : Fin 128) :
    iblk m c 4 t (ix2 0 k : S1x128.Idx) = m ((c : Thread nD τ).loc main_arg4) (ix1 k : S128.Idx) := by
  blk_simp [iblk]
  rw [entry_v28]
  pointwise
  blk_ext [idx t]

theorem weights_block (c : Dev nD) (t : Fin cfg0.N) (q : Fin 3200) (k : Fin 2048) :
    iblk m c 2 t (ix2 q k : S3200x2048.Idx) = m ((c : Thread nD τ).loc main_arg2) (ix2 k ⟨q.val, by omega⟩ : S2048x15440.Idx) := by
  blk_simp [iblk]
  entry_read
  pointwise
  blk_ext [idx t]

/-- The angles of the tables at position `r` and lane `l`. -/
def tableAngle (r l : ℕ) : EReal :=
  if l < 64 then angle (Ideal.ofBits .f32 0x42800000#32) r l
  else angle (Ideal.ofBits .f32 0x42000000#32) r ((l - 64) % 32)

/-- The inverse frequencies of heads of `2 n` numbers. -/
abbrev freq64 : FVec Ideal S64 .f32 :=
  Host.powf (broadcastInDim S64 ![] bcast_S_S64 (constant S_ .f32 0x461C4000#32 : FVec Ideal S_ .f32))
    (Host.divf (Host.negf (sitofp .f32 (iotaInDim S64 32 0))) (broadcastInDim S64 ![] bcast_S_S64 (constant S_ .f32 0x42800000#32 : FVec Ideal S_ .f32)))
abbrev freq32 : FVec Ideal S32 .f32 :=
  Host.powf (broadcastInDim S32 ![] bcast_S_S32 (constant S_ .f32 0x461C4000#32 : FVec Ideal S_ .f32))
    (Host.divf (Host.negf (sitofp .f32 (iotaInDim S32 32 0))) (broadcastInDim S32 ![] bcast_S_S32 (constant S_ .f32 0x42000000#32 : FVec Ideal S_ .f32)))

/-- The angles, as the host operations compute them. -/
def angles : FVec Ideal S4096x128 .f32 :=
  mulf (broadcastInDim S4096x128 ![0, 1] bcast_S4096x1_S4096x128_0_1 (broadcastInDim S4096x1 ![0] bcast_S4096_S4096x1_0 (sitofp .f32 (iotaInDim S4096 32 0) : FVec Ideal S4096 .f32)))
    (broadcastInDim S4096x128 ![0, 1] bcast_S1x128_S4096x128_0_1 (broadcastInDim S1x128 ![1] bcast_S128_S1x128_1
      (concatenate S128 0 [⟨S64, freq64⟩, ⟨S32, freq32⟩, ⟨S32, freq32⟩] concatenates_S64_S32_S32_S128_d0)))

theorem entry_v24 (c : Dev nD) : V m c main_v24 = Host.cos angles := rfl
theorem entry_v25 (c : Dev nD) : V m c main_v25 = Host.sin angles := rfl

theorem angles_apply (r : Fin 4096) (l : Fin 128) : angles (ix2 r l : S4096x128.Idx) = tableAngle r.val l.val := by
  unfold angles freq64 freq32
  pointwise
  unfold tableAngle angle
  by_cases h : l.val < 64
  · rw [dif_pos h, if_pos h]
  · rw [dif_neg h, if_neg h]
    by_cases h' : l.val - 64 < 32
    · rw [dif_pos h', Nat.mod_eq_of_lt h']
    · rw [dif_neg h', show (l.val - 64) % 32 = l.val - 64 - 32 by omega]

theorem cos_table (c : Dev nD) (r : Fin 4096) (l : Fin 128) : V m c main_v24 (ix2 r l : S4096x128.Idx) = Ideal.cos (tableAngle r.val l.val) := by
  rw [entry_v24, ← angles_apply]
  rfl

theorem sin_table (c : Dev nD) (r : Fin 4096) (l : Fin 128) : V m c main_v25 (ix2 r l : S4096x128.Idx) = Ideal.sin (tableAngle r.val l.val) := by
  rw [entry_v25, ← angles_apply]
  rfl

theorem cos_block (c : Dev nD) (t : Fin cfg0.N) (r : Fin 512) (l : Fin 128) :
    iblk m c 5 t (ix2 r l : S512x128.Idx) = Ideal.cos (tableAngle ((at_ t r).val % 4096) l.val) := by
  have ht := (idx t).2.2.2.2.2.2.2
  blk_simp [iblk]
  have e : (win0_5.blk t).view.emb (ix2 r l : S512x128.Idx) = (ix2 ⟨(at_ t r).val % 4096, by omega⟩ l : S4096x128.Idx) := by
    blk_ext [idx t]
    all_goals first | rfl | omega
  rw [e]
  exact cos_table m c _ l

theorem sin_block (c : Dev nD) (t : Fin cfg0.N) (r : Fin 512) (l : Fin 128) :
    iblk m c 6 t (ix2 r l : S512x128.Idx) = Ideal.sin (tableAngle ((at_ t r).val % 4096) l.val) := by
  have ht := (idx t).2.2.2.2.2.2.2
  blk_simp [iblk]
  have e : (win0_6.blk t).view.emb (ix2 r l : S512x128.Idx) = (ix2 ⟨(at_ t r).val % 4096, by omega⟩ l : S4096x128.Idx) := by
    blk_ext [idx t]
    all_goals first | rfl | omega
  rw [e]
  exact sin_table m c _ l

/-! ## The blocks a step works on -/

/-- The projection of the step's rows, the tables at its positions, and the gains. -/
def zb (c : Dev nD) (t : Fin cfg0.N) : FVec Ideal S512x3200 .f32 := k0_pay5 (iblk m c 0 t) (iblk m c 1 t) (iblk m c 2 t)
def cb (c : Dev nD) (t : Fin cfg0.N) : Vec Ideal S512x128 .f32 := iblk m c 5 t
def sb (c : Dev nD) (t : Fin cfg0.N) : Vec Ideal S512x128 .f32 := iblk m c 6 t
def qg (c : Dev nD) (t : Fin cfg0.N) : Vec Ideal S1x128 .f32 := iblk m c 3 t
def kg (c : Dev nD) (t : Fin cfg0.N) : Vec Ideal S1x128 .f32 := iblk m c 4 t

/-- Row `p` of the reference's projection, as a function of the kernel's arguments. -/
abbrev argRow (c : Dev nD) (p : Fin 8192) (j : Fin 15440) : EReal :=
  row (m ((c : Thread nD τ).loc main_arg0)) (m ((c : Thread nD τ).loc main_arg1)) (m ((c : Thread nD τ).loc main_arg2)) p j

theorem zb_apply (c : Dev nD) (t : Fin cfg0.N) (r : Fin 512) (j : Fin 3200) :
    zb m c t (ix2 r j : S512x3200.Idx) = argRow m c (at_ t r) ⟨j.val, by omega⟩ := by
  unfold zb argRow row
  rw [Pure.proj_apply]
  exact congr (congr (congrArg (rmsDot _) (funext fun k => prompt_block m c t r k)) (funext fun k => norm_block m c t k)) (funext fun k => weights_block m c t j k)

theorem qg_apply (c : Dev nD) (t : Fin cfg0.N) (k : Fin 128) : qg m c t (ix2 0 k : S1x128.Idx) = m ((c : Thread nD τ).loc main_arg3) (ix1 k : S128.Idx) := qgain_block m c t k
theorem kg_apply (c : Dev nD) (t : Fin cfg0.N) (k : Fin 128) : kg m c t (ix2 0 k : S1x128.Idx) = m ((c : Thread nD τ).loc main_arg4) (ix1 k : S128.Idx) := kgain_block m c t k

theorem cb_low (c : Dev nD) (t : Fin cfg0.N) (r : Fin 512) (i : Fin 64) : cb m c t (ix2 r ⟨i.val, by omega⟩ : S512x128.Idx) = cosQ (at_ t r) i := by
  refine (cos_block m c t r _).trans ?_
  unfold tableAngle cosQ
  rw [if_pos i.isLt]

theorem sb_low (c : Dev nD) (t : Fin cfg0.N) (r : Fin 512) (i : Fin 64) : sb m c t (ix2 r ⟨i.val, by omega⟩ : S512x128.Idx) = sinQ (at_ t r) i := by
  refine (sin_block m c t r _).trans ?_
  unfold tableAngle sinQ
  rw [if_pos i.isLt]

theorem cb_high (c : Dev nD) (t : Fin cfg0.N) (r : Fin 512) (i : Fin 64) :
    cb m c t (ix2 r ⟨64 + i.val, by omega⟩ : S512x128.Idx) = cosI (at_ t r) ⟨i.val % 32, by omega⟩ := by
  refine (cos_block m c t r _).trans ?_
  unfold tableAngle cosI
  rw [if_neg (show ¬ 64 + i.val < 64 by omega), show 64 + i.val - 64 = i.val by omega]

theorem sb_high (c : Dev nD) (t : Fin cfg0.N) (r : Fin 512) (i : Fin 64) :
    sb m c t (ix2 r ⟨64 + i.val, by omega⟩ : S512x128.Idx) = sinI (at_ t r) ⟨i.val % 32, by omega⟩ := by
  refine (sin_block m c t r _).trans ?_
  unfold tableAngle sinI
  rw [if_neg (show ¬ 64 + i.val < 64 by omega), show 64 + i.val - 64 = i.val by omega]

/-! ## The heads a step computes -/

/-- A head of 128 turned over its lanes is turned as the reference turns it. -/
theorem head_turn (c : Dev nD) (t : Fin cfg0.N) (r : Fin 512) (n : Fin 128 → EReal) (d : Fin 128) :
    turn n (fun d => k0_pay11 (F := Ideal) (cb m c t) (ix2 r d : S512x128.Idx)) (fun d => k0_pay12 (F := Ideal) (sb m c t) (ix2 r d : S512x128.Idx)) d
      = rope (h := 64) rfl n (cosQ (at_ t r)) (sinQ (at_ t r)) d := by
  rw [turn_eq_rope n _ _ (fun l => cb m c t (ix2 r l : S512x128.Idx)) (fun l => sb m c t (ix2 r l : S512x128.Idx)) (fun d => cq_apply _ r d) (fun d => sq_apply _ r d) d,
    show (fun i : Fin 64 => cb m c t (ix2 r ⟨i.val, by omega⟩ : S512x128.Idx)) = cosQ (at_ t r) from funext fun i => cb_low m c t r i,
    show (fun i : Fin 64 => sb m c t (ix2 r ⟨i.val, by omega⟩ : S512x128.Idx)) = sinQ (at_ t r) from funext fun i => sb_low m c t r i]

/-- Two heads of 64 turned over their lanes are turned as the reference turns them. -/
theorem heads_turn (c : Dev nD) (t : Fin cfg0.N) (r : Fin 512) (n : Fin 128 → EReal) (d : Fin 128) :
    turns n (fun d => k0_pay13 (F := Ideal) (cb m c t) (ix2 r d : S512x128.Idx)) (fun d => sinA (F := Ideal) (sb m c t) (ix2 r d : S512x128.Idx))
        (fun d => sinB (F := Ideal) (sb m c t) (ix2 r d : S512x128.Idx)) d
      = rope (h := 32) rfl (fun e : Fin 64 => n ⟨64 * (d.val / 64) + e.val, by omega⟩) (cosI (at_ t r)) (sinI (at_ t r)) ⟨d.val % 64, by omega⟩ :=
  turns_eq_rope n _ _ _ (fun l => cb m c t (ix2 r l : S512x128.Idx)) (fun l => sb m c t (ix2 r l : S512x128.Idx)) (fun d => ci_apply _ r d) (fun d => sa_apply _ r d)
    (fun d => sb_apply _ r d) _ _ (fun i => cb_high m c t r i) (fun i => sb_high m c t r i) d

/-! ## The reference's results, as functions of the kernel's arguments -/

section
open Cert.ProjARefIdeal.Read

abbrev refQ (c : Dev nD) : FVec Ideal S8192x1024 .bf16 := val_main_v179 (F := Ideal) (m ((c : Thread nD τ).loc main_arg0)) (m ((c : Thread nD τ).loc main_arg1))
  (m ((c : Thread nD τ).loc main_arg2)) (m ((c : Thread nD τ).loc main_arg3))
abbrev refK (c : Dev nD) : FVec Ideal S32768x128 .f32 := val_main_v175 (F := Ideal) (m ((c : Thread nD τ).loc main_arg0)) (m ((c : Thread nD τ).loc main_arg1))
  (m ((c : Thread nD τ).loc main_arg2)) (m ((c : Thread nD τ).loc main_arg4))
abbrev refV (c : Dev nD) : FVec Ideal S32768x128 .f32 := val_main_v176 (F := Ideal) (m ((c : Thread nD τ).loc main_arg0)) (m ((c : Thread nD τ).loc main_arg1))
  (m ((c : Thread nD τ).loc main_arg2))
abbrev refKb (c : Dev nD) : FVec Ideal S8192x512 .bf16 := val_main_v181 (F := Ideal) (m ((c : Thread nD τ).loc main_arg0)) (m ((c : Thread nD τ).loc main_arg1))
  (m ((c : Thread nD τ).loc main_arg2)) (m ((c : Thread nD τ).loc main_arg4))
abbrev refVb (c : Dev nD) : FVec Ideal S8192x512 .bf16 := val_main_v183 (F := Ideal) (m ((c : Thread nD τ).loc main_arg0)) (m ((c : Thread nD τ).loc main_arg1))
  (m ((c : Thread nD τ).loc main_arg2))
abbrev refQi (c : Dev nD) : FVec Ideal S8192x1024 .bf16 := val_main_v185 (F := Ideal) (m ((c : Thread nD τ).loc main_arg0)) (m ((c : Thread nD τ).loc main_arg1))
  (m ((c : Thread nD τ).loc main_arg2))
abbrev refKi (c : Dev nD) : FVec Ideal S8192x64 .f32 := val_main_v177 (F := Ideal) (m ((c : Thread nD τ).loc main_arg0)) (m ((c : Thread nD τ).loc main_arg1))
  (m ((c : Thread nD τ).loc main_arg2))
abbrev refKib (c : Dev nD) : FVec Ideal S8192x64 .bf16 := val_main_v186 (F := Ideal) (m ((c : Thread nD τ).loc main_arg0)) (m ((c : Thread nD τ).loc main_arg1))
  (m ((c : Thread nD τ).loc main_arg2))
abbrev refWi (c : Dev nD) : FVec Ideal S8192x16 .f32 := val_main_v187 (F := Ideal) (m ((c : Thread nD τ).loc main_arg0)) (m ((c : Thread nD τ).loc main_arg1))
  (m ((c : Thread nD τ).loc main_arg2))

end

theorem q_head (c : Dev nD) (t : Fin cfg0.N) (h : Fin 8) (r : Fin 512) (d : Fin 128) :
    qParts (zb m c t) (k0_pay11 (cb m c t)) (k0_pay12 (sb m c t)) (qg m c t) h (ix2 r d : S512x128.Idx)
      = refQ m c (ix2 (at_ t r) ⟨128 * h.val + d.val, by omega⟩ : S8192x1024.Idx) := by
  rw [Pure.q_apply, head_turn]
  refine Eq.trans ?_ (Cert.ProjARefIdeal.Pure.q_apply _ _ _ _ _ _).symm
  have e1 : (128 * h.val + d.val) / 128 * 128 = 128 * h.val := by omega
  have e2 : (128 * h.val + d.val) % 128 = d.val := by omega
  simp only [zb_apply, qg_apply, e1, e2]

theorem k_head (c : Dev nD) (t : Fin cfg0.N) (h : Fin 4) (r : Fin 512) (d : Fin 128) (p : Fin 32768) (hp : p.val = (at_ t r).val * 4 + h.val) :
    kParts (zb m c t) (k0_pay11 (cb m c t)) (k0_pay12 (sb m c t)) (kg m c t) h (ix2 r d : S512x128.Idx) = refK m c (ix2 p d : S32768x128.Idx) := by
  rw [Pure.k_apply, head_turn]
  refine Eq.trans ?_ (Cert.ProjARefIdeal.Pure.k_apply _ _ _ _ _ _).symm
  have e1 : (⟨p.val / 4, by omega⟩ : Fin 8192) = at_ t r := Fin.ext (show p.val / 4 = (at_ t r).val by omega)
  have e2 : ∀ e : Fin 128, 1024 + 128 * h.val + e.val = 1024 + (p.val % 4 * 128 + e.val) := fun e => by omega
  simp only [zb_apply, kg_apply, e1, e2]

theorem v_head (c : Dev nD) (t : Fin cfg0.N) (h : Fin 4) (r : Fin 512) (d : Fin 128) (p : Fin 32768) (hp : p.val = (at_ t r).val * 4 + h.val) :
    vParts (zb m c t) h (ix2 r d : S512x128.Idx) = refV m c (ix2 p d : S32768x128.Idx) := by
  rw [Pure.v_apply, zb_apply]
  refine Eq.trans ?_ (Cert.ProjARefIdeal.Pure.v_apply _ _ _ _ _).symm
  have e1 : (⟨p.val / 4, by omega⟩ : Fin 8192) = at_ t r := Fin.ext (show p.val / 4 = (at_ t r).val by omega)
  rw [e1]
  exact congrArg (row _ _ _ _) (Fin.ext (show 1536 + 128 * h.val + d.val = 1536 + (p.val % 4 * 128 + d.val) by omega))

theorem qi_head (c : Dev nD) (t : Fin cfg0.N) (h : Fin 8) (r : Fin 512) (d : Fin 128) :
    qiParts (zb m c t) (k0_pay13 (cb m c t)) (sinA (sb m c t)) (sinB (sb m c t)) h (ix2 r d : S512x128.Idx)
      = refQi m c (ix2 (at_ t r) ⟨128 * h.val + d.val, by omega⟩ : S8192x1024.Idx) := by
  rw [Pure.qi_apply, heads_turn]
  refine Eq.trans ?_ (Cert.ProjARefIdeal.Pure.qi_apply _ _ _ _ _).symm
  have e1 : ∀ e : Fin 64, 2048 + ((128 * h.val + d.val) / 64 * 64 + e.val) = 2048 + 128 * h.val + (64 * (d.val / 64) + e.val) := fun e => by omega
  have e2 : (128 * h.val + d.val) % 64 = d.val % 64 := by omega
  simp only [zb_apply, e1, e2]

theorem ki_head (c : Dev nD) (t : Fin cfg0.N) (r : Fin 512) (e : Fin 64) :
    k0_pay2 (F := Ideal) (zb m c t) (k0_pay13 (cb m c t)) (sinA (sb m c t)) (sinB (sb m c t)) (ix2 r e : S512x64.Idx) = refKi m c (ix2 (at_ t r) e : S8192x64.Idx) := by
  rw [Pure.ki_apply, heads_turn]
  refine Eq.trans ?_ (Cert.ProjARefIdeal.Pure.ki_apply _ _ _ _ _).symm
  have e1 : ∀ k : Fin 64, 3072 + (64 * (e.val / 64) + k.val) = 3072 + k.val := fun k => by omega
  have e2 : e.val % 64 = e.val := by omega
  simp only [zb_apply, e1, e2]

theorem wi_head (c : Dev nD) (t : Fin cfg0.N) (r : Fin 512) (e : Fin 16) :
    k0_pay4 (F := Ideal) (zb m c t) (ix2 r e : S512x16.Idx) = refWi m c (ix2 (at_ t r) e : S8192x16.Idx) := by
  rw [Pure.wi_apply, zb_apply]
  exact (Cert.ProjARefIdeal.Pure.wi_apply _ _ _ _ _).symm

/-! ## The buffers a step fills piece by piece -/

theorem columns8_apply (e : EltTy) (w : Fin 8 → S512x128.Idx → Elt Ideal e) (G : S512x1024.Idx → Elt Ideal e)
    (h : ∀ (k : Fin 8) (r : Fin 512) (d : Fin 128), w k (ix2 r d) = G (ix2 r ⟨128 * k.val + d.val, by omega⟩)) (y : S512x1024.Idx) :
    View.canon (columns8 e w) y = G y := by
  refine View.canon_apply_of_pieces G _ ?_ y (columns8_cover e w y)
  have key (k : Fin 8) (inb) (x : S512x128.Idx) : w k x = G ((Rect.unit (s := S512x1024) ![0, 128 * k.val] S512x128.size inb).emb x) := by
    idx_vars x
    rw [h]
    refine congrArg G (funext fun a => Fin.ext ?_)
    match a with
    | 0 => show x0.val = 0 + 1 * x0.val; omega
    | 1 => show 128 * k.val + x1.val = 128 * k.val + 1 * x1.val; omega
  unfold columns8
  simp only [List.forall_mem_cons]
  exact ⟨key 7 _, key 6 _, key 5 _, key 4 _, key 3 _, key 2 _, key 1 _, key 0 _, fun _ hp => absurd hp List.not_mem_nil⟩

theorem columns4_apply (e : EltTy) (w : Fin 4 → S512x128.Idx → Elt Ideal e) (G : S512x512.Idx → Elt Ideal e)
    (h : ∀ (k : Fin 4) (r : Fin 512) (d : Fin 128), w k (ix2 r d) = G (ix2 r ⟨128 * k.val + d.val, by omega⟩)) (y : S512x512.Idx) :
    View.canon (columns4 e w) y = G y := by
  refine View.canon_apply_of_pieces G _ ?_ y (columns4_cover e w y)
  have key (k : Fin 4) (inb) (x : S512x128.Idx) : w k x = G ((Rect.unit (s := S512x512) ![0, 128 * k.val] S512x128.size inb).emb x) := by
    idx_vars x
    rw [h]
    refine congrArg G (funext fun a => Fin.ext ?_)
    match a with
    | 0 => show x0.val = 0 + 1 * x0.val; omega
    | 1 => show 128 * k.val + x1.val = 128 * k.val + 1 * x1.val; omega
  unfold columns4
  simp only [List.forall_mem_cons]
  exact ⟨key 3 _, key 2 _, key 1 _, key 0 _, fun _ hp => absurd hp List.not_mem_nil⟩

theorem rows4_apply (e : EltTy) (w : Fin 4 → S512x128.Idx → Elt Ideal e) (G : S2048x128.Idx → Elt Ideal e)
    (h : ∀ (k : Fin 4) (r : Fin 512) (d : Fin 128), w k (ix2 r d) = G (ix2 ⟨4 * r.val + k.val, by omega⟩ d)) (y : S2048x128.Idx) :
    View.canon (rows4 e w) y = G y := by
  refine View.canon_apply_of_pieces G _ ?_ y (rows4_cover e w y)
  have key (k : Fin 4) (inb) (pos) (x : S512x128.Idx) :
      w k x = G ((⟨⟨![k.val, 0], S512x128.size, ![4, 1], inb⟩, pos⟩ : Rect S2048x128).emb x) := by
    idx_vars x
    rw [h]
    refine congrArg G (funext fun a => Fin.ext ?_)
    match a with
    | 0 => show 4 * x0.val + k.val = k.val + 4 * x0.val; omega
    | 1 => show x1.val = 0 + 1 * x1.val; omega
  unfold rows4
  simp only [List.forall_mem_cons]
  exact ⟨key 3 _ _, key 2 _ _, key 1 _ _, key 0 _ _, fun _ hp => absurd hp List.not_mem_nil⟩

/-- Row `r` of step `t`'s keys, among the rows of all heads. -/
abbrev at4 (t : Fin cfg0.N) (r : Fin 2048) : Fin 32768 := ⟨t.val * 2048 + r.val, by have := (idx t).2.2.2.2.2.2.2; omega⟩

theorem at4_eq (t : Fin cfg0.N) (k : Fin 4) (r : Fin 512) : (at4 t ⟨4 * r.val + k.val, by omega⟩).val = (at_ t r).val * 4 + k.val := by
  show t.val * 2048 + (4 * r.val + k.val) = (t.val * 512 + r.val) * 4 + k.val
  omega

theorem kb_head (c : Dev nD) (t : Fin cfg0.N) (h : Fin 4) (r : Fin 512) (d : Fin 128) :
    kbParts (zb m c t) (k0_pay11 (cb m c t)) (k0_pay12 (sb m c t)) (kg m c t) h (ix2 r d : S512x128.Idx)
      = refKb m c (ix2 (at_ t r) ⟨128 * h.val + d.val, by omega⟩ : S8192x512.Idx) := by
  rw [Pure.kb_apply]
  refine Eq.trans ?_ (Cert.ProjARefIdeal.Pure.kb_apply _ _ _ _ _ _).symm
  have e2 : (128 * h.val + d.val) % 128 = d.val := by omega
  simp only [e2]
  exact k_head m c t h r d _ (by show (at_ t r).val * 4 + (128 * h.val + d.val) / 128 = _; omega)

theorem vb_head (c : Dev nD) (t : Fin cfg0.N) (h : Fin 4) (r : Fin 512) (d : Fin 128) :
    vbParts (zb m c t) h (ix2 r d : S512x128.Idx) = refVb m c (ix2 (at_ t r) ⟨128 * h.val + d.val, by omega⟩ : S8192x512.Idx) := by
  rw [Pure.vb_apply]
  refine Eq.trans ?_ (Cert.ProjARefIdeal.Pure.vb_apply _ _ _ _ _).symm
  have e2 : (128 * h.val + d.val) % 128 = d.val := by omega
  simp only [e2]
  exact v_head m c t h r d _ (by show (at_ t r).val * 4 + (128 * h.val + d.val) / 128 = _; omega)

/-! ## What a step stores, and the arrays after the run -/

/-- Step `t` stores the reference's queries at row `512 t + y 0`, column `y 1`. -/
theorem point_0 (c : Dev nD) (t : Fin cfg0.N) (y : S512x1024.Idx) (j : S8192x1024.Idx) (h0 : (j 0).val = t.val * 512 + (y 0).val) (h1 : (j 1).val = (y 1).val) :
    out8 (F := Ideal) (iblk m c 0 t) (iblk m c 1 t) (iblk m c 2 t) (iblk m c 3 t) (iblk m c 4 t) (iblk m c 5 t) (iblk m c 6 t) y = refQ m c j := by
  idx_vars j
  idx_vars y
  obtain rfl : j0 = at_ t y0 := Fin.ext h0
  obtain rfl : j1 = y1 := Fin.ext h1
  exact columns8_apply .bf16 (qParts (zb m c t) (k0_pay11 (cb m c t)) (k0_pay12 (sb m c t)) (qg m c t)) (fun y => refQ m c (ix2 (at_ t (y 0)) (y 1) : S8192x1024.Idx)) (fun k r d => q_head m c t k r d) _

/-- Step `t` stores the reference's keys at row `2048 t + y 0`, column `y 1`. -/
theorem point_1 (c : Dev nD) (t : Fin cfg0.N) (y : S2048x128.Idx) (j : S32768x128.Idx) (h0 : (j 0).val = t.val * 2048 + (y 0).val) (h1 : (j 1).val = (y 1).val) :
    out9 (F := Ideal) (iblk m c 0 t) (iblk m c 1 t) (iblk m c 2 t) (iblk m c 3 t) (iblk m c 4 t) (iblk m c 5 t) (iblk m c 6 t) y = refK m c j := by
  idx_vars j
  idx_vars y
  obtain rfl : j0 = at4 t y0 := Fin.ext h0
  obtain rfl : j1 = y1 := Fin.ext h1
  exact rows4_apply .f32 (kParts (zb m c t) (k0_pay11 (cb m c t)) (k0_pay12 (sb m c t)) (kg m c t)) (fun y => refK m c (ix2 (at4 t (y 0)) (y 1) : S32768x128.Idx)) (fun k r d => k_head m c t k r d _ (at4_eq t k r)) _

/-- Step `t` stores the reference's values at row `2048 t + y 0`, column `y 1`. -/
theorem point_2 (c : Dev nD) (t : Fin cfg0.N) (y : S2048x128.Idx) (j : S32768x128.Idx) (h0 : (j 0).val = t.val * 2048 + (y 0).val) (h1 : (j 1).val = (y 1).val) :
    out10 (F := Ideal) (iblk m c 0 t) (iblk m c 1 t) (iblk m c 2 t) (iblk m c 3 t) (iblk m c 4 t) (iblk m c 5 t) (iblk m c 6 t) y = refV m c j := by
  idx_vars j
  idx_vars y
  obtain rfl : j0 = at4 t y0 := Fin.ext h0
  obtain rfl : j1 = y1 := Fin.ext h1
  exact rows4_apply .f32 (vParts (zb m c t)) (fun y => refV m c (ix2 (at4 t (y 0)) (y 1) : S32768x128.Idx)) (fun k r d => v_head m c t k r d _ (at4_eq t k r)) _

/-- Step `t` stores the reference's rounded keys at row `512 t + y 0`, column `y 1`. -/
theorem point_3 (c : Dev nD) (t : Fin cfg0.N) (y : S512x512.Idx) (j : S8192x512.Idx) (h0 : (j 0).val = t.val * 512 + (y 0).val) (h1 : (j 1).val = (y 1).val) :
    out11 (F := Ideal) (iblk m c 0 t) (iblk m c 1 t) (iblk m c 2 t) (iblk m c 3 t) (iblk m c 4 t) (iblk m c 5 t) (iblk m c 6 t) y = refKb m c j := by
  idx_vars j
  idx_vars y
  obtain rfl : j0 = at_ t y0 := Fin.ext h0
  obtain rfl : j1 = y1 := Fin.ext h1
  exact columns4_apply .bf16 (kbParts (zb m c t) (k0_pay11 (cb m c t)) (k0_pay12 (sb m c t)) (kg m c t)) (fun y => refKb m c (ix2 (at_ t (y 0)) (y 1) : S8192x512.Idx)) (fun k r d => kb_head m c t k r d) _

/-- Step `t` stores the reference's rounded values at row `512 t + y 0`, column `y 1`. -/
theorem point_4 (c : Dev nD) (t : Fin cfg0.N) (y : S512x512.Idx) (j : S8192x512.Idx) (h0 : (j 0).val = t.val * 512 + (y 0).val) (h1 : (j 1).val = (y 1).val) :
    out12 (F := Ideal) (iblk m c 0 t) (iblk m c 1 t) (iblk m c 2 t) (iblk m c 3 t) (iblk m c 4 t) (iblk m c 5 t) (iblk m c 6 t) y = refVb m c j := by
  idx_vars j
  idx_vars y
  obtain rfl : j0 = at_ t y0 := Fin.ext h0
  obtain rfl : j1 = y1 := Fin.ext h1
  exact columns4_apply .bf16 (vbParts (zb m c t)) (fun y => refVb m c (ix2 (at_ t (y 0)) (y 1) : S8192x512.Idx)) (fun k r d => vb_head m c t k r d) _

/-- Step `t` stores the reference's indexer's queries at row `512 t + y 0`, column `y 1`. -/
theorem point_5 (c : Dev nD) (t : Fin cfg0.N) (y : S512x1024.Idx) (j : S8192x1024.Idx) (h0 : (j 0).val = t.val * 512 + (y 0).val) (h1 : (j 1).val = (y 1).val) :
    out13 (F := Ideal) (iblk m c 0 t) (iblk m c 1 t) (iblk m c 2 t) (iblk m c 3 t) (iblk m c 4 t) (iblk m c 5 t) (iblk m c 6 t) y = refQi m c j := by
  idx_vars j
  idx_vars y
  obtain rfl : j0 = at_ t y0 := Fin.ext h0
  obtain rfl : j1 = y1 := Fin.ext h1
  exact columns8_apply .bf16 (qiParts (zb m c t) (k0_pay13 (cb m c t)) (sinA (sb m c t)) (sinB (sb m c t))) (fun y => refQi m c (ix2 (at_ t (y 0)) (y 1) : S8192x1024.Idx)) (fun k r d => qi_head m c t k r d) _

/-- Step `t` stores the reference's indexer's keys at row `512 t + y 0`, column `y 1`. -/
theorem point_6 (c : Dev nD) (t : Fin cfg0.N) (y : S512x64.Idx) (j : S8192x64.Idx) (h0 : (j 0).val = t.val * 512 + (y 0).val) (h1 : (j 1).val = (y 1).val) :
    out14 (F := Ideal) (iblk m c 0 t) (iblk m c 1 t) (iblk m c 2 t) (iblk m c 3 t) (iblk m c 4 t) (iblk m c 5 t) (iblk m c 6 t) y = refKi m c j := by
  idx_vars j
  idx_vars y
  obtain rfl : j0 = at_ t y0 := Fin.ext h0
  obtain rfl : j1 = y1 := Fin.ext h1
  exact ki_head m c t _ _

/-- Step `t` stores the reference's indexer's rounded keys at row `512 t + y 0`, column `y 1`. -/
theorem point_7 (c : Dev nD) (t : Fin cfg0.N) (y : S512x64.Idx) (j : S8192x64.Idx) (h0 : (j 0).val = t.val * 512 + (y 0).val) (h1 : (j 1).val = (y 1).val) :
    out15 (F := Ideal) (iblk m c 0 t) (iblk m c 1 t) (iblk m c 2 t) (iblk m c 3 t) (iblk m c 4 t) (iblk m c 5 t) (iblk m c 6 t) y = refKib m c j := by
  idx_vars j
  idx_vars y
  obtain rfl : j0 = at_ t y0 := Fin.ext h0
  obtain rfl : j1 = y1 := Fin.ext h1
  exact (ki_head m c t _ _ : _)

/-- Step `t` stores the reference's indexer's weights at row `512 t + y 0`, column `y 1`. -/
theorem point_8 (c : Dev nD) (t : Fin cfg0.N) (y : S512x16.Idx) (j : S8192x16.Idx) (h0 : (j 0).val = t.val * 512 + (y 0).val) (h1 : (j 1).val = (y 1).val) :
    out16 (F := Ideal) (iblk m c 0 t) (iblk m c 1 t) (iblk m c 2 t) (iblk m c 3 t) (iblk m c 4 t) (iblk m c 5 t) (iblk m c 6 t) y = refWi m c j := by
  idx_vars j
  idx_vars y
  obtain rfl : j0 = at_ t y0 := Fin.ext h0
  obtain rfl : j1 = y1 := Fin.ext h1
  exact wi_head m c t _ _

theorem final_0 (c : Dev nD) : (dats m 0 c).arrAt 7 cfg0.N = refQ m c := by
  refine (dats m 0 c).arrAt_eq_of_covers 7 _ (by decide +kernel) fun t _ y => ?_
  blk_simp
  rw [after_7]
  refine point_0 m c t y _ ?_ ?_ <;> (blk_simp [idx_out t] <;> try omega)

theorem final_1 (c : Dev nD) : (dats m 0 c).arrAt 8 cfg0.N = refK m c := by
  refine (dats m 0 c).arrAt_eq_of_covers 8 _ (by decide +kernel) fun t _ y => ?_
  blk_simp
  rw [after_8]
  refine point_1 m c t y _ ?_ ?_ <;> (blk_simp [idx_out t] <;> try omega)

theorem final_2 (c : Dev nD) : (dats m 0 c).arrAt 9 cfg0.N = refV m c := by
  refine (dats m 0 c).arrAt_eq_of_covers 9 _ (by decide +kernel) fun t _ y => ?_
  blk_simp
  rw [after_9]
  refine point_2 m c t y _ ?_ ?_ <;> (blk_simp [idx_out t] <;> try omega)

theorem final_3 (c : Dev nD) : (dats m 0 c).arrAt 10 cfg0.N = refKb m c := by
  refine (dats m 0 c).arrAt_eq_of_covers 10 _ (by decide +kernel) fun t _ y => ?_
  blk_simp
  rw [after_10]
  refine point_3 m c t y _ ?_ ?_ <;> (blk_simp [idx_out t] <;> try omega)

theorem final_4 (c : Dev nD) : (dats m 0 c).arrAt 11 cfg0.N = refVb m c := by
  refine (dats m 0 c).arrAt_eq_of_covers 11 _ (by decide +kernel) fun t _ y => ?_
  blk_simp
  rw [after_11]
  refine point_4 m c t y _ ?_ ?_ <;> (blk_simp [idx_out t] <;> try omega)

theorem final_5 (c : Dev nD) : (dats m 0 c).arrAt 12 cfg0.N = refQi m c := by
  refine (dats m 0 c).arrAt_eq_of_covers 12 _ (by decide +kernel) fun t _ y => ?_
  blk_simp
  rw [after_12]
  refine point_5 m c t y _ ?_ ?_ <;> (blk_simp [idx_out t] <;> try omega)

theorem final_6 (c : Dev nD) : (dats m 0 c).arrAt 13 cfg0.N = refKi m c := by
  refine (dats m 0 c).arrAt_eq_of_covers 13 _ (by decide +kernel) fun t _ y => ?_
  blk_simp
  rw [after_13]
  refine point_6 m c t y _ ?_ ?_ <;> (blk_simp [idx_out t] <;> try omega)

theorem final_7 (c : Dev nD) : (dats m 0 c).arrAt 14 cfg0.N = refKib m c := by
  refine (dats m 0 c).arrAt_eq_of_covers 14 _ (by decide +kernel) fun t _ y => ?_
  blk_simp
  rw [after_14]
  refine point_7 m c t y _ ?_ ?_ <;> (blk_simp [idx_out t] <;> try omega)

theorem final_8 (c : Dev nD) : (dats m 0 c).arrAt 15 cfg0.N = refWi m c := by
  refine (dats m 0 c).arrAt_eq_of_covers 15 _ (by decide +kernel) fun t _ y => ?_
  blk_simp
  rw [after_15]
  refine point_8 m c t y _ ?_ ?_ <;> (blk_simp [idx_out t] <;> try omega)

/-- The run, with each result named and the arguments unchanged. -/
theorem run_arrays (ρ : Dev nD → PrngReg) : θ_run defs (onTc (τ := τ) (main (F := Ideal))) ⟨m, fun _ => 0, ρ⟩ fun r => ∀ c : Dev nD,
      r.2.mem ((c : Thread nD τ).loc main_v29_0) = refQ m c
      ∧ r.2.mem ((c : Thread nD τ).loc main_v29_1) = refK m c
      ∧ r.2.mem ((c : Thread nD τ).loc main_v29_2) = refV m c
      ∧ r.2.mem ((c : Thread nD τ).loc main_v29_3) = refKb m c
      ∧ r.2.mem ((c : Thread nD τ).loc main_v29_4) = refVb m c
      ∧ r.2.mem ((c : Thread nD τ).loc main_v29_5) = refQi m c
      ∧ r.2.mem ((c : Thread nD τ).loc main_v29_6) = refKi m c
      ∧ r.2.mem ((c : Thread nD τ).loc main_v29_7) = refKib m c
      ∧ r.2.mem ((c : Thread nD τ).loc main_v29_8) = refWi m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h.1 c).1 7).trans (final_0 m c),
      ((h.1 c).1 8).trans (final_1 m c),
      ((h.1 c).1 9).trans (final_2 m c),
      ((h.1 c).1 10).trans (final_3 m c),
      ((h.1 c).1 11).trans (final_4 m c),
      ((h.1 c).1 12).trans (final_5 m c),
      ((h.1 c).1 13).trans (final_6 m c),
      ((h.1 c).1 14).trans (final_7 m c),
      ((h.1 c).1 15).trans (final_8 m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩)
    (run_main m ρ)

end Cert.ProjAIdeal.Arrays

end
-- ==== Proof.ProjSRun.lean ====
/- The run of the first projection of the sample: what every step of it leaves, the launch, and the frame, for any floating-point values. -/
module

public import proofs.«01_k».proof.Proof.Pieces
public import proofs.«01_k».proof.Proof.Gen.ProjSIdeal.Launch
public import proofs.«01_k».proof.Proof.Gen.ProjSIdeal.Points
public import proofs.«01_k».proof.Proof.Gen.ProjSIdeal.Skeleton
public import proofs.«01_k».proof.Proof.Gen.ProjSIdeal.Frame
public import Idealize.ShloMosaic.Lib.Claim

@[expose] public section

noncomputable section

namespace Cert.ProjSIdeal.Run

open Cert.Whole Cert.Pieces Cert.ProjSIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

private theorem zero2 : (![0, 0] : Fin 2 → ℕ) = fun _ => 0 := by decide

/-! ## What the body stores -/

/-- The columns of a query block, 128 at a time, last first. -/
def columns8 (e : EltTy) (w : Fin 8 → S128x128.Idx → Elt F e) : List (View.Piece (Elt F) S128x1024 e) :=
  [⟨Rect.unit (s := S128x1024) ![0, 896] S128x128.size inb_S128x1024_S128x128_0_896, w 7⟩, ⟨Rect.unit (s := S128x1024) ![0, 768] S128x128.size inb_S128x1024_S128x128_0_768, w 6⟩, ⟨Rect.unit (s := S128x1024) ![0, 640] S128x128.size inb_S128x1024_S128x128_0_640, w 5⟩, ⟨Rect.unit (s := S128x1024) ![0, 512] S128x128.size inb_S128x1024_S128x128_0_512, w 4⟩, ⟨Rect.unit (s := S128x1024) ![0, 384] S128x128.size inb_S128x1024_S128x128_0_384, w 3⟩, ⟨Rect.unit (s := S128x1024) ![0, 256] S128x128.size inb_S128x1024_S128x128_0_256, w 2⟩, ⟨Rect.unit (s := S128x1024) ![0, 128] S128x128.size inb_S128x1024_S128x128_0_128, w 1⟩, ⟨Rect.unit (s := S128x1024) ![0, 0] S128x128.size inb_S128x1024_S128x128_0_0, w 0⟩]

/-- The columns of a key block, 128 at a time, last first. -/
def columns4 (e : EltTy) (w : Fin 4 → S128x128.Idx → Elt F e) : List (View.Piece (Elt F) S128x512 e) :=
  [⟨Rect.unit (s := S128x512) ![0, 384] S128x128.size inb_S128x512_S128x128_0_384, w 3⟩, ⟨Rect.unit (s := S128x512) ![0, 256] S128x128.size inb_S128x512_S128x128_0_256, w 2⟩, ⟨Rect.unit (s := S128x512) ![0, 128] S128x128.size inb_S128x512_S128x128_0_128, w 1⟩, ⟨Rect.unit (s := S128x512) ![0, 0] S128x128.size inb_S128x512_S128x128_0_0, w 0⟩]

/-- Every fourth row of a block, last first. -/
def rows4 (e : EltTy) (w : Fin 4 → S128x128.Idx → Elt F e) : List (View.Piece (Elt F) S512x128 e) :=
  [⟨⟨(⟨![3, 0], S128x128.size, ![4, 1], inb_S512x128_S128x128_3_0_s_4_1⟩ : LoadRect S512x128), spos_4_1⟩, w 3⟩, ⟨⟨(⟨![2, 0], S128x128.size, ![4, 1], inb_S512x128_S128x128_2_0_s_4_1⟩ : LoadRect S512x128), spos_4_1⟩, w 2⟩, ⟨⟨(⟨![1, 0], S128x128.size, ![4, 1], inb_S512x128_S128x128_1_0_s_4_1⟩ : LoadRect S512x128), spos_4_1⟩, w 1⟩, ⟨⟨(⟨![0, 0], S128x128.size, ![4, 1], inb_S512x128_S128x128_0_0_s_4_1⟩ : LoadRect S512x128), spos_4_1⟩, w 0⟩]

theorem columns8_cover (e : EltTy) (w : Fin 8 → S128x128.Idx → Elt F e) (y : S128x1024.Idx) : ∃ p ∈ columns8 e w, y ∈ p.1.set :=
  View.cover_of_tiled (columns8 e w) S128x128.size (by rfl) y

theorem columns4_cover (e : EltTy) (w : Fin 4 → S128x128.Idx → Elt F e) (y : S128x512.Idx) : ∃ p ∈ columns4 e w, y ∈ p.1.set :=
  View.cover_of_tiled (columns4 e w) S128x128.size (by rfl) y

/-- A row whose number is `k` modulo four lies in the rows stored from `k` on. -/
theorem row_mem {k : ℕ} {inb : ∀ a, S128x128.size a = 0 ∨ (![k, 0] : Fin 2 → ℕ) a + (![4, 1] : Fin 2 → ℕ) a * (S128x128.size a - 1) < S512x128.size a}
    {pos : ∀ a : Fin 2, 0 < (![4, 1] : Fin 2 → ℕ) a} (y : S512x128.Idx) (hk : (y 0).val % 4 = k) :
    y ∈ (⟨⟨![k, 0], S128x128.size, ![4, 1], inb⟩, pos⟩ : Rect S512x128).set := by
  have h0 : (y 0).val < 512 := (y 0).isLt
  refine (LoadRect.mem_set _).mpr (Fin.forall_fin_two.mpr ⟨⟨(y 0).val / 4, ?_, ?_⟩, ⟨(y 1).val, (y 1).isLt, ?_⟩⟩)
  · show (y 0).val / 4 < 128; omega
  · show (y 0).val = k + 4 * ((y 0).val / 4); omega
  · show (y 1).val = 0 + 1 * (y 1).val; omega

theorem rows4_cover (e : EltTy) (w : Fin 4 → S128x128.Idx → Elt F e) (y : S512x128.Idx) : ∃ p ∈ rows4 e w, y ∈ p.1.set := by
  have hk : (y 0).val % 4 = 3 ∨ (y 0).val % 4 = 2 ∨ (y 0).val % 4 = 1 ∨ (y 0).val % 4 = 0 := by omega
  unfold rows4
  rcases hk with hk | hk | hk | hk
  · exact ⟨_, List.mem_cons_self, row_mem y hk⟩
  · exact ⟨_, List.mem_cons_of_mem _ List.mem_cons_self, row_mem y hk⟩
  · exact ⟨_, List.mem_cons_of_mem _ (List.mem_cons_of_mem _ List.mem_cons_self), row_mem y hk⟩
  · exact ⟨_, List.mem_cons_of_mem _ (List.mem_cons_of_mem _ (List.mem_cons_of_mem _ List.mem_cons_self)), row_mem y hk⟩

variable (z : FVec F S128x3200 .f32) (cq sq ci sa sb : FVec F S128x128 .f32) (g : Vec F S1x128 .f32)

/-- The heads of a query block. -/
def qParts : Fin 8 → S128x128.Idx → Elt F .bf16 :=
  ![k0_pay20 cq sq (k0_pay19 z g), k0_pay21 z cq sq g, k0_pay26 cq sq (k0_pay22 z) (k0_pay23 g) (k0_pay24 z) k0_pay25, k0_pay27 z cq sq g,
    k0_pay31 cq sq (k0_pay28 z) (k0_pay29 g) (k0_pay30 z), k0_pay32 z cq sq g, k0_pay34 cq sq (k0_pay33 z) g, k0_pay35 z cq sq g]

/-- The heads of a key block. -/
def kParts : Fin 4 → S128x128.Idx → Elt F .f32 :=
  ![k0_pay36 z cq sq g, k0_pay43 cq sq (k0_pay40 z) (k0_pay41 g) (k0_pay42 z), k0_pay47 z cq sq g, k0_pay51 z cq sq g]

/-- The heads of a value block. -/
def vParts : Fin 4 → S128x128.Idx → Elt F .f32 := ![k0_pay37 z, k0_pay44 z, k0_pay48 z, k0_pay52 z]

/-- The rounded heads of a key block. -/
def kbParts : Fin 4 → S128x128.Idx → Elt F .bf16 :=
  ![k0_pay38 z cq sq g, k0_pay45 cq sq (k0_pay40 z) (k0_pay41 g) (k0_pay42 z), k0_pay49 (k0_pay47 z cq sq g), k0_pay53 z cq sq g]

/-- The rounded heads of a value block. -/
def vbParts : Fin 4 → S128x128.Idx → Elt F .bf16 := ![k0_pay39 z, k0_pay46 z, k0_pay50 (k0_pay48 z), k0_pay54 z]

/-- The indexer's heads, two by two. -/
def qiParts : Fin 8 → S128x128.Idx → Elt F .bf16 :=
  ![k0_pay55 z ci sa sb, k0_pay56 z ci sa sb, k0_pay57 z ci sa sb, k0_pay58 z ci sa sb, k0_pay59 z ci sa sb, k0_pay60 z ci sa sb,
    k0_pay61 z ci sa sb, k0_pay62 z ci sa sb]

/-- The lane tables of the second indexer term and of the third. -/
abbrev sinA (s : Vec F S128x128 .f32) : FVec F S128x128 .f32 := k0_pay17 (k0_pay7 s) (k0_pay9 s) (iota .tc S1x128 32 [1] iota_S1x128_d1_w32) k0_pay14
abbrev sinB (s : Vec F S128x128 .f32) : FVec F S128x128 .f32 := k0_pay18 (k0_pay7 s) (k0_pay9 s) (iota .tc S1x128 32 [1] iota_S1x128_d1_w32) k0_pay14

/-- What a step leaves in output 0. -/
def out8 (x1 : Vec F S128x2048 .f32) (x2 : Vec F S1x2048 .f32) (x3 : Vec F S3200x2048 .bf16) (x4 : Vec F S1x128 .f32) (x5 : Vec F S1x128 .f32) (x6 : Vec F S128x128 .f32) (x7 : Vec F S128x128 .f32) : Vec F S128x1024 .bf16 :=
  (View.canon (columns8 .bf16 (qParts (k0_pay5 x1 x2 x3) (k0_pay11 x6) (k0_pay12 x7) x4)))

/-- What a step leaves in output 1. -/
def out9 (x1 : Vec F S128x2048 .f32) (x2 : Vec F S1x2048 .f32) (x3 : Vec F S3200x2048 .bf16) (x4 : Vec F S1x128 .f32) (x5 : Vec F S1x128 .f32) (x6 : Vec F S128x128 .f32) (x7 : Vec F S128x128 .f32) : Vec F S512x128 .f32 :=
  (View.canon (rows4 .f32 (kParts (k0_pay5 x1 x2 x3) (k0_pay11 x6) (k0_pay12 x7) x5)))

/-- What a step leaves in output 2. -/
def out10 (x1 : Vec F S128x2048 .f32) (x2 : Vec F S1x2048 .f32) (x3 : Vec F S3200x2048 .bf16) (x4 : Vec F S1x128 .f32) (x5 : Vec F S1x128 .f32) (x6 : Vec F S128x128 .f32) (x7 : Vec F S128x128 .f32) : Vec F S512x128 .f32 :=
  (View.canon (rows4 .f32 (vParts (k0_pay5 x1 x2 x3))))

/-- What a step leaves in output 3. -/
def out11 (x1 : Vec F S128x2048 .f32) (x2 : Vec F S1x2048 .f32) (x3 : Vec F S3200x2048 .bf16) (x4 : Vec F S1x128 .f32) (x5 : Vec F S1x128 .f32) (x6 : Vec F S128x128 .f32) (x7 : Vec F S128x128 .f32) : Vec F S128x512 .bf16 :=
  (View.canon (columns4 .bf16 (kbParts (k0_pay5 x1 x2 x3) (k0_pay11 x6) (k0_pay12 x7) x5)))

/-- What a step leaves in output 4. -/
def out12 (x1 : Vec F S128x2048 .f32) (x2 : Vec F S1x2048 .f32) (x3 : Vec F S3200x2048 .bf16) (x4 : Vec F S1x128 .f32) (x5 : Vec F S1x128 .f32) (x6 : Vec F S128x128 .f32) (x7 : Vec F S128x128 .f32) : Vec F S128x512 .bf16 :=
  (View.canon (columns4 .bf16 (vbParts (k0_pay5 x1 x2 x3))))

/-- What a step leaves in output 5. -/
def out13 (x1 : Vec F S128x2048 .f32) (x2 : Vec F S1x2048 .f32) (x3 : Vec F S3200x2048 .bf16) (x4 : Vec F S1x128 .f32) (x5 : Vec F S1x128 .f32) (x6 : Vec F S128x128 .f32) (x7 : Vec F S128x128 .f32) : Vec F S128x1024 .bf16 :=
  (View.canon (columns8 .bf16 (qiParts (k0_pay5 x1 x2 x3) (k0_pay13 x6) (sinA x7) (sinB x7))))

/-- What a step leaves in output 6. -/
def out14 (x1 : Vec F S128x2048 .f32) (x2 : Vec F S1x2048 .f32) (x3 : Vec F S3200x2048 .bf16) (x4 : Vec F S1x128 .f32) (x5 : Vec F S1x128 .f32) (x6 : Vec F S128x128 .f32) (x7 : Vec F S128x128 .f32) : Vec F S128x64 .f32 :=
  (k0_pay2 (k0_pay5 x1 x2 x3) (k0_pay13 x6) (sinA x7) (sinB x7))

/-- What a step leaves in output 7. -/
def out15 (x1 : Vec F S128x2048 .f32) (x2 : Vec F S1x2048 .f32) (x3 : Vec F S3200x2048 .bf16) (x4 : Vec F S1x128 .f32) (x5 : Vec F S1x128 .f32) (x6 : Vec F S128x128 .f32) (x7 : Vec F S128x128 .f32) : Vec F S128x64 .bf16 :=
  (k0_pay3 (k0_pay5 x1 x2 x3) (k0_pay13 x6) (sinA x7) (sinB x7))

/-- What a step leaves in output 8. -/
def out16 (x1 : Vec F S128x2048 .f32) (x2 : Vec F S1x2048 .f32) (x3 : Vec F S3200x2048 .bf16) (x4 : Vec F S1x128 .f32) (x5 : Vec F S1x128 .f32) (x6 : Vec F S128x128 .f32) (x7 : Vec F S128x128 .f32) : Vec F S128x16 .f32 :=
  (k0_pay4 (k0_pay5 x1 x2 x3))

/-! ## The body on any memrefs -/

open Classical in
set_option maxHeartbeats 4000000 in
/-- The body's step: from the blocks `x1 … x7` and any outputs it leaves the blocks as they were and the nine outputs filled. -/
theorem sound_body_any (c : Dev nD) (i : grid0.Coords) (arg1 : Memref sig .tc .vmem S128x2048 .f32) (harg1 : arg1.IsWhole) (arg2 : Memref sig .tc .vmem S1x2048 .f32) (harg2 : arg2.IsWhole) (arg3 : Memref sig .tc .vmem S3200x2048 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1024 .bf16) (harg8 : arg8.IsWhole) (arg9 : Memref sig .tc .vmem S512x128 .f32) (harg9 : arg9.IsWhole) (arg10 : Memref sig .tc .vmem S512x128 .f32) (harg10 : arg10.IsWhole) (arg11 : Memref sig .tc .vmem S128x512 .bf16) (harg11 : arg11.IsWhole) (arg12 : Memref sig .tc .vmem S128x512 .bf16) (harg12 : arg12.IsWhole) (arg13 : Memref sig .tc .vmem S128x1024 .bf16) (harg13 : arg13.IsWhole) (arg14 : Memref sig .tc .vmem S128x64 .f32) (harg14 : arg14.IsWhole) (arg15 : Memref sig .tc .vmem S128x64 .bf16) (harg15 : arg15.IsWhole) (arg16 : Memref sig .tc .vmem S128x16 .f32) (harg16 : arg16.IsWhole)
    (x1 : Vec F S128x2048 .f32) (x2 : Vec F S1x2048 .f32) (x3 : Vec F S3200x2048 .bf16) (x4 : Vec F S1x128 .f32) (x5 : Vec F S1x128 .f32) (x6 : Vec F S128x128 .f32) (x7 : Vec F S128x128 .f32)
    (d8 : Vec F S128x1024 .bf16) (d9 : Vec F S512x128 .f32) (d10 : Vec F S512x128 .f32) (d11 : Vec F S128x512 .bf16) (d12 : Vec F S128x512 .bf16) (d13 : Vec F S128x1024 .bf16) (d14 : Vec F S128x64 .f32) (d15 : Vec F S128x64 .bf16) (d16 : Vec F S128x16 .f32) :
    (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16) : sProp 𝕄)
    ⊢ wp frame (wpE (defs₀ (F := F)) Variants.none c none) Set.univ
        (cc0_proj_a i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
        (fun _ => iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (out8 x1 x2 x3 x4 x5 x6 x7) ∗ owns (c : Thread nD τ) arg9 fullShare (out9 x1 x2 x3 x4 x5 x6 x7) ∗ owns (c : Thread nD τ) arg10 fullShare (out10 x1 x2 x3 x4 x5 x6 x7) ∗ owns (c : Thread nD τ) arg11 fullShare (out11 x1 x2 x3 x4 x5 x6 x7) ∗ owns (c : Thread nD τ) arg12 fullShare (out12 x1 x2 x3 x4 x5 x6 x7) ∗ owns (c : Thread nD τ) arg13 fullShare (out13 x1 x2 x3 x4 x5 x6 x7) ∗ owns (c : Thread nD τ) arg14 fullShare (out14 x1 x2 x3 x4 x5 x6 x7) ∗ owns (c : Thread nD τ) arg15 fullShare (out15 x1 x2 x3 x4 x5 x6 x7) ∗ owns (c : Thread nD τ) arg16 fullShare (out16 x1 x2 x3 x4 x5 x6 x7))) := by
  rw [cc0_proj_a_eq_skeleton]
  unfold cc0_proj_a_skel
  iintro ⟨H1, H2, H3, H4, H5, H6, H7, H8, H9, H10, H11, H12, H13, H14, H15, H16⟩
  ihave H8 := held_nil arg8 $$ H8
  ihave H9 := held_nil arg9 $$ H9
  ihave H10 := held_nil arg10 $$ H10
  ihave H11 := held_nil arg11 $$ H11
  ihave H12 := held_nil arg12 $$ H12
  ihave H13 := held_nil arg13 $$ H13
  rw [wp_bind, k0_part1_eq_skeleton]; unfold k0_part1_skel
  rw [wp_bind]; iapply (load_whole arg1 zero2) $$ H1; iintro H1
  rw [wp_bind]; iapply (load_whole arg2 zero2) $$ H2; iintro H2
  rw [wp_bind]; iapply (load_whole arg3 zero2) $$ H3; iintro H3
  rw [wp_bind]; iapply (load_whole arg6 zero2) $$ H6; iintro H6
  rw [wp_bind]; iapply (load_whole arg7 zero2) $$ H7; iintro H7
  rw [wp_pure]; imodintro; dsimp only
  rw [wp_bind, k0_part2_eq_skeleton]; unfold k0_part2_skel
  rw [wp_bind]; iapply (load_whole arg4 zero2) $$ H4; iintro H4
  rw [wp_pure]; imodintro; dsimp only
  rw [wp_bind, k0_part3_eq_skeleton]; unfold k0_part3_skel
  iapply (put arg8) $$ H8; iintro H8
  rw [wp_bind]; iapply (load_whole arg4 zero2) $$ H4; iintro H4
  iapply (put arg8) $$ H8; iintro H8
  rw [wp_bind]; iapply (load_whole arg4 zero2) $$ H4; iintro H4
  rw [wp_pure]; imodintro; dsimp only
  rw [wp_bind, k0_part4_eq_skeleton]; unfold k0_part4_skel
  iapply (put arg8) $$ H8; iintro H8
  rw [wp_bind]; iapply (load_whole arg4 zero2) $$ H4; iintro H4
  iapply (put arg8) $$ H8; iintro H8
  rw [wp_bind]; iapply (load_whole arg4 zero2) $$ H4; iintro H4
  rw [wp_pure]; imodintro; dsimp only
  rw [wp_bind, k0_part5_eq_skeleton]; unfold k0_part5_skel
  iapply (put arg8) $$ H8; iintro H8
  rw [wp_bind]; iapply (load_whole arg4 zero2) $$ H4; iintro H4
  iapply (put arg8) $$ H8; iintro H8
  rw [wp_pure]; imodintro; dsimp only
  rw [wp_bind, k0_part6_eq_skeleton]; unfold k0_part6_skel
  rw [wp_bind]; iapply (load_whole arg4 zero2) $$ H4; iintro H4
  iapply (put arg8) $$ H8; iintro H8
  rw [wp_bind]; iapply (load_whole arg4 zero2) $$ H4; iintro H4
  rw [wp_pure]; imodintro; dsimp only
  rw [wp_bind, k0_part7_eq_skeleton]; unfold k0_part7_skel
  iapply (put arg8) $$ H8; iintro H8
  rw [wp_bind]; iapply (load_whole arg5 zero2) $$ H5; iintro H5
  iapply (put arg9) $$ H9; iintro H9
  iapply (put arg10) $$ H10; iintro H10
  iapply (put arg11) $$ H11; iintro H11
  iapply (put arg12) $$ H12; iintro H12
  rw [wp_bind]; iapply (load_whole arg5 zero2) $$ H5; iintro H5
  rw [wp_pure]; imodintro; dsimp only
  rw [wp_bind, k0_part8_eq_skeleton]; unfold k0_part8_skel
  iapply (put arg9) $$ H9; iintro H9
  iapply (put arg10) $$ H10; iintro H10
  iapply (put arg11) $$ H11; iintro H11
  iapply (put arg12) $$ H12; iintro H12
  rw [wp_bind]; iapply (load_whole arg5 zero2) $$ H5; iintro H5
  rw [wp_pure]; imodintro; dsimp only
  rw [wp_bind, k0_part9_eq_skeleton]; unfold k0_part9_skel
  iapply (put arg9) $$ H9; iintro H9
  iapply (put arg10) $$ H10; iintro H10
  iapply (put arg11) $$ H11; iintro H11
  iapply (put arg12) $$ H12; iintro H12
  rw [wp_bind]; iapply (load_whole arg5 zero2) $$ H5; iintro H5
  iapply (put arg9) $$ H9; iintro H9
  iapply (put arg10) $$ H10; iintro H10
  iapply (put arg11) $$ H11; iintro H11
  iapply (put arg12) $$ H12; iintro H12
  rw [wp_pure]; imodintro; dsimp only
  rw [wp_bind, k0_part10_eq_skeleton]; unfold k0_part10_skel
  iapply (put arg13) $$ H13; iintro H13
  iapply (put arg13) $$ H13; iintro H13
  iapply (put arg13) $$ H13; iintro H13
  iapply (put arg13) $$ H13; iintro H13
  rw [wp_pure]; imodintro; dsimp only
  rw [wp_bind, k0_part11_eq_skeleton]; unfold k0_part11_skel
  iapply (put arg13) $$ H13; iintro H13
  iapply (put arg13) $$ H13; iintro H13
  iapply (put arg13) $$ H13; iintro H13
  iapply (put arg13) $$ H13; iintro H13
  rw [wp_pure]; imodintro; dsimp only
  rw [wp_bind]; iapply (load_whole arg14 zero2) $$ H14; iintro H14
  rw [wp_bind]; iapply (store_whole arg14 zero2) $$ H14; iintro H14
  rw [wp_bind]; iapply (load_whole arg15 zero2) $$ H15; iintro H15
  rw [wp_bind]; iapply (store_whole arg15 zero2) $$ H15; iintro H15
  rw [wp_bind]; iapply (load_whole arg16 zero2) $$ H16; iintro H16
  rw [wp_bind]; iapply (store_whole arg16 zero2) $$ H16; iintro H16
  rw [wp_pure]
  imodintro
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iapply (held_all arg8 (columns8_cover _ _)); iexact H8
  isplitl [H9]
  · iapply (held_all arg9 (rows4_cover _ _)); iexact H9
  isplitl [H10]
  · iapply (held_all arg10 (rows4_cover _ _)); iexact H10
  isplitl [H11]
  · iapply (held_all arg11 (columns4_cover _ _)); iexact H11
  isplitl [H12]
  · iapply (held_all arg12 (columns4_cover _ _)); iexact H12
  isplitl [H13]
  · iapply (held_all arg13 (columns8_cover _ _)); iexact H13
  isplitl [H14]; · iexact H14
  isplitl [H15]; · iexact H15
  iexact H16

/-! ## The data of the pipeline -/

variable (m : (ℓ : Loc nD τ sig) → Buf (Elt F) ℓ) (ρ : Dev nD → PrngReg)

/-- The pipeline's data: the arrays as the launch finds them; after a step an input's buffer holds its block, an output's what the
    step leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out8 (iblk m c 0 t) (iblk m c 1 t) (iblk m c 2 t) (iblk m c 3 t) (iblk m c 4 t) (iblk m c 5 t) (iblk m c 6 t)
    | ⟨8, _⟩ => out9 (iblk m c 0 t) (iblk m c 1 t) (iblk m c 2 t) (iblk m c 3 t) (iblk m c 4 t) (iblk m c 5 t) (iblk m c 6 t)
    | ⟨9, _⟩ => out10 (iblk m c 0 t) (iblk m c 1 t) (iblk m c 2 t) (iblk m c 3 t) (iblk m c 4 t) (iblk m c 5 t) (iblk m c 6 t)
    | ⟨10, _⟩ => out11 (iblk m c 0 t) (iblk m c 1 t) (iblk m c 2 t) (iblk m c 3 t) (iblk m c 4 t) (iblk m c 5 t) (iblk m c 6 t)
    | ⟨11, _⟩ => out12 (iblk m c 0 t) (iblk m c 1 t) (iblk m c 2 t) (iblk m c 3 t) (iblk m c 4 t) (iblk m c 5 t) (iblk m c 6 t)
    | ⟨12, _⟩ => out13 (iblk m c 0 t) (iblk m c 1 t) (iblk m c 2 t) (iblk m c 3 t) (iblk m c 4 t) (iblk m c 5 t) (iblk m c 6 t)
    | ⟨13, _⟩ => out14 (iblk m c 0 t) (iblk m c 1 t) (iblk m c 2 t) (iblk m c 3 t) (iblk m c 4 t) (iblk m c 5 t) (iblk m c 6 t)
    | ⟨14, _⟩ => out15 (iblk m c 0 t) (iblk m c 1 t) (iblk m c 2 t) (iblk m c 3 t) (iblk m c 4 t) (iblk m c 5 t) (iblk m c 6 t)
    | ⟨15, _⟩ => out16 (iblk m c 0 t) (iblk m c 1 t) (iblk m c 2 t) (iblk m c 3 t) (iblk m c 4 t) (iblk m c 5 t) (iblk m c 6 t)
    | ⟨n + 16, h⟩ => absurd h (Nat.not_lt.2 (Nat.le_add_left 16 n))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = out8 (iblk m c 0 t) (iblk m c 1 t) (iblk m c 2 t) (iblk m c 3 t) (iblk m c 4 t) (iblk m c 5 t) (iblk m c 6 t) := by dsimp only [dats]
theorem after_8 (c : Dev nD) (t : Fin cfg0.N) : (dats m 0 c).after 8 t = out9 (iblk m c 0 t) (iblk m c 1 t) (iblk m c 2 t) (iblk m c 3 t) (iblk m c 4 t) (iblk m c 5 t) (iblk m c 6 t) := by dsimp only [dats]
theorem after_9 (c : Dev nD) (t : Fin cfg0.N) : (dats m 0 c).after 9 t = out10 (iblk m c 0 t) (iblk m c 1 t) (iblk m c 2 t) (iblk m c 3 t) (iblk m c 4 t) (iblk m c 5 t) (iblk m c 6 t) := by dsimp only [dats]
theorem after_10 (c : Dev nD) (t : Fin cfg0.N) : (dats m 0 c).after 10 t = out11 (iblk m c 0 t) (iblk m c 1 t) (iblk m c 2 t) (iblk m c 3 t) (iblk m c 4 t) (iblk m c 5 t) (iblk m c 6 t) := by dsimp only [dats]
theorem after_11 (c : Dev nD) (t : Fin cfg0.N) : (dats m 0 c).after 11 t = out12 (iblk m c 0 t) (iblk m c 1 t) (iblk m c 2 t) (iblk m c 3 t) (iblk m c 4 t) (iblk m c 5 t) (iblk m c 6 t) := by dsimp only [dats]
theorem after_12 (c : Dev nD) (t : Fin cfg0.N) : (dats m 0 c).after 12 t = out13 (iblk m c 0 t) (iblk m c 1 t) (iblk m c 2 t) (iblk m c 3 t) (iblk m c 4 t) (iblk m c 5 t) (iblk m c 6 t) := by dsimp only [dats]
theorem after_13 (c : Dev nD) (t : Fin cfg0.N) : (dats m 0 c).after 13 t = out14 (iblk m c 0 t) (iblk m c 1 t) (iblk m c 2 t) (iblk m c 3 t) (iblk m c 4 t) (iblk m c 5 t) (iblk m c 6 t) := by dsimp only [dats]
theorem after_14 (c : Dev nD) (t : Fin cfg0.N) : (dats m 0 c).after 14 t = out15 (iblk m c 0 t) (iblk m c 1 t) (iblk m c 2 t) (iblk m c 3 t) (iblk m c 4 t) (iblk m c 5 t) (iblk m c 6 t) := by dsimp only [dats]
theorem after_15 (c : Dev nD) (t : Fin cfg0.N) : (dats m 0 c).after 15 t = out16 (iblk m c 0 t) (iblk m c 1 t) (iblk m c 2 t) (iblk m c 3 t) (iblk m c 4 t) (iblk m c 5 t) (iblk m c 6 t) := by dsimp only [dats]

/-- What the body is called with at a step. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- What it gives back. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t ∗ (dats m 0 c).leavesExact 13 t ∗ (dats m 0 c).leavesExact 14 t ∗ (dats m 0 c).leavesExact 15 t)

theorem live (c : Dev nD) (t : Fin cfg0.N) (w : Fin cfg0.W) (h : cfg0.idle w (grid0.coords t) = false) : (dats m 0 c).leavesExact w t
    = owns (c : Thread nD τ) ((cfg0.win w).stage (cfg0.slots t w)) fullShare ((dats m 0 c).after w t) := by
  unfold Dat.leavesExact; rw [h]

/-- The body at any step. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0_of m (dats m 0 c) (A_eq m c 0) (after_0 m c), before0_1_of m (dats m 0 c) (A_eq m c 1) (after_1 m c), before0_2_of m (dats m 0 c) (A_eq m c 2) (after_2 m c), before0_3_of m (dats m 0 c) (A_eq m c 3) (after_3 m c), before0_4_of m (dats m 0 c) (A_eq m c 4) (after_4 m c), before0_5_of m (dats m 0 c) (A_eq m c 5) (after_5 m c), before0_6_of m (dats m 0 c) (A_eq m c 6) (after_6 m c)]
  rw [show (dats m 0 c).Φ t.succ = (dats m 0 c).Φ t.castSucc from rfl,
    show (dats m 0 c).owesAt () t.succ = (dats m 0 c).owesAt () t.castSucc from rfl,
    live m c t 0 rfl, live m c t 1 rfl, live m c t 2 rfl, live m c t 3 rfl, live m c t 4 rfl, live m c t 5 rfl, live m c t 6 rfl, live m c t 7 rfl, live m c t 8 rfl, live m c t 9 rfl, live m c t 10 rfl, live m c t 11 rfl, live m c t 12 rfl, live m c t 13 rfl, live m c t 14 rfl, live m c t 15 rfl,
    after_0, after_1, after_2, after_3, after_4, after_5, after_6, after_7, after_8, after_9, after_10, after_11, after_12, after_13, after_14, after_15]
  iintro ⟨Hr, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  ihave HW := sound_body_any c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15))
    (iblk m c 0 t) (iblk m c 1 t) (iblk m c 2 t) (iblk m c 3 t) (iblk m c 4 t) (iblk m c 5 t) (iblk m c 6 t) ((dats m 0 c).before 7 t d7) ((dats m 0 c).before 8 t d8) ((dats m 0 c).before 9 t d9) ((dats m 0 c).before 10 t d10) ((dats m 0 c).before 11 t d11) ((dats m 0 c).before 12 t d12) ((dats m 0 c).before 13 t d13) ((dats m 0 c).before 14 t d14) ((dats m 0 c).before 15 t d15) $$ [H0 H1 H2 H3 H4 H5 H6 H7 H8 H9 H10 H11 H12 H13 H14 H15]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  iapply wp_wand $$ HW
  iintro %_ ⟨H0, H1, H2, H3, H4, H5, H6, H7, H8, H9, H10, H11, H12, H13, H14, H15⟩
  isplitl [Hr]; · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem body_row (t : Fin cfg0.N) :
    defs₀ (F := F) .tc cfg0.body (cfg0.bodyArgs t (cfg0.slots t)) = bodyAt0 t := by
  unfold defs₀; rw [Defs.onTc_tc]

/-- The library's body obligation. -/
theorem body_obligation (c : Dev nD) :
    BodyObligation (dats (F := F) m 0 c) (defs₀ (F := F)) Variants.none () Set.univ := fun t => by
  rw [bigSep_W0, bigSep_W0, body_row]
  exact triple_restated (sound_body m c t) rfl .rfl fun _ => .rfl

-- the launch theorem's implicit arguments are found by unfolding plain definitions
set_option backward.isDefEq.respectTransparency.types false in
set_option maxHeartbeats 800000 in
/-- The launch: every array of the pipeline is what its data say, every other buffer as it was found, every counter zero. -/
theorem run_main : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- The frame, for any floating-point values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩)
    (run_main m ρ)

end Cert.ProjSIdeal.Run
-- ==== Proof.ProjSPure.lean ====
/- The first projection of the sample: what the kernel's body computes and what the reference computes, each read at an index as the arithmetic
   of a row, a head's rotation by its position, and the tables of angles. -/
module

public import proofs.«01_k».proof.Proof.ProjPure
public import proofs.«01_k».proof.Proof.ProjSRun
public import proofs.«01_k».proof.Proof.Gen.ProjSRefIdeal.Read

@[expose] public section

set_option maxRecDepth 16384

noncomputable section

namespace Cert.Spec

open Idealize.ShloMosaic

/-- The angle of position `16384 + p` at frequency `i` of `len` of them. -/
def laterAngle (len : EReal) (p i : ℕ) : EReal :=
  FloatOps.sitofp (F := Ideal) .f32 (IntOp.addi 16384#32 (BitVec.ofNat 32 p))
    * Ideal.pow (Ideal.ofBits .f32 0x461C4000#32) (Ideal.div (-FloatOps.sitofp (F := Ideal) .f32 (BitVec.ofNat 32 i)) len)

end Cert.Spec

namespace Cert.ProjSIdeal.Pure

open Cert.ProjSIdeal Cert.ProjSIdeal.Gen Cert.ProjSIdeal.Run Cert.Spec Idealize.ShloMosaic Idealize.ShloMosaic.TcCoe Idealize.SL.Sem
open Cert.ProjAIdeal.Pure (low_lane)

/-- A block of the projection: the normalised row times a row of the transposed weights. -/
theorem proj_apply (x : Vec Ideal S128x2048 .f32) (g : Vec Ideal S1x2048 .f32) (w : Vec Ideal S3200x2048 .bf16) (r : Fin 128) (c : Fin 3200) :
    k0_pay5 (F := Ideal) x g w (ix2 r c : S128x3200.Idx)
      = rmsDot (Ideal.ofBits .f32 0x45000000#32) (fun k : Fin 2048 => x (ix2 r k)) (fun k => g (ix2 0 k)) (fun k => w (ix2 c k)) := by
  pointwise [k0_pay5]
  rfl

/-- The cosines of a head of 128. -/
theorem cq_apply (x : Vec Ideal S128x128 .f32) (r : Fin 128) (d : Fin 128) :
    k0_pay11 (F := Ideal) x (ix2 r d : S128x128.Idx) = x (ix2 r ⟨d.val % 64, by omega⟩) := by
  pointwise [k0_pay11, k0_pay10, k0_pay6, k0_pay8]
  rw [low_lane]
  by_cases hd : d.val < 64
  · rw [if_pos hd]; exact congrArg x (congrArg (ix2 r) (Fin.ext (show d.val = d.val % 64 by omega)))
  · rw [if_neg hd]; exact congrArg x (congrArg (ix2 r) (Fin.ext (show (d.val + 128 - 64) % 128 = d.val % 64 by omega)))

/-- The signed sines of a head of 128. -/
theorem sq_apply (x : Vec Ideal S128x128 .f32) (r : Fin 128) (d : Fin 128) :
    k0_pay12 (F := Ideal) x (ix2 r d : S128x128.Idx)
      = if d.val < 64 then -x (ix2 r ⟨d.val % 64, by omega⟩) else x (ix2 r ⟨d.val % 64, by omega⟩) := by
  pointwise [k0_pay12, k0_pay10, k0_pay7, k0_pay9]
  rw [low_lane]
  by_cases hd : d.val < 64
  · rw [if_pos hd, if_pos hd]; refine Eq.trans (zero_sub _) (congrArg Neg.neg (congrArg x (congrArg (ix2 r) (Fin.ext (show d.val = d.val % 64 by omega)))))
  · rw [if_neg hd, if_neg hd]; exact congrArg x (congrArg (ix2 r) (Fin.ext (show (d.val + 128 - 64) % 128 = d.val % 64 by omega)))

/-- The cosines of the indexer's heads. -/
theorem ci_apply (x : Vec Ideal S128x128 .f32) (r : Fin 128) (d : Fin 128) :
    k0_pay13 (F := Ideal) x (ix2 r d : S128x128.Idx) = x (ix2 r ⟨64 + d.val % 64, by omega⟩) := by
  pointwise [k0_pay13, k0_pay10, k0_pay6, k0_pay8]
  rw [low_lane]
  by_cases hd : d.val < 64
  · rw [if_pos hd]; exact congrArg x (congrArg (ix2 r) (Fin.ext (show (d.val + 128 - 64) % 128 = 64 + d.val % 64 by omega)))
  · rw [if_neg hd]; exact congrArg x (congrArg (ix2 r) (Fin.ext (show d.val = 64 + d.val % 64 by omega)))

/-- The sines of the indexer's heads. -/
theorem si_apply (x : Vec Ideal S128x128 .f32) (r : Fin 128) (d : Fin 128) :
    k0_pay15 (F := Ideal) (k0_pay7 x) (k0_pay9 x) k0_pay14 (ix2 r d : S128x128.Idx) = x (ix2 r ⟨64 + d.val % 64, by omega⟩) := by
  pointwise [k0_pay15, k0_pay14, k0_pay10, k0_pay7, k0_pay9]
  rw [low_lane]
  by_cases hd : d.val < 64
  · rw [if_pos hd]; exact congrArg x (congrArg (ix2 r) (Fin.ext (show (d.val + 128 - 64) % 128 = 64 + d.val % 64 by omega)))
  · rw [if_neg hd]; exact congrArg x (congrArg (ix2 r) (Fin.ext (show d.val = 64 + d.val % 64 by omega)))

/-- The first half of a head of 64 is told from the second. -/
theorem half_lane (d : Fin 128) : k0_pay16 (iota .tc S1x128 32 [1] iota_S1x128_d1_w32) (ix2 0 d : S1x128.Idx) = if d.val % 64 < 32 then 1#1 else 0#1 := by
  pointwise [k0_pay16]
  revert d
  decide +kernel

theorem sa_apply (x : Vec Ideal S128x128 .f32) (r : Fin 128) (d : Fin 128) :
    sinA (F := Ideal) x (ix2 r d : S128x128.Idx) = if d.val % 64 < 32 then -x (ix2 r ⟨64 + d.val % 64, by omega⟩) else 0 := by
  unfold sinA k0_pay17
  have h := half_lane d
  have hs := si_apply x r d
  generalize k0_pay16 (iota .tc S1x128 32 [1] iota_S1x128_d1_w32) = b at h ⊢
  generalize k0_pay15 (F := Ideal) (k0_pay7 x) (k0_pay9 x) k0_pay14 = s at hs ⊢
  pointwise
  rw [h, hs]
  by_cases hd : d.val % 64 < 32
  · rw [if_pos hd, if_pos hd]; exact zero_sub _
  · rw [if_neg hd, if_neg hd]; rfl

theorem sb_apply (x : Vec Ideal S128x128 .f32) (r : Fin 128) (d : Fin 128) :
    sinB (F := Ideal) x (ix2 r d : S128x128.Idx) = if d.val % 64 < 32 then 0 else x (ix2 r ⟨64 + d.val % 64, by omega⟩) := by
  unfold sinB k0_pay18
  have h := half_lane d
  have hs := si_apply x r d
  generalize k0_pay16 (iota .tc S1x128 32 [1] iota_S1x128_d1_w32) = b at h ⊢
  generalize k0_pay15 (F := Ideal) (k0_pay7 x) (k0_pay9 x) k0_pay14 = s at hs ⊢
  pointwise
  rw [h, hs]
  by_cases hd : d.val % 64 < 32
  · rw [if_pos hd, if_pos hd]; rfl
  · rw [if_neg hd, if_neg hd]; rfl

variable (z : FVec Ideal S128x3200 .f32) (cq sq ci sa sb : FVec Ideal S128x128 .f32) (g : Vec Ideal S1x128 .f32) (r : Fin 128) (d : Fin 128)

/-- Head `h` of a query block. -/
theorem q_apply (h : Fin 8) : qParts z cq sq g h (ix2 r d : S128x128.Idx)
    = turn (rms (Ideal.ofBits .f32 0x43000000#32) (fun d : Fin 128 => z (ix2 r ⟨128 * h.val + d.val, by omega⟩)) (fun d => g (ix2 0 d)))
        (fun d => cq (ix2 r d)) (fun d => sq (ix2 r d)) d * Ideal.ofBits .f32 0x3E0293EE#32 := by
  fin_cases h
  all_goals dsimp only [qParts, Fin.zero_eta, Fin.mk_one, Matrix.cons_val, Fin.reduceFinMk]
  all_goals pointwise [k0_pay19, k0_pay20, k0_pay21, k0_pay22, k0_pay23, k0_pay24, k0_pay25, k0_pay26, k0_pay27, k0_pay28, k0_pay29, k0_pay30, k0_pay31, k0_pay32, k0_pay33,
      k0_pay34, k0_pay35]
  all_goals rfl

/-- Head `h` of a key block. -/
theorem k_apply (h : Fin 4) : kParts z cq sq g h (ix2 r d : S128x128.Idx)
    = turn (rms (Ideal.ofBits .f32 0x43000000#32) (fun d : Fin 128 => z (ix2 r ⟨1024 + 128 * h.val + d.val, by omega⟩)) (fun d => g (ix2 0 d)))
        (fun d => cq (ix2 r d)) (fun d => sq (ix2 r d)) d := by
  fin_cases h
  all_goals dsimp only [kParts, Fin.zero_eta, Fin.mk_one, Matrix.cons_val, Fin.reduceFinMk]
  all_goals pointwise [k0_pay36, k0_pay40, k0_pay41, k0_pay42, k0_pay43, k0_pay47, k0_pay51]
  all_goals rfl

/-- The rounded heads of a key block are its heads. -/
theorem kb_apply (h : Fin 4) : kbParts z cq sq g h (ix2 r d : S128x128.Idx) = kParts z cq sq g h (ix2 r d : S128x128.Idx) := by
  fin_cases h <;> rfl

/-- Head `h` of a value block. -/
theorem v_apply (h : Fin 4) : vParts z h (ix2 r d : S128x128.Idx) = z (ix2 r ⟨1536 + 128 * h.val + d.val, by omega⟩) := by
  fin_cases h
  all_goals dsimp only [vParts, Fin.zero_eta, Fin.mk_one, Matrix.cons_val, Fin.reduceFinMk]
  all_goals pointwise [k0_pay37, k0_pay44, k0_pay48, k0_pay52]
  all_goals rfl

/-- The rounded heads of a value block are its heads. -/
theorem vb_apply (h : Fin 4) : vbParts z h (ix2 r d : S128x128.Idx) = vParts z h (ix2 r d : S128x128.Idx) := by
  fin_cases h <;> rfl

/-- Heads `2 h` and `2 h + 1` of an indexer block. -/
theorem qi_apply (h : Fin 8) : qiParts z ci sa sb h (ix2 r d : S128x128.Idx)
    = turns (fun d : Fin 128 => z (ix2 r ⟨2048 + 128 * h.val + d.val, by omega⟩))
        (fun d => ci (ix2 r d)) (fun d => sa (ix2 r d)) (fun d => sb (ix2 r d)) d := by
  fin_cases h
  all_goals dsimp only [qiParts, Fin.zero_eta, Fin.mk_one, Matrix.cons_val, Fin.reduceFinMk]
  all_goals pointwise [k0_pay55, k0_pay56, k0_pay57, k0_pay58, k0_pay59, k0_pay60, k0_pay61, k0_pay62]
  all_goals rfl

/-- The indexer's keys. -/
theorem ki_apply (e : Fin 64) : k0_pay2 (F := Ideal) z ci sa sb (ix2 r e : S128x64.Idx)
    = turns (fun d : Fin 128 => z (ix2 r ⟨3072 + d.val, by omega⟩)) (fun d => ci (ix2 r d)) (fun d => sa (ix2 r d)) (fun d => sb (ix2 r d)) ⟨e.val, by omega⟩ := by
  pointwise [k0_pay2, k0_pay1]
  rfl

/-- The indexer's weights of its heads. -/
theorem wi_apply (e : Fin 16) : k0_pay4 (F := Ideal) z (ix2 r e : S128x16.Idx)
    = z (ix2 r ⟨3136 + e.val, by omega⟩) * Ideal.ofBits .f32 0x3D000000#32 := by
  pointwise [k0_pay4, k0_pay1]
  exact congrArg (· * _) (congrArg z (congrArg (ix2 r) (Fin.ext (show 3072 + (64 + e.val) = 3136 + e.val by omega))))

end Cert.ProjSIdeal.Pure

namespace Cert.ProjSRefIdeal.Pure

open Cert.ProjSRefIdeal Cert.ProjSRefIdeal.Gen Cert.ProjSRefIdeal.Read Cert.Spec Idealize.ShloMosaic Idealize.ShloMosaic.TcCoe Idealize.SL.Sem
open Cert.ProjARefIdeal.Pure (halves quarter_eighth)

variable (x : FVec Ideal S8x4x2048 .f32) (g : FVec Ideal S2048 .f32) (w : FVec Ideal S2048x15440 .f32) (gq gk : FVec Ideal S128 .f32)

/-- Row `p` of the reference's projection of the padded samples laid one after the other, at column `c`. -/
def row (p : Fin 128) (c : Fin 15440) : EReal :=
  rmsDot (Ideal.ofBits .f32 0x45000000#32) (fun k : Fin 2048 => val_main_v0 (F := Ideal) x (ix3 ⟨p.val / 16, by omega⟩ ⟨p.val % 16, by omega⟩ k)) (fun k => g (ix1 k))
    (fun k => w (ix2 k c))

/-- The cosines and the sines of position `16384 + p % 16` for heads of 128 and of 64. -/
def cosQ (p : Fin 128) (i : Fin 64) : EReal := Ideal.cos (laterAngle (Ideal.ofBits .f32 0x42800000#32) (p.val % 16) i.val)
def sinQ (p : Fin 128) (i : Fin 64) : EReal := Ideal.sin (laterAngle (Ideal.ofBits .f32 0x42800000#32) (p.val % 16) i.val)
def cosI (p : Fin 128) (i : Fin 32) : EReal := Ideal.cos (laterAngle (Ideal.ofBits .f32 0x42000000#32) (p.val % 16) i.val)
def sinI (p : Fin 128) (i : Fin 32) : EReal := Ideal.sin (laterAngle (Ideal.ofBits .f32 0x42000000#32) (p.val % 16) i.val)

/-- The reference's projection. -/
theorem proj_apply (p : Fin 128) (c : Fin 15440) :
    val_main_v14 (F := Ideal) x g w (ix3 ⟨p.val / 16, by omega⟩ ⟨p.val % 16, by omega⟩ c : S8x16x15440.Idx) = row x g w p c := by
  unfold val_main_v14 val_main_v13 val_main_v12 val_main_v11 val_main_v10 val_main_v9 val_main_v8 val_main_v7 val_main_v6 val_main_v5 val_main_v4 val_main_v3 val_main_v2 val_main_v1 val_main_cst val_main_cst_0 val_main_cst_1
  unfold row
  generalize val_main_v0 (F := Ideal) x = X
  pointwise
  rfl

theorem cosQ_apply (p : Fin 128) (i : Fin 64) : val_main_v51 (F := Ideal) (ix2 ⟨p.val % 16, by omega⟩ i : S16x64.Idx) = cosQ p i := by
  unfold val_main_v51 val_main_v50 val_main_v49 val_main_v48 val_main_v47 val_main_v46 val_main_v45 val_main_v44 val_main_v43 val_main_v42 val_main_v41 val_main_v40 val_main_v39 val_main_cst_6 val_main_cst_7 val_main_v24 val_main_v23 val_main_v22 val_main_c_2
  pointwise
  rfl

theorem sinQ_apply (p : Fin 128) (i : Fin 64) : val_main_v53 (F := Ideal) (ix2 ⟨p.val % 16, by omega⟩ i : S16x64.Idx) = sinQ p i := by
  unfold val_main_v53 val_main_v50 val_main_v49 val_main_v48 val_main_v47 val_main_v46 val_main_v45 val_main_v44 val_main_v43 val_main_v42 val_main_v41 val_main_v40 val_main_v39 val_main_cst_6 val_main_cst_7 val_main_v24 val_main_v23 val_main_v22 val_main_c_2
  pointwise
  rfl

/-- Each head's tables are the same. -/
theorem cosK_eq : val_main_v96 (F := Ideal) = val_main_v51 := rfl
theorem sinK_eq : val_main_v98 (F := Ideal) = val_main_v53 := rfl
theorem cosI_eq : val_main_v156 (F := Ideal) = val_main_v126 := rfl
theorem sinI_eq : val_main_v158 (F := Ideal) = val_main_v128 := rfl

theorem cosI_apply (p : Fin 128) (i : Fin 32) : val_main_v126 (F := Ideal) (ix2 ⟨p.val % 16, by omega⟩ i : S16x32.Idx) = cosI p i := by
  unfold val_main_v126 val_main_v125 val_main_v124 val_main_v123 val_main_v122 val_main_v121 val_main_v120 val_main_v119 val_main_v118 val_main_v117 val_main_v116 val_main_v115 val_main_v114 val_main_cst_14 val_main_cst_15 val_main_v24 val_main_v23 val_main_v22 val_main_c_2
  pointwise
  rfl

theorem sinI_apply (p : Fin 128) (i : Fin 32) : val_main_v128 (F := Ideal) (ix2 ⟨p.val % 16, by omega⟩ i : S16x32.Idx) = sinI p i := by
  unfold val_main_v128 val_main_v125 val_main_v124 val_main_v123 val_main_v122 val_main_v121 val_main_v120 val_main_v119 val_main_v118 val_main_v117 val_main_v116 val_main_v115 val_main_v114 val_main_cst_14 val_main_cst_15 val_main_v24 val_main_v23 val_main_v22 val_main_c_2
  pointwise
  rfl

/-- Head `h` of the queries, normalised. -/
theorem qnorm_apply (b : Fin 8) (r : Fin 16) (h : Fin 8) (d : Fin 128) :
    val_main_v38 (F := Ideal) x g w gq (ix4 b r h d : S8x16x8x128.Idx)
      = rms (Ideal.ofBits .f32 0x43000000#32) (fun d : Fin 128 => val_main_v14 (F := Ideal) x g w (ix3 b r ⟨h.val * 128 + d.val, by omega⟩ : S8x16x15440.Idx))
        (fun d => gq (ix1 d)) d := by
  unfold val_main_v38 val_main_v37 val_main_v36 val_main_v35 val_main_v34 val_main_v33 val_main_v32 val_main_v31 val_main_v30 val_main_v29 val_main_v28 val_main_v27 val_main_v26 val_main_v25 val_main_cst_3 val_main_cst_4 val_main_cst_5 val_main_v16 val_main_v15
  generalize val_main_v14 (F := Ideal) x g w = z
  pointwise
  rfl

/-- Head `h` of the keys, normalised. -/
theorem knorm_apply (b : Fin 8) (r : Fin 16) (h : Fin 4) (d : Fin 128) :
    val_main_v83 (F := Ideal) x g w gk (ix4 b r h d : S8x16x4x128.Idx)
      = rms (Ideal.ofBits .f32 0x43000000#32) (fun d : Fin 128 => val_main_v14 (F := Ideal) x g w (ix3 b r ⟨1024 + (h.val * 128 + d.val), by omega⟩ : S8x16x15440.Idx))
        (fun d => gk (ix1 d)) d := by
  unfold val_main_v83 val_main_v82 val_main_v81 val_main_v80 val_main_v79 val_main_v78 val_main_v77 val_main_v76 val_main_v75 val_main_v74 val_main_v73 val_main_v72 val_main_v71 val_main_v70 val_main_cst_9 val_main_cst_10 val_main_cst_11 val_main_v17 val_main_v15
  generalize val_main_v14 (F := Ideal) x g w = z
  pointwise
  rfl

/-- Head `h` of the queries, turned and scaled. -/
theorem qrope_apply (b : Fin 8) (r : Fin 16) (h : Fin 8) (d : Fin 128) :
    val_main_v69 (F := Ideal) x g w gq (ix4 b r h d : S8x16x8x128.Idx)
      = rope (h := 64) rfl (fun d : Fin 128 => val_main_v38 (F := Ideal) x g w gq (ix4 b r h d : S8x16x8x128.Idx))
        (fun i => val_main_v51 (F := Ideal) (ix2 r i : S16x64.Idx)) (fun i => val_main_v53 (F := Ideal) (ix2 r i : S16x64.Idx)) d * Ideal.ofBits .f32 0x3E0293EE#32 := by
  unfold val_main_v69 val_main_v68 val_main_v67 val_main_v66 val_main_v65 val_main_v64 val_main_v63 val_main_v62 val_main_v61 val_main_v60 val_main_v59 val_main_v58 val_main_v57 val_main_v56 val_main_v55 val_main_v54 val_main_v52 val_main_cst_8
  generalize val_main_v38 (F := Ideal) x g w gq = z
  generalize val_main_v51 (F := Ideal) = cc
  generalize val_main_v53 (F := Ideal) = ss
  rw [← halves]
  pointwise

/-- Head `h` of the keys, turned. -/
theorem krope_apply (b : Fin 8) (r : Fin 16) (h : Fin 4) (d : Fin 128) :
    val_main_v112 (F := Ideal) x g w gk (ix4 b r h d : S8x16x4x128.Idx)
      = rope (h := 64) rfl (fun d : Fin 128 => val_main_v83 (F := Ideal) x g w gk (ix4 b r h d : S8x16x4x128.Idx))
        (fun i => val_main_v96 (F := Ideal) (ix2 r i : S16x64.Idx)) (fun i => val_main_v98 (F := Ideal) (ix2 r i : S16x64.Idx)) d := by
  unfold val_main_v112 val_main_v111 val_main_v110 val_main_v109 val_main_v108 val_main_v107 val_main_v106 val_main_v105 val_main_v104 val_main_v103 val_main_v102 val_main_v101 val_main_v100 val_main_v99 val_main_v97
  generalize val_main_v83 (F := Ideal) x g w gk = z
  generalize val_main_v96 (F := Ideal) = cc
  generalize val_main_v98 (F := Ideal) = ss
  rw [← halves]
  pointwise

/-- Head `h` of the indexer, turned. -/
theorem irope_apply (b : Fin 8) (r : Fin 16) (h : Fin 16) (d : Fin 64) :
    val_main_v142 (F := Ideal) x g w (ix4 b r h d : S8x16x16x64.Idx)
      = rope (h := 32) rfl (fun d : Fin 64 => val_main_v14 (F := Ideal) x g w (ix3 b r ⟨2048 + (h.val * 64 + d.val), by omega⟩ : S8x16x15440.Idx))
        (fun i => val_main_v126 (F := Ideal) (ix2 r i : S16x32.Idx)) (fun i => val_main_v128 (F := Ideal) (ix2 r i : S16x32.Idx)) d := by
  unfold val_main_v142 val_main_v141 val_main_v140 val_main_v139 val_main_v138 val_main_v137 val_main_v136 val_main_v135 val_main_v134 val_main_v133 val_main_v132 val_main_v131 val_main_v130 val_main_v129 val_main_v127 val_main_v113 val_main_v19 val_main_v15
  generalize val_main_v14 (F := Ideal) x g w = z
  generalize val_main_v126 (F := Ideal) = cc
  generalize val_main_v128 (F := Ideal) = ss
  rw [← halves]
  pointwise

/-! ## The nine results, at row `p` of the padded samples laid one after the other -/

/-- The queries: column `j` is lane `j % 128` of head `j / 128`. -/
theorem q_apply (p : Fin 128) (j : Fin 1024) : val_main_v182 (F := Ideal) x g w gq (ix2 p j : S128x1024.Idx)
    = rope (h := 64) rfl (rms (Ideal.ofBits .f32 0x43000000#32) (fun d : Fin 128 => row x g w p ⟨j.val / 128 * 128 + d.val, by omega⟩) (fun d => gq (ix1 d)))
        (cosQ p) (sinQ p) ⟨j.val % 128, by omega⟩ * Ideal.ofBits .f32 0x3E0293EE#32 := by
  have e : val_main_v182 (F := Ideal) x g w gq (ix2 p j : S128x1024.Idx)
      = val_main_v69 (F := Ideal) x g w gq (ix4 ⟨p.val / 16, by omega⟩ ⟨p.val % 16, by omega⟩ ⟨j.val / 128, by omega⟩ ⟨j.val % 128, by omega⟩ : S8x16x8x128.Idx) := by
    unfold val_main_v182 val_main_v181
    generalize val_main_v69 (F := Ideal) x g w gq = z
    pointwise
  rw [e, qrope_apply]
  simp only [qnorm_apply, proj_apply, cosQ_apply, sinQ_apply]

/-- The keys: row `p` is head `p % 4` of token `p / 4`. -/
theorem k_apply (p : Fin 512) (d : Fin 128) : val_main_v178 (F := Ideal) x g w gk (ix2 p d : S512x128.Idx)
    = rope (h := 64) rfl (rms (Ideal.ofBits .f32 0x43000000#32) (fun d : Fin 128 => row x g w ⟨p.val / 4, by omega⟩ ⟨1024 + (p.val % 4 * 128 + d.val), by omega⟩)
        (fun d => gk (ix1 d))) (cosQ ⟨p.val / 4, by omega⟩) (sinQ ⟨p.val / 4, by omega⟩) d := by
  have e : val_main_v178 (F := Ideal) x g w gk (ix2 p d : S512x128.Idx)
      = val_main_v112 (F := Ideal) x g w gk (ix4 ⟨p.val / 4 / 16, by omega⟩ ⟨p.val / 4 % 16, by omega⟩ ⟨p.val % 4, by omega⟩ d : S8x16x4x128.Idx) := by
    have e1 : p.val / 64 = p.val / 4 / 16 := by omega
    unfold val_main_v178
    generalize val_main_v112 (F := Ideal) x g w gk = z
    pointwise
    simp only [e1]
  rw [e, krope_apply]
  have hp := proj_apply x g w ⟨p.val / 4, by omega⟩
  have hc := cosQ_apply ⟨p.val / 4, by omega⟩
  have hs := sinQ_apply ⟨p.val / 4, by omega⟩
  dsimp only at hp hc hs
  simp only [knorm_apply, cosK_eq, sinK_eq, hp, hc, hs]

/-- The values. -/
theorem v_apply (p : Fin 512) (d : Fin 128) : val_main_v179 (F := Ideal) x g w (ix2 p d : S512x128.Idx)
    = row x g w ⟨p.val / 4, by omega⟩ ⟨1536 + (p.val % 4 * 128 + d.val), by omega⟩ := by
  have hp := proj_apply x g w ⟨p.val / 4, by omega⟩
  have e1 : p.val / 64 = p.val / 4 / 16 := by omega
  dsimp only at hp
  rw [← hp]
  unfold val_main_v179 val_main_v18 val_main_v15
  generalize val_main_v14 (F := Ideal) x g w = z
  pointwise
  simp only [e1]

/-- The rounded keys and values are the keys and values, four rows side by side. -/
theorem kb_apply (p : Fin 128) (j : Fin 512) : val_main_v184 (F := Ideal) x g w gk (ix2 p j : S128x512.Idx)
    = val_main_v178 (F := Ideal) x g w gk (ix2 ⟨p.val * 4 + j.val / 128, by omega⟩ ⟨j.val % 128, by omega⟩ : S512x128.Idx) := by
  unfold val_main_v184 val_main_v183
  generalize val_main_v178 (F := Ideal) x g w gk = z
  pointwise

theorem vb_apply (p : Fin 128) (j : Fin 512) : val_main_v186 (F := Ideal) x g w (ix2 p j : S128x512.Idx)
    = val_main_v179 (F := Ideal) x g w (ix2 ⟨p.val * 4 + j.val / 128, by omega⟩ ⟨j.val % 128, by omega⟩ : S512x128.Idx) := by
  unfold val_main_v186 val_main_v185
  generalize val_main_v179 (F := Ideal) x g w = z
  pointwise

/-- The indexer's queries: column `j` is lane `j % 64` of head `j / 64`. -/
theorem qi_apply (p : Fin 128) (j : Fin 1024) : val_main_v188 (F := Ideal) x g w (ix2 p j : S128x1024.Idx)
    = rope (h := 32) rfl (fun d : Fin 64 => row x g w p ⟨2048 + (j.val / 64 * 64 + d.val), by omega⟩) (cosI p) (sinI p) ⟨j.val % 64, by omega⟩ := by
  have e : val_main_v188 (F := Ideal) x g w (ix2 p j : S128x1024.Idx)
      = val_main_v142 (F := Ideal) x g w (ix4 ⟨p.val / 16, by omega⟩ ⟨p.val % 16, by omega⟩ ⟨j.val / 64, by omega⟩ ⟨j.val % 64, by omega⟩ : S8x16x16x64.Idx) := by
    unfold val_main_v188 val_main_v187
    generalize val_main_v142 (F := Ideal) x g w = z
    pointwise
  rw [e, irope_apply]
  simp only [proj_apply, cosI_apply, sinI_apply]

/-- The indexer's keys. -/
theorem ki_apply (p : Fin 128) (d : Fin 64) : val_main_v180 (F := Ideal) x g w (ix2 p d : S128x64.Idx)
    = rope (h := 32) rfl (fun d : Fin 64 => row x g w p ⟨3072 + d.val, by omega⟩) (cosI p) (sinI p) d := by
  have e : val_main_v180 (F := Ideal) x g w (ix2 p d : S128x64.Idx)
      = rope (h := 32) rfl (fun d : Fin 64 => val_main_v14 (F := Ideal) x g w (ix3 ⟨p.val / 16, by omega⟩ ⟨p.val % 16, by omega⟩ ⟨3072 + d.val, by omega⟩ : S8x16x15440.Idx))
        (fun i => val_main_v156 (F := Ideal) (ix2 ⟨p.val % 16, by omega⟩ i : S16x32.Idx)) (fun i => val_main_v158 (F := Ideal) (ix2 ⟨p.val % 16, by omega⟩ i : S16x32.Idx)) d := by
    unfold val_main_v180 val_main_v173 val_main_v172 val_main_v171 val_main_v170 val_main_v169 val_main_v168 val_main_v167 val_main_v166 val_main_v165 val_main_v164 val_main_v163 val_main_v162 val_main_v161 val_main_v160 val_main_v159 val_main_v157 val_main_v143 val_main_v20 val_main_v15
    generalize val_main_v14 (F := Ideal) x g w = z
    generalize val_main_v156 (F := Ideal) = cc
    generalize val_main_v158 (F := Ideal) = ss
    rw [← halves]
    pointwise
  rw [e]
  simp only [proj_apply, cosI_eq, sinI_eq, cosI_apply, sinI_apply]

/-- The rounded keys of the indexer are its keys. -/
theorem kib_apply (i : S128x64.Idx) : val_main_v189 (F := Ideal) x g w i = val_main_v180 (F := Ideal) x g w i := rfl

/-- The indexer's weights of its heads. -/
theorem wi_apply (p : Fin 128) (e : Fin 16) : val_main_v190 (F := Ideal) x g w (ix2 p e : S128x16.Idx)
    = row x g w p ⟨3136 + e.val, by omega⟩ * Ideal.ofBits .f32 0x3D000000#32 := by
  rw [← proj_apply, ← quarter_eighth, ← mul_assoc]
  unfold val_main_v190 val_main_v177 val_main_v176 val_main_v175 val_main_v174 val_main_v21 val_main_v15 val_main_cst_18 val_main_cst_19
  generalize val_main_v14 (F := Ideal) x g w = z
  pointwise

end Cert.ProjSRefIdeal.Pure

end
-- ==== Proof.ProjSValue.lean ====
/- The nine arrays of the first projection of the sample the kernel leaves: each is the reference's, index by index. -/
module

public import proofs.«01_k».proof.Proof.ProjSPure
public import Idealize.ShloMosaic.Lib.Pipeline.ValueKit

@[expose] public section

set_option maxRecDepth 16384

noncomputable section

namespace Cert.ProjSIdeal.Arrays

open Cert.ProjSIdeal Cert.ProjSIdeal.Gen Cert.ProjSIdeal.Pure Cert.ProjSIdeal.Run Cert.Spec
open Cert.ProjSRefIdeal.Pure (row cosQ sinQ cosI sinI)
open Idealize.ShloMosaic Idealize.ShloMosaic.TcCoe Idealize.SL.Sem
open Idealize.ShloMosaic.Pipeline (Dat)

variable (m : (ℓ : Loc nD τ sig) → Buf (Elt Ideal) ℓ)

/-- The one step works on all the rows, at all their positions. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ t.val < 1 :=
  (by decide +kernel : ∀ t : Fin grid0.N, _)

theorem idx_out : ∀ t : Fin cfg0.N, win0_7.index t = ![t.val, 0] ∧ win0_8.index t = ![t.val, 0] ∧ win0_9.index t = ![t.val, 0] ∧ win0_10.index t = ![t.val, 0]
    ∧ win0_11.index t = ![t.val, 0] ∧ win0_12.index t = ![t.val, 0] ∧ win0_13.index t = ![t.val, 0] ∧ win0_14.index t = ![t.val, 0] ∧ win0_15.index t = ![t.val, 0] :=
  (by decide +kernel : ∀ t : Fin grid0.N, _)

/-! ## The kernel's operands, as the host operations leave them -/

theorem entry_v4 (c : Dev nD) : V m c main_v4 = shapeCast S128x2048 (Cert.ProjSRefIdeal.Read.val_main_v0 (F := Ideal) (m ((c : Thread nD τ).loc main_arg0))) shapeCasts_S8x16x2048_S128x2048 := rfl
/-- The transposed and rounded weights. -/
def weights (w : FVec Ideal S2048x15440 .f32) : FVec Ideal S3200x2048 .bf16 :=
  truncf .bf16 (extractStridedSlice S3200x2048 ![0, 0] (transpose S15440x2048 [1, 0] w transposes_S2048x15440_S15440x2048_1_0) slices_S15440x2048_S3200x2048_0_0) bitsLt_bf16_f32

theorem weights_apply (w : FVec Ideal S2048x15440 .f32) (q : Fin 3200) (k : Fin 2048) :
    weights w (ix2 q k : S3200x2048.Idx) = w (ix2 k ⟨q.val, by omega⟩ : S2048x15440.Idx) := by
  unfold weights
  pointwise

theorem entry_v2 (c : Dev nD) : V m c main_v2 = weights (m ((c : Thread nD τ).loc main_arg2)) := rfl
theorem entry_v35 (c : Dev nD) : V m c main_v35 = shapeCast S1x2048 (m ((c : Thread nD τ).loc main_arg1)) shapeCasts_S2048_S1x2048 := rfl
theorem entry_v36 (c : Dev nD) : V m c main_v36 = shapeCast S1x128 (m ((c : Thread nD τ).loc main_arg3)) shapeCasts_S128_S1x128 := rfl
theorem entry_v37 (c : Dev nD) : V m c main_v37 = shapeCast S1x128 (m ((c : Thread nD τ).loc main_arg4)) shapeCasts_S128_S1x128 := rfl

/-- The padded samples laid one after the other, read at a row. -/
theorem stacked (x : FVec Ideal S8x16x2048 .f32) (h : S8x16x2048.ShapeCasts S128x2048) (p : Fin 128) (k : Fin 2048) :
    shapeCast S128x2048 x h (ix2 p k : S128x2048.Idx) = x (ix3 ⟨p.val / 16, by omega⟩ ⟨p.val % 16, by omega⟩ k : S8x16x2048.Idx) := by
  pointwise

/-- Row `r` of step `t`, among the rows of the padded samples. -/
abbrev at_ (t : Fin cfg0.N) (r : Fin 128) : Fin 128 := ⟨t.val * 128 + r.val, by have := (idx t).2.2.2.2.2.2.2; omega⟩

theorem sample_block (c : Dev nD) (t : Fin cfg0.N) (r : Fin 128) (k : Fin 2048) :
    iblk m c 0 t (ix2 r k : S128x2048.Idx)
      = Cert.ProjSRefIdeal.Read.val_main_v0 (F := Ideal) (m ((c : Thread nD τ).loc main_arg0)) (ix3 ⟨(at_ t r).val / 16, by omega⟩ ⟨(at_ t r).val % 16, by omega⟩ k : S8x16x2048.Idx) := by
  blk_simp [iblk]
  rw [entry_v4]
  have e : (win0_0.blk t).view.emb (ix2 r k : S128x2048.Idx) = (ix2 (at_ t r) k : S128x2048.Idx) := by blk_ext [idx t]
  rw [e]
  exact stacked _ _ (at_ t r) k

theorem norm_block (c : Dev nD) (t : Fin cfg0.N) (k : Fin 2048) :
    iblk m c 1 t (ix2 0 k : S1x2048.Idx) = m ((c : Thread nD τ).loc main_arg1) (ix1 k : S2048.Idx) := by
  blk_simp [iblk]
  rw [entry_v35]
  pointwise
  blk_ext [idx t]

theorem qgain_block (c : Dev nD) (t : Fin cfg0.N) (k : Fin 128) :
    iblk m c 3 t (ix2 0 k : S1x128.Idx) = m ((c : Thread nD τ).loc main_arg3) (ix1 k : S128.Idx) := by
  blk_simp [iblk]
  rw [entry_v36]
  pointwise
  blk_ext [idx t]

theorem kgain_block (c : Dev nD) (t : Fin cfg0.N) (k : Fin 128) :
    iblk m c 4 t (ix2 0 k : S1x128.Idx) = m ((c : Thread nD τ).loc main_arg4) (ix1 k : S128.Idx) := by
  blk_simp [iblk]
  rw [entry_v37]
  pointwise
  blk_ext [idx t]

theorem weights_block (c : Dev nD) (t : Fin cfg0.N) (q : Fin 3200) (k : Fin 2048) :
    iblk m c 2 t (ix2 q k : S3200x2048.Idx) = m ((c : Thread nD τ).loc main_arg2) (ix2 k ⟨q.val, by omega⟩ : S2048x15440.Idx) := by
  blk_simp [iblk]
  rw [entry_v2]
  have e : (win0_2.blk t).view.emb (ix2 q k : S3200x2048.Idx) = (ix2 q k : S3200x2048.Idx) := by blk_ext [idx t]
  rw [e]
  exact weights_apply _ q k

/-- The angles of the tables at position `16384 + r` and lane `l`. -/
def tableAngle (r l : ℕ) : EReal :=
  if l < 64 then laterAngle (Ideal.ofBits .f32 0x42800000#32) r l
  else laterAngle (Ideal.ofBits .f32 0x42000000#32) r ((l - 64) % 32)

/-- The inverse frequencies of heads of `2 n` numbers. -/
abbrev freq64 : FVec Ideal S64 .f32 :=
  Host.powf (broadcastInDim S64 ![] bcast_S_S64 (constant S_ .f32 0x461C4000#32 : FVec Ideal S_ .f32))
    (Host.divf (Host.negf (sitofp .f32 (iotaInDim S64 32 0))) (broadcastInDim S64 ![] bcast_S_S64 (constant S_ .f32 0x42800000#32 : FVec Ideal S_ .f32)))
abbrev freq32 : FVec Ideal S32 .f32 :=
  Host.powf (broadcastInDim S32 ![] bcast_S_S32 (constant S_ .f32 0x461C4000#32 : FVec Ideal S_ .f32))
    (Host.divf (Host.negf (sitofp .f32 (iotaInDim S32 32 0))) (broadcastInDim S32 ![] bcast_S_S32 (constant S_ .f32 0x42000000#32 : FVec Ideal S_ .f32)))

/-- The angles, as the host operations compute them. -/
def angles : FVec Ideal S16x128 .f32 :=
  mulf (broadcastInDim S16x128 ![0, 1] bcast_S16x1_S16x128_0_1 (broadcastInDim S16x1 ![0] bcast_S16_S16x1_0 (sitofp .f32 (addi (broadcastInDim S16 ![] bcast_S_S16 (constantI S_ 32 16384#32)) (iotaInDim S16 32 0)) : FVec Ideal S16 .f32)))
    (broadcastInDim S16x128 ![0, 1] bcast_S1x128_S16x128_0_1 (broadcastInDim S1x128 ![1] bcast_S128_S1x128_1
      (concatenate S128 0 [⟨S64, freq64⟩, ⟨S32, freq32⟩, ⟨S32, freq32⟩] concatenates_S64_S32_S32_S128_d0)))

/-- A table of sixteen positions, once for each of the eight samples. -/
def tiled (x : FVec Ideal S16x128 .f32) : FVec Ideal S128x128 .f32 :=
  shapeCast S128x128 (broadcastInDim S8x16x1x128 ![0, 1, 2, 3] bcast_S1x16x1x128_S8x16x1x128_0_1_2_3 (shapeCast S1x16x1x128 x shapeCasts_S16x128_S1x16x1x128))
    shapeCasts_S8x16x1x128_S128x128

theorem tiled_apply (x : FVec Ideal S16x128 .f32) (r l : Fin 128) : tiled x (ix2 r l : S128x128.Idx) = x (ix2 ⟨r.val % 16, by omega⟩ l : S16x128.Idx) := by
  unfold tiled
  pointwise

theorem entry_v31 (c : Dev nD) : V m c main_v31 = tiled (Host.cos angles) := rfl

theorem entry_v34 (c : Dev nD) : V m c main_v34 = tiled (Host.sin angles) := rfl

theorem angles_apply (r : Fin 16) (l : Fin 128) : angles (ix2 r l : S16x128.Idx) = tableAngle r.val l.val := by
  unfold angles freq64 freq32
  pointwise
  unfold tableAngle laterAngle
  by_cases h : l.val < 64
  · rw [dif_pos h, if_pos h]
  · rw [dif_neg h, if_neg h]
    by_cases h' : l.val - 64 < 32
    · rw [dif_pos h', Nat.mod_eq_of_lt h']
    · rw [dif_neg h', show (l.val - 64) % 32 = l.val - 64 - 32 by omega]

theorem cos_table (c : Dev nD) (r : Fin 128) (l : Fin 128) : V m c main_v31 (ix2 r l : S128x128.Idx) = Ideal.cos (tableAngle (r.val % 16) l.val) := by
  rw [entry_v31, tiled_apply, ← angles_apply ⟨r.val % 16, by omega⟩ l]
  rfl

theorem sin_table (c : Dev nD) (r : Fin 128) (l : Fin 128) : V m c main_v34 (ix2 r l : S128x128.Idx) = Ideal.sin (tableAngle (r.val % 16) l.val) := by
  rw [entry_v34, tiled_apply, ← angles_apply ⟨r.val % 16, by omega⟩ l]
  rfl

theorem cos_block (c : Dev nD) (t : Fin cfg0.N) (r : Fin 128) (l : Fin 128) :
    iblk m c 5 t (ix2 r l : S128x128.Idx) = Ideal.cos (tableAngle ((at_ t r).val % 16) l.val) := by
  have ht := (idx t).2.2.2.2.2.2.2
  blk_simp [iblk]
  have e : (win0_5.blk t).view.emb (ix2 r l : S128x128.Idx) = (ix2 (at_ t r) l : S128x128.Idx) := by
    blk_ext [idx t]
    all_goals first | rfl | omega
  rw [e]
  exact cos_table m c _ l

theorem sin_block (c : Dev nD) (t : Fin cfg0.N) (r : Fin 128) (l : Fin 128) :
    iblk m c 6 t (ix2 r l : S128x128.Idx) = Ideal.sin (tableAngle ((at_ t r).val % 16) l.val) := by
  have ht := (idx t).2.2.2.2.2.2.2
  blk_simp [iblk]
  have e : (win0_6.blk t).view.emb (ix2 r l : S128x128.Idx) = (ix2 (at_ t r) l : S128x128.Idx) := by
    blk_ext [idx t]
    all_goals first | rfl | omega
  rw [e]
  exact sin_table m c _ l

/-! ## The blocks a step works on -/

/-- The projection of the step's rows, the tables at its positions, and the gains. -/
def zb (c : Dev nD) (t : Fin cfg0.N) : FVec Ideal S128x3200 .f32 := k0_pay5 (iblk m c 0 t) (iblk m c 1 t) (iblk m c 2 t)
def cb (c : Dev nD) (t : Fin cfg0.N) : Vec Ideal S128x128 .f32 := iblk m c 5 t
def sb (c : Dev nD) (t : Fin cfg0.N) : Vec Ideal S128x128 .f32 := iblk m c 6 t
def qg (c : Dev nD) (t : Fin cfg0.N) : Vec Ideal S1x128 .f32 := iblk m c 3 t
def kg (c : Dev nD) (t : Fin cfg0.N) : Vec Ideal S1x128 .f32 := iblk m c 4 t

/-- Row `p` of the reference's projection, as a function of the kernel's arguments. -/
abbrev argRow (c : Dev nD) (p : Fin 128) (j : Fin 15440) : EReal :=
  row (m ((c : Thread nD τ).loc main_arg0)) (m ((c : Thread nD τ).loc main_arg1)) (m ((c : Thread nD τ).loc main_arg2)) p j

theorem zb_apply (c : Dev nD) (t : Fin cfg0.N) (r : Fin 128) (j : Fin 3200) :
    zb m c t (ix2 r j : S128x3200.Idx) = argRow m c (at_ t r) ⟨j.val, by omega⟩ := by
  unfold zb argRow row
  rw [Pure.proj_apply]
  exact congr (congr (congrArg (rmsDot _) (funext fun k => sample_block m c t r k)) (funext fun k => norm_block m c t k)) (funext fun k => weights_block m c t j k)

theorem qg_apply (c : Dev nD) (t : Fin cfg0.N) (k : Fin 128) : qg m c t (ix2 0 k : S1x128.Idx) = m ((c : Thread nD τ).loc main_arg3) (ix1 k : S128.Idx) := qgain_block m c t k
theorem kg_apply (c : Dev nD) (t : Fin cfg0.N) (k : Fin 128) : kg m c t (ix2 0 k : S1x128.Idx) = m ((c : Thread nD τ).loc main_arg4) (ix1 k : S128.Idx) := kgain_block m c t k

theorem cb_low (c : Dev nD) (t : Fin cfg0.N) (r : Fin 128) (i : Fin 64) : cb m c t (ix2 r ⟨i.val, by omega⟩ : S128x128.Idx) = cosQ (at_ t r) i := by
  refine (cos_block m c t r _).trans ?_
  unfold tableAngle cosQ
  rw [if_pos i.isLt]

theorem sb_low (c : Dev nD) (t : Fin cfg0.N) (r : Fin 128) (i : Fin 64) : sb m c t (ix2 r ⟨i.val, by omega⟩ : S128x128.Idx) = sinQ (at_ t r) i := by
  refine (sin_block m c t r _).trans ?_
  unfold tableAngle sinQ
  rw [if_pos i.isLt]

theorem cb_high (c : Dev nD) (t : Fin cfg0.N) (r : Fin 128) (i : Fin 64) :
    cb m c t (ix2 r ⟨64 + i.val, by omega⟩ : S128x128.Idx) = cosI (at_ t r) ⟨i.val % 32, by omega⟩ := by
  refine (cos_block m c t r _).trans ?_
  unfold tableAngle cosI
  rw [if_neg (show ¬ 64 + i.val < 64 by omega), show 64 + i.val - 64 = i.val by omega]

theorem sb_high (c : Dev nD) (t : Fin cfg0.N) (r : Fin 128) (i : Fin 64) :
    sb m c t (ix2 r ⟨64 + i.val, by omega⟩ : S128x128.Idx) = sinI (at_ t r) ⟨i.val % 32, by omega⟩ := by
  refine (sin_block m c t r _).trans ?_
  unfold tableAngle sinI
  rw [if_neg (show ¬ 64 + i.val < 64 by omega), show 64 + i.val - 64 = i.val by omega]

/-! ## The heads a step computes -/

/-- A head of 128 turned over its lanes is turned as the reference turns it. -/
theorem head_turn (c : Dev nD) (t : Fin cfg0.N) (r : Fin 128) (n : Fin 128 → EReal) (d : Fin 128) :
    turn n (fun d => k0_pay11 (F := Ideal) (cb m c t) (ix2 r d : S128x128.Idx)) (fun d => k0_pay12 (F := Ideal) (sb m c t) (ix2 r d : S128x128.Idx)) d
      = rope (h := 64) rfl n (cosQ (at_ t r)) (sinQ (at_ t r)) d := by
  rw [turn_eq_rope n _ _ (fun l => cb m c t (ix2 r l : S128x128.Idx)) (fun l => sb m c t (ix2 r l : S128x128.Idx)) (fun d => cq_apply _ r d) (fun d => sq_apply _ r d) d,
    show (fun i : Fin 64 => cb m c t (ix2 r ⟨i.val, by omega⟩ : S128x128.Idx)) = cosQ (at_ t r) from funext fun i => cb_low m c t r i,
    show (fun i : Fin 64 => sb m c t (ix2 r ⟨i.val, by omega⟩ : S128x128.Idx)) = sinQ (at_ t r) from funext fun i => sb_low m c t r i]

/-- Two heads of 64 turned over their lanes are turned as the reference turns them. -/
theorem heads_turn (c : Dev nD) (t : Fin cfg0.N) (r : Fin 128) (n : Fin 128 → EReal) (d : Fin 128) :
    turns n (fun d => k0_pay13 (F := Ideal) (cb m c t) (ix2 r d : S128x128.Idx)) (fun d => sinA (F := Ideal) (sb m c t) (ix2 r d : S128x128.Idx))
        (fun d => sinB (F := Ideal) (sb m c t) (ix2 r d : S128x128.Idx)) d
      = rope (h := 32) rfl (fun e : Fin 64 => n ⟨64 * (d.val / 64) + e.val, by omega⟩) (cosI (at_ t r)) (sinI (at_ t r)) ⟨d.val % 64, by omega⟩ :=
  turns_eq_rope n _ _ _ (fun l => cb m c t (ix2 r l : S128x128.Idx)) (fun l => sb m c t (ix2 r l : S128x128.Idx)) (fun d => ci_apply _ r d) (fun d => sa_apply _ r d)
    (fun d => sb_apply _ r d) _ _ (fun i => cb_high m c t r i) (fun i => sb_high m c t r i) d

/-! ## The reference's results, as functions of the kernel's arguments -/

section
open Cert.ProjSRefIdeal.Read

abbrev refQ (c : Dev nD) : FVec Ideal S128x1024 .bf16 := val_main_v182 (F := Ideal) (m ((c : Thread nD τ).loc main_arg0)) (m ((c : Thread nD τ).loc main_arg1))
  (m ((c : Thread nD τ).loc main_arg2)) (m ((c : Thread nD τ).loc main_arg3))
abbrev refK (c : Dev nD) : FVec Ideal S512x128 .f32 := val_main_v178 (F := Ideal) (m ((c : Thread nD τ).loc main_arg0)) (m ((c : Thread nD τ).loc main_arg1))
  (m ((c : Thread nD τ).loc main_arg2)) (m ((c : Thread nD τ).loc main_arg4))
abbrev refV (c : Dev nD) : FVec Ideal S512x128 .f32 := val_main_v179 (F := Ideal) (m ((c : Thread nD τ).loc main_arg0)) (m ((c : Thread nD τ).loc main_arg1))
  (m ((c : Thread nD τ).loc main_arg2))
abbrev refKb (c : Dev nD) : FVec Ideal S128x512 .bf16 := val_main_v184 (F := Ideal) (m ((c : Thread nD τ).loc main_arg0)) (m ((c : Thread nD τ).loc main_arg1))
  (m ((c : Thread nD τ).loc main_arg2)) (m ((c : Thread nD τ).loc main_arg4))
abbrev refVb (c : Dev nD) : FVec Ideal S128x512 .bf16 := val_main_v186 (F := Ideal) (m ((c : Thread nD τ).loc main_arg0)) (m ((c : Thread nD τ).loc main_arg1))
  (m ((c : Thread nD τ).loc main_arg2))
abbrev refQi (c : Dev nD) : FVec Ideal S128x1024 .bf16 := val_main_v188 (F := Ideal) (m ((c : Thread nD τ).loc main_arg0)) (m ((c : Thread nD τ).loc main_arg1))
  (m ((c : Thread nD τ).loc main_arg2))
abbrev refKi (c : Dev nD) : FVec Ideal S128x64 .f32 := val_main_v180 (F := Ideal) (m ((c : Thread nD τ).loc main_arg0)) (m ((c : Thread nD τ).loc main_arg1))
  (m ((c : Thread nD τ).loc main_arg2))
abbrev refKib (c : Dev nD) : FVec Ideal S128x64 .bf16 := val_main_v189 (F := Ideal) (m ((c : Thread nD τ).loc main_arg0)) (m ((c : Thread nD τ).loc main_arg1))
  (m ((c : Thread nD τ).loc main_arg2))
abbrev refWi (c : Dev nD) : FVec Ideal S128x16 .f32 := val_main_v190 (F := Ideal) (m ((c : Thread nD τ).loc main_arg0)) (m ((c : Thread nD τ).loc main_arg1))
  (m ((c : Thread nD τ).loc main_arg2))

end

theorem q_head (c : Dev nD) (t : Fin cfg0.N) (h : Fin 8) (r : Fin 128) (d : Fin 128) :
    qParts (zb m c t) (k0_pay11 (cb m c t)) (k0_pay12 (sb m c t)) (qg m c t) h (ix2 r d : S128x128.Idx)
      = refQ m c (ix2 (at_ t r) ⟨128 * h.val + d.val, by omega⟩ : S128x1024.Idx) := by
  rw [Pure.q_apply, head_turn]
  refine Eq.trans ?_ (Cert.ProjSRefIdeal.Pure.q_apply _ _ _ _ _ _).symm
  have e1 : (128 * h.val + d.val) / 128 * 128 = 128 * h.val := by omega
  have e2 : (128 * h.val + d.val) % 128 = d.val := by omega
  simp only [zb_apply, qg_apply, e1, e2]

theorem k_head (c : Dev nD) (t : Fin cfg0.N) (h : Fin 4) (r : Fin 128) (d : Fin 128) (p : Fin 512) (hp : p.val = (at_ t r).val * 4 + h.val) :
    kParts (zb m c t) (k0_pay11 (cb m c t)) (k0_pay12 (sb m c t)) (kg m c t) h (ix2 r d : S128x128.Idx) = refK m c (ix2 p d : S512x128.Idx) := by
  rw [Pure.k_apply, head_turn]
  refine Eq.trans ?_ (Cert.ProjSRefIdeal.Pure.k_apply _ _ _ _ _ _).symm
  have e1 : (⟨p.val / 4, by omega⟩ : Fin 128) = at_ t r := Fin.ext (show p.val / 4 = (at_ t r).val by omega)
  have e2 : ∀ e : Fin 128, 1024 + 128 * h.val + e.val = 1024 + (p.val % 4 * 128 + e.val) := fun e => by omega
  simp only [zb_apply, kg_apply, e1, e2]

theorem v_head (c : Dev nD) (t : Fin cfg0.N) (h : Fin 4) (r : Fin 128) (d : Fin 128) (p : Fin 512) (hp : p.val = (at_ t r).val * 4 + h.val) :
    vParts (zb m c t) h (ix2 r d : S128x128.Idx) = refV m c (ix2 p d : S512x128.Idx) := by
  rw [Pure.v_apply, zb_apply]
  refine Eq.trans ?_ (Cert.ProjSRefIdeal.Pure.v_apply _ _ _ _ _).symm
  have e1 : (⟨p.val / 4, by omega⟩ : Fin 128) = at_ t r := Fin.ext (show p.val / 4 = (at_ t r).val by omega)
  rw [e1]
  exact congrArg (row _ _ _ _) (Fin.ext (show 1536 + 128 * h.val + d.val = 1536 + (p.val % 4 * 128 + d.val) by omega))

theorem qi_head (c : Dev nD) (t : Fin cfg0.N) (h : Fin 8) (r : Fin 128) (d : Fin 128) :
    qiParts (zb m c t) (k0_pay13 (cb m c t)) (sinA (sb m c t)) (sinB (sb m c t)) h (ix2 r d : S128x128.Idx)
      = refQi m c (ix2 (at_ t r) ⟨128 * h.val + d.val, by omega⟩ : S128x1024.Idx) := by
  rw [Pure.qi_apply, heads_turn]
  refine Eq.trans ?_ (Cert.ProjSRefIdeal.Pure.qi_apply _ _ _ _ _).symm
  have e1 : ∀ e : Fin 64, 2048 + ((128 * h.val + d.val) / 64 * 64 + e.val) = 2048 + 128 * h.val + (64 * (d.val / 64) + e.val) := fun e => by omega
  have e2 : (128 * h.val + d.val) % 64 = d.val % 64 := by omega
  simp only [zb_apply, e1, e2]

theorem ki_head (c : Dev nD) (t : Fin cfg0.N) (r : Fin 128) (e : Fin 64) :
    k0_pay2 (F := Ideal) (zb m c t) (k0_pay13 (cb m c t)) (sinA (sb m c t)) (sinB (sb m c t)) (ix2 r e : S128x64.Idx) = refKi m c (ix2 (at_ t r) e : S128x64.Idx) := by
  rw [Pure.ki_apply, heads_turn]
  refine Eq.trans ?_ (Cert.ProjSRefIdeal.Pure.ki_apply _ _ _ _ _).symm
  have e1 : ∀ k : Fin 64, 3072 + (64 * (e.val / 64) + k.val) = 3072 + k.val := fun k => by omega
  have e2 : e.val % 64 = e.val := by omega
  simp only [zb_apply, e1, e2]

theorem wi_head (c : Dev nD) (t : Fin cfg0.N) (r : Fin 128) (e : Fin 16) :
    k0_pay4 (F := Ideal) (zb m c t) (ix2 r e : S128x16.Idx) = refWi m c (ix2 (at_ t r) e : S128x16.Idx) := by
  rw [Pure.wi_apply, zb_apply]
  exact (Cert.ProjSRefIdeal.Pure.wi_apply _ _ _ _ _).symm

/-! ## The buffers a step fills piece by piece -/

theorem columns8_apply (e : EltTy) (w : Fin 8 → S128x128.Idx → Elt Ideal e) (G : S128x1024.Idx → Elt Ideal e)
    (h : ∀ (k : Fin 8) (r : Fin 128) (d : Fin 128), w k (ix2 r d) = G (ix2 r ⟨128 * k.val + d.val, by omega⟩)) (y : S128x1024.Idx) :
    View.canon (columns8 e w) y = G y := by
  refine View.canon_apply_of_pieces G _ ?_ y (columns8_cover e w y)
  have key (k : Fin 8) (inb) (x : S128x128.Idx) : w k x = G ((Rect.unit (s := S128x1024) ![0, 128 * k.val] S128x128.size inb).emb x) := by
    idx_vars x
    rw [h]
    refine congrArg G (funext fun a => Fin.ext ?_)
    match a with
    | 0 => show x0.val = 0 + 1 * x0.val; omega
    | 1 => show 128 * k.val + x1.val = 128 * k.val + 1 * x1.val; omega
  unfold columns8
  simp only [List.forall_mem_cons]
  exact ⟨key 7 _, key 6 _, key 5 _, key 4 _, key 3 _, key 2 _, key 1 _, key 0 _, fun _ hp => absurd hp List.not_mem_nil⟩

theorem columns4_apply (e : EltTy) (w : Fin 4 → S128x128.Idx → Elt Ideal e) (G : S128x512.Idx → Elt Ideal e)
    (h : ∀ (k : Fin 4) (r : Fin 128) (d : Fin 128), w k (ix2 r d) = G (ix2 r ⟨128 * k.val + d.val, by omega⟩)) (y : S128x512.Idx) :
    View.canon (columns4 e w) y = G y := by
  refine View.canon_apply_of_pieces G _ ?_ y (columns4_cover e w y)
  have key (k : Fin 4) (inb) (x : S128x128.Idx) : w k x = G ((Rect.unit (s := S128x512) ![0, 128 * k.val] S128x128.size inb).emb x) := by
    idx_vars x
    rw [h]
    refine congrArg G (funext fun a => Fin.ext ?_)
    match a with
    | 0 => show x0.val = 0 + 1 * x0.val; omega
    | 1 => show 128 * k.val + x1.val = 128 * k.val + 1 * x1.val; omega
  unfold columns4
  simp only [List.forall_mem_cons]
  exact ⟨key 3 _, key 2 _, key 1 _, key 0 _, fun _ hp => absurd hp List.not_mem_nil⟩

theorem rows4_apply (e : EltTy) (w : Fin 4 → S128x128.Idx → Elt Ideal e) (G : S512x128.Idx → Elt Ideal e)
    (h : ∀ (k : Fin 4) (r : Fin 128) (d : Fin 128), w k (ix2 r d) = G (ix2 ⟨4 * r.val + k.val, by omega⟩ d)) (y : S512x128.Idx) :
    View.canon (rows4 e w) y = G y := by
  refine View.canon_apply_of_pieces G _ ?_ y (rows4_cover e w y)
  have key (k : Fin 4) (inb) (pos) (x : S128x128.Idx) :
      w k x = G ((⟨⟨![k.val, 0], S128x128.size, ![4, 1], inb⟩, pos⟩ : Rect S512x128).emb x) := by
    idx_vars x
    rw [h]
    refine congrArg G (funext fun a => Fin.ext ?_)
    match a with
    | 0 => show 4 * x0.val + k.val = k.val + 4 * x0.val; omega
    | 1 => show x1.val = 0 + 1 * x1.val; omega
  unfold rows4
  simp only [List.forall_mem_cons]
  exact ⟨key 3 _ _, key 2 _ _, key 1 _ _, key 0 _ _, fun _ hp => absurd hp List.not_mem_nil⟩

/-- Row `r` of step `t`'s keys, among the rows of all heads. -/
abbrev at4 (t : Fin cfg0.N) (r : Fin 512) : Fin 512 := ⟨t.val * 512 + r.val, by have := (idx t).2.2.2.2.2.2.2; omega⟩

theorem at4_eq (t : Fin cfg0.N) (k : Fin 4) (r : Fin 128) : (at4 t ⟨4 * r.val + k.val, by omega⟩).val = (at_ t r).val * 4 + k.val := by
  show t.val * 512 + (4 * r.val + k.val) = (t.val * 128 + r.val) * 4 + k.val
  omega

theorem kb_head (c : Dev nD) (t : Fin cfg0.N) (h : Fin 4) (r : Fin 128) (d : Fin 128) :
    kbParts (zb m c t) (k0_pay11 (cb m c t)) (k0_pay12 (sb m c t)) (kg m c t) h (ix2 r d : S128x128.Idx)
      = refKb m c (ix2 (at_ t r) ⟨128 * h.val + d.val, by omega⟩ : S128x512.Idx) := by
  rw [Pure.kb_apply]
  refine Eq.trans ?_ (Cert.ProjSRefIdeal.Pure.kb_apply _ _ _ _ _ _).symm
  have e2 : (128 * h.val + d.val) % 128 = d.val := by omega
  simp only [e2]
  exact k_head m c t h r d _ (by show (at_ t r).val * 4 + (128 * h.val + d.val) / 128 = _; omega)

theorem vb_head (c : Dev nD) (t : Fin cfg0.N) (h : Fin 4) (r : Fin 128) (d : Fin 128) :
    vbParts (zb m c t) h (ix2 r d : S128x128.Idx) = refVb m c (ix2 (at_ t r) ⟨128 * h.val + d.val, by omega⟩ : S128x512.Idx) := by
  rw [Pure.vb_apply]
  refine Eq.trans ?_ (Cert.ProjSRefIdeal.Pure.vb_apply _ _ _ _ _).symm
  have e2 : (128 * h.val + d.val) % 128 = d.val := by omega
  simp only [e2]
  exact v_head m c t h r d _ (by show (at_ t r).val * 4 + (128 * h.val + d.val) / 128 = _; omega)

/-! ## What a step stores, and the arrays after the run -/

/-- Step `t` stores the reference's queries at row `128 t + y 0`, column `y 1`. -/
theorem point_0 (c : Dev nD) (t : Fin cfg0.N) (y : S128x1024.Idx) (j : S128x1024.Idx) (h0 : (j 0).val = t.val * 128 + (y 0).val) (h1 : (j 1).val = (y 1).val) :
    out8 (F := Ideal) (iblk m c 0 t) (iblk m c 1 t) (iblk m c 2 t) (iblk m c 3 t) (iblk m c 4 t) (iblk m c 5 t) (iblk m c 6 t) y = refQ m c j := by
  idx_vars j
  idx_vars y
  obtain rfl : j0 = at_ t y0 := Fin.ext h0
  obtain rfl : j1 = y1 := Fin.ext h1
  exact columns8_apply .bf16 (qParts (zb m c t) (k0_pay11 (cb m c t)) (k0_pay12 (sb m c t)) (qg m c t)) (fun y => refQ m c (ix2 (at_ t (y 0)) (y 1) : S128x1024.Idx)) (fun k r d => q_head m c t k r d) _

/-- Step `t` stores the reference's keys at row `512 t + y 0`, column `y 1`. -/
theorem point_1 (c : Dev nD) (t : Fin cfg0.N) (y : S512x128.Idx) (j : S512x128.Idx) (h0 : (j 0).val = t.val * 512 + (y 0).val) (h1 : (j 1).val = (y 1).val) :
    out9 (F := Ideal) (iblk m c 0 t) (iblk m c 1 t) (iblk m c 2 t) (iblk m c 3 t) (iblk m c 4 t) (iblk m c 5 t) (iblk m c 6 t) y = refK m c j := by
  idx_vars j
  idx_vars y
  obtain rfl : j0 = at4 t y0 := Fin.ext h0
  obtain rfl : j1 = y1 := Fin.ext h1
  exact rows4_apply .f32 (kParts (zb m c t) (k0_pay11 (cb m c t)) (k0_pay12 (sb m c t)) (kg m c t)) (fun y => refK m c (ix2 (at4 t (y 0)) (y 1) : S512x128.Idx)) (fun k r d => k_head m c t k r d _ (at4_eq t k r)) _

/-- Step `t` stores the reference's values at row `512 t + y 0`, column `y 1`. -/
theorem point_2 (c : Dev nD) (t : Fin cfg0.N) (y : S512x128.Idx) (j : S512x128.Idx) (h0 : (j 0).val = t.val * 512 + (y 0).val) (h1 : (j 1).val = (y 1).val) :
    out10 (F := Ideal) (iblk m c 0 t) (iblk m c 1 t) (iblk m c 2 t) (iblk m c 3 t) (iblk m c 4 t) (iblk m c 5 t) (iblk m c 6 t) y = refV m c j := by
  idx_vars j
  idx_vars y
  obtain rfl : j0 = at4 t y0 := Fin.ext h0
  obtain rfl : j1 = y1 := Fin.ext h1
  exact rows4_apply .f32 (vParts (zb m c t)) (fun y => refV m c (ix2 (at4 t (y 0)) (y 1) : S512x128.Idx)) (fun k r d => v_head m c t k r d _ (at4_eq t k r)) _

/-- Step `t` stores the reference's rounded keys at row `128 t + y 0`, column `y 1`. -/
theorem point_3 (c : Dev nD) (t : Fin cfg0.N) (y : S128x512.Idx) (j : S128x512.Idx) (h0 : (j 0).val = t.val * 128 + (y 0).val) (h1 : (j 1).val = (y 1).val) :
    out11 (F := Ideal) (iblk m c 0 t) (iblk m c 1 t) (iblk m c 2 t) (iblk m c 3 t) (iblk m c 4 t) (iblk m c 5 t) (iblk m c 6 t) y = refKb m c j := by
  idx_vars j
  idx_vars y
  obtain rfl : j0 = at_ t y0 := Fin.ext h0
  obtain rfl : j1 = y1 := Fin.ext h1
  exact columns4_apply .bf16 (kbParts (zb m c t) (k0_pay11 (cb m c t)) (k0_pay12 (sb m c t)) (kg m c t)) (fun y => refKb m c (ix2 (at_ t (y 0)) (y 1) : S128x512.Idx)) (fun k r d => kb_head m c t k r d) _

/-- Step `t` stores the reference's rounded values at row `128 t + y 0`, column `y 1`. -/
theorem point_4 (c : Dev nD) (t : Fin cfg0.N) (y : S128x512.Idx) (j : S128x512.Idx) (h0 : (j 0).val = t.val * 128 + (y 0).val) (h1 : (j 1).val = (y 1).val) :
    out12 (F := Ideal) (iblk m c 0 t) (iblk m c 1 t) (iblk m c 2 t) (iblk m c 3 t) (iblk m c 4 t) (iblk m c 5 t) (iblk m c 6 t) y = refVb m c j := by
  idx_vars j
  idx_vars y
  obtain rfl : j0 = at_ t y0 := Fin.ext h0
  obtain rfl : j1 = y1 := Fin.ext h1
  exact columns4_apply .bf16 (vbParts (zb m c t)) (fun y => refVb m c (ix2 (at_ t (y 0)) (y 1) : S128x512.Idx)) (fun k r d => vb_head m c t k r d) _

/-- Step `t` stores the reference's indexer's queries at row `128 t + y 0`, column `y 1`. -/
theorem point_5 (c : Dev nD) (t : Fin cfg0.N) (y : S128x1024.Idx) (j : S128x1024.Idx) (h0 : (j 0).val = t.val * 128 + (y 0).val) (h1 : (j 1).val = (y 1).val) :
    out13 (F := Ideal) (iblk m c 0 t) (iblk m c 1 t) (iblk m c 2 t) (iblk m c 3 t) (iblk m c 4 t) (iblk m c 5 t) (iblk m c 6 t) y = refQi m c j := by
  idx_vars j
  idx_vars y
  obtain rfl : j0 = at_ t y0 := Fin.ext h0
  obtain rfl : j1 = y1 := Fin.ext h1
  exact columns8_apply .bf16 (qiParts (zb m c t) (k0_pay13 (cb m c t)) (sinA (sb m c t)) (sinB (sb m c t))) (fun y => refQi m c (ix2 (at_ t (y 0)) (y 1) : S128x1024.Idx)) (fun k r d => qi_head m c t k r d) _

/-- Step `t` stores the reference's indexer's keys at row `128 t + y 0`, column `y 1`. -/
theorem point_6 (c : Dev nD) (t : Fin cfg0.N) (y : S128x64.Idx) (j : S128x64.Idx) (h0 : (j 0).val = t.val * 128 + (y 0).val) (h1 : (j 1).val = (y 1).val) :
    out14 (F := Ideal) (iblk m c 0 t) (iblk m c 1 t) (iblk m c 2 t) (iblk m c 3 t) (iblk m c 4 t) (iblk m c 5 t) (iblk m c 6 t) y = refKi m c j := by
  idx_vars j
  idx_vars y
  obtain rfl : j0 = at_ t y0 := Fin.ext h0
  obtain rfl : j1 = y1 := Fin.ext h1
  exact ki_head m c t _ _

/-- Step `t` stores the reference's indexer's rounded keys at row `128 t + y 0`, column `y 1`. -/
theorem point_7 (c : Dev nD) (t : Fin cfg0.N) (y : S128x64.Idx) (j : S128x64.Idx) (h0 : (j 0).val = t.val * 128 + (y 0).val) (h1 : (j 1).val = (y 1).val) :
    out15 (F := Ideal) (iblk m c 0 t) (iblk m c 1 t) (iblk m c 2 t) (iblk m c 3 t) (iblk m c 4 t) (iblk m c 5 t) (iblk m c 6 t) y = refKib m c j := by
  idx_vars j
  idx_vars y
  obtain rfl : j0 = at_ t y0 := Fin.ext h0
  obtain rfl : j1 = y1 := Fin.ext h1
  exact (ki_head m c t _ _ : _)

/-- Step `t` stores the reference's indexer's weights at row `128 t + y 0`, column `y 1`. -/
theorem point_8 (c : Dev nD) (t : Fin cfg0.N) (y : S128x16.Idx) (j : S128x16.Idx) (h0 : (j 0).val = t.val * 128 + (y 0).val) (h1 : (j 1).val = (y 1).val) :
    out16 (F := Ideal) (iblk m c 0 t) (iblk m c 1 t) (iblk m c 2 t) (iblk m c 3 t) (iblk m c 4 t) (iblk m c 5 t) (iblk m c 6 t) y = refWi m c j := by
  idx_vars j
  idx_vars y
  obtain rfl : j0 = at_ t y0 := Fin.ext h0
  obtain rfl : j1 = y1 := Fin.ext h1
  exact wi_head m c t _ _

theorem final_0 (c : Dev nD) : (dats m 0 c).arrAt 7 cfg0.N = refQ m c := by
  refine (dats m 0 c).arrAt_eq_of_covers 7 _ (by decide +kernel) fun t _ y => ?_
  blk_simp
  rw [after_7]
  refine point_0 m c t y _ ?_ ?_ <;> (blk_simp [idx_out t] <;> try omega)

theorem final_1 (c : Dev nD) : (dats m 0 c).arrAt 8 cfg0.N = refK m c := by
  refine (dats m 0 c).arrAt_eq_of_covers 8 _ (by decide +kernel) fun t _ y => ?_
  blk_simp
  rw [after_8]
  refine point_1 m c t y _ ?_ ?_ <;> (blk_simp [idx_out t] <;> try omega)

theorem final_2 (c : Dev nD) : (dats m 0 c).arrAt 9 cfg0.N = refV m c := by
  refine (dats m 0 c).arrAt_eq_of_covers 9 _ (by decide +kernel) fun t _ y => ?_
  blk_simp
  rw [after_9]
  refine point_2 m c t y _ ?_ ?_ <;> (blk_simp [idx_out t] <;> try omega)

theorem final_3 (c : Dev nD) : (dats m 0 c).arrAt 10 cfg0.N = refKb m c := by
  refine (dats m 0 c).arrAt_eq_of_covers 10 _ (by decide +kernel) fun t _ y => ?_
  blk_simp
  rw [after_10]
  refine point_3 m c t y _ ?_ ?_ <;> (blk_simp [idx_out t] <;> try omega)

theorem final_4 (c : Dev nD) : (dats m 0 c).arrAt 11 cfg0.N = refVb m c := by
  refine (dats m 0 c).arrAt_eq_of_covers 11 _ (by decide +kernel) fun t _ y => ?_
  blk_simp
  rw [after_11]
  refine point_4 m c t y _ ?_ ?_ <;> (blk_simp [idx_out t] <;> try omega)

theorem final_5 (c : Dev nD) : (dats m 0 c).arrAt 12 cfg0.N = refQi m c := by
  refine (dats m 0 c).arrAt_eq_of_covers 12 _ (by decide +kernel) fun t _ y => ?_
  blk_simp
  rw [after_12]
  refine point_5 m c t y _ ?_ ?_ <;> (blk_simp [idx_out t] <;> try omega)

theorem final_6 (c : Dev nD) : (dats m 0 c).arrAt 13 cfg0.N = refKi m c := by
  refine (dats m 0 c).arrAt_eq_of_covers 13 _ (by decide +kernel) fun t _ y => ?_
  blk_simp
  rw [after_13]
  refine point_6 m c t y _ ?_ ?_ <;> (blk_simp [idx_out t] <;> try omega)

theorem final_7 (c : Dev nD) : (dats m 0 c).arrAt 14 cfg0.N = refKib m c := by
  refine (dats m 0 c).arrAt_eq_of_covers 14 _ (by decide +kernel) fun t _ y => ?_
  blk_simp
  rw [after_14]
  refine point_7 m c t y _ ?_ ?_ <;> (blk_simp [idx_out t] <;> try omega)

theorem final_8 (c : Dev nD) : (dats m 0 c).arrAt 15 cfg0.N = refWi m c := by
  refine (dats m 0 c).arrAt_eq_of_covers 15 _ (by decide +kernel) fun t _ y => ?_
  blk_simp
  rw [after_15]
  refine point_8 m c t y _ ?_ ?_ <;> (blk_simp [idx_out t] <;> try omega)

set_option maxHeartbeats 4000000 in
/-- The run, with each result named and the arguments unchanged. -/
theorem run_arrays (ρ : Dev nD → PrngReg) : θ_run defs (onTc (τ := τ) (main (F := Ideal))) ⟨m, fun _ => 0, ρ⟩ fun r => ∀ c : Dev nD,
      r.2.mem ((c : Thread nD τ).loc main_v38_0) = refQ m c
      ∧ r.2.mem ((c : Thread nD τ).loc main_v38_1) = refK m c
      ∧ r.2.mem ((c : Thread nD τ).loc main_v38_2) = refV m c
      ∧ r.2.mem ((c : Thread nD τ).loc main_v38_3) = refKb m c
      ∧ r.2.mem ((c : Thread nD τ).loc main_v38_4) = refVb m c
      ∧ r.2.mem ((c : Thread nD τ).loc main_v38_5) = refQi m c
      ∧ r.2.mem ((c : Thread nD τ).loc main_v38_6) = refKi m c
      ∧ r.2.mem ((c : Thread nD τ).loc main_v38_7) = refKib m c
      ∧ r.2.mem ((c : Thread nD τ).loc main_v38_8) = refWi m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h.1 c).1 7).trans (final_0 m c),
      ((h.1 c).1 8).trans (final_1 m c),
      ((h.1 c).1 9).trans (final_2 m c),
      ((h.1 c).1 10).trans (final_3 m c),
      ((h.1 c).1 11).trans (final_4 m c),
      ((h.1 c).1 12).trans (final_5 m c),
      ((h.1 c).1 13).trans (final_6 m c),
      ((h.1 c).1 14).trans (final_7 m c),
      ((h.1 c).1 15).trans (final_8 m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩)
    (run_main m ρ)

end Cert.ProjSIdeal.Arrays

end
-- ==== Proof.Keeps.lean ====
/- Programs that keep what they are lent: a program of loads, stores, loops and branches whose every access is to memory
   that `R` lends it gives `R` back, whatever it computes. -/
module

public import Idealize.ShloMosaic.Lib.Tactic
public import Idealize.ShloMosaic.Lib.Pipeline.FrameBody

@[expose] public section

noncomputable section

namespace Cert.Keep

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U] {Lvl : Type} [Preorder Lvl] {Λ : Labels}

local notation "𝕄" => MT nD τ sig Ix Val Name U Lvl

variable (defs : Defs nD τ sig Val Λ) (𝒱 : Variants) (c : Dev nD) (bd : Option 𝒱.V)

/-- The program gives `R` back, whatever it yields. -/
def Keeps (R : sProp 𝕄) {α : Type} (p : Prog (TpuEff nD τ sig Val Λ .tc) α) : Prop :=
  ∀ E : Set Name, R ⊢ wp frame (wpE (Ix := Ix) (Name := Name) (U := U) (Lvl := Lvl) defs 𝒱 (c : Thread nD τ) bd) E p (fun _ => R)

/-- `R` lends the memref for reading: it holds it at some contents, and is whole again with the same contents back. -/
def Lends (R : sProp 𝕄) {sp : Space} {sh : Shape} {e : EltTy} (m : Memref sig .tc sp sh e) : Prop :=
  R ⊢ (iprop(∃ f : Buf Val (m.view.loc (c : Thread nD τ)), (m.view.loc (c : Thread nD τ) ↦[m.view.set]{fullShare} f)
    ∗ ((m.view.loc (c : Thread nD τ) ↦[m.view.set]{fullShare} f) -∗ R)) : sProp 𝕄)

/-- `R` lends the memref for writing: it is whole again with any contents back. -/
def Yields (R : sProp 𝕄) {sp : Space} {sh : Shape} {e : EltTy} (m : Memref sig .tc sp sh e) : Prop :=
  R ⊢ (iprop(∃ f : Buf Val (m.view.loc (c : Thread nD τ)), (m.view.loc (c : Thread nD τ) ↦[m.view.set]{fullShare} f)
    ∗ (∀ g, (m.view.loc (c : Thread nD τ) ↦[m.view.set]{fullShare} g) -∗ R)) : sProp 𝕄)

variable {defs 𝒱 c bd}

/-- A continuation shared by several branches is shown to give back what it was lent once. -/
theorem Keeps.join {R : sProp 𝕄} {α β γ : Type} (f : β → Prog (TpuEff nD τ sig Val Λ .tc) γ) {p : Prog (TpuEff nD τ sig Val Λ .tc) α}
    (hf : ∀ y, Keeps defs 𝒱 c bd R (f y)) (hp : (∀ y, Keeps defs 𝒱 c bd R (f y)) → Keeps defs 𝒱 c bd R p) : Keeps defs 𝒱 c bd R p := hp hf

/-- What is lent for writing is lent for reading. -/
theorem Yields.lends {R : sProp 𝕄} {sp : Space} {sh : Shape} {e : EltTy} {m : Memref sig .tc sp sh e} (h : Yields c R m) : Lends c R m := by
  refine h.trans ?_
  iintro ⟨%f, Hf, Hk⟩
  iexists f
  isplitl [Hf]
  · iexact Hf
  · iapply Hk

theorem Keeps.pure {R : sProp 𝕄} {α : Type} (a : α) : Keeps defs 𝒱 c bd R (Pure.pure a) := fun E => by
  rw [wp_pure]; exact BI.fupd_intro

theorem Keeps.bind {R : sProp 𝕄} {α β : Type} {p : Prog (TpuEff nD τ sig Val Λ .tc) α} {k : α → Prog (TpuEff nD τ sig Val Λ .tc) β}
    (hp : Keeps defs 𝒱 c bd R p) (hk : ∀ a, Keeps defs 𝒱 c bd R (k a)) : Keeps defs 𝒱 c bd R (p >>= k) := fun E => by
  rw [wp_bind]; exact (hp E).trans (wp_mono _ _ _ fun a => hk a E)

theorem Keeps.load {R : sProp 𝕄} {cs : CoreSpace} {sh : Shape} {e : EltTy} {m : Memref sig .tc cs sh e} {r : LoadRect sh}
    {hl : m.view.LoadsAt r} (h : Lends c R m) : Keeps defs 𝒱 c bd R (Prog.lift (.load m r hl)) := fun E => by
  refine h.trans ?_
  iintro ⟨%f, Hf, Hk⟩
  iapply (wp_load (c := (c : Thread nD τ)) (m := m) (r := r) (hl := hl) 𝒱 bd E (View.setOn_subset_set _ _)) $$ Hf
  iintro Hf
  rw [wp_ret]
  imodintro
  iapply Hk
  iexact Hf

theorem Keeps.store {R : sProp 𝕄} {cs : CoreSpace} {sh : Shape} {e : EltTy} {m : Memref sig .tc cs sh e} {r : Rect sh}
    {w : r.shape.Idx → Val e} {Mk : Finset r.shape.Idx} {hx : (m.access r).Stores Mk}
    {hm : Mk = Finset.univ ∨ ∀ a, r.stride a = 1} (h : Yields c R m) :
    Keeps defs 𝒱 c bd R (Prog.lift (.store m r w Mk hx hm)) := fun E => by
  refine h.trans ?_
  iintro ⟨%f, Hf, Hk⟩
  iapply (wp_store (c := (c : Thread nD τ)) (m := m) (r := r) (w := w) (Mk := Mk) (hx := hx) (hm := hm) 𝒱 bd E ((View.setOn_subset_set _ _).trans (View.set_slice_subset _ _))) $$ Hf
  iintro Hf
  rw [wp_ret]
  imodintro
  iapply Hk
  iexact Hf

theorem Keeps.loop {R : sProp 𝕄} {w : Nat} {σ : Type} {l : Scf.Loop w} {hok : l.OK} {init : σ}
    {body : Fin l.trips → σ → Prog (TpuEff nD τ sig Val Λ .tc) σ}
    (h : ∀ k acc, Keeps defs 𝒱 c bd R (body k acc)) : Keeps defs 𝒱 c bd R (Scf.Loop.for l hok init body) := fun E => by
  refine .trans ?_ (Scf.wp_for _ _ _ _ _ _ _ _ _ (fun _ _ => R) (fun k acc => h k acc E))
  iintro H
  isplitl [H]
  · iexact H
  · iintro %acc H
    iexact H

theorem Keeps.ite {R : sProp 𝕄} {α : Type} {P : Prop} [Decidable P] {a b : Prog (TpuEff nD τ sig Val Λ .tc) α}
    (ha : Keeps defs 𝒱 c bd R a) (hb : Keeps defs 𝒱 c bd R b) : Keeps defs 𝒱 c bd R (if P then a else b) := by
  split
  · exact ha
  · exact hb

theorem Keeps.dite {R : sProp 𝕄} {α : Type} {P : Prop} [Decidable P] {a : P → Prog (TpuEff nD τ sig Val Λ .tc) α}
    {b : ¬ P → Prog (TpuEff nD τ sig Val Λ .tc) α}
    (ha : ∀ h, Keeps defs 𝒱 c bd R (a h)) (hb : ∀ h, Keeps defs 𝒱 c bd R (b h)) :
    Keeps defs 𝒱 c bd R (if h : P then a h else b h) := by
  split
  · exact ha _
  · exact hb _

/-! ## What lends what -/

theorem Lends.left {R S : sProp 𝕄} {sp : Space} {sh : Shape} {e : EltTy} {m : Memref sig .tc sp sh e} (h : Lends c R m) :
    Lends c iprop(R ∗ S) m := by
  unfold Lends at h ⊢
  iintro ⟨HR, HS⟩
  ihave HR := h $$ HR
  icases HR with ⟨%f, Hf, Hk⟩
  iexists f
  isplitl [Hf]; · iexact Hf
  iintro Hf
  isplitl [Hf Hk]
  · iapply Hk; iexact Hf
  · iexact HS

theorem Lends.right {R S : sProp 𝕄} {sp : Space} {sh : Shape} {e : EltTy} {m : Memref sig .tc sp sh e} (h : Lends c S m) :
    Lends c iprop(R ∗ S) m := by
  unfold Lends at h ⊢
  iintro ⟨HR, HS⟩
  ihave HS := h $$ HS
  icases HS with ⟨%f, Hf, Hk⟩
  iexists f
  isplitl [Hf]; · iexact Hf
  iintro Hf
  isplitl [HR]
  · iexact HR
  · iapply Hk; iexact Hf

theorem Yields.left {R S : sProp 𝕄} {sp : Space} {sh : Shape} {e : EltTy} {m : Memref sig .tc sp sh e} (h : Yields c R m) :
    Yields c iprop(R ∗ S) m := by
  unfold Yields at h ⊢
  iintro ⟨HR, HS⟩
  ihave HR := h $$ HR
  icases HR with ⟨%f, Hf, Hk⟩
  iexists f
  isplitl [Hf]; · iexact Hf
  iintro %g Hf
  isplitl [Hf Hk]
  · iapply Hk; iexact Hf
  · iexact HS

theorem Yields.right {R S : sProp 𝕄} {sp : Space} {sh : Shape} {e : EltTy} {m : Memref sig .tc sp sh e} (h : Yields c S m) :
    Yields c iprop(R ∗ S) m := by
  unfold Yields at h ⊢
  iintro ⟨HR, HS⟩
  ihave HS := h $$ HS
  icases HS with ⟨%f, Hf, Hk⟩
  iexists f
  isplitl [Hf]; · iexact Hf
  iintro %g Hf
  isplitl [HR]
  · iexact HR
  · iapply Hk; iexact Hf

/-- A memref owned at fixed contents is lent for reading. -/
theorem lends_owns {δ : Type} {sp : Space} {sh : Shape} {e : EltTy} {m : Memref sig .tc sp sh e} {X : sh.Idx → Val e} :
    Lends c (iprop(∃ _ : δ, owns (c : Thread nD τ) m fullShare X) : sProp 𝕄) m := by
  unfold Lends owns
  iintro ⟨%d, %f, %hf, Hf⟩
  iexists f
  isplitl [Hf]; · iexact Hf
  iintro Hf
  iexists d
  iexists f
  isplitr
  · ipureintro; exact hf
  · iexact Hf

/-- A memref owned at some contents is lent for writing. -/
theorem yields_owns {sp : Space} {sh : Shape} {e : EltTy} {m : Memref sig .tc sp sh e} :
    Yields c (iprop(∃ X, owns (c : Thread nD τ) m fullShare X) : sProp 𝕄) m := by
  unfold Yields owns
  iintro ⟨%X, %f, %hf, Hf⟩
  iexists f
  isplitl [Hf]; · iexact Hf
  iintro %g Hf
  iexists _
  iexists g
  isplitr
  · ipureintro; rfl
  · iexact Hf

end Cert.Keep
-- ==== Proof.DsaBody.lean ====
/- The body of the sparse attention reads and writes only the memory it is called with, and ends: over any memory that lends it
   its operands, it gives all of it back. -/
module

public import proofs.«01_k».proof.Proof.Keeps
public import proofs.«01_k».proof.Proof.Gen.DsaIdeal.Skeleton

@[expose] public section

noncomputable section

namespace Cert.DsaIdeal.Body

open Cert.Keep Cert.DsaIdeal.Gen
open Idealize.ShloMosaic Idealize.ShloMosaic.TcCoe
open Idealize.SL Idealize.SL.RA Idealize.SL.BI
open scoped Idealize.SL.BI

variable {F : FTy → Type} [FloatOps F]

local notation "𝕄" => MT nD τ sig Unit (Elt F) ℕ (UR sig nD τ) ℕ

set_option maxRecDepth 65536 in
set_option maxHeartbeats 0 in
/-- The first part: what a tile of keys is scored against, and the scratch at the start of a row of tiles. -/
theorem keeps_part40 {c : Dev nD} {𝒱 : Variants} {bd : Option 𝒱.V} {R : sProp 𝕄} {i : grid0.Coords}
    {arg2 : Memref sig .tc .vmem S128x1024 .bf16} {harg2 : arg2.IsWhole}
    {arg3 : Memref sig .tc .vmem S16x128 .f32} {harg3 : arg3.IsWhole}
    {arg4 : Memref sig .tc .vmem S128x1024 .bf16} {harg4 : arg4.IsWhole}
    {arg5 : Memref sig .tc .vmem S4096x64 .bf16} {harg5 : arg5.IsWhole}
    {arg6 : Memref sig .tc .vmem S4096x512 .bf16} {harg6 : arg6.IsWhole}
    {arg7 : Memref sig .tc .vmem S4096x512 .bf16} {harg7 : arg7.IsWhole}
    {arg8 : Memref sig .tc .vmem S128x1024 .bf16} {harg8 : arg8.IsWhole}
    {arg9 : Memref sig .tc .vmem S8x512x128 .f32} {harg9 : arg9.IsWhole}
    {arg10 : Memref sig .tc .vmem S8x512x128 .f32} {harg10 : arg10.IsWhole}
    {arg11 : Memref sig .tc .vmem S8x512x512 .bf16} {harg11 : arg11.IsWhole}
    {arg12 : Memref sig .tc .vmem S1x128 .f32} {harg12 : arg12.IsWhole}
    {arg13 : Memref sig .tc .vmem S1x128 .i32} {harg13 : arg13.IsWhole}
    {arg14 : Memref sig .tc .vmem S8x4x512x256 .f32} {harg14 : arg14.IsWhole}
    {arg15 : Memref sig .tc .vmem S4x128x256 .f32} {harg15 : arg15.IsWhole}
    (h2 : Lends c R arg2)
    (h3 : Lends c R arg3)
    (h4 : Lends c R arg4)
    (h5 : Lends c R arg5)
    (h6 : Lends c R arg6)
    (h7 : Lends c R arg7)
    (h8 : Yields c R arg8)
    (h9 : Yields c R arg9)
    (h10 : Yields c R arg10)
    (h11 : Yields c R arg11)
    (h12 : Yields c R arg12)
    (h13 : Yields c R arg13)
    (h14 : Yields c R arg14)
    (h15 : Yields c R arg15) :
    Keeps (defs₀ (F := F)) 𝒱 c bd R (k0_part40 i arg2 harg2 arg3 harg3 arg4 harg4 arg5 harg5 arg6 harg6 arg7 harg7 arg8 harg8 arg9 harg9 arg10 harg10 arg11 harg11 arg12 harg12 arg13 harg13 arg14 harg14 arg15 harg15) := by
  have l8 := h8.lends
  have l9 := h9.lends
  have l10 := h10.lends
  have l11 := h11.lends
  have l12 := h12.lends
  have l13 := h13.lends
  have l14 := h14.lends
  have l15 := h15.lends
  rw [k0_part40_eq_skeleton]; unfold k0_part40_skel
  repeat' first
    | (extract_lets +onlyGivenNames v
       refine Keeps.join (defs := defs₀ (F := F)) (𝒱 := 𝒱) (c := c) (bd := bd) (R := R) v (fun y => ?_) fun hv => ?_
       on_goal 1 => unfold v; clear v
       on_goal 2 => clear_value v)
    | (extract_lets +onlyGivenNames v; clear_value v)
    | with_reducible exact Keeps.pure _
    | (with_reducible refine Keeps.bind ?_ fun a => ?_)
    | (with_reducible apply Keeps.load; with_reducible assumption)
    | (with_reducible apply Keeps.store; with_reducible assumption)
    | (with_reducible refine Keeps.loop fun k a => ?_)
    | with_reducible refine Keeps.dite (fun a => ?_) fun a => ?_
    | with_reducible refine Keeps.ite ?_ ?_
    | (casesm _ ×' _; dsimp -zeta only)
    | (casesm _ × _; dsimp -zeta only)
    | (rw [k0_part1_eq_skeleton]; unfold k0_part1_skel)
    | (rw [k0_part2_eq_skeleton]; unfold k0_part2_skel)
    | (rw [k0_part3_eq_skeleton]; unfold k0_part3_skel)
    | (rw [k0_part4_eq_skeleton]; unfold k0_part4_skel)
    | (rw [k0_part5_eq_skeleton]; unfold k0_part5_skel)
    | (rw [k0_part6_eq_skeleton]; unfold k0_part6_skel)
    | (rw [k0_part7_eq_skeleton]; unfold k0_part7_skel)
    | with_reducible apply_assumption

set_option maxRecDepth 65536 in
set_option maxHeartbeats 0 in
/-- The part with the search for the threshold, whose two branches go on in the same way. -/
theorem keeps_part43 {c : Dev nD} {𝒱 : Variants} {bd : Option 𝒱.V} {R : sProp 𝕄} {i : grid0.Coords}
    {arg2 : Memref sig .tc .vmem S128x1024 .bf16} {harg2 : arg2.IsWhole}
    {arg3 : Memref sig .tc .vmem S16x128 .f32} {harg3 : arg3.IsWhole}
    {arg4 : Memref sig .tc .vmem S128x1024 .bf16} {harg4 : arg4.IsWhole}
    {arg5 : Memref sig .tc .vmem S4096x64 .bf16} {harg5 : arg5.IsWhole}
    {arg6 : Memref sig .tc .vmem S4096x512 .bf16} {harg6 : arg6.IsWhole}
    {arg7 : Memref sig .tc .vmem S4096x512 .bf16} {harg7 : arg7.IsWhole}
    {arg8 : Memref sig .tc .vmem S128x1024 .bf16} {harg8 : arg8.IsWhole}
    {arg9 : Memref sig .tc .vmem S8x512x128 .f32} {harg9 : arg9.IsWhole}
    {arg10 : Memref sig .tc .vmem S8x512x128 .f32} {harg10 : arg10.IsWhole}
    {arg11 : Memref sig .tc .vmem S8x512x512 .bf16} {harg11 : arg11.IsWhole}
    {arg12 : Memref sig .tc .vmem S1x128 .f32} {harg12 : arg12.IsWhole}
    {arg13 : Memref sig .tc .vmem S1x128 .i32} {harg13 : arg13.IsWhole}
    {arg14 : Memref sig .tc .vmem S8x4x512x256 .f32} {harg14 : arg14.IsWhole}
    {arg15 : Memref sig .tc .vmem S4x128x256 .f32} {harg15 : arg15.IsWhole}
    (h2 : Lends c R arg2)
    (h3 : Lends c R arg3)
    (h4 : Lends c R arg4)
    (h5 : Lends c R arg5)
    (h6 : Lends c R arg6)
    (h7 : Lends c R arg7)
    (h8 : Yields c R arg8)
    (h9 : Yields c R arg9)
    (h10 : Yields c R arg10)
    (h11 : Yields c R arg11)
    (h12 : Yields c R arg12)
    (h13 : Yields c R arg13)
    (h14 : Yields c R arg14)
    (h15 : Yields c R arg15)
    (v20 : BitVec 32) (v25 : IVec S512x1 32) (v104 : FVec F S1x128 .f32) (v120 : IVec S1x1x128 32) :
    Keeps (defs₀ (F := F)) 𝒱 c bd R (k0_part43 i arg2 harg2 arg3 harg3 arg4 harg4 arg5 harg5 arg6 harg6 arg7 harg7 arg8 harg8 arg9 harg9 arg10 harg10 arg11 harg11 arg12 harg12 arg13 harg13 arg14 harg14 arg15 harg15 v20 v25 v104 v120) := by
  have l8 := h8.lends
  have l9 := h9.lends
  have l10 := h10.lends
  have l11 := h11.lends
  have l12 := h12.lends
  have l13 := h13.lends
  have l14 := h14.lends
  have l15 := h15.lends
  rw [k0_part43_eq_skeleton]; unfold k0_part43_skel
  extract_lets +onlyGivenNames -useContext -merge v123 v124 v125 v126 jp
  refine Keeps.join (defs := defs₀ (F := F)) (𝒱 := 𝒱) (c := c) (bd := bd) (R := R) jp (fun y => ?_) fun hjp => ?_
  on_goal 1 => unfold jp; clear jp
  rotate_left
  clear_value jp v126
  with_reducible refine Keeps.ite ?_ (hjp _)
  refine Keeps.bind ?_ fun a => ?_
  rotate_left
  obtain ⟨w, u⟩ := a
  dsimp -zeta only
  extract_lets +onlyGivenNames -useContext -merge v334 v335 v336 v337 jp'
  have hjp' : ∀ y, Keeps (defs₀ (F := F)) 𝒱 c bd R (jp' y) := fun _ => hjp _
  clear_value jp' v337
  with_reducible refine Keeps.ite ?_ (hjp' _)
  repeat' first
    | (casesm _ ×' _; dsimp -zeta only)
    | (casesm _ × _; dsimp -zeta only)
    | (extract_lets +onlyGivenNames v; clear_value v)
    | with_reducible exact Keeps.pure _
    | with_reducible apply_assumption
    | (with_reducible refine Keeps.bind ?_ fun a => ?_)
    | (with_reducible apply Keeps.load; with_reducible assumption)
    | (with_reducible apply Keeps.store; with_reducible assumption)
    | (with_reducible refine Keeps.loop fun k a => ?_)
    | with_reducible refine Keeps.dite (fun a => ?_) fun a => ?_
    | with_reducible refine Keeps.ite ?_ ?_
    | (rw [k0_part22_eq_skeleton]; unfold k0_part22_skel)
    | unfold k0_t6_body
    | unfold k0_t7_body
    | unfold k0_t8_body
    | unfold k0_t9_body
    | unfold k0_t10_body
    | unfold k0_t11_body
    | unfold k0_t12_body
    | unfold k0_t13_body
    | unfold k0_t14_body
    | unfold k0_t15_body
    | unfold k0_t16_body
    | unfold k0_t17_body
    | unfold k0_t18_body
    | unfold k0_t19_body

set_option maxRecDepth 65536 in
set_option maxHeartbeats 0 in
/-- The part with the first walk over the selected keys. -/
theorem keeps_part44 {c : Dev nD} {𝒱 : Variants} {bd : Option 𝒱.V} {R : sProp 𝕄} {i : grid0.Coords}
    {arg2 : Memref sig .tc .vmem S128x1024 .bf16} {harg2 : arg2.IsWhole}
    {arg3 : Memref sig .tc .vmem S16x128 .f32} {harg3 : arg3.IsWhole}
    {arg4 : Memref sig .tc .vmem S128x1024 .bf16} {harg4 : arg4.IsWhole}
    {arg5 : Memref sig .tc .vmem S4096x64 .bf16} {harg5 : arg5.IsWhole}
    {arg6 : Memref sig .tc .vmem S4096x512 .bf16} {harg6 : arg6.IsWhole}
    {arg7 : Memref sig .tc .vmem S4096x512 .bf16} {harg7 : arg7.IsWhole}
    {arg8 : Memref sig .tc .vmem S128x1024 .bf16} {harg8 : arg8.IsWhole}
    {arg9 : Memref sig .tc .vmem S8x512x128 .f32} {harg9 : arg9.IsWhole}
    {arg10 : Memref sig .tc .vmem S8x512x128 .f32} {harg10 : arg10.IsWhole}
    {arg11 : Memref sig .tc .vmem S8x512x512 .bf16} {harg11 : arg11.IsWhole}
    {arg12 : Memref sig .tc .vmem S1x128 .f32} {harg12 : arg12.IsWhole}
    {arg13 : Memref sig .tc .vmem S1x128 .i32} {harg13 : arg13.IsWhole}
    {arg14 : Memref sig .tc .vmem S8x4x512x256 .f32} {harg14 : arg14.IsWhole}
    {arg15 : Memref sig .tc .vmem S4x128x256 .f32} {harg15 : arg15.IsWhole}
    (h2 : Lends c R arg2)
    (h3 : Lends c R arg3)
    (h4 : Lends c R arg4)
    (h5 : Lends c R arg5)
    (h6 : Lends c R arg6)
    (h7 : Lends c R arg7)
    (h8 : Yields c R arg8)
    (h9 : Yields c R arg9)
    (h10 : Yields c R arg10)
    (h11 : Yields c R arg11)
    (h12 : Yields c R arg12)
    (h13 : Yields c R arg13)
    (h14 : Yields c R arg14)
    (h15 : Yields c R arg15)
    (v20 : BitVec 32) (v141 : FVec F S256x128 .bf16) (v146 : FVec F S256x128 .bf16) (v151 : FVec F S256x128 .bf16) :
    Keeps (defs₀ (F := F)) 𝒱 c bd R (k0_part44 i arg2 harg2 arg3 harg3 arg4 harg4 arg5 harg5 arg6 harg6 arg7 harg7 arg8 harg8 arg9 harg9 arg10 harg10 arg11 harg11 arg12 harg12 arg13 harg13 arg14 harg14 arg15 harg15 v20 v141 v146 v151) := by
  have l8 := h8.lends
  have l9 := h9.lends
  have l10 := h10.lends
  have l11 := h11.lends
  have l12 := h12.lends
  have l13 := h13.lends
  have l14 := h14.lends
  have l15 := h15.lends
  rw [k0_part44_eq_skeleton]; unfold k0_part44_skel
  repeat' first
    | (extract_lets +onlyGivenNames v
       refine Keeps.join (defs := defs₀ (F := F)) (𝒱 := 𝒱) (c := c) (bd := bd) (R := R) v (fun y => ?_) fun hv => ?_
       on_goal 1 => unfold v; clear v
       on_goal 2 => clear_value v)
    | (extract_lets +onlyGivenNames v; clear_value v)
    | with_reducible exact Keeps.pure _
    | (with_reducible refine Keeps.bind ?_ fun a => ?_)
    | (with_reducible apply Keeps.load; with_reducible assumption)
    | (with_reducible apply Keeps.store; with_reducible assumption)
    | (with_reducible refine Keeps.loop fun k a => ?_)
    | with_reducible refine Keeps.dite (fun a => ?_) fun a => ?_
    | with_reducible refine Keeps.ite ?_ ?_
    | (casesm _ ×' _; dsimp -zeta only)
    | (casesm _ × _; dsimp -zeta only)
    | (rw [k0_part23_eq_skeleton]; unfold k0_part23_skel)
    | (rw [k0_part24_eq_skeleton]; unfold k0_part24_skel)
    | (rw [k0_part25_eq_skeleton]; unfold k0_part25_skel)
    | (rw [k0_part26_eq_skeleton]; unfold k0_part26_skel)
    | (rw [k0_part27_eq_skeleton]; unfold k0_part27_skel)
    | (rw [k0_part28_eq_skeleton]; unfold k0_part28_skel)
    | unfold k0_t20_body
    | unfold k0_t21_body
    | with_reducible apply_assumption

set_option maxRecDepth 65536 in
set_option maxHeartbeats 0 in
/-- The part with the second walk over the selected keys. -/
theorem keeps_part45 {c : Dev nD} {𝒱 : Variants} {bd : Option 𝒱.V} {R : sProp 𝕄} {i : grid0.Coords}
    {arg2 : Memref sig .tc .vmem S128x1024 .bf16} {harg2 : arg2.IsWhole}
    {arg3 : Memref sig .tc .vmem S16x128 .f32} {harg3 : arg3.IsWhole}
    {arg4 : Memref sig .tc .vmem S128x1024 .bf16} {harg4 : arg4.IsWhole}
    {arg5 : Memref sig .tc .vmem S4096x64 .bf16} {harg5 : arg5.IsWhole}
    {arg6 : Memref sig .tc .vmem S4096x512 .bf16} {harg6 : arg6.IsWhole}
    {arg7 : Memref sig .tc .vmem S4096x512 .bf16} {harg7 : arg7.IsWhole}
    {arg8 : Memref sig .tc .vmem S128x1024 .bf16} {harg8 : arg8.IsWhole}
    {arg9 : Memref sig .tc .vmem S8x512x128 .f32} {harg9 : arg9.IsWhole}
    {arg10 : Memref sig .tc .vmem S8x512x128 .f32} {harg10 : arg10.IsWhole}
    {arg11 : Memref sig .tc .vmem S8x512x512 .bf16} {harg11 : arg11.IsWhole}
    {arg12 : Memref sig .tc .vmem S1x128 .f32} {harg12 : arg12.IsWhole}
    {arg13 : Memref sig .tc .vmem S1x128 .i32} {harg13 : arg13.IsWhole}
    {arg14 : Memref sig .tc .vmem S8x4x512x256 .f32} {harg14 : arg14.IsWhole}
    {arg15 : Memref sig .tc .vmem S4x128x256 .f32} {harg15 : arg15.IsWhole}
    (h2 : Lends c R arg2)
    (h3 : Lends c R arg3)
    (h4 : Lends c R arg4)
    (h5 : Lends c R arg5)
    (h6 : Lends c R arg6)
    (h7 : Lends c R arg7)
    (h8 : Yields c R arg8)
    (h9 : Yields c R arg9)
    (h10 : Yields c R arg10)
    (h11 : Yields c R arg11)
    (h12 : Yields c R arg12)
    (h13 : Yields c R arg13)
    (h14 : Yields c R arg14)
    (h15 : Yields c R arg15)
    (v20 : BitVec 32) (v141 : FVec F S256x128 .bf16) (v146 : FVec F S256x128 .bf16) (v151 : FVec F S256x128 .bf16) (v156 : FVec F S256x128 .bf16) (v181_0 : FVec F S1x256 .f32) (v181_1 : FVec F S1x256 .f32) (v181_2 : FVec F S1x256 .f32) (v181_3 : FVec F S1x256 .f32) (v191 : BitVec 32) :
    Keeps (defs₀ (F := F)) 𝒱 c bd R (k0_part45 i arg2 harg2 arg3 harg3 arg4 harg4 arg5 harg5 arg6 harg6 arg7 harg7 arg8 harg8 arg9 harg9 arg10 harg10 arg11 harg11 arg12 harg12 arg13 harg13 arg14 harg14 arg15 harg15 v20 v141 v146 v151 v156 v181_0 v181_1 v181_2 v181_3 v191) := by
  have l8 := h8.lends
  have l9 := h9.lends
  have l10 := h10.lends
  have l11 := h11.lends
  have l12 := h12.lends
  have l13 := h13.lends
  have l14 := h14.lends
  have l15 := h15.lends
  rw [k0_part45_eq_skeleton]; unfold k0_part45_skel
  repeat' first
    | (extract_lets +onlyGivenNames v
       refine Keeps.join (defs := defs₀ (F := F)) (𝒱 := 𝒱) (c := c) (bd := bd) (R := R) v (fun y => ?_) fun hv => ?_
       on_goal 1 => unfold v; clear v
       on_goal 2 => clear_value v)
    | (extract_lets +onlyGivenNames v; clear_value v)
    | with_reducible exact Keeps.pure _
    | (with_reducible refine Keeps.bind ?_ fun a => ?_)
    | (with_reducible apply Keeps.load; with_reducible assumption)
    | (with_reducible apply Keeps.store; with_reducible assumption)
    | (with_reducible refine Keeps.loop fun k a => ?_)
    | with_reducible refine Keeps.dite (fun a => ?_) fun a => ?_
    | with_reducible refine Keeps.ite ?_ ?_
    | (casesm _ ×' _; dsimp -zeta only)
    | (casesm _ × _; dsimp -zeta only)
    | (rw [k0_part29_eq_skeleton]; unfold k0_part29_skel)
    | (rw [k0_part30_eq_skeleton]; unfold k0_part30_skel)
    | (rw [k0_part31_eq_skeleton]; unfold k0_part31_skel)
    | (rw [k0_part32_eq_skeleton]; unfold k0_part32_skel)
    | (rw [k0_part33_eq_skeleton]; unfold k0_part33_skel)
    | (rw [k0_part34_eq_skeleton]; unfold k0_part34_skel)
    | (rw [k0_part35_eq_skeleton]; unfold k0_part35_skel)
    | (rw [k0_part36_eq_skeleton]; unfold k0_part36_skel)
    | (rw [k0_part37_eq_skeleton]; unfold k0_part37_skel)
    | unfold k0_t22_body
    | unfold k0_t23_body
    | with_reducible apply_assumption

set_option maxRecDepth 65536 in
set_option maxHeartbeats 0 in
/-- The body, called with six operands to read and eight buffers to write, gives back what it was lent. -/
theorem keeps_body {c : Dev nD} {𝒱 : Variants} {bd : Option 𝒱.V} {R : sProp 𝕄} {i : grid0.Coords}
    {arg2 : Memref sig .tc .vmem S128x1024 .bf16} {harg2 : arg2.IsWhole}
    {arg3 : Memref sig .tc .vmem S16x128 .f32} {harg3 : arg3.IsWhole}
    {arg4 : Memref sig .tc .vmem S128x1024 .bf16} {harg4 : arg4.IsWhole}
    {arg5 : Memref sig .tc .vmem S4096x64 .bf16} {harg5 : arg5.IsWhole}
    {arg6 : Memref sig .tc .vmem S4096x512 .bf16} {harg6 : arg6.IsWhole}
    {arg7 : Memref sig .tc .vmem S4096x512 .bf16} {harg7 : arg7.IsWhole}
    {arg8 : Memref sig .tc .vmem S128x1024 .bf16} {harg8 : arg8.IsWhole}
    {arg9 : Memref sig .tc .vmem S8x512x128 .f32} {harg9 : arg9.IsWhole}
    {arg10 : Memref sig .tc .vmem S8x512x128 .f32} {harg10 : arg10.IsWhole}
    {arg11 : Memref sig .tc .vmem S8x512x512 .bf16} {harg11 : arg11.IsWhole}
    {arg12 : Memref sig .tc .vmem S1x128 .f32} {harg12 : arg12.IsWhole}
    {arg13 : Memref sig .tc .vmem S1x128 .i32} {harg13 : arg13.IsWhole}
    {arg14 : Memref sig .tc .vmem S8x4x512x256 .f32} {harg14 : arg14.IsWhole}
    {arg15 : Memref sig .tc .vmem S4x128x256 .f32} {harg15 : arg15.IsWhole}
    (h2 : Lends c R arg2)
    (h3 : Lends c R arg3)
    (h4 : Lends c R arg4)
    (h5 : Lends c R arg5)
    (h6 : Lends c R arg6)
    (h7 : Lends c R arg7)
    (h8 : Yields c R arg8)
    (h9 : Yields c R arg9)
    (h10 : Yields c R arg10)
    (h11 : Yields c R arg11)
    (h12 : Yields c R arg12)
    (h13 : Yields c R arg13)
    (h14 : Yields c R arg14)
    (h15 : Yields c R arg15) :
    Keeps (defs₀ (F := F)) 𝒱 c bd R (cc0_dsa_prompt i arg2 harg2 arg3 harg3 arg4 harg4 arg5 harg5 arg6 harg6 arg7 harg7 arg8 harg8 arg9 harg9 arg10 harg10 arg11 harg11 arg12 harg12 arg13 harg13 arg14 harg14 arg15 harg15) := by
  have l8 := h8.lends
  have l9 := h9.lends
  have l10 := h10.lends
  have l11 := h11.lends
  have l12 := h12.lends
  have l13 := h13.lends
  have l14 := h14.lends
  have l15 := h15.lends
  rw [cc0_dsa_prompt_eq_skeleton]; unfold cc0_dsa_prompt_skel
  repeat' first
    | (extract_lets +onlyGivenNames v
       refine Keeps.join (defs := defs₀ (F := F)) (𝒱 := 𝒱) (c := c) (bd := bd) (R := R) v (fun y => ?_) fun hv => ?_
       on_goal 1 => unfold v; clear v
       on_goal 2 => clear_value v)
    | (extract_lets +onlyGivenNames v; clear_value v)
    | with_reducible exact Keeps.pure _
    | (with_reducible refine Keeps.bind ?_ fun a => ?_)
    | (with_reducible apply Keeps.load; with_reducible assumption)
    | (with_reducible apply Keeps.store; with_reducible assumption)
    | (with_reducible refine Keeps.loop fun k a => ?_)
    | with_reducible refine Keeps.dite (fun a => ?_) fun a => ?_
    | with_reducible refine Keeps.ite ?_ ?_
    | (casesm _ ×' _; dsimp -zeta only)
    | (casesm _ × _; dsimp -zeta only)
    | (rw [k0_part8_eq_skeleton]; unfold k0_part8_skel)
    | (rw [k0_part9_eq_skeleton]; unfold k0_part9_skel)
    | (rw [k0_part10_eq_skeleton]; unfold k0_part10_skel)
    | (rw [k0_part11_eq_skeleton]; unfold k0_part11_skel)
    | (rw [k0_part12_eq_skeleton]; unfold k0_part12_skel)
    | (rw [k0_part13_eq_skeleton]; unfold k0_part13_skel)
    | (rw [k0_part14_eq_skeleton]; unfold k0_part14_skel)
    | (rw [k0_part15_eq_skeleton]; unfold k0_part15_skel)
    | (rw [k0_part16_eq_skeleton]; unfold k0_part16_skel)
    | (rw [k0_part17_eq_skeleton]; unfold k0_part17_skel)
    | (rw [k0_part18_eq_skeleton]; unfold k0_part18_skel)
    | (rw [k0_part19_eq_skeleton]; unfold k0_part19_skel)
    | (rw [k0_part20_eq_skeleton]; unfold k0_part20_skel)
    | (rw [k0_part21_eq_skeleton]; unfold k0_part21_skel)
    | (rw [k0_part38_eq_skeleton]; unfold k0_part38_skel)
    | (rw [k0_part39_eq_skeleton]; unfold k0_part39_skel)
    | (with_reducible apply keeps_part40 <;> with_reducible assumption)
    | (rw [k0_part41_eq_skeleton]; unfold k0_part41_skel)
    | (rw [k0_part42_eq_skeleton]; unfold k0_part42_skel)
    | (with_reducible apply keeps_part43 <;> with_reducible assumption)
    | (with_reducible apply keeps_part44 <;> with_reducible assumption)
    | (with_reducible apply keeps_part45 <;> with_reducible assumption)
    | (rw [k0_part46_eq_skeleton]; unfold k0_part46_skel)
    | unfold k0_t1_body
    | unfold k0_t2_body
    | unfold k0_t3_body
    | unfold k0_t4_body
    | unfold k0_t5_body
    | with_reducible apply_assumption

end Cert.DsaIdeal.Body
-- ==== Proof.DsaFrame.lean ====
/- The frame of the sparse attention: it runs, ends with its operands unchanged and every counter at zero. What the body leaves
   in the output isn't named. -/
module

public import proofs.«01_k».proof.Proof.DsaBody
public import proofs.«01_k».proof.Proof.Gen.DsaIdeal.Launch
public import proofs.«01_k».proof.Proof.Gen.DsaIdeal.Points
public import proofs.«01_k».proof.Proof.Gen.DsaIdeal.Frame
public import Idealize.ShloMosaic.Lib.Claim

@[expose] public section

noncomputable section

namespace Cert.DsaIdeal.Run

open Cert.Keep Cert.DsaIdeal.Gen Cert.DsaIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output's contents are left unnamed. -/
def forgets : Fin 7 → Bool := fun w => w.val == 6

/-- The pipeline's data: the arrays as the launch finds them; an input's buffer holds its block after every step. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]

/-- The invariant between steps: each scratch buffer at some contents, and the generator's register. -/
theorem inv_eq (c : Dev nD) :
    (Pipeline.ΦA spec0 c : sProp 𝕄)
      = iprop(iprop((∃ d, owns (c : Thread nD τ) (Memref.whole cc0_scratch0) fullShare d)
        ∗ (∃ d, owns (c : Thread nD τ) (Memref.whole cc0_scratch1) fullShare d)
        ∗ (∃ d, owns (c : Thread nD τ) (Memref.whole cc0_scratch2) fullShare d)
        ∗ (∃ d, owns (c : Thread nD τ) (Memref.whole cc0_scratch3) fullShare d)
        ∗ (∃ d, owns (c : Thread nD τ) (Memref.whole cc0_scratch4) fullShare d)
        ∗ (∃ d, owns (c : Thread nD τ) (Memref.whole cc0_scratch5) fullShare d)
        ∗ (∃ d, owns (c : Thread nD τ) (Memref.whole cc0_scratch6) fullShare d)) ∗ (∃ r, prngReg c r)) := by
  unfold Pipeline.ΦA; rw [scopedRest0_eq]; simp only [owns_whole]; try rfl

/-- What the body is called with at a step. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare d))

/-- What it gives back. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (∃ d, owns (c : Thread nD τ) (st0_6 t) fullShare d))

/-- A memref owned at contents that follow from some value is lent for reading. -/
theorem lends_of {c : Dev nD} {δ : Type} {sp : Space} {sh : Shape} {e : EltTy} {m : Memref sig .tc sp sh e} {X : δ → sh.Idx → Elt F e} :
    Lends c (iprop(∃ d : δ, owns (c : Thread nD τ) m fullShare (X d)) : sProp 𝕄) m := by
  unfold Lends owns
  iintro ⟨%d, %f, %hf, Hf⟩
  iexists f
  isplitl [Hf]; · iexact Hf
  iintro Hf
  iexists d
  iexists f
  isplitr
  · ipureintro; exact hf
  · iexact Hf

/-- What is lent to the body is what it gives back. -/
theorem pre_post (c : Dev nD) (t : Fin cfg0.N) : bodyPre m c t ⊢ bodyPost m c t := by
  unfold bodyPre bodyPost
  simp only [before0_0_of m (dats m 0 c) (A_eq m c 0) (after_0 m c), before0_1_of m (dats m 0 c) (A_eq m c 1) (after_1 m c),
    before0_2_of m (dats m 0 c) (A_eq m c 2) (after_2 m c), before0_3_of m (dats m 0 c) (A_eq m c 3) (after_3 m c),
    before0_4_of m (dats m 0 c) (A_eq m c 4) (after_4 m c), before0_5_of m (dats m 0 c) (A_eq m c 5) (after_5 m c)]
  rw [show (dats m 0 c).Φ t.castSucc = Pipeline.ΦA spec0 c from rfl, show (dats m 0 c).Φ t.succ = Pipeline.ΦA spec0 c from rfl, inv_eq,
    show (dats m 0 c).owesAt () t.succ = (dats m 0 c).owesAt () t.castSucc from rfl]
  have live (w : Fin cfg0.W) (h : cfg0.idle w (grid0.coords t) = false) : (dats m 0 c).leavesExact w t
      = owns (c : Thread nD τ) ((cfg0.win w).stage (cfg0.slots t w)) fullShare ((dats m 0 c).after w t) := by
    unfold Dat.leavesExact; rw [h]
  rw [live 0 rfl, live 1 rfl, live 2 rfl, live 3 rfl, live 4 rfl, live 5 rfl, after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at any step. -/
theorem sound_body (c : Dev nD) (t : Fin cfg0.N) :
    bodyPre m c t ⊢ wp frame (wpE (defs₀ (F := F)) Variants.none c none) Set.univ (bodyAt0 t) (fun _ => bodyPost m c t) := by
  have h : Keeps (defs₀ (F := F)) Variants.none c none (bodyPre m c t) (bodyAt0 t) := by
    unfold bodyPre
    rw [show (dats m 0 c).Φ t.castSucc = Pipeline.ΦA spec0 c from rfl, inv_eq]
    refine keeps_body ?_ ?_ ?_ ?_ ?_ ?_ ?_ ?_ ?_ ?_ ?_ ?_ ?_ ?_
    · exact lends_of.left.right.right
    · exact lends_of.left.right.right.right
    · exact lends_of.left.right.right.right.right
    · exact lends_of.left.right.right.right.right.right
    · exact lends_of.left.right.right.right.right.right.right
    · exact lends_of.left.right.right.right.right.right.right.right
    · exact yields_owns.right.right.right.right.right.right.right.right
    · exact yields_owns.left.left.left
    · exact yields_owns.left.right.left.left
    · exact yields_owns.left.right.right.left.left
    · exact yields_owns.left.right.right.right.left.left
    · exact yields_owns.left.right.right.right.right.left.left
    · exact yields_owns.left.right.right.right.right.right.left.left
    · exact yields_owns.right.right.right.right.right.right.left.left
  exact (h Set.univ).trans (wp_mono _ _ _ fun _ => pre_post m c t)

theorem body_row (t : Fin cfg0.N) :
    defs₀ (F := F) .tc cfg0.body (cfg0.bodyArgs t (cfg0.slots t)) = bodyAt0 t := by
  unfold defs₀; rw [Defs.onTc_tc]

/-- The library's body obligation. -/
theorem body_obligation (c : Dev nD) :
    BodyObligation (dats (F := F) m 0 c) (defs₀ (F := F)) Variants.none () Set.univ forgets := fun t => by
  rw [bigSep_W0, bigSep_W0, body_row]
  exact triple_restated (sound_body m c t) rfl .rfl fun _ => .rfl

-- the launch theorem's implicit arguments are found by unfolding plain definitions
set_option backward.isDefEq.respectTransparency.types false in
/-- The launch: every operand array is as it was found, and every counter is zero. -/
theorem run_main : θ_run defs (onTc (τ := τ) (main (F := F))) (s₀ m ρ)
    (fun r => (Pipeline.RDat.FramePost (cfgs 0) (fun c => (dats m 0 c).toRForget forgets) (V m)) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, for any floating-point values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩)
    (run_main m ρ)

end Cert.DsaIdeal.Run
-- ==== Proof.lean ====
module

public import proofs.«01_k».proof.Defs
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MemKV
public import proofs.«01_k».proof.Proof.Gen.MemKV.Skeleton
public import proofs.«01_k».proof.Proof.Gen.MemKV.Launch
public import proofs.«01_k».proof.Proof.Gen.MemKV.Points
public import proofs.«01_k».proof.Proof.Gen.MemKV.Frame
public import proofs.«01_k».proof.Proof.Gen.MemKVIdeal
public import proofs.«01_k».proof.Proof.Gen.MemKVIdeal.Skeleton
public import proofs.«01_k».proof.Proof.Gen.MemKVIdeal.Launch
public import proofs.«01_k».proof.Proof.Gen.MemKVIdeal.Points
public import proofs.«01_k».proof.Proof.Gen.MemKVIdeal.Frame
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.MemKVRefIdeal
public import proofs.«01_k».proof.Proof.Gen.MemKVRefIdeal.Run
public import proofs.«01_k».proof.Proof.Gen.MemKVRefIdeal.Read
public import proofs.«01_k».proof.Proof.Gen.MergeIdeal.Value
public import proofs.«01_k».proof.Proof.Gen.MemKVIdeal.Value
public import proofs.«01_k».proof.Proof.Gen.ProjS
public import proofs.«01_k».proof.Proof.Gen.ProjSIdeal
public import proofs.«01_k».proof.Proof.Gen.ProjSIdeal.Skeleton
public import proofs.«01_k».proof.Proof.Gen.ProjSIdeal.Launch
public import proofs.«01_k».proof.Proof.Gen.ProjSIdeal.Points
public import proofs.«01_k».proof.Proof.Gen.ProjSIdeal.Frame
public import proofs.«01_k».proof.Proof.Gen.ProjSRefIdeal
public import proofs.«01_k».proof.Proof.Gen.ProjSRefIdeal.Run
public import proofs.«01_k».proof.Proof.Gen.ProjSRefIdeal.Read
public import proofs.«01_k».proof.Proof.Gen.Dsa
public import proofs.«01_k».proof.Proof.Gen.DsaIdeal
public import proofs.«01_k».proof.Proof.Gen.DsaIdeal.Skeleton
public import proofs.«01_k».proof.Proof.Gen.DsaIdeal.Launch
public import proofs.«01_k».proof.Proof.Gen.DsaIdeal.Points
public import proofs.«01_k».proof.Proof.Gen.DsaIdeal.Frame
public import proofs.«01_k».proof.Proof.Gen.ProjRest
public import proofs.«01_k».proof.Proof.Gen.ProjRestIdeal
public import proofs.«01_k».proof.Proof.Gen.ProjRestIdeal.Skeleton
public import proofs.«01_k».proof.Proof.Gen.ProjRestIdeal.Launch
public import proofs.«01_k».proof.Proof.Gen.ProjRestIdeal.Points
public import proofs.«01_k».proof.Proof.Gen.ProjRestIdeal.Frame
public import proofs.«01_k».proof.Proof.Gen.ProjRestRefIdeal
public import proofs.«01_k».proof.Proof.Gen.ProjRestRefIdeal.Run
public import proofs.«01_k».proof.Proof.Gen.ProjRestRefIdeal.Read
public import proofs.«01_k».proof.Proof.Gen.ProjA
public import proofs.«01_k».proof.Proof.Gen.ProjAIdeal
public import proofs.«01_k».proof.Proof.Gen.ProjAIdeal.Skeleton
public import proofs.«01_k».proof.Proof.Gen.ProjAIdeal.Launch
public import proofs.«01_k».proof.Proof.Gen.ProjAIdeal.Points
public import proofs.«01_k».proof.Proof.Gen.ProjAIdeal.Frame
public import proofs.«01_k».proof.Proof.Gen.ProjARefIdeal
public import proofs.«01_k».proof.Proof.Gen.ProjARefIdeal.Run
public import proofs.«01_k».proof.Proof.Gen.ProjARefIdeal.Read
public import proofs.«01_k».proof.Proof.MemValue
public import proofs.«01_k».proof.Proof.MergeFinal
public import proofs.«01_k».proof.Proof.RestValue
public import proofs.«01_k».proof.Proof.ProjValue
public import proofs.«01_k».proof.Proof.ProjSValue
public import proofs.«01_k».proof.Proof.DsaFrame
public import Idealize.ShloMosaic.Adequacy
public import Idealize.ShloMosaic.Init

@[expose] public section

noncomputable section

namespace Cert.Proof

open Idealize.ShloMosaic Idealize.SL.Sem

/-- The reference of `merge` leaves its arguments as they are. -/
theorem frame_mergeRef : Cert.quiescent_MergeRefIdeal := fun m ρ _ =>
  (θ_run Cert.MergeRefIdeal.defs _ _).mono
    (fun _ h => ⟨fun c => (h c).2, sem_eq_zero_of_no_sems rfl _⟩) (Cert.MergeRefIdeal.Value.run m ρ)

/-- The reference of `mem_kv` leaves its arguments as they are. -/
theorem frame_memRef : Cert.quiescent_MemKVRefIdeal := fun m ρ _ =>
  (θ_run Cert.MemKVRefIdeal.defs _ _).mono
    (fun _ h => ⟨fun c => (h c).2.2.2.2, sem_eq_zero_of_no_sems rfl _⟩) (Cert.MemKVRefIdeal.Value.run m ρ)

/-- The reference of `proj_rest` leaves its arguments as they are. -/
theorem frame_restRef : Cert.quiescent_ProjRestRefIdeal := fun m ρ _ =>
  (θ_run Cert.ProjRestRefIdeal.defs _ _).mono
    (fun _ h => ⟨fun c => (h c).2.2, sem_eq_zero_of_no_sems rfl _⟩) (Cert.ProjRestRefIdeal.Value.run m ρ)

/-- The printed projection and its ideal reading run the same kernel body at every grid point. -/
theorem rest_bodies : @Cert.ProjRest.defs₀ Bits _ Cert.ProjRest.Gen.facts = @Cert.ProjRestIdeal.defs₀ Bits _ Cert.ProjRestIdeal.Gen.facts := by
  unfold Cert.ProjRest.defs₀ Cert.ProjRestIdeal.defs₀
  refine congrArg Defs.onTc ?_
  funext l a
  match l, a with
  | 0, (t, s) => rfl
  | ⟨n + 1, h⟩, _ => exact absurd h (Nat.not_lt.2 (Nat.le_add_left _ _))

/-- So the two programs have the same table of bodies. -/
theorem rest_tables : @Cert.ProjRest.defs Bits _ Cert.ProjRest.Gen.facts = @Cert.ProjRestIdeal.defs Bits _ Cert.ProjRestIdeal.Gen.facts :=
  congrArg (Pipeline.defs (Cert.ProjRestIdeal.pcfgs (F := Bits))) rest_bodies

/-- The call `proj_rest`, over bit patterns and over the extended reals: one run for any floating-point values. -/
theorem frame_rest : Cert.quiescent_ProjRest := fun m ρ _ => by
  rw [rest_tables]
  exact (θ_run Cert.ProjRestIdeal.defs _ _).mono (fun _ h => h) (Cert.ProjRestIdeal.Run.frame (F := Bits) m ρ)

theorem frame_restIdeal : Cert.quiescent_ProjRestIdeal := fun m ρ _ => Cert.ProjRestIdeal.Run.frame m ρ

/-- Over the extended reals, the call `proj_rest` and its reference leave the same two results. -/
theorem value_rest : Cert.algebraic_ProjRestIdeal_ProjRestRefIdeal := fun m ρ m' ρ' _ hm => by
  refine ⟨fun c => Cert.ProjRestIdeal.Arrays.refPrompt m c, fun c => Cert.ProjRestIdeal.Arrays.refSample m c,
    Cert.ProjRestIdeal.Arrays.run_arrays m ρ, ?_⟩
  refine (θ_run Cert.ProjRestRefIdeal.defs _ _).mono (fun r h c => ?_) (Cert.ProjRestRefIdeal.Value.run m' ρ')
  obtain ⟨h0, h1, ha⟩ := h c
  obtain ⟨e0, e1, e2, e3⟩ := hm c
  refine ⟨h0.trans ?_, h1.trans ?_, ha⟩
  · rw [Cert.ProjRestRefIdeal.Read.val_main_v32_eq, e0, e2, e3]
  · rw [Cert.ProjRestRefIdeal.Read.val_main_v34_eq, e1, e2, e3]

/-- The reference of `proj_a` leaves its arguments as they are. -/
theorem frame_aRef : Cert.quiescent_ProjARefIdeal := fun m ρ _ =>
  (θ_run Cert.ProjARefIdeal.defs _ _).mono
    (fun _ h => ⟨fun c => (h c).2.2.2.2.2.2.2.2.2, sem_eq_zero_of_no_sems rfl _⟩) (Cert.ProjARefIdeal.Value.run m ρ)

set_option maxHeartbeats 4000000 in
/-- The printed first projection and its ideal reading run the same kernel body at every grid point. -/
theorem a_bodies : @Cert.ProjA.defs₀ Bits _ Cert.ProjA.Gen.facts = @Cert.ProjAIdeal.defs₀ Bits _ Cert.ProjAIdeal.Gen.facts := by
  unfold Cert.ProjA.defs₀ Cert.ProjAIdeal.defs₀
  refine congrArg Defs.onTc ?_
  funext l a
  match l, a with
  | 0, (t, s) => rfl
  | ⟨n + 1, h⟩, _ => exact absurd h (Nat.not_lt.2 (Nat.le_add_left _ _))

/-- So the two programs have the same table of bodies. -/
theorem a_tables : @Cert.ProjA.defs Bits _ Cert.ProjA.Gen.facts = @Cert.ProjAIdeal.defs Bits _ Cert.ProjAIdeal.Gen.facts :=
  congrArg (Pipeline.defs (Cert.ProjAIdeal.pcfgs (F := Bits))) a_bodies

set_option maxHeartbeats 4000000 in
/-- The call `proj_a`, over bit patterns and over the extended reals: one run for any floating-point values. -/
theorem frame_a : Cert.quiescent_ProjA := fun m ρ _ => by
  rw [a_tables]
  exact (θ_run Cert.ProjAIdeal.defs _ _).mono (fun _ h => h) (Cert.ProjAIdeal.Run.frame (F := Bits) m ρ)

theorem frame_aIdeal : Cert.quiescent_ProjAIdeal := fun m ρ _ => Cert.ProjAIdeal.Run.frame m ρ

open Cert.ProjAIdeal.Arrays in
set_option maxHeartbeats 4000000 in
/-- Over the extended reals, the call `proj_a` and its reference leave the same nine results. -/
theorem value_a : Cert.algebraic_ProjAIdeal_ProjARefIdeal := fun m ρ m' ρ' _ hm => by
  refine ⟨fun c => refQ m c, fun c => refK m c, fun c => refV m c, fun c => refKb m c, fun c => refVb m c, fun c => refQi m c, fun c => refKi m c,
    fun c => refKib m c, fun c => refWi m c, run_arrays m ρ, ?_⟩
  refine (θ_run Cert.ProjARefIdeal.defs _ _).mono (fun r h c => ?_) (Cert.ProjARefIdeal.Value.run m' ρ')
  obtain ⟨h0, h1, h2, h3, h4, h5, h6, h7, h8, ha⟩ := h c
  obtain ⟨e0, e1, e2, e3, e4⟩ := hm c
  refine ⟨h0.trans ?_, h1.trans ?_, h2.trans ?_, h3.trans ?_, h4.trans ?_, h5.trans ?_, h6.trans ?_, h7.trans ?_, h8.trans ?_, ha⟩
  · rw [Cert.ProjARefIdeal.Read.val_main_v179_eq]; exact congr (congr (congr (congrArg _ e0) e1) e2) e3
  · rw [Cert.ProjARefIdeal.Read.val_main_v175_eq]; exact congr (congr (congr (congrArg _ e0) e1) e2) e4
  · rw [Cert.ProjARefIdeal.Read.val_main_v176_eq]; exact congr (congr (congrArg _ e0) e1) e2
  · rw [Cert.ProjARefIdeal.Read.val_main_v181_eq]; exact congr (congr (congr (congrArg _ e0) e1) e2) e4
  · rw [Cert.ProjARefIdeal.Read.val_main_v183_eq]; exact congr (congr (congrArg _ e0) e1) e2
  · rw [Cert.ProjARefIdeal.Read.val_main_v185_eq]; exact congr (congr (congrArg _ e0) e1) e2
  · rw [Cert.ProjARefIdeal.Read.val_main_v177_eq]; exact congr (congr (congrArg _ e0) e1) e2
  · rw [Cert.ProjARefIdeal.Read.val_main_v186_eq]; exact congr (congr (congrArg _ e0) e1) e2
  · rw [Cert.ProjARefIdeal.Read.val_main_v187_eq]; exact congr (congr (congrArg _ e0) e1) e2

/-- The reference of `proj_a` of the sample leaves its arguments as they are. -/
theorem frame_sRef : Cert.quiescent_ProjSRefIdeal := fun m ρ _ =>
  (θ_run Cert.ProjSRefIdeal.defs _ _).mono
    (fun _ h => ⟨fun c => (h c).2.2.2.2.2.2.2.2.2, sem_eq_zero_of_no_sems rfl _⟩) (Cert.ProjSRefIdeal.Value.run m ρ)

set_option maxHeartbeats 4000000 in
/-- The printed first projection of the sample and its ideal reading run the same kernel body at every grid point. -/
theorem s_bodies : @Cert.ProjS.defs₀ Bits _ Cert.ProjS.Gen.facts = @Cert.ProjSIdeal.defs₀ Bits _ Cert.ProjSIdeal.Gen.facts := by
  unfold Cert.ProjS.defs₀ Cert.ProjSIdeal.defs₀
  refine congrArg Defs.onTc ?_
  funext l a
  match l, a with
  | 0, (t, s) => rfl
  | ⟨n + 1, h⟩, _ => exact absurd h (Nat.not_lt.2 (Nat.le_add_left _ _))

/-- So the two programs have the same table of bodies. -/
theorem s_tables : @Cert.ProjS.defs Bits _ Cert.ProjS.Gen.facts = @Cert.ProjSIdeal.defs Bits _ Cert.ProjSIdeal.Gen.facts :=
  congrArg (Pipeline.defs (Cert.ProjSIdeal.pcfgs (F := Bits))) s_bodies

set_option maxHeartbeats 4000000 in
/-- The call `proj_a` of the sample, over bit patterns and over the extended reals: one run for any floating-point values. -/
theorem frame_s : Cert.quiescent_ProjS := fun m ρ _ => by
  rw [s_tables]
  exact (θ_run Cert.ProjSIdeal.defs _ _).mono (fun _ h => h) (Cert.ProjSIdeal.Run.frame (F := Bits) m ρ)

theorem frame_sIdeal : Cert.quiescent_ProjSIdeal := fun m ρ _ => Cert.ProjSIdeal.Run.frame m ρ

open Cert.ProjSIdeal.Arrays in
set_option maxHeartbeats 4000000 in
/-- Over the extended reals, the call `proj_a` of the sample and its reference leave the same nine results. -/
theorem value_s : Cert.algebraic_ProjSIdeal_ProjSRefIdeal := fun m ρ m' ρ' _ hm => by
  refine ⟨fun c => refQ m c, fun c => refK m c, fun c => refV m c, fun c => refKb m c, fun c => refVb m c, fun c => refQi m c, fun c => refKi m c,
    fun c => refKib m c, fun c => refWi m c, run_arrays m ρ, ?_⟩
  refine (θ_run Cert.ProjSRefIdeal.defs _ _).mono (fun r h c => ?_) (Cert.ProjSRefIdeal.Value.run m' ρ')
  obtain ⟨h0, h1, h2, h3, h4, h5, h6, h7, h8, ha⟩ := h c
  obtain ⟨e0, e1, e2, e3, e4⟩ := hm c
  refine ⟨h0.trans ?_, h1.trans ?_, h2.trans ?_, h3.trans ?_, h4.trans ?_, h5.trans ?_, h6.trans ?_, h7.trans ?_, h8.trans ?_, ha⟩
  · rw [Cert.ProjSRefIdeal.Read.val_main_v182_eq]; exact congr (congr (congr (congrArg _ e0) e1) e2) e3
  · rw [Cert.ProjSRefIdeal.Read.val_main_v178_eq]; exact congr (congr (congr (congrArg _ e0) e1) e2) e4
  · rw [Cert.ProjSRefIdeal.Read.val_main_v179_eq]; exact congr (congr (congrArg _ e0) e1) e2
  · rw [Cert.ProjSRefIdeal.Read.val_main_v184_eq]; exact congr (congr (congr (congrArg _ e0) e1) e2) e4
  · rw [Cert.ProjSRefIdeal.Read.val_main_v186_eq]; exact congr (congr (congrArg _ e0) e1) e2
  · rw [Cert.ProjSRefIdeal.Read.val_main_v188_eq]; exact congr (congr (congrArg _ e0) e1) e2
  · rw [Cert.ProjSRefIdeal.Read.val_main_v180_eq]; exact congr (congr (congrArg _ e0) e1) e2
  · rw [Cert.ProjSRefIdeal.Read.val_main_v189_eq]; exact congr (congr (congrArg _ e0) e1) e2
  · rw [Cert.ProjSRefIdeal.Read.val_main_v190_eq]; exact congr (congr (congrArg _ e0) e1) e2

set_option maxHeartbeats 4000000 in
/-- The printed sparse attention and its ideal reading run the same kernel body at every grid point. -/
theorem dsa_bodies : @Cert.Dsa.defs₀ Bits _ Cert.Dsa.Gen.facts = @Cert.DsaIdeal.defs₀ Bits _ Cert.DsaIdeal.Gen.facts := by
  unfold Cert.Dsa.defs₀ Cert.DsaIdeal.defs₀
  refine congrArg Defs.onTc ?_
  funext l a
  match l, a with
  | 0, (t, s) => rfl
  | ⟨n + 1, h⟩, _ => exact absurd h (Nat.not_lt.2 (Nat.le_add_left _ _))

/-- So the two programs have the same table of bodies. -/
theorem dsa_tables : @Cert.Dsa.defs Bits _ Cert.Dsa.Gen.facts = @Cert.DsaIdeal.defs Bits _ Cert.DsaIdeal.Gen.facts :=
  congrArg (Pipeline.defs (Cert.DsaIdeal.pcfgs (F := Bits))) dsa_bodies

set_option maxHeartbeats 4000000 in
/-- The call `dsa_prompt`, over bit patterns and over the extended reals: one run for any floating-point values. -/
theorem frame_dsa : Cert.quiescent_Dsa := fun m ρ _ => by
  rw [dsa_tables]
  exact (θ_run Cert.DsaIdeal.defs _ _).mono (fun _ h => h) (Cert.DsaIdeal.Run.frame (F := Bits) m ρ)

theorem frame_dsaIdeal : Cert.quiescent_DsaIdeal := fun m ρ _ => Cert.DsaIdeal.Run.frame m ρ

/-- Over the extended reals, the call `mem_kv` and its reference leave the same keys and values. -/
theorem value_mem : Cert.algebraic_MemKVIdeal_MemKVRefIdeal := fun m ρ m' ρ' _ hm => by
  refine ⟨fun c => Cert.MemKVIdeal.Arrays.refKeys m c, fun c => Cert.MemKVIdeal.Arrays.refValues m c,
    fun c => Cert.MemKVIdeal.Arrays.refKeys m c, fun c => Cert.MemKVIdeal.Arrays.refValues m c, ?_, ?_⟩
  · refine (θ_run Cert.MemKVIdeal.defs _ _).mono (fun r h c => ?_) (Cert.MemKVIdeal.Value.run_blocks m ρ)
    obtain ⟨h0, h1, h2, h3, ha⟩ := h c
    exact ⟨h0.trans (Cert.MemKVIdeal.Arrays.keys_final m c), h1.trans (Cert.MemKVIdeal.Arrays.values_final m c),
      h2.trans (Cert.MemKVIdeal.Arrays.keys_copy_final m c), h3.trans (Cert.MemKVIdeal.Arrays.values_copy_final m c), ha⟩
  · refine (θ_run Cert.MemKVRefIdeal.defs _ _).mono (fun r h c => ?_) (Cert.MemKVRefIdeal.Value.run m' ρ')
    obtain ⟨h0, h1, h2, h3, ha⟩ := h c
    obtain ⟨e0, e1, e2, e3⟩ := hm c
    refine ⟨h0.trans ?_, h1.trans ?_, h2.trans ?_, h3.trans ?_, ha⟩
    · rw [Cert.MemKVRefIdeal.Read.val_main_v30_eq, e0, e1, e2, e3]
    · rw [Cert.MemKVRefIdeal.Read.val_main_v31_eq, e0, e1, e2]
    · rw [Cert.MemKVRefIdeal.Read.val_main_v32_eq, e0, e1, e2, e3]; rfl
    · rw [Cert.MemKVRefIdeal.Read.val_main_v33_eq, e0, e1, e2]; rfl

/-- The side conditions of the precondition's operations. -/
theorem facts_finite : Cert.Pre_finite_scores.Facts where
  slices_S2x4096x12288_S2x4096x1024_0_0_4096 := by decide
  bcast_S_S2x4096x1024 := by decide
  bcast_S_S2x256x4x256 := by decide
  bcast_S_S256 := by decide

attribute [local instance] facts_finite

/-- Over the extended reals, where what the memory attention's scores are computed from is finite, the call `merge` and its
    reference leave the same result. -/
theorem value_merge : Cert.algebraic_MergeIdeal_MergeRefIdeal_pre_finite_scores := fun m ρ m' ρ' hpre hm => by
  refine ⟨fun c => Cert.MergeIdeal.Arrays.refOut m c, ?_, ?_⟩
  · refine (θ_run Cert.MergeIdeal.defs _ _).mono (fun r h c => ?_) (Cert.MergeIdeal.Value.run_blocks m ρ)
    exact ⟨(h c).1.trans (Cert.MergeIdeal.Arrays.out_final m hpre c), (h c).2⟩
  · refine (θ_run Cert.MergeRefIdeal.defs _ _).mono (fun r h c => ?_) (Cert.MergeRefIdeal.Value.run m' ρ')
    refine ⟨(h c).1.trans ?_, (h c).2⟩
    obtain ⟨e0, e1, e2, e3, e4, e5, e6, e7, e8, e9, e10, e11, e12⟩ := hm c
    rw [Cert.MergeRefIdeal.Read.val_main_v100_eq, e0, e1, e2, e3, e4, e5, e6, e7, e8, e9, e10, e11, e12]

theorem claim : Cert.Claim := ⟨Cert.Merge.Gen.facts, Cert.MergeIdeal.Gen.facts, Cert.MergeRefIdeal.Gen.facts,
  Cert.MemKV.Gen.facts, Cert.MemKVIdeal.Gen.facts, Cert.MemKVRefIdeal.Gen.facts,
  Cert.ProjRest.Gen.facts, Cert.ProjRestIdeal.Gen.facts, Cert.ProjRestRefIdeal.Gen.facts,
  Cert.ProjA.Gen.facts, Cert.ProjAIdeal.Gen.facts, Cert.ProjARefIdeal.Gen.facts,
  Cert.ProjS.Gen.facts, Cert.ProjSIdeal.Gen.facts, Cert.ProjSRefIdeal.Gen.facts, Cert.Dsa.Gen.facts, Cert.DsaIdeal.Gen.facts, facts_finite,
  fun m ρ _ => Cert.Merge.Gen.frame m ρ, fun m ρ _ => Cert.MergeIdeal.Gen.frame m ρ, fun m ρ _ => Cert.MergeIdeal.Gen.frame m ρ,
  frame_mergeRef, fun m ρ _ => frame_mergeRef m ρ trivial,
  fun m ρ _ => Cert.MemKV.Gen.frame m ρ, fun m ρ _ => Cert.MemKVIdeal.Gen.frame m ρ, frame_memRef,
  frame_rest, frame_restIdeal, frame_restRef, frame_a, frame_aIdeal, frame_aRef, frame_s, frame_sIdeal, frame_sRef,
  frame_dsa, frame_dsaIdeal,
  trivial, value_merge, trivial, value_mem, trivial, value_rest, trivial, value_a, trivial, value_s, trivial⟩

end Cert.Proof

end
